-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_ids_in_rows : Cert.Pre_ids_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_WholeIdeal (m : (ℓ : Loc Cert.WholeIdeal.nD Cert.WholeIdeal.τ Cert.WholeIdeal.sig) → Buf (Elt Ideal) ℓ) : Prop :=
  True

def Pre_WholeReferenceIdeal (m : (ℓ : Loc Cert.WholeReferenceIdeal.nD Cert.WholeReferenceIdeal.τ Cert.WholeReferenceIdeal.sig) → Buf (Elt Ideal) ℓ) : Prop :=
  True

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_ids_in_rows : Cert.Pre_ids_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6)
      ∧ r.2.mem ((c.tc : Thread Cert.WholeReferenceIdeal.nD Cert.WholeReferenceIdeal.τ).loc Cert.WholeReferenceIdeal.main_arg7) = m ((c.tc : Thread Cert.WholeReferenceIdeal.nD Cert.WholeReferenceIdeal.τ).loc Cert.WholeReferenceIdeal.main_arg7)
      ∧ r.2.mem ((c.tc : Thread Cert.WholeReferenceIdeal.nD Cert.WholeReferenceIdeal.τ).loc Cert.WholeReferenceIdeal.main_arg8) = m ((c.tc : Thread Cert.WholeReferenceIdeal.nD Cert.WholeReferenceIdeal.τ).loc Cert.WholeReferenceIdeal.main_arg8)
      ∧ r.2.mem ((c.tc : Thread Cert.WholeReferenceIdeal.nD Cert.WholeReferenceIdeal.τ).loc Cert.WholeReferenceIdeal.main_arg9) = m ((c.tc : Thread Cert.WholeReferenceIdeal.nD Cert.WholeReferenceIdeal.τ).loc Cert.WholeReferenceIdeal.main_arg9)
      ∧ r.2.mem ((c.tc : Thread Cert.WholeReferenceIdeal.nD Cert.WholeReferenceIdeal.τ).loc Cert.WholeReferenceIdeal.main_arg10) = m ((c.tc : Thread Cert.WholeReferenceIdeal.nD Cert.WholeReferenceIdeal.τ).loc Cert.WholeReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v29_0)) (v1 : (c : Dev Cert.AttnIdeal.nD) → Buf (Elt Ideal) ((c.tc : Thread Cert.AttnIdeal.nD Cert.AttnIdeal.τ).loc Cert.AttnIdeal.main_v29_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v29_0) = v0 c
          ∧ r.2.mem ((c.tc : Thread Cert.AttnIdeal.nD Cert.AttnIdeal.τ).loc Cert.AttnIdeal.main_v29_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v116) = v0 c
          ∧ r.2.mem ((c.tc : Thread Cert.AttnReferenceIdeal.nD Cert.AttnReferenceIdeal.τ).loc Cert.AttnReferenceIdeal.main_v123) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8))

def algebraic_WholeIdeal_WholeReferenceIdeal [hWholeIdeal : Cert.WholeIdeal.Facts] [hWholeReferenceIdeal : Cert.WholeReferenceIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)
      ∧ m' ((c.tc : Thread Cert.WholeReferenceIdeal.nD Cert.WholeReferenceIdeal.τ).loc Cert.WholeReferenceIdeal.main_arg7) = m ((c.tc : Thread Cert.WholeIdeal.nD Cert.WholeIdeal.τ).loc Cert.WholeIdeal.main_arg7)
      ∧ m' ((c.tc : Thread Cert.WholeReferenceIdeal.nD Cert.WholeReferenceIdeal.τ).loc Cert.WholeReferenceIdeal.main_arg8) = m ((c.tc : Thread Cert.WholeIdeal.nD Cert.WholeIdeal.τ).loc Cert.WholeIdeal.main_arg8)
      ∧ m' ((c.tc : Thread Cert.WholeReferenceIdeal.nD Cert.WholeReferenceIdeal.τ).loc Cert.WholeReferenceIdeal.main_arg9) = m ((c.tc : Thread Cert.WholeIdeal.nD Cert.WholeIdeal.τ).loc Cert.WholeIdeal.main_arg9)
      ∧ m' ((c.tc : Thread Cert.WholeReferenceIdeal.nD Cert.WholeReferenceIdeal.τ).loc Cert.WholeReferenceIdeal.main_arg10) = m ((c.tc : Thread Cert.WholeIdeal.nD Cert.WholeIdeal.τ).loc Cert.WholeIdeal.main_arg10)) →
    ∃ (v0 : (c : Dev Cert.WholeIdeal.nD) → Buf (Elt Ideal) ((c.tc : Thread Cert.WholeIdeal.nD Cert.WholeIdeal.τ).loc Cert.WholeIdeal.main_v40)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v40) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v126) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6)
          ∧ r.2.mem ((c.tc : Thread Cert.WholeReferenceIdeal.nD Cert.WholeReferenceIdeal.τ).loc Cert.WholeReferenceIdeal.main_arg7) = m' ((c.tc : Thread Cert.WholeReferenceIdeal.nD Cert.WholeReferenceIdeal.τ).loc Cert.WholeReferenceIdeal.main_arg7)
          ∧ r.2.mem ((c.tc : Thread Cert.WholeReferenceIdeal.nD Cert.WholeReferenceIdeal.τ).loc Cert.WholeReferenceIdeal.main_arg8) = m' ((c.tc : Thread Cert.WholeReferenceIdeal.nD Cert.WholeReferenceIdeal.τ).loc Cert.WholeReferenceIdeal.main_arg8)
          ∧ r.2.mem ((c.tc : Thread Cert.WholeReferenceIdeal.nD Cert.WholeReferenceIdeal.τ).loc Cert.WholeReferenceIdeal.main_arg9) = m' ((c.tc : Thread Cert.WholeReferenceIdeal.nD Cert.WholeReferenceIdeal.τ).loc Cert.WholeReferenceIdeal.main_arg9)
          ∧ r.2.mem ((c.tc : Thread Cert.WholeReferenceIdeal.nD Cert.WholeReferenceIdeal.τ).loc Cert.WholeReferenceIdeal.main_arg10) = m' ((c.tc : Thread Cert.WholeReferenceIdeal.nD Cert.WholeReferenceIdeal.τ).loc Cert.WholeReferenceIdeal.main_arg10))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hWholeIdeal : Cert.WholeIdeal.Facts) (hWholeReferenceIdeal : Cert.WholeReferenceIdeal.Facts) (hPre_ids_in_rows : Cert.Pre_ids_in_rows.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_ReferenceIdeal (hReferenceIdeal := hReferenceIdeal) (hPre_ids_in_rows := hPre_ids_in_rows)
    ∧ quiescent_Attn (hAttn := hAttn)
    ∧ quiescent_AttnIdeal (hAttnIdeal := hAttnIdeal)
    ∧ quiescent_AttnReferenceIdeal (hAttnReferenceIdeal := hAttnReferenceIdeal)
    ∧ quiescent_WholeIdeal (hWholeIdeal := hWholeIdeal)
    ∧ quiescent_WholeReferenceIdeal (hWholeReferenceIdeal := hWholeReferenceIdeal)
    ∧ preserves_Kernel_KernelIdeal
    ∧ algebraic_KernelIdeal_ReferenceIdeal (hKernelIdeal := hKernelIdeal) (hReferenceIdeal := hReferenceIdeal) (hPre_ids_in_rows := hPre_ids_in_rows)
    ∧ preserves_Attn_AttnIdeal
    ∧ algebraic_AttnIdeal_AttnReferenceIdeal (hAttnIdeal := hAttnIdeal) (hAttnReferenceIdeal := hAttnReferenceIdeal)
    ∧ algebraic_WholeIdeal_WholeReferenceIdeal (hWholeIdeal := hWholeIdeal) (hWholeReferenceIdeal := hWholeReferenceIdeal)
-- ==== Pre_ids_in_rows.lean ====
abbrev S2x16x128x128 : Shape := ⟨4, ![2, 16, 128, 128]⟩
abbrev S2x16x1x2048 : Shape := ⟨4, ![2, 16, 1, 2048]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S_ : Shape := ⟨0, ![]⟩

class Facts : Prop where
  bcast_S_S2x16x1x2048 : S_.BroadcastsInDim S2x16x1x2048 (![] : Fin 0 → Fin S2x16x1x2048.rank)

variable [Facts]

def fn {F : FTy → Type} [FloatOps F] (main_arg0 : FVec F S2x16x128x128 .f32) (main_arg1 : IVec S2x16x1x2048 32) (main_arg2 : IVec S2x2048 1) (main_arg3 : IVec S2 32) (main_arg4 : FVec F S1024x1024 .f32) (main_arg5 : FVec F S1024 .f32) : IVec S2x16x1x2048 1 :=
  let main_c : IVec S_ 32 := constantI S_ 32 0#32
  let main_v0 : IVec S2x16x1x2048 32 := broadcastInDim S2x16x1x2048 ![] bcast_S_S2x16x1x2048 main_c
  let main_v1 : IVec S2x16x1x2048 1 := cmpi .sge main_arg1 main_v0
  let main_c_0 : IVec S_ 32 := constantI S_ 32 4096#32
  let main_v2 : IVec S2x16x1x2048 32 := broadcastInDim S2x16x1x2048 ![] bcast_S_S2x16x1x2048 main_c_0
  let main_v3 : IVec S2x16x1x2048 1 := cmpi .slt main_arg1 main_v2
  let main_v4 : IVec S2x16x1x2048 1 := andi main_v1 main_v3
  main_v4
-- ==== Kernel.lean ====
abbrev S2x16x128x128 : Shape := ⟨4, ![2, 16, 128, 128]⟩
abbrev S2x16x1x2048 : Shape := ⟨4, ![2, 16, 1, 2048]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S2048 : Shape := ⟨1, ![2048]⟩
abbrev S1x2048 : Shape := ⟨2, ![1, 2048]⟩
abbrev S2x1 : Shape := ⟨2, ![2, 1]⟩
abbrev S2x2048x1 : Shape := ⟨3, ![2, 2048, 1]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S4096x128 : Shape := ⟨2, ![4096, 128]⟩
abbrev S2x16x2048 : Shape := ⟨3, ![2, 16, 2048]⟩
abbrev S2x2048x16 : Shape := ⟨3, ![2, 2048, 16]⟩
abbrev S1x65536 : Shape := ⟨2, ![1, 65536]⟩
abbrev S65536x128 : Shape := ⟨2, ![65536, 128]⟩
abbrev S2x1x256 : Shape := ⟨3, ![2, 1, 256]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S2x2048x2048 : Shape := ⟨3, ![2, 2048, 2048]⟩
abbrev S1x1024 : Shape := ⟨2, ![1, 1024]⟩
abbrev S2x2048x1024 : Shape := ⟨3, ![2, 2048, 1024]⟩
abbrev S1x1024x2048 : Shape := ⟨3, ![1, 1024, 2048]⟩
abbrev S1x1024x1 : Shape := ⟨3, ![1, 1024, 1]⟩
abbrev S1x1024x1024 : Shape := ⟨3, ![1, 1024, 1024]⟩
abbrev S1024x2048 : Shape := ⟨2, ![1024, 2048]⟩
abbrev S1024x1 : Shape := ⟨2, ![1024, 1]⟩

abbrev nBuf : Table → Nat
  | .hbm => 28
  | .local .tc .vmem => 8
  | .local .scVector .vmem => 2
  | _ => 0

abbrev bufTy : (tb : Table) → Fin (nBuf tb) → BufTy
  | .hbm, ⟨0, _⟩ => ⟨S2x16x128x128, .f32⟩
  | .hbm, ⟨1, _⟩ => ⟨S2x16x1x2048, .i32⟩
  | .hbm, ⟨2, _⟩ => ⟨S2x2048, .i1⟩
  | .hbm, ⟨3, _⟩ => ⟨S2, .i32⟩
  | .hbm, ⟨4, _⟩ => ⟨S1024x1024, .f32⟩
  | .hbm, ⟨5, _⟩ => ⟨S1024, .f32⟩
  | .hbm, ⟨6, _⟩ => ⟨S2048, .i32⟩
  | .hbm, ⟨7, _⟩ => ⟨S1x2048, .i32⟩
  | .hbm, ⟨8, _⟩ => ⟨S2x1, .i32⟩
  | .hbm, ⟨9, _⟩ => ⟨S2x2048, .i32⟩
  | .hbm, ⟨10, _⟩ => ⟨S2x2048, .i32⟩
  | .hbm, ⟨11, _⟩ => ⟨S2x2048, .i1⟩
  | .hbm, ⟨12, _⟩ => ⟨S2x2048, .i1⟩
  | .hbm, ⟨13, _⟩ => ⟨S2x2048, .f32⟩
  | .hbm, ⟨14, _⟩ => ⟨S2x2048x1, .f32⟩
  | .hbm, ⟨15, _⟩ => ⟨S16x64x1024, .f32⟩
  | .hbm, ⟨16, _⟩ => ⟨S_, .i32⟩
  | .hbm, ⟨17, _⟩ => ⟨S_, .f32⟩
  | .hbm, ⟨18, _⟩ => ⟨S16x128x1024, .f32⟩
  | .hbm, ⟨19, _⟩ => ⟨S2048x1024, .f32⟩
  | .hbm, ⟨20, _⟩ => ⟨S4096x128, .f32⟩
  | .hbm, ⟨21, _⟩ => ⟨S2x16x2048, .i32⟩
  | .hbm, ⟨22, _⟩ => ⟨S2x2048x16, .i32⟩
  | .hbm, ⟨23, _⟩ => ⟨S1x65536, .i32⟩
  | .hbm, ⟨24, _⟩ => ⟨S65536x128, .f32⟩
  | .hbm, ⟨25, _⟩ => ⟨S2x2048x2048, .f32⟩
  | .hbm, ⟨26, _⟩ => ⟨S1x1024, .f32⟩
  | .hbm, ⟨27, _⟩ => ⟨S2x2048x1024, .f32⟩
  | .local .tc .vmem, ⟨0, _⟩ => ⟨S1x1024x2048, .f32⟩
  | .local .tc .vmem, ⟨1, _⟩ => ⟨S1x1024x2048, .f32⟩
  | .local .tc .vmem, ⟨2, _⟩ => ⟨S1x1024x1, .f32⟩
  | .local .tc .vmem, ⟨3, _⟩ => ⟨S1x1024x1, .f32⟩
  | .local .tc .vmem, ⟨4, _⟩ => ⟨S2048x1024, .f32⟩
  | .local .tc .vmem, ⟨5, _⟩ => ⟨S1x1024, .f32⟩
  | .local .tc .vmem, ⟨6, _⟩ => ⟨S1x1024x1024, .f32⟩
  | .local .tc .vmem, ⟨7, _⟩ => ⟨S1x1024x1024, .f32⟩
  | .local .scVector .vmem, ⟨0, _⟩ => ⟨S2x1x256, .i32⟩
  | .local .scVector .vmem, ⟨1, _⟩ => ⟨S2x256x128, .f32⟩
  | _, _ => ⟨S2x16x128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v12_scv : Ref sig .scVector := ⟨.hbm, 20, rfl⟩
abbrev main_v15_scv : Ref sig .scVector := ⟨.hbm, 23, rfl⟩
abbrev main_v16_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S65536x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S65536x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S65536x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S65536x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S65536x128.size a)
theorem k0_off19_inb : ∀ (i : grid0.Coords) (v33_4_r0 : BitVec 32) (k0_hw5 : k0_chk5 i v33_4_r0), ∀ a, (k0_off19 i v33_4_r0) a + S256x128.size a ≤ S65536x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x16x128x128 : Shape := ⟨4, ![2, 16, 128, 128]⟩
abbrev S2x16x1x2048 : Shape := ⟨4, ![2, 16, 1, 2048]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S2048 : Shape := ⟨1, ![2048]⟩
abbrev S1x2048 : Shape := ⟨2, ![1, 2048]⟩
abbrev S2x1 : Shape := ⟨2, ![2, 1]⟩
abbrev S4096x128 : Shape := ⟨2, ![4096, 128]⟩
abbrev S4096x64 : Shape := ⟨2, ![4096, 64]⟩
abbrev S2x16x2048 : Shape := ⟨3, ![2, 16, 2048]⟩
abbrev S_ : Shape := ⟨0, ![]⟩
abbrev S2x16x2048x1 : Shape := ⟨4, ![2, 16, 2048, 1]⟩
abbrev S1 : Shape := ⟨1, ![1]⟩
abbrev S1x1x1x1 : Shape := ⟨4, ![1, 1, 1, 1]⟩
abbrev S2x16x2048x64 : Shape := ⟨4, ![2, 16, 2048, 64]⟩
abbrev S2x1x2048x1 : Shape := ⟨4, ![2, 1, 2048, 1]⟩
abbrev S2x2048x16x64 : Shape := ⟨4, ![2, 2048, 16, 64]⟩
abbrev S2x2048x1024 : Shape := ⟨3, ![2, 2048, 1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x16x128x128, .f32⟩
  | .hbm, ⟨1, _⟩ => ⟨S2x16x1x2048, .i32⟩
  | .hbm, ⟨2, _⟩ => ⟨S2x2048, .i1⟩
  | .hbm, ⟨3, _⟩ => ⟨S2, .i32⟩
  | .hbm, ⟨4, _⟩ => ⟨S1024x1024, .f32⟩
  | .hbm, ⟨5, _⟩ => ⟨S1024, .f32⟩
  | .hbm, ⟨6, _⟩ => ⟨S2048, .i32⟩
  | .hbm, ⟨7, _⟩ => ⟨S1x2048, .i32⟩
  | .hbm, ⟨8, _⟩ => ⟨S2x1, .i32⟩
  | .hbm, ⟨9, _⟩ => ⟨S2x2048, .i32⟩
  | .hbm, ⟨10, _⟩ => ⟨S2x2048, .i32⟩
  | .hbm, ⟨11, _⟩ => ⟨S2x2048, .i1⟩
  | .hbm, ⟨12, _⟩ => ⟨S2x2048, .i1⟩
  | .hbm, ⟨13, _⟩ => ⟨S4096x128, .f32⟩
  | .hbm, ⟨14, _⟩ => ⟨S4096x64, .f32⟩
  | .hbm, ⟨15, _⟩ => ⟨S2x16x2048, .i32⟩
  | .hbm, ⟨16, _⟩ => ⟨S_, .i32⟩
  | .hbm, ⟨17, _⟩ => ⟨S2x16x2048, .i32⟩
  | .hbm, ⟨18, _⟩ => ⟨S2x16x2048, .i1⟩
  | .hbm, ⟨19, _⟩ => ⟨S_, .i32⟩
  | .hbm, ⟨20, _⟩ => ⟨S2x16x2048, .i32⟩
  | .hbm, ⟨21, _⟩ => ⟨S2x16x2048, .i32⟩
  | .hbm, ⟨22, _⟩ => ⟨S2x16x2048, .i32⟩
  | .hbm, ⟨23, _⟩ => ⟨S2x16x2048x1, .i32⟩
  | .hbm, ⟨24, _⟩ => ⟨S1, .i32⟩
  | .hbm, ⟨25, _⟩ => ⟨S_, .i32⟩
  | .hbm, ⟨26, _⟩ => ⟨S2x16x2048x1, .i32⟩
  | .hbm, ⟨27, _⟩ => ⟨S2x16x2048x1, .i1⟩
  | .hbm, ⟨28, _⟩ => ⟨S1x1x1x1, .i32⟩
  | .hbm, ⟨29, _⟩ => ⟨S2x16x2048x1, .i32⟩
  | .hbm, ⟨30, _⟩ => ⟨S2x16x2048x1, .i1⟩
  | .hbm, ⟨31, _⟩ => ⟨S2x16x2048x1, .i1⟩
  | .hbm, ⟨32, _⟩ => ⟨S_, .i1⟩
  | .hbm, ⟨33, _⟩ => ⟨S2x16x2048, .i1⟩
  | .hbm, ⟨34, _⟩ => ⟨S2x16x2048x64, .f32⟩
  | .hbm, ⟨35, _⟩ => ⟨S2x16x2048x64, .i1⟩
  | .hbm, ⟨36, _⟩ => ⟨S_, .f32⟩
  | .hbm, ⟨37, _⟩ => ⟨S2x16x2048x64, .f32⟩
  | .hbm, ⟨38, _⟩ => ⟨S2x16x2048x64, .f32⟩
  | .hbm, ⟨39, _⟩ => ⟨S2x2048, .f32⟩
  | .hbm, ⟨40, _⟩ => ⟨S2x1x2048x1, .f32⟩
  | .hbm, ⟨41, _⟩ => ⟨S2x16x2048x64, .f32⟩
  | .hbm, ⟨42, _⟩ => ⟨S2x16x2048x64, .f32⟩
  | .hbm, ⟨43, _⟩ => ⟨S2x2048x16x64, .f32⟩
  | .hbm, ⟨44, _⟩ => ⟨S2x2048x1024, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | _, _ => ⟨S2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]
-- ==== Attn.lean ====
abbrev S2x2048x1024 : Shape := ⟨3, ![2, 2048, 1024]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S2048 : Shape := ⟨1, ![2048]⟩
abbrev S1x2048 : Shape := ⟨2, ![1, 2048]⟩
abbrev S2x1 : Shape := ⟨2, ![2, 1]⟩
abbrev S2x2048x1 : Shape := ⟨3, ![2, 2048, 1]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S2x128x1024 : Shape := ⟨3, ![2, 128, 1024]⟩
abbrev S1024x16x64 : Shape := ⟨3, ![1024, 16, 64]⟩
abbrev S16x1024x64 : Shape := ⟨3, ![16, 1024, 64]⟩
abbrev S16x1024x192 : Shape := ⟨3, ![16, 1024, 192]⟩
abbrev S16x1x64 : Shape := ⟨3, ![16, 1, 64]⟩
abbrev S16x1x192 : Shape := ⟨3, ![16, 1, 192]⟩
abbrev S2x16x128x128 : Shape := ⟨4, ![2, 16, 128, 128]⟩
abbrev S2x16x1x2048 : Shape := ⟨4, ![2, 16, 1, 2048]⟩
abbrev S1x2048x1024 : Shape := ⟨3, ![1, 2048, 1024]⟩
abbrev S1x128x1024 : Shape := ⟨3, ![1, 128, 1024]⟩
abbrev S1x2048x1 : Shape := ⟨3, ![1, 2048, 1]⟩
abbrev S1x1024x192 : Shape := ⟨3, ![1, 1024, 192]⟩
abbrev S1x1x192 : Shape := ⟨3, ![1, 1, 192]⟩
abbrev S1x1x128x128 : Shape := ⟨4, ![1, 1, 128, 128]⟩
abbrev S1x1x1x2048 : Shape := ⟨4, ![1, 1, 1, 2048]⟩
abbrev S2048x1024 : Shape := ⟨2, ![2048, 1024]⟩
abbrev S1024x192 : Shape := ⟨2, ![1024, 192]⟩
abbrev S1x192 : Shape := ⟨2, ![1, 192]⟩
abbrev S2048x256 : Shape := ⟨2, ![2048, 256]⟩
abbrev S256x192 : Shape := ⟨2, ![256, 192]⟩
abbrev S2048x192 : Shape := ⟨2, ![2048, 192]⟩
abbrev S2048x64 : Shape := ⟨2, ![2048, 64]⟩
abbrev S2048x1 : Shape := ⟨2, ![2048, 1]⟩
abbrev S128x1024 : Shape := ⟨2, ![128, 1024]⟩
abbrev S128x256 : Shape := ⟨2, ![128, 256]⟩
abbrev S128x192 : Shape := ⟨2, ![128, 192]⟩
abbrev S128x64 : Shape := ⟨2, ![128, 64]⟩
abbrev S2048x128 : Shape := ⟨2, ![2048, 128]⟩
abbrev S1x128 : Shape := ⟨2, ![1, 128]⟩
abbrev S256x128 : Shape := ⟨2, ![256, 128]⟩
abbrev S256x64 : Shape := ⟨2, ![256, 64]⟩
abbrev S128x128 : Shape := ⟨2, ![128, 128]⟩

abbrev nBuf : Space → Nat
  | .hbm => 64
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i1⟩
  | .hbm, ⟨2, _⟩ => ⟨S2, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2048, .i32⟩
  | .hbm, ⟨10, _⟩ => ⟨S1x2048, .i32⟩
  | .hbm, ⟨11, _⟩ => ⟨S2x1, .i32⟩
  | .hbm, ⟨12, _⟩ => ⟨S2x2048, .i32⟩
  | .hbm, ⟨13, _⟩ => ⟨S2x2048, .i32⟩
  | .hbm, ⟨14, _⟩ => ⟨S2x2048, .i1⟩
  | .hbm, ⟨15, _⟩ => ⟨S2x2048, .i1⟩
  | .hbm, ⟨16, _⟩ => ⟨S2x2048, .f32⟩
  | .hbm, ⟨17, _⟩ => ⟨S2x2048x1, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S127, .f32⟩
  | .hbm, ⟨26, _⟩ => ⟨S_, .f32⟩
  | .hbm, ⟨27, _⟩ => ⟨S127, .f32⟩
  | .hbm, ⟨28, _⟩ => ⟨S127, .f32⟩
  | .hbm, ⟨29, _⟩ => ⟨S1, .f32⟩
  | .hbm, ⟨30, _⟩ => ⟨S_, .f32⟩
  | .hbm, ⟨31, _⟩ => ⟨S127, .f32⟩
  | .hbm, ⟨32, _⟩ => ⟨S127, .f32⟩
  | .hbm, ⟨33, _⟩ => ⟨S127, .f32⟩
  | .hbm, ⟨34, _⟩ => ⟨S127, .f32⟩
  | .hbm, ⟨35, _⟩ => ⟨S1, .f32⟩
  | .hbm, ⟨36, _⟩ => ⟨S127, .f32⟩
  | .hbm, ⟨37, _⟩ => ⟨S127, .f32⟩
  | .hbm, ⟨38, _⟩ => ⟨S127, .f32⟩
  | .hbm, ⟨39, _⟩ => ⟨S1, .f32⟩
  | .hbm, ⟨40, _⟩ => ⟨S128, .f32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S128x1, .i32⟩
  | .hbm, ⟨50, _⟩ => ⟨S2x128x1024, .f32⟩
  | .hbm, ⟨51, _⟩ => ⟨S1024x16x64, .f32⟩
  | .hbm, ⟨52, _⟩ => ⟨S16x1024x64, .f32⟩
  | .hbm, ⟨53, _⟩ => ⟨S1024x16x64, .f32⟩
  | .hbm, ⟨54, _⟩ => ⟨S16x1024x64, .f32⟩
  | .hbm, ⟨55, _⟩ => ⟨S1024x16x64, .f32⟩
  | .hbm, ⟨56, _⟩ => ⟨S16x1024x64, .f32⟩
  | .hbm, ⟨57, _⟩ => ⟨S16x1024x192, .f32⟩
  | .hbm, ⟨58, _⟩ => ⟨S16x1x64, .f32⟩
  | .hbm, ⟨59, _⟩ => ⟨S16x1x64, .f32⟩
  | .hbm, ⟨60, _⟩ => ⟨S16x1x64, .f32⟩
  | .hbm, ⟨61, _⟩ => ⟨S16x1x192, .f32⟩
  | .hbm, ⟨62, _⟩ => ⟨S2x16x128x128, .f32⟩
  | .hbm, ⟨63, _⟩ => ⟨S2x16x1x2048, .i32⟩
  | .local _ .vmem, ⟨0, _⟩ => ⟨S1x2048x1024, .f32⟩
  | .local _ .vmem, ⟨1, _⟩ => ⟨S1x2048x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x1024x192, .f32⟩
  | .local _ .vmem, ⟨7, _⟩ => ⟨S1x1024x192, .f32⟩
  | .local _ .vmem, ⟨8, _⟩ => ⟨S1x1x192, .f32⟩
  | .local _ .vmem, ⟨9, _⟩ => ⟨S1x1x192, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x1x2048, .i32⟩
  | .local _ .vmem, ⟨13, _⟩ => ⟨S1x1x1x2048, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29_0 : Ref sig .tc := ⟨.hbm, 62, rfl⟩
abbrev main_v29_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnReferenceIdeal.lean ====
abbrev S2x2048x1024 : Shape := ⟨3, ![2, 2048, 1024]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S2048 : Shape := ⟨1, ![2048]⟩
abbrev S2x16 : Shape := ⟨2, ![2, 16]⟩
abbrev S32 : Shape := ⟨1, ![32]⟩
abbrev S1x2048 : Shape := ⟨2, ![1, 2048]⟩
abbrev S32x1 : Shape := ⟨2, ![32, 1]⟩
abbrev S32x2048 : Shape := ⟨2, ![32, 2048]⟩
abbrev S2x16x2048 : Shape := ⟨3, ![2, 16, 2048]⟩
abbrev S32x2048x1 : Shape := ⟨3, ![32, 2048, 1]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S32x128x64 : Shape := ⟨3, ![32, 128, 64]⟩
abbrev S32x2048x128 : Shape := ⟨3, ![32, 2048, 128]⟩
abbrev S32x128 : Shape := ⟨2, ![32, 128]⟩
abbrev S32x1x128 : Shape := ⟨3, ![32, 1, 128]⟩
abbrev S1x1x128 : Shape := ⟨3, ![1, 1, 128]⟩
abbrev S32x128x1 : Shape := ⟨3, ![32, 128, 1]⟩
abbrev S32x128x2048 : Shape := ⟨3, ![32, 128, 2048]⟩
abbrev S32x1x2048 : Shape := ⟨3, ![32, 1, 2048]⟩
abbrev S32x128x128 : Shape := ⟨3, ![32, 128, 128]⟩
abbrev S2x16x128x128 : Shape := ⟨4, ![2, 16, 128, 128]⟩
abbrev S2x16x1x2048 : Shape := ⟨4, ![2, 16, 1, 2048]⟩

abbrev nBuf : Space → Nat
  | .hbm => 200
  | .vmem => 0
  | .smem => 0
  | _ => 0

abbrev hbmTy0_0 (i : Nat) : BufTy := match i % 128 with
  | 0 => ⟨S2x2048x1024, .f32⟩
  | 1 => ⟨S2x2048, .i1⟩
  | 2 => ⟨S2, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S2x2048x1024, .f32⟩
  | 10 => ⟨S1x1x1024, .f32⟩
  | 11 => ⟨S2x2048x1024, .f32⟩
  | 12 => ⟨S2x2048x1024, .f32⟩
  | 13 => ⟨S2x2048x16x64, .f32⟩
  | 14 => ⟨S2x16x2048x64, .f32⟩
  | 15 => ⟨S32x2048x64, .f32⟩
  | 16 => ⟨S2x2048x1024, .f32⟩
  | 17 => ⟨S1x1x1024, .f32⟩
  | 18 => ⟨S2x2048x1024, .f32⟩
  | 19 => ⟨S2x2048x1024, .f32⟩
  | 20 => ⟨S2x2048x16x64, .f32⟩
  | 21 => ⟨S2x16x2048x64, .f32⟩
  | 22 => ⟨S32x2048x64, .f32⟩
  | 23 => ⟨S2x2048x1024, .f32⟩
  | 24 => ⟨S1x1x1024, .f32⟩
  | 25 => ⟨S2x2048x1024, .f32⟩
  | 26 => ⟨S2x2048x1024, .f32⟩
  | 27 => ⟨S2x2048x16x64, .f32⟩
  | 28 => ⟨S2x16x2048x64, .f32⟩
  | 29 => ⟨S32x2048x64, .f32⟩
  | 30 => ⟨S2048, .i32⟩
  | 31 => ⟨S2x16, .i32⟩
  | 32 => ⟨S32, .i32⟩
  | 33 => ⟨S1x2048, .i32⟩
  | 34 => ⟨S32x1, .i32⟩
  | 35 => ⟨S32x2048, .i32⟩
  | 36 => ⟨S32x2048, .i32⟩
  | 37 => ⟨S32x2048, .i1⟩
  | 38 => ⟨S2x16x2048, .i1⟩
  | 39 => ⟨S32x2048, .i1⟩
  | 40 => ⟨S32x2048, .i1⟩
  | 41 => ⟨S32x2048, .f32⟩
  | 42 => ⟨S32x2048x1, .f32⟩
  | 43 => ⟨S_, .i32⟩
  | 44 => ⟨S_, .i32⟩
  | 45 => ⟨S_, .f32⟩
  | 46 => ⟨S_, .f32⟩
  | 47 => ⟨S_, .f32⟩
  | 48 => ⟨S_, .f32⟩
  | 49 => ⟨S_, .f32⟩
  | 50 => ⟨S127, .f32⟩
  | 51 => ⟨S_, .f32⟩
  | 52 => ⟨S127, .f32⟩
  | 53 => ⟨S127, .f32⟩
  | 54 => ⟨S1, .f32⟩
  | 55 => ⟨S_, .f32⟩
  | 56 => ⟨S127, .f32⟩
  | 57 => ⟨S127, .f32⟩
  | 58 => ⟨S127, .f32⟩
  | 59 => ⟨S127, .f32⟩
  | 60 => ⟨S1, .f32⟩
  | 61 => ⟨S127, .f32⟩
  | 62 => ⟨S127, .f32⟩
  | 63 => ⟨S127, .f32⟩
  | 64 => ⟨S1, .f32⟩
  | 65 => ⟨S128, .f32⟩
  | 66 => ⟨S128, .i32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S128x1, .i32⟩
  | 75 => ⟨S32x128x64, .f32⟩
  | 76 => ⟨S32x2048x64, .f32⟩
  | 77 => ⟨S_, .f32⟩
  | 78 => ⟨S32x2048, .f32⟩
  | 79 => ⟨S_, .i32⟩
  | 80 => ⟨S32x2048, .i32⟩
  | 81 => ⟨S32x2048x1, .f32⟩
  | 82 => ⟨S32x2048x128, .f32⟩
  | 83 => ⟨S_, .f32⟩
  | 84 => ⟨S32x2048x128, .f32⟩
  | 85 => ⟨S32x2048x128, .f32⟩
  | 86 => ⟨S32x2048x128, .f32⟩
  | 87 => ⟨S32x2048x128, .f32⟩
  | 88 => ⟨S32x128x64, .f32⟩
  | 89 => ⟨S_, .f32⟩
  | 90 => ⟨S32x128, .f32⟩
  | 91 => ⟨S32x1x128, .f32⟩
  | 92 => ⟨S32x2048x128, .f32⟩
  | 93 => ⟨S32x2048x128, .f32⟩
  | 94 => ⟨S32x2048x128, .i32⟩
  | 95 => ⟨S_, .f32⟩
  | 96 => ⟨S_, .i32⟩
  | 97 => ⟨S32x2048, .f32⟩
  | 98 => ⟨S32x2048, .i32⟩
  | 99 => ⟨S32x2048x1, .i32⟩
  | 100 => ⟨S1x1x128, .i32⟩
  | 101 => ⟨S32x2048x128, .i32⟩
  | 102 => ⟨S32x2048x128, .i32⟩
  | 103 => ⟨S32x2048x128, .i1⟩
  | 104 => ⟨S32x2048x128, .f32⟩
  | 105 => ⟨S32x2048x128, .f32⟩
  | 106 => ⟨S32x2048x128, .f32⟩
  | 107 => ⟨S_, .f32⟩
  | 108 => ⟨S32x128, .f32⟩
  | 109 => ⟨S32x128x64, .f32⟩
  | 110 => ⟨S_, .f32⟩
  | 111 => ⟨S32x128, .f32⟩
  | 112 => ⟨S32x128, .f32⟩
  | 113 => ⟨S32x128x1, .f32⟩
  | 114 => ⟨S32x128x64, .f32⟩
  | 115 => ⟨S32x128x64, .f32⟩
  | 116 => ⟨S_, .f32⟩
  | 117 => ⟨S32x128, .f32⟩
  | 118 => ⟨S32x128, .i1⟩
  | 119 => ⟨S32x128x1, .i1⟩
  | 120 => ⟨S32x128x64, .i1⟩
  | 121 => ⟨S32x128x64, .f32⟩
  | 122 => ⟨S32x2048x1, .f32⟩
  | 123 => ⟨S32x2048x128, .f32⟩
  | 124 => ⟨S_, .f32⟩
  | 125 => ⟨S32x2048x128, .f32⟩
  | 126 => ⟨S32x2048x128, .f32⟩
  | 127 => ⟨S32x2048x128, .f32⟩
  | _ => ⟨S2x2048x1024, .f32⟩

abbrev hbmTy0_1 (i : Nat) : BufTy := match i % 128 with
  | 0 => ⟨S32x2048x128, .f32⟩
  | 1 => ⟨S32x128x64, .f32⟩
  | 2 => ⟨S_, .f32⟩
  | 3 => ⟨S32x128, .f32⟩
  | 4 => ⟨S32x1x128, .f32⟩
  | 5 => ⟨S32x2048x128, .f32⟩
  | 6 => ⟨S32x2048x128, .f32⟩
  | 7 => ⟨S32x2048x128, .i32⟩
  | 8 => ⟨S_, .f32⟩
  | 9 => ⟨S_, .i32⟩
  | 10 => ⟨S32x2048, .f32⟩
  | 11 => ⟨S32x2048, .i32⟩
  | 12 => ⟨S32x2048x1, .i32⟩
  | 13 => ⟨S1x1x128, .i32⟩
  | 14 => ⟨S32x2048x128, .i32⟩
  | 15 => ⟨S32x2048x128, .i32⟩
  | 16 => ⟨S32x2048x128, .i1⟩
  | 17 => ⟨S32x2048x128, .f32⟩
  | 18 => ⟨S32x2048x128, .f32⟩
  | 19 => ⟨S32x2048x128, .f32⟩
  | 20 => ⟨S_, .f32⟩
  | 21 => ⟨S32x128, .f32⟩
  | 22 => ⟨S32x128x64, .f32⟩
  | 23 => ⟨S_, .f32⟩
  | 24 => ⟨S32x128, .f32⟩
  | 25 => ⟨S32x128, .f32⟩
  | 26 => ⟨S32x128x1, .f32⟩
  | 27 => ⟨S32x128x64, .f32⟩
  | 28 => ⟨S32x128x64, .f32⟩
  | 29 => ⟨S_, .f32⟩
  | 30 => ⟨S32x128, .f32⟩
  | 31 => ⟨S32x128, .i1⟩
  | 32 => ⟨S32x128x1, .i1⟩
  | 33 => ⟨S32x128x64, .i1⟩
  | 34 => ⟨S32x128x64, .f32⟩
  | 35 => ⟨S32x128x2048, .f32⟩
  | 36 => ⟨S_, .f32⟩
  | 37 => ⟨S32x128x2048, .f32⟩
  | 38 => ⟨S32x128x2048, .f32⟩
  | 39 => ⟨S32x1x2048, .i1⟩
  | 40 => ⟨S_, .f32⟩
  | 41 => ⟨S_, .f32⟩
  | 42 => ⟨S32x128x2048, .i1⟩
  | 43 => ⟨S32x128x2048, .f32⟩
  | 44 => ⟨S32x128x2048, .f32⟩
  | 45 => ⟨S_, .f32⟩
  | 46 => ⟨S32x128, .f32⟩
  | 47 => ⟨S_, .f32⟩
  | 48 => ⟨S32x128, .f32⟩
  | 49 => ⟨S32x128, .f32⟩
  | 50 => ⟨S32x128x1, .f32⟩
  | 51 => ⟨S32x128x2048, .f32⟩
  | 52 => ⟨S32x128x2048, .f32⟩
  | 53 => ⟨S32x128x2048, .f32⟩
  | 54 => ⟨S_, .f32⟩
  | 55 => ⟨S32x128, .f32⟩
  | 56 => ⟨S32x128x1, .f32⟩
  | 57 => ⟨S32x128x2048, .f32⟩
  | 58 => ⟨S32x128x2048, .f32⟩
  | 59 => ⟨S32x128x64, .f32⟩
  | 60 => ⟨S_, .i32⟩
  | 61 => ⟨S_, .f32⟩
  | 62 => ⟨S32x128x128, .f32⟩
  | 63 => ⟨S2x16x128x128, .f32⟩
  | 64 => ⟨S32, .i32⟩
  | 65 => ⟨S32x1, .i32⟩
  | 66 => ⟨S_, .i32⟩
  | 67 => ⟨S32x1, .i32⟩
  | 68 => ⟨S32x1, .i32⟩
  | 69 => ⟨S32x2048, .i32⟩
  | 70 => ⟨S32x2048, .i32⟩
  | 71 => ⟨S2x16x1x2048, .i32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_c_0 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_cst : Ref sig .tc := ⟨.hbm, 48, rfl⟩
abbrev main_call0_v3 : Ref sig .tc := ⟨.hbm, 49, rfl⟩
abbrev main_call0_v4 : Ref sig .tc := ⟨.hbm, 50, rfl⟩
abbrev main_call0_cst_0 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_v15 : Ref sig .tc := ⟨.hbm, 63, rfl⟩
abbrev main_call0_v16 : Ref sig .tc := ⟨.hbm, 64, rfl⟩
abbrev main_v34 : Ref sig .tc := ⟨.hbm, 65, rfl⟩
abbrev main_v35 : Ref sig .tc := ⟨.hbm, 66, rfl⟩
abbrev main_c_1 : Ref sig .tc := ⟨.hbm, 67, rfl⟩
abbrev main_v36 : Ref sig .tc := ⟨.hbm, 68, rfl⟩
abbrev main_v37 : Ref sig .tc := ⟨.hbm, 69, rfl⟩
abbrev main_c_2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst : Ref sig .tc := ⟨.hbm, 77, rfl⟩
abbrev main_v44 : Ref sig .tc := ⟨.hbm, 78, rfl⟩
abbrev main_c_3 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call1_v0 : Ref sig .tc := ⟨.hbm, 94, rfl⟩
abbrev main_call1_cst : Ref sig .tc := ⟨.hbm, 95, rfl⟩
abbrev main_call1_c : Ref sig .tc := ⟨.hbm, 96, rfl⟩
abbrev main_call1_v1_0 : Ref sig .tc := ⟨.hbm, 97, rfl⟩
abbrev main_v57 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_6 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_8 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_call3_v0 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_9 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_10 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call4_v0 : Ref sig .tc := ⟨.hbm, 135, rfl⟩
abbrev main_call4_cst : Ref sig .tc := ⟨.hbm, 136, rfl⟩
abbrev main_call4_c : Ref sig .tc := ⟨.hbm, 137, rfl⟩
abbrev main_call4_v1_0 : Ref sig .tc := ⟨.hbm, 138, rfl⟩
abbrev main_v83 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_11 : Ref sig .tc := ⟨.hbm, 148, rfl⟩
abbrev main_v87 : Ref sig .tc := ⟨.hbm, 149, rfl⟩
abbrev main_v88 : Ref sig .tc := ⟨.hbm, 150, rfl⟩
abbrev main_cst_12 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_13 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_call6_v0 : Ref sig .tc := ⟨.hbm, 161, rfl⟩
abbrev main_v97 : Ref sig .tc := ⟨.hbm, 162, rfl⟩
abbrev main_v98 : Ref sig .tc := ⟨.hbm, 163, rfl⟩
abbrev main_cst_14 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_15 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v102 : Ref sig .tc := ⟨.hbm, 172, rfl⟩
abbrev main_cst_16 : Ref sig .tc := ⟨.hbm, 173, rfl⟩
abbrev main_v103 : Ref sig .tc := ⟨.hbm, 174, rfl⟩
abbrev main_cst_17 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_18 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_c_19 : Ref sig .tc := ⟨.hbm, 188, rfl⟩
abbrev main_call8_v0 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_c_20 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩

abbrev nD : Nat := 1
abbrev τ : Topo := Topo.v7x

variable {F : FTy → Type} [FloatOps F]
-- ==== WholeIdeal.lean ====
abbrev S2x2048x1024 : Shape := ⟨3, ![2, 2048, 1024]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S2048 : Shape := ⟨1, ![2048]⟩
abbrev S1x2048 : Shape := ⟨2, ![1, 2048]⟩
abbrev S2x1 : Shape := ⟨2, ![2, 1]⟩
abbrev S2x2048x1 : Shape := ⟨3, ![2, 2048, 1]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S2x128x1024 : Shape := ⟨3, ![2, 128, 1024]⟩
abbrev S1024x16x64 : Shape := ⟨3, ![1024, 16, 64]⟩
abbrev S16x1024x64 : Shape := ⟨3, ![16, 1024, 64]⟩
abbrev S16x1024x192 : Shape := ⟨3, ![16, 1024, 192]⟩
abbrev S16x1x64 : Shape := ⟨3, ![16, 1, 64]⟩
abbrev S16x1x192 : Shape := ⟨3, ![16, 1, 192]⟩
abbrev S16x64x1024 : Shape := ⟨3, ![16, 64, 1024]⟩
abbrev S16x128x1024 : Shape := ⟨3, ![16, 128, 1024]⟩
abbrev S2048x1024 : Shape := ⟨2, ![2048, 1024]⟩
abbrev S2x16x128x128 : Shape := ⟨4, ![2, 16, 128, 128]⟩
abbrev S2x16x1x2048 : Shape := ⟨4, ![2, 16, 1, 2048]⟩
abbrev S1x2048x1024 : Shape := ⟨3, ![1, 2048, 1024]⟩
abbrev S1x128x1024 : Shape := ⟨3, ![1, 128, 1024]⟩
abbrev S1x2048x1 : Shape := ⟨3, ![1, 2048, 1]⟩
abbrev S1x1024x192 : Shape := ⟨3, ![1, 1024, 192]⟩
abbrev S1x1x192 : Shape := ⟨3, ![1, 1, 192]⟩
abbrev S1x1x128x128 : Shape := ⟨4, ![1, 1, 128, 128]⟩
abbrev S1x1x1x2048 : Shape := ⟨4, ![1, 1, 1, 2048]⟩
abbrev S1024x192 : Shape := ⟨2, ![1024, 192]⟩
abbrev S1x192 : Shape := ⟨2, ![1, 192]⟩
abbrev S2048x256 : Shape := ⟨2, ![2048, 256]⟩
abbrev S256x192 : Shape := ⟨2, ![256, 192]⟩
abbrev S2048x192 : Shape := ⟨2, ![2048, 192]⟩
abbrev S2048x64 : Shape := ⟨2, ![2048, 64]⟩
abbrev S2048x1 : Shape := ⟨2, ![2048, 1]⟩
abbrev S128x1024 : Shape := ⟨2, ![128, 1024]⟩
abbrev S128x256 : Shape := ⟨2, ![128, 256]⟩
abbrev S128x192 : Shape := ⟨2, ![128, 192]⟩
abbrev S128x64 : Shape := ⟨2, ![128, 64]⟩
abbrev S2048x128 : Shape := ⟨2, ![2048, 128]⟩
abbrev S1x128 : Shape := ⟨2, ![1, 128]⟩
abbrev S256x128 : Shape := ⟨2, ![256, 128]⟩
abbrev S256x64 : Shape := ⟨2, ![256, 64]⟩
abbrev S128x128 : Shape := ⟨2, ![128, 128]⟩
abbrev S4096x128 : Shape := ⟨2, ![4096, 128]⟩
abbrev S2x16x2048 : Shape := ⟨3, ![2, 16, 2048]⟩
abbrev S2x2048x16 : Shape := ⟨3, ![2, 2048, 16]⟩
abbrev S1x65536 : Shape := ⟨2, ![1, 65536]⟩
abbrev S65536x128 : Shape := ⟨2, ![65536, 128]⟩
abbrev S2x1x256 : Shape := ⟨3, ![2, 1, 256]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256 : Shape := ⟨1, ![256]⟩
abbrev S2x2048x2048 : Shape := ⟨3, ![2, 2048, 2048]⟩
abbrev S1x1024 : Shape := ⟨2, ![1, 1024]⟩
abbrev S1x1024x2048 : Shape := ⟨3, ![1, 1024, 2048]⟩
abbrev S1x1024x1 : Shape := ⟨3, ![1, 1024, 1]⟩
abbrev S1x1024x1024 : Shape := ⟨3, ![1, 1024, 1024]⟩
abbrev S1024x2048 : Shape := ⟨2, ![1024, 2048]⟩
abbrev S1024x1 : Shape := ⟨2, ![1024, 1]⟩

abbrev nBuf : Table → Nat
  | .hbm => 79
  | .local .tc .vmem => 22
  | .local .scVector .vmem => 2
  | _ => 0

abbrev bufTy : (tb : Table) → Fin (nBuf tb) → BufTy
  | .hbm, ⟨0, _⟩ => ⟨S2x2048x1024, .f32⟩
  | .hbm, ⟨1, _⟩ => ⟨S2x2048, .i1⟩
  | .hbm, ⟨2, _⟩ => ⟨S2, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048, .i32⟩
  | .hbm, ⟨12, _⟩ => ⟨S1x2048, .i32⟩
  | .hbm, ⟨13, _⟩ => ⟨S2x1, .i32⟩
  | .hbm, ⟨14, _⟩ => ⟨S2x2048, .i32⟩
  | .hbm, ⟨15, _⟩ => ⟨S2x2048, .i32⟩
  | .hbm, ⟨16, _⟩ => ⟨S2x2048, .i1⟩
  | .hbm, ⟨17, _⟩ => ⟨S2x2048, .i1⟩
  | .hbm, ⟨18, _⟩ => ⟨S2x2048, .f32⟩
  | .hbm, ⟨19, _⟩ => ⟨S2x2048x1, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S127, .f32⟩
  | .hbm, ⟨28, _⟩ => ⟨S_, .f32⟩
  | .hbm, ⟨29, _⟩ => ⟨S127, .f32⟩
  | .hbm, ⟨30, _⟩ => ⟨S127, .f32⟩
  | .hbm, ⟨31, _⟩ => ⟨S1, .f32⟩
  | .hbm, ⟨32, _⟩ => ⟨S_, .f32⟩
  | .hbm, ⟨33, _⟩ => ⟨S127, .f32⟩
  | .hbm, ⟨34, _⟩ => ⟨S127, .f32⟩
  | .hbm, ⟨35, _⟩ => ⟨S127, .f32⟩
  | .hbm, ⟨36, _⟩ => ⟨S127, .f32⟩
  | .hbm, ⟨37, _⟩ => ⟨S1, .f32⟩
  | .hbm, ⟨38, _⟩ => ⟨S127, .f32⟩
  | .hbm, ⟨39, _⟩ => ⟨S127, .f32⟩
  | .hbm, ⟨40, _⟩ => ⟨S127, .f32⟩
  | .hbm, ⟨41, _⟩ => ⟨S1, .f32⟩
  | .hbm, ⟨42, _⟩ => ⟨S128, .f32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128x1, .i32⟩
  | .hbm, ⟨52, _⟩ => ⟨S2x128x1024, .f32⟩
  | .hbm, ⟨53, _⟩ => ⟨S1024x16x64, .f32⟩
  | .hbm, ⟨54, _⟩ => ⟨S16x1024x64, .f32⟩
  | .hbm, ⟨55, _⟩ => ⟨S1024x16x64, .f32⟩
  | .hbm, ⟨56, _⟩ => ⟨S16x1024x64, .f32⟩
  | .hbm, ⟨57, _⟩ => ⟨S1024x16x64, .f32⟩
  | .hbm, ⟨58, _⟩ => ⟨S16x1024x64, .f32⟩
  | .hbm, ⟨59, _⟩ => ⟨S16x1024x192, .f32⟩
  | .hbm, ⟨60, _⟩ => ⟨S16x1x64, .f32⟩
  | .hbm, ⟨61, _⟩ => ⟨S16x1x64, .f32⟩
  | .hbm, ⟨62, _⟩ => ⟨S16x1x64, .f32⟩
  | .hbm, ⟨63, _⟩ => ⟨S16x1x192, .f32⟩
  | .hbm, ⟨64, _⟩ => ⟨S16x64x1024, .f32⟩
  | .hbm, ⟨65, _⟩ => ⟨S_, .i32⟩
  | .hbm, ⟨66, _⟩ => ⟨S_, .f32⟩
  | .hbm, ⟨67, _⟩ => ⟨S16x128x1024, .f32⟩
  | .hbm, ⟨68, _⟩ => ⟨S2048x1024, .f32⟩
  | .hbm, ⟨69, _⟩ => ⟨S2x16x128x128, .f32⟩
  | .hbm, ⟨70, _⟩ => ⟨S2x16x1x2048, .i32⟩
  | .hbm, ⟨71, _⟩ => ⟨S4096x128, .f32⟩
  | .hbm, ⟨72, _⟩ => ⟨S2x16x2048, .i32⟩
  | .hbm, ⟨73, _⟩ => ⟨S2x2048x16, .i32⟩
  | .hbm, ⟨74, _⟩ => ⟨S1x65536, .i32⟩
  | .hbm, ⟨75, _⟩ => ⟨S65536x128, .f32⟩
  | .hbm, ⟨76, _⟩ => ⟨S2x2048x2048, .f32⟩
  | .hbm, ⟨77, _⟩ => ⟨S1x1024, .f32⟩
  | .hbm, ⟨78, _⟩ => ⟨S2x2048x1024, .f32⟩
  | .local .tc .vmem, ⟨0, _⟩ => ⟨S1x2048x1024, .f32⟩
  | .local .tc .vmem, ⟨1, _⟩ => ⟨S1x2048x1024, .f32⟩
  | .local .tc .vmem, ⟨2, _⟩ => ⟨S1x128x1024, .f32⟩
  | .local .tc .vmem, ⟨3, _⟩ => ⟨S1x128x1024, .f32⟩
  | .local .tc .vmem, ⟨4, _⟩ => ⟨S1x2048x1, .f32⟩
  | .local .tc .vmem, ⟨5, _⟩ => ⟨S1x2048x1, .f32⟩
  | .local .tc .vmem, ⟨6, _⟩ => ⟨S1x1024x192, .f32⟩
  | .local .tc .vmem, ⟨7, _⟩ => ⟨S1x1024x192, .f32⟩
  | .local .tc .vmem, ⟨8, _⟩ => ⟨S1x1x192, .f32⟩
  | .local .tc .vmem, ⟨9, _⟩ => ⟨S1x1x192, .f32⟩
  | .local .tc .vmem, ⟨10, _⟩ => ⟨S1x1x128x128, .f32⟩
  | .local .tc .vmem, ⟨11, _⟩ => ⟨S1x1x128x128, .f32⟩
  | .local .tc .vmem, ⟨12, _⟩ => ⟨S1x1x1x2048, .i32⟩
  | .local .tc .vmem, ⟨13, _⟩ => ⟨S1x1x1x2048, .i32⟩
  | .local .tc .vmem, ⟨14, _⟩ => ⟨S1x1024x2048, .f32⟩
  | .local .tc .vmem, ⟨15, _⟩ => ⟨S1x1024x2048, .f32⟩
  | .local .tc .vmem, ⟨16, _⟩ => ⟨S1x1024x1, .f32⟩
  | .local .tc .vmem, ⟨17, _⟩ => ⟨S1x1024x1, .f32⟩
  | .local .tc .vmem, ⟨18, _⟩ => ⟨S2048x1024, .f32⟩
  | .local .tc .vmem, ⟨19, _⟩ => ⟨S1x1024, .f32⟩
  | .local .tc .vmem, ⟨20, _⟩ => ⟨S1x1024x1024, .f32⟩
  | .local .tc .vmem, ⟨21, _⟩ => ⟨S1x1024x1024, .f32⟩
  | .local .scVector .vmem, ⟨0, _⟩ => ⟨S2x1x256, .i32⟩
  | .local .scVector .vmem, ⟨1, _⟩ => ⟨S2x256x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v9 : Ref sig .tc := ⟨.hbm, 42, rfl⟩
abbrev main_v10 : Ref sig .tc := ⟨.hbm, 43, rfl⟩
abbrev main_c_1 : Ref sig .tc := ⟨.hbm, 44, rfl⟩
abbrev main_v11 : Ref sig .tc := ⟨.hbm, 45, rfl⟩
abbrev main_v12 : Ref sig .tc := ⟨.hbm, 46, rfl⟩
abbrev main_c_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_3 : Ref sig .tc := ⟨.hbm, 65, rfl⟩
abbrev main_call1_v0 : Ref sig .tc := ⟨.hbm, 66, rfl⟩
abbrev main_v30 : Ref sig .tc := ⟨.hbm, 67, rfl⟩
abbrev main_v31 : Ref sig .tc := ⟨.hbm, 68, rfl⟩
abbrev main_v32_0 : Ref sig .tc := ⟨.hbm, 69, rfl⟩
abbrev main_v32_1 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v33_scv : Ref sig .scVector := ⟨.hbm, 71, rfl⟩
abbrev main_v36_scv : Ref sig .scVector := ⟨.hbm, 74, rfl⟩
abbrev main_v37_scv : Ref sig .scVector := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S256x128.size a ≤ S65536x128.size a)
theorem k1_off19_inb : ∀ (i : grid1.Coords) (v33_4_r0 : BitVec 32) (k1_hw5 : k1_chk5 i v33_4_r0), ∀ a, (k1_off19 i v33_4_r0) a + S256x128.size a ≤ S65536x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨2, ![2, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S2x2048x1024 : Shape := ⟨3, ![2, 2048, 1024]⟩
abbrev S2x2048 : Shape := ⟨2, ![2, 2048]⟩
abbrev S2 : Shape := ⟨1, ![2]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S2048 : Shape := ⟨1, ![2048]⟩
abbrev S2x16 : Shape := ⟨2, ![2, 16]⟩
abbrev S32 : Shape := ⟨1, ![32]⟩
abbrev S1x2048 : Shape := ⟨2, ![1, 2048]⟩
abbrev S32x1 : Shape := ⟨2, ![32, 1]⟩
abbrev S32x2048 : Shape := ⟨2, ![32, 2048]⟩
abbrev S2x16x2048 : Shape := ⟨3, ![2, 16, 2048]⟩
abbrev S32x2048x1 : Shape := ⟨3, ![32, 2048, 1]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S32x128x64 : Shape := ⟨3, ![32, 128, 64]⟩
abbrev S32x2048x128 : Shape := ⟨3, ![32, 2048, 128]⟩
abbrev S32x128 : Shape := ⟨2, ![32, 128]⟩
abbrev S32x1x128 : Shape := ⟨3, ![32, 1, 128]⟩
abbrev S1x1x128 : Shape := ⟨3, ![1, 1, 128]⟩
abbrev S32x128x1 : Shape := ⟨3, ![32, 128, 1]⟩
abbrev S32x128x2048 : Shape := ⟨3, ![32, 128, 2048]⟩
abbrev S32x1x2048 : Shape := ⟨3, ![32, 1, 2048]⟩
abbrev S32x2048x64x1 : Shape := ⟨4, ![32, 2048, 64, 1]⟩
abbrev S1x1x1x1 : Shape := ⟨4, ![1, 1, 1, 1]⟩

abbrev nBuf : Space → Nat
  | .hbm => 223
  | .vmem => 0
  | .smem => 0
  | _ => 0

abbrev hbmTy0_0 (i : Nat) : BufTy := match i % 128 with
  | 0 => ⟨S2x2048x1024, .f32⟩
  | 1 => ⟨S2x2048, .i1⟩
  | 2 => ⟨S2, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2x2048x1024, .f32⟩
  | 12 => ⟨S1x1x1024, .f32⟩
  | 13 => ⟨S2x2048x1024, .f32⟩
  | 14 => ⟨S2x2048x1024, .f32⟩
  | 15 => ⟨S2x2048x16x64, .f32⟩
  | 16 => ⟨S2x16x2048x64, .f32⟩
  | 17 => ⟨S32x2048x64, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x16x64, .f32⟩
  | 23 => ⟨S2x16x2048x64, .f32⟩
  | 24 => ⟨S32x2048x64, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x16x64, .f32⟩
  | 30 => ⟨S2x16x2048x64, .f32⟩
  | 31 => ⟨S32x2048x64, .f32⟩
  | 32 => ⟨S2048, .i32⟩
  | 33 => ⟨S2x16, .i32⟩
  | 34 => ⟨S32, .i32⟩
  | 35 => ⟨S1x2048, .i32⟩
  | 36 => ⟨S32x1, .i32⟩
  | 37 => ⟨S32x2048, .i32⟩
  | 38 => ⟨S32x2048, .i32⟩
  | 39 => ⟨S32x2048, .i1⟩
  | 40 => ⟨S2x16x2048, .i1⟩
  | 41 => ⟨S32x2048, .i1⟩
  | 42 => ⟨S32x2048, .i1⟩
  | 43 => ⟨S32x2048, .f32⟩
  | 44 => ⟨S32x2048x1, .f32⟩
  | 45 => ⟨S_, .i32⟩
  | 46 => ⟨S_, .i32⟩
  | 47 => ⟨S_, .f32⟩
  | 48 => ⟨S_, .f32⟩
  | 49 => ⟨S_, .f32⟩
  | 50 => ⟨S_, .f32⟩
  | 51 => ⟨S_, .f32⟩
  | 52 => ⟨S127, .f32⟩
  | 53 => ⟨S_, .f32⟩
  | 54 => ⟨S127, .f32⟩
  | 55 => ⟨S127, .f32⟩
  | 56 => ⟨S1, .f32⟩
  | 57 => ⟨S_, .f32⟩
  | 58 => ⟨S127, .f32⟩
  | 59 => ⟨S127, .f32⟩
  | 60 => ⟨S127, .f32⟩
  | 61 => ⟨S127, .f32⟩
  | 62 => ⟨S1, .f32⟩
  | 63 => ⟨S127, .f32⟩
  | 64 => ⟨S127, .f32⟩
  | 65 => ⟨S127, .f32⟩
  | 66 => ⟨S1, .f32⟩
  | 67 => ⟨S128, .f32⟩
  | 68 => ⟨S128, .i32⟩
  | 69 => ⟨S_, .i32⟩
  | 70 => ⟨S128, .i32⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S32x128x64, .f32⟩
  | 78 => ⟨S32x2048x64, .f32⟩
  | 79 => ⟨S_, .f32⟩
  | 80 => ⟨S32x2048, .f32⟩
  | 81 => ⟨S_, .i32⟩
  | 82 => ⟨S32x2048, .i32⟩
  | 83 => ⟨S32x2048x1, .f32⟩
  | 84 => ⟨S32x2048x128, .f32⟩
  | 85 => ⟨S_, .f32⟩
  | 86 => ⟨S32x2048x128, .f32⟩
  | 87 => ⟨S32x2048x128, .f32⟩
  | 88 => ⟨S32x2048x128, .f32⟩
  | 89 => ⟨S32x2048x128, .f32⟩
  | 90 => ⟨S32x128x64, .f32⟩
  | 91 => ⟨S_, .f32⟩
  | 92 => ⟨S32x128, .f32⟩
  | 93 => ⟨S32x1x128, .f32⟩
  | 94 => ⟨S32x2048x128, .f32⟩
  | 95 => ⟨S32x2048x128, .f32⟩
  | 96 => ⟨S32x2048x128, .i32⟩
  | 97 => ⟨S_, .f32⟩
  | 98 => ⟨S_, .i32⟩
  | 99 => ⟨S32x2048, .f32⟩
  | 100 => ⟨S32x2048, .i32⟩
  | 101 => ⟨S32x2048x1, .i32⟩
  | 102 => ⟨S1x1x128, .i32⟩
  | 103 => ⟨S32x2048x128, .i32⟩
  | 104 => ⟨S32x2048x128, .i32⟩
  | 105 => ⟨S32x2048x128, .i1⟩
  | 106 => ⟨S32x2048x128, .f32⟩
  | 107 => ⟨S32x2048x128, .f32⟩
  | 108 => ⟨S32x2048x128, .f32⟩
  | 109 => ⟨S_, .f32⟩
  | 110 => ⟨S32x128, .f32⟩
  | 111 => ⟨S32x128x64, .f32⟩
  | 112 => ⟨S_, .f32⟩
  | 113 => ⟨S32x128, .f32⟩
  | 114 => ⟨S32x128, .f32⟩
  | 115 => ⟨S32x128x1, .f32⟩
  | 116 => ⟨S32x128x64, .f32⟩
  | 117 => ⟨S32x128x64, .f32⟩
  | 118 => ⟨S_, .f32⟩
  | 119 => ⟨S32x128, .f32⟩
  | 120 => ⟨S32x128, .i1⟩
  | 121 => ⟨S32x128x1, .i1⟩
  | 122 => ⟨S32x128x64, .i1⟩
  | 123 => ⟨S32x128x64, .f32⟩
  | 124 => ⟨S32x2048x1, .f32⟩
  | 125 => ⟨S32x2048x128, .f32⟩
  | 126 => ⟨S_, .f32⟩
  | 127 => ⟨S32x2048x128, .f32⟩
  | _ => ⟨S2x2048x1024, .f32⟩

abbrev hbmTy0_1 (i : Nat) : BufTy := match i % 128 with
  | 0 => ⟨S32x2048x128, .f32⟩
  | 1 => ⟨S32x2048x128, .f32⟩
  | 2 => ⟨S32x2048x128, .f32⟩
  | 3 => ⟨S32x128x64, .f32⟩
  | 4 => ⟨S_, .f32⟩
  | 5 => ⟨S32x128, .f32⟩
  | 6 => ⟨S32x1x128, .f32⟩
  | 7 => ⟨S32x2048x128, .f32⟩
  | 8 => ⟨S32x2048x128, .f32⟩
  | 9 => ⟨S32x2048x128, .i32⟩
  | 10 => ⟨S_, .f32⟩
  | 11 => ⟨S_, .i32⟩
  | 12 => ⟨S32x2048, .f32⟩
  | 13 => ⟨S32x2048, .i32⟩
  | 14 => ⟨S32x2048x1, .i32⟩
  | 15 => ⟨S1x1x128, .i32⟩
  | 16 => ⟨S32x2048x128, .i32⟩
  | 17 => ⟨S32x2048x128, .i32⟩
  | 18 => ⟨S32x2048x128, .i1⟩
  | 19 => ⟨S32x2048x128, .f32⟩
  | 20 => ⟨S32x2048x128, .f32⟩
  | 21 => ⟨S32x2048x128, .f32⟩
  | 22 => ⟨S_, .f32⟩
  | 23 => ⟨S32x128, .f32⟩
  | 24 => ⟨S32x128x64, .f32⟩
  | 25 => ⟨S_, .f32⟩
  | 26 => ⟨S32x128, .f32⟩
  | 27 => ⟨S32x128, .f32⟩
  | 28 => ⟨S32x128x1, .f32⟩
  | 29 => ⟨S32x128x64, .f32⟩
  | 30 => ⟨S32x128x64, .f32⟩
  | 31 => ⟨S_, .f32⟩
  | 32 => ⟨S32x128, .f32⟩
  | 33 => ⟨S32x128, .i1⟩
  | 34 => ⟨S32x128x1, .i1⟩
  | 35 => ⟨S32x128x64, .i1⟩
  | 36 => ⟨S32x128x64, .f32⟩
  | 37 => ⟨S32x128x2048, .f32⟩
  | 38 => ⟨S_, .f32⟩
  | 39 => ⟨S32x128x2048, .f32⟩
  | 40 => ⟨S32x128x2048, .f32⟩
  | 41 => ⟨S32x1x2048, .i1⟩
  | 42 => ⟨S_, .f32⟩
  | 43 => ⟨S_, .f32⟩
  | 44 => ⟨S32x128x2048, .i1⟩
  | 45 => ⟨S32x128x2048, .f32⟩
  | 46 => ⟨S32x128x2048, .f32⟩
  | 47 => ⟨S_, .f32⟩
  | 48 => ⟨S32x128, .f32⟩
  | 49 => ⟨S_, .f32⟩
  | 50 => ⟨S32x128, .f32⟩
  | 51 => ⟨S32x128, .f32⟩
  | 52 => ⟨S32x128x1, .f32⟩
  | 53 => ⟨S32x128x2048, .f32⟩
  | 54 => ⟨S32x128x2048, .f32⟩
  | 55 => ⟨S32x128x2048, .f32⟩
  | 56 => ⟨S_, .f32⟩
  | 57 => ⟨S32x128, .f32⟩
  | 58 => ⟨S32x128x1, .f32⟩
  | 59 => ⟨S32x128x2048, .f32⟩
  | 60 => ⟨S32x128x2048, .f32⟩
  | 61 => ⟨S32x128x64, .f32⟩
  | 62 => ⟨S32x2048x1, .i32⟩
  | 63 => ⟨S32x2048x64, .i32⟩
  | 64 => ⟨S_, .i32⟩
  | 65 => ⟨S32x2048x64, .i32⟩
  | 66 => ⟨S32x2048x64, .i1⟩
  | 67 => ⟨S_, .i32⟩
  | 68 => ⟨S32x2048x64, .i32⟩
  | 69 => ⟨S32x2048x64, .i32⟩
  | 70 => ⟨S32x2048x64, .i32⟩
  | 71 => ⟨S32x2048x64x1, .i32⟩
  | 72 => ⟨S1, .i32⟩
  | 73 => ⟨S_, .i32⟩
  | 74 => ⟨S32x2048x64x1, .i32⟩
  | 75 => ⟨S32x2048x64x1, .i1⟩
  | 76 => ⟨S1x1x1x1, .i32⟩
  | 77 => ⟨S32x2048x64x1, .i32⟩
  | 78 => ⟨S32x2048x64x1, .i1⟩
  | 79 => ⟨S32x2048x64x1, .i1⟩
  | 80 => ⟨S_, .i1⟩
  | 81 => ⟨S32x2048x64, .i1⟩
  | 82 => ⟨S32x2048x64, .f32⟩
  | 83 => ⟨S_, .f32⟩
  | 84 => ⟨S32x2048x64, .f32⟩
  | 85 => ⟨S32x2048x64, .f32⟩
  | 86 => ⟨S32x2048x64, .f32⟩
  | 87 => ⟨S32x2048x64, .f32⟩
  | 88 => ⟨S2x16x2048x64, .f32⟩
  | 89 => ⟨S2x2048x16x64, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_c_0 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_cst : Ref sig .tc := ⟨.hbm, 50, rfl⟩
abbrev main_call0_v3 : Ref sig .tc := ⟨.hbm, 51, rfl⟩
abbrev main_call0_v4 : Ref sig .tc := ⟨.hbm, 52, rfl⟩
abbrev main_call0_cst_0 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_v15 : Ref sig .tc := ⟨.hbm, 65, rfl⟩
abbrev main_call0_v16 : Ref sig .tc := ⟨.hbm, 66, rfl⟩
abbrev main_v34 : Ref sig .tc := ⟨.hbm, 67, rfl⟩
abbrev main_v35 : Ref sig .tc := ⟨.hbm, 68, rfl⟩
abbrev main_c_1 : Ref sig .tc := ⟨.hbm, 69, rfl⟩
abbrev main_v36 : Ref sig .tc := ⟨.hbm, 70, rfl⟩
abbrev main_v37 : Ref sig .tc := ⟨.hbm, 71, rfl⟩
abbrev main_c_2 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst : Ref sig .tc := ⟨.hbm, 79, rfl⟩
abbrev main_v44 : Ref sig .tc := ⟨.hbm, 80, rfl⟩
abbrev main_c_3 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_4 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call1_v0 : Ref sig .tc := ⟨.hbm, 96, rfl⟩
abbrev main_call1_cst : Ref sig .tc := ⟨.hbm, 97, rfl⟩
abbrev main_call1_c : Ref sig .tc := ⟨.hbm, 98, rfl⟩
abbrev main_call1_v1_0 : Ref sig .tc := ⟨.hbm, 99, rfl⟩
abbrev main_v57 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_6 : Ref sig .tc := ⟨.hbm, 109, rfl⟩
abbrev main_v61 : Ref sig .tc := ⟨.hbm, 110, rfl⟩
abbrev main_v62 : Ref sig .tc := ⟨.hbm, 111, rfl⟩
abbrev main_cst_7 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_8 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_call3_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_9 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_10 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call4_v0 : Ref sig .tc := ⟨.hbm, 137, rfl⟩
abbrev main_call4_cst : Ref sig .tc := ⟨.hbm, 138, rfl⟩
abbrev main_call4_c : Ref sig .tc := ⟨.hbm, 139, rfl⟩
abbrev main_call4_v1_0 : Ref sig .tc := ⟨.hbm, 140, rfl⟩
abbrev main_v83 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_11 : Ref sig .tc := ⟨.hbm, 150, rfl⟩
abbrev main_v87 : Ref sig .tc := ⟨.hbm, 151, rfl⟩
abbrev main_v88 : Ref sig .tc := ⟨.hbm, 152, rfl⟩
abbrev main_cst_12 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_13 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_call6_v0 : Ref sig .tc := ⟨.hbm, 163, rfl⟩
abbrev main_v97 : Ref sig .tc := ⟨.hbm, 164, rfl⟩
abbrev main_v98 : Ref sig .tc := ⟨.hbm, 165, rfl⟩
abbrev main_cst_14 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_15 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_v102 : Ref sig .tc := ⟨.hbm, 174, rfl⟩
abbrev main_cst_16 : Ref sig .tc := ⟨.hbm, 175, rfl⟩
abbrev main_v103 : Ref sig .tc := ⟨.hbm, 176, rfl⟩
abbrev main_cst_17 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_cst_18 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_call8_c : Ref sig .tc := ⟨.hbm, 192, rfl⟩
abbrev main_call8_v0 : Ref sig .tc := ⟨.hbm, 193, rfl⟩
abbrev main_call8_v1 : Ref sig .tc := ⟨.hbm, 194, rfl⟩
abbrev main_call8_c_0 : Ref sig .tc := ⟨.hbm, 195, rfl⟩
abbrev main_call8_v2 : Ref sig .tc := ⟨.hbm, 196, rfl⟩
abbrev main_call8_v3 : Ref sig .tc := ⟨.hbm, 197, rfl⟩
abbrev main_call8_v4 : Ref sig .tc := ⟨.hbm, 198, rfl⟩
abbrev main_call8_v5 : Ref sig .tc := ⟨.hbm, 199, rfl⟩
abbrev main_call8_c_1 : Ref sig .tc := ⟨.hbm, 200, rfl⟩
abbrev main_call8_c_2 : Ref sig .tc := ⟨.hbm, 201, rfl⟩
abbrev main_call8_v6 : Ref sig .tc := ⟨.hbm, 202, rfl⟩
abbrev main_call8_v7 : Ref sig .tc := ⟨.hbm, 203, rfl⟩
abbrev main_call8_v8 : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_c_3 : Ref sig .tc := ⟨.hbm, 208, rfl⟩
abbrev main_call8_v12 : Ref sig .tc := ⟨.hbm, 209, rfl⟩
abbrev main_call8_v13 : Ref sig .tc := ⟨.hbm, 210, rfl⟩
abbrev main_call8_cst : Ref sig .tc := ⟨.hbm, 211, rfl⟩
abbrev main_call8_v14 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩

abbrev nD : Nat := 1
abbrev τ : Topo := Topo.v7x

variable {F : FTy → Type} [FloatOps F]
-- ==== Proof.Proj.lean ====
/-
  The projection call, run after the gather: at each of its four grid points the body leaves, in the output's block, the
  payload of the four input blocks; so the call, entered with its arrays at any contents, ends with the inputs as they
  were and block `t` of the output at that payload. The call is stated as a region of the whole program's host code, with
  what the thread's waits may have recorded kept below a bound.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArrays
public import Idealize.ShloMosaic.Lib.Pipeline.Value
public import Idealize.ShloMosaic.Lib.SparseCore.Stream
public import Idealize.ShloMosaic.Lib.Tactic

@[expose] public section

-- membership in a rectangle of the long axes recurses once per coordinate
set_option maxRecDepth 16384

noncomputable section

namespace Cert.Proof.Proj

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] {U : Type} [URA U]

abbrev 𝒱₀ : Variants := Variants.none

local notation "𝕄" => MT nD τ sig (HIx 1) (Elt F) ℕ U ℕ

/-! ## What the body computes -/

abbrev rG : Rect S1x1024x2048 := Rect.unit (s := S1x1024x2048) ![0, 0, 0] S1x1024x2048.size inb_S1x1024x2048_S1x1024x2048_0_0_0
abbrev rW : Rect S2048x1024 := Rect.unit (s := S2048x1024) ![0, 0] S2048x1024.size inb_S2048x1024_S2048x1024_0_0
abbrev rM : Rect S1x1024x1 := Rect.unit (s := S1x1024x1) ![0, 0, 0] S1x1024x1.size inb_S1x1024x1_S1x1024x1_0_0_0
abbrev rB : Rect S1x1024 := Rect.unit (s := S1x1024) ![0, 0] S1x1024.size inb_S1x1024_S1x1024_0_0
abbrev rY : Rect S1x1024x1024 := Rect.unit (s := S1x1024x1024) ![0, 0, 0] S1x1024x1024.size inb_S1x1024x1024_S1x1024x1024_0_0_0

/-- What the body leaves in the output's buffer, from the rows, the mask, the weights and the bias it is given. -/
def projected (g : Vec F S1x1024x2048 .f32) (k : Vec F S1x1024x1 .f32) (w : Vec F S2048x1024 .f32) (b : Vec F S1x1024 .f32) : Vec F S1x1024x1024 .f32 :=
  View.canon [⟨rY, k1_pay1 (View.ld g rG) (View.ld w rW) (View.ld k rM) (View.ld b rB)⟩]

/-- The body's one store covers the output's buffer. -/
theorem store_covers (p : Vec F S1x1024x1024 .f32) (y : S1x1024x1024.Idx) :
    ∃ pc ∈ ([⟨rY, p⟩] : List (View.Piece (Elt F) S1x1024x1024 .f32)), y ∈ pc.1.set :=
  View.cover_of_tiled [⟨rY, p⟩] S1x1024x1024.size (by rfl) y

set_option maxHeartbeats 1000000 in
/-- The body, on whole buffers, leaves its inputs and the output at `projected`. -/
theorem body_runs (c : Dev nD) (E : Set ℕ) (i : grid1.Coords) (mg : Memref sig .tc .vmem S1x1024x2048 .f32) (hg : mg.IsWhole) (mk : Memref sig .tc .vmem S1x1024x1 .f32) (hk : mk.IsWhole)
    (mw : Memref sig .tc .vmem S2048x1024 .f32) (hw : mw.IsWhole) (mb : Memref sig .tc .vmem S1x1024 .f32) (hb : mb.IsWhole) (my : Memref sig .tc .vmem S1x1024x1024 .f32) (hy : my.IsWhole)
    (g : Vec F S1x1024x2048 .f32) (k : Vec F S1x1024x1 .f32) (w : Vec F S2048x1024 .f32) (b : Vec F S1x1024 .f32) (Q : PUnit → sProp 𝕄) :
    iprop(owns (c : Thread nD τ) mg fullShare g ∗ owns (c : Thread nD τ) mk fullShare k ∗ owns (c : Thread nD τ) mw fullShare w ∗ owns (c : Thread nD τ) mb fullShare b
        ∗ (∃ d, owns (c : Thread nD τ) my fullShare d)
        ∗ (iprop(owns (c : Thread nD τ) mg fullShare g ∗ owns (c : Thread nD τ) mk fullShare k ∗ owns (c : Thread nD τ) mw fullShare w ∗ owns (c : Thread nD τ) mb fullShare b
            ∗ owns (c : Thread nD τ) my fullShare (projected g k w b)) -∗ Q ⟨⟩))
      ⊢ wp frame (wpE (defs₀ (F := F)) 𝒱₀ c none) E (cc1__proj_body i mg hg mk hk mw hw mb hb my hy) Q := by
  simp only [cc1__proj_body_eq_skeleton]; unfold cc1__proj_body_skel
  unfold owns
  iintro ⟨⟨%fg, %eg, Hg⟩, ⟨%fk, %ek, Hk⟩, ⟨%fw, %ew, Hw⟩, ⟨%fb, %eb, Hb⟩, ⟨%dy, %fy, -, Hy⟩, HQ⟩
  subst eg ek ew eb
  sl_exec
  sl_step
  iapply HQ
  isplitl [Hg]
  · iexists fg; isplitr; · ipureintro; rfl
    iexact Hg
  isplitl [Hk]
  · iexists fk; isplitr; · ipureintro; rfl
    iexact Hk
  isplitl [Hw]
  · iexists fw; isplitr; · ipureintro; rfl
    iexact Hw
  isplitl [Hb]
  · iexists fb; isplitr; · ipureintro; rfl
    iexact Hb
  iexists _; isplitr
  swap; · iexact Hy
  ipureintro
  exact View.read_writes_eq_canon _ _ _ (store_covers _)

/-! ## The call's data -/

variable (V : Dev nD → Valuation τ sig (Elt F)) (B : Dev nD → Set (SemLoc sig × HIx 1))

/-- Block `t` of window `w`, of the array as the call finds it. -/
def blkAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The arrays as found (`V`); after the body at point `t` each input's buffer at its block, the output's at `projected`
    of the blocks; nothing owed; the waits recorded beforehand within `B`. -/
def dats (_ : Fin 1) (c : Dev nD) : Dat τ (Elt F) (HIx 1) ℕ U ℕ cfg1 c where
  A w := V c (Proc.devRef .tc (Pipeline.arrRef spec1 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => projected (blkAt V c 0 t) (blkAt V c 1 t) (blkAt V c 2 t) (blkAt V c 3 t)
  Φ _ := Pipeline.scopedRest spec1 c
  q _ := fullShare
  owed _ := 0
  recorded _ := B c

local notation "𝒹" => dats (U := U) V B 0

theorem A_eq (c : Dev nD) (w : Fin cfg1.W) : (𝒹 c).A w = V c (Proc.devRef .tc (Pipeline.arrRef spec1 w)) := by dsimp only [dats]
theorem after_g (c : Dev nD) (t : Fin cfg1.N) : (𝒹 c).after 0 t = blkAt V c 0 t := by dsimp only [dats]
theorem after_k (c : Dev nD) (t : Fin cfg1.N) : (𝒹 c).after 1 t = blkAt V c 1 t := by dsimp only [dats]
theorem after_w (c : Dev nD) (t : Fin cfg1.N) : (𝒹 c).after 2 t = blkAt V c 2 t := by dsimp only [dats]
theorem after_b (c : Dev nD) (t : Fin cfg1.N) : (𝒹 c).after 3 t = blkAt V c 3 t := by dsimp only [dats]
theorem after_y (c : Dev nD) (t : Fin cfg1.N) : (𝒹 c).after 4 t = projected (blkAt V c 0 t) (blkAt V c 1 t) (blkAt V c 2 t) (blkAt V c 3 t) := by dsimp only [dats]

/-- An input's buffer holds its block whenever the body runs, fetched then or earlier. -/
theorem before_g (c : Dev nD) (t : Fin cfg1.N) (d) : (𝒹 c).before 0 t d = blkAt V c 0 t :=
  ((𝒹 c).before_in_eq_fetched 0 rfl (fun _ => rfl) (fun _ _ _ => rfl) (fun t => by rw [after_g]; unfold Dat.blockOf blkAt; rw [A_eq]; try rfl) t d).trans
    (by unfold Dat.fetched Dat.blockOf blkAt; rw [A_eq]; try rfl)
theorem before_k (c : Dev nD) (t : Fin cfg1.N) (d) : (𝒹 c).before 1 t d = blkAt V c 1 t :=
  ((𝒹 c).before_in_eq_fetched 1 rfl (fun _ => rfl) (fun _ _ _ => rfl) (fun t => by rw [after_k]; unfold Dat.blockOf blkAt; rw [A_eq]; try rfl) t d).trans
    (by unfold Dat.fetched Dat.blockOf blkAt; rw [A_eq]; try rfl)
theorem before_w (c : Dev nD) (t : Fin cfg1.N) (d) : (𝒹 c).before 2 t d = blkAt V c 2 t :=
  ((𝒹 c).before_in_eq_fetched 2 rfl (fun _ => rfl) (fun _ _ _ => rfl) (fun t => by rw [after_w]; unfold Dat.blockOf blkAt; rw [A_eq]; try rfl) t d).trans
    (by unfold Dat.fetched Dat.blockOf blkAt; rw [A_eq]; try rfl)
theorem before_b (c : Dev nD) (t : Fin cfg1.N) (d) : (𝒹 c).before 3 t d = blkAt V c 3 t :=
  ((𝒹 c).before_in_eq_fetched 3 rfl (fun _ => rfl) (fun _ _ _ => rfl) (fun t => by rw [after_b]; unfold Dat.blockOf blkAt; rw [A_eq]; try rfl) t d).trans
    (by unfold Dat.fetched Dat.blockOf blkAt; rw [A_eq]; try rfl)

/-! ## The body at a point -/

/-- What the body is called with at point `t`, window by window. -/
def pre (c : Dev nD) (t : Fin cfg1.N) : sProp 𝕄 :=
  iprop((𝒹 c).Φ t.castSucc ∗ (𝒹 c).owesAt none t.castSucc
    ∗ (∃ d, owns (c : Thread nD τ) (st1_0 t) fullShare ((𝒹 c).before 0 t d))
    ∗ (∃ d, owns (c : Thread nD τ) (st1_1 t) fullShare ((𝒹 c).before 1 t d))
    ∗ (∃ d, owns (c : Thread nD τ) (st1_2 t) fullShare ((𝒹 c).before 2 t d))
    ∗ (∃ d, owns (c : Thread nD τ) (st1_3 t) fullShare ((𝒹 c).before 3 t d))
    ∗ (∃ d, owns (c : Thread nD τ) (st1_4 t) fullShare ((𝒹 c).before 4 t d)))

/-- And what it returns. -/
def post (c : Dev nD) (t : Fin cfg1.N) : sProp 𝕄 :=
  iprop((𝒹 c).Φ t.succ ∗ (𝒹 c).owesAt none t.succ
    ∗ owns (c : Thread nD τ) (st1_0 t) fullShare ((𝒹 c).after 0 t)
    ∗ owns (c : Thread nD τ) (st1_1 t) fullShare ((𝒹 c).after 1 t)
    ∗ owns (c : Thread nD τ) (st1_2 t) fullShare ((𝒹 c).after 2 t)
    ∗ owns (c : Thread nD τ) (st1_3 t) fullShare ((𝒹 c).after 3 t)
    ∗ owns (c : Thread nD τ) (st1_4 t) fullShare ((𝒹 c).after 4 t))

theorem body_at (c : Dev nD) (t : Fin cfg1.N) :
    pre (U := U) V B c t ⊢ wp frame (wpE (defs₀ (F := F)) 𝒱₀ c none) Set.univ (bodyAt1 t) (fun _ => post (U := U) V B c t) := by
  unfold pre post bodyAt1
  simp only [before_g, before_k, before_w, before_b]
  rw [show (𝒹 c).Φ t.succ = (𝒹 c).Φ t.castSucc from rfl, show (𝒹 c).owesAt none t.succ = (𝒹 c).owesAt none t.castSucc from rfl,
    after_g, after_k, after_w, after_b, after_y]
  iintro ⟨HΦ, Ho, ⟨%d0, Hg⟩, ⟨%d1, Hk⟩, ⟨%d2, Hw⟩, ⟨%d3, Hb⟩, ⟨%d4, Hy⟩⟩
  iapply (body_runs c Set.univ (grid1.coords t) _ _ _ _ _ _ _ _ _ _ (blkAt V c 0 t) (blkAt V c 1 t) (blkAt V c 2 t) (blkAt V c 3 t) _)
  isplitl [Hg]; · iexact Hg
  isplitl [Hk]; · iexact Hk
  isplitl [Hw]; · iexact Hw
  isplitl [Hb]; · iexact Hb
  isplitl [Hy]; · iexists _; iexact Hy
  iintro ⟨Hg, Hk, Hw, Hb, Hy⟩
  isplitl [HΦ]; · iexact HΦ
  isplitl [Ho]; · iexact Ho
  isplitl [Hg]; · iexact Hg
  isplitl [Hk]; · iexact Hk
  isplitl [Hw]; · iexact Hw
  isplitl [Hb]; · iexact Hb
  iexact Hy

theorem row_eq (t : Fin cfg1.N) : defs₀ (F := F) .tc cfg1.body (cfg1.bodyArgs t (cfg1.slots t)) = bodyAt1 t := rfl

/-- The body's obligation at every point. -/
theorem body_obligation (c : Dev nD) : BodyObligation (𝒹 c) (defs₀ (F := F)) 𝒱₀ none Set.univ := fun t => by
  rw [bigSep_W1, bigSep_W1, row_eq]
  exact triple_restated (body_at V B c t) rfl .rfl fun _ => .rfl

/-! ## The call as a region -/

abbrev adm : (p : Fin 1) → (pcfgs (F := F) p).Adm := fun p => (cfgs p).toPCfg_adm

/-- The contents after the call: the output's array as the pipeline leaves it, every other buffer as found. -/
def V' (c : Dev nD) : Valuation τ sig (Elt F) :=
  Function.update (V c) (Proc.devRef .tc main_v19) ((dats (U := U) V B 0 c).arrAt 4 cfg1.N)

/-- The call's windows name `main_v17`, `main_v8`, `main_v11`, `main_v18` and `main_v19`. -/
theorem arr_mem (b : DevRef τ sig) (hb : b ∉ Pipeline.arrRefs spec1) : b ≠ Proc.devRef .tc main_v19 := by
  rintro rfl; revert hb; decide

theorem V'_other (c : Dev nD) (b : DevRef τ sig) (hb : b ≠ Proc.devRef .tc main_v19) : V' (U := U) V B c b = V c b := Function.update_of_ne hb _ _
theorem V'_y (c : Dev nD) : V' (U := U) V B c (Proc.devRef .tc main_v19) = (𝒹 c).arrAt 4 cfg1.N := Function.update_self _ _ _

theorem final_eq (c : Dev nD) : ∀ w : Fin cfg1.W, (𝒹 c).arrAt w cfg1.N = V' (U := U) V B c (Proc.devRef .tc (Pipeline.arrRef spec1 w))
  | ⟨0, _⟩ => ((𝒹 c).arrAt_in 0 rfl _).trans (V'_other V B c (Proc.devRef .tc main_v17) (by decide)).symm
  | ⟨1, _⟩ => ((𝒹 c).arrAt_in 1 rfl _).trans (V'_other V B c (Proc.devRef .tc main_v8) (by decide)).symm
  | ⟨2, _⟩ => ((𝒹 c).arrAt_in 2 rfl _).trans (V'_other V B c (Proc.devRef .tc main_v11) (by decide)).symm
  | ⟨3, _⟩ => ((𝒹 c).arrAt_in 3 rfl _).trans (V'_other V B c (Proc.devRef .tc main_v18) (by decide)).symm
  | ⟨4, _⟩ => (V'_y V B c).symm

theorem rest_eq (c : Dev nD) : (StableHlo.held (c : Thread nD τ) (Pipeline.ucRefs τ sig \ Pipeline.arrRefs spec1) (V c) : sProp 𝕄)
    = StableHlo.held (c : Thread nD τ) (Pipeline.ucRefs τ sig \ Pipeline.arrRefs spec1) (V' (U := U) V B c) :=
  StableHlo.held_congr _ fun b hb => (V'_other V B c b (arr_mem b (Finset.mem_sdiff.mp hb).2)).symm

variable (L : GSem nD τ sig → Finset (HIx 1)) (lv : GSem nD τ sig → HIx 1 → ℕ)

-- the launch kit's lemmas are stated over `cfgs p` and unify with the pinned configuration only by unfolding definitions in types
set_option backward.isDefEq.respectTransparency.types false in
/-- THE REGION: entered with all unscoped buffers at `V` and nothing owed, its waits recorded within `B`; left with the
    output's array at its final contents, the other buffers as found, and the waits within `B` and the call's own. -/
def region : Pipeline.RegionSeg (pcfgs (F := F)) adm (dats (U := U) V B) none defs₀ 𝒱₀ L lv 0 where
  win := launch1.win.to₀
  block_pos := launch1.block_pos
  stage_whole := launch1.stage_whole
  K := PEmpty
  osem k := k.elim
  ho := Pipeline.OwnSemFacts.none _
  hbody c := (body_obligation V B c).loose
  hwaits := Pipeline.hwaits_of_owed_zero _ _ _ _ L lv 0 fun _ _ => rfl
  pre c := iprop(StableHlo.held (c : Thread nD τ) (Pipeline.ucRefs τ sig) (V c) ∗ (𝒹 c).owesAt none 0)
  post c := iprop(StableHlo.held (c : Thread nD τ) (Pipeline.ucRefs τ sig) (V' (U := U) V B c) ∗ (𝒹 c).owesAt none (Fin.last cfg1.N))
  X c := iprop(emp)
  Y c := iprop(emp)
  Z c := StableHlo.held (c : Thread nD τ) (Pipeline.ucRefs τ sig \ Pipeline.arrRefs spec1) (V c)
  hentry c := by
    rw [Pipeline.ownSems0_none, Pipeline.prefHeld_of_none _ rfl,
      StableHlo.held_sub_split _ (Pipeline.arrRefs_sub_ucRefs spec1 (by decide)) (V c)]
    iintro ⟨⟨⟨Ha, Hz⟩, HO⟩, -, -⟩
    imodintro
    isplitl [Ha]
    · iapply (Entails.of_eq (Pipeline.arrays_held (pcfgs (F := F)) adm (dats (U := U) V B) 0 launch1.toP c ((𝒹 c).share_full fun _ => rfl) _ (V c) (fun w => A_eq V B c w)).symm)
      iexact Ha
    isplitr; · iempintro
    isplitl [HO]; · iexact HO
    isplitr; · iempintro
    iexact Hz
  hin c := by
    rw [show (𝒹 c).Φ 0 = Pipeline.scopedRest spec1 c from rfl]
    iintro ⟨-, -, H⟩; iexact H
  hout c := by
    rw [Pipeline.ownSems0_none, show (𝒹 c).Φ (Fin.last (Pipeline.pin (pcfgs (F := F)) adm 0).N) = Pipeline.scopedRest spec1 c from rfl]
    iintro H
    isplitr; · iempintro
    isplitr; · iempintro
    iexact H
  hexit c := by
    rw [StableHlo.held_sub_split _ (Pipeline.arrRefs_sub_ucRefs spec1 (by decide)) (V' (U := U) V B c), rest_eq V B c]
    iintro ⟨Ha, HO, -, Hz⟩
    imodintro
    isplitr [HO]
    · isplitl [Ha]
      · iapply (Entails.of_eq (Pipeline.arrays_held (pcfgs (F := F)) adm (dats (U := U) V B) 0 launch1.toP c ((𝒹 c).share_full fun _ => rfl) _ (V' (U := U) V B c) (final_eq V B c)))
        iexact Ha
      iexact Hz
    iexact HO

/-! ## The output's blocks -/

theorem flushed_y (c : Dev nD) (t : Fin cfg1.N) :
    (𝒹 c).flushed 4 t = (cfg1.win 4).cut (grid1.coords t) (projected (blkAt V c 0 t) (blkAt V c 1 t) (blkAt V c 2 t) (blkAt V c 3 t)) := by
  show (cfg1.win 4).cut (grid1.coords t) ((𝒹 c).after 4 t) = _
  rw [after_y]

theorem point_of_block : ∀ t t' : Fin cfg1.N, win1_4.index t = win1_4.index t' → t = t' :=
  (by decide +kernel : ∀ t t' : Fin grid1.N, win1_4.index t = win1_4.index t' → t = t')

theorem apart : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (point_of_block t t' h)

end Cert.Proof.Proj

end
-- ==== Proof.Words.lean ====
/-
  The words of the gather's pipeline, on one tile: what its five counters hold before each of its eight trips, which of its
  guarded copies and waits a trip runs, and the offsets of the slots and blocks they address. Tile `i` handles the eight
  consecutive blocks from `nb i` on, a block being 256 row numbers and the 256 rows gathered for them.
-/
module

public import proofs.«01_k».proof.Defs
public import proofs.«01_k».proof.Proof.Gen.KernelIdeal
public import proofs.«01_k».proof.Proof.Gen.KernelIdeal.Skeleton

@[expose] public section

namespace Cert.Proof.Gather

open Cert.KernelIdeal Cert.KernelIdeal.Gen
open Idealize.ShloMosaic

/-- The first block of tile `i`: eight blocks a tile, sixteen tiles a SparseCore. -/
abbrev nb (i : grid0.Coords) : ℕ := 8 * ((i 1).val + 16 * (i 0).val)

theorem nb_lt (i : grid0.Coords) (t : ℕ) (h : t < 8) : nb i + t < 256 := by
  have h0 : (i 0).val < 2 := (i 0).isLt
  have h1 : (i 1).val < 16 := (i 1).isLt
  unfold nb; omega

theorem trips : k0_t1_loop.trips = 8 := by decide +kernel

/-- The copy-in counter before trip `t`: one ahead of the trip, until every block is fetched. -/
abbrev wIn (t : ℕ) : BitVec 32 := BitVec.ofNat 32 (min (t + 1) 8)
/-- The counter of trips done. -/
abbrev wAt (t : ℕ) : BitVec 32 := BitVec.ofNat 32 t
/-- The counter of copies out waited for. -/
abbrev wOut (t : ℕ) : BitVec 32 := BitVec.ofNat 32 (t - 1)
/-- The block of the trip, back at zero after the last. -/
abbrev wBlk (t : ℕ) : BitVec 32 := BitVec.ofNat 32 (t % 8)
/-- The five counters before trip `t`. -/
abbrev accAt (t : ℕ) : BitVec 32 × BitVec 32 × BitVec 32 × BitVec 32 × BitVec 32 := (wIn t, wAt t, wAt t, wOut t, wBlk t)

/-! ## The conditions -/

theorem cond1_iff : ∀ (i : grid0.Coords) (k : Fin k0_t1_loop.trips), k0_cond1 i k (wBlk k.val) = 1#1 ↔ k.val < 7 := by decide +kernel
theorem cond2_one : ∀ (i : grid0.Coords) (k : Fin k0_t1_loop.trips), k0_cond2 i k (wBlk k.val) = 1#1 := by decide +kernel
theorem cond5_one : ∀ (i : grid0.Coords) (k : Fin k0_t1_loop.trips), k0_cond5 i k (wBlk k.val) = 1#1 := by decide +kernel
theorem cond7_iff : ∀ (i : grid0.Coords) (k : Fin k0_t1_loop.trips), k0_cond7 i k (wBlk k.val) = 1#1 ↔ 0 < k.val := by decide +kernel

/-! ## The offsets -/

theorem off4_at : ∀ k : Fin k0_t1_loop.trips, k.val < 7 → k0_off4 (wIn k.val) = ![(k.val + 1) % 2, 0, 0] := by decide +kernel
theorem off6_at : ∀ k : Fin k0_t1_loop.trips, k.val < 7 → k0_off6 (wIn k.val) = ![(k.val + 1) % 2] := by decide +kernel
theorem off5_at : ∀ (i : grid0.Coords) (k : Fin k0_t1_loop.trips), k.val < 7 → k0_off5 i (wBlk k.val) = ![0, 256 * (nb i + (k.val + 1))] := by decide +kernel
theorem off7_at : ∀ k : Fin k0_t1_loop.trips, k0_off7 (wAt k.val) = ![k.val % 2, 0, 0] := by decide +kernel
theorem off9_at : ∀ k : Fin k0_t1_loop.trips, k0_off9 (wAt k.val) = ![k.val % 2] := by decide +kernel
theorem off10_at : ∀ k : Fin k0_t1_loop.trips, k0_off10 (wAt k.val) = ![k.val % 2, 0, 0] := by decide +kernel
theorem off11_at : ∀ k : Fin k0_t1_loop.trips, k0_off11 (wAt k.val) = ![k.val % 2, 0, 0] := by decide +kernel
theorem off12_at : ∀ k : Fin k0_t1_loop.trips, k0_off12 (wAt k.val) = ![k.val % 2, 0, 0] := by decide +kernel
theorem off13_at : ∀ (i : grid0.Coords) (k : Fin k0_t1_loop.trips), k0_off13 i (wBlk k.val) = ![256 * (nb i + k.val), 0] := by decide +kernel
theorem off14_at : ∀ k : Fin k0_t1_loop.trips, k0_off14 (wAt k.val) = ![k.val % 2] := by decide +kernel
theorem off16_at : ∀ (i : grid0.Coords) (k : Fin k0_t1_loop.trips), 0 < k.val → k0_off16 i (wBlk k.val) = ![256 * (nb i + (k.val - 1)), 0] := by decide +kernel
theorem off17_at : ∀ k : Fin k0_t1_loop.trips, 0 < k.val → k0_off17 (wOut k.val) = ![(k.val - 1) % 2] := by decide +kernel
theorem off2_at : ∀ i : grid0.Coords, k0_off2 i = ![0, 256 * (nb i + 0)] := by decide +kernel
theorem off19_at : ∀ i : grid0.Coords, k0_off19 i (wBlk 8) = ![256 * (nb i + 7), 0] := by decide +kernel
theorem off20_at : k0_off20 (wOut 8) = ![1] := by decide +kernel

/-! ## The side conditions the body assumes -/

theorem chk3_at : ∀ k : Fin k0_t1_loop.trips, k0_chk3 (wAt k.val) := by decide +kernel
theorem chk2_at : ∀ k : Fin k0_t1_loop.trips, k0_chk2 (wAt k.val) := by decide +kernel
theorem chk1_at : ∀ (i : grid0.Coords) (k : Fin k0_t1_loop.trips), k0_chk1 i k (wIn k.val) (wAt k.val) (wAt k.val) (wOut k.val) (wBlk k.val) := by decide +kernel
theorem chk4_at : k0_chk4 (wOut 8) := by decide +kernel
theorem chk5_at : ∀ i : grid0.Coords, k0_chk5 i (wBlk 8) := by decide +kernel

end Cert.Proof.Gather

end
-- ==== Proof.Views.lean ====
/-
  The pieces of memory one tile of the gather moves: block `n` of the row numbers (256 of the 65536) and block `n` of the
  output (the 256 rows gathered for them), the two banks each of the staged row numbers and of the staged rows, the table —
  and what one gather into a bank holds: block `n` of `G T X`, the table's rows that the numbers name.
-/
module

public import proofs.«01_k».proof.Proof.Words
public import Idealize.ShloMosaic.Lib.SparseCore.Stream
public import Idealize.ShloMosaic.Lib.ValueIdxCore

@[expose] public section

noncomputable section

namespace Cert.Proof.Gather

open Cert.KernelIdeal Cert.KernelIdeal.Gen
open Idealize.ShloMosaic
open Idealize.ShloMosaic.ValueIdx (ix2)

variable {F : FTy → Type}

/-! ## The arrays and their pieces -/

abbrev tV : Memref sig .scVector .hbm S4096x128 .f32 := Memref.whole main_v12_scv
abbrev iV : Memref sig .scVector .hbm S1x65536 .i32 := Memref.whole main_v15_scv
abbrev oV : Memref sig .scVector .hbm S65536x128 .f32 := Memref.whole main_v16_scv
abbrev sI : Memref sig .scVector .vmem S2x1x256 .i32 := Memref.whole cc0_scoped0
abbrev sO : Memref sig .scVector .vmem S2x256x128 .f32 := Memref.whole cc0_scoped2

theorem iBank_inb (b : Fin 2) : ∀ a, (![b.val, 0, 0] : Fin 3 → ℕ) a + S1x1x256.size a ≤ S2x1x256.size a := by revert b; decide +kernel
theorem oBank_inb (b : Fin 2) : ∀ a, (![b.val, 0, 0] : Fin 3 → ℕ) a + S1x256x128.size a ≤ S2x256x128.size a := by revert b; decide +kernel
theorem sem_inb (b : Fin 2) : ∀ a, (![b.val] : Fin 1 → ℕ) a + S1.size a ≤ S2.size a := by revert b; decide +kernel
theorem iBlk_inb (n : Fin 256) : ∀ a, (![0, 256 * n.val] : Fin 2 → ℕ) a + S1x256.size a ≤ S1x65536.size a := by revert n; decide +kernel
theorem oBlk_inb (n : Fin 256) : ∀ a, (![256 * n.val, 0] : Fin 2 → ℕ) a + S256x128.size a ≤ S65536x128.size a := by revert n; decide +kernel

/-- Block `n` of the row numbers. -/
abbrev iBlk (n : Fin 256) : Memref sig .scVector .hbm S1x256 .i32 :=
  iV.slice (Rect.unit (s := S1x65536) ![0, 256 * n.val] S1x256.size (iBlk_inb n)) (fun _ => rfl)
/-- Block `n` of the output. -/
abbrev oBlk (n : Fin 256) : Memref sig .scVector .hbm S256x128 .f32 :=
  oV.slice (Rect.unit (s := S65536x128) ![256 * n.val, 0] S256x128.size (oBlk_inb n)) (fun _ => rfl)
/-- Bank `b` of the staged row numbers. -/
abbrev iBank (b : Fin 2) : Memref sig .scVector .vmem S1x256 .i32 :=
  (sI.slice (Rect.unit (s := S2x1x256) ![b.val, 0, 0] S1x1x256.size (iBank_inb b)) (fun _ => rfl)).squeeze S1x256 squeezes_S1x1x256_S1x256
/-- Bank `b` of the staged rows. -/
abbrev oBank (b : Fin 2) : Memref sig .scVector .vmem S256x128 .f32 :=
  (sO.slice (Rect.unit (s := S2x256x128) ![b.val, 0, 0] S1x256x128.size (oBank_inb b)) (fun _ => rfl)).squeeze S256x128 squeezes_S1x256x128_S256x128
/-- A bank of row numbers, as the list a gather reads. -/
abbrev listOf (M : Memref sig .scVector .vmem S1x256 .i32) : Memref sig .scVector .vmem S256 .i32 :=
  (M.slice (Rect.unit (s := S1x256) ![0, 0] S1x256.size inb_S1x256_S1x256_0_0) (fun _ => rfl)).squeeze S256 squeezes_S1x256_S256
/-- The table, as the gathers address it: all of it. -/
abbrev tAll : Memref sig .scVector .hbm S4096x128 .f32 :=
  tV.slice (Rect.unit (s := S4096x128) ![0, 0] S4096x128.size inb_S4096x128_S4096x128_0_0) (fun _ => rfl)
/-- The semaphore of bank `b` of the row numbers. -/
abbrev iSem (b : Fin 2) : DmaSem sig := ((cc0_scoped1.slice (Rect.unit (s := S2) ![b.val] S1.size (sem_inb b))).squeeze S_ squeezes_S1_S_).sem
/-- The semaphore of bank `b` of the rows. -/
abbrev oSem (b : Fin 2) : DmaSem sig := ((cc0_scoped3.slice (Rect.unit (s := S2) ![b.val] S1.size (sem_inb b))).squeeze S_ squeezes_S1_S_).sem

/-! ## The program's slices are these -/

theorem iBlk_of {o : Fin 2 → ℕ} {h : ∀ a, o a + S1x256.size a ≤ S1x65536.size a} {n : ℕ} (hn : n < 256) (e : o = ![0, 256 * n]) :
    iV.slice (Rect.unit (s := S1x65536) o S1x256.size h) (fun _ => rfl) = iBlk ⟨n, hn⟩ := by subst e; rfl
theorem oBlk_of {o : Fin 2 → ℕ} {h : ∀ a, o a + S256x128.size a ≤ S65536x128.size a} {n : ℕ} (hn : n < 256) (e : o = ![256 * n, 0]) :
    oV.slice (Rect.unit (s := S65536x128) o S256x128.size h) (fun _ => rfl) = oBlk ⟨n, hn⟩ := by subst e; rfl
theorem iBank_of {o : Fin 3 → ℕ} {h : ∀ a, o a + S1x1x256.size a ≤ S2x1x256.size a} {n : ℕ} (hn : n < 2) (e : o = ![n, 0, 0]) :
    (sI.slice (Rect.unit (s := S2x1x256) o S1x1x256.size h) (fun _ => rfl)).squeeze S1x256 squeezes_S1x1x256_S1x256 = iBank ⟨n, hn⟩ := by subst e; rfl
theorem oBank_of {o : Fin 3 → ℕ} {h : ∀ a, o a + S1x256x128.size a ≤ S2x256x128.size a} {n : ℕ} (hn : n < 2) (e : o = ![n, 0, 0]) :
    (sO.slice (Rect.unit (s := S2x256x128) o S1x256x128.size h) (fun _ => rfl)).squeeze S256x128 squeezes_S1x256x128_S256x128 = oBank ⟨n, hn⟩ := by subst e; rfl
theorem iSem_of {o : Fin 1 → ℕ} {h : ∀ a, o a + S1.size a ≤ S2.size a} {n : ℕ} (hn : n < 2) (e : o = ![n]) :
    ((cc0_scoped1.slice (Rect.unit (s := S2) o S1.size h)).squeeze S_ squeezes_S1_S_).sem = iSem ⟨n, hn⟩ := by subst e; rfl
theorem oSem_of {o : Fin 1 → ℕ} {h : ∀ a, o a + S1.size a ≤ S2.size a} {n : ℕ} (hn : n < 2) (e : o = ![n]) :
    ((cc0_scoped3.slice (Rect.unit (s := S2) o S1.size h)).squeeze S_ squeezes_S1_S_).sem = oSem ⟨n, hn⟩ := by subst e; rfl

/-! ## What the gather writes -/

/-- The row a number names (a number below 4096 names itself). -/
abbrev rowOf (w : BitVec 32) : Fin 4096 := ⟨w.toNat % 4096, Nat.mod_lt _ (by norm_num)⟩

/-- The rows of the table `T` that the numbers `X` name: row `r` of the output is row `X r` of the table. -/
def G (T : S4096x128.Idx → Elt F .f32) (X : S1x65536.Idx → Elt F .i32) : S65536x128.Idx → Elt F .f32 :=
  fun j => T (ix2 (rowOf (X (ix2 (0 : Fin 1) (⟨(j 0).val, (j 0).isLt⟩ : Fin 65536)))) (⟨(j 1).val, (j 1).isLt⟩ : Fin 128))

theorem iBlk_read (X : S1x65536.Idx → Elt F .i32) (n : Fin 256) (r : Fin 256) :
    (iBlk n).view.read (Elt F) X (ix2 (0 : Fin 1) r) = X (ix2 (0 : Fin 1) (⟨256 * n.val + r.val, by omega⟩ : Fin 65536)) := by
  rw [View.read_apply]
  show X _ = X _
  congr 1
  funext a
  apply Fin.ext
  match a with
  | 0 => rfl
  | 1 => show 256 * n.val + 1 * r.val = 256 * n.val + r.val; omega

theorem oBlk_read (Y : S65536x128.Idx → Elt F .f32) (n : Fin 256) (x : S256x128.Idx) :
    (oBlk n).view.read (Elt F) Y x
      = Y (ix2 (⟨256 * n.val + (x 0).val, by have : (x 0).val < 256 := (x 0).isLt; omega⟩ : Fin 65536) (⟨(x 1).val, (x 1).isLt⟩ : Fin 128)) := by
  rw [View.read_apply]
  show Y _ = Y _
  congr 1
  funext a
  apply Fin.ext
  match a with
  | 0 => show 256 * n.val + 1 * (x 0).val = 256 * n.val + (x 0).val; omega
  | 1 => show 0 + 1 * (x 1).val = (x 1).val; omega

theorem tAll_read (T : S4096x128.Idx → Elt F .f32) : tAll.view.read (Elt F) T = T := by
  funext x
  rw [View.read_apply]
  show T _ = T x
  congr 1
  funext a
  apply Fin.ext
  match a with
  | 0 => show 0 + 1 * (x 0).val = _; simp
  | 1 => show 0 + 1 * (x 1).val = _; simp

/-- Entry `r` of the list is entry `(0, r)` of the bank. -/
theorem listOf_read (M : Memref sig .scVector .vmem S1x256 .i32) (f : M.view.ty.Contents (Elt F)) (y : S256.Idx) :
    (listOf M).view.read (Elt F) f y = M.view.read (Elt F) f (ix2 (0 : Fin 1) (⟨(y 0).val, (y 0).isLt⟩ : Fin 256)) := by
  have e : (listOf M).view.emb y = M.view.emb (ix2 (0 : Fin 1) (⟨(y 0).val, (y 0).isLt⟩ : Fin 256)) := by
    show M.view.emb ((Rect.unit (s := S1x256) ![0, 0] S1x256.size inb_S1x256_S1x256_0_0).emb (Shape.reshapeEquiv _ y)) = _
    congr 1
    rw [Shape.reshapeEquiv_eq_of_rowMajor (y := (ix2 (0 : Fin 1) (⟨(y 0).val, (y 0).isLt⟩ : Fin 256))) _
      (by rw [Shape.rowMajor_val_one, Shape.rowMajor_val_two]; simp [ix2])]
    funext a
    apply Fin.ext
    match a with
    | 0 => rfl
    | 1 => show 0 + 1 * _ = _; simp
  rw [View.read_apply, View.read_apply, e]

/-- Every number of a bank that holds block `n` names a row, all of `X` naming rows. -/
theorem list_inb (X : S1x65536.Idx → Elt F .i32) (hX : ∀ j, (X j).toNat < 4096) (n : Fin 256) (b : Fin 2) (f : sI.view.ty.Contents (Elt F))
    (hf : (iBank b).view.read (Elt F) f = (iBlk n).view.read (Elt F) X) :
    ∀ x, ((listOf (iBank b)).view.read (Elt F) f x).toNat < S4096x128.size gathers_S4096x128_S256x128.axis := by
  intro x
  rw [listOf_read, hf, iBlk_read]
  exact hX _

/-- A gather from the table at a bank that holds block `n` of the numbers delivers block `n` of `G T X`. -/
theorem gather_eq (T : S4096x128.Idx → Elt F .f32) (X : S1x65536.Idx → Elt F .i32) (hX : ∀ j, (X j).toNat < 4096) (n : Fin 256) (b : Fin 2)
    (f : sI.view.ty.Contents (Elt F)) (hf : (iBank b).view.read (Elt F) f = (iBlk n).view.read (Elt F) X)
    (hn : S256.numel = S256x128.size gathers_S4096x128_S256x128.axis')
    (hin : ∀ x, ((listOf (iBank b)).view.read (Elt F) f x).toNat < S4096x128.size gathers_S4096x128_S256x128.axis) :
    SparseCore.gatherPayload gathers_S4096x128_S256x128 (tAll.view.read (Elt F) T) (SparseCore.rows ((listOf (iBank b)).view.read (Elt F) f) hn hin)
      = (oBlk n).view.read (Elt F) (G T X) := by
  funext x
  rw [tAll_read, oBlk_read]
  unfold SparseCore.gatherPayload G
  have hk : ∀ k : Fin (S256x128.size gathers_S4096x128_S256x128.axis'),
      ((S256.rowMajor.symm (k.cast hn.symm)) 0).val = k.val := by
    intro k
    rw [← Shape.rowMajor_val_one, Equiv.apply_symm_apply]; rfl
  congr 1
  funext a
  apply Fin.ext
  match a with
  | 0 =>
    refine (congrArg Fin.val (Shape.Gathers.idx_axis gathers_S4096x128_S256x128 _ x)).trans ?_
    show ((listOf (iBank b)).view.read (Elt F) f _).toNat = _ % 4096
    rw [listOf_read, hf, iBlk_read, Nat.mod_eq_of_lt (hX _)]
    congr 2
    funext c
    apply Fin.ext
    match c with
    | 0 => rfl
    | 1 =>
      show 256 * n.val + _ = 256 * n.val + (x 0).val
      rw [hk]; rfl
  | 1 =>
    exact Shape.Gathers.idx_of_ne gathers_S4096x128_S256x128 _ x 1 (by decide)

end Cert.Proof.Gather

end
-- ==== Proof.Steps.lean ====
/-
  The steps of the gather's pipeline on one tile, each as it runs on named pieces of memory: a block of row numbers copied into a
  bank and waited for, a gather at a bank's numbers into a bank of rows and its wait, a bank of rows copied out to a block of the
  output and waited for. Every copy is held as its `Flight`, which its wait opens.
-/
module

public import proofs.«01_k».proof.Proof.Views
public import Idealize.ShloMosaic.Lib.SparseCore.Quiescent
public import Idealize.ShloMosaic.Lib.SparseCore.Ops
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] (EC : UEmb Counters (MT nD τ sig (HIx 1) (Elt F) ℕ U ℕ))
variable [EC.LandsIn (upEmb : UEmb _ (MT nD τ sig (HIx 1) (Elt F) ℕ U ℕ))]

local notation "𝕄" => MT nD τ sig (HIx 1) (Elt F) ℕ U ℕ

variable (d : Dev nD) (c : Fin τ.nSC) (j : Fin τ.nSub)
variable (Tb : S4096x128.Idx → Elt F .f32) (X : S1x65536.Idx → Elt F .i32)

/-- No program variable is a loop's measure here. -/
abbrev 𝒱₀ : Variants := Variants.none

/-! ## The pieces, held -/

/-- Block `n` of the numbers. -/
abbrev iP (n : Fin 256) : sProp 𝕄 := (iBlk n).view.loc (V d c j) ↦[(iBlk n).view.set]{fullShare} X
/-- Block `n` of the output, at `f`. -/
abbrev oP (n : Fin 256) (f : S65536x128.Idx → Elt F .f32) : sProp 𝕄 := (oBlk n).view.loc (V d c j) ↦[(oBlk n).view.set]{fullShare} f
/-- Bank `b` of the staged numbers, at `f`. -/
abbrev bI (b : Fin 2) (f : S2x1x256.Idx → Elt F .i32) : sProp 𝕄 := (iBank b).view.loc (V d c j) ↦[(iBank b).view.set]{fullShare} f
/-- Bank `b` of the staged rows, at `f`. -/
abbrev bO (b : Fin 2) (f : S2x256x128.Idx → Elt F .f32) : sProp 𝕄 := (oBank b).view.loc (V d c j) ↦[(oBank b).view.set]{fullShare} f
/-- A share of the table. -/
abbrev tP (q : PosShare TreeShare) : sProp 𝕄 := tAll.view.loc (V d c j) ↦[tAll.view.set]{q} Tb
/-- A semaphore of this tile at zero. -/
abbrev z (s : DmaSem sig) : sProp 𝕄 := semVal ((V d c j, SemLoc.dma s) : GSem nD τ sig) 0

/-- Bank `b` of the numbers, holding block `n` of them. -/
def bIAt (b : Fin 2) (n : Fin 256) : sProp 𝕄 :=
  iprop(∃ f, ⌜(iBank b).view.read (Elt F) f = (iBlk n).view.read (Elt F) X⌝ ∗ bI d c j b f)
/-- Bank `b` of the rows, holding the rows of block `n`. -/
def bOAt (b : Fin 2) (n : Fin 256) : sProp 𝕄 :=
  iprop(∃ f, ⌜(oBank b).view.read (Elt F) f = (oBlk n).view.read (Elt F) (G Tb X)⌝ ∗ bO d c j b f)
/-- Bank `b` of the numbers at rest: nothing in flight on it, at some contents. -/
def freeI (b : Fin 2) : sProp 𝕄 := iprop(z d c j (iSem b) ∗ ∃ f, bI d c j b f)
/-- Bank `b` of the rows at rest. -/
def freeO (b : Fin 2) : sProp 𝕄 := iprop(z d c j (oSem b) ∗ ∃ f, bO d c j b f)
/-- Block `n` of the numbers in flight into bank `b`. -/
def FI (n : Fin 256) (b : Fin 2) : sProp 𝕄 :=
  Transfers.Flight EC (V d c j) (SemLoc.dma (iSem b)) (none : HIx 1) (iBank b).view.dmaCredit iprop(bIAt d c j X b n ∗ iP d c j X n)
/-- The rows of block `n` in flight out of bank `b`. -/
def FO (n : Fin 256) (b : Fin 2) : sProp 𝕄 :=
  Transfers.Flight EC (V d c j) (SemLoc.dma (oSem b)) (none : HIx 1) (oBlk n).view.dmaCredit iprop(oP d c j n (G Tb X) ∗ ∃ f, bO d c j b f)
/-- A gather at bank `b` of the numbers, which holds block `n`, in flight into bank `b` of the rows. -/
def FG (n : Fin 256) (b : Fin 2) (q : PosShare TreeShare) : sProp 𝕄 :=
  Transfers.Flight EC (V d c j) (SemLoc.dma cc0_scoped4.sem) (none : HIx 1) (oBank b).view.dmaCredit
    iprop(bOAt d c j Tb X b n ∗ tP d c j Tb q ∗ ∃ f, bI d c j b f)

/-! ## Two facts on writes -/

/-- Writing a view's own part of `Y` leaves `Y` on the view. -/
theorem write_read_eq {κ : Kind} {sp : Space} {s : Shape} {e : EltTy} (v : View sig κ sp s e) (f Y : v.ty.Contents (Elt F)) :
    ∀ i ∈ v.set, v.write (Elt F) f (v.read (Elt F) Y) Finset.univ i = Y i := by
  intro i hi
  obtain ⟨x, -, rfl⟩ := Finset.mem_map.mp hi
  rw [View.write_emb_of_mem _ _ (Finset.mem_univ x), View.read_apply, cast_cast, cast_eq]

theorem listOf_set (M : Memref sig .scVector .vmem S1x256 .i32) : (listOf M).view.set = M.view.set := by
  show ((M.view.slice (Rect.unit (s := S1x256) ![0, 0] S1x256.size inb_S1x256_S1x256_0_0)).reshape S256 squeezes_S1x256_S256.numel_eq).set = _
  rw [View.set_reshape, View.set_slice, show (Rect.unit (s := S1x256) ![0, 0] S1x256.size inb_S1x256_S1x256_0_0).set = Finset.univ from ?_]
  · rfl
  · ext y
    simp only [Finset.mem_univ, iff_true]
    rw [Rect.mem_set_unit]
    intro a
    match a with
    | 0 => exact ⟨Nat.zero_le _, (Nat.zero_add _).symm ▸ (y 0).isLt⟩
    | 1 => exact ⟨Nat.zero_le _, (Nat.zero_add _).symm ▸ (y 1).isLt⟩

theorem iCredit : ∀ b : Fin 2, 0 < (iBank b).view.dmaCredit := by decide +kernel
theorem oCredit : ∀ n : Fin 256, 0 < (oBlk n).view.dmaCredit := by decide +kernel
theorem gCredit : ∀ b : Fin 2, ∑ r, ((oBank b).slice (S256x128.rowRect gathers_S4096x128_S256x128.axis' r) (S256x128.stride_rowRect gathers_S4096x128_S256x128.axis' r)).view.dmaCredit
    = (oBank b).view.dmaCredit := by decide +kernel

/-! ## The steps -/

/-- What a copy of block `n` of the numbers into bank `b` delivers. -/
theorem landI (n : Fin 256) (b : Fin 2) (f : S2x1x256.Idx → Elt F .i32) :
    iprop(((iBank b).view.loc (V d c j) ↦[(iBank b).view.set]{fullShare}
        (iBank b).view.write (Elt F) f (ReadAs.same.apply ((iBlk n).view.read (Elt F) X)) Finset.univ) ∗ iP d c j X n)
      ⊢ (iprop(bIAt d c j X b n ∗ iP d c j X n) : sProp 𝕄) := by
  unfold bIAt
  iintro ⟨Hb, Hi⟩
  isplitl [Hb]
  · iexists ((iBank b).view.write (Elt F) f (ReadAs.same.apply ((iBlk n).view.read (Elt F) X)) Finset.univ)
    isplitr
    · ipureintro; exact View.read_write_univ _ _
    · iexact Hb
  · iexact Hi

/-- What a copy of bank `b`, holding the rows of block `n`, out to block `n` delivers. -/
theorem landO (n : Fin 256) (b : Fin 2) (f : S65536x128.Idx → Elt F .f32) (g : S2x256x128.Idx → Elt F .f32)
    (hg : (oBank b).view.read (Elt F) g = (oBlk n).view.read (Elt F) (G Tb X)) :
    iprop(((oBlk n).view.loc (V d c j) ↦[(oBlk n).view.set]{fullShare}
        (oBlk n).view.write (Elt F) f (ReadAs.same.apply ((oBank b).view.read (Elt F) g)) Finset.univ) ∗ bO d c j b g)
      ⊢ (iprop(oP d c j n (G Tb X) ∗ ∃ f, bO d c j b f) : sProp 𝕄) := by
  have e : ((oBlk n).view.loc (V d c j) ↦[(oBlk n).view.set]{fullShare}
      (oBlk n).view.write (Elt F) f (ReadAs.same.apply ((oBank b).view.read (Elt F) g)) Finset.univ : sProp 𝕄) = oP d c j n (G Tb X) :=
    pointsTo_congr (by rw [ReadAs.apply_same, hg]; exact write_read_eq (oBlk n).view f (G Tb X))
  rw [e]
  iintro ⟨Ho, Hb⟩
  isplitl [Ho]; · iexact Ho
  iexists g; iexact Hb

/-- What a gather at bank `b` of the numbers, holding block `n`, delivers. -/
theorem landG (hX : ∀ i, (X i).toNat < 4096) (n : Fin 256) (b : Fin 2) (q : PosShare TreeShare) (f : S2x1x256.Idx → Elt F .i32) (g : S2x256x128.Idx → Elt F .f32)
    (hf : (iBank b).view.read (Elt F) f = (iBlk n).view.read (Elt F) X) (hn : S256.numel = S256x128.size gathers_S4096x128_S256x128.axis')
    (hin : ∀ x, ((listOf (iBank b)).view.read (Elt F) f x).toNat < S4096x128.size gathers_S4096x128_S256x128.axis) :
    iprop(((oBank b).view.loc (V d c j) ↦[(oBank b).view.set]{fullShare}
        (oBank b).view.write (Elt F) g (SparseCore.gatherPayload gathers_S4096x128_S256x128 (tAll.view.read (Elt F) Tb)
          (SparseCore.rows ((listOf (iBank b)).view.read (Elt F) f) hn hin)) Finset.univ)
        ∗ tP d c j Tb q ∗ ((listOf (iBank b)).view.loc (V d c j) ↦[(listOf (iBank b)).view.set]{fullShare} f))
      ⊢ (iprop(bOAt d c j Tb X b n ∗ tP d c j Tb q ∗ ∃ f, bI d c j b f) : sProp 𝕄) := by
  unfold bOAt
  rw [gather_eq Tb X hX n b f hf hn hin, listOf_set]
  iintro ⟨Hb, Ht, Hi⟩
  isplitl [Hb]
  · iexists ((oBank b).view.write (Elt F) g ((oBlk n).view.read (Elt F) (G Tb X)) Finset.univ)
    isplitr
    · ipureintro; exact View.read_write_univ _ _
    · iexact Hb
  isplitl [Ht]; · iexact Ht
  iexists f; iexact Hi

section Steps

variable {α : Type} {Q : α → sProp (MT nD τ sig (HIx 1) (Elt F) ℕ U ℕ)}
variable {k : PUnit → Prog (TpuEff nD τ sig (Elt F) Λ₀ (.scVector c j)) α}

/-- Block `n` of the numbers starts on its way into bank `b`. -/
theorem wp_copyIn (n : Fin 256) (b : Fin 2) {src : Memref sig .scVector .hbm S1x256 .i32} {dst : Memref sig .scVector .vmem S1x256 .i32} {sm : DmaSem sig}
    (hs : src = iBlk n) (hd : dst = iBank b) (hm : sm = iSem b) {hsrc : src.view.WordExact} {hdst : dst.view.WordExact} {hsem : DmaTarget.Typed (nD := nD) (p := .scVector c j) .hbm (.dma sm) (.here dst)} :
    iprop(iP d c j X n ∗ freeI d c j b)
      ⊢ iprop((FI EC d c j X n b -∗ wp frame (wpE (defs₀ (F := F)) 𝒱₀ (V d c j) none) Set.univ (k ⟨⟩) Q)
          -∗ wp frame (wpE (defs₀ (F := F)) 𝒱₀ (V d c j) none) Set.univ (.op (.enqueueDma src (.here dst) (.dma sm) hsrc hdst hsem) k) Q) := by
  subst hs hd hm
  unfold freeI
  iintro ⟨Hi, Hz, ⟨%f, Hb⟩⟩ Hk
  iapply (Transfers.wp_dmaLocal EC 𝒱₀ (V d c j) none (none : HIx 1) (iBank b).view.dmaCredit rfl (iCredit b)
    (Finset.Subset.refl _) (q := fullShare) (fs := X) (fd := f)) $$ [Hi Hb Hz]
  · isplitl [Hi]; · iexact Hi
    isplitl [Hb]; · iexact Hb
    iexact Hz
  iintro HF
  iapply Hk
  unfold FI
  iapply (Transfers.Flight_mono EC (V d c j) (landI d c j X n b f)) $$ HF

/-- The rows of block `n` start on their way out of bank `b`. -/
theorem wp_copyOut (n : Fin 256) (b : Fin 2) {src : Memref sig .scVector .vmem S256x128 .f32} {dst : Memref sig .scVector .hbm S256x128 .f32} {sm : DmaSem sig}
    (hs : src = oBank b) (hd : dst = oBlk n) (hm : sm = oSem b) {hsrc : src.view.WordExact} {hdst : dst.view.WordExact} {hsem : DmaTarget.Typed (nD := nD) (p := .scVector c j) .vmem (.dma sm) (.here dst)} :
    iprop(bOAt d c j Tb X b n ∗ z d c j (oSem b) ∗ ∃ f, oP d c j n f)
      ⊢ iprop((FO EC d c j Tb X n b -∗ wp frame (wpE (defs₀ (F := F)) 𝒱₀ (V d c j) none) Set.univ (k ⟨⟩) Q)
          -∗ wp frame (wpE (defs₀ (F := F)) 𝒱₀ (V d c j) none) Set.univ (.op (.enqueueDma src (.here dst) (.dma sm) hsrc hdst hsem) k) Q) := by
  subst hs hd hm
  unfold bOAt
  iintro ⟨⟨%g, %hg, Hb⟩, Hz, ⟨%f, Ho⟩⟩ Hk
  iapply (Transfers.wp_dmaLocal EC 𝒱₀ (V d c j) none (none : HIx 1) (oBlk n).view.dmaCredit rfl (oCredit n)
    (Finset.Subset.refl _) (q := fullShare) (fs := g) (fd := f)) $$ [Hb Ho Hz]
  · isplitl [Hb]; · iexact Hb
    isplitl [Ho]; · iexact Ho
    iexact Hz
  iintro HF
  iapply Hk
  unfold FO
  iapply (Transfers.Flight_mono EC (V d c j) (landO d c j Tb X n b f g hg)) $$ HF

/-- The gather at bank `b` of the numbers starts, into bank `b` of the rows. -/
theorem wp_gather (hX : ∀ i, (X i).toNat < 4096) (n : Fin 256) (b : Fin 2) (q : PosShare TreeShare) {dst : Memref sig .scVector .vmem S256x128 .f32}
    {lst : Memref sig .scVector .vmem S1x256 .i32}
    (hd : dst = oBank b) (hl : lst = iBank b) {hp : Kind.scVector = .scVector} {hsrc : tAll.view.WordExact}
    {he : EltTy.f32.bits = 32} {hsp : Space.hbm = .hbm ∨ Space.hbm = .shared} {hr : S4096x128.StreamRows 0}
    {hn : S256.numel = S256x128.size gathers_S4096x128_S256x128.axis'} :
    iprop(tP d c j Tb q ∗ (∃ f, bO d c j b f) ∗ bIAt d c j X b n ∗ z d c j cc0_scoped4.sem)
      ⊢ iprop((FG EC d c j Tb X n b q -∗ wp frame (wpE (defs₀ (F := F)) 𝒱₀ (V d c j) none) Set.univ (k ⟨⟩) Q)
          -∗ wp frame (wpE (defs₀ (F := F)) 𝒱₀ (V d c j) none) Set.univ
            (SparseCore.enqueueIndirectGather (p := .scVector c j) hp tAll dst gathers_S4096x128_S256x128 (listOf lst) hn cc0_scoped4.sem hsrc he hsp hr >>= k) Q) := by
  subst hd hl
  unfold bIAt
  iintro ⟨Ht, ⟨%g, Hb⟩, ⟨%f, %hf, Hi⟩, Hz⟩ Hk
  ihave Hi' := (Entails.of_eq (show bI d c j b f = ((listOf (iBank b)).view.loc (V d c j) ↦[(listOf (iBank b)).view.set]{fullShare} f : sProp 𝕄) by
    rw [listOf_set])) $$ Hi
  iapply (SparseCore.wp_indirectGatherLocal EC 𝒱₀ (V d c j) none (hg := gathers_S4096x128_S256x128) (none : HIx 1)
      (oBank b).view.dmaCredit (gCredit b) (by decide) (list_inb X hX n b f hf) (q := q) (fs := Tb) (fd := g) (qo := fullShare)) $$ [Ht Hb Hi' Hz]
  · isplitl [Ht]; · iexact Ht
    isplitl [Hb]; · iexact Hb
    isplitl [Hi']; · iexact Hi'
    iexact Hz
  iintro HF
  iapply Hk
  unfold FG
  iapply (Transfers.Flight_mono EC (V d c j) (landG d c j Tb X hX n b q f g hf hn _)) $$ HF

variable {O : CellTallies nD τ sig (HIx 1)} {W : Waits sig (HIx 1)}

/-- The waits recorded so far, all of them either recorded at the start or this tile's own. -/
def Ow (O : CellTallies nD τ sig (HIx 1)) (W : Waits sig (HIx 1)) : sProp 𝕄 :=
  iprop(∃ W', ⌜∀ p ∈ W', p ∈ W ∨ p.2 = none⌝ ∗ owes (V d c j) O W')

/-- A wait on a copy in flight on `sm`, its amount the one waited for, brings what the copy delivers. -/
theorem wp_wait {κ : Kind} {sp sp' : Space} {s s' : Shape} {e e' : EltTy} {sm sm' : DmaSem sig} {N : ℕ} {Dl : sProp 𝕄}
    {src : Memref sig .scVector sp' s' e'} {dst : Memref sig κ sp s e} {hsrc : src.view.WordExact} {hdst : dst.view.WordExact}
    (hm : sm = sm') (hN : dst.view.dmaCredit = N) :
    iprop(Transfers.MayWaits (V d c j) (none : HIx 1) O ∗ Transfers.Flight EC (V d c j) (SemLoc.dma sm') (none : HIx 1) N Dl ∗ Ow d c j O W)
      ⊢ iprop(((Dl ∗ z d c j sm' ∗ Ow d c j O W) -∗ wp frame (wpE (defs₀ (F := F)) 𝒱₀ (V d c j) none) Set.univ (k ⟨⟩) Q)
          -∗ wp frame (wpE (defs₀ (F := F)) 𝒱₀ (V d c j) none) Set.univ (.op (.waitDma2 sm src dst hsrc hdst) k) Q) := by
  subst hm
  unfold Ow
  iintro ⟨#Hmw, HF, ⟨%W', %hW', HO⟩⟩ Hk
  iapply (Transfers.wp_waitLocalO EC 𝒱₀ (V d c j) none (none : HIx 1) hN) $$ [HF HO]
  · isplitl [HF]; · iexact HF
    isplitl [HO]; · iexact HO
    iapply (Transfers.MayWaits.elim (SemLoc.dma sm)) $$ Hmw
  iintro ⟨HD, Hz, HO⟩
  iapply Hk
  isplitl [HD]; · iexact HD
  isplitl [Hz]; · iexact Hz
  iexists (insert (SemLoc.dma sm, (none : HIx 1)) W')
  isplitr
  rotate_left
  · iexact HO
  · ipureintro
    intro p hp
    rcases Finset.mem_insert.mp hp with hp | hp
    · exact .inr (hp ▸ rfl)
    · exact hW' p hp

end Steps

end Cert.Proof.Gather

end
-- ==== Proof.Trip.lean ====
/-
  One trip of the gather's pipeline on a tile. Before trip `k` block `k` of the tile's numbers is in flight into bank `k mod 2` and the
  rows of block `k − 1` are in flight out of the other bank of rows; the trip fetches block `k + 1`, waits for block `k`, gathers its
  rows, starts them on their way out and waits for those of block `k − 1`.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

attribute [local irreducible] Idealize.SL.BI.bigSep

variable {F : FTy → Type} [FloatOps F]
variable {U : Type} [URA U] (EC : UEmb Counters (MT nD τ sig (HIx 1) (Elt F) ℕ U ℕ))
variable [EC.LandsIn (upEmb : UEmb _ (MT nD τ sig (HIx 1) (Elt F) ℕ U ℕ))]

local notation "𝕄" => MT nD τ sig (HIx 1) (Elt F) ℕ U ℕ

variable (d : Dev nD) (L : grid0.Coords)
variable (Tb : S4096x128.Idx → Elt F .f32) (X : S1x65536.Idx → Elt F .i32) (q : PosShare TreeShare)

/-- The SparseCore and the subcore of a tile. -/
abbrev cV (L : grid0.Coords) : Fin τ.nSC := (L 0).castLE hcore0
abbrev jV (L : grid0.Coords) : Fin τ.nSub := (L 1).castLE hsub0

/-! ## The blocks ahead of and behind a trip -/

/-- The tile's block `t`. -/
def blk (L : grid0.Coords) (t : ℕ) : Fin 256 := ⟨nb L + t % 8, nb_lt L _ (Nat.mod_lt _ (by norm_num))⟩
/-- The bank of trip `t`. -/
def slot (t : ℕ) : Fin 2 := ⟨t % 2, Nat.mod_lt _ (by norm_num)⟩

theorem blk_eq (t : ℕ) (h : t < 8) (h' : nb L + t < 256) : (⟨nb L + t, h'⟩ : Fin 256) = blk L t :=
  Fin.ext (by show nb L + t = nb L + t % 8; rw [Nat.mod_eq_of_lt h])
theorem slot_add_two (t : ℕ) : slot (t + 2) = slot t := Fin.ext (by show (t + 2) % 2 = t % 2; omega)
theorem slot_pred (t : ℕ) (h : 0 < t) : slot (t - 1) = slot (t + 1) := Fin.ext (by show (t - 1) % 2 = (t + 1) % 2; omega)

def fromP (n : ℕ) : Finset (Fin 8) := Finset.univ.filter fun t : Fin 8 => n ≤ t.val
def belowP (n : ℕ) : Finset (Fin 8) := Finset.univ.filter fun t : Fin 8 => t.val < n
theorem fromP_zero : fromP 0 = Finset.univ := by decide
theorem fromP_of_le {n : ℕ} (hn : 8 ≤ n) : fromP n = ∅ :=
  Finset.filter_eq_empty_iff.mpr fun t _ => by have := t.isLt; omega
theorem belowP_zero : belowP 0 = ∅ := by decide
theorem belowP_eight : belowP 8 = Finset.univ := by decide
theorem ahead (n : ℕ) (hn : n < 8) (Φ : Fin 8 → sProp 𝕄) : bigSep (fromP n) Φ = iprop(Φ ⟨n, hn⟩ ∗ bigSep (fromP (n + 1)) Φ) := by
  rw [show fromP n = insert ⟨n, hn⟩ (fromP (n + 1)) by revert hn n; decide,
    SparseCore.bigSep_insert' (show (⟨n, hn⟩ : Fin 8) ∉ fromP (n + 1) by revert hn n; decide)]
theorem behind (n : ℕ) (hn : n < 8) (Φ : Fin 8 → sProp 𝕄) : bigSep (belowP (n + 1)) Φ = iprop(Φ ⟨n, hn⟩ ∗ bigSep (belowP n) Φ) := by
  rw [show belowP (n + 1) = insert ⟨n, hn⟩ (belowP n) by revert hn n; decide,
    SparseCore.bigSep_insert' (show (⟨n, hn⟩ : Fin 8) ∉ belowP n by revert hn n; decide)]
attribute [irreducible] fromP belowP

/-! ## The invariant -/

/-- Bank `k mod 2` of the numbers before trip `k`: block `k` in flight into it, if there is one. -/
def inNow (k : ℕ) : sProp 𝕄 := if k < 8 then FI EC d (cV L) (jV L) X (blk L k) (slot k) else freeI d (cV L) (jV L) (slot k)
/-- The other bank of rows before trip `k`: block `k − 1` in flight out of it, if there is one. -/
def outLast (k : ℕ) : sProp 𝕄 := if 0 < k then FO EC d (cV L) (jV L) Tb X (blk L (k - 1)) (slot (k + 1)) else freeO d (cV L) (jV L) (slot (k + 1))

/-- The state of the tile before trip `k`, its counters at `acc`. -/
def Inv (O : CellTallies nD τ sig (HIx 1)) (W : Waits sig (HIx 1)) (k : ℕ) (acc : BitVec 32 × BitVec 32 × BitVec 32 × BitVec 32 × BitVec 32) : sProp 𝕄 :=
  iprop(⌜acc = accAt k⌝ ∗ Transfers.MayWaits (V d (cV L) (jV L)) (none : HIx 1) O ∗ Ow d (cV L) (jV L) O W
    ∗ inNow EC d L X k ∗ freeI d (cV L) (jV L) (slot (k + 1)) ∗ outLast EC d L Tb X k ∗ freeO d (cV L) (jV L) (slot k)
    ∗ z d (cV L) (jV L) cc0_scoped4.sem ∗ tP d (cV L) (jV L) Tb q
    ∗ (bigSep (fromP (k + 1)) fun t => iP d (cV L) (jV L) X (blk L t.val)) ∗ (bigSep (belowP k) fun t => iP d (cV L) (jV L) X (blk L t.val))
    ∗ (bigSep (fromP k) fun t => iprop(∃ f, oP d (cV L) (jV L) (blk L t.val) f)) ∗ (bigSep (belowP (k - 1)) fun t => oP d (cV L) (jV L) (blk L t.val) (G Tb X)))

variable {α : Type} {Q : α → sProp (MT nD τ sig (HIx 1) (Elt F) ℕ U ℕ)}
variable {O : CellTallies nD τ sig (HIx 1)} {W : Waits sig (HIx 1)}

section Guarded

variable {kk : PUnit → Prog (TpuEff nD τ sig (Elt F) Λ₀ (.scVector (cV L) (jV L))) α}

/-- Under its guard, the next block's numbers start on their way; without one there is none left to fetch. -/
theorem wp_fetch (k : ℕ) (hk : k < 8) {cnd : Prop} [Decidable cnd] (hc : cnd ↔ k < 7)
    {src : cnd → Memref sig .scVector .hbm S1x256 .i32} {dst : cnd → Memref sig .scVector .vmem S1x256 .i32} {sm : cnd → DmaSem sig}
    (hs : ∀ h, src h = iBlk (blk L (k + 1))) (hd : ∀ h, dst h = iBank (slot (k + 1))) (hm : ∀ h, sm h = iSem (slot (k + 1)))
    {hsrc : ∀ h, (src h).view.WordExact} {hdst : ∀ h, (dst h).view.WordExact}
    {hsem : ∀ h, DmaTarget.Typed (nD := nD) (p := .scVector (cV L) (jV L)) .hbm (.dma (sm h)) (.here (dst h))} :
    iprop(freeI d (cV L) (jV L) (slot (k + 1)) ∗ bigSep (fromP (k + 1)) fun t => iP d (cV L) (jV L) X (blk L t.val))
      ⊢ iprop(((inNow EC d L X (k + 1) ∗ bigSep (fromP (k + 1 + 1)) fun t => iP d (cV L) (jV L) X (blk L t.val))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
            (if h : cnd then .op (.enqueueDma (src h) (.here (dst h)) (.dma (sm h)) (hsrc h) (hdst h) (hsem h)) kk else kk ⟨⟩) Q) := by
  unfold inNow
  by_cases h : cnd
  · have hk7 := hc.mp h
    rw [dif_pos h, if_pos (show k + 1 < 8 by omega), ahead (k + 1) (by omega)]
    iintro ⟨Hf, Hi, Hr⟩ Hk
    iapply (wp_copyIn EC d (cV L) (jV L) X (blk L (k + 1)) (slot (k + 1)) (hs h) (hd h) (hm h)) $$ [Hf Hi]
    · isplitl [Hi]; · iexact Hi
      iexact Hf
    iintro HF
    iapply Hk
    isplitl [HF]; · iexact HF
    iexact Hr
  · have hk7 : ¬ k < 7 := fun h' => h (hc.mpr h')
    rw [dif_neg h, if_neg (show ¬ k + 1 < 8 by omega), fromP_of_le (show 8 ≤ k + 1 by omega), fromP_of_le (show 8 ≤ k + 1 + 1 by omega)]
    iintro H Hk
    iapply Hk
    iexact H

/-- Under its guard, the rows of the block before have reached the output; without one there is none to wait for. -/
theorem wp_settle (k : ℕ) (hk : k < 8) {cnd : Prop} [Decidable cnd] (hc : cnd ↔ 0 < k)
    {src : cnd → Memref sig .scVector .vmem S256x128 .f32} {dst : cnd → Memref sig .scVector .hbm S256x128 .f32} {sm : cnd → DmaSem sig}
    (hd : ∀ h, dst h = oBlk (blk L (k - 1))) (hm : ∀ h, sm h = oSem (slot (k + 1)))
    {hsrc : ∀ h, (src h).view.WordExact} {hdst : ∀ h, (dst h).view.WordExact} :
    iprop(Transfers.MayWaits (V d (cV L) (jV L)) (none : HIx 1) O ∗ outLast EC d L Tb X k ∗ Ow d (cV L) (jV L) O W
        ∗ bigSep (belowP (k - 1)) fun t => oP d (cV L) (jV L) (blk L t.val) (G Tb X))
      ⊢ iprop(((freeO d (cV L) (jV L) (slot (k + 1)) ∗ Ow d (cV L) (jV L) O W ∗ bigSep (belowP k) fun t => oP d (cV L) (jV L) (blk L t.val) (G Tb X))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
            (if h : cnd then .op (.waitDma2 (sm h) (src h) (dst h) (hsrc h) (hdst h)) kk else kk ⟨⟩) Q) := by
  unfold outLast
  by_cases h : cnd
  · have hk0 := hc.mp h
    rw [dif_pos h, if_pos hk0]
    iintro ⟨#Hmw, HF, HO, Hob⟩ Hk
    unfold FO
    iapply (wp_wait EC d (cV L) (jV L) (hm h) (show (dst h).view.dmaCredit = (oBlk (blk L (k - 1))).view.dmaCredit by rw [hd h])) $$ [HF HO]
    · isplitr; · iexact Hmw
      isplitl [HF]; · iexact HF
      iexact HO
    iintro ⟨⟨Ho, Hb⟩, Hz, HO⟩
    iapply Hk
    isplitl [Hz Hb]
    · unfold freeO
      isplitl [Hz]; · iexact Hz
      iexact Hb
    isplitl [HO]; · iexact HO
    iapply (Entails.of_eq (show iprop(oP d (cV L) (jV L) (blk L (k - 1)) (G Tb X) ∗ bigSep (belowP (k - 1)) fun t => oP d (cV L) (jV L) (blk L t.val) (G Tb X))
        = (bigSep (belowP k) fun t => oP d (cV L) (jV L) (blk L t.val) (G Tb X) : sProp 𝕄) by
      obtain ⟨k', rfl⟩ : ∃ k', k = k' + 1 := ⟨k - 1, by omega⟩
      rw [behind k' (by omega)]; rfl))
    isplitl [Ho]; · iexact Ho
    iexact Hob
  · have hk0 : k = 0 := Nat.eq_zero_of_not_pos fun h' => h (hc.mpr h')
    subst hk0
    rw [dif_neg h, if_neg (by decide)]
    iintro ⟨-, HF, HO, Hob⟩ Hk
    iapply Hk
    isplitl [HF]; · iexact HF
    isplitl [HO]; · iexact HO
    iexact Hob

end Guarded

/-- A guarded program followed by another is guarded as a whole. -/
theorem bind_dite {E : Type → Type} {β γ : Type} {cnd : Prop} [Decidable cnd] (t : cnd → Prog E β) (e : ¬ cnd → Prog E β) (kk : β → Prog E γ) :
    (dite cnd t e >>= kk) = if h : cnd then t h >>= kk else e h >>= kk := by
  split <;> rfl

/-- The word of the tile's first block. -/
abbrev w4 (L : grid0.Coords) : BitVec 32 := BitVec.ofNat 32 (nb L)

set_option maxHeartbeats 4000000 in
/-- One trip takes the state before it to the state after it. -/
theorem trip (hX : ∀ i, (X i).toNat < 4096) {v4 : BitVec 32} (hv : v4 = w4 L) (k : Fin k0_t1_loop.trips) (acc : BitVec 32 × BitVec 32 × BitVec 32 × BitVec 32 × BitVec 32) :
    Inv EC d L Tb X q O W k.val acc
      ⊢ wp frame (wpE (defs₀ (F := F)) 𝒱₀ (V d (cV L) (jV L)) none) Set.univ
          (k0_t1_body L tV (Memref.isWhole_whole _) iV (Memref.isWhole_whole _) oV (Memref.isWhole_whole _) sI (Memref.isWhole_whole _) cc0_scoped1
            sO (Memref.isWhole_whole _) cc0_scoped3 cc0_scoped4 v4 k acc)
          (Inv EC d L Tb X q O W (k.val + 1)) := by
  subst hv
  have hk : k.val < 8 := trips ▸ k.isLt
  unfold Inv
  iintro ⟨%hacc, #Hmw, HO, HinN, HinF, HoutL, HoutF, Hz, Ht, Hia, Hib, Hoa, Hob⟩
  subst hacc
  sl_respell [k0_t1_body]
  simp only [k0_part1_eq_skeleton, k0_part2_eq_skeleton]; unfold k0_part1_skel k0_part2_skel
  simp only [Prog.lift, Prog.bind_op, Prog.bind_ret, Prog.pure_eq_ret, Prog.bind_assoc, ite_self, bind_dite, SparseCore.waitIndirectGather]
  rw [wp_assume_of 𝒱₀ (V d (cV L) (jV L)) none Set.univ (chk3_at k), wp_assume_of 𝒱₀ (V d (cV L) (jV L)) none Set.univ (chk2_at k), wp_assume_of 𝒱₀ (V d (cV L) (jV L)) none Set.univ (chk1_at L k)]
  iapply (wp_fetch EC d L X k.val hk (cond1_iff L k)
    (fun h => (iBlk_of (nb_lt L _ (by have := (cond1_iff L k).mp h; omega)) (off5_at L k ((cond1_iff L k).mp h))).trans
      (congrArg iBlk (blk_eq L _ (by have := (cond1_iff L k).mp h; omega) _)))
    (fun h => iBank_of (Nat.mod_lt _ (by norm_num)) (off4_at k ((cond1_iff L k).mp h)))
    (fun h => iSem_of (Nat.mod_lt _ (by norm_num)) (off6_at k ((cond1_iff L k).mp h)))) $$ [HinF Hia]
  · isplitl [HinF]; · iexact HinF
    iexact Hia
  iintro ⟨HinN', Hia⟩
  rw [dif_pos (cond2_one L k)]
  ihave HF := (Entails.of_eq (show inNow EC d L X k.val = FI EC d (cV L) (jV L) X (blk L k.val) (slot k.val) from if_pos hk)) $$ HinN
  unfold FI
  iapply (wp_wait EC d (cV L) (jV L) (iSem_of (Nat.mod_lt _ (by norm_num)) (off9_at k))
    (congrArg (fun M : Memref sig .scVector .vmem S1x256 .i32 => M.view.dmaCredit) (iBank_of (Nat.mod_lt _ (by norm_num)) (off7_at k)))) $$ [HF HO]
  · isplitr; · iexact Hmw
    isplitl [HF]; · iexact HF
    iexact HO
  iintro ⟨⟨Hb, Hi⟩, Hzi, HO⟩
  ihave HoutF' := (Entails.of_eq (show freeO d (cV L) (jV L) (slot k.val) = (iprop(z d (cV L) (jV L) (oSem (slot k.val))
    ∗ ∃ f, bO d (cV L) (jV L) (slot k.val) f) : sProp 𝕄) from rfl)) $$ HoutF
  icases HoutF' with ⟨Hzo, Hbo⟩
  iapply (wp_gather EC d (cV L) (jV L) Tb X hX (blk L k.val) (slot k.val) q
    (oBank_of (Nat.mod_lt _ (by norm_num)) (off10_at k)) (iBank_of (Nat.mod_lt _ (by norm_num)) (off11_at k))) $$ [Ht Hbo Hb Hz]
  · isplitl [Ht]; · iexact Ht
    isplitl [Hbo]; · iexact Hbo
    isplitl [Hb]; · iexact Hb
    iexact Hz
  iintro HF
  unfold FG
  iapply (wp_wait EC d (cV L) (jV L) rfl
    (congrArg (fun M : Memref sig .scVector .vmem S256x128 .f32 => M.view.dmaCredit) (oBank_of (Nat.mod_lt _ (by norm_num)) (off10_at k)))) $$ [HF HO]
  · isplitr; · iexact Hmw
    isplitl [HF]; · iexact HF
    iexact HO
  iintro ⟨⟨Hbo, Ht, Hb⟩, Hz, HO⟩
  rw [dif_pos (cond5_one L k)]
  ihave Hoa' := (Entails.of_eq (ahead k.val hk _)) $$ Hoa
  icases Hoa' with ⟨Ho, Hoa⟩
  iapply (wp_copyOut EC d (cV L) (jV L) Tb X (blk L k.val) (slot k.val)
    (oBank_of (Nat.mod_lt _ (by norm_num)) (off12_at k))
    ((oBlk_of (nb_lt L _ hk) (off13_at L k)).trans (congrArg oBlk (blk_eq L _ hk _)))
    (oSem_of (Nat.mod_lt _ (by norm_num)) (off14_at k))) $$ [Hbo Hzo Ho]
  · isplitl [Hbo]; · iexact Hbo
    isplitl [Hzo]; · iexact Hzo
    iexact Ho
  iintro HFo
  iapply (wp_settle EC d L Tb X k.val hk (cond7_iff L k)
    (fun h => (oBlk_of (nb_lt L _ (by omega)) (off16_at L k ((cond7_iff L k).mp h))).trans (congrArg oBlk (blk_eq L _ (by omega) _)))
    (fun h => (oSem_of (Nat.mod_lt _ (by norm_num)) (off17_at k ((cond7_iff L k).mp h))).trans (congrArg oSem (slot_pred _ ((cond7_iff L k).mp h))))) $$ [HoutL HO Hob]
  · isplitr; · iexact Hmw
    isplitl [HoutL]; · iexact HoutL
    isplitl [HO]; · iexact HO
    iexact Hob
  iintro ⟨HoutF, HO, Hob⟩
  rw [wp_ret]; imodintro
  isplitr
  · ipureintro
    clear hk hX
    revert L k
    decide +kernel
  isplitr; · iexact Hmw
  isplitl [HO]; · iexact HO
  isplitl [HinN']; · iexact HinN'
  isplitl [Hzi Hb]
  · rw [slot_add_two]; unfold freeI
    isplitl [Hzi]; · iexact Hzi
    iexact Hb
  isplitl [HFo]
  · unfold outLast
    rw [if_pos (Nat.succ_pos _), slot_add_two]
    iexact HFo
  isplitl [HoutF]; · iexact HoutF
  isplitl [Hz]; · iexact Hz
  isplitl [Ht]; · iexact Ht
  isplitl [Hia]; · iexact Hia
  isplitl [Hi Hib]
  · rw [behind k.val hk]
    isplitl [Hi]; · iexact Hi
    iexact Hib
  isplitl [Hoa]; · iexact Hoa
  iexact Hob

/-- The tile's blocks of the numbers, the table's share, the banks and the cells, and its blocks of the output at `f`. -/
def Held (fo : Fin 256 → sProp (MT nD τ sig (HIx 1) (Elt F) ℕ U ℕ)) : sProp 𝕄 :=
  iprop(freeI d (cV L) (jV L) 0 ∗ freeI d (cV L) (jV L) 1 ∗ freeO d (cV L) (jV L) 0 ∗ freeO d (cV L) (jV L) 1
    ∗ z d (cV L) (jV L) cc0_scoped4.sem ∗ tP d (cV L) (jV L) Tb q
    ∗ (bigSep Finset.univ fun t : Fin 8 => iP d (cV L) (jV L) X (blk L t.val)) ∗ bigSep Finset.univ fun t : Fin 8 => fo (blk L t.val))

set_option maxHeartbeats 4000000 in
include EC in
/-- The tile's task: its eight blocks of the output end at the rows its eight blocks of numbers name. -/
theorem tile (hX : ∀ i, (X i).toNat < 4096) :
    iprop(Transfers.MayWaits (V d (cV L) (jV L)) (none : HIx 1) O ∗ Ow d (cV L) (jV L) O W
        ∗ Held (U := U) d L Tb X q fun n => iprop(∃ f, oP d (cV L) (jV L) n f))
      ⊢ wp frame (wpE (defs₀ (F := F)) 𝒱₀ (V d (cV L) (jV L)) none) Set.univ
          (cc0_gather_kernel L tV (Memref.isWhole_whole _) iV (Memref.isWhole_whole _) oV (Memref.isWhole_whole _)
            sI (Memref.isWhole_whole _) cc0_scoped1 sO (Memref.isWhole_whole _) cc0_scoped3 cc0_scoped4)
          fun _ => iprop(Ow d (cV L) (jV L) O W ∗ Held (U := U) d L Tb X q fun n => oP d (cV L) (jV L) n (G Tb X)) := by
  simp only [cc0_gather_kernel_eq_skeleton]; unfold cc0_gather_kernel_skel
  simp only [k0_part3_eq_skeleton, k0_part4_eq_skeleton]; unfold k0_part3_skel k0_part4_skel
  simp only [Prog.lift, Prog.bind_op, Prog.bind_ret, Prog.pure_eq_ret, Prog.bind_assoc]
  unfold Held
  iintro ⟨#Hmw, HO, HI0, HI1, HO0, HO1, Hz, Ht, Hi, Ho⟩
  ihave Hi' := (Entails.of_eq ((congrArg (fun s => bigSep s fun t : Fin 8 => iP d (cV L) (jV L) X (blk L t.val)) fromP_zero.symm).trans (ahead 0 (by decide) _))) $$ Hi
  icases Hi' with ⟨Hi0, Hia⟩
  iapply (wp_copyIn EC d (cV L) (jV L) X (blk L 0) 0
    ((iBlk_of (nb_lt L 0 (by decide)) (off2_at L)).trans (congrArg iBlk (blk_eq L 0 (by decide) _)))
    (iBank_of (n := 0) (by decide) k0_off1_eq) (iSem_of (n := 0) (by decide) k0_off3_eq)) $$ [HI0 Hi0]
  · isplitl [Hi0]; · iexact Hi0
    iexact HI0
  iintro HF
  sl_for (Inv EC d L Tb X q O W) $$ [HO HF HI1 HO0 HO1 Hz Ht Hia Ho]
  · intro k acc
    refine trip EC d L Tb X q hX ?_ k acc
    revert L; decide +kernel
  · unfold Inv
    isplitr; · ipureintro; decide
    isplitr; · iexact Hmw
    isplitl [HO]; · iexact HO
    isplitl [HF]
    · iapply (Entails.of_eq (show inNow EC d L X 0 = FI EC d (cV L) (jV L) X (blk L 0) 0 from if_pos (by decide)).symm)
      iexact HF
    isplitl [HI1]; · iexact HI1
    isplitl [HO1]
    · iapply (Entails.of_eq (show outLast EC d L Tb X 0 = freeO d (cV L) (jV L) 1 from if_neg (by decide)).symm)
      iexact HO1
    isplitl [HO0]; · iexact HO0
    isplitl [Hz]; · iexact Hz
    isplitl [Ht]; · iexact Ht
    isplitl [Hia]; · iexact Hia
    isplitr
    · rw [belowP_zero, bigSep_empty]; iempintro
    isplitl [Ho]
    · rw [fromP_zero]; iexact Ho
    rw [belowP_zero, bigSep_empty]; iempintro
  iintro %acc HI
  ihave HI' := (Entails.of_eq (show Inv EC d L Tb X q O W (Scf.trips k0_t1_loop.lb k0_t1_loop.ub k0_t1_loop.st) acc = Inv EC d L Tb X q O W 8 acc from
    congrArg (fun n => Inv EC d L Tb X q O W n acc) trips)) $$ HI
  unfold Inv
  icases HI' with ⟨%hacc, -, HO, HI0, HI1, HF, HO0, Hz, Ht, -, Hi, -, Ho⟩
  subst hacc
  sl_respell [tile.sl.prog.cont_1]
  iapply (Entails.of_eq (wp_assume_of 𝒱₀ (V d (cV L) (jV L)) none Set.univ (show k0_chk5 L (accAt 8).2.2.2.2 from chk5_at L)).symm)
  iapply (Entails.of_eq (wp_assume_of 𝒱₀ (V d (cV L) (jV L)) none Set.univ (show k0_chk4 (accAt 8).2.2.2.1 from chk4_at)).symm)
  ihave HF' := (Entails.of_eq (show outLast EC d L Tb X 8 = FO EC d (cV L) (jV L) Tb X (blk L 7) 1 from if_pos (by decide))) $$ HF
  ihave HI0' := (Entails.of_eq (show inNow EC d L X 8 = freeI d (cV L) (jV L) 0 from if_neg (by decide))) $$ HI0
  unfold FO
  iapply (wp_wait EC d (cV L) (jV L) (oSem_of (by norm_num) off20_at)
    (congrArg (fun M : Memref sig .scVector .hbm S256x128 .f32 => M.view.dmaCredit) (oBlk_of (blk L 7).isLt (off19_at L)))) $$ [HF' HO]
  · isplitr; · iexact Hmw
    isplitl [HF']; · iexact HF'
    iexact HO
  iintro ⟨⟨Hlast, Hb⟩, Hzo, HO⟩
  rw [wp_ret]
  imodintro
  isplitl [HO]; · iexact HO
  isplitl [HI0']; · iexact HI0'
  isplitl [HI1]; · iexact HI1
  isplitl [HO0]; · iexact HO0
  isplitl [Hzo Hb]
  · unfold freeO
    isplitl [Hzo]; · iexact Hzo
    iexact Hb
  isplitl [Hz]; · iexact Hz
  isplitl [Ht]; · iexact Ht
  isplitl [Hi]
  · rw [belowP_eight]; iexact Hi
  rw [← belowP_eight, behind 7 (by norm_num)]
  isplitl [Hlast]; · iexact Hlast
  iexact Ho

end Cert.Proof.Gather

end
-- ==== Proof.Pieces.lean ====
/-
  How the arrays and the scratch split among the tiles: the row numbers and the output into their 256 blocks, eight in a row for
  each of the 32 tiles; the table into 32 read shares; a tile's two scratch buffers into their banks.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

/-! ## The blocks as parts of their arrays -/

theorem idiv : 256 ∣ S1x65536.size 1 := ⟨256, rfl⟩
theorem odiv : 256 ∣ S65536x128.size 0 := ⟨256, rfl⟩
theorem bIdiv : 2 ∣ S2x1x256.size 0 := ⟨1, rfl⟩
theorem bOdiv : 2 ∣ S2x256x128.size 0 := ⟨1, rfl⟩

theorem iBlk_set (n : Fin 256) : (iBlk n).view.set = (Rect.part (s := S1x65536) (a₀ := 1) idiv n).set := by
  show ((View.whole (main_v15_scv : Ref sig .scVector)).slice _).set = _
  rw [View.set_slice, show (Rect.unit (s := S1x65536) ![0, 256 * n.val] S1x256.size (iBlk_inb n)).set = (Rect.part (s := S1x65536) (a₀ := 1) idiv n).set from ?_]
  · exact Finset.map_refl
  refine congrArg (fun r : Rect S1x65536 => r.set) ?_
  unfold Rect.part Rect.block
  congr 1 <;> funext a
  · match a with
    | 0 => simp [Shape.partIx, Shape.partSize]
    | 1 => simp [Shape.partIx, Shape.partSize, Nat.mul_comm]
  · match a with
    | 0 => simp [Shape.partSize]
    | 1 => simp [Shape.partSize]

theorem oBlk_set (n : Fin 256) : (oBlk n).view.set = (Rect.part (s := S65536x128) (a₀ := 0) odiv n).set := by
  show ((View.whole (main_v16_scv : Ref sig .scVector)).slice _).set = _
  rw [View.set_slice, show (Rect.unit (s := S65536x128) ![256 * n.val, 0] S256x128.size (oBlk_inb n)).set = (Rect.part (s := S65536x128) (a₀ := 0) odiv n).set from ?_]
  · exact Finset.map_refl
  refine congrArg (fun r : Rect S65536x128 => r.set) ?_
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem iBank_set (b : Fin 2) : (iBank b).view.set = (Rect.part (s := S2x1x256) (a₀ := 0) bIdiv b).set := by
  show (((View.whole (cc0_scoped0 : Ref sig .scVector)).slice (Rect.unit (s := S2x1x256) ![b.val, 0, 0] S1x1x256.size (iBank_inb b))).reshape S1x256
    squeezes_S1x1x256_S1x256.numel_eq).set = _
  rw [View.set_reshape, View.set_slice,
    show (Rect.unit (s := S2x1x256) ![b.val, 0, 0] S1x1x256.size (iBank_inb b)).set = (Rect.part (s := S2x1x256) (a₀ := 0) bIdiv b).set from ?_]
  · exact Finset.map_refl
  refine congrArg (fun r : Rect S2x1x256 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem oBank_set (b : Fin 2) : (oBank b).view.set = (Rect.part (s := S2x256x128) (a₀ := 0) bOdiv b).set := by
  show (((View.whole (cc0_scoped2 : Ref sig .scVector)).slice (Rect.unit (s := S2x256x128) ![b.val, 0, 0] S1x256x128.size (oBank_inb b))).reshape S256x128
    squeezes_S1x256x128_S256x128.numel_eq).set = _
  rw [View.set_reshape, View.set_slice,
    show (Rect.unit (s := S2x256x128) ![b.val, 0, 0] S1x256x128.size (oBank_inb b)).set = (Rect.part (s := S2x256x128) (a₀ := 0) bOdiv b).set from ?_]
  · exact Finset.map_refl
  refine congrArg (fun r : Rect S2x256x128 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem tAll_set : tAll.view.set = Finset.univ := by
  show ((View.whole (main_v12_scv : Ref sig .scVector)).slice (Rect.unit (s := S4096x128) ![0, 0] S4096x128.size inb_S4096x128_S4096x128_0_0)).set = _
  rw [View.set_slice, show (Rect.unit (s := S4096x128) ![0, 0] S4096x128.size inb_S4096x128_S4096x128_0_0).set = Finset.univ from ?_]
  · exact Finset.map_refl
  · ext y
    simp only [Finset.mem_univ, iff_true]
    rw [Rect.mem_set_unit]
    intro a
    match a with
    | 0 => exact ⟨Nat.zero_le _, (Nat.zero_add _).symm ▸ (y 0).isLt⟩
    | 1 => exact ⟨Nat.zero_le _, (Nat.zero_add _).symm ▸ (y 1).isLt⟩

/-! ## The arrays, whole and in pieces -/

variable (d : Dev nD)

abbrev tLoc (d : Dev nD) : Loc nD τ sig := (SparseCore.T d).loc main_v12
abbrev iLoc (d : Dev nD) : Loc nD τ sig := (SparseCore.T d).loc main_v15
abbrev oLoc (d : Dev nD) : Loc nD τ sig := (SparseCore.T d).loc main_v16

/-- The numbers are their 256 blocks. -/
theorem iWhole (X : S1x65536.Idx → Elt F .i32) :
    (iLoc d ↦{fullShare} X : sProp 𝕄) = bigSep Finset.univ fun n : Fin 256 => iLoc d ↦[(iBlk n).view.set]{fullShare} X := by
  have h : ∀ i ∈ (Finset.univ : Finset (Fin 256)), ∀ j ∈ (Finset.univ : Finset (Fin 256)), i ≠ j → Disjoint (iBlk i).view.set (iBlk j).view.set :=
    fun i _ j _ e => by rw [iBlk_set, iBlk_set]; exact Rect.part_disjoint idiv e
  have hc : (Finset.univ : Finset (Fin 256)).biUnion (fun n => (iBlk n).view.set) = Finset.univ :=
    (Finset.biUnion_congr rfl fun i _ => iBlk_set i).trans (Rect.biUnion_part idiv)
  rw [← pointsTo_biUnion Finset.univ (ℓ := iLoc d) (fun n => (iBlk n).view.set) h, hc]

/-- The output is its 256 blocks. -/
theorem oWhole (f : S65536x128.Idx → Elt F .f32) :
    (oLoc d ↦{fullShare} f : sProp 𝕄) = bigSep Finset.univ fun n : Fin 256 => oLoc d ↦[(oBlk n).view.set]{fullShare} f := by
  have h : ∀ i ∈ (Finset.univ : Finset (Fin 256)), ∀ j ∈ (Finset.univ : Finset (Fin 256)), i ≠ j → Disjoint (oBlk i).view.set (oBlk j).view.set :=
    fun i _ j _ e => by rw [oBlk_set, oBlk_set]; exact Rect.part_disjoint odiv e
  have hc : (Finset.univ : Finset (Fin 256)).biUnion (fun n => (oBlk n).view.set) = Finset.univ :=
    (Finset.biUnion_congr rfl fun i _ => oBlk_set i).trans (Rect.biUnion_part odiv)
  rw [← pointsTo_biUnion Finset.univ (ℓ := oLoc d) (fun n => (oBlk n).view.set) h, hc]

/-- Tile `k`'s share of the table, of the 32. -/
def sh (k : Fin 32) : PosShare TreeShare := Transfers.dealOf fullShare Finset.univ k

/-- The table is its 32 shares. -/
theorem tWhole (Tb : S4096x128.Idx → Elt F .f32) :
    (tLoc d ↦{fullShare} Tb : sProp 𝕄) = bigSep Finset.univ fun k : Fin 32 => tLoc d ↦[tAll.view.set]{sh k} Tb := by
  rw [tAll_set]
  exact Transfers.pointsTo_deal (ℓ := tLoc d) (S := Finset.univ) (f := Tb) Finset.univ Finset.univ_nonempty fullShare

/-! ## By tile -/

/-- The point of the grid of core `c`'s tile `s`. -/
def at_ (c : Fin 2) (s : Fin 16) : grid0.Coords :=
  fun | 0 => c | 1 => s | ⟨_ + 2, h⟩ => absurd h (Nat.not_lt.2 (Nat.le_add_left _ _))

/-- A tile's number, of the 32. -/
def num (L : grid0.Coords) : Fin 32 := ⟨16 * (L 0).val + (L 1).val, by
  have h0 : (L 0).val < 2 := (L 0).isLt
  have h1 : (L 1).val < 16 := (L 1).isLt
  omega⟩

theorem by_tile (Φ : Fin 32 → sProp 𝕄) :
    bigSep Finset.univ Φ = bigSep Finset.univ fun c : Fin 2 => bigSep Finset.univ fun s : Fin 16 => Φ (num (at_ c s)) := by
  rw [bigSep_univ_equiv (finProdFinEquiv : Fin 2 × Fin 16 ≃ Fin 32) Φ, bigSep_univ_prod]
  refine bigSep_congr fun c _ => bigSep_congr fun s _ => congrArg Φ (Fin.ext ?_)
  show s.val + 16 * c.val = 16 * c.val + s.val
  omega

theorem by_block (Φ : Fin 256 → sProp 𝕄) :
    bigSep Finset.univ Φ = bigSep Finset.univ fun c : Fin 2 => bigSep Finset.univ fun s : Fin 16 => bigSep Finset.univ fun t : Fin 8 =>
      Φ (blk (at_ c s) t.val) := by
  rw [bigSep_univ_equiv (finProdFinEquiv : Fin 32 × Fin 8 ≃ Fin 256) Φ, bigSep_univ_prod,
    by_tile fun k => bigSep Finset.univ fun t : Fin 8 => Φ (finProdFinEquiv (k, t))]
  refine bigSep_congr fun c _ => bigSep_congr fun s _ => bigSep_congr fun t _ => congrArg Φ (Fin.ext ?_)
  show t.val + 8 * (16 * c.val + s.val) = 8 * (s.val + 16 * c.val) + t.val % 8
  have := t.isLt
  omega

/-- What the call hands tile `L`: its share of the table, its blocks of the numbers, its blocks of the output at `fo`. -/
def Brought (Tb : S4096x128.Idx → Elt F .f32) (X : S1x65536.Idx → Elt F .i32) (fo : Fin 256 → sProp (MT nD τ sig (HIx 1) (Elt F) ℕ U ℕ)) (L : grid0.Coords) : sProp 𝕄 :=
  iprop((tLoc d ↦[tAll.view.set]{sh (num L)} Tb) ∗ (bigSep Finset.univ fun t : Fin 8 => iLoc d ↦[(iBlk (blk L t.val)).view.set]{fullShare} X)
    ∗ bigSep Finset.univ fun t : Fin 8 => fo (blk L t.val))

/-- The arrays whole are what the 32 tiles are handed together. -/
theorem dealt (Tb : S4096x128.Idx → Elt F .f32) (X : S1x65536.Idx → Elt F .i32) (fo : Fin 256 → sProp (MT nD τ sig (HIx 1) (Elt F) ℕ U ℕ)) :
    (bigSep Finset.univ fun c : Fin 2 => bigSep Finset.univ fun s : Fin 16 => Brought d Tb X fo (at_ c s))
      = iprop((tLoc d ↦{fullShare} Tb) ∗ (iLoc d ↦{fullShare} X) ∗ bigSep Finset.univ fo) := by
  rw [tWhole, iWhole, by_tile, by_block, by_block fo]
  unfold Brought
  simp only [bigSep_sep']

/-! ## A tile's scratch -/

variable (c : Fin τ.nSC) (j : Fin τ.nSub)

/-- The staged numbers are their two banks. -/
theorem banksI : (iprop(∃ f, (V d c j).loc cc0_scoped0 ↦{fullShare} f) : sProp 𝕄)
    ⊣⊢ iprop((∃ f, bI (F := F) d c j 0 f) ∗ ∃ f, bI (F := F) d c j 1 f) := by
  have hd : Disjoint (iBank 0).view.set (iBank 1).view.set := by rw [iBank_set, iBank_set]; exact Rect.part_disjoint bIdiv (by decide)
  have hu : (iBank 0).view.set ∪ (iBank 1).view.set = Finset.univ := by
    rw [iBank_set, iBank_set, ← Rect.biUnion_part bIdiv]; ext x; simp [Fin.exists_fin_two]
  constructor
  · iintro ⟨%f, H⟩
    ihave H' := ((Entails.of_eq (by rw [← hu])).trans (pointsTo_union (ℓ := (V d c j).loc cc0_scoped0) (q := fullShare) (f := f) hd).1) $$ H
    icases H' with ⟨H0, H1⟩
    isplitl [H0]; · iexists f; iexact H0
    iexists f; iexact H1
  · iintro ⟨⟨%f, H0⟩, ⟨%g, H1⟩⟩
    ihave H := ((pointsTo_join (ℓ := (V d c j).loc cc0_scoped0) (q := fullShare) (f := f) (g := g) hd).trans (Entails.of_eq (by rw [hu]))) $$ [H0 H1]
    · isplitl [H0]; · iexact H0
      iexact H1
    iexists _; iexact H

/-- The staged rows are their two banks. -/
theorem banksO : (iprop(∃ f, (V d c j).loc cc0_scoped2 ↦{fullShare} f) : sProp 𝕄)
    ⊣⊢ iprop((∃ f, bO (F := F) d c j 0 f) ∗ ∃ f, bO (F := F) d c j 1 f) := by
  have hd : Disjoint (oBank 0).view.set (oBank 1).view.set := by rw [oBank_set, oBank_set]; exact Rect.part_disjoint bOdiv (by decide)
  have hu : (oBank 0).view.set ∪ (oBank 1).view.set = Finset.univ := by
    rw [oBank_set, oBank_set, ← Rect.biUnion_part bOdiv]; ext x; simp [Fin.exists_fin_two]
  constructor
  · iintro ⟨%f, H⟩
    ihave H' := ((Entails.of_eq (by rw [← hu])).trans (pointsTo_union (ℓ := (V d c j).loc cc0_scoped2) (q := fullShare) (f := f) hd).1) $$ H
    icases H' with ⟨H0, H1⟩
    isplitl [H0]; · iexists f; iexact H0
    iexists f; iexact H1
  · iintro ⟨⟨%f, H0⟩, ⟨%g, H1⟩⟩
    ihave H := ((pointsTo_join (ℓ := (V d c j).loc cc0_scoped2) (q := fullShare) (f := f) (g := g) hd).trans (Entails.of_eq (by rw [hu]))) $$ [H0 H1]
    · isplitl [H0]; · iexact H0
      iexact H1
    iexists _; iexact H

/-! ## A tile's own buffers and semaphores -/

theorem ownBufs_V :
    (ownBufs (V d c j) : sProp 𝕄)
      = iprop((∃ f, (V d c j).loc cc0_scoped0 ↦{fullShare} f) ∗ (∃ f, (V d c j).loc cc0_scoped2 ↦{fullShare} f)
          ∗ bigSep (((ownRefs (τ := τ) (.scVector c j)).erase ((Proc.scVector c j).devRef cc0_scoped0)).erase ((Proc.scVector c j).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector c j) (b := (Proc.scVector c j).devRef cc0_scoped2) rfl⟩)]

/-- The five DMA semaphores of the task. -/
def semAt : Fin 5 → DmaSem sig := ![iSem 0, iSem 1, oSem 0, oSem 1, cc0_scoped4.sem]
theorem semAt_inj : Function.Injective semAt := by decide +kernel
theorem semAt_scoped : ∀ k, (SemLoc.dma (semAt k) : SemLoc sig).isScoped .scVector = true := by decide +kernel

/-- Its cells. -/
def cellAt (k : Fin 5) : GSem nD τ sig := (V d c j, .dma (semAt k))
theorem cellAt_inj : Function.Injective (cellAt d c j) := fun k k' e => semAt_inj (SemLoc.dma.inj (Prod.mk.inj e).2)

theorem ownSems0_V :
    (ownSems0 (V d c j) : sProp 𝕄)
      = iprop((z (F := F) d c j (iSem 0) ∗ z (F := F) d c j (iSem 1) ∗ z (F := F) d c j (oSem 0) ∗ z (F := F) d c j (oSem 1) ∗ z (F := F) d c j cc0_scoped4.sem)
          ∗ bigSep (ownCells (V d c j) \ Finset.univ.map ⟨cellAt d c j, cellAt_inj d c j⟩) fun g => semVal g 0) := by
  unfold SparseCore.Cfg.ownSems0
  have hs : Finset.univ.map ⟨cellAt d c j, cellAt_inj d c j⟩ ⊆ ownCells (V d c j) := fun g hg => by
    obtain ⟨k, -, rfl⟩ := Finset.mem_map.mp hg
    exact mem_ownCells.mpr ⟨rfl, semAt_scoped k⟩
  rw [← Finset.union_sdiff_of_subset hs, bigSep_union Finset.disjoint_sdiff, bigSep_map, Finset.union_sdiff_of_subset hs]
  congr 1
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

end Cert.Proof.Gather

end
-- ==== Proof.Host.lean ====
/-
  The host code around the two calls: the operations before the gather (the mask, the padded weights, the table and the
  numbers) and the two between it and the projection, each run as one straight line, and the contents of the buffers the calls
  read as functions of the arguments.
-/
module

public import proofs.«01_k».proof.Proof.Proj
public import proofs.«01_k».proof.Proof.Pieces
public import Idealize.ShloMosaic.Lib.StableHlo.Run

@[expose] public section

noncomputable section

namespace Cert.Proof.Host

open Cert.KernelIdeal Cert.KernelIdeal.Gen
open Idealize.ShloMosaic Idealize.ShloMosaic.StableHlo Idealize.ShloMosaic.TcCoe
open Idealize.SL.Sem

variable {F : FTy → Type} [FloatOps F]

/-! ## The two straight lines -/

/-- The mask, the padded weights, the table and the numbers. -/
def pre : List (HloOp τ sig (Elt F)) :=
  [nullary main_v0 (iotaInDim S2048 32 0),
   unary main_v0 main_v1 (broadcastInDim S1x2048 ![1] bcast_S2048_S1x2048_1 : (⟨S2048, .i32⟩ : BufTy).Contents (Elt F) → (⟨S1x2048, .i32⟩ : BufTy).Contents (Elt F)),
   unary main_arg3 main_v2 (broadcastInDim S2x1 ![0] bcast_S2_S2x1_0 : (⟨S2, .i32⟩ : BufTy).Contents (Elt F) → (⟨S2x1, .i32⟩ : BufTy).Contents (Elt F)),
   unary main_v1 main_v3 (broadcastInDim S2x2048 ![0, 1] bcast_S1x2048_S2x2048_0_1 : (⟨S1x2048, .i32⟩ : BufTy).Contents (Elt F) → (⟨S2x2048, .i32⟩ : BufTy).Contents (Elt F)),
   unary main_v2 main_v4 (broadcastInDim S2x2048 ![0, 1] bcast_S2x1_S2x2048_0_1 : (⟨S2x1, .i32⟩ : BufTy).Contents (Elt F) → (⟨S2x2048, .i32⟩ : BufTy).Contents (Elt F)),
   binary main_v3 main_v4 main_v5 (cmpi .slt : (⟨S2x2048, .i32⟩ : BufTy).Contents (Elt F) → (⟨S2x2048, .i32⟩ : BufTy).Contents (Elt F) → (⟨S2x2048, .i1⟩ : BufTy).Contents (Elt F)),
   binary main_arg2 main_v5 main_v6 (andi : (⟨S2x2048, .i1⟩ : BufTy).Contents (Elt F) → (⟨S2x2048, .i1⟩ : BufTy).Contents (Elt F) → (⟨S2x2048, .i1⟩ : BufTy).Contents (Elt F)),
   unary main_v6 main_v7 (uitofp .f32 : (⟨S2x2048, .i1⟩ : BufTy).Contents (Elt F) → (⟨S2x2048, .f32⟩ : BufTy).Contents (Elt F)),
   reshape main_v7 main_v8 (rfl : (.f32 : EltTy) = .f32) shapeCasts_S2x2048_S2x2048x1,
   reshape main_arg4 main_v9 (rfl : (.f32 : EltTy) = .f32) shapeCasts_S1024x1024_S16x64x1024,
   nullary main_c (constantI S_ 32 0#32),
   TRef.unary (TRef.of (T := ⟨S_, .i32⟩) main_c) (TRef.of (T := ⟨S_, .f32⟩) main_call0_v0) (sitofp .f32),
   TRef.binary (TRef.of (T := ⟨S16x64x1024, .f32⟩) main_v9) (TRef.of (T := ⟨S_, .f32⟩) main_call0_v0) (TRef.of (T := ⟨S16x128x1024, .f32⟩) main_v10)
     (fun x v => pad S16x128x1024 ![0, 0, 0] ![0, 64, 0] ![0, 0, 0] x v pads_S16x64x1024_S16x128x1024_000_0640_000 h_S_),
   reshape main_v10 main_v11 (rfl : (.f32 : EltTy) = .f32) shapeCasts_S16x128x1024_S2048x1024,
   reshape main_arg0 main_v12 (rfl : (.f32 : EltTy) = .f32) shapeCasts_S2x16x128x128_S4096x128,
   reshape main_arg1 main_v13 (rfl : (.i32 : EltTy) = .i32) shapeCasts_S2x16x1x2048_S2x16x2048,
   unary main_v13 main_v14 ((transpose S2x2048x16 [0, 2, 1] · transposes_S2x16x2048_S2x2048x16_0_2_1) : (⟨S2x16x2048, .i32⟩ : BufTy).Contents (Elt F) → (⟨S2x2048x16, .i32⟩ : BufTy).Contents (Elt F)),
   reshape main_v14 main_v15 (rfl : (.i32 : EltTy) = .i32) shapeCasts_S2x2048x16_S1x65536]

/-- The gathered rows regrouped and the bias as a row. -/
def mid : List (HloOp τ sig (Elt F)) :=
  [reshape main_v16 main_v17 (rfl : (.f32 : EltTy) = .f32) shapeCasts_S65536x128_S2x2048x2048,
   reshape main_arg5 main_v18 (rfl : (.f32 : EltTy) = .f32) shapeCasts_S1024_S1x1024]

set_option maxRecDepth 8192 in
/-- @main is the first line, the gather, the second line, the projection. -/
theorem main_eq (d : Dev nD) : main (F := F) d
    = (seq pre >>= fun _ => (sc (F := F)).run d 0 >>= fun _ => seq mid >>= fun _ =>
        Prog.lift (.customCall (SparseCore.inner (Pipeline.entry 0)) ())) := rfl

theorem pre_fresh : ∀ op ∈ pre (F := F), op.fresh = ∅ := by
  unfold pre; intro _ h; (repeat (cases h with | head => rfl | tail _ h => ?_)); exact nomatch h
theorem mid_fresh : ∀ op ∈ mid (F := F), op.fresh = ∅ := by
  unfold mid; intro _ h; (repeat (cases h with | head => rfl | tail _ h => ?_)); exact nomatch h

theorem pre_bufs : ∀ op ∈ pre (F := F), op.bufs ⊆ Pipeline.ucRefs τ sig := by
  refine List.forall_iff_forall_mem.1 (show (pre (F := F)).Forall _ from ?_)
  unfold pre
  exact ⟨Pipeline.sub_ucRefs _ (nullary_bufs_sub ..), Pipeline.sub_ucRefs _ (unary_bufs_sub ..), Pipeline.sub_ucRefs _ (unary_bufs_sub ..),
    Pipeline.sub_ucRefs _ (unary_bufs_sub ..), Pipeline.sub_ucRefs _ (unary_bufs_sub ..), Pipeline.sub_ucRefs _ (binary_bufs_sub ..),
    Pipeline.sub_ucRefs _ (binary_bufs_sub ..), Pipeline.sub_ucRefs _ (unary_bufs_sub ..), Pipeline.sub_ucRefs _ (reshape_bufs_sub ..),
    Pipeline.sub_ucRefs _ (reshape_bufs_sub ..), Pipeline.sub_ucRefs _ (nullary_bufs_sub ..), Pipeline.sub_ucRefs _ (unary_bufs_sub ..),
    Pipeline.sub_ucRefs _ (binary_bufs_sub ..), Pipeline.sub_ucRefs _ (reshape_bufs_sub ..), Pipeline.sub_ucRefs _ (reshape_bufs_sub ..),
    Pipeline.sub_ucRefs _ (reshape_bufs_sub ..), Pipeline.sub_ucRefs _ (unary_bufs_sub ..), Pipeline.sub_ucRefs _ (reshape_bufs_sub ..)⟩
theorem mid_bufs : ∀ op ∈ mid (F := F), op.bufs ⊆ Pipeline.ucRefs τ sig := by
  refine List.forall_iff_forall_mem.1 (show (mid (F := F)).Forall _ from ?_)
  unfold mid
  exact ⟨Pipeline.sub_ucRefs _ (reshape_bufs_sub ..), Pipeline.sub_ucRefs _ (reshape_bufs_sub ..)⟩

/-! ## The contents -/

variable (m : (ℓ : Loc nD τ sig) → Buf (Elt F) ℓ)

/-- The buffers when the gather is started, -/
def V₁ (d : Dev nD) : Valuation τ sig (Elt F) := after pre (launchContents m d)
/-- the table and the numbers it is given, -/
def Tb (d : Dev nD) : S4096x128.Idx → Elt F .f32 := V₁ m d (Proc.devRef .tc main_v12)
def Xs (d : Dev nD) : S1x65536.Idx → Elt F .i32 := V₁ m d (Proc.devRef .tc main_v15)
/-- the buffers when it is done, -/
def V₂ (d : Dev nD) : Valuation τ sig (Elt F) :=
  Function.update (V₁ m d) (Proc.devRef .tc main_v16) (Gather.G (Tb m d) (Xs m d))
/-- and when the projection is entered. -/
def V₃ (d : Dev nD) : Valuation τ sig (Elt F) := after mid (V₂ m d)

theorem V₂_other (d : Dev nD) (b : DevRef τ sig) (h : b ≠ Proc.devRef .tc main_v16) : V₂ m d b = V₁ m d b := Function.update_of_ne h _ _
theorem V₂_rows (d : Dev nD) : V₂ m d (Proc.devRef .tc main_v16) = Gather.G (Tb m d) (Xs m d) := Function.update_self _ _ _

/-- What the two lines write. -/
def preW : List (Ref sig .tc) := [main_v0, main_v1, main_v2, main_v3, main_v4, main_v5, main_v6, main_v7, main_v8, main_v9, main_c, main_call0_v0, main_v10,
  main_v11, main_v12, main_v13, main_v14, main_v15]
def midW : List (Ref sig .tc) := [main_v17, main_v18]

theorem V₁_unwritten (d : Dev nD) (r : Ref sig .tc) (h : r ∉ preW) : V₁ m d (Proc.devRef .tc r) = m (d, Proc.devRef .tc r) :=
  after_of_writes_sub (W := preW) _ _ (forall_writes_sub_of_map rfl) h
theorem V₃_unwritten (d : Dev nD) (r : Ref sig .tc) (h : r ∉ midW) : V₃ m d (Proc.devRef .tc r) = V₂ m d (Proc.devRef .tc r) :=
  after_of_writes_sub (W := midW) _ _ (forall_writes_sub_of_map rfl) h

/-- The mask as the projection reads it: one where the mask given is set and the place is below the length, as a column. -/
theorem V₁_mask (d : Dev nD) : V₁ m d (Proc.devRef .tc main_v8)
    = shapeCast S2x2048x1 (uitofp .f32 (andi (m (d, Proc.devRef .tc main_arg2)) (cmpi .slt
        (broadcastInDim S2x2048 ![0, 1] bcast_S1x2048_S2x2048_0_1 (broadcastInDim S1x2048 ![1] bcast_S2048_S1x2048_1 (iotaInDim S2048 32 0)))
        (broadcastInDim S2x2048 ![0, 1] bcast_S2x1_S2x2048_0_1 (broadcastInDim S2x1 ![0] bcast_S2_S2x1_0 (m (d, Proc.devRef .tc main_arg3))))))) shapeCasts_S2x2048_S2x2048x1 := by
  unfold V₁
  simp only [pre, TRef.binary, TRef.nullary, TRef.ternary, TRef.unary, TRef.toBuf, TRef.ofBuf, cast_eq]
  after_results_simp <;> rfl

/-- The weights as the projection reads them: each group of 64 rows followed by 64 rows of zero. -/
theorem V₁_weights (d : Dev nD) : V₁ m d (Proc.devRef .tc main_v11)
    = shapeCast S2048x1024 (pad S16x128x1024 ![0, 0, 0] ![0, 64, 0] ![0, 0, 0]
        (shapeCast S16x64x1024 (m (d, Proc.devRef .tc main_arg4)) shapeCasts_S1024x1024_S16x64x1024) (sitofp .f32 (constantI S_ 32 0#32))
        pads_S16x64x1024_S16x128x1024_000_0640_000 h_S_) shapeCasts_S16x128x1024_S2048x1024 := by
  unfold V₁
  simp only [pre, TRef.binary, TRef.nullary, TRef.ternary, TRef.unary, TRef.toBuf, TRef.ofBuf, cast_eq]
  after_results_simp <;> rfl

theorem Tb_eq (d : Dev nD) : Tb m d = shapeCast S4096x128 (m (d, Proc.devRef .tc main_arg0)) shapeCasts_S2x16x128x128_S4096x128 := by
  unfold Tb V₁
  simp only [pre, TRef.binary, TRef.nullary, TRef.ternary, TRef.unary, TRef.toBuf, TRef.ofBuf, cast_eq]
  after_results_simp <;> rfl

theorem Xs_eq (d : Dev nD) : Xs m d = shapeCast S1x65536 (transpose S2x2048x16 [0, 2, 1]
    (shapeCast S2x16x2048 (m (d, Proc.devRef .tc main_arg1)) shapeCasts_S2x16x1x2048_S2x16x2048) transposes_S2x16x2048_S2x2048x16_0_2_1) shapeCasts_S2x2048x16_S1x65536 := by
  unfold Xs V₁
  simp only [pre, TRef.binary, TRef.nullary, TRef.ternary, TRef.unary, TRef.toBuf, TRef.ofBuf, cast_eq]
  after_results_simp <;> rfl

/-- The gathered rows as the projection reads them: sixteen rows of 128 side by side for each place. -/
theorem V₃_rows (d : Dev nD) : V₃ m d (Proc.devRef .tc main_v17)
    = shapeCast S2x2048x2048 (Gather.G (Tb m d) (Xs m d)) shapeCasts_S65536x128_S2x2048x2048 := by
  rw [← V₂_rows m d]
  unfold V₃
  simp only [mid, TRef.binary, TRef.nullary, TRef.ternary, TRef.unary, TRef.toBuf, TRef.ofBuf, cast_eq]
  after_results_simp <;> rfl

theorem V₃_bias (d : Dev nD) : V₃ m d (Proc.devRef .tc main_v18)
    = shapeCast S1x1024 (m (d, Proc.devRef .tc main_arg5)) shapeCasts_S1024_S1x1024 := by
  rw [← V₁_unwritten m d main_arg5 (by decide), ← V₂_other m d (Proc.devRef .tc main_arg5) (by decide)]
  unfold V₃
  simp only [mid, TRef.binary, TRef.nullary, TRef.ternary, TRef.unary, TRef.toBuf, TRef.ofBuf, cast_eq]
  after_results_simp <;> rfl

theorem V₃_mask (d : Dev nD) : V₃ m d (Proc.devRef .tc main_v8) = V₁ m d (Proc.devRef .tc main_v8) :=
  (V₃_unwritten m d main_v8 (by decide)).trans (V₂_other m d _ (by decide))
theorem V₃_weights (d : Dev nD) : V₃ m d (Proc.devRef .tc main_v11) = V₁ m d (Proc.devRef .tc main_v11) :=
  (V₃_unwritten m d main_v11 (by decide)).trans (V₂_other m d _ (by decide))

end Cert.Proof.Host

end
-- ==== Proof.Run.lean ====
/-
  The run of the whole program: the host's first line, then the gather, which hands each of its 32 tiles a share of the table, its
  eight blocks of the numbers and its eight blocks of the output, and gets them back with the output at the rows the numbers name,
  then the host's second line and the projection. It ends with the arguments unchanged, the result's array as the projection leaves
  it and every semaphore back at zero.
-/
module

public import proofs.«01_k».proof.Defs
public import proofs.«01_k».proof.Proof.Host
public import Idealize.ShloMosaic.Lib.StableHlo.Run
public import Idealize.ShloMosaic.Lib.Pipeline.Kit

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The projection's staging cells keep their rounds in the middle factor. -/
def EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

variable (m : (ℓ : Loc nD τ sig) → Buf (Elt F) ℓ) (ρ : Dev nD → PrngReg)

open Cert.Proof.Host (Tb Xs V₁ V₂ V₃)

/-- Every number names a row of the table. -/
def InRows : Prop := ∀ (d : Dev nD) (i : S1x65536.Idx), (Xs m d i).toNat < 4096

/-! ## What the handshakes carry -/

/-- A tile's part before its task: its blocks of the output at some contents. -/
abbrev before (d : Dev nD) (L : grid0.Coords) : sProp 𝕄 :=
  Brought d (Tb m d) (Xs m d) (fun n => iprop(∃ f, oLoc d ↦[(oBlk n).view.set]{fullShare} f)) L
/-- And after it: its blocks of the output at the rows its numbers name. -/
abbrev after (d : Dev nD) (L : grid0.Coords) : sProp 𝕄 :=
  Brought d (Tb m d) (Xs m d) (fun n => oLoc d ↦[(oBlk n).view.set]{fullShare} G (Tb m d) (Xs m d)) L

def P : (K (F := F)).Pay (nD := nD) (Val := Elt F) (Name := ℕ) (U := UU) where
  st := fun q d c => match q with | 0 => bigSep Finset.univ fun i : Fin 16 => before m d (at_ c i)
  dn := fun q d c => match q with | 0 => bigSep Finset.univ fun i : Fin 16 => after m d (at_ c i)
  go := fun q d c i => match q with | 0 => before m d (at_ c i)
  td := fun q d c i => match q with | 0 => after m d (at_ c i)
  x := fun _ _ => iprop(emp)

instance before_storable (d : Dev nD) (L : grid0.Coords) : BI.Storable (upEmb : UEmb _ 𝕄) (before m d L) := by
  unfold before Brought; infer_instance
instance after_storable (d : Dev nD) (L : grid0.Coords) : BI.Storable (upEmb : UEmb _ 𝕄) (after m d L) := by
  unfold after Brought; infer_instance

instance P_storable : (P (F := F) m).IsStorable where
  st q d c := match q with | 0 => (inferInstance : BI.Storable (upEmb : UEmb _ 𝕄) (bigSep Finset.univ fun i : Fin 16 => before m d (at_ c i)))
  dn q d c := match q with | 0 => (inferInstance : BI.Storable (upEmb : UEmb _ 𝕄) (bigSep Finset.univ fun i : Fin 16 => after m d (at_ c i)))
  go q d c i := match q with | 0 => (inferInstance : BI.Storable (upEmb : UEmb _ 𝕄) (before m d (at_ c i)))
  td q d c i := match q with | 0 => (inferInstance : BI.Storable (upEmb : UEmb _ 𝕄) (after m d (at_ c i)))

/-! ## The task -/

section Tile

variable (d : Dev nD) (L : grid0.Coords)

theorem tile_body (hF : (K (F := F)).Facts) (hpre : InRows m) (O : CellTallies nD τ sig (HIx 1)) (W : Waits sig (HIx 1)) (hO : ∀ g, O g none = 0) :
    iprop(levAts (K (F := F)).L (K (F := F)).lev ∗ emp ∗ before m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            sI (Memref.isWhole_whole _) cc0_scoped1 sO (Memref.isWhole_whole _) cc0_scoped3 cc0_scoped4)
          fun _ => iprop(after m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold before after Brought
  iintro ⟨#Hlv, -, ⟨Ht, Hi, Ho⟩, ⟨HsI, HsO, Hbufs⟩, ⟨⟨Hz0, Hz1, Hz2, Hz3, Hz4⟩, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave HsI' := (banksI d (cV L) (jV L)).1 $$ HsI
  icases HsI' with ⟨HI0, HI1⟩
  ihave HsO' := (banksO d (cV L) (jV L)).1 $$ HsO
  icases HsO' with ⟨HO0, HO1⟩
  iapply (wp_wand frame) $$ [Hmw Ht Hi Ho HI0 HI1 HO0 HO1 Hz0 Hz1 Hz2 Hz3 Hz4 HO]
  · iapply (tile (countersEmb (Ix := HIx 1)) d L (Tb m d) (Xs m d) (sh (num L)) (O := O) (W := W) (hpre d)) $$ [Hmw Ht Hi Ho HI0 HI1 HO0 HO1 Hz0 Hz1 Hz2 Hz3 Hz4 HO]
    isplitl [Hmw]; · iexact Hmw
    isplitl [HO]
    · unfold Ow
      iexists W; isplitr
      · ipureintro; exact fun p hp => .inl hp
      iexact HO
    unfold Held freeI freeO
    isplitl [Hz0 HI0]
    · isplitl [Hz0]; · iexact Hz0
      iexact HI0
    isplitl [Hz1 HI1]
    · isplitl [Hz1]; · iexact Hz1
      iexact HI1
    isplitl [Hz2 HO0]
    · isplitl [Hz2]; · iexact Hz2
      iexact HO0
    isplitl [Hz3 HO1]
    · isplitl [Hz3]; · iexact Hz3
      iexact HO1
    isplitl [Hz4]; · iexact Hz4
    isplitl [Ht]; · iexact Ht
    isplitl [Hi]; · iexact Hi
    iexact Ho
  iintro %_ ⟨HO, HH⟩
  unfold Held freeI freeO Ow
  icases HH with ⟨⟨Hz0, HI0⟩, ⟨Hz1, HI1⟩, ⟨Hz2, HO0⟩, ⟨Hz3, HO1⟩, Hz4, Ht, Hi, Ho⟩
  isplitl [Ht Hi Ho]
  · isplitl [Ht]; · iexact Ht
    isplitl [Hi]; · iexact Hi
    iexact Ho
  isplitl [HI0 HI1 HO0 HO1 Hbufs]
  · isplitl [HI0 HI1]
    · iapply (banksI d (cV L) (jV L)).2
      isplitl [HI0]; · iexact HI0
      iexact HI1
    isplitl [HO0 HO1]
    · iapply (banksO d (cV L) (jV L)).2
      isplitl [HO0]; · iexact HO0
      iexact HO1
    iexact Hbufs
  isplitl [Hz0 Hz1 Hz2 Hz3 Hz4 Hsems]
  · isplitr [Hsems]
    · isplitl [Hz0]; · iexact Hz0
      isplitl [Hz1]; · iexact Hz1
      isplitl [Hz2]; · iexact Hz2
      isplitl [Hz3]; · iexact Hz3
      iexact Hz4
    iexact Hsems
  iexact HO

theorem defs₀_vector (c : Fin τ.nSC) (s : Fin τ.nSub) :
    defs₀ (F := F) (.scVector c s) 0 ()
      = SparseCore.onTile hcore0 hsub0 (fun c s => cc0_gather_kernel (at_ c s)
          tV (Memref.isWhole_whole _) iV (Memref.isWhole_whole _) oV (Memref.isWhole_whole _)
          sI (Memref.isWhole_whole _) cc0_scoped1 sO (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (at_ ⟨_, hci.1⟩ ⟨_, hci.2⟩) hF hpre O W hO).trans (wp_mono frame _ _ fun _ => obl_post)

end Tile

theorem vecSplit : (K (F := F)).VecSplit' (P m) 0 := by
  intro d c
  show iprop(bigSep Finset.univ fun i : Fin 16 => before m d (at_ c i)) ⊢ |={Set.univ}=> iprop((bigSep Finset.univ fun i : Fin 16 => before m d (at_ c i))
      ∗ ((bigSep Finset.univ fun i : Fin 16 => after m d (at_ c i)) -∗ bigSep Finset.univ fun i : Fin 16 => after m d (at_ c i)))
  iintro H; imodintro
  isplitl [H]; · iexact H
  iintro H; iexact H

/-! ## The launch element -/

def u₀ : UU := (initOf (K (F := F)).hsCells (K (F := F)).hsToks,
  (initOf (Pipeline.cells (Pipeline.pin (pcfgs (F := F)) Proj.adm) cellOf_inj) (Pipeline.launchToks (Pipeline.pin (pcfgs (F := F)) Proj.adm) cellOf_inj), 1))

theorem bigSep_emp' {I : Type} (s : Finset I) : (bigSep s fun _ => iprop(emp)) = (iprop(emp) : sProp 𝕄) := bigSep_emp_const s

/-- What the launch deals a device for the projection's cells. -/
abbrev Gh (d : Dev nD) : sProp 𝕄 :=
  iprop(Pipeline.cellsGhost (Pipeline.pin (pcfgs (F := F)) Proj.adm) EP 0 d ∗ Pipeline.toksInit (Pipeline.pin (pcfgs (F := F)) Proj.adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) Proj.adm) cellOf_inj) (Pipeline.launchToks (Pipeline.pin (pcfgs (F := F)) Proj.adm) cellOf_inj), 1) : UP × Counters)) $$ Hu
  icases H with ⟨HH, HR⟩
  ihave H := (own_pair_emb (embR : Emb (UP × Counters) 𝕄)
    (initOf (Pipeline.cells (Pipeline.pin (pcfgs (F := F)) Proj.adm) cellOf_inj) (Pipeline.launchToks (Pipeline.pin (pcfgs (F := F)) Proj.adm) cellOf_inj)) (1 : Counters)) $$ HR
  icases H with ⟨HP, -⟩
  ihave H := (show (BI.own ((((Emb.inl : Emb UP (UP × Counters)).trans embR : Emb UP 𝕄)) (initOf (Pipeline.cells (Pipeline.pin (pcfgs (F := F)) Proj.adm) cellOf_inj)
      (Pipeline.launchToks (Pipeline.pin (pcfgs (F := F)) Proj.adm) cellOf_inj))) : sProp 𝕄) ⊢ _ from
    Pipeline.fund_ghost (Pipeline.pin (pcfgs (F := F)) Proj.adm) (EP (F := F)) cellOf_inj) $$ HP
  imod H with ⟨Hg, Ht⟩
  imodintro
  isplitl [HH]; · iexact HH
  isplitl [Hg Ht]
  · unfold Gh
    rw [bigSep_sep']
    isplitl [Hg]
    · iapply (show (bigSep Finset.univ fun c : Dev nD => bigSep Finset.univ fun p => Pipeline.cellsGhost (Pipeline.pin (pcfgs (F := F)) Proj.adm) EP p c : sProp 𝕄)
        ⊢ bigSep Finset.univ fun d : Dev nD => Pipeline.cellsGhost (Pipeline.pin (pcfgs (F := F)) Proj.adm) EP 0 d from
        Entails.of_eq (bigSep_congr fun _ _ => bigSep_univ_of_subsingleton (0 : Fin 1)))
      iexact Hg
    · iapply (show (bigSep Finset.univ fun c : Dev nD => bigSep Finset.univ fun p => Pipeline.toksInit (Pipeline.pin (pcfgs (F := F)) Proj.adm) EP p c : sProp 𝕄)
        ⊢ bigSep Finset.univ fun d : Dev nD => Pipeline.toksInit (Pipeline.pin (pcfgs (F := F)) Proj.adm) EP 0 d from
        Entails.of_eq (bigSep_congr fun _ _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The gather inside @main -/

theorem st0_eq (d : Dev nD) : (bigSep Finset.univ fun c : Fin ((K (F := F)).nCore 0) => (P m).st 0 d c)
    = iprop((tLoc d ↦{fullShare} Tb m d) ∗ (iLoc d ↦{fullShare} Xs m d) ∗ bigSep Finset.univ fun n : Fin 256 => iprop(∃ f, oLoc d ↦[(oBlk n).view.set]{fullShare} f)) :=
  dealt d (Tb m d) (Xs m d) fun n => iprop(∃ f, oLoc d ↦[(oBlk n).view.set]{fullShare} f)
theorem dn0_eq (d : Dev nD) : (bigSep Finset.univ fun c : Fin ((K (F := F)).nCore 0) => (P m).dn 0 d c)
    = iprop((tLoc d ↦{fullShare} Tb m d) ∗ (iLoc d ↦{fullShare} Xs m d) ∗ oLoc d ↦{fullShare} G (Tb m d) (Xs m d)) := by
  rw [oWhole]
  exact dealt d (Tb m d) (Xs m d) fun n => oLoc d ↦[(oBlk n).view.set]{fullShare} G (Tb m d) (Xs m d)

theorem out_any (d : Dev nD) (g : S65536x128.Idx → Elt F .f32) : (bigSep Finset.univ fun n : Fin 256 => oLoc d ↦[(oBlk n).view.set]{fullShare} g : sProp 𝕄)
    ⊢ bigSep Finset.univ fun n : Fin 256 => iprop(∃ f, oLoc d ↦[(oBlk n).view.set]{fullShare} f) := by
  refine bigSep_mono fun n _ => ?_
  show (oLoc d ↦[(oBlk n).view.set]{fullShare} g : sProp 𝕄) ⊢ iprop(∃ f, oLoc d ↦[(oBlk n).view.set]{fullShare} f)
  iintro H; iexists g; iexact H

/-- The three buffers the gather works on. -/
def three : Finset (DevRef τ sig) := {Proc.devRef .tc main_v12, Proc.devRef .tc main_v15, Proc.devRef .tc main_v16}

theorem three_sub : three ⊆ Pipeline.ucRefs τ sig := by decide

theorem held_three (d : Dev nD) (W : Valuation τ sig (Elt F)) : (StableHlo.held (SparseCore.T d) three W : sProp 𝕄)
    = iprop((tLoc d ↦{fullShare} W (Proc.devRef .tc main_v12)) ∗ (iLoc d ↦{fullShare} W (Proc.devRef .tc main_v15)) ∗ oLoc d ↦{fullShare} W (Proc.devRef .tc main_v16)) := by
  unfold StableHlo.held three
  rw [SparseCore.bigSep_insert' (by decide), SparseCore.bigSep_insert' (by decide), bigSep_singleton]

theorem rest_three (d : Dev nD) : (StableHlo.held (SparseCore.T d) (Pipeline.ucRefs τ sig \ three) (V₁ m d) : sProp 𝕄)
    = StableHlo.held (SparseCore.T d) (Pipeline.ucRefs τ sig \ three) (V₂ m d) :=
  StableHlo.held_congr _ fun b hb => (Host.V₂_other m d b fun e => (Finset.mem_sdiff.mp hb).2 (by rw [e]; decide)).symm

/-- The gather takes the buffers from `V₁` to `V₂`. -/
theorem gather_step (κ : GSem nD τ sig → ℕ) (d : Dev nD) (Φ : PUnit → sProp 𝕄) :
    iprop((K (F := F)).ctx EH (P m) κ ∗ (K (F := F)).tcSt EH d 0 ∗ StableHlo.held (SparseCore.T d) (Pipeline.ucRefs τ sig) (V₁ m d)
        ∗ (((K (F := F)).tcSt EH d 1 ∗ StableHlo.held (SparseCore.T d) (Pipeline.ucRefs τ sig) (V₂ m d)) -∗ Φ ⟨⟩))
      ⊢ wp frame (wpE ((K (F := F)).defs (D (F := F))) 𝒱 (SparseCore.T d) none) Set.univ ((K (F := F)).run d 0) Φ := by
  rw [StableHlo.held_sub_split _ three_sub (V₁ m d), StableHlo.held_sub_split _ three_sub (V₂ m d), held_three, held_three, rest_three]
  iintro ⟨#Hctx, Hst, ⟨⟨Ht, Hi, Ho⟩, Hrest⟩, HΦ⟩
  iapply ((K (F := F)).wp_run (D (F := F)) 𝒱 (EH := EH) (P := P m) κ d 0) $$ [Hst Hi Ht Ho Hrest HΦ]
  isplitr; · iexact Hctx
  isplitl [Hst]; · iexact Hst
  isplitl [Hi Ht Ho]
  · rw [st0_eq]
    isplitl [Ht]; · iexact Ht
    isplitl [Hi]; · iexact Hi
    ihave Ho' := (Entails.of_eq (oWhole d _)) $$ Ho
    iapply (out_any d (V₁ m d (Proc.devRef .tc main_v16)))
    iexact Ho'
  iintro ⟨Hst, Hdn⟩
  ihave Hdn' := (Entails.of_eq (dn0_eq m d)) $$ Hdn
  icases Hdn' with ⟨Ht, Hi, Ho⟩
  iapply HΦ
  isplitl [Hst]; · iexact Hst
  isplitr [Hrest]
  · rw [Host.V₂_other m d _ (by decide), Host.V₂_other m d _ (by decide), Host.V₂_rows]
    isplitl [Ht]; · iexact Ht
    isplitl [Hi]; · iexact Hi
    iexact Ho
  · iexact Hrest

/-! ## The projection inside @main -/

/-- What the thread's waits may have recorded when the gather is done. -/
def Bd (d : Dev nD) : Set (SemLoc sig × HIx 1) := {p | (K (F := F)).lev (SparseCore.T d, p.1) p.2 ≤ 8 * SparseCore.Cfg.Blocks.fst (Q := 1) (N := 1) 1}

/-- The buffers when the program ends. -/
def V₄ (d : Dev nD) : Valuation τ sig (Elt F) := Proj.V' (U := UU) (V₃ m) (Bd (F := F)) d

abbrev RP := Proj.region (U := UU) (V₃ m) (Bd (F := F)) (K (F := F)).L (K (F := F)).lev

set_option backward.isDefEq.respectTransparency.types false in
/-- The projection takes the buffers from `V₃` to `V₄`. -/
theorem proj_step [∀ e, Nonempty (Elt F e)] (κ : GSem nD τ sig → ℕ) (d : Dev nD) (Φ : PUnit → sProp 𝕄) :
    iprop((K (F := F)).ctx EH (P m) κ ∗ (K (F := F)).tcSt EH d 1 ∗ boundary (SparseCore.T d) ∗ StableHlo.held (SparseCore.T d) (Pipeline.ucRefs τ sig) (V₃ m d) ∗ Gh (F := F) d
        ∗ (((K (F := F)).tcSt EH d 1 ∗ boundary (SparseCore.T d) ∗ StableHlo.held (SparseCore.T d) (Pipeline.ucRefs τ sig) (V₄ m d)) -∗ Φ ⟨⟩))
      ⊢ wp frame (wpE ((K (F := F)).defs (D (F := F))) 𝒱 (SparseCore.T d) none) Set.univ
          (Prog.lift (.customCall (SparseCore.inner (Pipeline.entry 0)) ())) Φ := by
  show _ ⊢ wp frame (wpE ((K (F := F)).defs (D (F := F))) 𝒱 (SparseCore.T d) none) Set.univ
      (SparseCore.liftProg (.op (.customCall (Pipeline.entry 0) ()) fun x => .ret x)) Φ
  refine BI.Entails.trans ?_ ((K (F := F)).wp_liftProg (D (F := F)) 𝒱 (SparseCore.T d) Set.univ none _ Φ)
  refine BI.Entails.trans ?_ (Pipeline.RegionSeg.wp (pcfgs (F := F)) Proj.adm (Proj.dats (U := UU) (V₃ m) (Bd (F := F))) none cellOf_inj EP (defs₀ (F := F)) 𝒱₀
    (K (F := F)).L (K (F := F)).lev (RP m) d none (fun _ h => nomatch h) (fun x => .ret x) Φ)
  rw [show (RP m).pre d = iprop(StableHlo.held (SparseCore.T d) (Pipeline.ucRefs τ sig) (V₃ m d) ∗ (Proj.dats (U := UU) (V₃ m) (Bd (F := F)) 0 d).owesAt none 0) from rfl,
    show (RP m).post d = iprop(StableHlo.held (SparseCore.T d) (Pipeline.ucRefs τ sig) (V₄ m d) ∗ (Proj.dats (U := UU) (V₃ m) (Bd (F := F)) 0 d).owesAt none (Fin.last _)) from rfl]
  unfold SparseCore.Cfg.tcSt
  rw [(K (F := F)).Otc_end d (le_refl 1)]
  show (_ : sProp 𝕄) ⊢ _
  iintro ⟨#Hctx, ⟨⟨%W, %hW, HO⟩, Hst⟩, Hb, Hheld, ⟨Hg, Ht⟩, HΦ⟩
  isplitl [HΦ Hst]
  · iintro ⟨Hb, Hheld, HO⟩
    rw [wp_ret]; imodintro
    iapply HΦ
    isplitl [Hst HO]
    · isplitl [HO]
      · ihave HO' := (show _ ⊢ _ from Entails.of_eq (by unfold Pipeline.Dat.owesAt Pipeline.owesWithin; rfl)) $$ HO
        icases HO' with ⟨%W', %hW', HO⟩
        iexists W'
        isplitr
        · ipureintro
          intro p hp
          rcases hW' hp with h | ⟨w, s, rfl⟩
          · exact h
          · rw [SparseCore.Cfg.lev_none]; exact Nat.zero_le _
        iexact HO
      iexact Hst
    isplitl [Hb]; · iexact Hb
    iexact Hheld
  isplitl [Hb]; · iexact Hb
  isplitl [Hheld HO]
  · isplitl [Hheld]; · iexact Hheld
    unfold Pipeline.Dat.owesAt Pipeline.owesWithin
    iexists W
    isplitr
    · ipureintro; exact fun p hp => Or.inl (hW p hp)
    iexact HO
  isplitr
  · iapply ((K (F := F)).ctx_levAts (EH := EH) (P := P m) κ); iexact Hctx
  isplitl [Hg]; · iexact Hg
  iexact Ht

/-! ## @main on the TensorCore -/

/-- What @main ends with. -/
abbrev FIN (d : Dev nD) : sProp 𝕄 := StableHlo.held (SparseCore.T d) (Pipeline.ucRefs τ sig) (V₄ m d)

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (StableHlo.launchContents m d) from
    Pipeline.unscopedBufs_held d (StableHlo.launchContents m d), Host.main_eq]
  iintro ⟨#Hctx, Hst, ⟨Hb, Hheld, Hts, -⟩, HG⟩
  iapply (StableHlo.wp_seq 𝒱 none Set.univ d (Pipeline.ucRefs τ sig) _ Host.pre Host.pre_bufs Host.pre_fresh (StableHlo.launchContents m d)) $$ [Hb Hheld]
  · isplitl [Hb]; · iexact Hb
    iexact Hheld
  iintro ⟨Hb, Hheld⟩
  rw [wp_bind]
  iapply (gather_step m κ d)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ Host.mid Host.mid_bufs Host.mid_fresh (V₂ m d)) $$ [Hb Hheld]
  · isplitl [Hb]; · iexact Hb
    iexact Hheld
  iintro ⟨Hb, Hheld⟩
  iapply (proj_step m κ d)
  isplitr; · iexact Hctx
  isplitl [Hst]; · iexact Hst
  isplitl [Hb]; · iexact Hb
  isplitl [Hheld]; · iexact Hheld
  isplitl [HG]; · iexact HG
  iintro ⟨Hst, Hb, Hheld⟩
  isplitl [Hst]; · iexact Hst
  isplitl [Hheld]; · iexact Hheld
  isplitl [Hb] <;> iassumption

/-- What the final memory holds. -/
def fq (d : Dev nD) (s' : Phys nD τ sig (Elt F)) : Prop := ∀ b ∈ Pipeline.ucRefs τ sig, s'.mem.mem (d, b) = V₄ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The run -/

/-- The final state: every unscoped buffer at its final contents, every semaphore at zero. -/
def QC : PUnit × MemSt nD τ sig (Elt F) → Prop := fun r =>
  (∀ d : Dev nD, ∀ b ∈ Pipeline.ucRefs τ sig, r.2.mem (d, b) = V₄ m d b) ∧ r.2.sem = fun _ => 0

theorem run_main [∀ e, Nonempty (Elt F e)] (hpre : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => Gh (F := F) d) (FIN m) (u₀ (F := F)) (sep_elim_left.trans (hu₀ m)) (hmain m ρ) (fq m) (hfin m) (QC m) (fun _ h hz => ⟨h, hz⟩)

/-- An argument's buffer ends as it was. -/
theorem V₄_arg (d : Dev nD) (r : Ref sig .tc) (h₁ : r ∉ Host.preW) (h₂ : r ∉ Host.midW) (h₃ : r ≠ main_v16) (h₄ : r ≠ main_v19) :
    V₄ m d (Proc.devRef .tc r) = m (d, Proc.devRef .tc r) := by
  unfold V₄
  rw [Proj.V'_other _ _ _ _ (fun e => h₄ (Proc.devRef_injective _ e)), Host.V₃_unwritten m d r h₂,
    Host.V₂_other m d _ (fun e => h₃ (Proc.devRef_injective _ e)), Host.V₁_unwritten m d r h₁]

end Cert.Proof.Gather

end
-- ==== Proof.WholeAttn.lean ====
/-
  The attention call of the whole program, run before the gather: at each of its grid points, one per head of a batch, the body
  leaves in the two outputs' blocks the head's mixtures and the tokens' row numbers, of the five input blocks.
-/
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Pipeline.RegionArrays
public import Idealize.ShloMosaic.Lib.Pipeline.Value
public import Idealize.ShloMosaic.Lib.SparseCore.Stream
public import Idealize.ShloMosaic.Lib.Tactic

@[expose] public section

-- membership in a rectangle of the long axes recurses once per coordinate
set_option maxRecDepth 16384

noncomputable section

namespace Cert.Proof.WholeAttn

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] {U : Type} [URA U]

abbrev 𝒱₀ : Variants := Variants.none

local notation "𝕄" => MT nD τ sig (HIx 1) (Elt F) ℕ U ℕ

/-! ## The body's accesses -/

abbrev r0_0 : Rect S1x2048x1024 := Rect.unit (s := S1x2048x1024) ![0, 0, 0] S1x2048x1024.size inb_S1x2048x1024_S1x2048x1024_0_0_0
abbrev r0_1 : Rect S1x1024x192 := Rect.unit (s := S1x1024x192) ![0, 0, 0] S1x1024x192.size inb_S1x1024x192_S1x1024x192_0_0_0
abbrev r0_2 : Rect S1x1x192 := Rect.unit (s := S1x1x192) ![0, 0, 0] S1x1x192.size inb_S1x1x192_S1x1x192_0_0_0
abbrev r0_3 : Rect S1x2048x1 := Rect.unit (s := S1x2048x1) ![0, 0, 0] S1x2048x1.size inb_S1x2048x1_S1x2048x1_0_0_0
abbrev r0_4 : Rect S1x128x1024 := Rect.unit (s := S1x128x1024) ![0, 0, 0] S1x128x1024.size inb_S1x128x1024_S1x128x1024_0_0_0
abbrev r0_5 : Rect S1x1x128x128 := Rect.unit (s := S1x1x128x128) ![0, 0, 0, 0] S1x1x128x128.size inb_S1x1x128x128_S1x1x128x128_0_0_0_0
abbrev r0_6 : Rect S1x1x1x2048 := Rect.unit (s := S1x1x1x2048) ![0, 0, 0, 0] S1x1x1x2048.size inb_S1x1x1x2048_S1x1x1x2048_0_0_0_0

/-! ## What the body leaves in each output window's buffer -/

/-! ### Values of the body that the stores' payloads, spelt out, would write more than once

    Each is a vector the body binds (often a part call's result), stated over the input windows' blocks and
    numbered on from the skeleton's payload functions (`k0_pay27` …, after `k0_pay26`), so that
    `out0_W` and the values after it name it instead of spelling it out. -/

def k0_pay27 (i : grid0.Coords) (x0 : Vec F S1x2048x1024 .f32) (x1 : Vec F S1x128x1024 .f32) (x2 : Vec F S1x2048x1 .f32) (x3 : Vec F S1x1024x192 .f32) (x4 : Vec F S1x1x192 .f32) : FVec F S1024x192 .f32 :=
  k0_pay2 (View.ld x3 r0_1) -- `v3`
def k0_pay28 (i : grid0.Coords) (x0 : Vec F S1x2048x1024 .f32) (x1 : Vec F S1x128x1024 .f32) (x2 : Vec F S1x2048x1 .f32) (x3 : Vec F S1x1024x192 .f32) (x4 : Vec F S1x1x192 .f32) : FVec F S1x192 .f32 :=
  k0_pay3 (View.ld x4 r0_2) -- `v5`
def k0_pay29 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048x64 .f32 :=
  k0_pay5 (View.ld x0 r0_0) (View.ld x3 r0_1) (View.ld x4 r0_2) -- `v23`
def k0_pay30 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048x1 .f32 :=
  k0_pay8 (View.ld x2 r0_3) -- `v27`
def k0_pay31 (i : grid0.Coords) (x0 : Vec F S1x2048x1024 .f32) (x1 : Vec F S1x128x1024 .f32) (x2 : Vec F S1x2048x1 .f32) (x3 : Vec F S1x1024x192 .f32) (x4 : Vec F S1x1x192 .f32) : FVec F S128x1024 .f32 :=
  k0_pay9 (View.ld x1 r0_4) -- `v29`
def k0_pay32 (i : grid0.Coords) (x0 : Vec F S1x2048x1024 .f32) (x1 : Vec F S1x128x1024 .f32) (x2 : Vec F S1x2048x1 .f32) (x3 : Vec F S1x1024x192 .f32) (x4 : Vec F S1x1x192 .f32) : FVec F S128x192 .f32 :=
  k0_pay10 (View.ld x3 r0_1) (View.ld x1 r0_4) -- `v36`
def k0_pay33 (i : grid0.Coords) (x0 : Vec F S1x2048x1024 .f32) (x1 : Vec F S1x128x1024 .f32) (x2 : Vec F S1x2048x1 .f32) (x3 : Vec F S1x1024x192 .f32) (x4 : Vec F S1x1x192 .f32) : IVec S2048x128 32 :=
  iota .tc S2048x128 32 [1] iota_S2048x128_d1_w32 -- `v51`
def k0_pay34 (i : grid0.Coords) (x0 : Vec F S1x2048x1024 .f32) (x1 : Vec F S1x128x1024 .f32) (x2 : Vec F S1x2048x1 .f32) (x3 : Vec F S1x1024x192 .f32) (x4 : Vec F S1x1x192 .f32) : FVec F S128x64 .f32 :=
  k0_pay11 (k0_pay27 i x0 x1 x2 x3 x4) (k0_pay28 i x0 x1 x2 x3 x4) (k0_pay31 i x0 x1 x2 x3 x4) (k0_pay32 i x0 x1 x2 x3 x4) -- `v47`
def k0_pay35 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048x1 .f32 :=
  k0_pay12 (k0_pay29 i x0 x1 x2 x3 x4) -- `v50`
def k0_pay36 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048x128 .f32 :=
  k0_pay14 (k0_pay27 i x0 x1 x2 x3 x4) (k0_pay28 i x0 x1 x2 x3 x4) (k0_pay29 i x0 x1 x2 x3 x4) (k0_pay30 i x0 x1 x2 x3 x4) (k0_pay31 i x0 x1 x2 x3 x4) (k0_pay32 i x0 x1 x2 x3 x4) -- `v77`
def k0_pay37 (i : grid0.Coords) (x0 : Vec F S1x2048x1024 .f32) (x1 : Vec F S1x128x1024 .f32) (x2 : Vec F S1x2048x1 .f32) (x3 : Vec F S1x1024x192 .f32) (x4 : Vec F S1x1x192 .f32) : FVec F S128x1 .f32 :=
  k0_pay15 (k0_pay27 i x0 x1 x2 x3 x4) (k0_pay28 i x0 x1 x2 x3 x4) (k0_pay29 i x0 x1 x2 x3 x4) (k0_pay30 i x0 x1 x2 x3 x4) (k0_pay31 i x0 x1 x2 x3 x4) (k0_pay32 i x0 x1 x2 x3 x4) -- `v78`
def k0_pay38 (i : grid0.Coords) (x0 : Vec F S1x2048x1024 .f32) (x1 : Vec F S1x128x1024 .f32) (x2 : Vec F S1x2048x1 .f32) (x3 : Vec F S1x1024x192 .f32) (x4 : Vec F S1x1x192 .f32) : FVec F S128x64 .f32 :=
  k0_pay16 (k0_pay27 i x0 x1 x2 x3 x4) (k0_pay28 i x0 x1 x2 x3 x4) (k0_pay29 i x0 x1 x2 x3 x4) (k0_pay30 i x0 x1 x2 x3 x4) (k0_pay31 i x0 x1 x2 x3 x4) (k0_pay32 i x0 x1 x2 x3 x4) -- `v81`
def k0_pay39 (i : grid0.Coords) (x0 : Vec F S1x2048x1024 .f32) (x1 : Vec F S1x128x1024 .f32) (x2 : Vec F S1x2048x1 .f32) (x3 : Vec F S1x1024x192 .f32) (x4 : Vec F S1x1x192 .f32) : FVec F S256x128 .f32 :=
  k0_pay17 (k0_pay27 i x0 x1 x2 x3 x4) (k0_pay28 i x0 x1 x2 x3 x4) (k0_pay29 i x0 x1 x2 x3 x4) (k0_pay30 i x0 x1 x2 x3 x4) (k0_pay31 i x0 x1 x2 x3 x4) (k0_pay32 i x0 x1 x2 x3 x4) -- `v82`
def k0_pay40 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048x128 .f32 :=
  k0_pay19 (k0_pay29 i x0 x1 x2 x3 x4) (k0_pay34 i x0 x1 x2 x3 x4) (k0_pay35 i x0 x1 x2 x3 x4) (k0_pay36 i x0 x1 x2 x3 x4) (k0_pay37 i x0 x1 x2 x3 x4) (k0_pay38 i x0 x1 x2 x3 x4) (k0_pay39 i x0 x1 x2 x3 x4) -- `v128`
def k0_pay41 (i : grid0.Coords) (x0 : Vec F S1x2048x1024 .f32) (x1 : Vec F S1x128x1024 .f32) (x2 : Vec F S1x2048x1 .f32) (x3 : Vec F S1x1024x192 .f32) (x4 : Vec F S1x1x192 .f32) : FVec F S2048 .f32 :=
  k0_pay20 (k0_pay29 i x0 x1 x2 x3 x4) (k0_pay34 i x0 x1 x2 x3 x4) (k0_pay35 i x0 x1 x2 x3 x4) (k0_pay36 i x0 x1 x2 x3 x4) (k0_pay37 i x0 x1 x2 x3 x4) (k0_pay38 i x0 x1 x2 x3 x4) (k0_pay39 i x0 x1 x2 x3 x4) -- `v129`

/-- Window 5's staging buffer after the body, from the input windows' blocks: its 1 store as pieces, LAST
    FIRST. -/
def out0_5 (i : grid0.Coords) (x0 : Vec F S1x2048x1024 .f32) (x1 : Vec F S1x128x1024 .f32) (x2 : Vec F S1x2048x1 .f32) (x3 : Vec F S1x1024x192 .f32) (x4 : Vec F S1x1x192 .f32) : Vec F S1x1x128x128 .f32 :=
  View.canon [⟨r0_5, k0_pay25 (k0_pay6 (View.ld x0 r0_0) (View.ld x3 r0_1) (View.ld x4 r0_2)) (k0_pay7 (View.ld x0 r0_0) (View.ld x3 r0_1) (View.ld x4 r0_2)) (k0_pay30 i x0 x1 x2 x3 x4) (k0_pay18 (k0_pay29 i x0 x1 x2 x3 x4) (k0_pay34 i x0 x1 x2 x3 x4) (k0_pay36 i x0 x1 x2 x3 x4) (k0_pay37 i x0 x1 x2 x3 x4) (k0_pay38 i x0 x1 x2 x3 x4) (k0_pay39 i x0 x1 x2 x3 x4)) (k0_pay23 (k0_pay30 i x0 x1 x2 x3 x4) (k0_pay33 i x0 x1 x2 x3 x4) (k0_pay13 (F := F)) (k0_pay40 i x0 x1 x2 x3 x4) (k0_pay41 i x0 x1 x2 x3 x4)) (k0_pay24 (k0_pay29 i x0 x1 x2 x3 x4) (k0_pay30 i x0 x1 x2 x3 x4) (k0_pay33 i x0 x1 x2 x3 x4) (k0_pay40 i x0 x1 x2 x3 x4) (k0_pay41 i x0 x1 x2 x3 x4)) (Scalar.ofBits .f32 0x3F800000#32)⟩]

/-- Its stores tile the buffer (checked by evaluation), so they cover it. -/
theorem cover0_5 (p0 : Vec F S1x1x128x128 .f32) (y : S1x1x128x128.Idx) :
    ∃ pc ∈ ([⟨r0_5, p0⟩] : List (View.Piece (Elt F) S1x1x128x128 .f32)), y ∈ pc.1.set :=
  View.cover_of_tiled [⟨r0_5, p0⟩] S1x1x128x128.size (by rfl) y

/-- Window 6's staging buffer after the body, from the input windows' blocks: its 1 store as pieces, LAST
    FIRST. -/
def out0_6 (i : grid0.Coords) (x0 : Vec F S1x2048x1024 .f32) (x1 : Vec F S1x128x1024 .f32) (x2 : Vec F S1x2048x1 .f32) (x3 : Vec F S1x1024x192 .f32) (x4 : Vec F S1x1x192 .f32) : Vec F S1x1x1x2048 .i32 :=
  View.canon [⟨r0_6, k0_pay1 (k0_pay26 (BitVec.ofNat 32 (i 0).val) (BitVec.ofNat 32 (i 1).val) (k0_pay21 (k0_pay33 i x0 x1 x2 x3 x4) (k0_pay40 i x0 x1 x2 x3 x4) (k0_pay41 i x0 x1 x2 x3 x4)))⟩]

/-- Its stores tile the buffer (checked by evaluation), so they cover it. -/
theorem cover0_6 (p0 : Vec F S1x1x1x2048 .i32) (y : S1x1x1x2048.Idx) :
    ∃ pc ∈ ([⟨r0_6, p0⟩] : List (View.Piece (Elt F) S1x1x1x2048 .i32)), y ∈ pc.1.set :=
  View.cover_of_tiled [⟨r0_6, p0⟩] S1x1x1x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg2 : Memref sig .tc .vmem S1x2048x1024 .f32) (harg2 : arg2.IsWhole) (arg3 : Memref sig .tc .vmem S1x128x1024 .f32) (harg3 : arg3.IsWhole) (arg4 : Memref sig .tc .vmem S1x2048x1 .f32) (harg4 : arg4.IsWhole) (arg5 : Memref sig .tc .vmem S1x1024x192 .f32) (harg5 : arg5.IsWhole) (arg6 : Memref sig .tc .vmem S1x1x192 .f32) (harg6 : arg6.IsWhole) (arg7 : Memref sig .tc .vmem S1x1x128x128 .f32) (harg7 : arg7.IsWhole) (arg8 : Memref sig .tc .vmem S1x1x1x2048 .i32) (harg8 : arg8.IsWhole)
    (x0 : Vec F S1x2048x1024 .f32) (x1 : Vec F S1x128x1024 .f32) (x2 : Vec F S1x2048x1 .f32) (x3 : Vec F S1x1024x192 .f32) (x4 : Vec F S1x1x192 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 i x0 x1 x2 x3 x4) ∗ owns (c : Thread nD τ) arg8 fullShare (out0_6 i x0 x1 x2 x3 x4)) -∗ K ⟨⟩))
      ⊢ wp frame (wpE (defs₀ (F := F)) 𝒱₀ c none) E (cc0__attn_body i arg2 harg2 arg3 harg3 arg4 harg4 arg5 harg5 arg6 harg6 arg7 harg7 arg8 harg8) K := by
  simp only [cc0__attn_body_eq_skeleton]; unfold cc0__attn_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The call's data -/

variable (V : Dev nD → Valuation τ sig (Elt F)) (B : Dev nD → Set (SemLoc sig × HIx 1)) (O : Dev nD → CellTallies nD τ sig (HIx 1))

/-- Block `t` of window `w`, of the array as the call finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The arrays as found (`V`); after the body at point `t` each input's buffer at its block, each output's at what the body
    leaves there; what is owed `O` throughout; the waits recorded beforehand within `B`. -/
def dat (c : Dev nD) : Dat τ (Elt F) (HIx 1) ℕ U ℕ cfg0 c where
  A w := V c (Proc.devRef .tc (Pipeline.arrRef spec0 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => out0_5 (grid0.coords t) (blkAt V c 0 t) (blkAt V c 1 t) (blkAt V c 2 t) (blkAt V c 3 t) (blkAt V c 4 t)
    | ⟨6, _⟩ => out0_6 (grid0.coords t) (blkAt V c 0 t) (blkAt V c 1 t) (blkAt V c 2 t) (blkAt V c 3 t) (blkAt V c 4 t)
  Φ _ := Pipeline.scopedRest spec0 c
  q _ := fullShare
  owed _ := O c
  recorded _ := B c

local notation "𝒹" => dat (U := U) V B O

theorem A_eq (c : Dev nD) (w : Fin cfg0.W) : (𝒹 c).A w = V c (Proc.devRef .tc (Pipeline.arrRef spec0 w)) := by dsimp only [dat]
theorem after0 (c : Dev nD) (t : Fin cfg0.N) : (𝒹 c).after 0 t = blkAt V c 0 t := by dsimp only [dat]
theorem after1 (c : Dev nD) (t : Fin cfg0.N) : (𝒹 c).after 1 t = blkAt V c 1 t := by dsimp only [dat]
theorem after2 (c : Dev nD) (t : Fin cfg0.N) : (𝒹 c).after 2 t = blkAt V c 2 t := by dsimp only [dat]
theorem after3 (c : Dev nD) (t : Fin cfg0.N) : (𝒹 c).after 3 t = blkAt V c 3 t := by dsimp only [dat]
theorem after4 (c : Dev nD) (t : Fin cfg0.N) : (𝒹 c).after 4 t = blkAt V c 4 t := by dsimp only [dat]
theorem after5 (c : Dev nD) (t : Fin cfg0.N) : (𝒹 c).after 5 t = out0_5 (grid0.coords t) (blkAt V c 0 t) (blkAt V c 1 t) (blkAt V c 2 t) (blkAt V c 3 t) (blkAt V c 4 t) := by dsimp only [dat]
theorem after6 (c : Dev nD) (t : Fin cfg0.N) : (𝒹 c).after 6 t = out0_6 (grid0.coords t) (blkAt V c 0 t) (blkAt V c 1 t) (blkAt V c 2 t) (blkAt V c 3 t) (blkAt V c 4 t) := by dsimp only [dat]

/-- An input's buffer holds its block whenever the body runs, fetched then or earlier. -/
theorem before0 (c : Dev nD) (t : Fin cfg0.N) (d) : (𝒹 c).before 0 t d = blkAt V c 0 t :=
  ((𝒹 c).before_in_eq_fetched 0 rfl (fun _ => rfl) (fun _ _ _ => rfl) (fun t => by rw [after0]; unfold Dat.blockOf blkAt; rw [A_eq]; try rfl) t d).trans
    (by unfold Dat.fetched Dat.blockOf blkAt; rw [A_eq]; try rfl)
theorem before1 (c : Dev nD) (t : Fin cfg0.N) (d) : (𝒹 c).before 1 t d = blkAt V c 1 t :=
  ((𝒹 c).before_in_eq_fetched 1 rfl (fun _ => rfl) (fun _ _ _ => rfl) (fun t => by rw [after1]; unfold Dat.blockOf blkAt; rw [A_eq]; try rfl) t d).trans
    (by unfold Dat.fetched Dat.blockOf blkAt; rw [A_eq]; try rfl)
theorem before2 (c : Dev nD) (t : Fin cfg0.N) (d) : (𝒹 c).before 2 t d = blkAt V c 2 t :=
  ((𝒹 c).before_in_eq_fetched 2 rfl (fun _ => rfl) (fun _ _ _ => rfl) (fun t => by rw [after2]; unfold Dat.blockOf blkAt; rw [A_eq]; try rfl) t d).trans
    (by unfold Dat.fetched Dat.blockOf blkAt; rw [A_eq]; try rfl)
theorem before3 (c : Dev nD) (t : Fin cfg0.N) (d) : (𝒹 c).before 3 t d = blkAt V c 3 t :=
  ((𝒹 c).before_in_eq_fetched 3 rfl (fun _ => rfl) (fun _ _ _ => rfl) (fun t => by rw [after3]; unfold Dat.blockOf blkAt; rw [A_eq]; try rfl) t d).trans
    (by unfold Dat.fetched Dat.blockOf blkAt; rw [A_eq]; try rfl)
theorem before4 (c : Dev nD) (t : Fin cfg0.N) (d) : (𝒹 c).before 4 t d = blkAt V c 4 t :=
  ((𝒹 c).before_in_eq_fetched 4 rfl (fun _ => rfl) (fun _ _ _ => rfl) (fun t => by rw [after4]; unfold Dat.blockOf blkAt; rw [A_eq]; try rfl) t d).trans
    (by unfold Dat.fetched Dat.blockOf blkAt; rw [A_eq]; try rfl)

/-! ## The body at a point -/

/-- What the body is called with at point `t`, window by window. -/
def pre (c : Dev nD) (t : Fin cfg0.N) : sProp 𝕄 :=
  iprop((𝒹 c).Φ t.castSucc ∗ (𝒹 c).owesAt none t.castSucc
    ∗ (∃ d, owns (c : Thread nD τ) (st0_0 t) fullShare ((𝒹 c).before 0 t d))
    ∗ (∃ d, owns (c : Thread nD τ) (st0_1 t) fullShare ((𝒹 c).before 1 t d))
    ∗ (∃ d, owns (c : Thread nD τ) (st0_2 t) fullShare ((𝒹 c).before 2 t d))
    ∗ (∃ d, owns (c : Thread nD τ) (st0_3 t) fullShare ((𝒹 c).before 3 t d))
    ∗ (∃ d, owns (c : Thread nD τ) (st0_4 t) fullShare ((𝒹 c).before 4 t d))
    ∗ (∃ d, owns (c : Thread nD τ) (st0_5 t) fullShare ((𝒹 c).before 5 t d))
    ∗ (∃ d, owns (c : Thread nD τ) (st0_6 t) fullShare ((𝒹 c).before 6 t d)))

/-- And what it returns. -/
def post (c : Dev nD) (t : Fin cfg0.N) : sProp 𝕄 :=
  iprop((𝒹 c).Φ t.succ ∗ (𝒹 c).owesAt none t.succ
    ∗ owns (c : Thread nD τ) (st0_0 t) fullShare ((𝒹 c).after 0 t)
    ∗ owns (c : Thread nD τ) (st0_1 t) fullShare ((𝒹 c).after 1 t)
    ∗ owns (c : Thread nD τ) (st0_2 t) fullShare ((𝒹 c).after 2 t)
    ∗ owns (c : Thread nD τ) (st0_3 t) fullShare ((𝒹 c).after 3 t)
    ∗ owns (c : Thread nD τ) (st0_4 t) fullShare ((𝒹 c).after 4 t)
    ∗ owns (c : Thread nD τ) (st0_5 t) fullShare ((𝒹 c).after 5 t)
    ∗ owns (c : Thread nD τ) (st0_6 t) fullShare ((𝒹 c).after 6 t))

theorem body_at (c : Dev nD) (t : Fin cfg0.N) :
    pre (U := U) V B O c t ⊢ wp frame (wpE (defs₀ (F := F)) 𝒱₀ c none) Set.univ (bodyAt0 t) (fun _ => post (U := U) V B O c t) := by
  unfold pre post bodyAt0
  simp only [before0, before1, before2, before3, before4]
  rw [show (𝒹 c).Φ t.succ = (𝒹 c).Φ t.castSucc from rfl, show (𝒹 c).owesAt none t.succ = (𝒹 c).owesAt none t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (blkAt V c 0 t) (blkAt V c 1 t) (blkAt V c 2 t) (blkAt V c 3 t) (blkAt V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) : defs₀ (F := F) .tc cfg0.body (cfg0.bodyArgs t (cfg0.slots t)) = bodyAt0 t := rfl

/-- The body's obligation at every point. -/
theorem body_obligation (c : Dev nD) : BodyObligation (𝒹 c) (defs₀ (F := F)) 𝒱₀ none Set.univ := fun t => by
  rw [bigSep_W0, bigSep_W0, row_eq]
  exact triple_restated (body_at V B O c t) rfl .rfl fun _ => .rfl

/-! ## The outputs' blocks -/

theorem flushed5 (c : Dev nD) (t : Fin cfg0.N) :
    (𝒹 c).flushed 5 t = (cfg0.win 5).cut (grid0.coords t) (out0_5 (grid0.coords t) (blkAt V c 0 t) (blkAt V c 1 t) (blkAt V c 2 t) (blkAt V c 3 t) (blkAt V c 4 t)) := by
  show (cfg0.win 5).cut (grid0.coords t) ((𝒹 c).after 5 t) = _
  rw [after5]

theorem point_of_block5 : ∀ t t' : Fin cfg0.N, win0_5.index t = win0_5.index t' → t = t' :=
  (by decide +kernel : ∀ t t' : Fin grid0.N, win0_5.index t = win0_5.index t' → t = t')

theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (point_of_block5 t t' h)

theorem flushed6 (c : Dev nD) (t : Fin cfg0.N) :
    (𝒹 c).flushed 6 t = (cfg0.win 6).cut (grid0.coords t) (out0_6 (grid0.coords t) (blkAt V c 0 t) (blkAt V c 1 t) (blkAt V c 2 t) (blkAt V c 3 t) (blkAt V c 4 t)) := by
  show (cfg0.win 6).cut (grid0.coords t) ((𝒹 c).after 6 t) = _
  rw [after6]

theorem point_of_block6 : ∀ t t' : Fin cfg0.N, win0_6.index t = win0_6.index t' → t = t' :=
  (by decide +kernel : ∀ t t' : Fin grid0.N, win0_6.index t = win0_6.index t' → t = t')

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (point_of_block6 t t' h)

end Cert.Proof.WholeAttn

end
-- ==== Proof.WholeProj.lean ====
/-
  The projection call of the whole program, run after the gather: at each of its four grid points the body leaves, in the output's block, the
  payload of the four input blocks; so the call, entered with its arrays at any contents, ends with the inputs as they
  were and block `t` of the output at that payload.
-/
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Pipeline.RegionArrays
public import Idealize.ShloMosaic.Lib.Pipeline.Value
public import Idealize.ShloMosaic.Lib.SparseCore.Stream
public import Idealize.ShloMosaic.Lib.Tactic

@[expose] public section

-- membership in a rectangle of the long axes recurses once per coordinate
set_option maxRecDepth 16384

noncomputable section

namespace Cert.Proof.WholeProj

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] {U : Type} [URA U]

abbrev 𝒱₀ : Variants := Variants.none

local notation "𝕄" => MT nD τ sig (HIx 1) (Elt F) ℕ U ℕ

/-! ## What the body computes -/

abbrev rG : Rect S1x1024x2048 := Rect.unit (s := S1x1024x2048) ![0, 0, 0] S1x1024x2048.size inb_S1x1024x2048_S1x1024x2048_0_0_0
abbrev rW : Rect S2048x1024 := Rect.unit (s := S2048x1024) ![0, 0] S2048x1024.size inb_S2048x1024_S2048x1024_0_0
abbrev rM : Rect S1x1024x1 := Rect.unit (s := S1x1024x1) ![0, 0, 0] S1x1024x1.size inb_S1x1024x1_S1x1024x1_0_0_0
abbrev rB : Rect S1x1024 := Rect.unit (s := S1x1024) ![0, 0] S1x1024.size inb_S1x1024_S1x1024_0_0
abbrev rY : Rect S1x1024x1024 := Rect.unit (s := S1x1024x1024) ![0, 0, 0] S1x1024x1024.size inb_S1x1024x1024_S1x1024x1024_0_0_0

/-- What the body leaves in the output's buffer, from the rows, the mask, the weights and the bias it is given. -/
def projected (g : Vec F S1x1024x2048 .f32) (k : Vec F S1x1024x1 .f32) (w : Vec F S2048x1024 .f32) (b : Vec F S1x1024 .f32) : Vec F S1x1024x1024 .f32 :=
  View.canon [⟨rY, k2_pay1 (View.ld g rG) (View.ld w rW) (View.ld k rM) (View.ld b rB)⟩]

/-- The body's one store covers the output's buffer. -/
theorem store_covers (p : Vec F S1x1024x1024 .f32) (y : S1x1024x1024.Idx) :
    ∃ pc ∈ ([⟨rY, p⟩] : List (View.Piece (Elt F) S1x1024x1024 .f32)), y ∈ pc.1.set :=
  View.cover_of_tiled [⟨rY, p⟩] S1x1024x1024.size (by rfl) y

set_option maxHeartbeats 1000000 in
/-- The body, on whole buffers, leaves its inputs and the output at `projected`. -/
theorem body_runs (c : Dev nD) (E : Set ℕ) (i : grid2.Coords) (mg : Memref sig .tc .vmem S1x1024x2048 .f32) (hg : mg.IsWhole) (mk : Memref sig .tc .vmem S1x1024x1 .f32) (hk : mk.IsWhole)
    (mw : Memref sig .tc .vmem S2048x1024 .f32) (hw : mw.IsWhole) (mb : Memref sig .tc .vmem S1x1024 .f32) (hb : mb.IsWhole) (my : Memref sig .tc .vmem S1x1024x1024 .f32) (hy : my.IsWhole)
    (g : Vec F S1x1024x2048 .f32) (k : Vec F S1x1024x1 .f32) (w : Vec F S2048x1024 .f32) (b : Vec F S1x1024 .f32) (Q : PUnit → sProp 𝕄) :
    iprop(owns (c : Thread nD τ) mg fullShare g ∗ owns (c : Thread nD τ) mk fullShare k ∗ owns (c : Thread nD τ) mw fullShare w ∗ owns (c : Thread nD τ) mb fullShare b
        ∗ (∃ d, owns (c : Thread nD τ) my fullShare d)
        ∗ (iprop(owns (c : Thread nD τ) mg fullShare g ∗ owns (c : Thread nD τ) mk fullShare k ∗ owns (c : Thread nD τ) mw fullShare w ∗ owns (c : Thread nD τ) mb fullShare b
            ∗ owns (c : Thread nD τ) my fullShare (projected g k w b)) -∗ Q ⟨⟩))
      ⊢ wp frame (wpE (defs₀ (F := F)) 𝒱₀ c none) E (cc2__proj_body i mg hg mk hk mw hw mb hb my hy) Q := by
  simp only [cc2__proj_body_eq_skeleton]; unfold cc2__proj_body_skel
  unfold owns
  iintro ⟨⟨%fg, %eg, Hg⟩, ⟨%fk, %ek, Hk⟩, ⟨%fw, %ew, Hw⟩, ⟨%fb, %eb, Hb⟩, ⟨%dy, %fy, -, Hy⟩, HQ⟩
  subst eg ek ew eb
  sl_exec
  sl_step
  iapply HQ
  isplitl [Hg]
  · iexists fg; isplitr; · ipureintro; rfl
    iexact Hg
  isplitl [Hk]
  · iexists fk; isplitr; · ipureintro; rfl
    iexact Hk
  isplitl [Hw]
  · iexists fw; isplitr; · ipureintro; rfl
    iexact Hw
  isplitl [Hb]
  · iexists fb; isplitr; · ipureintro; rfl
    iexact Hb
  iexists _; isplitr
  swap; · iexact Hy
  ipureintro
  exact View.read_writes_eq_canon _ _ _ (store_covers _)

/-! ## The call's data -/

variable (V : Dev nD → Valuation τ sig (Elt F)) (B : Dev nD → Set (SemLoc sig × HIx 1)) (O : Dev nD → CellTallies nD τ sig (HIx 1))

/-- Block `t` of window `w`, of the array as the call finds it. -/
def blkAt (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The arrays as found (`V`); after the body at point `t` each input's buffer at its block, the output's at `projected`
    of the blocks; what is owed `O` throughout; the waits recorded beforehand within `B`. -/
def dat (c : Dev nD) : Dat τ (Elt F) (HIx 1) ℕ U ℕ cfg2 c where
  A w := V c (Proc.devRef .tc (Pipeline.arrRef spec2 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => projected (blkAt V c 0 t) (blkAt V c 1 t) (blkAt V c 2 t) (blkAt V c 3 t)
  Φ _ := Pipeline.scopedRest spec2 c
  q _ := fullShare
  owed _ := O c
  recorded _ := B c

local notation "𝒹" => dat (U := U) V B O

theorem A_eq (c : Dev nD) (w : Fin cfg2.W) : (𝒹 c).A w = V c (Proc.devRef .tc (Pipeline.arrRef spec2 w)) := by dsimp only [dat]
theorem after_g (c : Dev nD) (t : Fin cfg2.N) : (𝒹 c).after 0 t = blkAt V c 0 t := by dsimp only [dat]
theorem after_k (c : Dev nD) (t : Fin cfg2.N) : (𝒹 c).after 1 t = blkAt V c 1 t := by dsimp only [dat]
theorem after_w (c : Dev nD) (t : Fin cfg2.N) : (𝒹 c).after 2 t = blkAt V c 2 t := by dsimp only [dat]
theorem after_b (c : Dev nD) (t : Fin cfg2.N) : (𝒹 c).after 3 t = blkAt V c 3 t := by dsimp only [dat]
theorem after_y (c : Dev nD) (t : Fin cfg2.N) : (𝒹 c).after 4 t = projected (blkAt V c 0 t) (blkAt V c 1 t) (blkAt V c 2 t) (blkAt V c 3 t) := by dsimp only [dat]

/-- An input's buffer holds its block whenever the body runs, fetched then or earlier. -/
theorem before_g (c : Dev nD) (t : Fin cfg2.N) (d) : (𝒹 c).before 0 t d = blkAt V c 0 t :=
  ((𝒹 c).before_in_eq_fetched 0 rfl (fun _ => rfl) (fun _ _ _ => rfl) (fun t => by rw [after_g]; unfold Dat.blockOf blkAt; rw [A_eq]; try rfl) t d).trans
    (by unfold Dat.fetched Dat.blockOf blkAt; rw [A_eq]; try rfl)
theorem before_k (c : Dev nD) (t : Fin cfg2.N) (d) : (𝒹 c).before 1 t d = blkAt V c 1 t :=
  ((𝒹 c).before_in_eq_fetched 1 rfl (fun _ => rfl) (fun _ _ _ => rfl) (fun t => by rw [after_k]; unfold Dat.blockOf blkAt; rw [A_eq]; try rfl) t d).trans
    (by unfold Dat.fetched Dat.blockOf blkAt; rw [A_eq]; try rfl)
theorem before_w (c : Dev nD) (t : Fin cfg2.N) (d) : (𝒹 c).before 2 t d = blkAt V c 2 t :=
  ((𝒹 c).before_in_eq_fetched 2 rfl (fun _ => rfl) (fun _ _ _ => rfl) (fun t => by rw [after_w]; unfold Dat.blockOf blkAt; rw [A_eq]; try rfl) t d).trans
    (by unfold Dat.fetched Dat.blockOf blkAt; rw [A_eq]; try rfl)
theorem before_b (c : Dev nD) (t : Fin cfg2.N) (d) : (𝒹 c).before 3 t d = blkAt V c 3 t :=
  ((𝒹 c).before_in_eq_fetched 3 rfl (fun _ => rfl) (fun _ _ _ => rfl) (fun t => by rw [after_b]; unfold Dat.blockOf blkAt; rw [A_eq]; try rfl) t d).trans
    (by unfold Dat.fetched Dat.blockOf blkAt; rw [A_eq]; try rfl)

/-! ## The body at a point -/

/-- What the body is called with at point `t`, window by window. -/
def pre (c : Dev nD) (t : Fin cfg2.N) : sProp 𝕄 :=
  iprop((𝒹 c).Φ t.castSucc ∗ (𝒹 c).owesAt none t.castSucc
    ∗ (∃ d, owns (c : Thread nD τ) (st2_0 t) fullShare ((𝒹 c).before 0 t d))
    ∗ (∃ d, owns (c : Thread nD τ) (st2_1 t) fullShare ((𝒹 c).before 1 t d))
    ∗ (∃ d, owns (c : Thread nD τ) (st2_2 t) fullShare ((𝒹 c).before 2 t d))
    ∗ (∃ d, owns (c : Thread nD τ) (st2_3 t) fullShare ((𝒹 c).before 3 t d))
    ∗ (∃ d, owns (c : Thread nD τ) (st2_4 t) fullShare ((𝒹 c).before 4 t d)))

/-- And what it returns. -/
def post (c : Dev nD) (t : Fin cfg2.N) : sProp 𝕄 :=
  iprop((𝒹 c).Φ t.succ ∗ (𝒹 c).owesAt none t.succ
    ∗ owns (c : Thread nD τ) (st2_0 t) fullShare ((𝒹 c).after 0 t)
    ∗ owns (c : Thread nD τ) (st2_1 t) fullShare ((𝒹 c).after 1 t)
    ∗ owns (c : Thread nD τ) (st2_2 t) fullShare ((𝒹 c).after 2 t)
    ∗ owns (c : Thread nD τ) (st2_3 t) fullShare ((𝒹 c).after 3 t)
    ∗ owns (c : Thread nD τ) (st2_4 t) fullShare ((𝒹 c).after 4 t))

theorem body_at (c : Dev nD) (t : Fin cfg2.N) :
    pre (U := U) V B O c t ⊢ wp frame (wpE (defs₀ (F := F)) 𝒱₀ c none) Set.univ (bodyAt2 t) (fun _ => post (U := U) V B O c t) := by
  unfold pre post bodyAt2
  simp only [before_g, before_k, before_w, before_b]
  rw [show (𝒹 c).Φ t.succ = (𝒹 c).Φ t.castSucc from rfl, show (𝒹 c).owesAt none t.succ = (𝒹 c).owesAt none t.castSucc from rfl,
    after_g, after_k, after_w, after_b, after_y]
  iintro ⟨HΦ, Ho, ⟨%d0, Hg⟩, ⟨%d1, Hk⟩, ⟨%d2, Hw⟩, ⟨%d3, Hb⟩, ⟨%d4, Hy⟩⟩
  iapply (body_runs c Set.univ (grid2.coords t) _ _ _ _ _ _ _ _ _ _ (blkAt V c 0 t) (blkAt V c 1 t) (blkAt V c 2 t) (blkAt V c 3 t) _)
  isplitl [Hg]; · iexact Hg
  isplitl [Hk]; · iexact Hk
  isplitl [Hw]; · iexact Hw
  isplitl [Hb]; · iexact Hb
  isplitl [Hy]; · iexists _; iexact Hy
  iintro ⟨Hg, Hk, Hw, Hb, Hy⟩
  isplitl [HΦ]; · iexact HΦ
  isplitl [Ho]; · iexact Ho
  isplitl [Hg]; · iexact Hg
  isplitl [Hk]; · iexact Hk
  isplitl [Hw]; · iexact Hw
  isplitl [Hb]; · iexact Hb
  iexact Hy

theorem row_eq (t : Fin cfg2.N) : defs₀ (F := F) .tc cfg2.body (cfg2.bodyArgs t (cfg2.slots t)) = bodyAt2 t := rfl

/-- The body's obligation at every point. -/
theorem body_obligation (c : Dev nD) : BodyObligation (𝒹 c) (defs₀ (F := F)) 𝒱₀ none Set.univ := fun t => by
  rw [bigSep_W2, bigSep_W2, row_eq]
  exact triple_restated (body_at V B O c t) rfl .rfl fun _ => .rfl

/-! ## The output's blocks -/

theorem flushed_y (c : Dev nD) (t : Fin cfg2.N) :
    (𝒹 c).flushed 4 t = (cfg2.win 4).cut (grid2.coords t) (projected (blkAt V c 0 t) (blkAt V c 1 t) (blkAt V c 2 t) (blkAt V c 3 t)) := by
  show (cfg2.win 4).cut (grid2.coords t) ((𝒹 c).after 4 t) = _
  rw [after_y]

theorem point_of_block : ∀ t t' : Fin cfg2.N, win2_4.index t = win2_4.index t' → t = t' :=
  (by decide +kernel : ∀ t t' : Fin grid2.N, win2_4.index t = win2_4.index t' → t = t')

theorem apart : ∀ t t' : Fin cfg2.N, (cfg2.win 4).flush t = true → (cfg2.win 4).flush t' = true → t ≠ t' →
    Disjoint ((cfg2.win 4).blk t).view.set ((cfg2.win 4).blk t').view.set :=
  fun t t' _ _ hne => (cfg2.win 4).disjoint_blk fun h => hne (point_of_block t t' h)

end Cert.Proof.WholeProj

end
-- ==== Proof.WholeCalls.lean ====
/-
  The whole program's two calls outside the gather as regions of its host code: each entered with all unscoped buffers at given
  contents and its waits recorded within a bound, and left with its outputs at their final contents and the others as found.
  The attention is entered while the gather's start is still owed, the projection when nothing is.
-/
module

public import proofs.«01_k».proof.Proof.WholeAttn
public import proofs.«01_k».proof.Proof.WholeProj

@[expose] public section

-- membership in a rectangle of the long axes recurses once per coordinate
set_option maxRecDepth 16384

noncomputable section

namespace Cert.Proof.WholeCalls

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] {U : Type} [URA U]

local notation "𝕄" => MT nD τ sig (HIx 1) (Elt F) ℕ U ℕ

variable (V : Dev nD → Valuation τ sig (Elt F)) (B : Dev nD → Set (SemLoc sig × HIx 1)) (O : Dev nD → CellTallies nD τ sig (HIx 1))

/-- The two calls' data, at the same contents. -/
def dats : (p : Fin 2) → (c : Dev nD) → Dat τ (Elt F) (HIx 1) ℕ U ℕ (cfgs p) c
  | 0, c => WholeAttn.dat V B O c
  | 1, c => WholeProj.dat V B O c

abbrev 𝒱₀ : Variants := Variants.none

abbrev adm : (p : Fin 2) → (pcfgs (F := F) p).Adm := fun p => (cfgs p).toPCfg_adm

variable (L : GSem nD τ sig → Finset (HIx 1)) (lv : GSem nD τ sig → HIx 1 → ℕ)

/-! ## The attention -/

section WholeAttn

local notation "𝒹" => WholeAttn.dat (U := U) V B O

/-- The contents after the call: its outputs as the pipeline leaves them, every other buffer as found. -/
def VA (c : Dev nD) : Valuation τ sig (Elt F) :=
  Function.update (Function.update (V c) (Proc.devRef .tc main_v32_0) ((WholeAttn.dat (U := U) V B O c).arrAt 5 cfg0.N)) (Proc.devRef .tc main_v32_1) ((WholeAttn.dat (U := U) V B O c).arrAt 6 cfg0.N)

theorem VA_other (c : Dev nD) (b : DevRef τ sig) (h5 : b ≠ Proc.devRef .tc main_v32_0) (h6 : b ≠ Proc.devRef .tc main_v32_1) : VA (U := U) V B O c b = V c b := by
  unfold VA
  rw [Function.update_of_ne h6, Function.update_of_ne h5]
theorem VA_out5 (c : Dev nD) : VA (U := U) V B O c (Proc.devRef .tc main_v32_0) = (𝒹 c).arrAt 5 cfg0.N := by
  unfold VA
  rw [Function.update_of_ne (by decide), Function.update_self]
theorem VA_out6 (c : Dev nD) : VA (U := U) V B O c (Proc.devRef .tc main_v32_1) = (𝒹 c).arrAt 6 cfg0.N := by
  unfold VA
  rw [Function.update_self]

theorem attnRegion_apart (b : DevRef τ sig) (hb : b ∉ Pipeline.arrRefs spec0) : b ≠ Proc.devRef .tc main_v32_0 ∧ b ≠ Proc.devRef .tc main_v32_1 := by
  refine ⟨?_, ?_⟩ <;> (rintro rfl; revert hb; decide)

theorem attnRegion_final (c : Dev nD) : ∀ w : Fin cfg0.W, (𝒹 c).arrAt w cfg0.N = VA (U := U) V B O c (Proc.devRef .tc (Pipeline.arrRef spec0 w))
  | ⟨0, _⟩ => ((𝒹 c).arrAt_in 0 rfl _).trans (VA_other V B O c (Proc.devRef .tc main_arg0) (by decide) (by decide)).symm
  | ⟨1, _⟩ => ((𝒹 c).arrAt_in 1 rfl _).trans (VA_other V B O c (Proc.devRef .tc main_v17) (by decide) (by decide)).symm
  | ⟨2, _⟩ => ((𝒹 c).arrAt_in 2 rfl _).trans (VA_other V B O c (Proc.devRef .tc main_v8) (by decide) (by decide)).symm
  | ⟨3, _⟩ => ((𝒹 c).arrAt_in 3 rfl _).trans (VA_other V B O c (Proc.devRef .tc main_v24) (by decide) (by decide)).symm
  | ⟨4, _⟩ => ((𝒹 c).arrAt_in 4 rfl _).trans (VA_other V B O c (Proc.devRef .tc main_v28) (by decide) (by decide)).symm
  | ⟨5, _⟩ => (VA_out5 V B O c).symm
  | ⟨6, _⟩ => (VA_out6 V B O c).symm

theorem attnRegion_rest (c : Dev nD) : (StableHlo.held (c : Thread nD τ) (Pipeline.ucRefs τ sig \ Pipeline.arrRefs spec0) (V c) : sProp 𝕄)
    = StableHlo.held (c : Thread nD τ) (Pipeline.ucRefs τ sig \ Pipeline.arrRefs spec0) (VA (U := U) V B O c) :=
  StableHlo.held_congr _ fun b hb => (VA_other V B O c b (attnRegion_apart b (Finset.mem_sdiff.mp hb).2).1 (attnRegion_apart b (Finset.mem_sdiff.mp hb).2).2).symm

-- the launch kit's lemmas are stated over `cfgs p` and unify with the pinned configuration only by unfolding definitions in types
set_option backward.isDefEq.respectTransparency.types false in
/-- The attention, entered with all unscoped buffers at `V` and `O` owed, its waits recorded within `B`; left with its
    outputs at their final contents, the other buffers as found, and the waits within `B` and the call's own. -/
def attnRegion (hw : ∀ c, (levAts L lv : sProp 𝕄) ⊢ Pipeline.cellsWaits (Pipeline.pin (pcfgs (F := F)) adm) (dats (U := U) V B O) none 0 c) :
    Pipeline.RegionSeg (pcfgs (F := F)) adm (dats (U := U) V B O) none defs₀ 𝒱₀ L lv 0 where
  win := launch0.win.to₀
  block_pos := launch0.block_pos
  stage_whole := launch0.stage_whole
  K := PEmpty
  osem k := k.elim
  ho := Pipeline.OwnSemFacts.none _
  hbody c := (WholeAttn.body_obligation V B O c).loose
  hwaits := hw
  pre c := iprop(StableHlo.held (c : Thread nD τ) (Pipeline.ucRefs τ sig) (V c) ∗ (𝒹 c).owesAt none 0)
  post c := iprop(StableHlo.held (c : Thread nD τ) (Pipeline.ucRefs τ sig) (VA (U := U) V B O c) ∗ (𝒹 c).owesAt none (Fin.last cfg0.N))
  X c := iprop(emp)
  Y c := iprop(emp)
  Z c := StableHlo.held (c : Thread nD τ) (Pipeline.ucRefs τ sig \ Pipeline.arrRefs spec0) (V c)
  hentry c := by
    rw [Pipeline.ownSems0_none, Pipeline.prefHeld_of_none _ rfl,
      StableHlo.held_sub_split _ (Pipeline.arrRefs_sub_ucRefs spec0 (by decide)) (V c)]
    iintro ⟨⟨⟨Ha, Hz⟩, HO⟩, -, -⟩
    imodintro
    isplitl [Ha]
    · iapply (Entails.of_eq (Pipeline.arrays_held (pcfgs (F := F)) adm (dats (U := U) V B O) 0 launch0.toP c ((𝒹 c).share_full fun _ => rfl) _ (V c) (fun w => WholeAttn.A_eq V B O c w)).symm)
      iexact Ha
    isplitr; · iempintro
    isplitl [HO]; · iexact HO
    isplitr; · iempintro
    iexact Hz
  hin c := by
    rw [show (dats (U := U) V B O 0 c).Φ 0 = Pipeline.scopedRest spec0 c from rfl]
    iintro ⟨-, -, H⟩; iexact H
  hout c := by
    rw [Pipeline.ownSems0_none, show (dats (U := U) V B O 0 c).Φ (Fin.last (Pipeline.pin (pcfgs (F := F)) adm 0).N) = Pipeline.scopedRest spec0 c from rfl]
    iintro H
    isplitr; · iempintro
    isplitr; · iempintro
    iexact H
  hexit c := by
    rw [StableHlo.held_sub_split _ (Pipeline.arrRefs_sub_ucRefs spec0 (by decide)) (VA (U := U) V B O c), attnRegion_rest V B O c]
    iintro ⟨Ha, HO, -, Hz⟩
    imodintro
    isplitr [HO]
    · isplitl [Ha]
      · iapply (Entails.of_eq (Pipeline.arrays_held (pcfgs (F := F)) adm (dats (U := U) V B O) 0 launch0.toP c ((𝒹 c).share_full fun _ => rfl) _ (VA (U := U) V B O c) (attnRegion_final V B O c)))
        iexact Ha
      iexact Hz
    iexact HO

end WholeAttn

/-! ## The projection -/

section WholeProj

local notation "𝒹" => WholeProj.dat (U := U) V B O

/-- The contents after the call: its outputs as the pipeline leaves them, every other buffer as found. -/
def VP (c : Dev nD) : Valuation τ sig (Elt F) :=
  Function.update (V c) (Proc.devRef .tc main_v40) ((WholeProj.dat (U := U) V B O c).arrAt 4 cfg2.N)

theorem VP_other (c : Dev nD) (b : DevRef τ sig) (h4 : b ≠ Proc.devRef .tc main_v40) : VP (U := U) V B O c b = V c b := by
  unfold VP
  rw [Function.update_of_ne h4]
theorem VP_out4 (c : Dev nD) : VP (U := U) V B O c (Proc.devRef .tc main_v40) = (𝒹 c).arrAt 4 cfg2.N := by
  unfold VP
  rw [Function.update_self]

theorem projRegion_apart (b : DevRef τ sig) (hb : b ∉ Pipeline.arrRefs spec2) : b ≠ Proc.devRef .tc main_v40 := by
  rintro rfl; revert hb; decide

theorem projRegion_final (c : Dev nD) : ∀ w : Fin cfg2.W, (𝒹 c).arrAt w cfg2.N = VP (U := U) V B O c (Proc.devRef .tc (Pipeline.arrRef spec2 w))
  | ⟨0, _⟩ => ((𝒹 c).arrAt_in 0 rfl _).trans (VP_other V B O c (Proc.devRef .tc main_v38) (by decide)).symm
  | ⟨1, _⟩ => ((𝒹 c).arrAt_in 1 rfl _).trans (VP_other V B O c (Proc.devRef .tc main_v8) (by decide)).symm
  | ⟨2, _⟩ => ((𝒹 c).arrAt_in 2 rfl _).trans (VP_other V B O c (Proc.devRef .tc main_v31) (by decide)).symm
  | ⟨3, _⟩ => ((𝒹 c).arrAt_in 3 rfl _).trans (VP_other V B O c (Proc.devRef .tc main_v39) (by decide)).symm
  | ⟨4, _⟩ => (VP_out4 V B O c).symm

theorem projRegion_rest (c : Dev nD) : (StableHlo.held (c : Thread nD τ) (Pipeline.ucRefs τ sig \ Pipeline.arrRefs spec2) (V c) : sProp 𝕄)
    = StableHlo.held (c : Thread nD τ) (Pipeline.ucRefs τ sig \ Pipeline.arrRefs spec2) (VP (U := U) V B O c) :=
  StableHlo.held_congr _ fun b hb => (VP_other V B O c b (projRegion_apart b (Finset.mem_sdiff.mp hb).2)).symm

-- the launch kit's lemmas are stated over `cfgs p` and unify with the pinned configuration only by unfolding definitions in types
set_option backward.isDefEq.respectTransparency.types false in
/-- The projection, entered likewise, and left with its output at its final contents. -/
def projRegion (hw : ∀ c, (levAts L lv : sProp 𝕄) ⊢ Pipeline.cellsWaits (Pipeline.pin (pcfgs (F := F)) adm) (dats (U := U) V B O) none 1 c) :
    Pipeline.RegionSeg (pcfgs (F := F)) adm (dats (U := U) V B O) none defs₀ 𝒱₀ L lv 1 where
  win := launch2.win.to₀
  block_pos := launch2.block_pos
  stage_whole := launch2.stage_whole
  K := PEmpty
  osem k := k.elim
  ho := Pipeline.OwnSemFacts.none _
  hbody c := (WholeProj.body_obligation V B O c).loose
  hwaits := hw
  pre c := iprop(StableHlo.held (c : Thread nD τ) (Pipeline.ucRefs τ sig) (V c) ∗ (𝒹 c).owesAt none 0)
  post c := iprop(StableHlo.held (c : Thread nD τ) (Pipeline.ucRefs τ sig) (VP (U := U) V B O c) ∗ (𝒹 c).owesAt none (Fin.last cfg2.N))
  X c := iprop(emp)
  Y c := iprop(emp)
  Z c := StableHlo.held (c : Thread nD τ) (Pipeline.ucRefs τ sig \ Pipeline.arrRefs spec2) (V c)
  hentry c := by
    rw [Pipeline.ownSems0_none, Pipeline.prefHeld_of_none _ rfl,
      StableHlo.held_sub_split _ (Pipeline.arrRefs_sub_ucRefs spec2 (by decide)) (V c)]
    iintro ⟨⟨⟨Ha, Hz⟩, HO⟩, -, -⟩
    imodintro
    isplitl [Ha]
    · iapply (Entails.of_eq (Pipeline.arrays_held (pcfgs (F := F)) adm (dats (U := U) V B O) 1 launch2.toP c ((𝒹 c).share_full fun _ => rfl) _ (V c) (fun w => WholeProj.A_eq V B O c w)).symm)
      iexact Ha
    isplitr; · iempintro
    isplitl [HO]; · iexact HO
    isplitr; · iempintro
    iexact Hz
  hin c := by
    rw [show (dats (U := U) V B O 1 c).Φ 0 = Pipeline.scopedRest spec2 c from rfl]
    iintro ⟨-, -, H⟩; iexact H
  hout c := by
    rw [Pipeline.ownSems0_none, show (dats (U := U) V B O 1 c).Φ (Fin.last (Pipeline.pin (pcfgs (F := F)) adm 1).N) = Pipeline.scopedRest spec2 c from rfl]
    iintro H
    isplitr; · iempintro
    isplitr; · iempintro
    iexact H
  hexit c := by
    rw [StableHlo.held_sub_split _ (Pipeline.arrRefs_sub_ucRefs spec2 (by decide)) (VP (U := U) V B O c), projRegion_rest V B O c]
    iintro ⟨Ha, HO, -, Hz⟩
    imodintro
    isplitr [HO]
    · isplitl [Ha]
      · iapply (Entails.of_eq (Pipeline.arrays_held (pcfgs (F := F)) adm (dats (U := U) V B O) 1 launch2.toP c ((𝒹 c).share_full fun _ => rfl) _ (VP (U := U) V B O c) (projRegion_final V B O c)))
        iexact Ha
      iexact Hz
    iexact HO

end WholeProj

end Cert.Proof.WholeCalls

end
-- ==== Proof.WholeWords.lean ====
/-
  The words of the gather's pipeline, on one tile: what its five counters hold before each of its eight trips, which of its
  guarded copies and waits a trip runs, and the offsets of the slots and blocks they address. Tile `i` handles the eight
  consecutive blocks from `nb i` on, a block being 256 row numbers and the 256 rows gathered for them.
-/
module

public import proofs.«01_k».proof.Defs
public import proofs.«01_k».proof.Proof.Gen.WholeIdeal
public import proofs.«01_k».proof.Proof.Gen.WholeIdeal.Skeleton

@[expose] public section

namespace Cert.Proof.WholeGather

open Cert.WholeIdeal Cert.WholeIdeal.Gen
open Idealize.ShloMosaic

/-- The first block of tile `i`: eight blocks a tile, sixteen tiles a SparseCore. -/
abbrev nb (i : grid1.Coords) : ℕ := 8 * ((i 1).val + 16 * (i 0).val)

theorem nb_lt (i : grid1.Coords) (t : ℕ) (h : t < 8) : nb i + t < 256 := by
  have h0 : (i 0).val < 2 := (i 0).isLt
  have h1 : (i 1).val < 16 := (i 1).isLt
  unfold nb; omega

theorem trips : k1_t1_loop.trips = 8 := by decide +kernel

/-- The copy-in counter before trip `t`: one ahead of the trip, until every block is fetched. -/
abbrev wIn (t : ℕ) : BitVec 32 := BitVec.ofNat 32 (min (t + 1) 8)
/-- The counter of trips done. -/
abbrev wAt (t : ℕ) : BitVec 32 := BitVec.ofNat 32 t
/-- The counter of copies out waited for. -/
abbrev wOut (t : ℕ) : BitVec 32 := BitVec.ofNat 32 (t - 1)
/-- The block of the trip, back at zero after the last. -/
abbrev wBlk (t : ℕ) : BitVec 32 := BitVec.ofNat 32 (t % 8)
/-- The five counters before trip `t`. -/
abbrev accAt (t : ℕ) : BitVec 32 × BitVec 32 × BitVec 32 × BitVec 32 × BitVec 32 := (wIn t, wAt t, wAt t, wOut t, wBlk t)

/-! ## The conditions -/

theorem cond1_iff : ∀ (i : grid1.Coords) (k : Fin k1_t1_loop.trips), k1_cond1 i k (wBlk k.val) = 1#1 ↔ k.val < 7 := by decide +kernel
theorem cond2_one : ∀ (i : grid1.Coords) (k : Fin k1_t1_loop.trips), k1_cond2 i k (wBlk k.val) = 1#1 := by decide +kernel
theorem cond5_one : ∀ (i : grid1.Coords) (k : Fin k1_t1_loop.trips), k1_cond5 i k (wBlk k.val) = 1#1 := by decide +kernel
theorem cond7_iff : ∀ (i : grid1.Coords) (k : Fin k1_t1_loop.trips), k1_cond7 i k (wBlk k.val) = 1#1 ↔ 0 < k.val := by decide +kernel

/-! ## The offsets -/

theorem off4_at : ∀ k : Fin k1_t1_loop.trips, k.val < 7 → k1_off4 (wIn k.val) = ![(k.val + 1) % 2, 0, 0] := by decide +kernel
theorem off6_at : ∀ k : Fin k1_t1_loop.trips, k.val < 7 → k1_off6 (wIn k.val) = ![(k.val + 1) % 2] := by decide +kernel
theorem off5_at : ∀ (i : grid1.Coords) (k : Fin k1_t1_loop.trips), k.val < 7 → k1_off5 i (wBlk k.val) = ![0, 256 * (nb i + (k.val + 1))] := by decide +kernel
theorem off7_at : ∀ k : Fin k1_t1_loop.trips, k1_off7 (wAt k.val) = ![k.val % 2, 0, 0] := by decide +kernel
theorem off9_at : ∀ k : Fin k1_t1_loop.trips, k1_off9 (wAt k.val) = ![k.val % 2] := by decide +kernel
theorem off10_at : ∀ k : Fin k1_t1_loop.trips, k1_off10 (wAt k.val) = ![k.val % 2, 0, 0] := by decide +kernel
theorem off11_at : ∀ k : Fin k1_t1_loop.trips, k1_off11 (wAt k.val) = ![k.val % 2, 0, 0] := by decide +kernel
theorem off12_at : ∀ k : Fin k1_t1_loop.trips, k1_off12 (wAt k.val) = ![k.val % 2, 0, 0] := by decide +kernel
theorem off13_at : ∀ (i : grid1.Coords) (k : Fin k1_t1_loop.trips), k1_off13 i (wBlk k.val) = ![256 * (nb i + k.val), 0] := by decide +kernel
theorem off14_at : ∀ k : Fin k1_t1_loop.trips, k1_off14 (wAt k.val) = ![k.val % 2] := by decide +kernel
theorem off16_at : ∀ (i : grid1.Coords) (k : Fin k1_t1_loop.trips), 0 < k.val → k1_off16 i (wBlk k.val) = ![256 * (nb i + (k.val - 1)), 0] := by decide +kernel
theorem off17_at : ∀ k : Fin k1_t1_loop.trips, 0 < k.val → k1_off17 (wOut k.val) = ![(k.val - 1) % 2] := by decide +kernel
theorem off2_at : ∀ i : grid1.Coords, k1_off2 i = ![0, 256 * (nb i + 0)] := by decide +kernel
theorem off19_at : ∀ i : grid1.Coords, k1_off19 i (wBlk 8) = ![256 * (nb i + 7), 0] := by decide +kernel
theorem off20_at : k1_off20 (wOut 8) = ![1] := by decide +kernel

/-! ## The side conditions the body assumes -/

theorem chk3_at : ∀ k : Fin k1_t1_loop.trips, k1_chk3 (wAt k.val) := by decide +kernel
theorem chk2_at : ∀ k : Fin k1_t1_loop.trips, k1_chk2 (wAt k.val) := by decide +kernel
theorem chk1_at : ∀ (i : grid1.Coords) (k : Fin k1_t1_loop.trips), k1_chk1 i k (wIn k.val) (wAt k.val) (wAt k.val) (wOut k.val) (wBlk k.val) := by decide +kernel
theorem chk4_at : k1_chk4 (wOut 8) := by decide +kernel
theorem chk5_at : ∀ i : grid1.Coords, k1_chk5 i (wBlk 8) := by decide +kernel

end Cert.Proof.WholeGather

end
-- ==== Proof.WholeViews.lean ====
/-
  The pieces of memory one tile of the gather moves: block `n` of the row numbers (256 of the 65536) and block `n` of the
  output (the 256 rows gathered for them), the two banks each of the staged row numbers and of the staged rows, the table —
  and what one gather into a bank holds: block `n` of `G T X`, the table's rows that the numbers name.
-/
module

public import proofs.«01_k».proof.Proof.WholeWords
public import Idealize.ShloMosaic.Lib.SparseCore.Stream
public import Idealize.ShloMosaic.Lib.ValueIdxCore

@[expose] public section

noncomputable section

namespace Cert.Proof.WholeGather

open Cert.WholeIdeal Cert.WholeIdeal.Gen
open Idealize.ShloMosaic
open Idealize.ShloMosaic.ValueIdx (ix2)

variable {F : FTy → Type}

/-! ## The arrays and their pieces -/

abbrev tV : Memref sig .scVector .hbm S4096x128 .f32 := Memref.whole main_v33_scv
abbrev iV : Memref sig .scVector .hbm S1x65536 .i32 := Memref.whole main_v36_scv
abbrev oV : Memref sig .scVector .hbm S65536x128 .f32 := Memref.whole main_v37_scv
abbrev sI : Memref sig .scVector .vmem S2x1x256 .i32 := Memref.whole cc1_scoped0
abbrev sO : Memref sig .scVector .vmem S2x256x128 .f32 := Memref.whole cc1_scoped2

theorem iBank_inb (b : Fin 2) : ∀ a, (![b.val, 0, 0] : Fin 3 → ℕ) a + S1x1x256.size a ≤ S2x1x256.size a := by revert b; decide +kernel
theorem oBank_inb (b : Fin 2) : ∀ a, (![b.val, 0, 0] : Fin 3 → ℕ) a + S1x256x128.size a ≤ S2x256x128.size a := by revert b; decide +kernel
theorem sem_inb (b : Fin 2) : ∀ a, (![b.val] : Fin 1 → ℕ) a + S1.size a ≤ S2.size a := by revert b; decide +kernel
theorem iBlk_inb (n : Fin 256) : ∀ a, (![0, 256 * n.val] : Fin 2 → ℕ) a + S1x256.size a ≤ S1x65536.size a := by revert n; decide +kernel
theorem oBlk_inb (n : Fin 256) : ∀ a, (![256 * n.val, 0] : Fin 2 → ℕ) a + S256x128.size a ≤ S65536x128.size a := by revert n; decide +kernel

/-- Block `n` of the row numbers. -/
abbrev iBlk (n : Fin 256) : Memref sig .scVector .hbm S1x256 .i32 :=
  iV.slice (Rect.unit (s := S1x65536) ![0, 256 * n.val] S1x256.size (iBlk_inb n)) (fun _ => rfl)
/-- Block `n` of the output. -/
abbrev oBlk (n : Fin 256) : Memref sig .scVector .hbm S256x128 .f32 :=
  oV.slice (Rect.unit (s := S65536x128) ![256 * n.val, 0] S256x128.size (oBlk_inb n)) (fun _ => rfl)
/-- Bank `b` of the staged row numbers. -/
abbrev iBank (b : Fin 2) : Memref sig .scVector .vmem S1x256 .i32 :=
  (sI.slice (Rect.unit (s := S2x1x256) ![b.val, 0, 0] S1x1x256.size (iBank_inb b)) (fun _ => rfl)).squeeze S1x256 squeezes_S1x1x256_S1x256
/-- Bank `b` of the staged rows. -/
abbrev oBank (b : Fin 2) : Memref sig .scVector .vmem S256x128 .f32 :=
  (sO.slice (Rect.unit (s := S2x256x128) ![b.val, 0, 0] S1x256x128.size (oBank_inb b)) (fun _ => rfl)).squeeze S256x128 squeezes_S1x256x128_S256x128
/-- A bank of row numbers, as the list a gather reads. -/
abbrev listOf (M : Memref sig .scVector .vmem S1x256 .i32) : Memref sig .scVector .vmem S256 .i32 :=
  (M.slice (Rect.unit (s := S1x256) ![0, 0] S1x256.size inb_S1x256_S1x256_0_0) (fun _ => rfl)).squeeze S256 squeezes_S1x256_S256
/-- The table, as the gathers address it: all of it. -/
abbrev tAll : Memref sig .scVector .hbm S4096x128 .f32 :=
  tV.slice (Rect.unit (s := S4096x128) ![0, 0] S4096x128.size inb_S4096x128_S4096x128_0_0) (fun _ => rfl)
/-- The semaphore of bank `b` of the row numbers. -/
abbrev iSem (b : Fin 2) : DmaSem sig := ((cc1_scoped1.slice (Rect.unit (s := S2) ![b.val] S1.size (sem_inb b))).squeeze S_ squeezes_S1_S_).sem
/-- The semaphore of bank `b` of the rows. -/
abbrev oSem (b : Fin 2) : DmaSem sig := ((cc1_scoped3.slice (Rect.unit (s := S2) ![b.val] S1.size (sem_inb b))).squeeze S_ squeezes_S1_S_).sem

/-! ## The program's slices are these -/

theorem iBlk_of {o : Fin 2 → ℕ} {h : ∀ a, o a + S1x256.size a ≤ S1x65536.size a} {n : ℕ} (hn : n < 256) (e : o = ![0, 256 * n]) :
    iV.slice (Rect.unit (s := S1x65536) o S1x256.size h) (fun _ => rfl) = iBlk ⟨n, hn⟩ := by subst e; rfl
theorem oBlk_of {o : Fin 2 → ℕ} {h : ∀ a, o a + S256x128.size a ≤ S65536x128.size a} {n : ℕ} (hn : n < 256) (e : o = ![256 * n, 0]) :
    oV.slice (Rect.unit (s := S65536x128) o S256x128.size h) (fun _ => rfl) = oBlk ⟨n, hn⟩ := by subst e; rfl
theorem iBank_of {o : Fin 3 → ℕ} {h : ∀ a, o a + S1x1x256.size a ≤ S2x1x256.size a} {n : ℕ} (hn : n < 2) (e : o = ![n, 0, 0]) :
    (sI.slice (Rect.unit (s := S2x1x256) o S1x1x256.size h) (fun _ => rfl)).squeeze S1x256 squeezes_S1x1x256_S1x256 = iBank ⟨n, hn⟩ := by subst e; rfl
theorem oBank_of {o : Fin 3 → ℕ} {h : ∀ a, o a + S1x256x128.size a ≤ S2x256x128.size a} {n : ℕ} (hn : n < 2) (e : o = ![n, 0, 0]) :
    (sO.slice (Rect.unit (s := S2x256x128) o S1x256x128.size h) (fun _ => rfl)).squeeze S256x128 squeezes_S1x256x128_S256x128 = oBank ⟨n, hn⟩ := by subst e; rfl
theorem iSem_of {o : Fin 1 → ℕ} {h : ∀ a, o a + S1.size a ≤ S2.size a} {n : ℕ} (hn : n < 2) (e : o = ![n]) :
    ((cc1_scoped1.slice (Rect.unit (s := S2) o S1.size h)).squeeze S_ squeezes_S1_S_).sem = iSem ⟨n, hn⟩ := by subst e; rfl
theorem oSem_of {o : Fin 1 → ℕ} {h : ∀ a, o a + S1.size a ≤ S2.size a} {n : ℕ} (hn : n < 2) (e : o = ![n]) :
    ((cc1_scoped3.slice (Rect.unit (s := S2) o S1.size h)).squeeze S_ squeezes_S1_S_).sem = oSem ⟨n, hn⟩ := by subst e; rfl

/-! ## What the gather writes -/

/-- The row a number names (a number below 4096 names itself). -/
abbrev rowOf (w : BitVec 32) : Fin 4096 := ⟨w.toNat % 4096, Nat.mod_lt _ (by norm_num)⟩

/-- The rows of the table `T` that the numbers `X` name: row `r` of the output is row `X r` of the table. -/
def G (T : S4096x128.Idx → Elt F .f32) (X : S1x65536.Idx → Elt F .i32) : S65536x128.Idx → Elt F .f32 :=
  fun j => T (ix2 (rowOf (X (ix2 (0 : Fin 1) (⟨(j 0).val, (j 0).isLt⟩ : Fin 65536)))) (⟨(j 1).val, (j 1).isLt⟩ : Fin 128))

theorem iBlk_read (X : S1x65536.Idx → Elt F .i32) (n : Fin 256) (r : Fin 256) :
    (iBlk n).view.read (Elt F) X (ix2 (0 : Fin 1) r) = X (ix2 (0 : Fin 1) (⟨256 * n.val + r.val, by omega⟩ : Fin 65536)) := by
  rw [View.read_apply]
  show X _ = X _
  congr 1
  funext a
  apply Fin.ext
  match a with
  | 0 => rfl
  | 1 => show 256 * n.val + 1 * r.val = 256 * n.val + r.val; omega

theorem oBlk_read (Y : S65536x128.Idx → Elt F .f32) (n : Fin 256) (x : S256x128.Idx) :
    (oBlk n).view.read (Elt F) Y x
      = Y (ix2 (⟨256 * n.val + (x 0).val, by have : (x 0).val < 256 := (x 0).isLt; omega⟩ : Fin 65536) (⟨(x 1).val, (x 1).isLt⟩ : Fin 128)) := by
  rw [View.read_apply]
  show Y _ = Y _
  congr 1
  funext a
  apply Fin.ext
  match a with
  | 0 => show 256 * n.val + 1 * (x 0).val = 256 * n.val + (x 0).val; omega
  | 1 => show 0 + 1 * (x 1).val = (x 1).val; omega

theorem tAll_read (T : S4096x128.Idx → Elt F .f32) : tAll.view.read (Elt F) T = T := by
  funext x
  rw [View.read_apply]
  show T _ = T x
  congr 1
  funext a
  apply Fin.ext
  match a with
  | 0 => show 0 + 1 * (x 0).val = _; simp
  | 1 => show 0 + 1 * (x 1).val = _; simp

/-- Entry `r` of the list is entry `(0, r)` of the bank. -/
theorem listOf_read (M : Memref sig .scVector .vmem S1x256 .i32) (f : M.view.ty.Contents (Elt F)) (y : S256.Idx) :
    (listOf M).view.read (Elt F) f y = M.view.read (Elt F) f (ix2 (0 : Fin 1) (⟨(y 0).val, (y 0).isLt⟩ : Fin 256)) := by
  have e : (listOf M).view.emb y = M.view.emb (ix2 (0 : Fin 1) (⟨(y 0).val, (y 0).isLt⟩ : Fin 256)) := by
    show M.view.emb ((Rect.unit (s := S1x256) ![0, 0] S1x256.size inb_S1x256_S1x256_0_0).emb (Shape.reshapeEquiv _ y)) = _
    congr 1
    rw [Shape.reshapeEquiv_eq_of_rowMajor (y := (ix2 (0 : Fin 1) (⟨(y 0).val, (y 0).isLt⟩ : Fin 256))) _
      (by rw [Shape.rowMajor_val_one, Shape.rowMajor_val_two]; simp [ix2])]
    funext a
    apply Fin.ext
    match a with
    | 0 => rfl
    | 1 => show 0 + 1 * _ = _; simp
  rw [View.read_apply, View.read_apply, e]

/-- Every number of a bank that holds block `n` names a row, all of `X` naming rows. -/
theorem list_inb (X : S1x65536.Idx → Elt F .i32) (hX : ∀ j, (X j).toNat < 4096) (n : Fin 256) (b : Fin 2) (f : sI.view.ty.Contents (Elt F))
    (hf : (iBank b).view.read (Elt F) f = (iBlk n).view.read (Elt F) X) :
    ∀ x, ((listOf (iBank b)).view.read (Elt F) f x).toNat < S4096x128.size gathers_S4096x128_S256x128.axis := by
  intro x
  rw [listOf_read, hf, iBlk_read]
  exact hX _

/-- A gather from the table at a bank that holds block `n` of the numbers delivers block `n` of `G T X`. -/
theorem gather_eq (T : S4096x128.Idx → Elt F .f32) (X : S1x65536.Idx → Elt F .i32) (hX : ∀ j, (X j).toNat < 4096) (n : Fin 256) (b : Fin 2)
    (f : sI.view.ty.Contents (Elt F)) (hf : (iBank b).view.read (Elt F) f = (iBlk n).view.read (Elt F) X)
    (hn : S256.numel = S256x128.size gathers_S4096x128_S256x128.axis')
    (hin : ∀ x, ((listOf (iBank b)).view.read (Elt F) f x).toNat < S4096x128.size gathers_S4096x128_S256x128.axis) :
    SparseCore.gatherPayload gathers_S4096x128_S256x128 (tAll.view.read (Elt F) T) (SparseCore.rows ((listOf (iBank b)).view.read (Elt F) f) hn hin)
      = (oBlk n).view.read (Elt F) (G T X) := by
  funext x
  rw [tAll_read, oBlk_read]
  unfold SparseCore.gatherPayload G
  have hk : ∀ k : Fin (S256x128.size gathers_S4096x128_S256x128.axis'),
      ((S256.rowMajor.symm (k.cast hn.symm)) 0).val = k.val := by
    intro k
    rw [← Shape.rowMajor_val_one, Equiv.apply_symm_apply]; rfl
  congr 1
  funext a
  apply Fin.ext
  match a with
  | 0 =>
    refine (congrArg Fin.val (Shape.Gathers.idx_axis gathers_S4096x128_S256x128 _ x)).trans ?_
    show ((listOf (iBank b)).view.read (Elt F) f _).toNat = _ % 4096
    rw [listOf_read, hf, iBlk_read, Nat.mod_eq_of_lt (hX _)]
    congr 2
    funext c
    apply Fin.ext
    match c with
    | 0 => rfl
    | 1 =>
      show 256 * n.val + _ = 256 * n.val + (x 0).val
      rw [hk]; rfl
  | 1 =>
    exact Shape.Gathers.idx_of_ne gathers_S4096x128_S256x128 _ x 1 (by decide)

end Cert.Proof.WholeGather

end
-- ==== Proof.WholeSteps.lean ====
/-
  The steps of the gather's pipeline on one tile, each as it runs on named pieces of memory: a block of row numbers copied into a
  bank and waited for, a gather at a bank's numbers into a bank of rows and its wait, a bank of rows copied out to a block of the
  output and waited for. Every copy is held as its `Flight`, which its wait opens.
-/
module

public import proofs.«01_k».proof.Proof.WholeViews
public import Idealize.ShloMosaic.Lib.SparseCore.Quiescent
public import Idealize.ShloMosaic.Lib.SparseCore.Ops
public import Idealize.ShloMosaic.Lib.Tactic

@[expose] public section

noncomputable section

namespace Cert.Proof.WholeGather

open Cert.WholeIdeal Cert.WholeIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] (EC : UEmb Counters (MT nD τ sig (HIx 1) (Elt F) ℕ U ℕ))
variable [EC.LandsIn (upEmb : UEmb _ (MT nD τ sig (HIx 1) (Elt F) ℕ U ℕ))]

local notation "𝕄" => MT nD τ sig (HIx 1) (Elt F) ℕ U ℕ

variable (d : Dev nD) (c : Fin τ.nSC) (j : Fin τ.nSub)
variable (Tb : S4096x128.Idx → Elt F .f32) (X : S1x65536.Idx → Elt F .i32)

/-- No program variable is a loop's measure here. -/
abbrev 𝒱₀ : Variants := Variants.none

/-! ## The pieces, held -/

/-- Block `n` of the numbers. -/
abbrev iP (n : Fin 256) : sProp 𝕄 := (iBlk n).view.loc (V d c j) ↦[(iBlk n).view.set]{fullShare} X
/-- Block `n` of the output, at `f`. -/
abbrev oP (n : Fin 256) (f : S65536x128.Idx → Elt F .f32) : sProp 𝕄 := (oBlk n).view.loc (V d c j) ↦[(oBlk n).view.set]{fullShare} f
/-- Bank `b` of the staged numbers, at `f`. -/
abbrev bI (b : Fin 2) (f : S2x1x256.Idx → Elt F .i32) : sProp 𝕄 := (iBank b).view.loc (V d c j) ↦[(iBank b).view.set]{fullShare} f
/-- Bank `b` of the staged rows, at `f`. -/
abbrev bO (b : Fin 2) (f : S2x256x128.Idx → Elt F .f32) : sProp 𝕄 := (oBank b).view.loc (V d c j) ↦[(oBank b).view.set]{fullShare} f
/-- A share of the table. -/
abbrev tP (q : PosShare TreeShare) : sProp 𝕄 := tAll.view.loc (V d c j) ↦[tAll.view.set]{q} Tb
/-- A semaphore of this tile at zero. -/
abbrev z (s : DmaSem sig) : sProp 𝕄 := semVal ((V d c j, SemLoc.dma s) : GSem nD τ sig) 0

/-- Bank `b` of the numbers, holding block `n` of them. -/
def bIAt (b : Fin 2) (n : Fin 256) : sProp 𝕄 :=
  iprop(∃ f, ⌜(iBank b).view.read (Elt F) f = (iBlk n).view.read (Elt F) X⌝ ∗ bI d c j b f)
/-- Bank `b` of the rows, holding the rows of block `n`. -/
def bOAt (b : Fin 2) (n : Fin 256) : sProp 𝕄 :=
  iprop(∃ f, ⌜(oBank b).view.read (Elt F) f = (oBlk n).view.read (Elt F) (G Tb X)⌝ ∗ bO d c j b f)
/-- Bank `b` of the numbers at rest: nothing in flight on it, at some contents. -/
def freeI (b : Fin 2) : sProp 𝕄 := iprop(z d c j (iSem b) ∗ ∃ f, bI d c j b f)
/-- Bank `b` of the rows at rest. -/
def freeO (b : Fin 2) : sProp 𝕄 := iprop(z d c j (oSem b) ∗ ∃ f, bO d c j b f)
/-- Block `n` of the numbers in flight into bank `b`. -/
def FI (n : Fin 256) (b : Fin 2) : sProp 𝕄 :=
  Transfers.Flight EC (V d c j) (SemLoc.dma (iSem b)) (none : HIx 1) (iBank b).view.dmaCredit iprop(bIAt d c j X b n ∗ iP d c j X n)
/-- The rows of block `n` in flight out of bank `b`. -/
def FO (n : Fin 256) (b : Fin 2) : sProp 𝕄 :=
  Transfers.Flight EC (V d c j) (SemLoc.dma (oSem b)) (none : HIx 1) (oBlk n).view.dmaCredit iprop(oP d c j n (G Tb X) ∗ ∃ f, bO d c j b f)
/-- A gather at bank `b` of the numbers, which holds block `n`, in flight into bank `b` of the rows. -/
def FG (n : Fin 256) (b : Fin 2) (q : PosShare TreeShare) : sProp 𝕄 :=
  Transfers.Flight EC (V d c j) (SemLoc.dma cc1_scoped4.sem) (none : HIx 1) (oBank b).view.dmaCredit
    iprop(bOAt d c j Tb X b n ∗ tP d c j Tb q ∗ ∃ f, bI d c j b f)

/-! ## Two facts on writes -/

/-- Writing a view's own part of `Y` leaves `Y` on the view. -/
theorem write_read_eq {κ : Kind} {sp : Space} {s : Shape} {e : EltTy} (v : View sig κ sp s e) (f Y : v.ty.Contents (Elt F)) :
    ∀ i ∈ v.set, v.write (Elt F) f (v.read (Elt F) Y) Finset.univ i = Y i := by
  intro i hi
  obtain ⟨x, -, rfl⟩ := Finset.mem_map.mp hi
  rw [View.write_emb_of_mem _ _ (Finset.mem_univ x), View.read_apply, cast_cast, cast_eq]

theorem listOf_set (M : Memref sig .scVector .vmem S1x256 .i32) : (listOf M).view.set = M.view.set := by
  show ((M.view.slice (Rect.unit (s := S1x256) ![0, 0] S1x256.size inb_S1x256_S1x256_0_0)).reshape S256 squeezes_S1x256_S256.numel_eq).set = _
  rw [View.set_reshape, View.set_slice, show (Rect.unit (s := S1x256) ![0, 0] S1x256.size inb_S1x256_S1x256_0_0).set = Finset.univ from ?_]
  · rfl
  · ext y
    simp only [Finset.mem_univ, iff_true]
    rw [Rect.mem_set_unit]
    intro a
    match a with
    | 0 => exact ⟨Nat.zero_le _, (Nat.zero_add _).symm ▸ (y 0).isLt⟩
    | 1 => exact ⟨Nat.zero_le _, (Nat.zero_add _).symm ▸ (y 1).isLt⟩

theorem iCredit : ∀ b : Fin 2, 0 < (iBank b).view.dmaCredit := by decide +kernel
theorem oCredit : ∀ n : Fin 256, 0 < (oBlk n).view.dmaCredit := by decide +kernel
theorem gCredit : ∀ b : Fin 2, ∑ r, ((oBank b).slice (S256x128.rowRect gathers_S4096x128_S256x128.axis' r) (S256x128.stride_rowRect gathers_S4096x128_S256x128.axis' r)).view.dmaCredit
    = (oBank b).view.dmaCredit := by decide +kernel

/-! ## The steps -/

/-- What a copy of block `n` of the numbers into bank `b` delivers. -/
theorem landI (n : Fin 256) (b : Fin 2) (f : S2x1x256.Idx → Elt F .i32) :
    iprop(((iBank b).view.loc (V d c j) ↦[(iBank b).view.set]{fullShare}
        (iBank b).view.write (Elt F) f (ReadAs.same.apply ((iBlk n).view.read (Elt F) X)) Finset.univ) ∗ iP d c j X n)
      ⊢ (iprop(bIAt d c j X b n ∗ iP d c j X n) : sProp 𝕄) := by
  unfold bIAt
  iintro ⟨Hb, Hi⟩
  isplitl [Hb]
  · iexists ((iBank b).view.write (Elt F) f (ReadAs.same.apply ((iBlk n).view.read (Elt F) X)) Finset.univ)
    isplitr
    · ipureintro; exact View.read_write_univ _ _
    · iexact Hb
  · iexact Hi

/-- What a copy of bank `b`, holding the rows of block `n`, out to block `n` delivers. -/
theorem landO (n : Fin 256) (b : Fin 2) (f : S65536x128.Idx → Elt F .f32) (g : S2x256x128.Idx → Elt F .f32)
    (hg : (oBank b).view.read (Elt F) g = (oBlk n).view.read (Elt F) (G Tb X)) :
    iprop(((oBlk n).view.loc (V d c j) ↦[(oBlk n).view.set]{fullShare}
        (oBlk n).view.write (Elt F) f (ReadAs.same.apply ((oBank b).view.read (Elt F) g)) Finset.univ) ∗ bO d c j b g)
      ⊢ (iprop(oP d c j n (G Tb X) ∗ ∃ f, bO d c j b f) : sProp 𝕄) := by
  have e : ((oBlk n).view.loc (V d c j) ↦[(oBlk n).view.set]{fullShare}
      (oBlk n).view.write (Elt F) f (ReadAs.same.apply ((oBank b).view.read (Elt F) g)) Finset.univ : sProp 𝕄) = oP d c j n (G Tb X) :=
    pointsTo_congr (by rw [ReadAs.apply_same, hg]; exact write_read_eq (oBlk n).view f (G Tb X))
  rw [e]
  iintro ⟨Ho, Hb⟩
  isplitl [Ho]; · iexact Ho
  iexists g; iexact Hb

/-- What a gather at bank `b` of the numbers, holding block `n`, delivers. -/
theorem landG (hX : ∀ i, (X i).toNat < 4096) (n : Fin 256) (b : Fin 2) (q : PosShare TreeShare) (f : S2x1x256.Idx → Elt F .i32) (g : S2x256x128.Idx → Elt F .f32)
    (hf : (iBank b).view.read (Elt F) f = (iBlk n).view.read (Elt F) X) (hn : S256.numel = S256x128.size gathers_S4096x128_S256x128.axis')
    (hin : ∀ x, ((listOf (iBank b)).view.read (Elt F) f x).toNat < S4096x128.size gathers_S4096x128_S256x128.axis) :
    iprop(((oBank b).view.loc (V d c j) ↦[(oBank b).view.set]{fullShare}
        (oBank b).view.write (Elt F) g (SparseCore.gatherPayload gathers_S4096x128_S256x128 (tAll.view.read (Elt F) Tb)
          (SparseCore.rows ((listOf (iBank b)).view.read (Elt F) f) hn hin)) Finset.univ)
        ∗ tP d c j Tb q ∗ ((listOf (iBank b)).view.loc (V d c j) ↦[(listOf (iBank b)).view.set]{fullShare} f))
      ⊢ (iprop(bOAt d c j Tb X b n ∗ tP d c j Tb q ∗ ∃ f, bI d c j b f) : sProp 𝕄) := by
  unfold bOAt
  rw [gather_eq Tb X hX n b f hf hn hin, listOf_set]
  iintro ⟨Hb, Ht, Hi⟩
  isplitl [Hb]
  · iexists ((oBank b).view.write (Elt F) g ((oBlk n).view.read (Elt F) (G Tb X)) Finset.univ)
    isplitr
    · ipureintro; exact View.read_write_univ _ _
    · iexact Hb
  isplitl [Ht]; · iexact Ht
  iexists f; iexact Hi

section Steps

variable {α : Type} {Q : α → sProp (MT nD τ sig (HIx 1) (Elt F) ℕ U ℕ)}
variable {k : PUnit → Prog (TpuEff nD τ sig (Elt F) Λ₀ (.scVector c j)) α}

/-- Block `n` of the numbers starts on its way into bank `b`. -/
theorem wp_copyIn (n : Fin 256) (b : Fin 2) {src : Memref sig .scVector .hbm S1x256 .i32} {dst : Memref sig .scVector .vmem S1x256 .i32} {sm : DmaSem sig}
    (hs : src = iBlk n) (hd : dst = iBank b) (hm : sm = iSem b) {hsrc : src.view.WordExact} {hdst : dst.view.WordExact} {hsem : DmaTarget.Typed (nD := nD) (p := .scVector c j) .hbm (.dma sm) (.here dst)} :
    iprop(iP d c j X n ∗ freeI d c j b)
      ⊢ iprop((FI EC d c j X n b -∗ wp frame (wpE (defs₀ (F := F)) 𝒱₀ (V d c j) none) Set.univ (k ⟨⟩) Q)
          -∗ wp frame (wpE (defs₀ (F := F)) 𝒱₀ (V d c j) none) Set.univ (.op (.enqueueDma src (.here dst) (.dma sm) hsrc hdst hsem) k) Q) := by
  subst hs hd hm
  unfold freeI
  iintro ⟨Hi, Hz, ⟨%f, Hb⟩⟩ Hk
  iapply (Transfers.wp_dmaLocal EC 𝒱₀ (V d c j) none (none : HIx 1) (iBank b).view.dmaCredit rfl (iCredit b)
    (Finset.Subset.refl _) (q := fullShare) (fs := X) (fd := f)) $$ [Hi Hb Hz]
  · isplitl [Hi]; · iexact Hi
    isplitl [Hb]; · iexact Hb
    iexact Hz
  iintro HF
  iapply Hk
  unfold FI
  iapply (Transfers.Flight_mono EC (V d c j) (landI d c j X n b f)) $$ HF

/-- The rows of block `n` start on their way out of bank `b`. -/
theorem wp_copyOut (n : Fin 256) (b : Fin 2) {src : Memref sig .scVector .vmem S256x128 .f32} {dst : Memref sig .scVector .hbm S256x128 .f32} {sm : DmaSem sig}
    (hs : src = oBank b) (hd : dst = oBlk n) (hm : sm = oSem b) {hsrc : src.view.WordExact} {hdst : dst.view.WordExact} {hsem : DmaTarget.Typed (nD := nD) (p := .scVector c j) .vmem (.dma sm) (.here dst)} :
    iprop(bOAt d c j Tb X b n ∗ z d c j (oSem b) ∗ ∃ f, oP d c j n f)
      ⊢ iprop((FO EC d c j Tb X n b -∗ wp frame (wpE (defs₀ (F := F)) 𝒱₀ (V d c j) none) Set.univ (k ⟨⟩) Q)
          -∗ wp frame (wpE (defs₀ (F := F)) 𝒱₀ (V d c j) none) Set.univ (.op (.enqueueDma src (.here dst) (.dma sm) hsrc hdst hsem) k) Q) := by
  subst hs hd hm
  unfold bOAt
  iintro ⟨⟨%g, %hg, Hb⟩, Hz, ⟨%f, Ho⟩⟩ Hk
  iapply (Transfers.wp_dmaLocal EC 𝒱₀ (V d c j) none (none : HIx 1) (oBlk n).view.dmaCredit rfl (oCredit n)
    (Finset.Subset.refl _) (q := fullShare) (fs := show Buf (Elt F) ((oBank b).view.loc (V d c j)) from g) (fd := f)) $$ [Hb Ho Hz]
  · isplitl [Hb]; · iexact Hb
    isplitl [Ho]; · iexact Ho
    iexact Hz
  iintro HF
  iapply Hk
  unfold FO
  iapply (Transfers.Flight_mono EC (V d c j) (landO d c j Tb X n b f g hg)) $$ HF

/-- The gather at bank `b` of the numbers starts, into bank `b` of the rows. -/
theorem wp_gather (hX : ∀ i, (X i).toNat < 4096) (n : Fin 256) (b : Fin 2) (q : PosShare TreeShare) {dst : Memref sig .scVector .vmem S256x128 .f32}
    {lst : Memref sig .scVector .vmem S1x256 .i32}
    (hd : dst = oBank b) (hl : lst = iBank b) {hp : Kind.scVector = .scVector} {hsrc : tAll.view.WordExact}
    {he : EltTy.f32.bits = 32} {hsp : Space.hbm = .hbm ∨ Space.hbm = .shared} {hr : S4096x128.StreamRows 0}
    {hn : S256.numel = S256x128.size gathers_S4096x128_S256x128.axis'} :
    iprop(tP d c j Tb q ∗ (∃ f, bO d c j b f) ∗ bIAt d c j X b n ∗ z d c j cc1_scoped4.sem)
      ⊢ iprop((FG EC d c j Tb X n b q -∗ wp frame (wpE (defs₀ (F := F)) 𝒱₀ (V d c j) none) Set.univ (k ⟨⟩) Q)
          -∗ wp frame (wpE (defs₀ (F := F)) 𝒱₀ (V d c j) none) Set.univ
            (SparseCore.enqueueIndirectGather (p := .scVector c j) hp tAll dst gathers_S4096x128_S256x128 (listOf lst) hn cc1_scoped4.sem hsrc he hsp hr >>= k) Q) := by
  subst hd hl
  unfold bIAt
  iintro ⟨Ht, ⟨%g, Hb⟩, ⟨%f, %hf, Hi⟩, Hz⟩ Hk
  ihave Hi' := (Entails.of_eq (show bI d c j b f = ((listOf (iBank b)).view.loc (V d c j) ↦[(listOf (iBank b)).view.set]{fullShare} f : sProp 𝕄) by
    rw [listOf_set])) $$ Hi
  iapply (SparseCore.wp_indirectGatherLocal EC 𝒱₀ (V d c j) none (hg := gathers_S4096x128_S256x128) (none : HIx 1)
      (oBank b).view.dmaCredit (gCredit b) (by decide) (list_inb X hX n b f hf) (q := q) (fs := Tb) (fd := g) (qo := fullShare)) $$ [Ht Hb Hi' Hz]
  · isplitl [Ht]; · iexact Ht
    isplitl [Hb]; · iexact Hb
    isplitl [Hi']; · iexact Hi'
    iexact Hz
  iintro HF
  iapply Hk
  unfold FG
  iapply (Transfers.Flight_mono EC (V d c j) (landG d c j Tb X hX n b q f g hf hn _)) $$ HF

variable {O : CellTallies nD τ sig (HIx 1)} {W : Waits sig (HIx 1)}

/-- The waits recorded so far, all of them either recorded at the start or this tile's own. -/
def Ow (O : CellTallies nD τ sig (HIx 1)) (W : Waits sig (HIx 1)) : sProp 𝕄 :=
  iprop(∃ W', ⌜∀ p ∈ W', p ∈ W ∨ p.2 = none⌝ ∗ owes (V d c j) O W')

/-- A wait on a copy in flight on `sm`, its amount the one waited for, brings what the copy delivers. -/
theorem wp_wait {κ : Kind} {sp sp' : Space} {s s' : Shape} {e e' : EltTy} {sm sm' : DmaSem sig} {N : ℕ} {Dl : sProp 𝕄}
    {src : Memref sig .scVector sp' s' e'} {dst : Memref sig κ sp s e} {hsrc : src.view.WordExact} {hdst : dst.view.WordExact}
    (hm : sm = sm') (hN : dst.view.dmaCredit = N) :
    iprop(Transfers.MayWaits (V d c j) (none : HIx 1) O ∗ Transfers.Flight EC (V d c j) (SemLoc.dma sm') (none : HIx 1) N Dl ∗ Ow d c j O W)
      ⊢ iprop(((Dl ∗ z d c j sm' ∗ Ow d c j O W) -∗ wp frame (wpE (defs₀ (F := F)) 𝒱₀ (V d c j) none) Set.univ (k ⟨⟩) Q)
          -∗ wp frame (wpE (defs₀ (F := F)) 𝒱₀ (V d c j) none) Set.univ (.op (.waitDma2 sm src dst hsrc hdst) k) Q) := by
  subst hm
  unfold Ow
  iintro ⟨#Hmw, HF, ⟨%W', %hW', HO⟩⟩ Hk
  iapply (Transfers.wp_waitLocalO EC 𝒱₀ (V d c j) none (none : HIx 1) hN) $$ [HF HO]
  · isplitl [HF]; · iexact HF
    isplitl [HO]; · iexact HO
    iapply (Transfers.MayWaits.elim (SemLoc.dma sm)) $$ Hmw
  iintro ⟨HD, Hz, HO⟩
  iapply Hk
  isplitl [HD]; · iexact HD
  isplitl [Hz]; · iexact Hz
  iexists (insert (SemLoc.dma sm, (none : HIx 1)) W')
  isplitr
  rotate_left
  · iexact HO
  · ipureintro
    intro p hp
    rcases Finset.mem_insert.mp hp with hp | hp
    · exact .inr (hp ▸ rfl)
    · exact hW' p hp

end Steps

end Cert.Proof.WholeGather

end
-- ==== Proof.WholeTrip.lean ====
/-
  One trip of the gather's pipeline on a tile. Before trip `k` block `k` of the tile's numbers is in flight into bank `k mod 2` and the
  rows of block `k − 1` are in flight out of the other bank of rows; the trip fetches block `k + 1`, waits for block `k`, gathers its
  rows, starts them on their way out and waits for those of block `k − 1`.
-/
module

public import proofs.«01_k».proof.Proof.WholeSteps

@[expose] public section

noncomputable section

namespace Cert.Proof.WholeGather

open Cert.WholeIdeal Cert.WholeIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

attribute [local irreducible] Idealize.SL.BI.bigSep

variable {F : FTy → Type} [FloatOps F]
variable {U : Type} [URA U] (EC : UEmb Counters (MT nD τ sig (HIx 1) (Elt F) ℕ U ℕ))
variable [EC.LandsIn (upEmb : UEmb _ (MT nD τ sig (HIx 1) (Elt F) ℕ U ℕ))]

local notation "𝕄" => MT nD τ sig (HIx 1) (Elt F) ℕ U ℕ

variable (d : Dev nD) (L : grid1.Coords)
variable (Tb : S4096x128.Idx → Elt F .f32) (X : S1x65536.Idx → Elt F .i32) (q : PosShare TreeShare)

/-- The SparseCore and the subcore of a tile. -/
abbrev cV (L : grid1.Coords) : Fin τ.nSC := (L 0).castLE hcore1
abbrev jV (L : grid1.Coords) : Fin τ.nSub := (L 1).castLE hsub1

/-! ## The blocks ahead of and behind a trip -/

/-- The tile's block `t`. -/
def blk (L : grid1.Coords) (t : ℕ) : Fin 256 := ⟨nb L + t % 8, nb_lt L _ (Nat.mod_lt _ (by norm_num))⟩
/-- The bank of trip `t`. -/
def slot (t : ℕ) : Fin 2 := ⟨t % 2, Nat.mod_lt _ (by norm_num)⟩

theorem blk_eq (t : ℕ) (h : t < 8) (h' : nb L + t < 256) : (⟨nb L + t, h'⟩ : Fin 256) = blk L t :=
  Fin.ext (by show nb L + t = nb L + t % 8; rw [Nat.mod_eq_of_lt h])
theorem slot_add_two (t : ℕ) : slot (t + 2) = slot t := Fin.ext (by show (t + 2) % 2 = t % 2; omega)
theorem slot_pred (t : ℕ) (h : 0 < t) : slot (t - 1) = slot (t + 1) := Fin.ext (by show (t - 1) % 2 = (t + 1) % 2; omega)

def fromP (n : ℕ) : Finset (Fin 8) := Finset.univ.filter fun t : Fin 8 => n ≤ t.val
def belowP (n : ℕ) : Finset (Fin 8) := Finset.univ.filter fun t : Fin 8 => t.val < n
theorem fromP_zero : fromP 0 = Finset.univ := by decide
theorem fromP_of_le {n : ℕ} (hn : 8 ≤ n) : fromP n = ∅ :=
  Finset.filter_eq_empty_iff.mpr fun t _ => by have := t.isLt; omega
theorem belowP_zero : belowP 0 = ∅ := by decide
theorem belowP_eight : belowP 8 = Finset.univ := by decide
theorem ahead (n : ℕ) (hn : n < 8) (Φ : Fin 8 → sProp 𝕄) : bigSep (fromP n) Φ = iprop(Φ ⟨n, hn⟩ ∗ bigSep (fromP (n + 1)) Φ) := by
  rw [show fromP n = insert ⟨n, hn⟩ (fromP (n + 1)) by revert hn n; decide,
    SparseCore.bigSep_insert' (show (⟨n, hn⟩ : Fin 8) ∉ fromP (n + 1) by revert hn n; decide)]
theorem behind (n : ℕ) (hn : n < 8) (Φ : Fin 8 → sProp 𝕄) : bigSep (belowP (n + 1)) Φ = iprop(Φ ⟨n, hn⟩ ∗ bigSep (belowP n) Φ) := by
  rw [show belowP (n + 1) = insert ⟨n, hn⟩ (belowP n) by revert hn n; decide,
    SparseCore.bigSep_insert' (show (⟨n, hn⟩ : Fin 8) ∉ belowP n by revert hn n; decide)]
attribute [irreducible] fromP belowP

/-! ## The invariant -/

/-- Bank `k mod 2` of the numbers before trip `k`: block `k` in flight into it, if there is one. -/
def inNow (k : ℕ) : sProp 𝕄 := if k < 8 then FI EC d (cV L) (jV L) X (blk L k) (slot k) else freeI d (cV L) (jV L) (slot k)
/-- The other bank of rows before trip `k`: block `k − 1` in flight out of it, if there is one. -/
def outLast (k : ℕ) : sProp 𝕄 := if 0 < k then FO EC d (cV L) (jV L) Tb X (blk L (k - 1)) (slot (k + 1)) else freeO d (cV L) (jV L) (slot (k + 1))

/-- The state of the tile before trip `k`, its counters at `acc`. -/
def Inv (O : CellTallies nD τ sig (HIx 1)) (W : Waits sig (HIx 1)) (k : ℕ) (acc : BitVec 32 × BitVec 32 × BitVec 32 × BitVec 32 × BitVec 32) : sProp 𝕄 :=
  iprop(⌜acc = accAt k⌝ ∗ Transfers.MayWaits (V d (cV L) (jV L)) (none : HIx 1) O ∗ Ow d (cV L) (jV L) O W
    ∗ inNow EC d L X k ∗ freeI d (cV L) (jV L) (slot (k + 1)) ∗ outLast EC d L Tb X k ∗ freeO d (cV L) (jV L) (slot k)
    ∗ z d (cV L) (jV L) cc1_scoped4.sem ∗ tP d (cV L) (jV L) Tb q
    ∗ (bigSep (fromP (k + 1)) fun t => iP d (cV L) (jV L) X (blk L t.val)) ∗ (bigSep (belowP k) fun t => iP d (cV L) (jV L) X (blk L t.val))
    ∗ (bigSep (fromP k) fun t => iprop(∃ f, oP d (cV L) (jV L) (blk L t.val) f)) ∗ (bigSep (belowP (k - 1)) fun t => oP d (cV L) (jV L) (blk L t.val) (G Tb X)))

variable {α : Type} {Q : α → sProp (MT nD τ sig (HIx 1) (Elt F) ℕ U ℕ)}
variable {O : CellTallies nD τ sig (HIx 1)} {W : Waits sig (HIx 1)}

section Guarded

variable {kk : PUnit → Prog (TpuEff nD τ sig (Elt F) Λ₀ (.scVector (cV L) (jV L))) α}

/-- Under its guard, the next block's numbers start on their way; without one there is none left to fetch. -/
theorem wp_fetch (k : ℕ) (hk : k < 8) {cnd : Prop} [Decidable cnd] (hc : cnd ↔ k < 7)
    {src : cnd → Memref sig .scVector .hbm S1x256 .i32} {dst : cnd → Memref sig .scVector .vmem S1x256 .i32} {sm : cnd → DmaSem sig}
    (hs : ∀ h, src h = iBlk (blk L (k + 1))) (hd : ∀ h, dst h = iBank (slot (k + 1))) (hm : ∀ h, sm h = iSem (slot (k + 1)))
    {hsrc : ∀ h, (src h).view.WordExact} {hdst : ∀ h, (dst h).view.WordExact}
    {hsem : ∀ h, DmaTarget.Typed (nD := nD) (p := .scVector (cV L) (jV L)) .hbm (.dma (sm h)) (.here (dst h))} :
    iprop(freeI d (cV L) (jV L) (slot (k + 1)) ∗ bigSep (fromP (k + 1)) fun t => iP d (cV L) (jV L) X (blk L t.val))
      ⊢ iprop(((inNow EC d L X (k + 1) ∗ bigSep (fromP (k + 1 + 1)) fun t => iP d (cV L) (jV L) X (blk L t.val))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
            (if h : cnd then .op (.enqueueDma (src h) (.here (dst h)) (.dma (sm h)) (hsrc h) (hdst h) (hsem h)) kk else kk ⟨⟩) Q) := by
  unfold inNow
  by_cases h : cnd
  · have hk7 := hc.mp h
    rw [dif_pos h, if_pos (show k + 1 < 8 by omega), ahead (k + 1) (by omega)]
    iintro ⟨Hf, Hi, Hr⟩ Hk
    iapply (wp_copyIn EC d (cV L) (jV L) X (blk L (k + 1)) (slot (k + 1)) (hs h) (hd h) (hm h)) $$ [Hf Hi]
    · isplitl [Hi]; · iexact Hi
      iexact Hf
    iintro HF
    iapply Hk
    isplitl [HF]; · iexact HF
    iexact Hr
  · have hk7 : ¬ k < 7 := fun h' => h (hc.mpr h')
    rw [dif_neg h, if_neg (show ¬ k + 1 < 8 by omega), fromP_of_le (show 8 ≤ k + 1 by omega), fromP_of_le (show 8 ≤ k + 1 + 1 by omega)]
    iintro H Hk
    iapply Hk
    iexact H

/-- Under its guard, the rows of the block before have reached the output; without one there is none to wait for. -/
theorem wp_settle (k : ℕ) (hk : k < 8) {cnd : Prop} [Decidable cnd] (hc : cnd ↔ 0 < k)
    {src : cnd → Memref sig .scVector .vmem S256x128 .f32} {dst : cnd → Memref sig .scVector .hbm S256x128 .f32} {sm : cnd → DmaSem sig}
    (hd : ∀ h, dst h = oBlk (blk L (k - 1))) (hm : ∀ h, sm h = oSem (slot (k + 1)))
    {hsrc : ∀ h, (src h).view.WordExact} {hdst : ∀ h, (dst h).view.WordExact} :
    iprop(Transfers.MayWaits (V d (cV L) (jV L)) (none : HIx 1) O ∗ outLast EC d L Tb X k ∗ Ow d (cV L) (jV L) O W
        ∗ bigSep (belowP (k - 1)) fun t => oP d (cV L) (jV L) (blk L t.val) (G Tb X))
      ⊢ iprop(((freeO d (cV L) (jV L) (slot (k + 1)) ∗ Ow d (cV L) (jV L) O W ∗ bigSep (belowP k) fun t => oP d (cV L) (jV L) (blk L t.val) (G Tb X))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ
            (if h : cnd then .op (.waitDma2 (sm h) (src h) (dst h) (hsrc h) (hdst h)) kk else kk ⟨⟩) Q) := by
  unfold outLast
  by_cases h : cnd
  · have hk0 := hc.mp h
    rw [dif_pos h, if_pos hk0]
    iintro ⟨#Hmw, HF, HO, Hob⟩ Hk
    unfold FO
    iapply (wp_wait EC d (cV L) (jV L) (hm h) (show (dst h).view.dmaCredit = (oBlk (blk L (k - 1))).view.dmaCredit by rw [hd h])) $$ [HF HO]
    · isplitr; · iexact Hmw
      isplitl [HF]; · iexact HF
      iexact HO
    iintro ⟨⟨Ho, Hb⟩, Hz, HO⟩
    iapply Hk
    isplitl [Hz Hb]
    · unfold freeO
      isplitl [Hz]; · iexact Hz
      iexact Hb
    isplitl [HO]; · iexact HO
    iapply (Entails.of_eq (show iprop(oP d (cV L) (jV L) (blk L (k - 1)) (G Tb X) ∗ bigSep (belowP (k - 1)) fun t => oP d (cV L) (jV L) (blk L t.val) (G Tb X))
        = (bigSep (belowP k) fun t => oP d (cV L) (jV L) (blk L t.val) (G Tb X) : sProp 𝕄) by
      obtain ⟨k', rfl⟩ : ∃ k', k = k' + 1 := ⟨k - 1, by omega⟩
      rw [behind k' (by omega)]; rfl))
    isplitl [Ho]; · iexact Ho
    iexact Hob
  · have hk0 : k = 0 := Nat.eq_zero_of_not_pos fun h' => h (hc.mpr h')
    subst hk0
    rw [dif_neg h, if_neg (by decide)]
    iintro ⟨-, HF, HO, Hob⟩ Hk
    iapply Hk
    isplitl [HF]; · iexact HF
    isplitl [HO]; · iexact HO
    iexact Hob

end Guarded

/-- A guarded program followed by another is guarded as a whole. -/
theorem bind_dite {E : Type → Type} {β γ : Type} {cnd : Prop} [Decidable cnd] (t : cnd → Prog E β) (e : ¬ cnd → Prog E β) (kk : β → Prog E γ) :
    (dite cnd t e >>= kk) = if h : cnd then t h >>= kk else e h >>= kk := by
  split <;> rfl

/-- The word of the tile's first block. -/
abbrev w4 (L : grid1.Coords) : BitVec 32 := BitVec.ofNat 32 (nb L)

set_option maxHeartbeats 4000000 in
/-- One trip takes the state before it to the state after it. -/
theorem trip (hX : ∀ i, (X i).toNat < 4096) {v4 : BitVec 32} (hv : v4 = w4 L) (k : Fin k1_t1_loop.trips) (acc : BitVec 32 × BitVec 32 × BitVec 32 × BitVec 32 × BitVec 32) :
    Inv EC d L Tb X q O W k.val acc
      ⊢ wp frame (wpE (defs₀ (F := F)) 𝒱₀ (V d (cV L) (jV L)) none) Set.univ
          (k1_t1_body L tV (Memref.isWhole_whole _) iV (Memref.isWhole_whole _) oV (Memref.isWhole_whole _) sI (Memref.isWhole_whole _) cc1_scoped1
            sO (Memref.isWhole_whole _) cc1_scoped3 cc1_scoped4 v4 k acc)
          (Inv EC d L Tb X q O W (k.val + 1)) := by
  subst hv
  have hk : k.val < 8 := trips ▸ k.isLt
  unfold Inv
  iintro ⟨%hacc, #Hmw, HO, HinN, HinF, HoutL, HoutF, Hz, Ht, Hia, Hib, Hoa, Hob⟩
  subst hacc
  sl_respell [k1_t1_body]
  simp only [k1_part1_eq_skeleton, k1_part2_eq_skeleton]; unfold k1_part1_skel k1_part2_skel
  simp only [Prog.lift, Prog.bind_op, Prog.bind_ret, Prog.pure_eq_ret, Prog.bind_assoc, ite_self, bind_dite, SparseCore.waitIndirectGather]
  rw [wp_assume_of 𝒱₀ (V d (cV L) (jV L)) none Set.univ (chk3_at k), wp_assume_of 𝒱₀ (V d (cV L) (jV L)) none Set.univ (chk2_at k), wp_assume_of 𝒱₀ (V d (cV L) (jV L)) none Set.univ (chk1_at L k)]
  iapply (wp_fetch EC d L X k.val hk (cond1_iff L k)
    (fun h => (iBlk_of (nb_lt L _ (by have := (cond1_iff L k).mp h; omega)) (off5_at L k ((cond1_iff L k).mp h))).trans
      (congrArg iBlk (blk_eq L _ (by have := (cond1_iff L k).mp h; omega) _)))
    (fun h => iBank_of (Nat.mod_lt _ (by norm_num)) (off4_at k ((cond1_iff L k).mp h)))
    (fun h => iSem_of (Nat.mod_lt _ (by norm_num)) (off6_at k ((cond1_iff L k).mp h)))) $$ [HinF Hia]
  · isplitl [HinF]; · iexact HinF
    iexact Hia
  iintro ⟨HinN', Hia⟩
  rw [dif_pos (cond2_one L k)]
  ihave HF := (Entails.of_eq (show inNow EC d L X k.val = FI EC d (cV L) (jV L) X (blk L k.val) (slot k.val) from if_pos hk)) $$ HinN
  unfold FI
  iapply (wp_wait EC d (cV L) (jV L) (iSem_of (Nat.mod_lt _ (by norm_num)) (off9_at k))
    (congrArg (fun M : Memref sig .scVector .vmem S1x256 .i32 => M.view.dmaCredit) (iBank_of (Nat.mod_lt _ (by norm_num)) (off7_at k)))) $$ [HF HO]
  · isplitr; · iexact Hmw
    isplitl [HF]; · iexact HF
    iexact HO
  iintro ⟨⟨Hb, Hi⟩, Hzi, HO⟩
  ihave HoutF' := (Entails.of_eq (show freeO d (cV L) (jV L) (slot k.val) = (iprop(z d (cV L) (jV L) (oSem (slot k.val))
    ∗ ∃ f, bO d (cV L) (jV L) (slot k.val) f) : sProp 𝕄) from rfl)) $$ HoutF
  icases HoutF' with ⟨Hzo, Hbo⟩
  iapply (wp_gather EC d (cV L) (jV L) Tb X hX (blk L k.val) (slot k.val) q
    (oBank_of (Nat.mod_lt _ (by norm_num)) (off10_at k)) (iBank_of (Nat.mod_lt _ (by norm_num)) (off11_at k))) $$ [Ht Hbo Hb Hz]
  · isplitl [Ht]; · iexact Ht
    isplitl [Hbo]; · iexact Hbo
    isplitl [Hb]; · iexact Hb
    iexact Hz
  iintro HF
  unfold FG
  iapply (wp_wait EC d (cV L) (jV L) rfl
    (congrArg (fun M : Memref sig .scVector .vmem S256x128 .f32 => M.view.dmaCredit) (oBank_of (Nat.mod_lt _ (by norm_num)) (off10_at k)))) $$ [HF HO]
  · isplitr; · iexact Hmw
    isplitl [HF]; · iexact HF
    iexact HO
  iintro ⟨⟨Hbo, Ht, Hb⟩, Hz, HO⟩
  rw [dif_pos (cond5_one L k)]
  ihave Hoa' := (Entails.of_eq (ahead k.val hk _)) $$ Hoa
  icases Hoa' with ⟨Ho, Hoa⟩
  iapply (wp_copyOut EC d (cV L) (jV L) Tb X (blk L k.val) (slot k.val)
    (oBank_of (Nat.mod_lt _ (by norm_num)) (off12_at k))
    ((oBlk_of (nb_lt L _ hk) (off13_at L k)).trans (congrArg oBlk (blk_eq L _ hk _)))
    (oSem_of (Nat.mod_lt _ (by norm_num)) (off14_at k))) $$ [Hbo Hzo Ho]
  · isplitl [Hbo]; · iexact Hbo
    isplitl [Hzo]; · iexact Hzo
    iexact Ho
  iintro HFo
  iapply (wp_settle EC d L Tb X k.val hk (cond7_iff L k)
    (fun h => (oBlk_of (nb_lt L _ (by omega)) (off16_at L k ((cond7_iff L k).mp h))).trans (congrArg oBlk (blk_eq L _ (by omega) _)))
    (fun h => (oSem_of (Nat.mod_lt _ (by norm_num)) (off17_at k ((cond7_iff L k).mp h))).trans (congrArg oSem (slot_pred _ ((cond7_iff L k).mp h))))) $$ [HoutL HO Hob]
  · isplitr; · iexact Hmw
    isplitl [HoutL]; · iexact HoutL
    isplitl [HO]; · iexact HO
    iexact Hob
  iintro ⟨HoutF, HO, Hob⟩
  rw [wp_ret]; imodintro
  isplitr
  · ipureintro
    clear hk hX
    revert L k
    decide +kernel
  isplitr; · iexact Hmw
  isplitl [HO]; · iexact HO
  isplitl [HinN']; · iexact HinN'
  isplitl [Hzi Hb]
  · rw [slot_add_two]; unfold freeI
    isplitl [Hzi]; · iexact Hzi
    iexact Hb
  isplitl [HFo]
  · unfold outLast
    rw [if_pos (Nat.succ_pos _), slot_add_two]
    iexact HFo
  isplitl [HoutF]; · iexact HoutF
  isplitl [Hz]; · iexact Hz
  isplitl [Ht]; · iexact Ht
  isplitl [Hia]; · iexact Hia
  isplitl [Hi Hib]
  · rw [behind k.val hk]
    isplitl [Hi]; · iexact Hi
    iexact Hib
  isplitl [Hoa]; · iexact Hoa
  iexact Hob

/-- The tile's blocks of the numbers, the table's share, the banks and the cells, and its blocks of the output at `f`. -/
def Held (fo : Fin 256 → sProp (MT nD τ sig (HIx 1) (Elt F) ℕ U ℕ)) : sProp 𝕄 :=
  iprop(freeI d (cV L) (jV L) 0 ∗ freeI d (cV L) (jV L) 1 ∗ freeO d (cV L) (jV L) 0 ∗ freeO d (cV L) (jV L) 1
    ∗ z d (cV L) (jV L) cc1_scoped4.sem ∗ tP d (cV L) (jV L) Tb q
    ∗ (bigSep Finset.univ fun t : Fin 8 => iP d (cV L) (jV L) X (blk L t.val)) ∗ bigSep Finset.univ fun t : Fin 8 => fo (blk L t.val))

set_option maxHeartbeats 4000000 in
include EC in
/-- The tile's task: its eight blocks of the output end at the rows its eight blocks of numbers name. -/
theorem tile (hX : ∀ i, (X i).toNat < 4096) :
    iprop(Transfers.MayWaits (V d (cV L) (jV L)) (none : HIx 1) O ∗ Ow d (cV L) (jV L) O W
        ∗ Held (U := U) d L Tb X q fun n => iprop(∃ f, oP d (cV L) (jV L) n f))
      ⊢ wp frame (wpE (defs₀ (F := F)) 𝒱₀ (V d (cV L) (jV L)) none) Set.univ
          (cc1_gather_kernel L tV (Memref.isWhole_whole _) iV (Memref.isWhole_whole _) oV (Memref.isWhole_whole _)
            sI (Memref.isWhole_whole _) cc1_scoped1 sO (Memref.isWhole_whole _) cc1_scoped3 cc1_scoped4)
          fun _ => iprop(Ow d (cV L) (jV L) O W ∗ Held (U := U) d L Tb X q fun n => oP d (cV L) (jV L) n (G Tb X)) := by
  simp only [cc1_gather_kernel_eq_skeleton]; unfold cc1_gather_kernel_skel
  simp only [k1_part3_eq_skeleton, k1_part4_eq_skeleton]; unfold k1_part3_skel k1_part4_skel
  simp only [Prog.lift, Prog.bind_op, Prog.bind_ret, Prog.pure_eq_ret, Prog.bind_assoc]
  unfold Held
  iintro ⟨#Hmw, HO, HI0, HI1, HO0, HO1, Hz, Ht, Hi, Ho⟩
  ihave Hi' := (Entails.of_eq ((congrArg (fun s => bigSep s fun t : Fin 8 => iP d (cV L) (jV L) X (blk L t.val)) fromP_zero.symm).trans (ahead 0 (by decide) _))) $$ Hi
  icases Hi' with ⟨Hi0, Hia⟩
  iapply (wp_copyIn EC d (cV L) (jV L) X (blk L 0) 0
    ((iBlk_of (nb_lt L 0 (by decide)) (off2_at L)).trans (congrArg iBlk (blk_eq L 0 (by decide) _)))
    (iBank_of (n := 0) (by decide) k1_off1_eq) (iSem_of (n := 0) (by decide) k1_off3_eq)) $$ [HI0 Hi0]
  · isplitl [Hi0]; · iexact Hi0
    iexact HI0
  iintro HF
  sl_for (Inv EC d L Tb X q O W) $$ [HO HF HI1 HO0 HO1 Hz Ht Hia Ho]
  · intro k acc
    refine trip EC d L Tb X q hX ?_ k acc
    revert L; decide +kernel
  · unfold Inv
    isplitr; · ipureintro; decide
    isplitr; · iexact Hmw
    isplitl [HO]; · iexact HO
    isplitl [HF]
    · iapply (Entails.of_eq (show inNow EC d L X 0 = FI EC d (cV L) (jV L) X (blk L 0) 0 from if_pos (by decide)).symm)
      iexact HF
    isplitl [HI1]; · iexact HI1
    isplitl [HO1]
    · iapply (Entails.of_eq (show outLast EC d L Tb X 0 = freeO d (cV L) (jV L) 1 from if_neg (by decide)).symm)
      iexact HO1
    isplitl [HO0]; · iexact HO0
    isplitl [Hz]; · iexact Hz
    isplitl [Ht]; · iexact Ht
    isplitl [Hia]; · iexact Hia
    isplitr
    · rw [belowP_zero, bigSep_empty]; iempintro
    isplitl [Ho]
    · rw [fromP_zero]; iexact Ho
    rw [belowP_zero, bigSep_empty]; iempintro
  iintro %acc HI
  ihave HI' := (Entails.of_eq (show Inv EC d L Tb X q O W (Scf.trips k1_t1_loop.lb k1_t1_loop.ub k1_t1_loop.st) acc = Inv EC d L Tb X q O W 8 acc from
    congrArg (fun n => Inv EC d L Tb X q O W n acc) trips)) $$ HI
  unfold Inv
  icases HI' with ⟨%hacc, -, HO, HI0, HI1, HF, HO0, Hz, Ht, -, Hi, -, Ho⟩
  subst hacc
  sl_respell [tile.sl.prog.cont_1]
  iapply (Entails.of_eq (wp_assume_of 𝒱₀ (V d (cV L) (jV L)) none Set.univ (show k1_chk5 L (accAt 8).2.2.2.2 from chk5_at L)).symm)
  iapply (Entails.of_eq (wp_assume_of 𝒱₀ (V d (cV L) (jV L)) none Set.univ (show k1_chk4 (accAt 8).2.2.2.1 from chk4_at)).symm)
  ihave HF' := (Entails.of_eq (show outLast EC d L Tb X 8 = FO EC d (cV L) (jV L) Tb X (blk L 7) 1 from if_pos (by decide))) $$ HF
  ihave HI0' := (Entails.of_eq (show inNow EC d L X 8 = freeI d (cV L) (jV L) 0 from if_neg (by decide))) $$ HI0
  unfold FO
  iapply (wp_wait EC d (cV L) (jV L) (oSem_of (by norm_num) off20_at)
    (congrArg (fun M : Memref sig .scVector .hbm S256x128 .f32 => M.view.dmaCredit) (oBlk_of (blk L 7).isLt (off19_at L)))) $$ [HF' HO]
  · isplitr; · iexact Hmw
    isplitl [HF']; · iexact HF'
    iexact HO
  iintro ⟨⟨Hlast, Hb⟩, Hzo, HO⟩
  rw [wp_ret]
  imodintro
  isplitl [HO]; · iexact HO
  isplitl [HI0']; · iexact HI0'
  isplitl [HI1]; · iexact HI1
  isplitl [HO0]; · iexact HO0
  isplitl [Hzo Hb]
  · unfold freeO
    isplitl [Hzo]; · iexact Hzo
    iexact Hb
  isplitl [Hz]; · iexact Hz
  isplitl [Ht]; · iexact Ht
  isplitl [Hi]
  · rw [belowP_eight]; iexact Hi
  rw [← belowP_eight, behind 7 (by norm_num)]
  isplitl [Hlast]; · iexact Hlast
  iexact Ho

end Cert.Proof.WholeGather

end
-- ==== Proof.WholePieces.lean ====
/-
  How the arrays and the scratch split among the tiles: the row numbers and the output into their 256 blocks, eight in a row for
  each of the 32 tiles; the table into 32 read shares; a tile's two scratch buffers into their banks.
-/
module

public import proofs.«01_k».proof.Proof.WholeTrip

@[expose] public section

noncomputable section

namespace Cert.Proof.WholeGather

open Cert.WholeIdeal Cert.WholeIdeal.Gen
open Idealize.ShloMosaic
open Idealize.ShloMosaic.SparseCore (S V T)
open Idealize.ShloMosaic.SparseCore.Cfg (HIx tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

/-! ## The blocks as parts of their arrays -/

theorem idiv : 256 ∣ S1x65536.size 1 := ⟨256, rfl⟩
theorem odiv : 256 ∣ S65536x128.size 0 := ⟨256, rfl⟩
theorem bIdiv : 2 ∣ S2x1x256.size 0 := ⟨1, rfl⟩
theorem bOdiv : 2 ∣ S2x256x128.size 0 := ⟨1, rfl⟩

theorem iBlk_set (n : Fin 256) : (iBlk n).view.set = (Rect.part (s := S1x65536) (a₀ := 1) idiv n).set := by
  show ((View.whole (main_v36_scv : Ref sig .scVector)).slice _).set = _
  rw [View.set_slice, show (Rect.unit (s := S1x65536) ![0, 256 * n.val] S1x256.size (iBlk_inb n)).set = (Rect.part (s := S1x65536) (a₀ := 1) idiv n).set from ?_]
  · exact Finset.map_refl
  refine congrArg (fun r : Rect S1x65536 => r.set) ?_
  unfold Rect.part Rect.block
  congr 1 <;> funext a
  · match a with
    | 0 => simp [Shape.partIx, Shape.partSize]
    | 1 => simp [Shape.partIx, Shape.partSize, Nat.mul_comm]
  · match a with
    | 0 => simp [Shape.partSize]
    | 1 => simp [Shape.partSize]

theorem oBlk_set (n : Fin 256) : (oBlk n).view.set = (Rect.part (s := S65536x128) (a₀ := 0) odiv n).set := by
  show ((View.whole (main_v37_scv : Ref sig .scVector)).slice _).set = _
  rw [View.set_slice, show (Rect.unit (s := S65536x128) ![256 * n.val, 0] S256x128.size (oBlk_inb n)).set = (Rect.part (s := S65536x128) (a₀ := 0) odiv n).set from ?_]
  · exact Finset.map_refl
  refine congrArg (fun r : Rect S65536x128 => r.set) ?_
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem iBank_set (b : Fin 2) : (iBank b).view.set = (Rect.part (s := S2x1x256) (a₀ := 0) bIdiv b).set := by
  show (((View.whole (cc1_scoped0 : Ref sig .scVector)).slice (Rect.unit (s := S2x1x256) ![b.val, 0, 0] S1x1x256.size (iBank_inb b))).reshape S1x256
    squeezes_S1x1x256_S1x256.numel_eq).set = _
  rw [View.set_reshape, View.set_slice,
    show (Rect.unit (s := S2x1x256) ![b.val, 0, 0] S1x1x256.size (iBank_inb b)).set = (Rect.part (s := S2x1x256) (a₀ := 0) bIdiv b).set from ?_]
  · exact Finset.map_refl
  refine congrArg (fun r : Rect S2x1x256 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem oBank_set (b : Fin 2) : (oBank b).view.set = (Rect.part (s := S2x256x128) (a₀ := 0) bOdiv b).set := by
  show (((View.whole (cc1_scoped2 : Ref sig .scVector)).slice (Rect.unit (s := S2x256x128) ![b.val, 0, 0] S1x256x128.size (oBank_inb b))).reshape S256x128
    squeezes_S1x256x128_S256x128.numel_eq).set = _
  rw [View.set_reshape, View.set_slice,
    show (Rect.unit (s := S2x256x128) ![b.val, 0, 0] S1x256x128.size (oBank_inb b)).set = (Rect.part (s := S2x256x128) (a₀ := 0) bOdiv b).set from ?_]
  · exact Finset.map_refl
  refine congrArg (fun r : Rect S2x256x128 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem tAll_set : tAll.view.set = Finset.univ := by
  show ((View.whole (main_v33_scv : Ref sig .scVector)).slice (Rect.unit (s := S4096x128) ![0, 0] S4096x128.size inb_S4096x128_S4096x128_0_0)).set = _
  rw [View.set_slice, show (Rect.unit (s := S4096x128) ![0, 0] S4096x128.size inb_S4096x128_S4096x128_0_0).set = Finset.univ from ?_]
  · exact Finset.map_refl
  · ext y
    simp only [Finset.mem_univ, iff_true]
    rw [Rect.mem_set_unit]
    intro a
    match a with
    | 0 => exact ⟨Nat.zero_le _, (Nat.zero_add _).symm ▸ (y 0).isLt⟩
    | 1 => exact ⟨Nat.zero_le _, (Nat.zero_add _).symm ▸ (y 1).isLt⟩

/-! ## The arrays, whole and in pieces -/

variable (d : Dev nD)

abbrev tLoc (d : Dev nD) : Loc nD τ sig := (SparseCore.T d).loc main_v33
abbrev iLoc (d : Dev nD) : Loc nD τ sig := (SparseCore.T d).loc main_v36
abbrev oLoc (d : Dev nD) : Loc nD τ sig := (SparseCore.T d).loc main_v37

/-- The numbers are their 256 blocks. -/
theorem iWhole (X : S1x65536.Idx → Elt F .i32) :
    (iLoc d ↦{fullShare} X : sProp 𝕄) = bigSep Finset.univ fun n : Fin 256 => iLoc d ↦[(iBlk n).view.set]{fullShare} X := by
  have h : ∀ i ∈ (Finset.univ : Finset (Fin 256)), ∀ j ∈ (Finset.univ : Finset (Fin 256)), i ≠ j → Disjoint (iBlk i).view.set (iBlk j).view.set :=
    fun i _ j _ e => by rw [iBlk_set, iBlk_set]; exact Rect.part_disjoint idiv e
  have hc : (Finset.univ : Finset (Fin 256)).biUnion (fun n => (iBlk n).view.set) = Finset.univ :=
    (Finset.biUnion_congr rfl fun i _ => iBlk_set i).trans (Rect.biUnion_part idiv)
  rw [← pointsTo_biUnion Finset.univ (ℓ := iLoc d) (fun n => (iBlk n).view.set) h, hc]

/-- The output is its 256 blocks. -/
theorem oWhole (f : S65536x128.Idx → Elt F .f32) :
    (oLoc d ↦{fullShare} f : sProp 𝕄) = bigSep Finset.univ fun n : Fin 256 => oLoc d ↦[(oBlk n).view.set]{fullShare} f := by
  have h : ∀ i ∈ (Finset.univ : Finset (Fin 256)), ∀ j ∈ (Finset.univ : Finset (Fin 256)), i ≠ j → Disjoint (oBlk i).view.set (oBlk j).view.set :=
    fun i _ j _ e => by rw [oBlk_set, oBlk_set]; exact Rect.part_disjoint odiv e
  have hc : (Finset.univ : Finset (Fin 256)).biUnion (fun n => (oBlk n).view.set) = Finset.univ :=
    (Finset.biUnion_congr rfl fun i _ => oBlk_set i).trans (Rect.biUnion_part odiv)
  rw [← pointsTo_biUnion Finset.univ (ℓ := oLoc d) (fun n => (oBlk n).view.set) h, hc]

/-- Tile `k`'s share of the table, of the 32. -/
def sh (k : Fin 32) : PosShare TreeShare := Transfers.dealOf fullShare Finset.univ k

/-- The table is its 32 shares. -/
theorem tWhole (Tb : S4096x128.Idx → Elt F .f32) :
    (tLoc d ↦{fullShare} Tb : sProp 𝕄) = bigSep Finset.univ fun k : Fin 32 => tLoc d ↦[tAll.view.set]{sh k} Tb := by
  rw [tAll_set]
  exact Transfers.pointsTo_deal (ℓ := tLoc d) (S := Finset.univ) (f := Tb) Finset.univ Finset.univ_nonempty fullShare

/-! ## By tile -/

/-- The point of the grid of core `c`'s tile `s`. -/
def at_ (c : Fin 2) (s : Fin 16) : grid1.Coords :=
  fun | 0 => c | 1 => s | ⟨_ + 2, h⟩ => absurd h (Nat.not_lt.2 (Nat.le_add_left _ _))

/-- A tile's number, of the 32. -/
def num (L : grid1.Coords) : Fin 32 := ⟨16 * (L 0).val + (L 1).val, by
  have h0 : (L 0).val < 2 := (L 0).isLt
  have h1 : (L 1).val < 16 := (L 1).isLt
  omega⟩

theorem by_tile (Φ : Fin 32 → sProp 𝕄) :
    bigSep Finset.univ Φ = bigSep Finset.univ fun c : Fin 2 => bigSep Finset.univ fun s : Fin 16 => Φ (num (at_ c s)) := by
  rw [bigSep_univ_equiv (finProdFinEquiv : Fin 2 × Fin 16 ≃ Fin 32) Φ, bigSep_univ_prod]
  refine bigSep_congr fun c _ => bigSep_congr fun s _ => congrArg Φ (Fin.ext ?_)
  show s.val + 16 * c.val = 16 * c.val + s.val
  omega

theorem by_block (Φ : Fin 256 → sProp 𝕄) :
    bigSep Finset.univ Φ = bigSep Finset.univ fun c : Fin 2 => bigSep Finset.univ fun s : Fin 16 => bigSep Finset.univ fun t : Fin 8 =>
      Φ (blk (at_ c s) t.val) := by
  rw [bigSep_univ_equiv (finProdFinEquiv : Fin 32 × Fin 8 ≃ Fin 256) Φ, bigSep_univ_prod,
    by_tile fun k => bigSep Finset.univ fun t : Fin 8 => Φ (finProdFinEquiv (k, t))]
  refine bigSep_congr fun c _ => bigSep_congr fun s _ => bigSep_congr fun t _ => congrArg Φ (Fin.ext ?_)
  show t.val + 8 * (16 * c.val + s.val) = 8 * (s.val + 16 * c.val) + t.val % 8
  have := t.isLt
  omega

/-- What the call hands tile `L`: its share of the table, its blocks of the numbers, its blocks of the output at `fo`. -/
def Brought (Tb : S4096x128.Idx → Elt F .f32) (X : S1x65536.Idx → Elt F .i32) (fo : Fin 256 → sProp (MT nD τ sig (HIx 1) (Elt F) ℕ U ℕ)) (L : grid1.Coords) : sProp 𝕄 :=
  iprop((tLoc d ↦[tAll.view.set]{sh (num L)} Tb) ∗ (bigSep Finset.univ fun t : Fin 8 => iLoc d ↦[(iBlk (blk L t.val)).view.set]{fullShare} X)
    ∗ bigSep Finset.univ fun t : Fin 8 => fo (blk L t.val))

/-- The arrays whole are what the 32 tiles are handed together. -/
theorem dealt (Tb : S4096x128.Idx → Elt F .f32) (X : S1x65536.Idx → Elt F .i32) (fo : Fin 256 → sProp (MT nD τ sig (HIx 1) (Elt F) ℕ U ℕ)) :
    (bigSep Finset.univ fun c : Fin 2 => bigSep Finset.univ fun s : Fin 16 => Brought d Tb X fo (at_ c s))
      = iprop((tLoc d ↦{fullShare} Tb) ∗ (iLoc d ↦{fullShare} X) ∗ bigSep Finset.univ fo) := by
  rw [tWhole, iWhole, by_tile, by_block, by_block fo]
  unfold Brought
  simp only [bigSep_sep']

/-! ## A tile's scratch -/

variable (c : Fin τ.nSC) (j : Fin τ.nSub)

/-- The staged numbers are their two banks. -/
theorem banksI : (iprop(∃ f, (V d c j).loc cc1_scoped0 ↦{fullShare} f) : sProp 𝕄)
    ⊣⊢ iprop((∃ f, bI (F := F) d c j 0 f) ∗ ∃ f, bI (F := F) d c j 1 f) := by
  have hd : Disjoint (iBank 0).view.set (iBank 1).view.set := by rw [iBank_set, iBank_set]; exact Rect.part_disjoint bIdiv (by decide)
  have hu : (iBank 0).view.set ∪ (iBank 1).view.set = Finset.univ := by
    rw [iBank_set, iBank_set, ← Rect.biUnion_part bIdiv]; ext x; simp [Fin.exists_fin_two]
  constructor
  · iintro ⟨%f, H⟩
    ihave H' := ((Entails.of_eq (by rw [← hu])).trans (pointsTo_union (ℓ := (V d c j).loc cc1_scoped0) (q := fullShare) (f := f) hd).1) $$ H
    icases H' with ⟨H0, H1⟩
    isplitl [H0]; · iexists f; iexact H0
    iexists f; iexact H1
  · iintro ⟨⟨%f, H0⟩, ⟨%g, H1⟩⟩
    ihave H := ((pointsTo_join (ℓ := (V d c j).loc cc1_scoped0) (q := fullShare) (f := f) (g := g) hd).trans (Entails.of_eq (by rw [hu]))) $$ [H0 H1]
    · isplitl [H0]; · iexact H0
      iexact H1
    iexists _; iexact H

/-- The staged rows are their two banks. -/
theorem banksO : (iprop(∃ f, (V d c j).loc cc1_scoped2 ↦{fullShare} f) : sProp 𝕄)
    ⊣⊢ iprop((∃ f, bO (F := F) d c j 0 f) ∗ ∃ f, bO (F := F) d c j 1 f) := by
  have hd : Disjoint (oBank 0).view.set (oBank 1).view.set := by rw [oBank_set, oBank_set]; exact Rect.part_disjoint bOdiv (by decide)
  have hu : (oBank 0).view.set ∪ (oBank 1).view.set = Finset.univ := by
    rw [oBank_set, oBank_set, ← Rect.biUnion_part bOdiv]; ext x; simp [Fin.exists_fin_two]
  constructor
  · iintro ⟨%f, H⟩
    ihave H' := ((Entails.of_eq (by rw [← hu])).trans (pointsTo_union (ℓ := (V d c j).loc cc1_scoped2) (q := fullShare) (f := f) hd).1) $$ H
    icases H' with ⟨H0, H1⟩
    isplitl [H0]; · iexists f; iexact H0
    iexists f; iexact H1
  · iintro ⟨⟨%f, H0⟩, ⟨%g, H1⟩⟩
    ihave H := ((pointsTo_join (ℓ := (V d c j).loc cc1_scoped2) (q := fullShare) (f := f) (g := g) hd).trans (Entails.of_eq (by rw [hu]))) $$ [H0 H1]
    · isplitl [H0]; · iexact H0
      iexact H1
    iexists _; iexact H

/-! ## A tile's own buffers and semaphores -/

theorem ownBufs_V :
    (ownBufs (V d c j) : sProp 𝕄)
      = iprop((∃ f, (V d c j).loc cc1_scoped0 ↦{fullShare} f) ∗ (∃ f, (V d c j).loc cc1_scoped2 ↦{fullShare} f)
          ∗ bigSep (((ownRefs (τ := τ) (.scVector c j)).erase ((Proc.scVector c j).devRef cc1_scoped0)).erase ((Proc.scVector c j).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector c j) (b := (Proc.scVector c j).devRef cc1_scoped2) rfl⟩)]

/-- The five DMA semaphores of the task. -/
def semAt : Fin 5 → DmaSem sig := ![iSem 0, iSem 1, oSem 0, oSem 1, cc1_scoped4.sem]
theorem semAt_inj : Function.Injective semAt := by decide +kernel
theorem semAt_scoped : ∀ k, (SemLoc.dma (semAt k) : SemLoc sig).isScoped .scVector = true := by decide +kernel

/-- Its cells. -/
def cellAt (k : Fin 5) : GSem nD τ sig := (V d c j, .dma (semAt k))
theorem cellAt_inj : Function.Injective (cellAt d c j) := fun k k' e => semAt_inj (SemLoc.dma.inj (Prod.mk.inj e).2)

theorem ownSems0_V :
    (ownSems0 (V d c j) : sProp 𝕄)
      = iprop((z (F := F) d c j (iSem 0) ∗ z (F := F) d c j (iSem 1) ∗ z (F := F) d c j (oSem 0) ∗ z (F := F) d c j (oSem 1) ∗ z (F := F) d c j cc1_scoped4.sem)
          ∗ bigSep (ownCells (V d c j) \ Finset.univ.map ⟨cellAt d c j, cellAt_inj d c j⟩) fun g => semVal g 0) := by
  unfold SparseCore.Cfg.ownSems0
  have hs : Finset.univ.map ⟨cellAt d c j, cellAt_inj d c j⟩ ⊆ ownCells (V d c j) := fun g hg => by
    obtain ⟨k, -, rfl⟩ := Finset.mem_map.mp hg
    exact mem_ownCells.mpr ⟨rfl, semAt_scoped k⟩
  rw [← Finset.union_sdiff_of_subset hs, bigSep_union Finset.disjoint_sdiff, bigSep_map, Finset.union_sdiff_of_subset hs]
  congr 1
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

end Cert.Proof.WholeGather

end
-- ==== Proof.Cluster.lean ====
/-
  One head's clustered attention as plain arithmetic on the extended reals: the distance of a query to a centre, the first
  centre at the least distance, one step of the clustering, and the attention of the centres over the keys.
-/
module

public import Idealize.ShloMosaic.Lib.Pointwise

@[expose] public section

noncomputable section

namespace Cert.Proof.Attend

open Idealize.ShloMosaic

/-! ### The first index at which a function is smallest -/

theorem exists_nearest (f : Fin 128 → EReal) : ∃ j, (∀ i, f j ≤ f i) ∧ ∀ i, f i ≤ f j → j ≤ i := by
  obtain ⟨j, -, hj⟩ := Finset.exists_min_image Finset.univ (fun j => toLex (f j, j)) ⟨0, Finset.mem_univ _⟩
  refine ⟨j, fun i => ?_, fun i hi => ?_⟩
  · rcases Prod.Lex.toLex_le_toLex.1 (hj i (Finset.mem_univ _)) with h | h
    · exact h.le
    · exact h.1.le
  · rcases Prod.Lex.toLex_le_toLex.1 (hj i (Finset.mem_univ _)) with h | h
    · exact absurd h hi.not_gt
    · exact h.2

/-- The first index at which `f` takes its least value. -/
def nearest (f : Fin 128 → EReal) : Fin 128 := (exists_nearest f).choose

theorem nearest_le (f : Fin 128 → EReal) (i : Fin 128) : f (nearest f) ≤ f i := (exists_nearest f).choose_spec.1 i

theorem nearest_first (f : Fin 128 → EReal) (i : Fin 128) (h : f i ≤ f (nearest f)) : nearest f ≤ i := (exists_nearest f).choose_spec.2 i h

theorem eq_nearest {f : Fin 128 → EReal} {j : Fin 128} (h : ∀ i, f j ≤ f i) (h' : ∀ i, f i ≤ f j → j ≤ i) : j = nearest f :=
  le_antisymm (h' _ (nearest_le f j)) (nearest_first f j (h _))

/-- The least value of `f`, as the fold of the minimum from the top element. -/
theorem fold_min_eq (f : Fin 128 → EReal) : Finset.univ.fold min ⊤ f = f (nearest f) :=
  le_antisymm ((Finset.fold_min_le _).2 (.inr ⟨nearest f, Finset.mem_univ _, le_rfl⟩))
    ((Finset.le_fold_min _).2 ⟨le_top, fun i _ => nearest_le f i⟩)

theorem toInt_minsi (a b : BitVec 32) : (IntOp.minsi a b).toInt = min a.toInt b.toInt := by
  unfold IntOp.minsi
  simp only [BitVec.slt, decide_eq_true_eq]
  split <;> omega

theorem toInt_word {n : Nat} (h : n ≤ 128) : (BitVec.ofNat 32 n).toInt = n := by
  have : (BitVec.ofNat 32 n).toNat = n := by rw [BitVec.toNat_ofNat]; omega
  rw [BitVec.toInt_eq_toNat_of_lt (by rw [this]; omega), this]

/-- The least of the index words at which `f` is smallest is the word of the first such index. -/
theorem fold_minsi_eq (f : Fin 128 → EReal) :
    Finset.univ.fold IntOp.minsi 2147483647#32 (fun j : Fin 128 => if f j = f (nearest f) then BitVec.ofNat 32 j.val else 128#32)
      = BitVec.ofNat 32 (nearest f).val := by
  apply BitVec.eq_of_toInt_eq
  rw [← Finset.fold_hom (op' := min) (m := BitVec.toInt) toInt_minsi, toInt_word (n := (nearest f).val) (by omega)]
  apply le_antisymm
  · refine (Finset.fold_min_le _).2 (.inr ⟨nearest f, Finset.mem_univ _, ?_⟩)
    rw [if_pos rfl, toInt_word (n := (nearest f).val) (by omega)]
  · refine (Finset.le_fold_min _).2 ⟨?_, fun i _ => ?_⟩
    · have := (nearest f).isLt
      exact le_trans (b := (128 : ℤ)) (by omega) (by decide)
    · split
      · next h =>
        have := nearest_first f i h.le
        rw [toInt_word (n := i.val) (by omega)]; exact_mod_cast this
      · have := (nearest f).isLt
        exact le_trans (b := (128 : ℤ)) (by omega) (by decide)

/-! ### Sums taken by pieces -/

theorem sum_four (f : Fin 1024 → EReal) :
    (((∑ i : Fin 256, f ⟨0 + i.val, by omega⟩) + ∑ i : Fin 256, f ⟨256 + i.val, by omega⟩) + ∑ i : Fin 256, f ⟨512 + i.val, by omega⟩)
      + ∑ i : Fin 256, f ⟨768 + i.val, by omega⟩ = ∑ i, f i := by
  rw [← (finProdFinEquiv (m := 4) (n := 256)).sum_comp f, Fintype.sum_prod_type, Fin.sum_univ_four]
  refine congrArg₂ (· + ·) (congrArg₂ (· + ·) (congrArg₂ (· + ·) ?_ ?_) ?_) ?_ <;>
    exact Finset.sum_congr rfl fun i _ => congrArg f (Fin.ext (by simp [finProdFinEquiv, Nat.add_comm]))

theorem sum_eight (f : Fin 2048 → EReal) :
    (((((((∑ i : Fin 256, f ⟨0 + i.val, by omega⟩) + ∑ i : Fin 256, f ⟨256 + i.val, by omega⟩) + ∑ i : Fin 256, f ⟨512 + i.val, by omega⟩)
      + ∑ i : Fin 256, f ⟨768 + i.val, by omega⟩) + ∑ i : Fin 256, f ⟨1024 + i.val, by omega⟩) + ∑ i : Fin 256, f ⟨1280 + i.val, by omega⟩)
      + ∑ i : Fin 256, f ⟨1536 + i.val, by omega⟩) + ∑ i : Fin 256, f ⟨1792 + i.val, by omega⟩ = ∑ i, f i := by
  rw [← (finProdFinEquiv (m := 8) (n := 256)).sum_comp f, Fintype.sum_prod_type, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun i _ => congrArg f (Fin.ext (by simp [finProdFinEquiv, Nat.add_comm]))

/-! ### One head -/

/-- The factor of the cross term, the logits' factor, and the logit of a key that is masked out. -/
def two : EReal := Ideal.ofBits .f32 0x40000000#32
def scale : EReal := Ideal.ofBits .f32 0x3E000000#32
def low : EReal := Ideal.ofBits .f32 0xCE6E6B28#32

theorem ofBits_top : Ideal.ofBits .f32 0x7F800000#32 = ⊤ := by simp [Ideal.ofBits, Ideal.ieee]
theorem ofBits_bottom : Ideal.ofBits .f32 0xFF800000#32 = ⊥ := by simp [Ideal.ofBits, Ideal.ieee]

section

variable (q k v : Fin 2048 → Fin 64 → EReal) (c : Fin 128 → Fin 64 → EReal) (w : Fin 2048 → EReal)

/-- The squared distance of query `l` and centre `j`, as the two squares and the cross term. -/
def dist (l : Fin 2048) (j : Fin 128) : EReal := ((∑ e, q l e * q l e) - two * ∑ e, q l e * c j e) + ∑ e, c j e * c j e

/-- The centre a query belongs to. -/
def group (l : Fin 2048) : Fin 128 := nearest (dist q c l)

/-- The mask at a query that belongs to the centre, else 0. -/
def hot (l : Fin 2048) (j : Fin 128) : EReal := if j = group q c l then w l else 0

def count (j : Fin 128) : EReal := ∑ l, hot q c w l j

def total (j : Fin 128) (e : Fin 64) : EReal := ∑ l, hot q c w l j * q l e

/-- One step: each centre that has a query moves to its queries' mean. -/
def move (j : Fin 128) (e : Fin 64) : EReal :=
  if 0 < count q c w j then Ideal.div (total q c w j e) (max (count q c w j) 1) else c j e

/-- The attention logit of centre `j` at key `l`. -/
def logit (l : Fin 2048) (j : Fin 128) : EReal := if 0 < w l then (∑ e, k l e * c j e) * scale else low

def peak (j : Fin 128) : EReal := Finset.univ.fold max ⊥ fun l => logit k c w l j

def weight (l : Fin 2048) (j : Fin 128) : EReal := Ideal.exp (logit k c w l j - peak k c w j)

/-- The softmax over the keys. -/
def share (l : Fin 2048) (j : Fin 128) : EReal := Ideal.div (weight k c w l j) (∑ l, weight k c w l j)

/-- The values mixed by the softmax. -/
def mixed (j : Fin 128) (e : Fin 64) : EReal := ∑ l, share k c w l j * v l e

end

end Cert.Proof.Attend

end

end
-- ==== Proof.Body.lean ====
/-
  The attention body's values at an index: each of the vectors it computes, read as the arithmetic of Cluster.lean.
-/
module

public import proofs.«01_k».proof.Proof.Gen.AttnIdeal.Frame
public import proofs.«01_k».proof.Proof.Cluster
public import Idealize.ShloMosaic.Lib.Pipeline.ValueKit.Geometry

@[expose] public section

set_option maxRecDepth 16384

noncomputable section

namespace Cert.Proof.Attend

open Cert.AttnIdeal Cert.AttnIdeal.Gen
open Idealize.ShloMosaic Idealize.ShloMosaic.TcCoe

/-- A piece of the rows' product with the weights: 256 of the 1024 columns from `o` on. -/
theorem rows_piece (o : Nat) (ho : o + 256 ≤ 1024) (x : FVec Ideal S2048x1024 .f32) (w : FVec Ideal S1024x192 .f32) (h h') (r : Fin 2048) (c : Fin 192) :
    matmul dot_S2048x256_S256x192_S2048x192_1_0_0_1_n_n none (extractStridedSlice S2048x256 ![0, o] x h) (extractStridedSlice S256x192 ![o, 0] w h')
      (constant S2048x192 .f32 0x00000000#32) (ix2 r c) = ∑ i : Fin 256, x (ix2 r ⟨o + i.val, by omega⟩) * w (ix2 ⟨o + i.val, by omega⟩ c) := by
  pointwise

theorem start_piece (o : Nat) (ho : o + 256 ≤ 1024) (x : FVec Ideal S128x1024 .f32) (w : FVec Ideal S1024x192 .f32) (h h') (r : Fin 128) (c : Fin 192) :
    matmul dot_S128x256_S256x192_S128x192_1_0_0_1_n_n none (extractStridedSlice S128x256 ![0, o] x h) (extractStridedSlice S256x192 ![o, 0] w h')
      (constant S128x192 .f32 0x00000000#32) (ix2 r c) = ∑ i : Fin 256, x (ix2 r ⟨o + i.val, by omega⟩) * w (ix2 ⟨o + i.val, by omega⟩ c) := by
  pointwise

theorem total_piece (o : Nat) (ho : o + 256 ≤ 2048) (x : FVec Ideal S2048x128 .f32) (w : FVec Ideal S2048x64 .f32) (h h') (r : Fin 128) (c : Fin 64) :
    matmul dot_S256x128_S256x64_S128x64_0_0_1_1_n_n none (extractStridedSlice S256x128 ![o, 0] x h) (extractStridedSlice S256x64 ![o, 0] w h')
      (constant S128x64 .f32 0x00000000#32) (ix2 r c) = ∑ i : Fin 256, x (ix2 ⟨o + i.val, by omega⟩ r) * w (ix2 ⟨o + i.val, by omega⟩ c) := by
  pointwise

/-- The rows' product with the weights and the bias, at an index. -/
theorem rows_at (x : Vec Ideal S1x2048x1024 .f32) (w : Vec Ideal S1x1024x192 .f32) (b : Vec Ideal S1x1x192 .f32) (r : Fin 2048) (c : Fin 192) :
    k0_pay4 x w b (ix2 r c) = (∑ i, x (ix3 0 r i) * w (ix3 0 i c)) + b (ix3 0 0 c) := by
  unfold k0_pay4 k0_pay3
  dsimp only
  simp only [addf_apply, Ideal.addf_def]
  rw [rows_piece 0 (by omega), rows_piece 256 (by omega), rows_piece 512 (by omega), rows_piece 768 (by omega),
    sum_four fun i => shapeCast S2048x1024 x shapeCasts_S1x2048x1024_S2048x1024 (ix2 r i) * k0_pay2 w (ix2 i c)]
  unfold k0_pay2
  pointwise

theorem query_at (x : Vec Ideal S1x2048x1024 .f32) (w : Vec Ideal S1x1024x192 .f32) (b : Vec Ideal S1x1x192 .f32) (r : Fin 2048) (e : Fin 64) :
    k0_pay5 x w b (ix2 r e) = (∑ i, x (ix3 0 r i) * w (ix3 0 i ⟨e.val, by omega⟩)) + b (ix3 0 0 ⟨e.val, by omega⟩) := by
  unfold k0_pay5
  pointwise [rows_at]

theorem key_at (x : Vec Ideal S1x2048x1024 .f32) (w : Vec Ideal S1x1024x192 .f32) (b : Vec Ideal S1x1x192 .f32) (r : Fin 2048) (e : Fin 64) :
    k0_pay6 x w b (ix2 r e) = (∑ i, x (ix3 0 r i) * w (ix3 0 i ⟨64 + e.val, by omega⟩)) + b (ix3 0 0 ⟨64 + e.val, by omega⟩) := by
  unfold k0_pay6
  pointwise [rows_at]

theorem value_at (x : Vec Ideal S1x2048x1024 .f32) (w : Vec Ideal S1x1024x192 .f32) (b : Vec Ideal S1x1x192 .f32) (r : Fin 2048) (e : Fin 64) :
    k0_pay7 x w b (ix2 r e) = (∑ i, x (ix3 0 r i) * w (ix3 0 i ⟨128 + e.val, by omega⟩)) + b (ix3 0 0 ⟨128 + e.val, by omega⟩) := by
  unfold k0_pay7
  pointwise [rows_at]

/-- The first centres: the rows they start at, projected as a query is. -/
theorem start_at (x : Vec Ideal S1x128x1024 .f32) (w : Vec Ideal S1x1024x192 .f32) (b : Vec Ideal S1x1x192 .f32) (r : Fin 128) (e : Fin 64) :
    k0_pay11 (k0_pay2 w) (k0_pay3 b) (k0_pay9 x) (k0_pay10 w x) (ix2 r e)
      = (∑ i, x (ix3 0 r i) * w (ix3 0 i ⟨e.val, by omega⟩)) + b (ix3 0 0 ⟨e.val, by omega⟩) := by
  unfold k0_pay11 k0_pay10
  dsimp only
  refine (extractStridedSlice_apply _ _ _ _ (ix2 r (⟨e.val, by omega⟩ : Fin 192)) fun a => by
    match a with
    | 0 => exact (Nat.zero_add _).symm
    | 1 => exact (Nat.zero_add _).symm).trans ?_
  simp only [addf_apply, Ideal.addf_def]
  rw [start_piece 0 (by omega), start_piece 256 (by omega), start_piece 512 (by omega), start_piece 768 (by omega),
    sum_four fun i => k0_pay9 x (ix2 r i) * k0_pay2 w (ix2 i (⟨e.val, by omega⟩ : Fin 192))]
  unfold k0_pay2 k0_pay3 k0_pay9
  pointwise

/-- The distances from the queries, the centres and the queries' squares. -/
def distances (q : FVec Ideal S2048x64 .f32) (c : FVec Ideal S128x64 .f32) (s : FVec Ideal S2048x1 .f32) : FVec Ideal S2048x128 .f32 :=
  addf (subf (broadcastTo S2048x128 s broadcasts_S2048x1_S2048x128)
      (mulf (broadcast S2048x128 (Scalar.ofBits .f32 0x40000000#32))
        (matmul dot_S2048x64_S128x64_S2048x128_1_1_0_0_n_n none q c (constant S2048x128 .f32 0x00000000#32))))
    (broadcastTo S2048x128 (shapeCast S1x128 (multiReduction .add [1] S128 (mulf c c) 0x00000000#32 reduces_S128x64_S128 (.inl rfl) rfl) shapeCasts_S128_S1x128) broadcasts_S1x128_S2048x128)

/-- A matrix, as a function of its row and its column. -/
abbrev mat {m n : Nat} (x : Shape.Idx ⟨2, ![m, n]⟩ → EReal) : Fin m → Fin n → EReal := fun a b => x (ix2 a b)

/-- A column, as a function of its row. -/
abbrev col {m : Nat} (x : Shape.Idx ⟨2, ![m, 1]⟩ → EReal) : Fin m → EReal := fun a => x (ix2 a 0)

theorem distances_at (q : FVec Ideal S2048x64 .f32) (c : FVec Ideal S128x64 .f32) (l : Fin 2048) (j : Fin 128) :
    distances q c (k0_pay12 q) (ix2 l j) = dist (mat q) (mat c) l j := by
  unfold distances k0_pay12 dist two
  pointwise

/-- The first column at which a row is least. -/
theorem group_at (d : FVec Ideal S2048x128 .f32) (l : Fin 2048) :
    k0_pay21 (iota .tc S2048x128 32 [1] iota_S2048x128_d1_w32) d
      (multiReduction .minimumf [1] S2048 d 0x7F800000#32 reduces_S2048x128_S2048 (.inl rfl) rfl) (ix2 l 0) = BitVec.ofNat 32 (nearest fun j => d (ix2 l j)).val := by
  refine Eq.trans ?_ (fold_minsi_eq fun j => d (ix2 l j))
  rw [← fold_min_eq fun j => d (ix2 l j), ← ofBits_top]
  unfold k0_pay21
  pointwise

theorem word_eq_iff (i j : Fin 128) : BitVec.ofNat 32 i.val = BitVec.ofNat 32 j.val ↔ i = j := by
  refine ⟨fun h => Fin.ext ?_, fun h => by rw [h]⟩
  have := congrArg BitVec.toNat h
  rw [BitVec.toNat_ofNat, BitVec.toNat_ofNat] at this
  omega

theorem hot_at (mi : FVec Ideal S2048x1 .f32) (d : FVec Ideal S2048x128 .f32) (l : Fin 2048) (j : Fin 128) :
    k0_pay22 mi (iota .tc S2048x128 32 [1] iota_S2048x128_d1_w32) d
      (multiReduction .minimumf [1] S2048 d 0x7F800000#32 reduces_S2048x128_S2048 (.inl rfl) rfl) (ix2 l j) = if j = nearest (fun j => d (ix2 l j)) then mi (ix2 l 0) else 0 := by
  have h := group_at d l
  revert h
  unfold k0_pay22
  generalize k0_pay21 (iota .tc S2048x128 32 [1] iota_S2048x128_d1_w32) d
    (multiReduction .minimumf [1] S2048 d 0x7F800000#32 reduces_S2048x128_S2048 (.inl rfl) rfl) = g
  intro h
  pointwise [h]
  unfold Scalar.select IntOp.cmpi
  by_cases hj : j = nearest fun j => d (ix2 l j)
  · rw [if_pos hj, ← hj]; simp
  · rw [if_neg hj]
    rw [beq_false_of_ne fun e => hj ((word_eq_iff _ _).1 e)]
    rfl

theorem count_at (mi : FVec Ideal S2048x1 .f32) (i d m) (j : Fin 128) :
    k0_pay23 mi i (k0_pay13 (F := Ideal)) d m (ix2 j 0) = ∑ l, k0_pay22 mi i d m (ix2 l j) := by
  unfold k0_pay23 k0_pay13
  pointwise

theorem attended_at (k v : FVec Ideal S2048x64 .f32) (w : FVec Ideal S2048x1 .f32) (c : FVec Ideal S128x64 .f32) (n : FVec Ideal S128x1 .f32) (t : FVec Ideal S128x64 .f32) (j e : Fin 128) :
    k0_pay25 k v w c n t (Scalar.ofBits .f32 0x3F800000#32) (ix4 0 0 j e)
      = if h : e.val < 64 then mixed (mat k) (mat v) (fun j e => if 0 < n (ix2 j 0) then Ideal.div (t (ix2 j e)) (max (n (ix2 j 0)) 1) else c (ix2 j e)) (col w) j ⟨e.val, h⟩ else 0 := by
  unfold k0_pay25 mixed share weight peak logit scale low
  pointwise
  rw [ofBits_bottom]

/-- The eight pieces of the queries' sum by centre. -/
theorem totals_sum (q : FVec Ideal S2048x64 .f32) (o : FVec Ideal S2048x128 .f32) (j : Fin 128) (e : Fin 64) (a0 a1 a2 a3 a4 a5 a6 a7 : FVec Ideal S128x64 .f32)
    (h0 : a0 = matmul dot_S256x128_S256x64_S128x64_0_0_1_1_n_n none (extractStridedSlice S256x128 ![0, 0] o slices_S2048x128_o0_0_S256x128) (extractStridedSlice S256x64 ![0, 0] q slices_S2048x64_o0_0_S256x64) (constant S128x64 .f32 0x00000000#32))
    (h1 : a1 = matmul dot_S256x128_S256x64_S128x64_0_0_1_1_n_n none (extractStridedSlice S256x128 ![256, 0] o slices_S2048x128_o256_0_S256x128) (extractStridedSlice S256x64 ![256, 0] q slices_S2048x64_o256_0_S256x64) (constant S128x64 .f32 0x00000000#32))
    (h2 : a2 = matmul dot_S256x128_S256x64_S128x64_0_0_1_1_n_n none (extractStridedSlice S256x128 ![512, 0] o slices_S2048x128_o512_0_S256x128) (extractStridedSlice S256x64 ![512, 0] q slices_S2048x64_o512_0_S256x64) (constant S128x64 .f32 0x00000000#32))
    (h3 : a3 = matmul dot_S256x128_S256x64_S128x64_0_0_1_1_n_n none (extractStridedSlice S256x128 ![768, 0] o slices_S2048x128_o768_0_S256x128) (extractStridedSlice S256x64 ![768, 0] q slices_S2048x64_o768_0_S256x64) (constant S128x64 .f32 0x00000000#32))
    (h4 : a4 = matmul dot_S256x128_S256x64_S128x64_0_0_1_1_n_n none (extractStridedSlice S256x128 ![1024, 0] o slices_S2048x128_o1024_0_S256x128) (extractStridedSlice S256x64 ![1024, 0] q slices_S2048x64_o1024_0_S256x64) (constant S128x64 .f32 0x00000000#32))
    (h5 : a5 = matmul dot_S256x128_S256x64_S128x64_0_0_1_1_n_n none (extractStridedSlice S256x128 ![1280, 0] o slices_S2048x128_o1280_0_S256x128) (extractStridedSlice S256x64 ![1280, 0] q slices_S2048x64_o1280_0_S256x64) (constant S128x64 .f32 0x00000000#32))
    (h6 : a6 = matmul dot_S256x128_S256x64_S128x64_0_0_1_1_n_n none (extractStridedSlice S256x128 ![1536, 0] o slices_S2048x128_o1536_0_S256x128) (extractStridedSlice S256x64 ![1536, 0] q slices_S2048x64_o1536_0_S256x64) (constant S128x64 .f32 0x00000000#32))
    (h7 : a7 = matmul dot_S256x128_S256x64_S128x64_0_0_1_1_n_n none (extractStridedSlice S256x128 ![1792, 0] o slices_S2048x128_o1792_0_S256x128) (extractStridedSlice S256x64 ![1792, 0] q slices_S2048x64_o1792_0_S256x64) (constant S128x64 .f32 0x00000000#32)) :
    a0 (ix2 j e) + a1 (ix2 j e) + a2 (ix2 j e) + a3 (ix2 j e) + a4 (ix2 j e) + a5 (ix2 j e) + a6 (ix2 j e) + a7 (ix2 j e) = ∑ l, o (ix2 l j) * q (ix2 l e) := by
  subst h0 h1 h2 h3 h4 h5 h6 h7
  refine Eq.trans ?_ (sum_eight fun l => o (ix2 l j) * q (ix2 l e))
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact total_piece _ (by omega) o q _ _ j e

/-- The sum of two vectors, at an index. -/
theorem addf_at {s : Shape} (x y : FVec Ideal s .f32) (i : s.Idx) : addf x y i = x i + y i := by rw [addf_apply, Ideal.addf_def]

theorem totals_at (q : FVec Ideal S2048x64 .f32) (mi : FVec Ideal S2048x1 .f32) (i d m) (j : Fin 128) (e : Fin 64) :
    k0_pay24 q mi i d m (ix2 j e) = ∑ l, k0_pay22 mi i d m (ix2 l j) * q (ix2 l e) := by
  unfold k0_pay24
  generalize k0_pay22 mi i d m = o
  simp only [addf_at]
  exact totals_sum q o j e _ _ _ _ _ _ _ _ rfl rfl rfl rfl rfl rfl rfl rfl

/-- The centres after the first step. -/
theorem moved_at (q : FVec Ideal S2048x64 .f32) (c : FVec Ideal S128x64 .f32) (o : FVec Ideal S2048x128 .f32) (n : FVec Ideal S128x1 .f32) (j : Fin 128) (e : Fin 64) :
    k0_pay18 q c o n
      (matmul dot_S256x128_S256x64_S128x64_0_0_1_1_n_n none (extractStridedSlice S256x128 ![0, 0] o slices_S2048x128_o0_0_S256x128)
        (extractStridedSlice S256x64 ![0, 0] q slices_S2048x64_o0_0_S256x64) (constant S128x64 .f32 0x00000000#32))
      (extractStridedSlice S256x128 ![256, 0] o slices_S2048x128_o256_0_S256x128) (ix2 j e)
      = if 0 < n (ix2 j 0) then Ideal.div (∑ l, o (ix2 l j) * q (ix2 l e)) (max (n (ix2 j 0)) 1) else c (ix2 j e) := by
  rw [← totals_sum q o j e _ _ _ _ _ _ _ _ rfl rfl rfl rfl rfl rfl rfl rfl]
  unfold k0_pay18
  generalize matmul dot_S256x128_S256x64_S128x64_0_0_1_1_n_n none (extractStridedSlice S256x128 ![0, 0] o slices_S2048x128_o0_0_S256x128) (extractStridedSlice S256x64 ![0, 0] q slices_S2048x64_o0_0_S256x64) (constant S128x64 .f32 0x00000000#32) = a0
  generalize matmul dot_S256x128_S256x64_S128x64_0_0_1_1_n_n none (extractStridedSlice S256x128 ![256, 0] o slices_S2048x128_o256_0_S256x128) (extractStridedSlice S256x64 ![256, 0] q slices_S2048x64_o256_0_S256x64) (constant S128x64 .f32 0x00000000#32) = a1
  generalize matmul dot_S256x128_S256x64_S128x64_0_0_1_1_n_n none (extractStridedSlice S256x128 ![512, 0] o slices_S2048x128_o512_0_S256x128) (extractStridedSlice S256x64 ![512, 0] q slices_S2048x64_o512_0_S256x64) (constant S128x64 .f32 0x00000000#32) = a2
  generalize matmul dot_S256x128_S256x64_S128x64_0_0_1_1_n_n none (extractStridedSlice S256x128 ![768, 0] o slices_S2048x128_o768_0_S256x128) (extractStridedSlice S256x64 ![768, 0] q slices_S2048x64_o768_0_S256x64) (constant S128x64 .f32 0x00000000#32) = a3
  generalize matmul dot_S256x128_S256x64_S128x64_0_0_1_1_n_n none (extractStridedSlice S256x128 ![1024, 0] o slices_S2048x128_o1024_0_S256x128) (extractStridedSlice S256x64 ![1024, 0] q slices_S2048x64_o1024_0_S256x64) (constant S128x64 .f32 0x00000000#32) = a4
  generalize matmul dot_S256x128_S256x64_S128x64_0_0_1_1_n_n none (extractStridedSlice S256x128 ![1280, 0] o slices_S2048x128_o1280_0_S256x128) (extractStridedSlice S256x64 ![1280, 0] q slices_S2048x64_o1280_0_S256x64) (constant S128x64 .f32 0x00000000#32) = a5
  generalize matmul dot_S256x128_S256x64_S128x64_0_0_1_1_n_n none (extractStridedSlice S256x128 ![1536, 0] o slices_S2048x128_o1536_0_S256x128) (extractStridedSlice S256x64 ![1536, 0] q slices_S2048x64_o1536_0_S256x64) (constant S128x64 .f32 0x00000000#32) = a6
  generalize matmul dot_S256x128_S256x64_S128x64_0_0_1_1_n_n none (extractStridedSlice S256x128 ![1792, 0] o slices_S2048x128_o1792_0_S256x128) (extractStridedSlice S256x64 ![1792, 0] q slices_S2048x64_o1792_0_S256x64) (constant S128x64 .f32 0x00000000#32) = a7
  pointwise

/-- The first step's mask, counts and distances, as the second step's. -/
theorem first_hot (w b x v36 q mi) : k0_pay14 (F := Ideal) w b q mi x v36
    = k0_pay22 mi (iota .tc S2048x128 32 [1] iota_S2048x128_d1_w32) (distances q (k0_pay11 w b x v36) (k0_pay12 q))
      (multiReduction .minimumf [1] S2048 (distances q (k0_pay11 w b x v36) (k0_pay12 q)) 0x7F800000#32 reduces_S2048x128_S2048 (.inl rfl) rfl) := rfl

theorem first_count (w b x v36 q mi) : k0_pay15 (F := Ideal) w b q mi x v36
    = k0_pay23 mi (iota .tc S2048x128 32 [1] iota_S2048x128_d1_w32) (k0_pay13 (F := Ideal)) (distances q (k0_pay11 w b x v36) (k0_pay12 q))
      (multiReduction .minimumf [1] S2048 (distances q (k0_pay11 w b x v36) (k0_pay12 q)) 0x7F800000#32 reduces_S2048x128_S2048 (.inl rfl) rfl) := rfl

theorem second_distances (q c s o n a a') : k0_pay19 (F := Ideal) q c s o n a a' = distances q (k0_pay18 q c o n a a') s := rfl

/-- A row of `x` projected to 64 columns from `o` on, with the bias. -/
def projected {n : Nat} (o : Nat) (ho : o + 64 ≤ 192) (x : Shape.Idx ⟨3, ![1, n, 1024]⟩ → EReal) (p : Vec Ideal S1x1024x192 .f32) (b : Vec Ideal S1x1x192 .f32)
    (r : Fin n) (e : Fin 64) : EReal :=
  (∑ i, x (ix3 0 r i) * p (ix3 0 i ⟨o + e.val, by omega⟩)) + b (ix3 0 0 ⟨o + e.val, by omega⟩)

section Output

variable (i : grid0.Coords) (x : Vec Ideal S1x2048x1024 .f32) (x' : Vec Ideal S1x128x1024 .f32) (w : Vec Ideal S1x2048x1 .f32)
  (p : Vec Ideal S1x1024x192 .f32) (b : Vec Ideal S1x1x192 .f32)

/-- The mask, the queries, the keys, the values and the centres at the start and after each step, from the body's blocks. -/
def maskOf : Fin 2048 → EReal := fun l => w (ix3 0 l 0)
def queries := projected (n := 2048) 0 (by omega) x p b
def keys := projected (n := 2048) 64 (by omega) x p b
def vals := projected (n := 2048) 128 (by omega) x p b
def centres₀ := projected (n := 128) 0 (by omega) x' p b
def centres₁ := move (queries x p b) (centres₀ x' p b) (maskOf w)
def centres₂ := move (queries x p b) (centres₁ x x' w p b) (maskOf w)

theorem zeros₃ : (![0, 0, 0] : Fin 3 → Nat) = fun _ => 0 := by decide
theorem zeros₄ : (![0, 0, 0, 0] : Fin 4 → Nat) = fun _ => 0 := by decide

theorem queries_eq : mat (k0_pay5 x p b) = queries x p b := by
  funext r e
  refine (query_at x p b r e).trans ?_
  unfold queries projected
  simp only [Nat.zero_add]

theorem keys_eq : mat (k0_pay6 x p b) = keys x p b := funext fun r => funext fun e => key_at x p b r e
theorem vals_eq : mat (k0_pay7 x p b) = vals x p b := funext fun r => funext fun e => value_at x p b r e

theorem centres₀_eq : mat (k0_pay11 (k0_pay2 p) (k0_pay3 b) (k0_pay9 x') (k0_pay10 p x')) = centres₀ x' p b := by
  funext r e
  refine (start_at x' p b r e).trans ?_
  unfold centres₀ projected
  simp only [Nat.zero_add]

theorem mask_eq : col (k0_pay8 w) = maskOf w := by
  funext l
  show k0_pay8 w (ix2 l 0) = w (ix3 0 l 0)
  unfold k0_pay8
  pointwise

/-- A step's membership, counts and sums, of centres `c`. -/
theorem hot_of (q : FVec Ideal S2048x64 .f32) (c : FVec Ideal S128x64 .f32) (m : FVec Ideal S2048x1 .f32) (l : Fin 2048) (j : Fin 128) :
    k0_pay22 m (iota .tc S2048x128 32 [1] iota_S2048x128_d1_w32) (distances q c (k0_pay12 q))
      (multiReduction .minimumf [1] S2048 (distances q c (k0_pay12 q)) 0x7F800000#32 reduces_S2048x128_S2048 (.inl rfl) rfl) (ix2 l j) = hot (mat q) (mat c) (col m) l j := by
  rw [hot_at, show (fun j => distances q c (k0_pay12 q) (ix2 l j)) = dist (mat q) (mat c) l from funext fun j => distances_at q c l j]
  rfl

theorem count_of (q : FVec Ideal S2048x64 .f32) (c : FVec Ideal S128x64 .f32) (m : FVec Ideal S2048x1 .f32) (j : Fin 128) :
    k0_pay23 m (iota .tc S2048x128 32 [1] iota_S2048x128_d1_w32) (k0_pay13 (F := Ideal)) (distances q c (k0_pay12 q))
      (multiReduction .minimumf [1] S2048 (distances q c (k0_pay12 q)) 0x7F800000#32 reduces_S2048x128_S2048 (.inl rfl) rfl) (ix2 j 0) = count (mat q) (mat c) (col m) j := by
  rw [count_at]
  exact Finset.sum_congr rfl fun l _ => hot_of q c m l j

theorem total_of (q : FVec Ideal S2048x64 .f32) (c : FVec Ideal S128x64 .f32) (m : FVec Ideal S2048x1 .f32) (j : Fin 128) (e : Fin 64) :
    k0_pay24 q m (iota .tc S2048x128 32 [1] iota_S2048x128_d1_w32) (distances q c (k0_pay12 q))
      (multiReduction .minimumf [1] S2048 (distances q c (k0_pay12 q)) 0x7F800000#32 reduces_S2048x128_S2048 (.inl rfl) rfl) (ix2 j e) = total (mat q) (mat c) (col m) j e := by
  rw [totals_at]
  exact Finset.sum_congr rfl fun l _ => by rw [hot_of q c m l j]

theorem moved_of (q : FVec Ideal S2048x64 .f32) (c : FVec Ideal S128x64 .f32) (o : FVec Ideal S2048x128 .f32) (n : FVec Ideal S128x1 .f32)
    (H : Fin 2048 → Fin 128 → EReal) (N : Fin 128 → EReal) (ho : ∀ l j, o (ix2 l j) = H l j) (hn : ∀ j, n (ix2 j 0) = N j) (j : Fin 128) (e : Fin 64) :
    k0_pay18 q c o n
      (matmul dot_S256x128_S256x64_S128x64_0_0_1_1_n_n none (extractStridedSlice S256x128 ![0, 0] o slices_S2048x128_o0_0_S256x128)
        (extractStridedSlice S256x64 ![0, 0] q slices_S2048x64_o0_0_S256x64) (constant S128x64 .f32 0x00000000#32))
      (extractStridedSlice S256x128 ![256, 0] o slices_S2048x128_o256_0_S256x128) (ix2 j e)
      = if 0 < N j then Ideal.div (∑ l, H l j * q (ix2 l e)) (max (N j) 1) else c (ix2 j e) := by
  rw [moved_at, hn]
  simp only [ho]

/-- The centres after the first step. -/
theorem centres₁_eq (W : FVec Ideal S1024x192 .f32) (B : FVec Ideal S1x192 .f32) (X : FVec Ideal S128x1024 .f32) (Y : FVec Ideal S128x192 .f32)
    (q : FVec Ideal S2048x64 .f32) (m : FVec Ideal S2048x1 .f32) :
    mat (k0_pay18 q (k0_pay11 W B X Y) (k0_pay14 W B q m X Y) (k0_pay15 W B q m X Y) (k0_pay16 W B q m X Y) (k0_pay17 W B q m X Y))
      = move (mat q) (mat (k0_pay11 W B X Y)) (col m) := by
  funext j e
  exact moved_of q (k0_pay11 W B X Y) _ _ (hot (mat q) (mat (k0_pay11 W B X Y)) (col m)) (count (mat q) (mat (k0_pay11 W B X Y)) (col m))
    (fun l j => (congrFun (first_hot W B X Y q m) _).trans (hot_of q (k0_pay11 W B X Y) m l j))
    (fun j => (congrFun (first_count W B X Y q m) _).trans (count_of q (k0_pay11 W B X Y) m j)) j e

/-- The attention, from the counts and sums by centre. -/
theorem attended_of (k v : FVec Ideal S2048x64 .f32) (m : FVec Ideal S2048x1 .f32) (c : FVec Ideal S128x64 .f32) (n : FVec Ideal S128x1 .f32)
    (t : FVec Ideal S128x64 .f32) (N : Fin 128 → EReal) (T : Fin 128 → Fin 64 → EReal) (hn : ∀ j, n (ix2 j 0) = N j) (ht : ∀ j e, t (ix2 j e) = T j e)
    (j e : Fin 128) :
    k0_pay25 k v m c n t (Scalar.ofBits .f32 0x3F800000#32) (ix4 0 0 j e)
      = if h : e.val < 64 then mixed (mat k) (mat v) (fun j e => if 0 < N j then Ideal.div (T j e) (max (N j) 1) else mat c j e) (col m) j ⟨e.val, h⟩ else 0 := by
  rw [attended_at]
  simp only [hn, ht]

/-- The attention of the centres one step after `c`. -/
theorem mixed_of (q k v : FVec Ideal S2048x64 .f32) (c : FVec Ideal S128x64 .f32) (m : FVec Ideal S2048x1 .f32) (j e : Fin 128) :
    k0_pay25 k v m c
      (k0_pay23 m (iota .tc S2048x128 32 [1] iota_S2048x128_d1_w32) (k0_pay13 (F := Ideal)) (distances q c (k0_pay12 q))
        (multiReduction .minimumf [1] S2048 (distances q c (k0_pay12 q)) 0x7F800000#32 reduces_S2048x128_S2048 (.inl rfl) rfl))
      (k0_pay24 q m (iota .tc S2048x128 32 [1] iota_S2048x128_d1_w32) (distances q c (k0_pay12 q))
        (multiReduction .minimumf [1] S2048 (distances q c (k0_pay12 q)) 0x7F800000#32 reduces_S2048x128_S2048 (.inl rfl) rfl))
      (Scalar.ofBits .f32 0x3F800000#32) (ix4 0 0 j e)
      = if h : e.val < 64 then mixed (mat k) (mat v) (move (mat q) (mat c) (col m)) (col m) j ⟨e.val, h⟩ else 0 :=
  attended_of k v m c _ _ _ _ (fun j => count_of q c m j) (fun j e => total_of q c m j e) j e

/-- The first result's block: the attention of the centres after the second step, with zeros beside it. -/
theorem mixed_out (j e : Fin 128) : out0_5 i x x' w p b (ix4 0 0 j e)
    = if h : e.val < 64 then mixed (keys x p b) (vals x p b) (centres₂ x x' w p b) (maskOf w) j ⟨e.val, h⟩ else 0 := by
  unfold out0_5
  rw [View.canon_unit_zero zeros₄]
  unfold k0_pay40 k0_pay41 k0_pay39 k0_pay38 k0_pay37 k0_pay36 k0_pay35 k0_pay34 k0_pay33 k0_pay32 k0_pay31 k0_pay30 k0_pay29 k0_pay28 k0_pay27
  rw [View.ld_unit_zero zeros₃, View.ld_unit_zero zeros₃, View.ld_unit_zero zeros₃, View.ld_unit_zero zeros₃, View.ld_unit_zero zeros₃]
  refine (mixed_of (k0_pay5 x p b) (k0_pay6 x p b) (k0_pay7 x p b) _ (k0_pay8 w) j e).trans ?_
  rw [centres₁_eq, queries_eq, keys_eq, vals_eq, centres₀_eq, mask_eq]
  rfl

/-- The numbering of a head's centres, through the heads. -/
theorem number_at (a a' : BitVec 32) (g : IVec S2048x1 32) (l : Fin 2048) :
    k0_pay1 (k0_pay26 a a' g) (ix4 0 0 0 l) = g (ix2 l 0) + (a * 16#32 + a') * 128#32 := by
  unfold k0_pay1 k0_pay26
  pointwise
  rfl

/-- The second result's block: each query's centre, numbered through the heads. -/
theorem group_out (l : Fin 2048) : out0_6 i x x' w p b (ix4 0 0 0 l)
    = BitVec.ofNat 32 (group (queries x p b) (centres₁ x x' w p b) l).val
      + (BitVec.ofNat 32 (i 0).val * 16#32 + BitVec.ofNat 32 (i 1).val) * 128#32 := by
  unfold out0_6
  rw [View.canon_unit_zero zeros₄]
  unfold k0_pay40 k0_pay41 k0_pay39 k0_pay38 k0_pay37 k0_pay36 k0_pay35 k0_pay34 k0_pay33 k0_pay32 k0_pay31 k0_pay30 k0_pay29 k0_pay28 k0_pay27
  rw [View.ld_unit_zero zeros₃, View.ld_unit_zero zeros₃, View.ld_unit_zero zeros₃, View.ld_unit_zero zeros₃, View.ld_unit_zero zeros₃]
  rw [number_at]
  unfold k0_pay20
  rw [second_distances]
  refine congrArg (· + (BitVec.ofNat 32 (i 0).val * 16#32 + BitVec.ofNat 32 (i 1).val) * 128#32) ?_
  refine (group_at (distances (k0_pay5 x p b) (k0_pay18 (k0_pay5 x p b) (k0_pay11 (k0_pay2 p) (k0_pay3 b) (k0_pay9 x') (k0_pay10 p x'))
    (k0_pay14 (k0_pay2 p) (k0_pay3 b) (k0_pay5 x p b) (k0_pay8 w) (k0_pay9 x') (k0_pay10 p x')) (k0_pay15 (k0_pay2 p) (k0_pay3 b) (k0_pay5 x p b) (k0_pay8 w) (k0_pay9 x') (k0_pay10 p x'))
    (k0_pay16 (k0_pay2 p) (k0_pay3 b) (k0_pay5 x p b) (k0_pay8 w) (k0_pay9 x') (k0_pay10 p x')) (k0_pay17 (k0_pay2 p) (k0_pay3 b) (k0_pay5 x p b) (k0_pay8 w) (k0_pay9 x') (k0_pay10 p x')))
    (k0_pay12 (k0_pay5 x p b))) l).trans ?_
  simp only [distances_at, centres₁_eq, queries_eq, centres₀_eq, mask_eq]
  rfl

end Output

end Cert.Proof.Attend

end

end
-- ==== Proof.Heads.lean ====
/-
  All the heads: the rows, the starting rows and the mask as functions of the arguments, and what the two results hold. One
  lemma reads the operation that takes the starting rows.
-/
module

public import proofs.«01_k».proof.Proof.Cluster

@[expose] public section

noncomputable section

namespace Cert.Proof.Attend

open Idealize.ShloMosaic

/-! ### Rows taken along the middle axis -/

/-- The dimension numbers that take `B` places of the middle axis of `[A, N, C]`. -/
abbrev middle (A N B C : Nat) (wf : GatherDims.WF ⟨3, ![A, N, C]⟩ ⟨2, ![B, 1]⟩ ⟨3, ![A, B, C]⟩ [0, 2] [1] [] [1] [] 1 ![A, 1, C]) :
    GatherDims ⟨3, ![A, N, C]⟩ ⟨2, ![B, 1]⟩ ⟨3, ![A, B, C]⟩ where
  offsetDims := [0, 2]
  collapsedSliceDims := [1]
  operandBatchingDims := []
  startIndicesBatchingDims := []
  startIndexMap := [1]
  indexVectorDim := 1
  sliceSizes := ![A, 1, C]
  wf := wf

/-- The place the `j`-th index names among 2048. -/
def seat (s : Shape.Idx ⟨2, ![128, 1]⟩ → BitVec 32) (j : Fin 128) : Fin 2048 :=
  ⟨min (s (ix2 j 0)).toInt.toNat 2047, by omega⟩

theorem middle_apply {A C : Nat} {α : Type} (wf) (x : Shape.Idx ⟨3, ![A, 2048, C]⟩ → α) (s : IVec ⟨2, ![128, 1]⟩ 32) (a : Fin A) (j : Fin 128) (c : Fin C) :
    Host.gather (middle A 2048 128 C wf) x s (ix3 a j c) = x (ix3 a (seat s j) c) := by
  unfold Host.gather
  refine congrArg x (funext fun d => Fin.ext ?_)
  show (middle A 2048 128 C wf).start (ix3 a j c) s d + (middle A 2048 128 C wf).batchCoord (ix3 a j c) d
      + (middle A 2048 128 C wf).offCoord (ix3 a j c) d = _
  rw [GatherDims.batchCoord_eq_zero _ _ _ List.not_mem_nil]
  match d with
  | 0 =>
    unfold GatherDims.start
    rw [dif_neg (show (0 : Fin 3) ∉ [(1 : Fin 3)] from by decide)]
    simp only [GatherDims.offCoord, zero_add]
    rfl
  | 1 =>
    rw [GatherDims.offCoord_eq_zero _ _ _ (fun h => ((GatherDims.mem_sKept _ _).mp h).1 (List.mem_singleton.mpr rfl))]
    unfold GatherDims.start
    rw [dif_pos (List.mem_singleton.mpr rfl)]
    have hs : (middle A 2048 128 C wf).siIdx (ix3 a j c) ⟨List.idxOf (1 : Fin 3) (middle A 2048 128 C wf).startIndexMap,
        List.idxOf_lt_length_iff.2 (List.mem_singleton.mpr rfl)⟩ = ix2 j 0 := by
      funext b
      refine Fin.ext ?_
      match b with
      | 0 => rfl
      | 1 => rfl
    rw [hs]
    rfl
  | 2 =>
    unfold GatherDims.start
    rw [dif_neg (show (2 : Fin 3) ∉ [(1 : Fin 3)] from by decide)]
    simp only [GatherDims.offCoord, zero_add]
    rfl

/-! ### The two results -/

section

variable (X : Shape.Idx ⟨3, ![2, 2048, 1024]⟩ → EReal) (A : Shape.Idx ⟨2, ![2, 2048]⟩ → BitVec 1) (N : Shape.Idx ⟨1, ![2]⟩ → BitVec 32)
  (Wq : Shape.Idx ⟨2, ![1024, 1024]⟩ → EReal) (bq : Shape.Idx ⟨1, ![1024]⟩ → EReal)
  (Wk : Shape.Idx ⟨2, ![1024, 1024]⟩ → EReal) (bk : Shape.Idx ⟨1, ![1024]⟩ → EReal)
  (Wv : Shape.Idx ⟨2, ![1024, 1024]⟩ → EReal) (bv : Shape.Idx ⟨1, ![1024]⟩ → EReal)
  (s : Shape.Idx ⟨2, ![128, 1]⟩ → BitVec 32)
  (b : Fin 2) (h : Fin 16)

/-- A row of `X` against the weights of head `h`, with the bias. -/
def line (W : Shape.Idx ⟨2, ![1024, 1024]⟩ → EReal) (y : Shape.Idx ⟨1, ![1024]⟩ → EReal) (l : Fin 2048) (e : Fin 64) : EReal :=
  (∑ i, X (ix3 b l i) * W (ix2 i ⟨h.val * 64 + e.val, by omega⟩)) + y (ix1 ⟨h.val * 64 + e.val, by omega⟩)

/-- The mask at a place: set, and below the length. -/
def bit (l : Fin 2048) : BitVec 1 := IntOp.andi (A (ix2 b l)) (IntOp.cmpi .slt (BitVec.ofNat 32 l.val) (N (ix1 b)))

def live (l : Fin 2048) : EReal := FloatOps.uitofp (F := Ideal) .f32 (bit A N b l)

theorem live_pos (l : Fin 2048) : 0 < live A N b l ↔ bit A N b l = 1#1 := by
  unfold live
  generalize bit A N b l = x
  rcases BitVec.eq_zero_or_eq_one x with h | h <;> subst h <;> simp [FloatOps.uitofp]

/-- The starting centres, and the centres after one and after two steps. -/
def start : Fin 128 → Fin 64 → EReal := fun j => line X b h Wq bq (seat s j)
def step₁ : Fin 128 → Fin 64 → EReal := move (line X b h Wq bq) (start X Wq bq s b h) (live A N b)
def step₂ : Fin 128 → Fin 64 → EReal := move (line X b h Wq bq) (step₁ X A N Wq bq s b h) (live A N b)

/-- The first result: the attention of the centres, with zeros beside it. -/
def mixture (j e : Fin 128) : EReal :=
  if g : e.val < 64 then mixed (line X b h Wk bk) (line X b h Wv bv) (step₂ X A N Wq bq s b h) (live A N b) j ⟨e.val, g⟩ else 0

/-- The second result: each query's centre, numbered through the heads. -/
def number (l : Fin 2048) : BitVec 32 :=
  BitVec.ofNat 32 (group (line X b h Wq bq) (step₁ X A N Wq bq s b h) l).val + BitVec.ofNat 32 ((b.val * 16 + h.val) * 128)

end

end Cert.Proof.Attend

end

end
-- ==== Proof.AttnValue.lean ====
/-
  The attention call's two results, index by index, from what its buffers hold when it is entered.
-/
module

public import proofs.«01_k».proof.Proof.Gen.AttnIdeal.Value
public import proofs.«01_k».proof.Proof.Body
public import proofs.«01_k».proof.Proof.Heads

@[expose] public section

set_option maxRecDepth 16384

noncomputable section

namespace Cert.Proof.Attend

open Cert.AttnIdeal Cert.AttnIdeal.Gen
open Idealize.ShloMosaic Idealize.ShloMosaic.StableHlo Idealize.ShloMosaic.TcCoe

/-! ### What the call is entered with -/

section Entry

variable {F : FTy → Type} [FloatOps F]
variable (m : (ℓ : Loc nD τ sig) → Buf (Elt F) ℓ) (c : Dev nD)

/-- The indices of the starting rows: 128 numbers evenly spaced from 0 to 2047, cut to integers. -/
def seats : S128x1.Idx → BitVec 32 :=
  let first : FVec F S_ .f32 := sitofp .f32 (constantI S_ 32 0#32)
  let last : FVec F S_ .f32 := sitofp .f32 (constantI S_ 32 2047#32)
  let part : FVec F S127 .f32 := Host.divf (sitofp .f32 (iotaInDim S127 32 0)) (broadcastInDim S127 ![] bcast_S_S127 (constant S_ .f32 0x42FE0000#32))
  let rest : FVec F S127 .f32 := subf (broadcastInDim S127 ![] bcast_S_S127 (constant S_ .f32 0x3F800000#32)) part
  let line : FVec F S128 .f32 := concatenate S128 0 [⟨S127, addf (mulf (broadcastInDim S127 ![0] bcast_S1_S127_0 (shapeCast S1 first shapeCasts_S_S1)) rest)
    (mulf (broadcastInDim S127 ![0] bcast_S1_S127_0 (shapeCast S1 last shapeCasts_S_S1)) part)⟩, ⟨S1, broadcastInDim S1 ![] bcast_S_S1 last⟩] concatenates_S127_S1_S128_d0
  let whole : IVec S128 32 := fptosi 32 line
  broadcastInDim S128x1 ![0] bcast_S128_S128x1_0 (select (cmpi .slt whole (broadcastInDim S128 ![] bcast_S_S128 (constantI S_ 32 0#32)))
    (addi whole (broadcastInDim S128 ![] bcast_S_S128 (constantI S_ 32 2048#32))) whole)

/-- The mask as a column. -/
theorem V_mask : V m c main_v8
    = shapeCast S2x2048x1 (uitofp .f32 (andi (m (c, Proc.devRef .tc main_arg1)) (cmpi .slt
        (broadcastInDim S2x2048 ![0, 1] bcast_S1x2048_S2x2048_0_1 (broadcastInDim S1x2048 ![1] bcast_S2048_S1x2048_1 (iotaInDim S2048 32 0)))
        (broadcastInDim S2x2048 ![0, 1] bcast_S2x1_S2x2048_0_1 (broadcastInDim S2x1 ![0] bcast_S2_S2x1_0 (m (c, Proc.devRef .tc main_arg2))))))) shapeCasts_S2x2048_S2x2048x1 := by
  unfold V
  simp only [hostOps0, hostOps0_1, hostOps0_2, List.flatten_cons, List.flatten_nil, List.append_nil, List.cons_append, List.nil_append,
    TRef.binary, TRef.nullary, TRef.ternary, TRef.unary, TRef.reshape, TRef.toBuf, TRef.ofBuf, cast_eq]
  after_results_simp <;> rfl

/-- The starting rows. -/
theorem V_rows : V m c main_v17 = Host.gather gather_S2x2048x1024_S128x1_S2x128x1024_02_1_n_n_1_1_211024 (m (c, Proc.devRef .tc main_arg0)) (seats (F := F)) := by
  unfold V
  simp only [hostOps0, hostOps0_1, hostOps0_2, List.flatten_cons, List.flatten_nil, List.append_nil, List.cons_append, List.nil_append,
    TRef.binary, TRef.nullary, TRef.ternary, TRef.unary, TRef.reshape, TRef.toBuf, TRef.ofBuf, cast_eq]
  after_results_simp <;> rfl

/-- The three weights side by side for each head, -/
theorem V_weights : V m c main_v24 = concatenate S16x1024x192 2
    [⟨S16x1024x64, transpose S16x1024x64 [1, 0, 2] (shapeCast S1024x16x64 (m (c, Proc.devRef .tc main_arg3)) shapeCasts_S1024x1024_S1024x16x64) transposes_S1024x16x64_S16x1024x64_1_0_2⟩,
     ⟨S16x1024x64, transpose S16x1024x64 [1, 0, 2] (shapeCast S1024x16x64 (m (c, Proc.devRef .tc main_arg5)) shapeCasts_S1024x1024_S1024x16x64) transposes_S1024x16x64_S16x1024x64_1_0_2⟩,
     ⟨S16x1024x64, transpose S16x1024x64 [1, 0, 2] (shapeCast S1024x16x64 (m (c, Proc.devRef .tc main_arg7)) shapeCasts_S1024x1024_S1024x16x64) transposes_S1024x16x64_S16x1024x64_1_0_2⟩]
    concatenates_S16x1024x64_S16x1024x64_S16x1024x64_S16x1024x192_d2 := by
  unfold V
  simp only [hostOps0, hostOps0_1, hostOps0_2, List.flatten_cons, List.flatten_nil, List.append_nil, List.cons_append, List.nil_append,
    TRef.binary, TRef.nullary, TRef.ternary, TRef.unary, TRef.reshape, TRef.toBuf, TRef.ofBuf, cast_eq]
  after_results_simp <;> rfl

/-- and the three biases. -/
theorem V_biases : V m c main_v28 = concatenate S16x1x192 2
    [⟨S16x1x64, shapeCast S16x1x64 (m (c, Proc.devRef .tc main_arg4)) shapeCasts_S1024_S16x1x64⟩,
     ⟨S16x1x64, shapeCast S16x1x64 (m (c, Proc.devRef .tc main_arg6)) shapeCasts_S1024_S16x1x64⟩,
     ⟨S16x1x64, shapeCast S16x1x64 (m (c, Proc.devRef .tc main_arg8)) shapeCasts_S1024_S16x1x64⟩]
    concatenates_S16x1x64_S16x1x64_S16x1x64_S16x1x192_d2 := by
  unfold V
  simp only [hostOps0, hostOps0_1, hostOps0_2, List.flatten_cons, List.flatten_nil, List.append_nil, List.cons_append, List.nil_append,
    TRef.binary, TRef.nullary, TRef.ternary, TRef.unary, TRef.reshape, TRef.toBuf, TRef.ofBuf, cast_eq]
  after_results_simp <;> rfl

end Entry

/-! ### The call's blocks -/

section Blocks

variable (m : (ℓ : Loc nD τ sig) → Buf (Elt Ideal) ℓ) (c : Dev nD)

theorem window₀ : ∀ t : Fin cfg0.N, win0_0.index t = ![(grid0.coords t 0).val, 0, 0] :=
  (by decide +kernel : ∀ t : Fin grid0.N, win0_0.index t = ![(grid0.coords t 0).val, 0, 0])
theorem window₁ : ∀ t : Fin cfg0.N, win0_1.index t = ![(grid0.coords t 0).val, 0, 0] :=
  (by decide +kernel : ∀ t : Fin grid0.N, win0_1.index t = ![(grid0.coords t 0).val, 0, 0])
theorem window₂ : ∀ t : Fin cfg0.N, win0_2.index t = ![(grid0.coords t 0).val, 0, 0] :=
  (by decide +kernel : ∀ t : Fin grid0.N, win0_2.index t = ![(grid0.coords t 0).val, 0, 0])
theorem window₃ : ∀ t : Fin cfg0.N, win0_3.index t = ![(grid0.coords t 1).val, 0, 0] :=
  (by decide +kernel : ∀ t : Fin grid0.N, win0_3.index t = ![(grid0.coords t 1).val, 0, 0])
theorem window₄ : ∀ t : Fin cfg0.N, win0_4.index t = ![(grid0.coords t 1).val, 0, 0] :=
  (by decide +kernel : ∀ t : Fin grid0.N, win0_4.index t = ![(grid0.coords t 1).val, 0, 0])
theorem window₅ : ∀ t : Fin cfg0.N, win0_5.index t = ![(grid0.coords t 0).val, (grid0.coords t 1).val, 0, 0] :=
  (by decide +kernel : ∀ t : Fin grid0.N, win0_5.index t = ![(grid0.coords t 0).val, (grid0.coords t 1).val, 0, 0])
theorem window₆ : ∀ t : Fin cfg0.N, win0_6.index t = ![(grid0.coords t 0).val, (grid0.coords t 1).val, 0, 0] :=
  (by decide +kernel : ∀ t : Fin grid0.N, win0_6.index t = ![(grid0.coords t 0).val, (grid0.coords t 1).val, 0, 0])

variable (t : Fin cfg0.N) (b : Fin 2) (h : Fin 16) (hb : b.val = (grid0.coords t 0).val) (hh : h.val = (grid0.coords t 1).val)
include hb

theorem block₀ (r : Fin 2048) (k : Fin 1024) : iblk m c 0 t (ix3 (0 : Fin 1) r k) = m (c, Proc.devRef .tc main_arg0) (ix3 b r k) := by
  rw [← V_main_arg0 m c]
  show V m c main_arg0 ((win0_0.blk t).view.emb (ix3 (0 : Fin 1) r k)) = _
  refine congrArg _ ?_
  blk_ext [window₀]

theorem block₁ (j : Fin 128) (k : Fin 1024) : iblk m c 1 t (ix3 (0 : Fin 1) j k) = m (c, Proc.devRef .tc main_arg0) (ix3 b (seat (seats (F := Ideal)) j) k) := by
  refine Eq.trans (b := V m c main_v17 (ix3 b j k)) ?_ ?_
  · show V m c main_v17 ((win0_1.blk t).view.emb (ix3 (0 : Fin 1) j k)) = _
    refine congrArg _ ?_
    blk_ext [window₁]
  · rw [V_rows]
    exact middle_apply _ _ _ b j k

theorem block₂ (r : Fin 2048) : iblk m c 2 t (ix3 (0 : Fin 1) r (0 : Fin 1))
    = live (m (c, Proc.devRef .tc main_arg1)) (m (c, Proc.devRef .tc main_arg2)) b r := by
  refine Eq.trans (b := V m c main_v8 (ix3 b r (0 : Fin 1))) ?_ ?_
  · show V m c main_v8 ((win0_2.blk t).view.emb (ix3 (0 : Fin 1) r (0 : Fin 1))) = _
    refine congrArg _ ?_
    blk_ext [window₂]
  · rw [V_mask]
    unfold live bit
    pointwise

omit hb
include hh

theorem weight_block (o : Fin 3) (k : Fin 1024) (e : Fin 64) : iblk m c 3 t (ix3 (0 : Fin 1) k ⟨64 * o.val + e.val, by omega⟩)
    = (![m (c, Proc.devRef .tc main_arg3), m (c, Proc.devRef .tc main_arg5), m (c, Proc.devRef .tc main_arg7)] o : S1024x1024.Idx → EReal)
        (ix2 k ⟨h.val * 64 + e.val, by omega⟩) := by
  refine Eq.trans (b := V m c main_v24 (ix3 h k ⟨64 * o.val + e.val, by omega⟩)) ?_ ?_
  · show V m c main_v24 ((win0_3.blk t).view.emb (ix3 (0 : Fin 1) k ⟨64 * o.val + e.val, by omega⟩)) = _
    refine congrArg _ ?_
    blk_ext [window₃]
  · rw [V_weights]
    fin_cases o
    · pointwise
    · pointwise
    · pointwise
      rw [dif_neg (by omega), dif_neg (by omega)]
      exact congrArg _ (by congr 2; omega)

theorem bias_block (o : Fin 3) (e : Fin 64) : iblk m c 4 t (ix3 (0 : Fin 1) (0 : Fin 1) ⟨64 * o.val + e.val, by omega⟩)
    = (![m (c, Proc.devRef .tc main_arg4), m (c, Proc.devRef .tc main_arg6), m (c, Proc.devRef .tc main_arg8)] o : S1024.Idx → EReal)
        (ix1 ⟨h.val * 64 + e.val, by omega⟩) := by
  refine Eq.trans (b := V m c main_v28 (ix3 h (0 : Fin 1) ⟨64 * o.val + e.val, by omega⟩)) ?_ ?_
  · show V m c main_v28 ((win0_4.blk t).view.emb (ix3 (0 : Fin 1) (0 : Fin 1) ⟨64 * o.val + e.val, by omega⟩)) = _
    refine congrArg _ ?_
    blk_ext [window₄]
  · rw [V_biases]
    fin_cases o
    · pointwise
    · pointwise
    · pointwise
      rw [dif_neg (by omega), dif_neg (by omega)]
      exact congrArg _ (by congr 2; omega)

end Blocks

/-! ### The two arrays after the call -/

section Arrays

variable (m : (ℓ : Loc nD τ sig) → Buf (Elt Ideal) ℓ) (c : Dev nD)

theorem block_line (o : Fin 3) (t : Fin cfg0.N) (b : Fin 2) (h : Fin 16) (hb : b.val = (grid0.coords t 0).val) (hh : h.val = (grid0.coords t 1).val) :
    projected (n := 2048) (64 * o.val) (by omega) (iblk m c 0 t) (iblk m c 3 t) (iblk m c 4 t)
      = line (m (c, Proc.devRef .tc main_arg0)) b h (![m (c, Proc.devRef .tc main_arg3), m (c, Proc.devRef .tc main_arg5), m (c, Proc.devRef .tc main_arg7)] o)
        (![m (c, Proc.devRef .tc main_arg4), m (c, Proc.devRef .tc main_arg6), m (c, Proc.devRef .tc main_arg8)] o) := by
  funext l e
  unfold projected line
  exact congrArg₂ (· + ·) (Finset.sum_congr rfl fun i _ => congrArg₂ (· * ·) (block₀ m c t b hb l i) (weight_block m c t b h hh o i e)) (bias_block m c t b h hh o e)

theorem block_start (t : Fin cfg0.N) (b : Fin 2) (h : Fin 16) (hb : b.val = (grid0.coords t 0).val) (hh : h.val = (grid0.coords t 1).val) :
    centres₀ (iblk m c 1 t) (iblk m c 3 t) (iblk m c 4 t)
      = start (m (c, Proc.devRef .tc main_arg0)) (m (c, Proc.devRef .tc main_arg3)) (m (c, Proc.devRef .tc main_arg4)) (seats (F := Ideal)) b h := by
  funext j e
  unfold centres₀ projected start line
  exact congrArg₂ (· + ·) (Finset.sum_congr rfl fun i _ => congrArg₂ (· * ·) (block₁ m c t b hb j i) (weight_block m c t b h hh 0 i e)) (bias_block m c t b h hh 0 e)

theorem block_mask (t : Fin cfg0.N) (b : Fin 2) (hb : b.val = (grid0.coords t 0).val) :
    maskOf (iblk m c 2 t) = live (m (c, Proc.devRef .tc main_arg1)) (m (c, Proc.devRef .tc main_arg2)) b :=
  funext fun l => block₂ m c t b hb l

/-- What the first result holds, -/
def mixtures : S2x16x128x128.Idx → EReal := fun y =>
  mixture (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)) (seats (F := Ideal)) ⟨(y 0).val, (y 0).isLt⟩ ⟨(y 1).val, (y 1).isLt⟩ ⟨(y 2).val, (y 2).isLt⟩ ⟨(y 3).val, (y 3).isLt⟩

/-- and the second. -/
def numbers : S2x16x1x2048.Idx → BitVec 32 := fun y =>
  number (m (c, Proc.devRef .tc main_arg0)) (m (c, Proc.devRef .tc main_arg1)) (m (c, Proc.devRef .tc main_arg2)) (m (c, Proc.devRef .tc main_arg3))
    (m (c, Proc.devRef .tc main_arg4)) (seats (F := Ideal)) ⟨(y 0).val, (y 0).isLt⟩ ⟨(y 1).val, (y 1).isLt⟩ ⟨(y 3).val, (y 3).isLt⟩

theorem block_mixture (t : Fin cfg0.N) (b : Fin 2) (h : Fin 16) (hb : b.val = (grid0.coords t 0).val) (hh : h.val = (grid0.coords t 1).val) (j e : Fin 128) :
    out0_5 (grid0.coords t) (iblk m c 0 t) (iblk m c 1 t) (iblk m c 2 t) (iblk m c 3 t) (iblk m c 4 t) (ix4 0 0 j e)
      = mixture (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)) (seats (F := Ideal)) b h j e := by
  refine (mixed_out _ _ _ _ _ _ j e).trans ?_
  unfold mixture step₂ step₁ centres₂ centres₁
  rw [show queries (iblk m c 0 t) (iblk m c 3 t) (iblk m c 4 t) = _ from block_line m c 0 t b h hb hh,
    show keys (iblk m c 0 t) (iblk m c 3 t) (iblk m c 4 t) = _ from block_line m c 1 t b h hb hh,
    show vals (iblk m c 0 t) (iblk m c 3 t) (iblk m c 4 t) = _ from block_line m c 2 t b h hb hh,
    block_start m c t b h hb hh, block_mask m c t b hb]
  rfl

theorem block_number (t : Fin cfg0.N) (b : Fin 2) (h : Fin 16) (hb : b.val = (grid0.coords t 0).val) (hh : h.val = (grid0.coords t 1).val) (l : Fin 2048) :
    out0_6 (grid0.coords t) (iblk m c 0 t) (iblk m c 1 t) (iblk m c 2 t) (iblk m c 3 t) (iblk m c 4 t) (ix4 0 0 0 l)
      = number (m (c, Proc.devRef .tc main_arg0)) (m (c, Proc.devRef .tc main_arg1)) (m (c, Proc.devRef .tc main_arg2)) (m (c, Proc.devRef .tc main_arg3))
    (m (c, Proc.devRef .tc main_arg4)) (seats (F := Ideal)) b h l := by
  refine (group_out _ _ _ _ _ _ l).trans ?_
  unfold number step₁ centres₁
  rw [show queries (iblk m c 0 t) (iblk m c 3 t) (iblk m c 4 t) = _ from block_line m c 0 t b h hb hh,
    block_start m c t b h hb hh, block_mask m c t b hb, ← hb, ← hh]
  refine congrArg₂ (· + ·) rfl ?_
  rw [show (16#32 : BitVec 32) = BitVec.ofNat 32 16 from rfl, show (128#32 : BitVec 32) = BitVec.ofNat 32 128 from rfl,
    ← BitVec.ofNat_mul, ← BitVec.ofNat_add, ← BitVec.ofNat_mul]

theorem final_mixtures : (dats m 0 c).arrAt 5 cfg0.N = mixtures m c := by
  refine (dats m 0 c).arrAt_eq_of_covers 5 _ (by decide +kernel) fun t _ y => ?_
  rw [after0_5]
  blk_simp
  rw [eq_ix4 y]
  generalize hj : y 2 = j
  generalize he : y 3 = e
  have e0 : y 0 = (0 : Fin 1) := Fin.ext (Nat.lt_one_iff.1 (y 0).isLt)
  have e1 : y 1 = (0 : Fin 1) := Fin.ext (Nat.lt_one_iff.1 (y 1).isLt)
  rw [e0, e1]
  have h0 : (((win0_5.blk t).view.emb (ix4 (0 : Fin 1) (0 : Fin 1) j e) 0 : Fin _) : Nat) = (grid0.coords t 0).val := by blk_simp [window₅]; rfl
  have h1 : (((win0_5.blk t).view.emb (ix4 (0 : Fin 1) (0 : Fin 1) j e) 1 : Fin _) : Nat) = (grid0.coords t 1).val := by blk_simp [window₅]; rfl
  have h2 : (((win0_5.blk t).view.emb (ix4 (0 : Fin 1) (0 : Fin 1) j e) 2 : Fin _) : Nat) = j.val := by blk_simp [window₅]
  have h3 : (((win0_5.blk t).view.emb (ix4 (0 : Fin 1) (0 : Fin 1) j e) 3 : Fin _) : Nat) = e.val := by blk_simp [window₅]
  refine (block_mixture m c t ⟨_, (((win0_5.blk t).view.emb (ix4 (0 : Fin 1) (0 : Fin 1) j e) 0).isLt)⟩ ⟨_, (((win0_5.blk t).view.emb (ix4 (0 : Fin 1) (0 : Fin 1) j e) 1).isLt)⟩ h0 h1 j e).trans ?_
  unfold mixtures
  exact congrArg₂ _ (Fin.ext h2.symm) (Fin.ext h3.symm)

theorem final_numbers : (dats m 0 c).arrAt 6 cfg0.N = numbers m c := by
  refine (dats m 0 c).arrAt_eq_of_covers 6 _ (by decide +kernel) fun t _ y => ?_
  rw [after0_6]
  blk_simp
  rw [eq_ix4 y]
  generalize hl : y 3 = l
  have e0 : y 0 = (0 : Fin 1) := Fin.ext (Nat.lt_one_iff.1 (y 0).isLt)
  have e1 : y 1 = (0 : Fin 1) := Fin.ext (Nat.lt_one_iff.1 (y 1).isLt)
  have e2 : y 2 = (0 : Fin 1) := Fin.ext (Nat.lt_one_iff.1 (y 2).isLt)
  rw [e0, e1, e2]
  have h0 : (((win0_6.blk t).view.emb (ix4 (0 : Fin 1) (0 : Fin 1) (0 : Fin 1) l) 0 : Fin _) : Nat) = (grid0.coords t 0).val := by blk_simp [window₆]; rfl
  have h1 : (((win0_6.blk t).view.emb (ix4 (0 : Fin 1) (0 : Fin 1) (0 : Fin 1) l) 1 : Fin _) : Nat) = (grid0.coords t 1).val := by blk_simp [window₆]; rfl
  have h3 : (((win0_6.blk t).view.emb (ix4 (0 : Fin 1) (0 : Fin 1) (0 : Fin 1) l) 3 : Fin _) : Nat) = l.val := by blk_simp [window₆]
  refine (block_number m c t ⟨_, (((win0_6.blk t).view.emb (ix4 (0 : Fin 1) (0 : Fin 1) (0 : Fin 1) l) 0).isLt)⟩ ⟨_, (((win0_6.blk t).view.emb (ix4 (0 : Fin 1) (0 : Fin 1) (0 : Fin 1) l) 1).isLt)⟩ h0 h1 l).trans ?_
  unfold numbers
  exact congrArg _ (Fin.ext h3.symm)

end Arrays

end Cert.Proof.Attend

end

end
-- ==== Proof.WholeHost.lean ====
/-
  The host code of the whole program around its three calls: what the attention is entered with, the table and the numbers the
  gather is given, and the rows and the bias the projection is given, each line run as one, and the contents of the buffers the
  calls read as functions of the arguments and of the calls' results.
-/
module

public import proofs.«01_k».proof.Proof.WholeCalls
public import proofs.«01_k».proof.Proof.WholePieces
public import proofs.«01_k».proof.Proof.AttnValue
public import Idealize.ShloMosaic.Lib.StableHlo.Run

@[expose] public section

noncomputable section

namespace Cert.Proof.WholeHost

open Cert.WholeIdeal Cert.WholeIdeal.Gen
open Idealize.ShloMosaic Idealize.ShloMosaic.StableHlo Idealize.ShloMosaic.TcCoe
open Idealize.ShloMosaic.SparseCore.Cfg (HIx)
open Idealize.SL.Sem Idealize.SL Idealize.SL.RA Idealize.ShloMosaic.Rounds

variable {F : FTy → Type} [FloatOps F]

/-! ## The three straight lines -/

/-- The mask, the starting rows, and the weights and biases of both calls. -/
def pre : List (HloOp τ sig (Elt F)) :=
  [nullary main_v0 (iotaInDim S2048 32 0),
   unary main_v0 main_v1 (broadcastInDim S1x2048 ![1] bcast_S2048_S1x2048_1 : (⟨S2048, .i32⟩ : BufTy).Contents (Elt F) → (⟨S1x2048, .i32⟩ : BufTy).Contents (Elt F)),
   unary main_arg2 main_v2 (broadcastInDim S2x1 ![0] bcast_S2_S2x1_0 : (⟨S2, .i32⟩ : BufTy).Contents (Elt F) → (⟨S2x1, .i32⟩ : BufTy).Contents (Elt F)),
   unary main_v1 main_v3 (broadcastInDim S2x2048 ![0, 1] bcast_S1x2048_S2x2048_0_1 : (⟨S1x2048, .i32⟩ : BufTy).Contents (Elt F) → (⟨S2x2048, .i32⟩ : BufTy).Contents (Elt F)),
   unary main_v2 main_v4 (broadcastInDim S2x2048 ![0, 1] bcast_S2x1_S2x2048_0_1 : (⟨S2x1, .i32⟩ : BufTy).Contents (Elt F) → (⟨S2x2048, .i32⟩ : BufTy).Contents (Elt F)),
   binary main_v3 main_v4 main_v5 (cmpi .slt : (⟨S2x2048, .i32⟩ : BufTy).Contents (Elt F) → (⟨S2x2048, .i32⟩ : BufTy).Contents (Elt F) → (⟨S2x2048, .i1⟩ : BufTy).Contents (Elt F)),
   binary main_arg1 main_v5 main_v6 (andi : (⟨S2x2048, .i1⟩ : BufTy).Contents (Elt F) → (⟨S2x2048, .i1⟩ : BufTy).Contents (Elt F) → (⟨S2x2048, .i1⟩ : BufTy).Contents (Elt F)),
   unary main_v6 main_v7 (uitofp .f32 : (⟨S2x2048, .i1⟩ : BufTy).Contents (Elt F) → (⟨S2x2048, .f32⟩ : BufTy).Contents (Elt F)),
   reshape main_v7 main_v8 (rfl : (.f32 : EltTy) = .f32) shapeCasts_S2x2048_S2x2048x1,
   nullary main_c (constantI S_ 32 0#32),
   nullary main_c_0 (constantI S_ 32 2047#32),
   TRef.unary (.of main_c : TRef sig ⟨S_, .i32⟩) (.of main_call0_v0 : TRef sig ⟨S_, .f32⟩) (sitofp .f32),
   TRef.unary (.of main_c_0 : TRef sig ⟨S_, .i32⟩) (.of main_call0_v1 : TRef sig ⟨S_, .f32⟩) (sitofp .f32),
   TRef.binary (.of main_call0_v1 : TRef sig ⟨S_, .f32⟩) (.of main_call0_v0 : TRef sig ⟨S_, .f32⟩) (.of main_call0_v2 : TRef sig ⟨S_, .f32⟩) subf,
   TRef.nullary (.of main_call0_cst : TRef sig ⟨S_, .f32⟩) (constant S_ .f32 0x42FE0000#32),
   TRef.binary (.of main_call0_v2 : TRef sig ⟨S_, .f32⟩) (.of main_call0_cst : TRef sig ⟨S_, .f32⟩) (.of main_call0_v3 : TRef sig ⟨S_, .f32⟩) Host.divf,
   TRef.nullary (.of main_call0_v4 : TRef sig ⟨S127, .f32⟩) (sitofp .f32 (iotaInDim S127 32 0)),
   TRef.nullary (.of main_call0_cst_0 : TRef sig ⟨S_, .f32⟩) (constant S_ .f32 0x42FE0000#32),
   TRef.unary (.of main_call0_cst_0 : TRef sig ⟨S_, .f32⟩) (.of main_call0_v5 : TRef sig ⟨S127, .f32⟩) (broadcastInDim S127 ![] bcast_S_S127),
   TRef.binary (.of main_call0_v4 : TRef sig ⟨S127, .f32⟩) (.of main_call0_v5 : TRef sig ⟨S127, .f32⟩) (.of main_call0_v6 : TRef sig ⟨S127, .f32⟩) Host.divf,
   TRef.reshape (.of main_call0_v0 : TRef sig ⟨S_, .f32⟩) (.of main_call0_v7 : TRef sig ⟨S1, .f32⟩) (rfl : (.f32 : EltTy) = .f32) shapeCasts_S_S1,
   TRef.nullary (.of main_call0_cst_1 : TRef sig ⟨S_, .f32⟩) (constant S_ .f32 0x3F800000#32),
   TRef.unary (.of main_call0_cst_1 : TRef sig ⟨S_, .f32⟩) (.of main_call0_v8 : TRef sig ⟨S127, .f32⟩) (broadcastInDim S127 ![] bcast_S_S127),
   TRef.binary (.of main_call0_v8 : TRef sig ⟨S127, .f32⟩) (.of main_call0_v6 : TRef sig ⟨S127, .f32⟩) (.of main_call0_v9 : TRef sig ⟨S127, .f32⟩) subf,
   TRef.unary (.of main_call0_v7 : TRef sig ⟨S1, .f32⟩) (.of main_call0_v10 : TRef sig ⟨S127, .f32⟩) (broadcastInDim S127 ![0] bcast_S1_S127_0),
   TRef.binary (.of main_call0_v10 : TRef sig ⟨S127, .f32⟩) (.of main_call0_v9 : TRef sig ⟨S127, .f32⟩) (.of main_call0_v11 : TRef sig ⟨S127, .f32⟩) mulf,
   TRef.reshape (.of main_call0_v1 : TRef sig ⟨S_, .f32⟩) (.of main_call0_v12 : TRef sig ⟨S1, .f32⟩) (rfl : (.f32 : EltTy) = .f32) shapeCasts_S_S1,
   TRef.unary (.of main_call0_v12 : TRef sig ⟨S1, .f32⟩) (.of main_call0_v13 : TRef sig ⟨S127, .f32⟩) (broadcastInDim S127 ![0] bcast_S1_S127_0),
   TRef.binary (.of main_call0_v13 : TRef sig ⟨S127, .f32⟩) (.of main_call0_v6 : TRef sig ⟨S127, .f32⟩) (.of main_call0_v14 : TRef sig ⟨S127, .f32⟩) mulf,
   TRef.binary (.of main_call0_v11 : TRef sig ⟨S127, .f32⟩) (.of main_call0_v14 : TRef sig ⟨S127, .f32⟩) (.of main_call0_v15 : TRef sig ⟨S127, .f32⟩) addf,
   TRef.unary (.of main_call0_v1 : TRef sig ⟨S_, .f32⟩) (.of main_call0_v16 : TRef sig ⟨S1, .f32⟩) (broadcastInDim S1 ![] bcast_S_S1),
   TRef.binary (.of main_call0_v15 : TRef sig ⟨S127, .f32⟩) (.of main_call0_v16 : TRef sig ⟨S1, .f32⟩) (.of main_v9 : TRef sig ⟨S128, .f32⟩) (fun a b => concatenate S128 0 [⟨S127, a⟩, ⟨S1, b⟩] concatenates_S127_S1_S128_d0),
   unary main_v9 main_v10 (fptosi 32 : (⟨S128, .f32⟩ : BufTy).Contents (Elt F) → (⟨S128, .i32⟩ : BufTy).Contents (Elt F)),
   nullary main_c_1 (constantI S_ 32 0#32),
   unary main_c_1 main_v11 (broadcastInDim S128 ![] bcast_S_S128 : (⟨S_, .i32⟩ : BufTy).Contents (Elt F) → (⟨S128, .i32⟩ : BufTy).Contents (Elt F)),
   binary main_v10 main_v11 main_v12 (cmpi .slt : (⟨S128, .i32⟩ : BufTy).Contents (Elt F) → (⟨S128, .i32⟩ : BufTy).Contents (Elt F) → (⟨S128, .i1⟩ : BufTy).Contents (Elt F)),
   nullary main_c_2 (constantI S_ 32 2048#32),
   unary main_c_2 main_v13 (broadcastInDim S128 ![] bcast_S_S128 : (⟨S_, .i32⟩ : BufTy).Contents (Elt F) → (⟨S128, .i32⟩ : BufTy).Contents (Elt F)),
   binary main_v10 main_v13 main_v14 (addi : (⟨S128, .i32⟩ : BufTy).Contents (Elt F) → (⟨S128, .i32⟩ : BufTy).Contents (Elt F) → (⟨S128, .i32⟩ : BufTy).Contents (Elt F)),
   ternary main_v12 main_v14 main_v10 main_v15 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
   unary main_v15 main_v16 (broadcastInDim S128x1 ![0] bcast_S128_S128x1_0 : (⟨S128, .i32⟩ : BufTy).Contents (Elt F) → (⟨S128x1, .i32⟩ : BufTy).Contents (Elt F)),
   binary main_arg0 main_v16 main_v17 ((fun x i => Host.gather gather_S2x2048x1024_S128x1_S2x128x1024_02_1_n_n_1_1_211024 x i) : (⟨S2x2048x1024, .f32⟩ : BufTy).Contents (Elt F) → (⟨S128x1, .i32⟩ : BufTy).Contents (Elt F) → (⟨S2x128x1024, .f32⟩ : BufTy).Contents (Elt F)),
   reshape main_arg3 main_v18 (rfl : (.f32 : EltTy) = .f32) shapeCasts_S1024x1024_S1024x16x64,
   unary main_v18 main_v19 ((transpose S16x1024x64 [1, 0, 2] · transposes_S1024x16x64_S16x1024x64_1_0_2) : (⟨S1024x16x64, .f32⟩ : BufTy).Contents (Elt F) → (⟨S16x1024x64, .f32⟩ : BufTy).Contents (Elt F)),
   reshape main_arg5 main_v20 (rfl : (.f32 : EltTy) = .f32) shapeCasts_S1024x1024_S1024x16x64,
   unary main_v20 main_v21 ((transpose S16x1024x64 [1, 0, 2] · transposes_S1024x16x64_S16x1024x64_1_0_2) : (⟨S1024x16x64, .f32⟩ : BufTy).Contents (Elt F) → (⟨S16x1024x64, .f32⟩ : BufTy).Contents (Elt F)),
   reshape main_arg7 main_v22 (rfl : (.f32 : EltTy) = .f32) shapeCasts_S1024x1024_S1024x16x64,
   unary main_v22 main_v23 ((transpose S16x1024x64 [1, 0, 2] · transposes_S1024x16x64_S16x1024x64_1_0_2) : (⟨S1024x16x64, .f32⟩ : BufTy).Contents (Elt F) → (⟨S16x1024x64, .f32⟩ : BufTy).Contents (Elt F)),
   nary ![main_v19, main_v21, main_v23] main_v24 (fun u => (concatenate S16x1024x192 2 [⟨S16x1024x64, (u 0 : (⟨S16x1024x64, .f32⟩ : BufTy).Contents (Elt F))⟩, ⟨S16x1024x64, (u 1 : (⟨S16x1024x64, .f32⟩ : BufTy).Contents (Elt F))⟩, ⟨S16x1024x64, (u 2 : (⟨S16x1024x64, .f32⟩ : BufTy).Contents (Elt F))⟩] concatenates_S16x1024x64_S16x1024x64_S16x1024x64_S16x1024x192_d2 : (⟨S16x1024x192, .f32⟩ : BufTy).Contents (Elt F))),
   reshape main_arg4 main_v25 (rfl : (.f32 : EltTy) = .f32) shapeCasts_S1024_S16x1x64,
   reshape main_arg6 main_v26 (rfl : (.f32 : EltTy) = .f32) shapeCasts_S1024_S16x1x64,
   reshape main_arg8 main_v27 (rfl : (.f32 : EltTy) = .f32) shapeCasts_S1024_S16x1x64,
   nary ![main_v25, main_v26, main_v27] main_v28 (fun u => (concatenate S16x1x192 2 [⟨S16x1x64, (u 0 : (⟨S16x1x64, .f32⟩ : BufTy).Contents (Elt F))⟩, ⟨S16x1x64, (u 1 : (⟨S16x1x64, .f32⟩ : BufTy).Contents (Elt F))⟩, ⟨S16x1x64, (u 2 : (⟨S16x1x64, .f32⟩ : BufTy).Contents (Elt F))⟩] concatenates_S16x1x64_S16x1x64_S16x1x64_S16x1x192_d2 : (⟨S16x1x192, .f32⟩ : BufTy).Contents (Elt F))),
   reshape main_arg9 main_v29 (rfl : (.f32 : EltTy) = .f32) shapeCasts_S1024x1024_S16x64x1024,
   nullary main_c_3 (constantI S_ 32 0#32),
   TRef.unary (.of main_c_3 : TRef sig ⟨S_, .i32⟩) (.of main_call1_v0 : TRef sig ⟨S_, .f32⟩) (sitofp .f32),
   TRef.binary (.of main_v29 : TRef sig ⟨S16x64x1024, .f32⟩) (.of main_call1_v0 : TRef sig ⟨S_, .f32⟩) (.of main_v30 : TRef sig ⟨S16x128x1024, .f32⟩)
     (fun x v => pad S16x128x1024 ![0, 0, 0] ![0, 64, 0] ![0, 0, 0] x v pads_S16x64x1024_S16x128x1024_000_0640_000 h_S_),
   reshape main_v30 main_v31 (rfl : (.f32 : EltTy) = .f32) shapeCasts_S16x128x1024_S2048x1024]

/-- The table and the numbers. -/
def tab : List (HloOp τ sig (Elt F)) :=
  [reshape main_v32_0 main_v33 (rfl : (.f32 : EltTy) = .f32) shapeCasts_S2x16x128x128_S4096x128,
   reshape main_v32_1 main_v34 (rfl : (.i32 : EltTy) = .i32) shapeCasts_S2x16x1x2048_S2x16x2048,
   unary main_v34 main_v35 ((transpose S2x2048x16 [0, 2, 1] · transposes_S2x16x2048_S2x2048x16_0_2_1) : (⟨S2x16x2048, .i32⟩ : BufTy).Contents (Elt F) → (⟨S2x2048x16, .i32⟩ : BufTy).Contents (Elt F)),
   reshape main_v35 main_v36 (rfl : (.i32 : EltTy) = .i32) shapeCasts_S2x2048x16_S1x65536]

/-- The gathered rows regrouped and the bias as a row. -/
def mid : List (HloOp τ sig (Elt F)) :=
  [reshape main_v37 main_v38 (rfl : (.f32 : EltTy) = .f32) shapeCasts_S65536x128_S2x2048x2048,
   reshape main_arg10 main_v39 (rfl : (.f32 : EltTy) = .f32) shapeCasts_S1024_S1x1024]

set_option maxRecDepth 16384 in
set_option maxHeartbeats 4000000 in
/-- @main is the first line, the attention, the second line, the gather, the third line, the projection. -/
theorem main_eq (d : Dev nD) : main (F := F) d
    = (seq pre >>= fun _ => Prog.lift (.customCall (SparseCore.inner (Pipeline.entry 0)) ()) >>= fun _ => seq tab >>= fun _ =>
        (sc (F := F)).run d 0 >>= fun _ => seq mid >>= fun _ => Prog.lift (.customCall (SparseCore.inner (Pipeline.entry 1)) ())) := rfl

theorem pre_fresh : ∀ op ∈ pre (F := F), op.fresh = ∅ := by
  unfold pre; intro _ h; (repeat (cases h with | head => rfl | tail _ h => ?_)); exact nomatch h
theorem tab_fresh : ∀ op ∈ tab (F := F), op.fresh = ∅ := by
  unfold tab; intro _ h; (repeat (cases h with | head => rfl | tail _ h => ?_)); exact nomatch h
theorem mid_fresh : ∀ op ∈ mid (F := F), op.fresh = ∅ := by
  unfold mid; intro _ h; (repeat (cases h with | head => rfl | tail _ h => ?_)); exact nomatch h

theorem pre_bufs : ∀ op ∈ pre (F := F), op.bufs ⊆ Pipeline.ucRefs τ sig := by
  refine List.forall_iff_forall_mem.1 (show (pre (F := F)).Forall _ from ?_)
  unfold pre
  exact ⟨
    Pipeline.sub_ucRefs _ (nullary_bufs_sub ..), Pipeline.sub_ucRefs _ (unary_bufs_sub ..), Pipeline.sub_ucRefs _ (unary_bufs_sub ..), Pipeline.sub_ucRefs _ (unary_bufs_sub ..),
    Pipeline.sub_ucRefs _ (unary_bufs_sub ..), Pipeline.sub_ucRefs _ (binary_bufs_sub ..), Pipeline.sub_ucRefs _ (binary_bufs_sub ..), Pipeline.sub_ucRefs _ (unary_bufs_sub ..),
    Pipeline.sub_ucRefs _ (reshape_bufs_sub ..), Pipeline.sub_ucRefs _ (nullary_bufs_sub ..), Pipeline.sub_ucRefs _ (nullary_bufs_sub ..), Pipeline.sub_ucRefs _ (unary_bufs_sub ..),
    Pipeline.sub_ucRefs _ (unary_bufs_sub ..), Pipeline.sub_ucRefs _ (binary_bufs_sub ..), Pipeline.sub_ucRefs _ (nullary_bufs_sub ..), Pipeline.sub_ucRefs _ (binary_bufs_sub ..),
    Pipeline.sub_ucRefs _ (nullary_bufs_sub ..), Pipeline.sub_ucRefs _ (nullary_bufs_sub ..), Pipeline.sub_ucRefs _ (unary_bufs_sub ..), Pipeline.sub_ucRefs _ (binary_bufs_sub ..),
    Pipeline.sub_ucRefs _ (reshape_bufs_sub ..), Pipeline.sub_ucRefs _ (nullary_bufs_sub ..), Pipeline.sub_ucRefs _ (unary_bufs_sub ..), Pipeline.sub_ucRefs _ (binary_bufs_sub ..),
    Pipeline.sub_ucRefs _ (unary_bufs_sub ..), Pipeline.sub_ucRefs _ (binary_bufs_sub ..), Pipeline.sub_ucRefs _ (reshape_bufs_sub ..), Pipeline.sub_ucRefs _ (unary_bufs_sub ..),
    Pipeline.sub_ucRefs _ (binary_bufs_sub ..), Pipeline.sub_ucRefs _ (binary_bufs_sub ..), Pipeline.sub_ucRefs _ (unary_bufs_sub ..), Pipeline.sub_ucRefs _ (binary_bufs_sub ..),
    Pipeline.sub_ucRefs _ (unary_bufs_sub ..), Pipeline.sub_ucRefs _ (nullary_bufs_sub ..), Pipeline.sub_ucRefs _ (unary_bufs_sub ..), Pipeline.sub_ucRefs _ (binary_bufs_sub ..),
    Pipeline.sub_ucRefs _ (nullary_bufs_sub ..), Pipeline.sub_ucRefs _ (unary_bufs_sub ..), Pipeline.sub_ucRefs _ (binary_bufs_sub ..), Pipeline.sub_ucRefs _ (ternary_bufs_sub ..),
    Pipeline.sub_ucRefs _ (unary_bufs_sub ..), Pipeline.sub_ucRefs _ (binary_bufs_sub ..), Pipeline.sub_ucRefs _ (reshape_bufs_sub ..), Pipeline.sub_ucRefs _ (unary_bufs_sub ..),
    Pipeline.sub_ucRefs _ (reshape_bufs_sub ..), Pipeline.sub_ucRefs _ (unary_bufs_sub ..), Pipeline.sub_ucRefs _ (reshape_bufs_sub ..), Pipeline.sub_ucRefs _ (unary_bufs_sub ..),
    Pipeline.sub_ucRefs _ (nary_bufs_sub ..), Pipeline.sub_ucRefs _ (reshape_bufs_sub ..), Pipeline.sub_ucRefs _ (reshape_bufs_sub ..), Pipeline.sub_ucRefs _ (reshape_bufs_sub ..),
    Pipeline.sub_ucRefs _ (nary_bufs_sub ..), Pipeline.sub_ucRefs _ (reshape_bufs_sub ..), Pipeline.sub_ucRefs _ (nullary_bufs_sub ..), Pipeline.sub_ucRefs _ (unary_bufs_sub ..),
    Pipeline.sub_ucRefs _ (binary_bufs_sub ..), Pipeline.sub_ucRefs _ (reshape_bufs_sub ..)⟩
theorem tab_bufs : ∀ op ∈ tab (F := F), op.bufs ⊆ Pipeline.ucRefs τ sig := by
  refine List.forall_iff_forall_mem.1 (show (tab (F := F)).Forall _ from ?_)
  unfold tab
  exact ⟨
    Pipeline.sub_ucRefs _ (reshape_bufs_sub ..), Pipeline.sub_ucRefs _ (reshape_bufs_sub ..), Pipeline.sub_ucRefs _ (unary_bufs_sub ..), Pipeline.sub_ucRefs _ (reshape_bufs_sub ..)⟩
theorem mid_bufs : ∀ op ∈ mid (F := F), op.bufs ⊆ Pipeline.ucRefs τ sig := by
  refine List.forall_iff_forall_mem.1 (show (mid (F := F)).Forall _ from ?_)
  unfold mid
  exact ⟨
    Pipeline.sub_ucRefs _ (reshape_bufs_sub ..), Pipeline.sub_ucRefs _ (reshape_bufs_sub ..)⟩

/-! ## The contents -/

/-- What the launch's ghost state is: the handshakes' rounds, the two calls' rounds, the copies' counters. -/
abbrev UU : Type := URounds (GSem nD τ sig) ℕ × (URounds (GSem nD τ sig) Unit × Counters)

abbrev K : SparseCore.Cfg τ sig (Pipeline.Sig Λ₀ (Fin 2) fun p => (pcfgs (F := F) p).Adm) 1 := sc (F := F)

/-- What the thread's waits may have recorded before call `n` of the SparseCore's. -/
def Bd (n : ℕ) (d : Dev nD) : Set (SemLoc sig × HIx 1) := {p | (K (F := F)).lev (SparseCore.T d, p.1) p.2 ≤ 8 * SparseCore.Cfg.Blocks.fst (Q := 1) (N := 1) n}

/-- What it owes then. -/
def Ow (n : ℕ) (d : Dev nD) : CellTallies nD τ sig (HIx 1) := (K (F := F)).Otc d n

variable (m : (ℓ : Loc nD τ sig) → Buf (Elt F) ℓ)

/-- The buffers when the attention is entered, -/
def V₁ (d : Dev nD) : Valuation τ sig (Elt F) := after pre (launchContents m d)
/-- when it is done, -/
def V₂ (d : Dev nD) : Valuation τ sig (Elt F) := WholeCalls.VA (U := UU) (V₁ m) (Bd (F := F) 0) (Ow (F := F) 0) d
/-- and when the gather is started; -/
def V₃ (d : Dev nD) : Valuation τ sig (Elt F) := after tab (V₂ m d)
/-- the table and the numbers it is given; -/
def Tb (d : Dev nD) : S4096x128.Idx → Elt F .f32 := V₃ m d (Proc.devRef .tc main_v33)
def Xs (d : Dev nD) : S1x65536.Idx → Elt F .i32 := V₃ m d (Proc.devRef .tc main_v36)
/-- the buffers when it is done, -/
def V₄ (d : Dev nD) : Valuation τ sig (Elt F) :=
  Function.update (V₃ m d) (Proc.devRef .tc main_v37) (WholeGather.G (Tb m d) (Xs m d))
/-- when the projection is entered, -/
def V₅ (d : Dev nD) : Valuation τ sig (Elt F) := after mid (V₄ m d)
/-- and when the program ends. -/
def V₆ (d : Dev nD) : Valuation τ sig (Elt F) := WholeCalls.VP (U := UU) (V₅ m) (Bd (F := F) 1) (Ow (F := F) 1) d

theorem V₄_other (d : Dev nD) (b : DevRef τ sig) (h : b ≠ Proc.devRef .tc main_v37) : V₄ m d b = V₃ m d b := Function.update_of_ne h _ _
theorem V₄_rows (d : Dev nD) : V₄ m d (Proc.devRef .tc main_v37) = WholeGather.G (Tb m d) (Xs m d) := Function.update_self _ _ _

/-- What the three lines write. -/
def preW : List (Ref sig .tc) := [main_v0, main_v1, main_v2, main_v3, main_v4, main_v5, main_v6, main_v7, main_v8, main_c, main_c_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v9, main_v10, main_c_1, main_v11, main_v12, main_c_2, main_v13, main_v14, main_v15, main_v16, main_v17, main_v18, main_v19, main_v20, main_v21, main_v22, main_v23, main_v24, main_v25, main_v26, main_v27, main_v28, main_v29, main_c_3, main_call1_v0, main_v30, main_v31]
def tabW : List (Ref sig .tc) := [main_v33, main_v34, main_v35, main_v36]
def midW : List (Ref sig .tc) := [main_v38, main_v39]

theorem V₁_unwritten (d : Dev nD) (r : Ref sig .tc) (h : r ∉ preW) : V₁ m d (Proc.devRef .tc r) = m (d, Proc.devRef .tc r) :=
  after_of_writes_sub (W := preW) _ _ (forall_writes_sub_of_map rfl) h
theorem V₂_unwritten (d : Dev nD) (r : Ref sig .tc) (h : r ≠ main_v32_0) (h' : r ≠ main_v32_1) : V₂ m d (Proc.devRef .tc r) = V₁ m d (Proc.devRef .tc r) :=
  WholeCalls.VA_other _ _ _ d _ (fun e => h (Proc.devRef_injective _ e)) (fun e => h' (Proc.devRef_injective _ e))
theorem V₃_unwritten (d : Dev nD) (r : Ref sig .tc) (h : r ∉ tabW) : V₃ m d (Proc.devRef .tc r) = V₂ m d (Proc.devRef .tc r) :=
  after_of_writes_sub (W := tabW) _ _ (forall_writes_sub_of_map rfl) h
theorem V₅_unwritten (d : Dev nD) (r : Ref sig .tc) (h : r ∉ midW) : V₅ m d (Proc.devRef .tc r) = V₄ m d (Proc.devRef .tc r) :=
  after_of_writes_sub (W := midW) _ _ (forall_writes_sub_of_map rfl) h

/-- A buffer no line and no call writes ends as it was. -/
theorem V₆_unwritten (d : Dev nD) (r : Ref sig .tc) (h₁ : r ∉ preW) (h₂ : r ≠ main_v32_0) (h₃ : r ≠ main_v32_1) (h₄ : r ∉ tabW) (h₅ : r ≠ main_v37) (h₆ : r ∉ midW)
    (h₇ : r ≠ main_v40) : V₆ m d (Proc.devRef .tc r) = m (d, Proc.devRef .tc r) := by
  unfold V₆
  rw [WholeCalls.VP_other _ _ _ d _ (fun e => h₇ (Proc.devRef_injective _ e)), V₅_unwritten m d r h₆,
    V₄_other m d _ (fun e => h₅ (Proc.devRef_injective _ e)), V₃_unwritten m d r h₄, V₂_unwritten m d r h₂ h₃, V₁_unwritten m d r h₁]

/-! ## What the attention is given -/

section Entry

variable (c : Dev nD)

/-- The mask as a column. -/
theorem V₁_mask : V₁ m c (Proc.devRef .tc main_v8)
    = shapeCast S2x2048x1 (uitofp .f32 (andi (m (c, Proc.devRef .tc main_arg1)) (cmpi .slt
        (broadcastInDim S2x2048 ![0, 1] bcast_S1x2048_S2x2048_0_1 (broadcastInDim S1x2048 ![1] bcast_S2048_S1x2048_1 (iotaInDim S2048 32 0)))
        (broadcastInDim S2x2048 ![0, 1] bcast_S2x1_S2x2048_0_1 (broadcastInDim S2x1 ![0] bcast_S2_S2x1_0 (m (c, Proc.devRef .tc main_arg2))))))) shapeCasts_S2x2048_S2x2048x1 := by
  unfold V₁
  simp only [pre, TRef.binary, TRef.nullary, TRef.ternary, TRef.unary, TRef.reshape, TRef.toBuf, TRef.ofBuf, cast_eq]
  after_results_simp <;> rfl

/-- The starting rows. -/
theorem V₁_rows : V₁ m c (Proc.devRef .tc main_v17) = Host.gather gather_S2x2048x1024_S128x1_S2x128x1024_02_1_n_n_1_1_211024 (m (c, Proc.devRef .tc main_arg0)) (Attend.seats (F := F)) := by
  unfold V₁
  simp only [pre, TRef.binary, TRef.nullary, TRef.ternary, TRef.unary, TRef.reshape, TRef.toBuf, TRef.ofBuf, cast_eq]
  after_results_simp <;> rfl

/-- The three weights side by side for each head, -/
theorem V₁_weights : V₁ m c (Proc.devRef .tc main_v24) = concatenate S16x1024x192 2
    [⟨S16x1024x64, transpose S16x1024x64 [1, 0, 2] (shapeCast S1024x16x64 (m (c, Proc.devRef .tc main_arg3)) shapeCasts_S1024x1024_S1024x16x64) transposes_S1024x16x64_S16x1024x64_1_0_2⟩,
     ⟨S16x1024x64, transpose S16x1024x64 [1, 0, 2] (shapeCast S1024x16x64 (m (c, Proc.devRef .tc main_arg5)) shapeCasts_S1024x1024_S1024x16x64) transposes_S1024x16x64_S16x1024x64_1_0_2⟩,
     ⟨S16x1024x64, transpose S16x1024x64 [1, 0, 2] (shapeCast S1024x16x64 (m (c, Proc.devRef .tc main_arg7)) shapeCasts_S1024x1024_S1024x16x64) transposes_S1024x16x64_S16x1024x64_1_0_2⟩]
    concatenates_S16x1024x64_S16x1024x64_S16x1024x64_S16x1024x192_d2 := by
  unfold V₁
  simp only [pre, TRef.binary, TRef.nullary, TRef.ternary, TRef.unary, TRef.reshape, TRef.toBuf, TRef.ofBuf, cast_eq]
  after_results_simp <;> rfl

/-- and the three biases. -/
theorem V₁_biases : V₁ m c (Proc.devRef .tc main_v28) = concatenate S16x1x192 2
    [⟨S16x1x64, shapeCast S16x1x64 (m (c, Proc.devRef .tc main_arg4)) shapeCasts_S1024_S16x1x64⟩,
     ⟨S16x1x64, shapeCast S16x1x64 (m (c, Proc.devRef .tc main_arg6)) shapeCasts_S1024_S16x1x64⟩,
     ⟨S16x1x64, shapeCast S16x1x64 (m (c, Proc.devRef .tc main_arg8)) shapeCasts_S1024_S16x1x64⟩]
    concatenates_S16x1x64_S16x1x64_S16x1x64_S16x1x192_d2 := by
  unfold V₁
  simp only [pre, TRef.binary, TRef.nullary, TRef.ternary, TRef.unary, TRef.reshape, TRef.toBuf, TRef.ofBuf, cast_eq]
  after_results_simp <;> rfl

end Entry

/-! ## What the other two are given -/

/-- The projection's weights: each group of 64 rows followed by 64 rows of zero. -/
theorem V₁_padded (d : Dev nD) : V₁ m d (Proc.devRef .tc main_v31)
    = shapeCast S2048x1024 (pad S16x128x1024 ![0, 0, 0] ![0, 64, 0] ![0, 0, 0]
        (shapeCast S16x64x1024 (m (d, Proc.devRef .tc main_arg9)) shapeCasts_S1024x1024_S16x64x1024) (sitofp .f32 (constantI S_ 32 0#32))
        pads_S16x64x1024_S16x128x1024_000_0640_000 h_S_) shapeCasts_S16x128x1024_S2048x1024 := by
  unfold V₁
  simp only [pre, TRef.binary, TRef.nullary, TRef.ternary, TRef.unary, TRef.reshape, TRef.toBuf, TRef.ofBuf, cast_eq]
  after_results_simp <;> rfl

theorem Tb_eq (d : Dev nD) : Tb m d = shapeCast S4096x128 ((WholeAttn.dat (U := UU) (V₁ m) (Bd (F := F) 0) (Ow (F := F) 0) d).arrAt 5 cfg0.N) shapeCasts_S2x16x128x128_S4096x128 := by
  rw [← WholeCalls.VA_out5 (U := UU) (V₁ m) (Bd (F := F) 0) (Ow (F := F) 0) d]
  show _ = shapeCast S4096x128 (V₂ m d (Proc.devRef .tc main_v32_0)) shapeCasts_S2x16x128x128_S4096x128
  unfold Tb V₃
  simp only [tab, TRef.binary, TRef.nullary, TRef.ternary, TRef.unary, TRef.toBuf, TRef.ofBuf, cast_eq]
  after_results_simp <;> rfl

theorem Xs_eq (d : Dev nD) : Xs m d = shapeCast S1x65536 (transpose S2x2048x16 [0, 2, 1]
    (shapeCast S2x16x2048 ((WholeAttn.dat (U := UU) (V₁ m) (Bd (F := F) 0) (Ow (F := F) 0) d).arrAt 6 cfg0.N) shapeCasts_S2x16x1x2048_S2x16x2048)
      transposes_S2x16x2048_S2x2048x16_0_2_1) shapeCasts_S2x2048x16_S1x65536 := by
  rw [← WholeCalls.VA_out6 (U := UU) (V₁ m) (Bd (F := F) 0) (Ow (F := F) 0) d]
  show _ = shapeCast S1x65536 (transpose S2x2048x16 [0, 2, 1]
    (shapeCast S2x16x2048 (V₂ m d (Proc.devRef .tc main_v32_1)) shapeCasts_S2x16x1x2048_S2x16x2048) transposes_S2x16x2048_S2x2048x16_0_2_1) shapeCasts_S2x2048x16_S1x65536
  unfold Xs V₃
  simp only [tab, TRef.binary, TRef.nullary, TRef.ternary, TRef.unary, TRef.toBuf, TRef.ofBuf, cast_eq]
  after_results_simp <;> rfl

/-- The gathered rows as the projection reads them: sixteen rows of 128 side by side for each place. -/
theorem V₅_rows (d : Dev nD) : V₅ m d (Proc.devRef .tc main_v38)
    = shapeCast S2x2048x2048 (WholeGather.G (Tb m d) (Xs m d)) shapeCasts_S65536x128_S2x2048x2048 := by
  rw [← V₄_rows m d]
  unfold V₅
  simp only [mid, TRef.binary, TRef.nullary, TRef.ternary, TRef.unary, TRef.toBuf, TRef.ofBuf, cast_eq]
  after_results_simp <;> rfl

/-- A buffer written before the attention only is as it was then. -/
theorem V₄_early (d : Dev nD) (r : Ref sig .tc) (h₂ : r ≠ main_v32_0) (h₃ : r ≠ main_v32_1) (h₄ : r ∉ tabW) (h₅ : r ≠ main_v37) :
    V₄ m d (Proc.devRef .tc r) = V₁ m d (Proc.devRef .tc r) := by
  rw [V₄_other m d _ (fun e => h₅ (Proc.devRef_injective _ e)), V₃_unwritten m d r h₄, V₂_unwritten m d r h₂ h₃]

theorem V₅_bias (d : Dev nD) : V₅ m d (Proc.devRef .tc main_v39)
    = shapeCast S1x1024 (m (d, Proc.devRef .tc main_arg10)) shapeCasts_S1024_S1x1024 := by
  rw [← V₁_unwritten m d main_arg10 (by decide), ← V₄_early m d main_arg10 (by decide) (by decide) (by decide) (by decide)]
  unfold V₅
  simp only [mid, TRef.binary, TRef.nullary, TRef.ternary, TRef.unary, TRef.toBuf, TRef.ofBuf, cast_eq]
  after_results_simp <;> rfl

theorem V₅_mask (d : Dev nD) : V₅ m d (Proc.devRef .tc main_v8) = V₁ m d (Proc.devRef .tc main_v8) :=
  (V₅_unwritten m d main_v8 (by decide)).trans (V₄_early m d main_v8 (by decide) (by decide) (by decide) (by decide))
theorem V₅_weights (d : Dev nD) : V₅ m d (Proc.devRef .tc main_v31) = V₁ m d (Proc.devRef .tc main_v31) :=
  (V₅_unwritten m d main_v31 (by decide)).trans (V₄_early m d main_v31 (by decide) (by decide) (by decide) (by decide))

end Cert.Proof.WholeHost

end
-- ==== Proof.WholeRun.lean ====
/-
  The run of the whole program: the host's first line, then the attention, then the host's second line and the gather, which hands
  each of its 32 tiles a share of the table, its eight blocks of the numbers and its eight blocks of the output, and gets them back
  with the output at the rows the numbers name, then the host's third line and the projection. It ends with the arguments
  unchanged, the result's array as the projection leaves it and every semaphore back at zero.
-/
module

public import proofs.«01_k».proof.Defs
public import proofs.«01_k».proof.Proof.WholeHost
public import Idealize.ShloMosaic.Lib.StableHlo.Run
public import Idealize.ShloMosaic.Lib.Pipeline.Kit

@[expose] public section

noncomputable section

namespace Cert.Proof.WholeGather

open Cert.WholeIdeal Cert.WholeIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The projection's staging cells keep their rounds in the middle factor. -/
def EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

variable (m : (ℓ : Loc nD τ sig) → Buf (Elt F) ℓ) (ρ : Dev nD → PrngReg)

open Cert.Proof.WholeHost (Tb Xs V₁ V₂ V₃ V₄ V₅ V₆)

/-- Every number names a row of the table. -/
def InRows : Prop := ∀ (d : Dev nD) (i : S1x65536.Idx), (Xs m d i).toNat < 4096

/-! ## What the handshakes carry -/

/-- A tile's part before its task: its blocks of the output at some contents. -/
abbrev before (d : Dev nD) (L : grid1.Coords) : sProp 𝕄 :=
  Brought d (Tb m d) (Xs m d) (fun n => iprop(∃ f, oLoc d ↦[(oBlk n).view.set]{fullShare} f)) L
/-- And after it: its blocks of the output at the rows its numbers name. -/
abbrev after (d : Dev nD) (L : grid1.Coords) : sProp 𝕄 :=
  Brought d (Tb m d) (Xs m d) (fun n => oLoc d ↦[(oBlk n).view.set]{fullShare} G (Tb m d) (Xs m d)) L

def P : (K (F := F)).Pay (nD := nD) (Val := Elt F) (Name := ℕ) (U := UU) where
  st := fun q d c => match q with | 0 => bigSep Finset.univ fun i : Fin 16 => before m d (at_ c i)
  dn := fun q d c => match q with | 0 => bigSep Finset.univ fun i : Fin 16 => after m d (at_ c i)
  go := fun q d c i => match q with | 0 => before m d (at_ c i)
  td := fun q d c i => match q with | 0 => after m d (at_ c i)
  x := fun _ _ => iprop(emp)

instance before_storable (d : Dev nD) (L : grid1.Coords) : BI.Storable (upEmb : UEmb _ 𝕄) (before m d L) := by
  unfold before Brought; infer_instance
instance after_storable (d : Dev nD) (L : grid1.Coords) : BI.Storable (upEmb : UEmb _ 𝕄) (after m d L) := by
  unfold after Brought; infer_instance

instance P_storable : (P (F := F) m).IsStorable where
  st q d c := match q with | 0 => (inferInstance : BI.Storable (upEmb : UEmb _ 𝕄) (bigSep Finset.univ fun i : Fin 16 => before m d (at_ c i)))
  dn q d c := match q with | 0 => (inferInstance : BI.Storable (upEmb : UEmb _ 𝕄) (bigSep Finset.univ fun i : Fin 16 => after m d (at_ c i)))
  go q d c i := match q with | 0 => (inferInstance : BI.Storable (upEmb : UEmb _ 𝕄) (before m d (at_ c i)))
  td q d c i := match q with | 0 => (inferInstance : BI.Storable (upEmb : UEmb _ 𝕄) (after m d (at_ c i)))

/-! ## The task -/

section Tile

variable (d : Dev nD) (L : grid1.Coords)

theorem tile_body (hF : (K (F := F)).Facts) (hpre : InRows m) (O : CellTallies nD τ sig (HIx 1)) (W : Waits sig (HIx 1)) (hO : ∀ g, O g none = 0) :
    iprop(levAts (K (F := F)).L (K (F := F)).lev ∗ emp ∗ before m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            sI (Memref.isWhole_whole _) cc1_scoped1 sO (Memref.isWhole_whole _) cc1_scoped3 cc1_scoped4)
          fun _ => iprop(after m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold before after Brought
  iintro ⟨#Hlv, -, ⟨Ht, Hi, Ho⟩, ⟨HsI, HsO, Hbufs⟩, ⟨⟨Hz0, Hz1, Hz2, Hz3, Hz4⟩, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave HsI' := (banksI d (cV L) (jV L)).1 $$ HsI
  icases HsI' with ⟨HI0, HI1⟩
  ihave HsO' := (banksO d (cV L) (jV L)).1 $$ HsO
  icases HsO' with ⟨HO0, HO1⟩
  iapply (wp_wand frame) $$ [Hmw Ht Hi Ho HI0 HI1 HO0 HO1 Hz0 Hz1 Hz2 Hz3 Hz4 HO]
  · iapply (tile (countersEmb (Ix := HIx 1)) d L (Tb m d) (Xs m d) (sh (num L)) (O := O) (W := W) (hpre d)) $$ [Hmw Ht Hi Ho HI0 HI1 HO0 HO1 Hz0 Hz1 Hz2 Hz3 Hz4 HO]
    isplitl [Hmw]; · iexact Hmw
    isplitl [HO]
    · unfold Ow
      iexists W; isplitr
      · ipureintro; exact fun p hp => .inl hp
      iexact HO
    unfold Held freeI freeO
    isplitl [Hz0 HI0]
    · isplitl [Hz0]; · iexact Hz0
      iexact HI0
    isplitl [Hz1 HI1]
    · isplitl [Hz1]; · iexact Hz1
      iexact HI1
    isplitl [Hz2 HO0]
    · isplitl [Hz2]; · iexact Hz2
      iexact HO0
    isplitl [Hz3 HO1]
    · isplitl [Hz3]; · iexact Hz3
      iexact HO1
    isplitl [Hz4]; · iexact Hz4
    isplitl [Ht]; · iexact Ht
    isplitl [Hi]; · iexact Hi
    iexact Ho
  iintro %_ ⟨HO, HH⟩
  unfold Held freeI freeO Ow
  icases HH with ⟨⟨Hz0, HI0⟩, ⟨Hz1, HI1⟩, ⟨Hz2, HO0⟩, ⟨Hz3, HO1⟩, Hz4, Ht, Hi, Ho⟩
  isplitl [Ht Hi Ho]
  · isplitl [Ht]; · iexact Ht
    isplitl [Hi]; · iexact Hi
    iexact Ho
  isplitl [HI0 HI1 HO0 HO1 Hbufs]
  · isplitl [HI0 HI1]
    · iapply (banksI d (cV L) (jV L)).2
      isplitl [HI0]; · iexact HI0
      iexact HI1
    isplitl [HO0 HO1]
    · iapply (banksO d (cV L) (jV L)).2
      isplitl [HO0]; · iexact HO0
      iexact HO1
    iexact Hbufs
  isplitl [Hz0 Hz1 Hz2 Hz3 Hz4 Hsems]
  · isplitr [Hsems]
    · isplitl [Hz0]; · iexact Hz0
      isplitl [Hz1]; · iexact Hz1
      isplitl [Hz2]; · iexact Hz2
      isplitl [Hz3]; · iexact Hz3
      iexact Hz4
    iexact Hsems
  iexact HO

theorem defs₀_vector (c : Fin τ.nSC) (s : Fin τ.nSub) :
    defs₀ (F := F) (.scVector c s) 1 ()
      = SparseCore.onTile hcore1 hsub1 (fun c s => cc1_gather_kernel (at_ c s)
          tV (Memref.isWhole_whole _) iV (Memref.isWhole_whole _) oV (Memref.isWhole_whole _)
          sI (Memref.isWhole_whole _) cc1_scoped1 sO (Memref.isWhole_whole _) cc1_scoped3 cc1_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (at_ ⟨_, hci.1⟩ ⟨_, hci.2⟩) hF hpre O W hO).trans (wp_mono frame _ _ fun _ => obl_post)

end Tile

theorem vecSplit : (K (F := F)).VecSplit' (P m) 0 := by
  intro d c
  show iprop(bigSep Finset.univ fun i : Fin 16 => before m d (at_ c i)) ⊢ |={Set.univ}=> iprop((bigSep Finset.univ fun i : Fin 16 => before m d (at_ c i))
      ∗ ((bigSep Finset.univ fun i : Fin 16 => after m d (at_ c i)) -∗ bigSep Finset.univ fun i : Fin 16 => after m d (at_ c i)))
  iintro H; imodintro
  isplitl [H]; · iexact H
  iintro H; iexact H

/-! ## The launch element -/

def u₀ : UU := (initOf (K (F := F)).hsCells (K (F := F)).hsToks,
  (initOf (Pipeline.cells (Pipeline.pin (pcfgs (F := F)) WholeCalls.adm) cellOf_inj) (Pipeline.launchToks (Pipeline.pin (pcfgs (F := F)) WholeCalls.adm) cellOf_inj), 1))

theorem bigSep_emp' {I : Type} (s : Finset I) : (bigSep s fun _ => iprop(emp)) = (iprop(emp) : sProp 𝕄) := bigSep_emp_const s

local notation "pn" => Pipeline.pin (pcfgs (F := F)) WholeCalls.adm

/-- What the launch deals a device for the cells of one of the two calls of the TensorCore. -/
abbrev Gp (p : Fin 2) (d : Dev nD) : sProp 𝕄 := iprop(Pipeline.cellsGhost pn EP p d ∗ Pipeline.toksInit pn EP p d)
/-- And of both. -/
abbrev Gh (d : Dev nD) : sProp 𝕄 := iprop((bigSep Finset.univ fun p : Fin 2 => Pipeline.cellsGhost pn EP p d) ∗ bigSep Finset.univ fun p : Fin 2 => Pipeline.toksInit pn EP p d)

theorem both (f : Fin 2 → sProp 𝕄) : bigSep Finset.univ f = iprop(f 0 ∗ f 1) := by
  rw [show (Finset.univ : Finset (Fin 2)) = {0, 1} from rfl, SparseCore.bigSep_insert' (by decide), bigSep_singleton]

theorem Gh_eq (d : Dev nD) : Gh (F := F) d ⊢ iprop(Gp (F := F) 0 d ∗ Gp (F := F) 1 d) := by
  unfold Gh Gp
  rw [both, both]
  iintro ⟨⟨Ha, Hb⟩, Hc, Hd⟩
  isplitl [Ha Hc]
  · isplitl [Ha]; · iexact Ha
    iexact Hc
  isplitl [Hb]; · iexact Hb
  iexact Hd

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) WholeCalls.adm) cellOf_inj) (Pipeline.launchToks (Pipeline.pin (pcfgs (F := F)) WholeCalls.adm) cellOf_inj), 1) : UP × Counters)) $$ Hu
  icases H with ⟨HH, HR⟩
  ihave H := (own_pair_emb (embR : Emb (UP × Counters) 𝕄)
    (initOf (Pipeline.cells (Pipeline.pin (pcfgs (F := F)) WholeCalls.adm) cellOf_inj) (Pipeline.launchToks (Pipeline.pin (pcfgs (F := F)) WholeCalls.adm) cellOf_inj)) (1 : Counters)) $$ HR
  icases H with ⟨HP, -⟩
  ihave H := (show (BI.own ((((Emb.inl : Emb UP (UP × Counters)).trans embR : Emb UP 𝕄)) (initOf (Pipeline.cells (Pipeline.pin (pcfgs (F := F)) WholeCalls.adm) cellOf_inj)
      (Pipeline.launchToks (Pipeline.pin (pcfgs (F := F)) WholeCalls.adm) cellOf_inj))) : sProp 𝕄) ⊢ _ from
    Pipeline.fund_ghost (Pipeline.pin (pcfgs (F := F)) WholeCalls.adm) (EP (F := F)) cellOf_inj) $$ HP
  imod H with ⟨Hg, Ht⟩
  imodintro
  isplitl [HH]; · iexact HH
  isplitl [Hg Ht]
  · unfold Gh
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The gather inside @main -/

theorem st0_eq (d : Dev nD) : (bigSep Finset.univ fun c : Fin ((K (F := F)).nCore 0) => (P m).st 0 d c)
    = iprop((tLoc d ↦{fullShare} Tb m d) ∗ (iLoc d ↦{fullShare} Xs m d) ∗ bigSep Finset.univ fun n : Fin 256 => iprop(∃ f, oLoc d ↦[(oBlk n).view.set]{fullShare} f)) :=
  dealt d (Tb m d) (Xs m d) fun n => iprop(∃ f, oLoc d ↦[(oBlk n).view.set]{fullShare} f)
theorem dn0_eq (d : Dev nD) : (bigSep Finset.univ fun c : Fin ((K (F := F)).nCore 0) => (P m).dn 0 d c)
    = iprop((tLoc d ↦{fullShare} Tb m d) ∗ (iLoc d ↦{fullShare} Xs m d) ∗ oLoc d ↦{fullShare} G (Tb m d) (Xs m d)) := by
  rw [oWhole]
  exact dealt d (Tb m d) (Xs m d) fun n => oLoc d ↦[(oBlk n).view.set]{fullShare} G (Tb m d) (Xs m d)

theorem out_any (d : Dev nD) (g : S65536x128.Idx → Elt F .f32) : (bigSep Finset.univ fun n : Fin 256 => oLoc d ↦[(oBlk n).view.set]{fullShare} g : sProp 𝕄)
    ⊢ bigSep Finset.univ fun n : Fin 256 => iprop(∃ f, oLoc d ↦[(oBlk n).view.set]{fullShare} f) := by
  refine bigSep_mono fun n _ => ?_
  show (oLoc d ↦[(oBlk n).view.set]{fullShare} g : sProp 𝕄) ⊢ iprop(∃ f, oLoc d ↦[(oBlk n).view.set]{fullShare} f)
  iintro H; iexists g; iexact H

/-- The three buffers the gather works on. -/
def three : Finset (DevRef τ sig) := {Proc.devRef .tc main_v33, Proc.devRef .tc main_v36, Proc.devRef .tc main_v37}

theorem three_sub : three ⊆ Pipeline.ucRefs τ sig := by decide

theorem held_three (d : Dev nD) (W : Valuation τ sig (Elt F)) : (StableHlo.held (SparseCore.T d) three W : sProp 𝕄)
    = iprop((tLoc d ↦{fullShare} W (Proc.devRef .tc main_v33)) ∗ (iLoc d ↦{fullShare} W (Proc.devRef .tc main_v36)) ∗ oLoc d ↦{fullShare} W (Proc.devRef .tc main_v37)) := by
  unfold StableHlo.held three
  rw [SparseCore.bigSep_insert' (by decide), SparseCore.bigSep_insert' (by decide), bigSep_singleton]

theorem rest_three (d : Dev nD) : (StableHlo.held (SparseCore.T d) (Pipeline.ucRefs τ sig \ three) (V₃ m d) : sProp 𝕄)
    = StableHlo.held (SparseCore.T d) (Pipeline.ucRefs τ sig \ three) (V₄ m d) :=
  StableHlo.held_congr _ fun b hb => (WholeHost.V₄_other m d b fun e => (Finset.mem_sdiff.mp hb).2 (by rw [e]; decide)).symm

/-- The gather takes the buffers from `V₃` to `V₄`. -/
theorem gather_step (κ : GSem nD τ sig → ℕ) (d : Dev nD) (Φ : PUnit → sProp 𝕄) :
    iprop((K (F := F)).ctx EH (P m) κ ∗ (K (F := F)).tcSt EH d 0 ∗ StableHlo.held (SparseCore.T d) (Pipeline.ucRefs τ sig) (V₃ m d)
        ∗ (((K (F := F)).tcSt EH d 1 ∗ StableHlo.held (SparseCore.T d) (Pipeline.ucRefs τ sig) (V₄ m d)) -∗ Φ ⟨⟩))
      ⊢ wp frame (wpE ((K (F := F)).defs (D (F := F))) 𝒱 (SparseCore.T d) none) Set.univ ((K (F := F)).run d 0) Φ := by
  rw [StableHlo.held_sub_split _ three_sub (V₃ m d), StableHlo.held_sub_split _ three_sub (V₄ m d), held_three, held_three, rest_three]
  iintro ⟨#Hctx, Hst, ⟨⟨Ht, Hi, Ho⟩, Hrest⟩, HΦ⟩
  iapply ((K (F := F)).wp_run (D (F := F)) 𝒱 (EH := EH) (P := P m) κ d 0) $$ [Hst Hi Ht Ho Hrest HΦ]
  isplitr; · iexact Hctx
  isplitl [Hst]; · iexact Hst
  isplitl [Hi Ht Ho]
  · rw [st0_eq]
    isplitl [Ht]; · iexact Ht
    isplitl [Hi]; · iexact Hi
    ihave Ho' := (Entails.of_eq (oWhole d _)) $$ Ho
    iapply (out_any d (V₃ m d (Proc.devRef .tc main_v37)))
    iexact Ho'
  iintro ⟨Hst, Hdn⟩
  ihave Hdn' := (Entails.of_eq (dn0_eq m d)) $$ Hdn
  icases Hdn' with ⟨Ht, Hi, Ho⟩
  iapply HΦ
  isplitl [Hst]; · iexact Hst
  isplitr [Hrest]
  · rw [WholeHost.V₄_other m d _ (by decide), WholeHost.V₄_other m d _ (by decide), WholeHost.V₄_rows]
    isplitl [Ht]; · iexact Ht
    isplitl [Hi]; · iexact Hi
    iexact Ho
  · iexact Hrest

/-! ## The attention and the projection inside @main -/

/-- The two calls' data as the attention sees it, -/
abbrev DA := WholeCalls.dats (U := UU) (V₁ m) (WholeHost.Bd (F := F) 0) (WholeHost.Ow (F := F) 0)
/-- and as the projection does. -/
abbrev DP := WholeCalls.dats (U := UU) (V₅ m) (WholeHost.Bd (F := F) 1) (WholeHost.Ow (F := F) 1)

theorem waits_attn (c : Dev nD) : (levAts (K (F := F)).L (K (F := F)).lev : sProp 𝕄) ⊢ Pipeline.cellsWaits pn (DA m) none 0 c := by
  refine Pipeline.cellsWaits_of_cut pn (DA m) none 0 c 0 (WholeHost.Ow (F := F) 0 c) (fun _ => rfl) (fun _ _ => Finset.mem_univ _) (fun _ _ => ?_) (fun g i h => ⟨Finset.mem_univ _, ?_⟩)
  · rw [SparseCore.Cfg.lev_none]
  · have := SparseCore.Cfg.lev_of_Otc_pos (K := K (F := F)) (d := c) (n := 0) h
    omega

theorem waits_proj (c : Dev nD) : (levAts (K (F := F)).L (K (F := F)).lev : sProp 𝕄) ⊢ Pipeline.cellsWaits pn (DP m) none 1 c := by
  refine Pipeline.cellsWaits_of_cut pn (DP m) none 1 c 0 (WholeHost.Ow (F := F) 1 c) (fun _ => rfl) (fun _ _ => Finset.mem_univ _) (fun _ _ => ?_) (fun g i h => ⟨Finset.mem_univ _, ?_⟩)
  · rw [SparseCore.Cfg.lev_none]
  · have := SparseCore.Cfg.lev_of_Otc_pos (K := K (F := F)) (d := c) (n := 1) h
    omega

abbrev RA := WholeCalls.attnRegion (U := UU) (V₁ m) (WholeHost.Bd (F := F) 0) (WholeHost.Ow (F := F) 0) (K (F := F)).L (K (F := F)).lev (waits_attn m)
abbrev RP := WholeCalls.projRegion (U := UU) (V₅ m) (WholeHost.Bd (F := F) 1) (WholeHost.Ow (F := F) 1) (K (F := F)).L (K (F := F)).lev (waits_proj m)

set_option backward.isDefEq.respectTransparency.types false in
/-- The attention takes the buffers from `V₁` to `V₂`. -/
theorem attn_step [∀ e, Nonempty (Elt F e)] (κ : GSem nD τ sig → ℕ) (d : Dev nD) (Φ : PUnit → sProp 𝕄) :
    iprop((K (F := F)).ctx EH (P m) κ ∗ (K (F := F)).tcSt EH d 0 ∗ boundary (SparseCore.T d) ∗ StableHlo.held (SparseCore.T d) (Pipeline.ucRefs τ sig) (V₁ m d) ∗ Gp (F := F) 0 d
        ∗ (((K (F := F)).tcSt EH d 0 ∗ boundary (SparseCore.T d) ∗ StableHlo.held (SparseCore.T d) (Pipeline.ucRefs τ sig) (V₂ m d)) -∗ Φ ⟨⟩))
      ⊢ wp frame (wpE ((K (F := F)).defs (D (F := F))) 𝒱 (SparseCore.T d) none) Set.univ
          (Prog.lift (.customCall (SparseCore.inner (Pipeline.entry 0)) ())) Φ := by
  show _ ⊢ wp frame (wpE ((K (F := F)).defs (D (F := F))) 𝒱 (SparseCore.T d) none) Set.univ
      (SparseCore.liftProg (.op (.customCall (Pipeline.entry 0) ()) fun x => .ret x)) Φ
  refine BI.Entails.trans ?_ ((K (F := F)).wp_liftProg (D (F := F)) 𝒱 (SparseCore.T d) Set.univ none _ Φ)
  refine BI.Entails.trans ?_ (Pipeline.RegionSeg.wp (pcfgs (F := F)) WholeCalls.adm (DA m) none cellOf_inj EP (defs₀ (F := F)) 𝒱₀
    (K (F := F)).L (K (F := F)).lev (RA m) d none (fun _ h => nomatch h) (fun x => .ret x) Φ)
  rw [show (RA m).pre d = iprop(StableHlo.held (SparseCore.T d) (Pipeline.ucRefs τ sig) (V₁ m d) ∗ (DA m 0 d).owesAt none 0) from rfl,
    show (RA m).post d = iprop(StableHlo.held (SparseCore.T d) (Pipeline.ucRefs τ sig) (V₂ m d) ∗ (DA m 0 d).owesAt none (Fin.last _)) from rfl]
  unfold SparseCore.Cfg.tcSt
  show (_ : sProp 𝕄) ⊢ _
  iintro ⟨#Hctx, ⟨⟨%W, %hW, HO⟩, Hst⟩, Hb, Hheld, ⟨Hg, Ht⟩, HΦ⟩
  isplitl [HΦ Hst]
  · iintro ⟨Hb, Hheld, HO⟩
    rw [wp_ret]; imodintro
    iapply HΦ
    isplitl [Hst HO]
    · isplitl [HO]
      · ihave HO' := (show _ ⊢ _ from Entails.of_eq (by unfold Pipeline.Dat.owesAt Pipeline.owesWithin; rfl)) $$ HO
        icases HO' with ⟨%W', %hW', HO⟩
        iexists W'
        isplitr
        · ipureintro
          intro p hp
          rcases hW' hp with h | ⟨w, s, rfl⟩
          · exact h
          · rw [SparseCore.Cfg.lev_none]; exact Nat.zero_le _
        iexact HO
      iexact Hst
    isplitl [Hb]; · iexact Hb
    iexact Hheld
  isplitl [Hb]; · iexact Hb
  isplitl [Hheld HO]
  · isplitl [Hheld]; · iexact Hheld
    unfold Pipeline.Dat.owesAt Pipeline.owesWithin
    iexists W
    isplitr
    · ipureintro; exact fun p hp => Or.inl (hW p hp)
    iexact HO
  isplitr
  · iapply ((K (F := F)).ctx_levAts (EH := EH) (P := P m) κ); iexact Hctx
  isplitl [Hg]; · iexact Hg
  iexact Ht

set_option backward.isDefEq.respectTransparency.types false in
/-- The projection takes the buffers from `V₅` to `V₆`. -/
theorem proj_step [∀ e, Nonempty (Elt F e)] (κ : GSem nD τ sig → ℕ) (d : Dev nD) (Φ : PUnit → sProp 𝕄) :
    iprop((K (F := F)).ctx EH (P m) κ ∗ (K (F := F)).tcSt EH d 1 ∗ boundary (SparseCore.T d) ∗ StableHlo.held (SparseCore.T d) (Pipeline.ucRefs τ sig) (V₅ m d) ∗ Gp (F := F) 1 d
        ∗ (((K (F := F)).tcSt EH d 1 ∗ boundary (SparseCore.T d) ∗ StableHlo.held (SparseCore.T d) (Pipeline.ucRefs τ sig) (V₆ m d)) -∗ Φ ⟨⟩))
      ⊢ wp frame (wpE ((K (F := F)).defs (D (F := F))) 𝒱 (SparseCore.T d) none) Set.univ
          (Prog.lift (.customCall (SparseCore.inner (Pipeline.entry 1)) ())) Φ := by
  show _ ⊢ wp frame (wpE ((K (F := F)).defs (D (F := F))) 𝒱 (SparseCore.T d) none) Set.univ
      (SparseCore.liftProg (.op (.customCall (Pipeline.entry 1) ()) fun x => .ret x)) Φ
  refine BI.Entails.trans ?_ ((K (F := F)).wp_liftProg (D (F := F)) 𝒱 (SparseCore.T d) Set.univ none _ Φ)
  refine BI.Entails.trans ?_ (Pipeline.RegionSeg.wp (pcfgs (F := F)) WholeCalls.adm (DP m) none cellOf_inj EP (defs₀ (F := F)) 𝒱₀
    (K (F := F)).L (K (F := F)).lev (RP m) d none (fun _ h => nomatch h) (fun x => .ret x) Φ)
  rw [show (RP m).pre d = iprop(StableHlo.held (SparseCore.T d) (Pipeline.ucRefs τ sig) (V₅ m d) ∗ (DP m 1 d).owesAt none 0) from rfl,
    show (RP m).post d = iprop(StableHlo.held (SparseCore.T d) (Pipeline.ucRefs τ sig) (V₆ m d) ∗ (DP m 1 d).owesAt none (Fin.last _)) from rfl]
  unfold SparseCore.Cfg.tcSt
  show (_ : sProp 𝕄) ⊢ _
  iintro ⟨#Hctx, ⟨⟨%W, %hW, HO⟩, Hst⟩, Hb, Hheld, ⟨Hg, Ht⟩, HΦ⟩
  isplitl [HΦ Hst]
  · iintro ⟨Hb, Hheld, HO⟩
    rw [wp_ret]; imodintro
    iapply HΦ
    isplitl [Hst HO]
    · isplitl [HO]
      · ihave HO' := (show _ ⊢ _ from Entails.of_eq (by unfold Pipeline.Dat.owesAt Pipeline.owesWithin; rfl)) $$ HO
        icases HO' with ⟨%W', %hW', HO⟩
        iexists W'
        isplitr
        · ipureintro
          intro p hp
          rcases hW' hp with h | ⟨w, s, rfl⟩
          · exact h
          · rw [SparseCore.Cfg.lev_none]; exact Nat.zero_le _
        iexact HO
      iexact Hst
    isplitl [Hb]; · iexact Hb
    iexact Hheld
  isplitl [Hb]; · iexact Hb
  isplitl [Hheld HO]
  · isplitl [Hheld]; · iexact Hheld
    unfold Pipeline.Dat.owesAt Pipeline.owesWithin
    iexists W
    isplitr
    · ipureintro; exact fun p hp => Or.inl (hW p hp)
    iexact HO
  isplitr
  · iapply ((K (F := F)).ctx_levAts (EH := EH) (P := P m) κ); iexact Hctx
  isplitl [Hg]; · iexact Hg
  iexact Ht

/-! ## @main on the TensorCore -/

/-- What @main ends with. -/
abbrev FIN (d : Dev nD) : sProp 𝕄 := StableHlo.held (SparseCore.T d) (Pipeline.ucRefs τ sig) (V₆ m d)

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (StableHlo.launchContents m d) from
    Pipeline.unscopedBufs_held d (StableHlo.launchContents m d), WholeHost.main_eq]
  iintro ⟨#Hctx, Hst, ⟨Hb, Hheld, Hts, -⟩, HG⟩
  iapply (StableHlo.wp_seq 𝒱 none Set.univ d (Pipeline.ucRefs τ sig) _ WholeHost.pre WholeHost.pre_bufs WholeHost.pre_fresh (StableHlo.launchContents m d)) $$ [Hb Hheld]
  · isplitl [Hb]; · iexact Hb
    iexact Hheld
  iintro ⟨Hb, Hheld⟩
  ihave HG' := (Gh_eq d) $$ HG
  icases HG' with ⟨HGa, HGp⟩
  rw [wp_bind]
  iapply (attn_step m κ d)
  isplitr; · iexact Hctx
  isplitl [Hst]; · iexact Hst
  isplitl [Hb]; · iexact Hb
  isplitl [Hheld]; · iexact Hheld
  isplitl [HGa]; · iexact HGa
  iintro ⟨Hst, Hb, Hheld⟩
  iapply (StableHlo.wp_seq 𝒱 none Set.univ d (Pipeline.ucRefs τ sig) _ WholeHost.tab WholeHost.tab_bufs WholeHost.tab_fresh (V₂ m d)) $$ [Hb Hheld]
  · isplitl [Hb]; · iexact Hb
    iexact Hheld
  iintro ⟨Hb, Hheld⟩
  rw [wp_bind]
  iapply (gather_step m κ d)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ WholeHost.mid WholeHost.mid_bufs WholeHost.mid_fresh (V₄ m d)) $$ [Hb Hheld]
  · isplitl [Hb]; · iexact Hb
    iexact Hheld
  iintro ⟨Hb, Hheld⟩
  iapply (proj_step m κ d)
  isplitr; · iexact Hctx
  isplitl [Hst]; · iexact Hst
  isplitl [Hb]; · iexact Hb
  isplitl [Hheld]; · iexact Hheld
  isplitl [HGp]; · iexact HGp
  iintro ⟨Hst, Hb, Hheld⟩
  isplitl [Hst]; · iexact Hst
  isplitl [Hheld]; · iexact Hheld
  isplitl [Hb] <;> iassumption

/-- What the final memory holds. -/
def fq (d : Dev nD) (s' : Phys nD τ sig (Elt F)) : Prop := ∀ b ∈ Pipeline.ucRefs τ sig, s'.mem.mem (d, b) = V₆ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The run -/

/-- The final state: every unscoped buffer at its final contents, every semaphore at zero. -/
def QC : PUnit × MemSt nD τ sig (Elt F) → Prop := fun r =>
  (∀ d : Dev nD, ∀ b ∈ Pipeline.ucRefs τ sig, r.2.mem (d, b) = V₆ m d b) ∧ r.2.sem = fun _ => 0

theorem run_main [∀ e, Nonempty (Elt F e)] (hpre : InRows m) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => Gh (F := F) d) (FIN m) (u₀ (F := F)) (sep_elim_left.trans (hu₀ m)) (hmain m ρ) (fq m) (hfin m) (QC m) (fun _ h hz => ⟨h, hz⟩)

end Cert.Proof.WholeGather

end
-- ==== Proof.WholeValue.lean ====
/-
  The whole program's attention over the extended reals: its body is the attention call's, so its two arrays end with the same
  mixtures and numbers, read from the whole program's arguments.
-/
module

public import proofs.«01_k».proof.Proof.WholeHost
public import proofs.«01_k».proof.Proof.Body
public import proofs.«01_k».proof.Proof.Heads

@[expose] public section

set_option maxRecDepth 16384

noncomputable section

namespace Cert.Proof.WholeValue

open Cert.WholeIdeal Cert.WholeIdeal.Gen
open Idealize.ShloMosaic Idealize.ShloMosaic.StableHlo Idealize.ShloMosaic.TcCoe
open Cert.Proof.WholeHost
open Cert.Proof.Attend hiding seats

/-! ### The body is the attention's -/

section Alike

namespace Alike

theorem p1 : @k0_pay1 = @Cert.AttnIdeal.Gen.k0_pay1 := rfl
theorem p2 : @k0_pay2 = @Cert.AttnIdeal.Gen.k0_pay2 := rfl
theorem p3 : @k0_pay3 = @Cert.AttnIdeal.Gen.k0_pay3 := rfl
theorem p4 : @k0_pay4 = @Cert.AttnIdeal.Gen.k0_pay4 := rfl
theorem p5 : @k0_pay5 = @Cert.AttnIdeal.Gen.k0_pay5 := rfl
theorem p6 : @k0_pay6 = @Cert.AttnIdeal.Gen.k0_pay6 := rfl
theorem p7 : @k0_pay7 = @Cert.AttnIdeal.Gen.k0_pay7 := rfl
theorem p8 : @k0_pay8 = @Cert.AttnIdeal.Gen.k0_pay8 := rfl
theorem p9 : @k0_pay9 = @Cert.AttnIdeal.Gen.k0_pay9 := rfl
theorem p10 : @k0_pay10 = @Cert.AttnIdeal.Gen.k0_pay10 := rfl
theorem p11 : @k0_pay11 = @Cert.AttnIdeal.Gen.k0_pay11 := rfl
theorem p12 : @k0_pay12 = @Cert.AttnIdeal.Gen.k0_pay12 := rfl
theorem p13 : @k0_pay13 = @Cert.AttnIdeal.Gen.k0_pay13 := rfl
theorem p14 : @k0_pay14 = @Cert.AttnIdeal.Gen.k0_pay14 := rfl
theorem p15 : @k0_pay15 = @Cert.AttnIdeal.Gen.k0_pay15 := rfl
theorem p16 : @k0_pay16 = @Cert.AttnIdeal.Gen.k0_pay16 := rfl
theorem p17 : @k0_pay17 = @Cert.AttnIdeal.Gen.k0_pay17 := rfl
theorem p18 : @k0_pay18 = @Cert.AttnIdeal.Gen.k0_pay18 := rfl
theorem p19 : @k0_pay19 = @Cert.AttnIdeal.Gen.k0_pay19 := rfl
theorem p20 : @k0_pay20 = @Cert.AttnIdeal.Gen.k0_pay20 := rfl
theorem p21 : @k0_pay21 = @Cert.AttnIdeal.Gen.k0_pay21 := rfl
theorem p22 : @k0_pay22 = @Cert.AttnIdeal.Gen.k0_pay22 := rfl
theorem p23 : @k0_pay23 = @Cert.AttnIdeal.Gen.k0_pay23 := rfl
theorem p24 : @k0_pay24 = @Cert.AttnIdeal.Gen.k0_pay24 := rfl
theorem p25 : @k0_pay25 = @Cert.AttnIdeal.Gen.k0_pay25 := rfl
theorem p26 : @k0_pay26 = @Cert.AttnIdeal.Gen.k0_pay26 := rfl
theorem p27 : @WholeAttn.k0_pay27 = @Cert.AttnIdeal.Gen.k0_pay27 := by
  delta WholeAttn.k0_pay27 Cert.AttnIdeal.Gen.k0_pay27
  simp only [p2]
theorem p28 : @WholeAttn.k0_pay28 = @Cert.AttnIdeal.Gen.k0_pay28 := by
  delta WholeAttn.k0_pay28 Cert.AttnIdeal.Gen.k0_pay28
  simp only [p3]
theorem p29 : @WholeAttn.k0_pay29 = @Cert.AttnIdeal.Gen.k0_pay29 := by
  delta WholeAttn.k0_pay29 Cert.AttnIdeal.Gen.k0_pay29
  simp only [p5]
theorem p30 : @WholeAttn.k0_pay30 = @Cert.AttnIdeal.Gen.k0_pay30 := by
  delta WholeAttn.k0_pay30 Cert.AttnIdeal.Gen.k0_pay30
  simp only [p8]
theorem p31 : @WholeAttn.k0_pay31 = @Cert.AttnIdeal.Gen.k0_pay31 := by
  delta WholeAttn.k0_pay31 Cert.AttnIdeal.Gen.k0_pay31
  simp only [p9]
theorem p32 : @WholeAttn.k0_pay32 = @Cert.AttnIdeal.Gen.k0_pay32 := by
  delta WholeAttn.k0_pay32 Cert.AttnIdeal.Gen.k0_pay32
  simp only [p10]
theorem p33 : @WholeAttn.k0_pay33 = @Cert.AttnIdeal.Gen.k0_pay33 := rfl
theorem p34 : @WholeAttn.k0_pay34 = @Cert.AttnIdeal.Gen.k0_pay34 := by
  delta WholeAttn.k0_pay34 Cert.AttnIdeal.Gen.k0_pay34
  simp only [p11, p27, p28, p31, p32]
theorem p35 : @WholeAttn.k0_pay35 = @Cert.AttnIdeal.Gen.k0_pay35 := by
  delta WholeAttn.k0_pay35 Cert.AttnIdeal.Gen.k0_pay35
  simp only [p12, p29]
theorem p36 : @WholeAttn.k0_pay36 = @Cert.AttnIdeal.Gen.k0_pay36 := by
  delta WholeAttn.k0_pay36 Cert.AttnIdeal.Gen.k0_pay36
  simp only [p14, p27, p28, p29, p30, p31, p32]
theorem p37 : @WholeAttn.k0_pay37 = @Cert.AttnIdeal.Gen.k0_pay37 := by
  delta WholeAttn.k0_pay37 Cert.AttnIdeal.Gen.k0_pay37
  simp only [p15, p27, p28, p29, p30, p31, p32]
theorem p38 : @WholeAttn.k0_pay38 = @Cert.AttnIdeal.Gen.k0_pay38 := by
  delta WholeAttn.k0_pay38 Cert.AttnIdeal.Gen.k0_pay38
  simp only [p16, p27, p28, p29, p30, p31, p32]
theorem p39 : @WholeAttn.k0_pay39 = @Cert.AttnIdeal.Gen.k0_pay39 := by
  delta WholeAttn.k0_pay39 Cert.AttnIdeal.Gen.k0_pay39
  simp only [p17, p27, p28, p29, p30, p31, p32]
theorem p40 : @WholeAttn.k0_pay40 = @Cert.AttnIdeal.Gen.k0_pay40 := by
  delta WholeAttn.k0_pay40 Cert.AttnIdeal.Gen.k0_pay40
  simp only [p19, p29, p34, p35, p36, p37, p38, p39]
theorem p41 : @WholeAttn.k0_pay41 = @Cert.AttnIdeal.Gen.k0_pay41 := by
  delta WholeAttn.k0_pay41 Cert.AttnIdeal.Gen.k0_pay41
  simp only [p20, p29, p34, p35, p36, p37, p38, p39]
theorem out5 : @WholeAttn.out0_5 = @Cert.AttnIdeal.Gen.out0_5 := by
  delta WholeAttn.out0_5 Cert.AttnIdeal.Gen.out0_5
  simp only [p25, p6, p7, p30, p18, p29, p34, p36, p37, p38, p39, p23, p33, p13, p40, p41, p24]
theorem out6 : @WholeAttn.out0_6 = @Cert.AttnIdeal.Gen.out0_6 := by
  delta WholeAttn.out0_6 Cert.AttnIdeal.Gen.out0_6
  simp only [p1, p26, p21, p33, p40, p41]

end Alike

end Alike

/-- An input's block, as the attention is entered. -/
abbrev iblk (m : (ℓ : Loc nD τ sig) → Buf (Elt Ideal) ℓ) (c : Dev nD) (w : Fin cfg0.W) (t : Fin cfg0.N) := WholeAttn.blkAt (V₁ m) c w t

/-! ### The call's blocks -/

section Blocks

variable (m : (ℓ : Loc nD τ sig) → Buf (Elt Ideal) ℓ) (c : Dev nD)

theorem window₀ : ∀ t : Fin cfg0.N, win0_0.index t = ![(grid0.coords t 0).val, 0, 0] :=
  (by decide +kernel : ∀ t : Fin grid0.N, win0_0.index t = ![(grid0.coords t 0).val, 0, 0])
theorem window₁ : ∀ t : Fin cfg0.N, win0_1.index t = ![(grid0.coords t 0).val, 0, 0] :=
  (by decide +kernel : ∀ t : Fin grid0.N, win0_1.index t = ![(grid0.coords t 0).val, 0, 0])
theorem window₂ : ∀ t : Fin cfg0.N, win0_2.index t = ![(grid0.coords t 0).val, 0, 0] :=
  (by decide +kernel : ∀ t : Fin grid0.N, win0_2.index t = ![(grid0.coords t 0).val, 0, 0])
theorem window₃ : ∀ t : Fin cfg0.N, win0_3.index t = ![(grid0.coords t 1).val, 0, 0] :=
  (by decide +kernel : ∀ t : Fin grid0.N, win0_3.index t = ![(grid0.coords t 1).val, 0, 0])
theorem window₄ : ∀ t : Fin cfg0.N, win0_4.index t = ![(grid0.coords t 1).val, 0, 0] :=
  (by decide +kernel : ∀ t : Fin grid0.N, win0_4.index t = ![(grid0.coords t 1).val, 0, 0])
theorem window₅ : ∀ t : Fin cfg0.N, win0_5.index t = ![(grid0.coords t 0).val, (grid0.coords t 1).val, 0, 0] :=
  (by decide +kernel : ∀ t : Fin grid0.N, win0_5.index t = ![(grid0.coords t 0).val, (grid0.coords t 1).val, 0, 0])
theorem window₆ : ∀ t : Fin cfg0.N, win0_6.index t = ![(grid0.coords t 0).val, (grid0.coords t 1).val, 0, 0] :=
  (by decide +kernel : ∀ t : Fin grid0.N, win0_6.index t = ![(grid0.coords t 0).val, (grid0.coords t 1).val, 0, 0])

variable (t : Fin cfg0.N) (b : Fin 2) (h : Fin 16) (hb : b.val = (grid0.coords t 0).val) (hh : h.val = (grid0.coords t 1).val)
include hb

theorem block₀ (r : Fin 2048) (k : Fin 1024) : iblk m c 0 t (ix3 (0 : Fin 1) r k) = m (c, Proc.devRef .tc main_arg0) (ix3 b r k) := by
  rw [← V₁_unwritten m c main_arg0 (by decide)]
  show V₁ m c (Proc.devRef .tc main_arg0) ((win0_0.blk t).view.emb (ix3 (0 : Fin 1) r k)) = _
  refine congrArg _ ?_
  blk_ext [window₀]

theorem block₁ (j : Fin 128) (k : Fin 1024) : iblk m c 1 t (ix3 (0 : Fin 1) j k) = m (c, Proc.devRef .tc main_arg0) (ix3 b (seat (Attend.seats (F := Ideal)) j) k) := by
  refine Eq.trans (b := V₁ m c (Proc.devRef .tc main_v17) (ix3 b j k)) ?_ ?_
  · show V₁ m c (Proc.devRef .tc main_v17) ((win0_1.blk t).view.emb (ix3 (0 : Fin 1) j k)) = _
    refine congrArg _ ?_
    blk_ext [window₁]
  · rw [V₁_rows]
    exact middle_apply _ _ _ b j k

theorem block₂ (r : Fin 2048) : iblk m c 2 t (ix3 (0 : Fin 1) r (0 : Fin 1))
    = live (m (c, Proc.devRef .tc main_arg1)) (m (c, Proc.devRef .tc main_arg2)) b r := by
  refine Eq.trans (b := V₁ m c (Proc.devRef .tc main_v8) (ix3 b r (0 : Fin 1))) ?_ ?_
  · show V₁ m c (Proc.devRef .tc main_v8) ((win0_2.blk t).view.emb (ix3 (0 : Fin 1) r (0 : Fin 1))) = _
    refine congrArg _ ?_
    blk_ext [window₂]
  · rw [V₁_mask]
    unfold live bit
    pointwise

omit hb
include hh

theorem weight_block (o : Fin 3) (k : Fin 1024) (e : Fin 64) : iblk m c 3 t (ix3 (0 : Fin 1) k ⟨64 * o.val + e.val, by omega⟩)
    = (![m (c, Proc.devRef .tc main_arg3), m (c, Proc.devRef .tc main_arg5), m (c, Proc.devRef .tc main_arg7)] o : S1024x1024.Idx → EReal)
        (ix2 k ⟨h.val * 64 + e.val, by omega⟩) := by
  refine Eq.trans (b := V₁ m c (Proc.devRef .tc main_v24) (ix3 h k ⟨64 * o.val + e.val, by omega⟩)) ?_ ?_
  · show V₁ m c (Proc.devRef .tc main_v24) ((win0_3.blk t).view.emb (ix3 (0 : Fin 1) k ⟨64 * o.val + e.val, by omega⟩)) = _
    refine congrArg _ ?_
    blk_ext [window₃]
  · rw [V₁_weights]
    fin_cases o
    · pointwise
    · pointwise
    · pointwise
      rw [dif_neg (by omega), dif_neg (by omega)]
      exact congrArg _ (by congr 2; omega)

theorem bias_block (o : Fin 3) (e : Fin 64) : iblk m c 4 t (ix3 (0 : Fin 1) (0 : Fin 1) ⟨64 * o.val + e.val, by omega⟩)
    = (![m (c, Proc.devRef .tc main_arg4), m (c, Proc.devRef .tc main_arg6), m (c, Proc.devRef .tc main_arg8)] o : S1024.Idx → EReal)
        (ix1 ⟨h.val * 64 + e.val, by omega⟩) := by
  refine Eq.trans (b := V₁ m c (Proc.devRef .tc main_v28) (ix3 h (0 : Fin 1) ⟨64 * o.val + e.val, by omega⟩)) ?_ ?_
  · show V₁ m c (Proc.devRef .tc main_v28) ((win0_4.blk t).view.emb (ix3 (0 : Fin 1) (0 : Fin 1) ⟨64 * o.val + e.val, by omega⟩)) = _
    refine congrArg _ ?_
    blk_ext [window₄]
  · rw [V₁_biases]
    fin_cases o
    · pointwise
    · pointwise
    · pointwise
      rw [dif_neg (by omega), dif_neg (by omega)]
      exact congrArg _ (by congr 2; omega)

end Blocks

/-! ### The two arrays after the call -/

section Arrays

variable (m : (ℓ : Loc nD τ sig) → Buf (Elt Ideal) ℓ) (c : Dev nD)

theorem block_line (o : Fin 3) (t : Fin cfg0.N) (b : Fin 2) (h : Fin 16) (hb : b.val = (grid0.coords t 0).val) (hh : h.val = (grid0.coords t 1).val) :
    projected (n := 2048) (64 * o.val) (by omega) (iblk m c 0 t) (iblk m c 3 t) (iblk m c 4 t)
      = line (m (c, Proc.devRef .tc main_arg0)) b h (![m (c, Proc.devRef .tc main_arg3), m (c, Proc.devRef .tc main_arg5), m (c, Proc.devRef .tc main_arg7)] o)
        (![m (c, Proc.devRef .tc main_arg4), m (c, Proc.devRef .tc main_arg6), m (c, Proc.devRef .tc main_arg8)] o) := by
  funext l e
  unfold projected line
  exact congrArg₂ (· + ·) (Finset.sum_congr rfl fun i _ => congrArg₂ (· * ·) (block₀ m c t b hb l i) (weight_block m c t b h hh o i e)) (bias_block m c t b h hh o e)

theorem block_start (t : Fin cfg0.N) (b : Fin 2) (h : Fin 16) (hb : b.val = (grid0.coords t 0).val) (hh : h.val = (grid0.coords t 1).val) :
    centres₀ (iblk m c 1 t) (iblk m c 3 t) (iblk m c 4 t)
      = start (m (c, Proc.devRef .tc main_arg0)) (m (c, Proc.devRef .tc main_arg3)) (m (c, Proc.devRef .tc main_arg4)) (Attend.seats (F := Ideal)) b h := by
  funext j e
  unfold centres₀ projected start line
  exact congrArg₂ (· + ·) (Finset.sum_congr rfl fun i _ => congrArg₂ (· * ·) (block₁ m c t b hb j i) (weight_block m c t b h hh 0 i e)) (bias_block m c t b h hh 0 e)

theorem block_mask (t : Fin cfg0.N) (b : Fin 2) (hb : b.val = (grid0.coords t 0).val) :
    maskOf (iblk m c 2 t) = live (m (c, Proc.devRef .tc main_arg1)) (m (c, Proc.devRef .tc main_arg2)) b :=
  funext fun l => block₂ m c t b hb l

/-- What the first result holds, -/
def mixtures : S2x16x128x128.Idx → EReal := fun y =>
  mixture (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)) (Attend.seats (F := Ideal)) ⟨(y 0).val, (y 0).isLt⟩ ⟨(y 1).val, (y 1).isLt⟩ ⟨(y 2).val, (y 2).isLt⟩ ⟨(y 3).val, (y 3).isLt⟩

/-- and the second. -/
def numbers : S2x16x1x2048.Idx → BitVec 32 := fun y =>
  number (m (c, Proc.devRef .tc main_arg0)) (m (c, Proc.devRef .tc main_arg1)) (m (c, Proc.devRef .tc main_arg2)) (m (c, Proc.devRef .tc main_arg3))
    (m (c, Proc.devRef .tc main_arg4)) (Attend.seats (F := Ideal)) ⟨(y 0).val, (y 0).isLt⟩ ⟨(y 1).val, (y 1).isLt⟩ ⟨(y 3).val, (y 3).isLt⟩

theorem block_mixture (t : Fin cfg0.N) (b : Fin 2) (h : Fin 16) (hb : b.val = (grid0.coords t 0).val) (hh : h.val = (grid0.coords t 1).val) (j e : Fin 128) :
    WholeAttn.out0_5 (grid0.coords t) (iblk m c 0 t) (iblk m c 1 t) (iblk m c 2 t) (iblk m c 3 t) (iblk m c 4 t) (ix4 0 0 j e)
      = mixture (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)) (Attend.seats (F := Ideal)) b h j e := by
  rw [Alike.out5]
  refine (mixed_out _ _ _ _ _ _ j e).trans ?_
  unfold mixture step₂ step₁ centres₂ centres₁
  rw [show queries (iblk m c 0 t) (iblk m c 3 t) (iblk m c 4 t) = _ from block_line m c 0 t b h hb hh,
    show keys (iblk m c 0 t) (iblk m c 3 t) (iblk m c 4 t) = _ from block_line m c 1 t b h hb hh,
    show vals (iblk m c 0 t) (iblk m c 3 t) (iblk m c 4 t) = _ from block_line m c 2 t b h hb hh,
    block_start m c t b h hb hh, block_mask m c t b hb]
  rfl

theorem block_number (t : Fin cfg0.N) (b : Fin 2) (h : Fin 16) (hb : b.val = (grid0.coords t 0).val) (hh : h.val = (grid0.coords t 1).val) (l : Fin 2048) :
    WholeAttn.out0_6 (grid0.coords t) (iblk m c 0 t) (iblk m c 1 t) (iblk m c 2 t) (iblk m c 3 t) (iblk m c 4 t) (ix4 0 0 0 l)
      = number (m (c, Proc.devRef .tc main_arg0)) (m (c, Proc.devRef .tc main_arg1)) (m (c, Proc.devRef .tc main_arg2)) (m (c, Proc.devRef .tc main_arg3))
    (m (c, Proc.devRef .tc main_arg4)) (Attend.seats (F := Ideal)) b h l := by
  rw [Alike.out6]
  refine (group_out _ _ _ _ _ _ l).trans ?_
  unfold number step₁ centres₁
  rw [show queries (iblk m c 0 t) (iblk m c 3 t) (iblk m c 4 t) = _ from block_line m c 0 t b h hb hh,
    block_start m c t b h hb hh, block_mask m c t b hb, ← hb, ← hh]
  refine congrArg₂ (· + ·) rfl ?_
  rw [show (16#32 : BitVec 32) = BitVec.ofNat 32 16 from rfl, show (128#32 : BitVec 32) = BitVec.ofNat 32 128 from rfl,
    ← BitVec.ofNat_mul, ← BitVec.ofNat_add, ← BitVec.ofNat_mul]

theorem final_mixtures : (WholeAttn.dat (U := UU) (V₁ m) (Bd (F := Ideal) 0) (Ow (F := Ideal) 0) c).arrAt 5 cfg0.N = mixtures m c := by
  refine (WholeAttn.dat (U := UU) (V₁ m) (Bd (F := Ideal) 0) (Ow (F := Ideal) 0) c).arrAt_eq_of_covers 5 _ (by decide +kernel) fun t _ y => ?_
  rw [WholeAttn.after5]
  blk_simp
  rw [eq_ix4 y]
  generalize hj : y 2 = j
  generalize he : y 3 = e
  have e0 : y 0 = (0 : Fin 1) := Fin.ext (Nat.lt_one_iff.1 (y 0).isLt)
  have e1 : y 1 = (0 : Fin 1) := Fin.ext (Nat.lt_one_iff.1 (y 1).isLt)
  rw [e0, e1]
  have h0 : (((win0_5.blk t).view.emb (ix4 (0 : Fin 1) (0 : Fin 1) j e) 0 : Fin _) : Nat) = (grid0.coords t 0).val := by blk_simp [window₅]; rfl
  have h1 : (((win0_5.blk t).view.emb (ix4 (0 : Fin 1) (0 : Fin 1) j e) 1 : Fin _) : Nat) = (grid0.coords t 1).val := by blk_simp [window₅]; rfl
  have h2 : (((win0_5.blk t).view.emb (ix4 (0 : Fin 1) (0 : Fin 1) j e) 2 : Fin _) : Nat) = j.val := by blk_simp [window₅]
  have h3 : (((win0_5.blk t).view.emb (ix4 (0 : Fin 1) (0 : Fin 1) j e) 3 : Fin _) : Nat) = e.val := by blk_simp [window₅]
  refine (block_mixture m c t ⟨_, (((win0_5.blk t).view.emb (ix4 (0 : Fin 1) (0 : Fin 1) j e) 0).isLt)⟩ ⟨_, (((win0_5.blk t).view.emb (ix4 (0 : Fin 1) (0 : Fin 1) j e) 1).isLt)⟩ h0 h1 j e).trans ?_
  unfold mixtures
  exact congrArg₂ _ (Fin.ext h2.symm) (Fin.ext h3.symm)

theorem final_numbers : (WholeAttn.dat (U := UU) (V₁ m) (Bd (F := Ideal) 0) (Ow (F := Ideal) 0) c).arrAt 6 cfg0.N = numbers m c := by
  refine (WholeAttn.dat (U := UU) (V₁ m) (Bd (F := Ideal) 0) (Ow (F := Ideal) 0) c).arrAt_eq_of_covers 6 _ (by decide +kernel) fun t _ y => ?_
  rw [WholeAttn.after6]
  blk_simp
  rw [eq_ix4 y]
  generalize hl : y 3 = l
  have e0 : y 0 = (0 : Fin 1) := Fin.ext (Nat.lt_one_iff.1 (y 0).isLt)
  have e1 : y 1 = (0 : Fin 1) := Fin.ext (Nat.lt_one_iff.1 (y 1).isLt)
  have e2 : y 2 = (0 : Fin 1) := Fin.ext (Nat.lt_one_iff.1 (y 2).isLt)
  rw [e0, e1, e2]
  have h0 : (((win0_6.blk t).view.emb (ix4 (0 : Fin 1) (0 : Fin 1) (0 : Fin 1) l) 0 : Fin _) : Nat) = (grid0.coords t 0).val := by blk_simp [window₆]; rfl
  have h1 : (((win0_6.blk t).view.emb (ix4 (0 : Fin 1) (0 : Fin 1) (0 : Fin 1) l) 1 : Fin _) : Nat) = (grid0.coords t 1).val := by blk_simp [window₆]; rfl
  have h3 : (((win0_6.blk t).view.emb (ix4 (0 : Fin 1) (0 : Fin 1) (0 : Fin 1) l) 3 : Fin _) : Nat) = l.val := by blk_simp [window₆]
  refine (block_number m c t ⟨_, (((win0_6.blk t).view.emb (ix4 (0 : Fin 1) (0 : Fin 1) (0 : Fin 1) l) 0).isLt)⟩ ⟨_, (((win0_6.blk t).view.emb (ix4 (0 : Fin 1) (0 : Fin 1) (0 : Fin 1) l) 1).isLt)⟩ h0 h1 l).trans ?_
  unfold numbers
  exact congrArg _ (Fin.ext h3.symm)

end Arrays

end Cert.Proof.WholeValue

end
-- ==== Proof.WholeEntry.lean ====
/-
  The whole program's projection over the extended reals, entry by entry: the rows' sum against the weights, times the mask, plus
  the bias, all read from the buffers the call is entered with.
-/
module

public import proofs.«01_k».proof.Proof.WholeProj
public import Idealize.ShloMosaic.Lib.MatmulPlain
public import Idealize.ShloMosaic.Lib.ValueIdx
public import Idealize.ShloMosaic.Lib.ValueLayout
public import Idealize.ShloMosaic.Lib.Pipeline.ValueKit.Geometry

@[expose] public section

set_option maxRecDepth 16384

noncomputable section

namespace Cert.Proof.WholeProj

open Cert.WholeIdeal Cert.WholeIdeal.Gen
open Idealize.ShloMosaic Idealize.ShloMosaic.TcCoe
open Idealize.ShloMosaic.ValueIdx
open Idealize.ShloMosaic.SparseCore.Cfg (HIx)
open Idealize.SL Idealize.SL.RA

/-- One row's sum against a column of the weights, masked, with the bias. -/
def entry (g : Fin 2048 → EReal) (w : Fin 2048 → EReal) (k b : EReal) : EReal := (∑ i, g i * w i) * k + b

theorem zeros₃ : (![0, 0, 0] : Fin 3 → Nat) = fun _ => 0 := by decide
theorem zeros₂ : (![0, 0] : Fin 2 → Nat) = fun _ => 0 := by decide

theorem payload_at (g : Vec Ideal S1x1024x2048 .f32) (w : Vec Ideal S2048x1024 .f32) (k : Vec Ideal S1x1024x1 .f32) (b : Vec Ideal S1x1024 .f32) (r c : Fin 1024) :
    k2_pay1 g w k b (ix3 (0 : Fin 1) r c) = entry (fun i => g (ix3 (0 : Fin 1) r i)) (fun i => w (ix2 i c)) (k (ix3 (0 : Fin 1) r (0 : Fin 1))) (b (ix2 (0 : Fin 1) c)) := by
  unfold k2_pay1 entry
  rw [shapeCast_ab_1ab_apply, addf_apply, mulf_apply]
  refine congrArg₂ (· + ·) (congrArg₂ (· * ·) ?_ ?_) ?_
  · refine (Ideal.matmul_plain_apply (M := 1024) (K := 2048) (N := 1024) none _ _ _ r c).trans ?_
    rw [show (constant S1024x1024 .f32 0x00000000#32 : FVec Ideal S1024x1024 .f32) (ix2 r c) = 0 from Ideal.ofBits_zero_f32, zero_add]
    refine Finset.sum_congr rfl fun i _ => congrArg₂ (· * ·) (shapeCast_1ab_ab_apply ..) (shapeCast_apply _ _ _ (ix2 i c) rfl)
  · refine (broadcastTo_apply _ _ _ (ix2 r (0 : Fin 1)) fun a => by
      match a with
      | 0 => rfl
      | 1 => rfl).trans (shapeCast_apply _ _ _ (ix3 (0 : Fin 1) r (0 : Fin 1)) ?_)
    rw [Shape.rowMajor_val_three, Shape.rowMajor_val_two]; simp [ix2, ix3]
  · exact (broadcastTo_apply _ _ _ (ix2 (0 : Fin 1) c) fun a => by
      match a with
      | 0 => rfl
      | 1 => rfl).trans (shapeCast_apply _ _ _ (ix2 (0 : Fin 1) c) rfl)

/-- What the body leaves in the output's buffer, at an index. -/
theorem projected_at (g : Vec Ideal S1x1024x2048 .f32) (k : Vec Ideal S1x1024x1 .f32) (w : Vec Ideal S2048x1024 .f32) (b : Vec Ideal S1x1024 .f32) (r c : Fin 1024) :
    projected g k w b (ix3 (0 : Fin 1) r c) = entry (fun i => g (ix3 (0 : Fin 1) r i)) (fun i => w (ix2 i c)) (k (ix3 (0 : Fin 1) r (0 : Fin 1))) (b (ix2 (0 : Fin 1) c)) := by
  unfold projected rG rW rM rB rY
  rw [View.canon_unit_zero zeros₃, View.ld_unit_zero zeros₃, View.ld_unit_zero zeros₂, View.ld_unit_zero zeros₃, View.ld_unit_zero zeros₂]
  exact payload_at g w k b r c

variable {U : Type} [URA U] (V : Dev nD → Valuation τ sig (Elt Ideal)) (B : Dev nD → Set (SemLoc sig × HIx 1)) (O : Dev nD → CellTallies nD τ sig (HIx 1))

/-- The output's array after the call. -/
def whole (c : Dev nD) : S2x2048x1024.Idx → EReal := fun i =>
  entry (fun j => V c (Proc.devRef .tc main_v38) (ix3 (⟨(i 0).val, (i 0).isLt⟩ : Fin 2) (⟨(i 1).val, (i 1).isLt⟩ : Fin 2048) j))
    (fun j => V c (Proc.devRef .tc main_v31) (ix2 j (⟨(i 2).val, (i 2).isLt⟩ : Fin 1024)))
    (V c (Proc.devRef .tc main_v8) (ix3 (⟨(i 0).val, (i 0).isLt⟩ : Fin 2) (⟨(i 1).val, (i 1).isLt⟩ : Fin 2048) (0 : Fin 1)))
    (V c (Proc.devRef .tc main_v39) (ix2 (0 : Fin 1) (⟨(i 2).val, (i 2).isLt⟩ : Fin 1024)))

theorem index₀ : ∀ t : Fin cfg2.N, win2_0.index t = ![(grid2.coords t 0).val, (grid2.coords t 1).val, 0] :=
  (by decide +kernel : ∀ t : Fin grid2.N, win2_0.index t = ![(grid2.coords t 0).val, (grid2.coords t 1).val, 0])
theorem index₁ : ∀ t : Fin cfg2.N, win2_1.index t = ![(grid2.coords t 0).val, (grid2.coords t 1).val, 0] :=
  (by decide +kernel : ∀ t : Fin grid2.N, win2_1.index t = ![(grid2.coords t 0).val, (grid2.coords t 1).val, 0])
theorem index₂ : ∀ t : Fin cfg2.N, win2_2.index t = ![0, 0] :=
  (by decide +kernel : ∀ t : Fin grid2.N, win2_2.index t = ![0, 0])
theorem index₃ : ∀ t : Fin cfg2.N, win2_3.index t = ![0, 0] :=
  (by decide +kernel : ∀ t : Fin grid2.N, win2_3.index t = ![0, 0])
theorem index₄ : ∀ t : Fin cfg2.N, win2_4.index t = ![(grid2.coords t 0).val, (grid2.coords t 1).val, 0] :=
  (by decide +kernel : ∀ t : Fin grid2.N, win2_4.index t = ![(grid2.coords t 0).val, (grid2.coords t 1).val, 0])

theorem read₀ (c : Dev nD) (t : Fin cfg2.N) (r : Fin 1024) (k : Fin 2048) (b : Fin 2) (l : Fin 2048)
    (hb : b.val = (grid2.coords t 0).val) (hl : l.val = (grid2.coords t 1).val * 1024 + r.val) :
    blkAt V c 0 t (ix3 (0 : Fin 1) r k) = V c (Proc.devRef .tc main_v38) (ix3 b l k) := by
  show V c (Proc.devRef .tc main_v38) ((win2_0.blk t).view.emb (ix3 (0 : Fin 1) r k)) = _
  refine congrArg _ ?_
  blk_ext [index₀]
  · exact hb.symm
  · exact hl.symm

theorem read₁ (c : Dev nD) (t : Fin cfg2.N) (r : Fin 1024) (b : Fin 2) (l : Fin 2048)
    (hb : b.val = (grid2.coords t 0).val) (hl : l.val = (grid2.coords t 1).val * 1024 + r.val) :
    blkAt V c 1 t (ix3 (0 : Fin 1) r (0 : Fin 1)) = V c (Proc.devRef .tc main_v8) (ix3 b l (0 : Fin 1)) := by
  show V c (Proc.devRef .tc main_v8) ((win2_1.blk t).view.emb (ix3 (0 : Fin 1) r (0 : Fin 1))) = _
  refine congrArg _ ?_
  blk_ext [index₁]
  · exact hb.symm
  · exact hl.symm

theorem read₂ (c : Dev nD) (t : Fin cfg2.N) (k : Fin 2048) (o : Fin 1024) :
    blkAt V c 2 t (ix2 k o) = V c (Proc.devRef .tc main_v31) (ix2 k o) := by
  show V c (Proc.devRef .tc main_v31) ((win2_2.blk t).view.emb (ix2 k o)) = _
  refine congrArg _ ?_
  blk_ext [index₂]

theorem read₃ (c : Dev nD) (t : Fin cfg2.N) (o : Fin 1024) :
    blkAt V c 3 t (ix2 (0 : Fin 1) o) = V c (Proc.devRef .tc main_v39) (ix2 (0 : Fin 1) o) := by
  show V c (Proc.devRef .tc main_v39) ((win2_3.blk t).view.emb (ix2 (0 : Fin 1) o)) = _
  refine congrArg _ ?_
  blk_ext [index₃]

theorem final_whole (c : Dev nD) : (dat (U := U) V B O c).arrAt 4 cfg2.N = whole V c := by
  refine (dat (U := U) V B O c).arrAt_eq_of_covers 4 _ (by decide +kernel) fun t _ y => ?_
  rw [after_y]
  blk_simp
  rw [eq_ix3 y]
  generalize hr : y 1 = r
  generalize ho : y 2 = o
  have e0 : y 0 = (0 : Fin 1) := Fin.ext (Nat.lt_one_iff.1 (y 0).isLt)
  rw [e0]
  refine (projected_at _ _ _ _ r o).trans ?_
  have h0 : (((win2_4.blk t).view.emb (ix3 (0 : Fin 1) r o) 0 : Fin _) : Nat) = (grid2.coords t 0).val := by blk_simp [index₄]
  have h1 : (((win2_4.blk t).view.emb (ix3 (0 : Fin 1) r o) 1 : Fin _) : Nat) = (grid2.coords t 1).val * 1024 + r.val := by blk_simp [index₄]; rfl
  have h2 : (((win2_4.blk t).view.emb (ix3 (0 : Fin 1) r o) 2 : Fin _) : Nat) = o.val := by blk_simp [index₄]; rfl
  unfold whole
  refine congr (congr (congrArg₂ entry (funext fun k => read₀ V c t r k _ _ h0 h1) (funext fun k => ?_)) (read₁ V c t r _ _ h0 h1)) ?_
  · exact (read₂ V c t k o).trans (congrArg (fun e => V c (Proc.devRef .tc main_v31) (ix2 k e)) (Fin.ext h2.symm))
  · exact (read₃ V c t o).trans (congrArg (fun e => V c (Proc.devRef .tc main_v39) (ix2 (0 : Fin 1) e)) (Fin.ext h2.symm))

end Cert.Proof.WholeProj

end
-- ==== Proof.WholePlain.lean ====
/-
  The whole program's reference run as one straight line of host operations, cut into stretches, and what each stretch leaves as a
  function of what it is given.
-/
module

public import proofs.«01_k».proof.Proof.Gen.WholeReferenceIdeal
public import Idealize.ShloMosaic.Lib.StableHlo.Run

@[expose] public section

noncomputable section

namespace Cert.Proof.WholePlain

open Cert.WholeReferenceIdeal Cert.WholeReferenceIdeal.Gen
open Idealize.ShloMosaic Idealize.ShloMosaic.StableHlo Idealize.ShloMosaic.TcCoe
open Idealize.SL.Sem

variable {F : FTy → Type} [FloatOps F]

/-! ## The stretches -/

/-- The three rows of every head. -/
def rowsOps : List (HloOp τ sig (Elt F)) :=
  [binary main_arg0 main_arg3 main_v0 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg4 main_v1 (broadcastInDim S1x1x1024 ![2] bcast_S1024_S1x1x1024_2 : (⟨S1024, .f32⟩ : BufTy).Contents (Elt F) → (⟨S1x1x1024, .f32⟩ : BufTy).Contents (Elt F)),
   unary main_v1 main_v2 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v0 main_v2 main_v3 (addf : (⟨S2x2048x1024, .f32⟩ : BufTy).Contents (Elt F) → (⟨S2x2048x1024, .f32⟩ : BufTy).Contents (Elt F) → (⟨S2x2048x1024, .f32⟩ : BufTy).Contents (Elt F)),
   reshape main_v3 main_v4 (rfl : (.f32 : EltTy) = .f32) shapeCasts_S2x2048x1024_S2x2048x16x64,
   unary main_v4 main_v5 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v5 main_v6 (rfl : (.f32 : EltTy) = .f32) shapeCasts_S2x16x2048x64_S32x2048x64,
   binary main_arg0 main_arg5 main_v7 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg6 main_v8 (broadcastInDim S1x1x1024 ![2] bcast_S1024_S1x1x1024_2 : (⟨S1024, .f32⟩ : BufTy).Contents (Elt F) → (⟨S1x1x1024, .f32⟩ : BufTy).Contents (Elt F)),
   unary main_v8 main_v9 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v7 main_v9 main_v10 (addf : (⟨S2x2048x1024, .f32⟩ : BufTy).Contents (Elt F) → (⟨S2x2048x1024, .f32⟩ : BufTy).Contents (Elt F) → (⟨S2x2048x1024, .f32⟩ : BufTy).Contents (Elt F)),
   reshape main_v10 main_v11 (rfl : (.f32 : EltTy) = .f32) shapeCasts_S2x2048x1024_S2x2048x16x64,
   unary main_v11 main_v12 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v12 main_v13 (rfl : (.f32 : EltTy) = .f32) shapeCasts_S2x16x2048x64_S32x2048x64,
   binary main_arg0 main_arg7 main_v14 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg8 main_v15 (broadcastInDim S1x1x1024 ![2] bcast_S1024_S1x1x1024_2 : (⟨S1024, .f32⟩ : BufTy).Contents (Elt F) → (⟨S1x1x1024, .f32⟩ : BufTy).Contents (Elt F)),
   unary main_v15 main_v16 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v14 main_v16 main_v17 (addf : (⟨S2x2048x1024, .f32⟩ : BufTy).Contents (Elt F) → (⟨S2x2048x1024, .f32⟩ : BufTy).Contents (Elt F) → (⟨S2x2048x1024, .f32⟩ : BufTy).Contents (Elt F)),
   reshape main_v17 main_v18 (rfl : (.f32 : EltTy) = .f32) shapeCasts_S2x2048x1024_S2x2048x16x64,
   unary main_v18 main_v19 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v19 main_v20 (rfl : (.f32 : EltTy) = .f32) shapeCasts_S2x16x2048x64_S32x2048x64]

/-- The mask. -/
def maskOps : List (HloOp τ sig (Elt F)) :=
  [nullary main_v21 (iotaInDim S2048 32 0),
   unary main_arg2 main_v22 (broadcastInDim S2x16 ![0] bcast_S2_S2x16_0 : (⟨S2, .i32⟩ : BufTy).Contents (Elt F) → (⟨S2x16, .i32⟩ : BufTy).Contents (Elt F)),
   reshape main_v22 main_v23 (rfl : (.i32 : EltTy) = .i32) shapeCasts_S2x16_S32,
   unary main_v21 main_v24 (broadcastInDim S1x2048 ![1] bcast_S2048_S1x2048_1 : (⟨S2048, .i32⟩ : BufTy).Contents (Elt F) → (⟨S1x2048, .i32⟩ : BufTy).Contents (Elt F)),
   unary main_v23 main_v25 (broadcastInDim S32x1 ![0] bcast_S32_S32x1_0 : (⟨S32, .i32⟩ : BufTy).Contents (Elt F) → (⟨S32x1, .i32⟩ : BufTy).Contents (Elt F)),
   unary main_v24 main_v26 (broadcastInDim S32x2048 ![0, 1] bcast_S1x2048_S32x2048_0_1 : (⟨S1x2048, .i32⟩ : BufTy).Contents (Elt F) → (⟨S32x2048, .i32⟩ : BufTy).Contents (Elt F)),
   unary main_v25 main_v27 (broadcastInDim S32x2048 ![0, 1] bcast_S32x1_S32x2048_0_1 : (⟨S32x1, .i32⟩ : BufTy).Contents (Elt F) → (⟨S32x2048, .i32⟩ : BufTy).Contents (Elt F)),
   binary main_v26 main_v27 main_v28 (cmpi .slt : (⟨S32x2048, .i32⟩ : BufTy).Contents (Elt F) → (⟨S32x2048, .i32⟩ : BufTy).Contents (Elt F) → (⟨S32x2048, .i1⟩ : BufTy).Contents (Elt F)),
   unary main_arg1 main_v29 (broadcastInDim S2x16x2048 ![0, 2] bcast_S2x2048_S2x16x2048_0_2 : (⟨S2x2048, .i1⟩ : BufTy).Contents (Elt F) → (⟨S2x16x2048, .i1⟩ : BufTy).Contents (Elt F)),
   reshape main_v29 main_v30 (rfl : (.i1 : EltTy) = .i1) shapeCasts_S2x16x2048_S32x2048,
   binary main_v28 main_v30 main_v31 (andi : (⟨S32x2048, .i1⟩ : BufTy).Contents (Elt F) → (⟨S32x2048, .i1⟩ : BufTy).Contents (Elt F) → (⟨S32x2048, .i1⟩ : BufTy).Contents (Elt F)),
   unary main_v31 main_v32 (uitofp .f32 : (⟨S32x2048, .i1⟩ : BufTy).Contents (Elt F) → (⟨S32x2048, .f32⟩ : BufTy).Contents (Elt F)),
   unary main_v32 main_v33 (broadcastInDim S32x2048x1 ![0, 1] bcast_S32x2048_S32x2048x1_0_1 : (⟨S32x2048, .f32⟩ : BufTy).Contents (Elt F) → (⟨S32x2048x1, .f32⟩ : BufTy).Contents (Elt F))]

/-- The starting rows. -/
def seatsOps : List (HloOp τ sig (Elt F)) :=
  [nullary main_c (constantI S_ 32 0#32),
   nullary main_c_0 (constantI S_ 32 2047#32),
   TRef.unary (.of main_c : TRef sig ⟨S_, .i32⟩) (.of main_call0_v0 : TRef sig ⟨S_, .f32⟩) (sitofp .f32),
   TRef.unary (.of main_c_0 : TRef sig ⟨S_, .i32⟩) (.of main_call0_v1 : TRef sig ⟨S_, .f32⟩) (sitofp .f32),
   TRef.binary (.of main_call0_v1 : TRef sig ⟨S_, .f32⟩) (.of main_call0_v0 : TRef sig ⟨S_, .f32⟩) (.of main_call0_v2 : TRef sig ⟨S_, .f32⟩) subf,
   TRef.nullary (.of main_call0_cst : TRef sig ⟨S_, .f32⟩) (constant S_ .f32 0x42FE0000#32),
   TRef.binary (.of main_call0_v2 : TRef sig ⟨S_, .f32⟩) (.of main_call0_cst : TRef sig ⟨S_, .f32⟩) (.of main_call0_v3 : TRef sig ⟨S_, .f32⟩) Host.divf,
   TRef.nullary (.of main_call0_v4 : TRef sig ⟨S127, .f32⟩) (sitofp .f32 (iotaInDim S127 32 0)),
   TRef.nullary (.of main_call0_cst_0 : TRef sig ⟨S_, .f32⟩) (constant S_ .f32 0x42FE0000#32),
   TRef.unary (.of main_call0_cst_0 : TRef sig ⟨S_, .f32⟩) (.of main_call0_v5 : TRef sig ⟨S127, .f32⟩) (broadcastInDim S127 ![] bcast_S_S127),
   TRef.binary (.of main_call0_v4 : TRef sig ⟨S127, .f32⟩) (.of main_call0_v5 : TRef sig ⟨S127, .f32⟩) (.of main_call0_v6 : TRef sig ⟨S127, .f32⟩) Host.divf,
   TRef.reshape (.of main_call0_v0 : TRef sig ⟨S_, .f32⟩) (.of main_call0_v7 : TRef sig ⟨S1, .f32⟩) (rfl : (.f32 : EltTy) = .f32) shapeCasts_S_S1,
   TRef.nullary (.of main_call0_cst_1 : TRef sig ⟨S_, .f32⟩) (constant S_ .f32 0x3F800000#32),
   TRef.unary (.of main_call0_cst_1 : TRef sig ⟨S_, .f32⟩) (.of main_call0_v8 : TRef sig ⟨S127, .f32⟩) (broadcastInDim S127 ![] bcast_S_S127),
   TRef.binary (.of main_call0_v8 : TRef sig ⟨S127, .f32⟩) (.of main_call0_v6 : TRef sig ⟨S127, .f32⟩) (.of main_call0_v9 : TRef sig ⟨S127, .f32⟩) subf,
   TRef.unary (.of main_call0_v7 : TRef sig ⟨S1, .f32⟩) (.of main_call0_v10 : TRef sig ⟨S127, .f32⟩) (broadcastInDim S127 ![0] bcast_S1_S127_0),
   TRef.binary (.of main_call0_v10 : TRef sig ⟨S127, .f32⟩) (.of main_call0_v9 : TRef sig ⟨S127, .f32⟩) (.of main_call0_v11 : TRef sig ⟨S127, .f32⟩) mulf,
   TRef.reshape (.of main_call0_v1 : TRef sig ⟨S_, .f32⟩) (.of main_call0_v12 : TRef sig ⟨S1, .f32⟩) (rfl : (.f32 : EltTy) = .f32) shapeCasts_S_S1,
   TRef.unary (.of main_call0_v12 : TRef sig ⟨S1, .f32⟩) (.of main_call0_v13 : TRef sig ⟨S127, .f32⟩) (broadcastInDim S127 ![0] bcast_S1_S127_0),
   TRef.binary (.of main_call0_v13 : TRef sig ⟨S127, .f32⟩) (.of main_call0_v6 : TRef sig ⟨S127, .f32⟩) (.of main_call0_v14 : TRef sig ⟨S127, .f32⟩) mulf,
   TRef.binary (.of main_call0_v11 : TRef sig ⟨S127, .f32⟩) (.of main_call0_v14 : TRef sig ⟨S127, .f32⟩) (.of main_call0_v15 : TRef sig ⟨S127, .f32⟩) addf,
   TRef.unary (.of main_call0_v1 : TRef sig ⟨S_, .f32⟩) (.of main_call0_v16 : TRef sig ⟨S1, .f32⟩) (broadcastInDim S1 ![] bcast_S_S1),
   TRef.binary (.of main_call0_v15 : TRef sig ⟨S127, .f32⟩) (.of main_call0_v16 : TRef sig ⟨S1, .f32⟩) (.of main_v34 : TRef sig ⟨S128, .f32⟩) (fun a b => concatenate S128 0 [⟨S127, a⟩, ⟨S1, b⟩] concatenates_S127_S1_S128_d0),
   unary main_v34 main_v35 (fptosi 32 : (⟨S128, .f32⟩ : BufTy).Contents (Elt F) → (⟨S128, .i32⟩ : BufTy).Contents (Elt F)),
   nullary main_c_1 (constantI S_ 32 0#32),
   unary main_c_1 main_v36 (broadcastInDim S128 ![] bcast_S_S128 : (⟨S_, .i32⟩ : BufTy).Contents (Elt F) → (⟨S128, .i32⟩ : BufTy).Contents (Elt F)),
   binary main_v35 main_v36 main_v37 (cmpi .slt : (⟨S128, .i32⟩ : BufTy).Contents (Elt F) → (⟨S128, .i32⟩ : BufTy).Contents (Elt F) → (⟨S128, .i1⟩ : BufTy).Contents (Elt F)),
   nullary main_c_2 (constantI S_ 32 2048#32),
   unary main_c_2 main_v38 (broadcastInDim S128 ![] bcast_S_S128 : (⟨S_, .i32⟩ : BufTy).Contents (Elt F) → (⟨S128, .i32⟩ : BufTy).Contents (Elt F)),
   binary main_v35 main_v38 main_v39 (addi : (⟨S128, .i32⟩ : BufTy).Contents (Elt F) → (⟨S128, .i32⟩ : BufTy).Contents (Elt F) → (⟨S128, .i32⟩ : BufTy).Contents (Elt F)),
   ternary main_v37 main_v39 main_v35 main_v40 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
   unary main_v40 main_v41 (broadcastInDim S128x1 ![0] bcast_S128_S128x1_0 : (⟨S128, .i32⟩ : BufTy).Contents (Elt F) → (⟨S128x1, .i32⟩ : BufTy).Contents (Elt F)),
   binary main_v6 main_v41 main_v42 ((fun x i => Host.gather gather_S32x2048x64_S128x1_S32x128x64_02_1_n_n_1_1_32164 x i) : (⟨S32x2048x64, .f32⟩ : BufTy).Contents (Elt F) → (⟨S128x1, .i32⟩ : BufTy).Contents (Elt F) → (⟨S32x128x64, .f32⟩ : BufTy).Contents (Elt F))]

/-- The first distances, -/
def apartOps₁ : List (HloOp τ sig (Elt F)) :=
  [binary main_v6 main_v6 main_v43 (mulf : (⟨S32x2048x64, .f32⟩ : BufTy).Contents (Elt F) → (⟨S32x2048x64, .f32⟩ : BufTy).Contents (Elt F) → (⟨S32x2048x64, .f32⟩ : BufTy).Contents (Elt F)),
   nullary main_cst (constant S_ .f32 0x00000000#32),
   binary main_v43 main_cst main_v44 ((fun x v => Host.reduceAdd x v reducesTo_S32x2048x64_S32x2048_d2 h_S_) : (⟨S32x2048x64, .f32⟩ : BufTy).Contents (Elt F) → (⟨S_, .f32⟩ : BufTy).Contents (Elt F) → (⟨S32x2048, .f32⟩ : BufTy).Contents (Elt F)),
   nullary main_c_3 (constantI S_ 32 0#32),
   unary main_c_3 main_v45 (broadcastInDim S32x2048 ![] bcast_S_S32x2048 : (⟨S_, .i32⟩ : BufTy).Contents (Elt F) → (⟨S32x2048, .i32⟩ : BufTy).Contents (Elt F)),
   unary main_v44 main_v46 (broadcastInDim S32x2048x1 ![0, 1] bcast_S32x2048_S32x2048x1_0_1 : (⟨S32x2048, .f32⟩ : BufTy).Contents (Elt F) → (⟨S32x2048x1, .f32⟩ : BufTy).Contents (Elt F)),
   binary main_v6 main_v42 main_v47 ((fun l r => Host.dotGeneral dot_S32x2048x64_S32x128x64_S32x2048x128_2_2_1_1_0_0 none l r) : (⟨S32x2048x64, .f32⟩ : BufTy).Contents (Elt F) → (⟨S32x128x64, .f32⟩ : BufTy).Contents (Elt F) → (⟨S32x2048x128, .f32⟩ : BufTy).Contents (Elt F)),
   nullary main_cst_4 (constant S_ .f32 0x40000000#32),
   unary main_cst_4 main_v48 (broadcastInDim S32x2048x128 ![] bcast_S_S32x2048x128 : (⟨S_, .f32⟩ : BufTy).Contents (Elt F) → (⟨S32x2048x128, .f32⟩ : BufTy).Contents (Elt F)),
   binary main_v48 main_v47 main_v49 (mulf : (⟨S32x2048x128, .f32⟩ : BufTy).Contents (Elt F) → (⟨S32x2048x128, .f32⟩ : BufTy).Contents (Elt F) → (⟨S32x2048x128, .f32⟩ : BufTy).Contents (Elt F)),
   unary main_v46 main_v50 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v50 main_v49 main_v51 (subf : (⟨S32x2048x128, .f32⟩ : BufTy).Contents (Elt F) → (⟨S32x2048x128, .f32⟩ : BufTy).Contents (Elt F) → (⟨S32x2048x128, .f32⟩ : BufTy).Contents (Elt F)),
   binary main_v42 main_v42 main_v52 (mulf : (⟨S32x128x64, .f32⟩ : BufTy).Contents (Elt F) → (⟨S32x128x64, .f32⟩ : BufTy).Contents (Elt F) → (⟨S32x128x64, .f32⟩ : BufTy).Contents (Elt F)),
   nullary main_cst_5 (constant S_ .f32 0x00000000#32),
   binary main_v52 main_cst_5 main_v53 ((fun x v => Host.reduceAdd x v reducesTo_S32x128x64_S32x128_d2 h_S_) : (⟨S32x128x64, .f32⟩ : BufTy).Contents (Elt F) → (⟨S_, .f32⟩ : BufTy).Contents (Elt F) → (⟨S32x128, .f32⟩ : BufTy).Contents (Elt F)),
   unary main_v53 main_v54 (broadcastInDim S32x1x128 ![0, 2] bcast_S32x128_S32x1x128_0_2 : (⟨S32x128, .f32⟩ : BufTy).Contents (Elt F) → (⟨S32x1x128, .f32⟩ : BufTy).Contents (Elt F)),
   unary main_v54 main_v55 (broadcastInDim S32x2048x128 ![0, 1, 2] bcast_S32x1x128_S32x2048x128_0_1_2 : (⟨S32x1x128, .f32⟩ : BufTy).Contents (Elt F) → (⟨S32x2048x128, .f32⟩ : BufTy).Contents (Elt F)),
   binary main_v51 main_v55 main_v56 (addf : (⟨S32x2048x128, .f32⟩ : BufTy).Contents (Elt F) → (⟨S32x2048x128, .f32⟩ : BufTy).Contents (Elt F) → (⟨S32x2048x128, .f32⟩ : BufTy).Contents (Elt F))]

/-- the nearest centres, -/
def nearOps₁ : List (HloOp τ sig (Elt F)) :=
  [TRef.nullary (.of main_call1_v0 : TRef sig ⟨S32x2048x128, .i32⟩) (iotaInDim S32x2048x128 32 2),
   TRef.nullary (.of main_call1_cst : TRef sig ⟨S_, .f32⟩) (constant S_ .f32 0x7F800000#32),
   TRef.nullary (.of main_call1_c : TRef sig ⟨S_, .i32⟩) (constantI S_ 32 0#32),
   TRef.quaternary (.of main_v56 : TRef sig ⟨S32x2048x128, .f32⟩) (.of main_call1_v0 : TRef sig ⟨S32x2048x128, .i32⟩) (.of main_call1_cst : TRef sig ⟨S_, .f32⟩) (.of main_call1_c : TRef sig ⟨S_, .i32⟩) (.of main_call1_v1_0 : TRef sig ⟨S32x2048, .f32⟩) (fun x y u v j => (Host.argReduce reducer_argmin_f32_i32 x y u v reducesTo_S32x2048x128_S32x2048_d2 h_S_ j).1),
   TRef.quaternary (.of main_v56 : TRef sig ⟨S32x2048x128, .f32⟩) (.of main_call1_v0 : TRef sig ⟨S32x2048x128, .i32⟩) (.of main_call1_cst : TRef sig ⟨S_, .f32⟩) (.of main_call1_c : TRef sig ⟨S_, .i32⟩) (.of main_v57 : TRef sig ⟨S32x2048, .i32⟩) (fun x y u v j => (Host.argReduce reducer_argmin_f32_i32 x y u v reducesTo_S32x2048x128_S32x2048_d2 h_S_ j).2)]

/-- and the first step. -/
def meanOps₁ : List (HloOp τ sig (Elt F)) :=
  [TRef.unary (.of main_v57 : TRef sig ⟨S32x2048, .i32⟩) (.of main_call2_v0 : TRef sig ⟨S32x2048x1, .i32⟩) (broadcastInDim S32x2048x1 ![0, 1] bcast_S32x2048_S32x2048x1_0_1),
   TRef.nullary (.of main_call2_v1 : TRef sig ⟨S1x1x128, .i32⟩) (iotaInDim S1x1x128 32 2),
   TRef.unary (.of main_call2_v0 : TRef sig ⟨S32x2048x1, .i32⟩) (.of main_call2_v2 : TRef sig ⟨S32x2048x128, .i32⟩) (broadcastInDim S32x2048x128 ![0, 1, 2] bcast_S32x2048x1_S32x2048x128_0_1_2),
   TRef.unary (.of main_call2_v1 : TRef sig ⟨S1x1x128, .i32⟩) (.of main_call2_v3 : TRef sig ⟨S32x2048x128, .i32⟩) (broadcastInDim S32x2048x128 ![0, 1, 2] bcast_S1x1x128_S32x2048x128_0_1_2),
   TRef.binary (.of main_call2_v2 : TRef sig ⟨S32x2048x128, .i32⟩) (.of main_call2_v3 : TRef sig ⟨S32x2048x128, .i32⟩) (.of main_call2_v4 : TRef sig ⟨S32x2048x128, .i1⟩) (cmpi .eq),
   TRef.unary (.of main_call2_v4 : TRef sig ⟨S32x2048x128, .i1⟩) (.of main_v58 : TRef sig ⟨S32x2048x128, .f32⟩) (uitofp .f32),
   unary main_v33 main_v59 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v58 main_v59 main_v60 (mulf : (⟨S32x2048x128, .f32⟩ : BufTy).Contents (Elt F) → (⟨S32x2048x128, .f32⟩ : BufTy).Contents (Elt F) → (⟨S32x2048x128, .f32⟩ : BufTy).Contents (Elt F)),
   nullary main_cst_6 (constant S_ .f32 0x00000000#32),
   binary main_v60 main_cst_6 main_v61 ((fun x v => Host.reduceAdd x v reducesTo_S32x2048x128_S32x128_d1 h_S_) : (⟨S32x2048x128, .f32⟩ : BufTy).Contents (Elt F) → (⟨S_, .f32⟩ : BufTy).Contents (Elt F) → (⟨S32x128, .f32⟩ : BufTy).Contents (Elt F)),
   binary main_v60 main_v6 main_v62 ((fun l r => Host.dotGeneral dot_S32x2048x128_S32x2048x64_S32x128x64_1_1_2_2_0_0 none l r) : (⟨S32x2048x128, .f32⟩ : BufTy).Contents (Elt F) → (⟨S32x2048x64, .f32⟩ : BufTy).Contents (Elt F) → (⟨S32x128x64, .f32⟩ : BufTy).Contents (Elt F)),
   nullary main_cst_7 (constant S_ .f32 0x3F800000#32),
   unary main_cst_7 main_v63 (broadcastInDim S32x128 ![] bcast_S_S32x128 : (⟨S_, .f32⟩ : BufTy).Contents (Elt F) → (⟨S32x128, .f32⟩ : BufTy).Contents (Elt F)),
   binary main_v61 main_v63 main_v64 (maximumf : (⟨S32x128, .f32⟩ : BufTy).Contents (Elt F) → (⟨S32x128, .f32⟩ : BufTy).Contents (Elt F) → (⟨S32x128, .f32⟩ : BufTy).Contents (Elt F)),
   unary main_v64 main_v65 (broadcastInDim S32x128x1 ![0, 1] bcast_S32x128_S32x128x1_0_1 : (⟨S32x128, .f32⟩ : BufTy).Contents (Elt F) → (⟨S32x128x1, .f32⟩ : BufTy).Contents (Elt F)),
   unary main_v65 main_v66 (broadcastInDim S32x128x64 ![0, 1, 2] bcast_S32x128x1_S32x128x64_0_1_2 : (⟨S32x128x1, .f32⟩ : BufTy).Contents (Elt F) → (⟨S32x128x64, .f32⟩ : BufTy).Contents (Elt F)),
   binary main_v62 main_v66 main_v67 (Host.divf : (⟨S32x128x64, .f32⟩ : BufTy).Contents (Elt F) → (⟨S32x128x64, .f32⟩ : BufTy).Contents (Elt F) → (⟨S32x128x64, .f32⟩ : BufTy).Contents (Elt F)),
   nullary main_cst_8 (constant S_ .f32 0x00000000#32),
   unary main_cst_8 main_v68 (broadcastInDim S32x128 ![] bcast_S_S32x128 : (⟨S_, .f32⟩ : BufTy).Contents (Elt F) → (⟨S32x128, .f32⟩ : BufTy).Contents (Elt F)),
   binary main_v61 main_v68 main_v69 (cmpf .ogt : (⟨S32x128, .f32⟩ : BufTy).Contents (Elt F) → (⟨S32x128, .f32⟩ : BufTy).Contents (Elt F) → (⟨S32x128, .i1⟩ : BufTy).Contents (Elt F)),
   unary main_v69 main_v70 (broadcastInDim S32x128x1 ![0, 1] bcast_S32x128_S32x128x1_0_1 : (⟨S32x128, .i1⟩ : BufTy).Contents (Elt F) → (⟨S32x128x1, .i1⟩ : BufTy).Contents (Elt F)),
   TRef.unary (.of main_v70 : TRef sig ⟨S32x128x1, .i1⟩) (.of main_call3_v0 : TRef sig ⟨S32x128x64, .i1⟩) (broadcastInDim S32x128x64 ![0, 1, 2] bcast_S32x128x1_S32x128x64_0_1_2),
   TRef.ternary (.of main_call3_v0 : TRef sig ⟨S32x128x64, .i1⟩) (.of main_v67 : TRef sig ⟨S32x128x64, .f32⟩) (.of main_v42 : TRef sig ⟨S32x128x64, .f32⟩) (.of main_v71 : TRef sig ⟨S32x128x64, .f32⟩) select]

/-- The second distances, -/
def apartOps₂ : List (HloOp τ sig (Elt F)) :=
  [unary main_v44 main_v72 (broadcastInDim S32x2048x1 ![0, 1] bcast_S32x2048_S32x2048x1_0_1 : (⟨S32x2048, .f32⟩ : BufTy).Contents (Elt F) → (⟨S32x2048x1, .f32⟩ : BufTy).Contents (Elt F)),
   binary main_v6 main_v71 main_v73 ((fun l r => Host.dotGeneral dot_S32x2048x64_S32x128x64_S32x2048x128_2_2_1_1_0_0 none l r) : (⟨S32x2048x64, .f32⟩ : BufTy).Contents (Elt F) → (⟨S32x128x64, .f32⟩ : BufTy).Contents (Elt F) → (⟨S32x2048x128, .f32⟩ : BufTy).Contents (Elt F)),
   nullary main_cst_9 (constant S_ .f32 0x40000000#32),
   unary main_cst_9 main_v74 (broadcastInDim S32x2048x128 ![] bcast_S_S32x2048x128 : (⟨S_, .f32⟩ : BufTy).Contents (Elt F) → (⟨S32x2048x128, .f32⟩ : BufTy).Contents (Elt F)),
   binary main_v74 main_v73 main_v75 (mulf : (⟨S32x2048x128, .f32⟩ : BufTy).Contents (Elt F) → (⟨S32x2048x128, .f32⟩ : BufTy).Contents (Elt F) → (⟨S32x2048x128, .f32⟩ : BufTy).Contents (Elt F)),
   unary main_v72 main_v76 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v76 main_v75 main_v77 (subf : (⟨S32x2048x128, .f32⟩ : BufTy).Contents (Elt F) → (⟨S32x2048x128, .f32⟩ : BufTy).Contents (Elt F) → (⟨S32x2048x128, .f32⟩ : BufTy).Contents (Elt F)),
   binary main_v71 main_v71 main_v78 (mulf : (⟨S32x128x64, .f32⟩ : BufTy).Contents (Elt F) → (⟨S32x128x64, .f32⟩ : BufTy).Contents (Elt F) → (⟨S32x128x64, .f32⟩ : BufTy).Contents (Elt F)),
   nullary main_cst_10 (constant S_ .f32 0x00000000#32),
   binary main_v78 main_cst_10 main_v79 ((fun x v => Host.reduceAdd x v reducesTo_S32x128x64_S32x128_d2 h_S_) : (⟨S32x128x64, .f32⟩ : BufTy).Contents (Elt F) → (⟨S_, .f32⟩ : BufTy).Contents (Elt F) → (⟨S32x128, .f32⟩ : BufTy).Contents (Elt F)),
   unary main_v79 main_v80 (broadcastInDim S32x1x128 ![0, 2] bcast_S32x128_S32x1x128_0_2 : (⟨S32x128, .f32⟩ : BufTy).Contents (Elt F) → (⟨S32x1x128, .f32⟩ : BufTy).Contents (Elt F)),
   unary main_v80 main_v81 (broadcastInDim S32x2048x128 ![0, 1, 2] bcast_S32x1x128_S32x2048x128_0_1_2 : (⟨S32x1x128, .f32⟩ : BufTy).Contents (Elt F) → (⟨S32x2048x128, .f32⟩ : BufTy).Contents (Elt F)),
   binary main_v77 main_v81 main_v82 (addf : (⟨S32x2048x128, .f32⟩ : BufTy).Contents (Elt F) → (⟨S32x2048x128, .f32⟩ : BufTy).Contents (Elt F) → (⟨S32x2048x128, .f32⟩ : BufTy).Contents (Elt F))]

/-- the nearest centres, -/
def nearOps₂ : List (HloOp τ sig (Elt F)) :=
  [TRef.nullary (.of main_call4_v0 : TRef sig ⟨S32x2048x128, .i32⟩) (iotaInDim S32x2048x128 32 2),
   TRef.nullary (.of main_call4_cst : TRef sig ⟨S_, .f32⟩) (constant S_ .f32 0x7F800000#32),
   TRef.nullary (.of main_call4_c : TRef sig ⟨S_, .i32⟩) (constantI S_ 32 0#32),
   TRef.quaternary (.of main_v82 : TRef sig ⟨S32x2048x128, .f32⟩) (.of main_call4_v0 : TRef sig ⟨S32x2048x128, .i32⟩) (.of main_call4_cst : TRef sig ⟨S_, .f32⟩) (.of main_call4_c : TRef sig ⟨S_, .i32⟩) (.of main_call4_v1_0 : TRef sig ⟨S32x2048, .f32⟩) (fun x y u v j => (Host.argReduce reducer_argmin_f32_i32 x y u v reducesTo_S32x2048x128_S32x2048_d2 h_S_ j).1),
   TRef.quaternary (.of main_v82 : TRef sig ⟨S32x2048x128, .f32⟩) (.of main_call4_v0 : TRef sig ⟨S32x2048x128, .i32⟩) (.of main_call4_cst : TRef sig ⟨S_, .f32⟩) (.of main_call4_c : TRef sig ⟨S_, .i32⟩) (.of main_v83 : TRef sig ⟨S32x2048, .i32⟩) (fun x y u v j => (Host.argReduce reducer_argmin_f32_i32 x y u v reducesTo_S32x2048x128_S32x2048_d2 h_S_ j).2)]

/-- and the second step. -/
def meanOps₂ : List (HloOp τ sig (Elt F)) :=
  [TRef.unary (.of main_v83 : TRef sig ⟨S32x2048, .i32⟩) (.of main_call5_v0 : TRef sig ⟨S32x2048x1, .i32⟩) (broadcastInDim S32x2048x1 ![0, 1] bcast_S32x2048_S32x2048x1_0_1),
   TRef.nullary (.of main_call5_v1 : TRef sig ⟨S1x1x128, .i32⟩) (iotaInDim S1x1x128 32 2),
   TRef.unary (.of main_call5_v0 : TRef sig ⟨S32x2048x1, .i32⟩) (.of main_call5_v2 : TRef sig ⟨S32x2048x128, .i32⟩) (broadcastInDim S32x2048x128 ![0, 1, 2] bcast_S32x2048x1_S32x2048x128_0_1_2),
   TRef.unary (.of main_call5_v1 : TRef sig ⟨S1x1x128, .i32⟩) (.of main_call5_v3 : TRef sig ⟨S32x2048x128, .i32⟩) (broadcastInDim S32x2048x128 ![0, 1, 2] bcast_S1x1x128_S32x2048x128_0_1_2),
   TRef.binary (.of main_call5_v2 : TRef sig ⟨S32x2048x128, .i32⟩) (.of main_call5_v3 : TRef sig ⟨S32x2048x128, .i32⟩) (.of main_call5_v4 : TRef sig ⟨S32x2048x128, .i1⟩) (cmpi .eq),
   TRef.unary (.of main_call5_v4 : TRef sig ⟨S32x2048x128, .i1⟩) (.of main_v84 : TRef sig ⟨S32x2048x128, .f32⟩) (uitofp .f32),
   unary main_v33 main_v85 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v84 main_v85 main_v86 (mulf : (⟨S32x2048x128, .f32⟩ : BufTy).Contents (Elt F) → (⟨S32x2048x128, .f32⟩ : BufTy).Contents (Elt F) → (⟨S32x2048x128, .f32⟩ : BufTy).Contents (Elt F)),
   nullary main_cst_11 (constant S_ .f32 0x00000000#32),
   binary main_v86 main_cst_11 main_v87 ((fun x v => Host.reduceAdd x v reducesTo_S32x2048x128_S32x128_d1 h_S_) : (⟨S32x2048x128, .f32⟩ : BufTy).Contents (Elt F) → (⟨S_, .f32⟩ : BufTy).Contents (Elt F) → (⟨S32x128, .f32⟩ : BufTy).Contents (Elt F)),
   binary main_v86 main_v6 main_v88 ((fun l r => Host.dotGeneral dot_S32x2048x128_S32x2048x64_S32x128x64_1_1_2_2_0_0 none l r) : (⟨S32x2048x128, .f32⟩ : BufTy).Contents (Elt F) → (⟨S32x2048x64, .f32⟩ : BufTy).Contents (Elt F) → (⟨S32x128x64, .f32⟩ : BufTy).Contents (Elt F)),
   nullary main_cst_12 (constant S_ .f32 0x3F800000#32),
   unary main_cst_12 main_v89 (broadcastInDim S32x128 ![] bcast_S_S32x128 : (⟨S_, .f32⟩ : BufTy).Contents (Elt F) → (⟨S32x128, .f32⟩ : BufTy).Contents (Elt F)),
   binary main_v87 main_v89 main_v90 (maximumf : (⟨S32x128, .f32⟩ : BufTy).Contents (Elt F) → (⟨S32x128, .f32⟩ : BufTy).Contents (Elt F) → (⟨S32x128, .f32⟩ : BufTy).Contents (Elt F)),
   unary main_v90 main_v91 (broadcastInDim S32x128x1 ![0, 1] bcast_S32x128_S32x128x1_0_1 : (⟨S32x128, .f32⟩ : BufTy).Contents (Elt F) → (⟨S32x128x1, .f32⟩ : BufTy).Contents (Elt F)),
   unary main_v91 main_v92 (broadcastInDim S32x128x64 ![0, 1, 2] bcast_S32x128x1_S32x128x64_0_1_2 : (⟨S32x128x1, .f32⟩ : BufTy).Contents (Elt F) → (⟨S32x128x64, .f32⟩ : BufTy).Contents (Elt F)),
   binary main_v88 main_v92 main_v93 (Host.divf : (⟨S32x128x64, .f32⟩ : BufTy).Contents (Elt F) → (⟨S32x128x64, .f32⟩ : BufTy).Contents (Elt F) → (⟨S32x128x64, .f32⟩ : BufTy).Contents (Elt F)),
   nullary main_cst_13 (constant S_ .f32 0x00000000#32),
   unary main_cst_13 main_v94 (broadcastInDim S32x128 ![] bcast_S_S32x128 : (⟨S_, .f32⟩ : BufTy).Contents (Elt F) → (⟨S32x128, .f32⟩ : BufTy).Contents (Elt F)),
   binary main_v87 main_v94 main_v95 (cmpf .ogt : (⟨S32x128, .f32⟩ : BufTy).Contents (Elt F) → (⟨S32x128, .f32⟩ : BufTy).Contents (Elt F) → (⟨S32x128, .i1⟩ : BufTy).Contents (Elt F)),
   unary main_v95 main_v96 (broadcastInDim S32x128x1 ![0, 1] bcast_S32x128_S32x128x1_0_1 : (⟨S32x128, .i1⟩ : BufTy).Contents (Elt F) → (⟨S32x128x1, .i1⟩ : BufTy).Contents (Elt F)),
   TRef.unary (.of main_v96 : TRef sig ⟨S32x128x1, .i1⟩) (.of main_call6_v0 : TRef sig ⟨S32x128x64, .i1⟩) (broadcastInDim S32x128x64 ![0, 1, 2] bcast_S32x128x1_S32x128x64_0_1_2),
   TRef.ternary (.of main_call6_v0 : TRef sig ⟨S32x128x64, .i1⟩) (.of main_v93 : TRef sig ⟨S32x128x64, .f32⟩) (.of main_v71 : TRef sig ⟨S32x128x64, .f32⟩) (.of main_v97 : TRef sig ⟨S32x128x64, .f32⟩) select]

/-- The softmax over the keys. -/
def shareOps : List (HloOp τ sig (Elt F)) :=
  [binary main_v97 main_v13 main_v98 ((fun l r => Host.dotGeneral dot_S32x128x64_S32x2048x64_S32x128x2048_2_2_1_1_0_0 none l r) : (⟨S32x128x64, .f32⟩ : BufTy).Contents (Elt F) → (⟨S32x2048x64, .f32⟩ : BufTy).Contents (Elt F) → (⟨S32x128x2048, .f32⟩ : BufTy).Contents (Elt F)),
   nullary main_cst_14 (constant S_ .f32 0x3E000000#32),
   unary main_cst_14 main_v99 (broadcastInDim S32x128x2048 ![] bcast_S_S32x128x2048 : (⟨S_, .f32⟩ : BufTy).Contents (Elt F) → (⟨S32x128x2048, .f32⟩ : BufTy).Contents (Elt F)),
   binary main_v98 main_v99 main_v100 (mulf : (⟨S32x128x2048, .f32⟩ : BufTy).Contents (Elt F) → (⟨S32x128x2048, .f32⟩ : BufTy).Contents (Elt F) → (⟨S32x128x2048, .f32⟩ : BufTy).Contents (Elt F)),
   unary main_v31 main_v101 (broadcastInDim S32x1x2048 ![0, 2] bcast_S32x2048_S32x1x2048_0_2 : (⟨S32x2048, .i1⟩ : BufTy).Contents (Elt F) → (⟨S32x1x2048, .i1⟩ : BufTy).Contents (Elt F)),
   nullary main_cst_15 (constant S_ .f32 0xCE6E6B28#32),
   TRef.unary (.of main_cst_15 : TRef sig ⟨S_, .f32⟩) (.of main_call7_v0 : TRef sig ⟨S_, .f32⟩) id,
   TRef.unary (.of main_v101 : TRef sig ⟨S32x1x2048, .i1⟩) (.of main_call7_v1 : TRef sig ⟨S32x128x2048, .i1⟩) (broadcastInDim S32x128x2048 ![0, 1, 2] bcast_S32x1x2048_S32x128x2048_0_1_2),
   TRef.unary (.of main_call7_v0 : TRef sig ⟨S_, .f32⟩) (.of main_call7_v2 : TRef sig ⟨S32x128x2048, .f32⟩) (broadcastInDim S32x128x2048 ![] bcast_S_S32x128x2048),
   TRef.ternary (.of main_call7_v1 : TRef sig ⟨S32x128x2048, .i1⟩) (.of main_v100 : TRef sig ⟨S32x128x2048, .f32⟩) (.of main_call7_v2 : TRef sig ⟨S32x128x2048, .f32⟩) (.of main_v102 : TRef sig ⟨S32x128x2048, .f32⟩) select,
   nullary main_cst_16 (constant S_ .f32 0xFF800000#32),
   binary main_v102 main_cst_16 main_v103 ((fun x v => Host.reduce FloatOps.maximumf x v reducesTo_S32x128x2048_S32x128_d2 h_S_) : (⟨S32x128x2048, .f32⟩ : BufTy).Contents (Elt F) → (⟨S_, .f32⟩ : BufTy).Contents (Elt F) → (⟨S32x128, .f32⟩ : BufTy).Contents (Elt F)),
   nullary main_cst_17 (constant S_ .f32 0xFF800000#32),
   unary main_cst_17 main_v104 (broadcastInDim S32x128 ![] bcast_S_S32x128 : (⟨S_, .f32⟩ : BufTy).Contents (Elt F) → (⟨S32x128, .f32⟩ : BufTy).Contents (Elt F)),
   binary main_v104 main_v103 main_v105 (maximumf : (⟨S32x128, .f32⟩ : BufTy).Contents (Elt F) → (⟨S32x128, .f32⟩ : BufTy).Contents (Elt F) → (⟨S32x128, .f32⟩ : BufTy).Contents (Elt F)),
   unary main_v105 main_v106 (broadcastInDim S32x128x1 ![0, 1] bcast_S32x128_S32x128x1_0_1 : (⟨S32x128, .f32⟩ : BufTy).Contents (Elt F) → (⟨S32x128x1, .f32⟩ : BufTy).Contents (Elt F)),
   unary main_v106 main_v107 (broadcastInDim S32x128x2048 ![0, 1, 2] bcast_S32x128x1_S32x128x2048_0_1_2 : (⟨S32x128x1, .f32⟩ : BufTy).Contents (Elt F) → (⟨S32x128x2048, .f32⟩ : BufTy).Contents (Elt F)),
   binary main_v102 main_v107 main_v108 (subf : (⟨S32x128x2048, .f32⟩ : BufTy).Contents (Elt F) → (⟨S32x128x2048, .f32⟩ : BufTy).Contents (Elt F) → (⟨S32x128x2048, .f32⟩ : BufTy).Contents (Elt F)),
   unary main_v108 main_v109 (Host.exp : (⟨S32x128x2048, .f32⟩ : BufTy).Contents (Elt F) → (⟨S32x128x2048, .f32⟩ : BufTy).Contents (Elt F)),
   nullary main_cst_18 (constant S_ .f32 0x00000000#32),
   binary main_v109 main_cst_18 main_v110 ((fun x v => Host.reduceAdd x v reducesTo_S32x128x2048_S32x128_d2 h_S_) : (⟨S32x128x2048, .f32⟩ : BufTy).Contents (Elt F) → (⟨S_, .f32⟩ : BufTy).Contents (Elt F) → (⟨S32x128, .f32⟩ : BufTy).Contents (Elt F)),
   unary main_v110 main_v111 (broadcastInDim S32x128x1 ![0, 1] bcast_S32x128_S32x128x1_0_1 : (⟨S32x128, .f32⟩ : BufTy).Contents (Elt F) → (⟨S32x128x1, .f32⟩ : BufTy).Contents (Elt F)),
   unary main_v111 main_v112 (broadcastInDim S32x128x2048 ![0, 1, 2] bcast_S32x128x1_S32x128x2048_0_1_2 : (⟨S32x128x1, .f32⟩ : BufTy).Contents (Elt F) → (⟨S32x128x2048, .f32⟩ : BufTy).Contents (Elt F)),
   binary main_v109 main_v112 main_v113 (Host.divf : (⟨S32x128x2048, .f32⟩ : BufTy).Contents (Elt F) → (⟨S32x128x2048, .f32⟩ : BufTy).Contents (Elt F) → (⟨S32x128x2048, .f32⟩ : BufTy).Contents (Elt F))]

/-- The attention of the centres. -/
def mixOps : List (HloOp τ sig (Elt F)) :=
  [binary main_v113 main_v20 main_v114 ((fun l r => Host.dotGeneral dot_S32x128x2048_S32x2048x64_S32x128x64_2_1_1_2_0_0 none l r) : (⟨S32x128x2048, .f32⟩ : BufTy).Contents (Elt F) → (⟨S32x2048x64, .f32⟩ : BufTy).Contents (Elt F) → (⟨S32x128x64, .f32⟩ : BufTy).Contents (Elt F))]

/-- Each row of its centre, -/
def pickOps : List (HloOp τ sig (Elt F)) :=
  [unary main_v83 main_v115 (broadcastInDim S32x2048x1 ![0, 1] bcast_S32x2048_S32x2048x1_0_1 : (⟨S32x2048, .i32⟩ : BufTy).Contents (Elt F) → (⟨S32x2048x1, .i32⟩ : BufTy).Contents (Elt F)),
   unary main_v115 main_v116 (broadcastInDim S32x2048x64 ![0, 1, 2] bcast_S32x2048x1_S32x2048x64_0_1_2 : (⟨S32x2048x1, .i32⟩ : BufTy).Contents (Elt F) → (⟨S32x2048x64, .i32⟩ : BufTy).Contents (Elt F)),
   TRef.nullary (.of main_call8_c : TRef sig ⟨S_, .i32⟩) (constantI S_ 32 0#32),
   TRef.unary (.of main_call8_c : TRef sig ⟨S_, .i32⟩) (.of main_call8_v0 : TRef sig ⟨S32x2048x64, .i32⟩) (broadcastInDim S32x2048x64 ![] bcast_S_S32x2048x64),
   TRef.binary (.of main_v116 : TRef sig ⟨S32x2048x64, .i32⟩) (.of main_call8_v0 : TRef sig ⟨S32x2048x64, .i32⟩) (.of main_call8_v1 : TRef sig ⟨S32x2048x64, .i1⟩) (cmpi .slt),
   TRef.nullary (.of main_call8_c_0 : TRef sig ⟨S_, .i32⟩) (constantI S_ 32 128#32),
   TRef.unary (.of main_call8_c_0 : TRef sig ⟨S_, .i32⟩) (.of main_call8_v2 : TRef sig ⟨S32x2048x64, .i32⟩) (broadcastInDim S32x2048x64 ![] bcast_S_S32x2048x64),
   TRef.binary (.of main_v116 : TRef sig ⟨S32x2048x64, .i32⟩) (.of main_call8_v2 : TRef sig ⟨S32x2048x64, .i32⟩) (.of main_call8_v3 : TRef sig ⟨S32x2048x64, .i32⟩) addi,
   TRef.ternary (.of main_call8_v1 : TRef sig ⟨S32x2048x64, .i1⟩) (.of main_call8_v3 : TRef sig ⟨S32x2048x64, .i32⟩) (.of main_v116 : TRef sig ⟨S32x2048x64, .i32⟩) (.of main_call8_v4 : TRef sig ⟨S32x2048x64, .i32⟩) select,
   TRef.reshape (.of main_call8_v4 : TRef sig ⟨S32x2048x64, .i32⟩) (.of main_call8_v5 : TRef sig ⟨S32x2048x64x1, .i32⟩) (rfl : (.i32 : EltTy) = .i32) shapeCasts_S32x2048x64_S32x2048x64x1,
   TRef.nullary (.of main_call8_c_1 : TRef sig ⟨S1, .i32⟩) (constantI S1 32 127#32),
   TRef.nullary (.of main_call8_c_2 : TRef sig ⟨S_, .i32⟩) (constantI S_ 32 0#32),
   TRef.unary (.of main_call8_c_2 : TRef sig ⟨S_, .i32⟩) (.of main_call8_v6 : TRef sig ⟨S32x2048x64x1, .i32⟩) (broadcastInDim S32x2048x64x1 ![] bcast_S_S32x2048x64x1),
   TRef.binary (.of main_call8_v5 : TRef sig ⟨S32x2048x64x1, .i32⟩) (.of main_call8_v6 : TRef sig ⟨S32x2048x64x1, .i32⟩) (.of main_call8_v7 : TRef sig ⟨S32x2048x64x1, .i1⟩) (cmpi .sge),
   TRef.unary (.of main_call8_c_1 : TRef sig ⟨S1, .i32⟩) (.of main_call8_v8 : TRef sig ⟨S1x1x1x1, .i32⟩) (broadcastInDim S1x1x1x1 ![3] bcast_S1_S1x1x1x1_3),
   TRef.unary (.of main_call8_v8 : TRef sig ⟨S1x1x1x1, .i32⟩) (.of main_call8_v9 : TRef sig ⟨S32x2048x64x1, .i32⟩) (broadcastInDim S32x2048x64x1 ![0, 1, 2, 3] bcast_S1x1x1x1_S32x2048x64x1_0_1_2_3),
   TRef.binary (.of main_call8_v5 : TRef sig ⟨S32x2048x64x1, .i32⟩) (.of main_call8_v9 : TRef sig ⟨S32x2048x64x1, .i32⟩) (.of main_call8_v10 : TRef sig ⟨S32x2048x64x1, .i1⟩) (cmpi .sle),
   TRef.binary (.of main_call8_v7 : TRef sig ⟨S32x2048x64x1, .i1⟩) (.of main_call8_v10 : TRef sig ⟨S32x2048x64x1, .i1⟩) (.of main_call8_v11 : TRef sig ⟨S32x2048x64x1, .i1⟩) andi,
   TRef.nullary (.of main_call8_c_3 : TRef sig ⟨S_, .i1⟩) (constantI S_ 1 1#1),
   TRef.binary (.of main_call8_v11 : TRef sig ⟨S32x2048x64x1, .i1⟩) (.of main_call8_c_3 : TRef sig ⟨S_, .i1⟩) (.of main_call8_v12 : TRef sig ⟨S32x2048x64, .i1⟩) (fun x v => Host.reduce IntOp.andi x v reducesTo_S32x2048x64x1_S32x2048x64_d3 h_S_),
   TRef.binary (.of main_v114 : TRef sig ⟨S32x128x64, .f32⟩) (.of main_call8_v5 : TRef sig ⟨S32x2048x64x1, .i32⟩) (.of main_call8_v13 : TRef sig ⟨S32x2048x64, .f32⟩) (fun x i => Host.gather gather_S32x128x64_S32x2048x64x1_S32x2048x64_n_1_02_02_1_3_111 x i),
   TRef.nullary (.of main_call8_cst : TRef sig ⟨S_, .f32⟩) (constant S_ .f32 0x7FC00000#32),
   TRef.unary (.of main_call8_cst : TRef sig ⟨S_, .f32⟩) (.of main_call8_v14 : TRef sig ⟨S32x2048x64, .f32⟩) (broadcastInDim S32x2048x64 ![] bcast_S_S32x2048x64),
   TRef.ternary (.of main_call8_v12 : TRef sig ⟨S32x2048x64, .i1⟩) (.of main_call8_v13 : TRef sig ⟨S32x2048x64, .f32⟩) (.of main_call8_v14 : TRef sig ⟨S32x2048x64, .f32⟩) (.of main_v117 : TRef sig ⟨S32x2048x64, .f32⟩) select]

/-- masked, the heads side by side, against the weights, with the bias. -/
def outOps : List (HloOp τ sig (Elt F)) :=
  [unary main_v33 main_v118 (broadcastInDim S32x2048x64 ![0, 1, 2] bcast_S32x2048x1_S32x2048x64_0_1_2 : (⟨S32x2048x1, .f32⟩ : BufTy).Contents (Elt F) → (⟨S32x2048x64, .f32⟩ : BufTy).Contents (Elt F)),
   binary main_v117 main_v118 main_v119 (mulf : (⟨S32x2048x64, .f32⟩ : BufTy).Contents (Elt F) → (⟨S32x2048x64, .f32⟩ : BufTy).Contents (Elt F) → (⟨S32x2048x64, .f32⟩ : BufTy).Contents (Elt F)),
   reshape main_v119 main_v120 (rfl : (.f32 : EltTy) = .f32) shapeCasts_S32x2048x64_S2x16x2048x64,
   unary main_v120 main_v121 ((transpose S2x2048x16x64 [0, 2, 1, 3] · transposes_S2x16x2048x64_S2x2048x16x64_0_2_1_3) : (⟨S2x16x2048x64, .f32⟩ : BufTy).Contents (Elt F) → (⟨S2x2048x16x64, .f32⟩ : BufTy).Contents (Elt F)),
   reshape main_v121 main_v122 (rfl : (.f32 : EltTy) = .f32) shapeCasts_S2x2048x16x64_S2x2048x1024,
   binary main_v122 main_arg9 main_v123 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg10 main_v124 (broadcastInDim S1x1x1024 ![2] bcast_S1024_S1x1x1024_2 : (⟨S1024, .f32⟩ : BufTy).Contents (Elt F) → (⟨S1x1x1024, .f32⟩ : BufTy).Contents (Elt F)),
   unary main_v124 main_v125 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v123 main_v125 main_v126 (addf : (⟨S2x2048x1024, .f32⟩ : BufTy).Contents (Elt F) → (⟨S2x2048x1024, .f32⟩ : BufTy).Contents (Elt F) → (⟨S2x2048x1024, .f32⟩ : BufTy).Contents (Elt F))]

/-- The whole line. -/
def line : List (HloOp τ sig (Elt F)) :=
  rowsOps ++ maskOps ++ seatsOps ++ apartOps₁ ++ nearOps₁ ++ meanOps₁ ++ apartOps₂ ++ nearOps₂ ++ meanOps₂ ++ shareOps ++ mixOps ++ pickOps ++ outOps

set_option maxRecDepth 16384 in
set_option maxHeartbeats 4000000 in
/-- @main is that line. -/
theorem main_eq (d : Dev nD) : main (F := F) d = seq line := rfl

theorem rowsOps_sub : (rowsOps (F := F)).Forall fun op => op.bufs ⊆ tcRefs τ sig := by
  unfold rowsOps
  exact ⟨binary_bufs_sub .., unary_bufs_sub .., unary_bufs_sub .., binary_bufs_sub .., reshape_bufs_sub .., unary_bufs_sub .., reshape_bufs_sub .., binary_bufs_sub .., unary_bufs_sub .., unary_bufs_sub .., binary_bufs_sub .., reshape_bufs_sub .., unary_bufs_sub .., reshape_bufs_sub .., binary_bufs_sub .., unary_bufs_sub .., unary_bufs_sub .., binary_bufs_sub .., reshape_bufs_sub .., unary_bufs_sub .., reshape_bufs_sub ..⟩
theorem maskOps_sub : (maskOps (F := F)).Forall fun op => op.bufs ⊆ tcRefs τ sig := by
  unfold maskOps
  exact ⟨nullary_bufs_sub .., unary_bufs_sub .., reshape_bufs_sub .., unary_bufs_sub .., unary_bufs_sub .., unary_bufs_sub .., unary_bufs_sub .., binary_bufs_sub .., unary_bufs_sub .., reshape_bufs_sub .., binary_bufs_sub .., unary_bufs_sub .., unary_bufs_sub ..⟩
theorem seatsOps_sub : (seatsOps (F := F)).Forall fun op => op.bufs ⊆ tcRefs τ sig := by
  unfold seatsOps
  exact ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem apartOps₁_sub : (apartOps₁ (F := F)).Forall fun op => op.bufs ⊆ tcRefs τ sig := by
  unfold apartOps₁
  exact ⟨binary_bufs_sub .., nullary_bufs_sub .., binary_bufs_sub .., nullary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem nearOps₁_sub : (nearOps₁ (F := F)).Forall fun op => op.bufs ⊆ tcRefs τ sig := by
  unfold nearOps₁
  exact ⟨nullary_bufs_sub .., nullary_bufs_sub .., nullary_bufs_sub .., quaternary_bufs_sub .., quaternary_bufs_sub ..⟩
theorem meanOps₁_sub : (meanOps₁ (F := F)).Forall fun op => op.bufs ⊆ tcRefs τ sig := by
  unfold meanOps₁
  exact ⟨unary_bufs_sub .., nullary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩
theorem apartOps₂_sub : (apartOps₂ (F := F)).Forall fun op => op.bufs ⊆ tcRefs τ sig := by
  unfold apartOps₂
  exact ⟨unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem nearOps₂_sub : (nearOps₂ (F := F)).Forall fun op => op.bufs ⊆ tcRefs τ sig := by
  unfold nearOps₂
  exact ⟨nullary_bufs_sub .., nullary_bufs_sub .., nullary_bufs_sub .., quaternary_bufs_sub .., quaternary_bufs_sub ..⟩
theorem meanOps₂_sub : (meanOps₂ (F := F)).Forall fun op => op.bufs ⊆ tcRefs τ sig := by
  unfold meanOps₂
  exact ⟨unary_bufs_sub .., nullary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩
theorem shareOps_sub : (shareOps (F := F)).Forall fun op => op.bufs ⊆ tcRefs τ sig := by
  unfold shareOps
  exact ⟨binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem mixOps_sub : (mixOps (F := F)).Forall fun op => op.bufs ⊆ tcRefs τ sig := by
  unfold mixOps
  exact binary_bufs_sub ..
theorem pickOps_sub : (pickOps (F := F)).Forall fun op => op.bufs ⊆ tcRefs τ sig := by
  unfold pickOps
  exact ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem outOps_sub : (outOps (F := F)).Forall fun op => op.bufs ⊆ tcRefs τ sig := by
  unfold outOps
  exact ⟨unary_bufs_sub .., binary_bufs_sub .., reshape_bufs_sub .., unary_bufs_sub .., reshape_bufs_sub .., binary_bufs_sub .., unary_bufs_sub .., unary_bufs_sub .., binary_bufs_sub ..⟩

theorem line_sub : (line (F := F)).Forall fun op => op.bufs ⊆ tcRefs τ sig := by
  unfold line
  simp only [List.forall_append]
  exact ⟨⟨⟨⟨⟨⟨⟨⟨⟨⟨⟨⟨rowsOps_sub, maskOps_sub⟩, seatsOps_sub⟩, apartOps₁_sub⟩, nearOps₁_sub⟩, meanOps₁_sub⟩, apartOps₂_sub⟩, nearOps₂_sub⟩, meanOps₂_sub⟩, shareOps_sub⟩, mixOps_sub⟩, pickOps_sub⟩, outOps_sub⟩

set_option maxRecDepth 16384 in
set_option maxHeartbeats 4000000 in
theorem line_fresh : (line (F := F)).Forall fun op => op.fresh = ∅ :=
  have h : (line (F := F)).map (·.fresh) = line.map fun _ => ∅ := rfl
  List.forall_iff_forall_mem.2 (List.map_inj_left.1 h)

/-! ## What each stretch writes -/

def rowsOpsW : List (Ref sig .tc) := [main_v0, main_v1, main_v2, main_v3, main_v4, main_v5, main_v6, main_v7, main_v8, main_v9, main_v10, main_v11, main_v12, main_v13, main_v14, main_v15, main_v16, main_v17, main_v18, main_v19, main_v20]
def maskOpsW : List (Ref sig .tc) := [main_v21, main_v22, main_v23, main_v24, main_v25, main_v26, main_v27, main_v28, main_v29, main_v30, main_v31, main_v32, main_v33]
def seatsOpsW : List (Ref sig .tc) := [main_c, main_c_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v34, main_v35, main_c_1, main_v36, main_v37, main_c_2, main_v38, main_v39, main_v40, main_v41, main_v42]
def apartOps₁W : List (Ref sig .tc) := [main_v43, main_cst, main_v44, main_c_3, main_v45, main_v46, main_v47, main_cst_4, main_v48, main_v49, main_v50, main_v51, main_v52, main_cst_5, main_v53, main_v54, main_v55, main_v56]
def nearOps₁W : List (Ref sig .tc) := [main_call1_v0, main_call1_cst, main_call1_c, main_call1_v1_0, main_v57]
def meanOps₁W : List (Ref sig .tc) := [main_call2_v0, main_call2_v1, main_call2_v2, main_call2_v3, main_call2_v4, main_v58, main_v59, main_v60, main_cst_6, main_v61, main_v62, main_cst_7, main_v63, main_v64, main_v65, main_v66, main_v67, main_cst_8, main_v68, main_v69, main_v70, main_call3_v0, main_v71]
def apartOps₂W : List (Ref sig .tc) := [main_v72, main_v73, main_cst_9, main_v74, main_v75, main_v76, main_v77, main_v78, main_cst_10, main_v79, main_v80, main_v81, main_v82]
def nearOps₂W : List (Ref sig .tc) := [main_call4_v0, main_call4_cst, main_call4_c, main_call4_v1_0, main_v83]
def meanOps₂W : List (Ref sig .tc) := [main_call5_v0, main_call5_v1, main_call5_v2, main_call5_v3, main_call5_v4, main_v84, main_v85, main_v86, main_cst_11, main_v87, main_v88, main_cst_12, main_v89, main_v90, main_v91, main_v92, main_v93, main_cst_13, main_v94, main_v95, main_v96, main_call6_v0, main_v97]
def shareOpsW : List (Ref sig .tc) := [main_v98, main_cst_14, main_v99, main_v100, main_v101, main_cst_15, main_call7_v0, main_call7_v1, main_call7_v2, main_v102, main_cst_16, main_v103, main_cst_17, main_v104, main_v105, main_v106, main_v107, main_v108, main_v109, main_cst_18, main_v110, main_v111, main_v112, main_v113]
def mixOpsW : List (Ref sig .tc) := [main_v114]
def pickOpsW : List (Ref sig .tc) := [main_v115, main_v116, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v117]
def outOpsW : List (Ref sig .tc) := [main_v118, main_v119, main_v120, main_v121, main_v122, main_v123, main_v124, main_v125, main_v126]

theorem rowsOps_keeps (V : Valuation τ sig (Elt F)) (r : Ref sig .tc) (h : r ∉ rowsOpsW) : after rowsOps V (Proc.devRef .tc r) = V (Proc.devRef .tc r) :=
  after_of_writes_sub (W := rowsOpsW) _ _ (forall_writes_sub_of_map rfl) h
theorem maskOps_keeps (V : Valuation τ sig (Elt F)) (r : Ref sig .tc) (h : r ∉ maskOpsW) : after maskOps V (Proc.devRef .tc r) = V (Proc.devRef .tc r) :=
  after_of_writes_sub (W := maskOpsW) _ _ (forall_writes_sub_of_map rfl) h
theorem seatsOps_keeps (V : Valuation τ sig (Elt F)) (r : Ref sig .tc) (h : r ∉ seatsOpsW) : after seatsOps V (Proc.devRef .tc r) = V (Proc.devRef .tc r) :=
  after_of_writes_sub (W := seatsOpsW) _ _ (forall_writes_sub_of_map rfl) h
theorem apartOps₁_keeps (V : Valuation τ sig (Elt F)) (r : Ref sig .tc) (h : r ∉ apartOps₁W) : after apartOps₁ V (Proc.devRef .tc r) = V (Proc.devRef .tc r) :=
  after_of_writes_sub (W := apartOps₁W) _ _ (forall_writes_sub_of_map rfl) h
theorem nearOps₁_keeps (V : Valuation τ sig (Elt F)) (r : Ref sig .tc) (h : r ∉ nearOps₁W) : after nearOps₁ V (Proc.devRef .tc r) = V (Proc.devRef .tc r) :=
  after_of_writes_sub (W := nearOps₁W) _ _ (forall_writes_sub_of_map rfl) h
theorem meanOps₁_keeps (V : Valuation τ sig (Elt F)) (r : Ref sig .tc) (h : r ∉ meanOps₁W) : after meanOps₁ V (Proc.devRef .tc r) = V (Proc.devRef .tc r) :=
  after_of_writes_sub (W := meanOps₁W) _ _ (forall_writes_sub_of_map rfl) h
theorem apartOps₂_keeps (V : Valuation τ sig (Elt F)) (r : Ref sig .tc) (h : r ∉ apartOps₂W) : after apartOps₂ V (Proc.devRef .tc r) = V (Proc.devRef .tc r) :=
  after_of_writes_sub (W := apartOps₂W) _ _ (forall_writes_sub_of_map rfl) h
theorem nearOps₂_keeps (V : Valuation τ sig (Elt F)) (r : Ref sig .tc) (h : r ∉ nearOps₂W) : after nearOps₂ V (Proc.devRef .tc r) = V (Proc.devRef .tc r) :=
  after_of_writes_sub (W := nearOps₂W) _ _ (forall_writes_sub_of_map rfl) h
theorem meanOps₂_keeps (V : Valuation τ sig (Elt F)) (r : Ref sig .tc) (h : r ∉ meanOps₂W) : after meanOps₂ V (Proc.devRef .tc r) = V (Proc.devRef .tc r) :=
  after_of_writes_sub (W := meanOps₂W) _ _ (forall_writes_sub_of_map rfl) h
theorem shareOps_keeps (V : Valuation τ sig (Elt F)) (r : Ref sig .tc) (h : r ∉ shareOpsW) : after shareOps V (Proc.devRef .tc r) = V (Proc.devRef .tc r) :=
  after_of_writes_sub (W := shareOpsW) _ _ (forall_writes_sub_of_map rfl) h
theorem mixOps_keeps (V : Valuation τ sig (Elt F)) (r : Ref sig .tc) (h : r ∉ mixOpsW) : after mixOps V (Proc.devRef .tc r) = V (Proc.devRef .tc r) :=
  after_of_writes_sub (W := mixOpsW) _ _ (forall_writes_sub_of_map rfl) h
theorem pickOps_keeps (V : Valuation τ sig (Elt F)) (r : Ref sig .tc) (h : r ∉ pickOpsW) : after pickOps V (Proc.devRef .tc r) = V (Proc.devRef .tc r) :=
  after_of_writes_sub (W := pickOpsW) _ _ (forall_writes_sub_of_map rfl) h
theorem outOps_keeps (V : Valuation τ sig (Elt F)) (r : Ref sig .tc) (h : r ∉ outOpsW) : after outOps V (Proc.devRef .tc r) = V (Proc.devRef .tc r) :=
  after_of_writes_sub (W := outOpsW) _ _ (forall_writes_sub_of_map rfl) h

end Cert.Proof.WholePlain

end
-- ==== Proof.Plain.lean ====
/-
  The attention's reference run as one straight line of host operations, cut into stretches, and what each stretch leaves as a
  function of what it is given.
-/
module

public import proofs.«01_k».proof.Proof.Gen.AttnReferenceIdeal
public import Idealize.ShloMosaic.Lib.StableHlo.Run

@[expose] public section

noncomputable section

namespace Cert.Proof.Plain

open Cert.AttnReferenceIdeal Cert.AttnReferenceIdeal.Gen
open Idealize.ShloMosaic Idealize.ShloMosaic.StableHlo Idealize.ShloMosaic.TcCoe
open Idealize.SL.Sem

variable {F : FTy → Type} [FloatOps F]

/-! ## The stretches -/

/-- The three rows of every head. -/
def rowsOps : List (HloOp τ sig (Elt F)) :=
  [binary main_arg0 main_arg3 main_v0 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg4 main_v1 (broadcastInDim S1x1x1024 ![2] bcast_S1024_S1x1x1024_2 : (⟨S1024, .f32⟩ : BufTy).Contents (Elt F) → (⟨S1x1x1024, .f32⟩ : BufTy).Contents (Elt F)),
   unary main_v1 main_v2 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v0 main_v2 main_v3 (addf : (⟨S2x2048x1024, .f32⟩ : BufTy).Contents (Elt F) → (⟨S2x2048x1024, .f32⟩ : BufTy).Contents (Elt F) → (⟨S2x2048x1024, .f32⟩ : BufTy).Contents (Elt F)),
   reshape main_v3 main_v4 (rfl : (.f32 : EltTy) = .f32) shapeCasts_S2x2048x1024_S2x2048x16x64,
   unary main_v4 main_v5 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v5 main_v6 (rfl : (.f32 : EltTy) = .f32) shapeCasts_S2x16x2048x64_S32x2048x64,
   binary main_arg0 main_arg5 main_v7 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg6 main_v8 (broadcastInDim S1x1x1024 ![2] bcast_S1024_S1x1x1024_2 : (⟨S1024, .f32⟩ : BufTy).Contents (Elt F) → (⟨S1x1x1024, .f32⟩ : BufTy).Contents (Elt F)),
   unary main_v8 main_v9 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v7 main_v9 main_v10 (addf : (⟨S2x2048x1024, .f32⟩ : BufTy).Contents (Elt F) → (⟨S2x2048x1024, .f32⟩ : BufTy).Contents (Elt F) → (⟨S2x2048x1024, .f32⟩ : BufTy).Contents (Elt F)),
   reshape main_v10 main_v11 (rfl : (.f32 : EltTy) = .f32) shapeCasts_S2x2048x1024_S2x2048x16x64,
   unary main_v11 main_v12 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v12 main_v13 (rfl : (.f32 : EltTy) = .f32) shapeCasts_S2x16x2048x64_S32x2048x64,
   binary main_arg0 main_arg7 main_v14 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
   unary main_arg8 main_v15 (broadcastInDim S1x1x1024 ![2] bcast_S1024_S1x1x1024_2 : (⟨S1024, .f32⟩ : BufTy).Contents (Elt F) → (⟨S1x1x1024, .f32⟩ : BufTy).Contents (Elt F)),
   unary main_v15 main_v16 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
   binary main_v14 main_v16 main_v17 (addf : (⟨S2x2048x1024, .f32⟩ : BufTy).Contents (Elt F) → (⟨S2x2048x1024, .f32⟩ : BufTy).Contents (Elt F) → (⟨S2x2048x1024, .f32⟩ : BufTy).Contents (Elt F)),
   reshape main_v17 main_v18 (rfl : (.f32 : EltTy) = .f32) shapeCasts_S2x2048x1024_S2x2048x16x64,
   unary main_v18 main_v19 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
   reshape main_v19 main_v20 (rfl : (.f32 : EltTy) = .f32) shapeCasts_S2x16x2048x64_S32x2048x64]

/-- The mask. -/
def maskOps : List (HloOp τ sig (Elt F)) :=
  [nullary main_v21 (iotaInDim S2048 32 0),
   unary main_arg2 main_v22 (broadcastInDim S2x16 ![0] bcast_S2_S2x16_0 : (⟨S2, .i32⟩ : BufTy).Contents (Elt F) → (⟨S2x16, .i32⟩ : BufTy).Contents (Elt F)),
   reshape main_v22 main_v23 (rfl : (.i32 : EltTy) = .i32) shapeCasts_S2x16_S32,
   unary main_v21 main_v24 (broadcastInDim S1x2048 ![1] bcast_S2048_S1x2048_1 : (⟨S2048, .i32⟩ : BufTy).Contents (Elt F) → (⟨S1x2048, .i32⟩ : BufTy).Contents (Elt F)),
   unary main_v23 main_v25 (broadcastInDim S32x1 ![0] bcast_S32_S32x1_0 : (⟨S32, .i32⟩ : BufTy).Contents (Elt F) → (⟨S32x1, .i32⟩ : BufTy).Contents (Elt F)),
   unary main_v24 main_v26 (broadcastInDim S32x2048 ![0, 1] bcast_S1x2048_S32x2048_0_1 : (⟨S1x2048, .i32⟩ : BufTy).Contents (Elt F) → (⟨S32x2048, .i32⟩ : BufTy).Contents (Elt F)),
   unary main_v25 main_v27 (broadcastInDim S32x2048 ![0, 1] bcast_S32x1_S32x2048_0_1 : (⟨S32x1, .i32⟩ : BufTy).Contents (Elt F) → (⟨S32x2048, .i32⟩ : BufTy).Contents (Elt F)),
   binary main_v26 main_v27 main_v28 (cmpi .slt : (⟨S32x2048, .i32⟩ : BufTy).Contents (Elt F) → (⟨S32x2048, .i32⟩ : BufTy).Contents (Elt F) → (⟨S32x2048, .i1⟩ : BufTy).Contents (Elt F)),
   unary main_arg1 main_v29 (broadcastInDim S2x16x2048 ![0, 2] bcast_S2x2048_S2x16x2048_0_2 : (⟨S2x2048, .i1⟩ : BufTy).Contents (Elt F) → (⟨S2x16x2048, .i1⟩ : BufTy).Contents (Elt F)),
   reshape main_v29 main_v30 (rfl : (.i1 : EltTy) = .i1) shapeCasts_S2x16x2048_S32x2048,
   binary main_v28 main_v30 main_v31 (andi : (⟨S32x2048, .i1⟩ : BufTy).Contents (Elt F) → (⟨S32x2048, .i1⟩ : BufTy).Contents (Elt F) → (⟨S32x2048, .i1⟩ : BufTy).Contents (Elt F)),
   unary main_v31 main_v32 (uitofp .f32 : (⟨S32x2048, .i1⟩ : BufTy).Contents (Elt F) → (⟨S32x2048, .f32⟩ : BufTy).Contents (Elt F)),
   unary main_v32 main_v33 (broadcastInDim S32x2048x1 ![0, 1] bcast_S32x2048_S32x2048x1_0_1 : (⟨S32x2048, .f32⟩ : BufTy).Contents (Elt F) → (⟨S32x2048x1, .f32⟩ : BufTy).Contents (Elt F))]

/-- The starting rows. -/
def seatsOps : List (HloOp τ sig (Elt F)) :=
  [nullary main_c (constantI S_ 32 0#32),
   nullary main_c_0 (constantI S_ 32 2047#32),
   TRef.unary (.of main_c : TRef sig ⟨S_, .i32⟩) (.of main_call0_v0 : TRef sig ⟨S_, .f32⟩) (sitofp .f32),
   TRef.unary (.of main_c_0 : TRef sig ⟨S_, .i32⟩) (.of main_call0_v1 : TRef sig ⟨S_, .f32⟩) (sitofp .f32),
   TRef.binary (.of main_call0_v1 : TRef sig ⟨S_, .f32⟩) (.of main_call0_v0 : TRef sig ⟨S_, .f32⟩) (.of main_call0_v2 : TRef sig ⟨S_, .f32⟩) subf,
   TRef.nullary (.of main_call0_cst : TRef sig ⟨S_, .f32⟩) (constant S_ .f32 0x42FE0000#32),
   TRef.binary (.of main_call0_v2 : TRef sig ⟨S_, .f32⟩) (.of main_call0_cst : TRef sig ⟨S_, .f32⟩) (.of main_call0_v3 : TRef sig ⟨S_, .f32⟩) Host.divf,
   TRef.nullary (.of main_call0_v4 : TRef sig ⟨S127, .f32⟩) (sitofp .f32 (iotaInDim S127 32 0)),
   TRef.nullary (.of main_call0_cst_0 : TRef sig ⟨S_, .f32⟩) (constant S_ .f32 0x42FE0000#32),
   TRef.unary (.of main_call0_cst_0 : TRef sig ⟨S_, .f32⟩) (.of main_call0_v5 : TRef sig ⟨S127, .f32⟩) (broadcastInDim S127 ![] bcast_S_S127),
   TRef.binary (.of main_call0_v4 : TRef sig ⟨S127, .f32⟩) (.of main_call0_v5 : TRef sig ⟨S127, .f32⟩) (.of main_call0_v6 : TRef sig ⟨S127, .f32⟩) Host.divf,
   TRef.reshape (.of main_call0_v0 : TRef sig ⟨S_, .f32⟩) (.of main_call0_v7 : TRef sig ⟨S1, .f32⟩) (rfl : (.f32 : EltTy) = .f32) shapeCasts_S_S1,
   TRef.nullary (.of main_call0_cst_1 : TRef sig ⟨S_, .f32⟩) (constant S_ .f32 0x3F800000#32),
   TRef.unary (.of main_call0_cst_1 : TRef sig ⟨S_, .f32⟩) (.of main_call0_v8 : TRef sig ⟨S127, .f32⟩) (broadcastInDim S127 ![] bcast_S_S127),
   TRef.binary (.of main_call0_v8 : TRef sig ⟨S127, .f32⟩) (.of main_call0_v6 : TRef sig ⟨S127, .f32⟩) (.of main_call0_v9 : TRef sig ⟨S127, .f32⟩) subf,
   TRef.unary (.of main_call0_v7 : TRef sig ⟨S1, .f32⟩) (.of main_call0_v10 : TRef sig ⟨S127, .f32⟩) (broadcastInDim S127 ![0] bcast_S1_S127_0),
   TRef.binary (.of main_call0_v10 : TRef sig ⟨S127, .f32⟩) (.of main_call0_v9 : TRef sig ⟨S127, .f32⟩) (.of main_call0_v11 : TRef sig ⟨S127, .f32⟩) mulf,
   TRef.reshape (.of main_call0_v1 : TRef sig ⟨S_, .f32⟩) (.of main_call0_v12 : TRef sig ⟨S1, .f32⟩) (rfl : (.f32 : EltTy) = .f32) shapeCasts_S_S1,
   TRef.unary (.of main_call0_v12 : TRef sig ⟨S1, .f32⟩) (.of main_call0_v13 : TRef sig ⟨S127, .f32⟩) (broadcastInDim S127 ![0] bcast_S1_S127_0),
   TRef.binary (.of main_call0_v13 : TRef sig ⟨S127, .f32⟩) (.of main_call0_v6 : TRef sig ⟨S127, .f32⟩) (.of main_call0_v14 : TRef sig ⟨S127, .f32⟩) mulf,
   TRef.binary (.of main_call0_v11 : TRef sig ⟨S127, .f32⟩) (.of main_call0_v14 : TRef sig ⟨S127, .f32⟩) (.of main_call0_v15 : TRef sig ⟨S127, .f32⟩) addf,
   TRef.unary (.of main_call0_v1 : TRef sig ⟨S_, .f32⟩) (.of main_call0_v16 : TRef sig ⟨S1, .f32⟩) (broadcastInDim S1 ![] bcast_S_S1),
   TRef.binary (.of main_call0_v15 : TRef sig ⟨S127, .f32⟩) (.of main_call0_v16 : TRef sig ⟨S1, .f32⟩) (.of main_v34 : TRef sig ⟨S128, .f32⟩) (fun a b => concatenate S128 0 [⟨S127, a⟩, ⟨S1, b⟩] concatenates_S127_S1_S128_d0),
   unary main_v34 main_v35 (fptosi 32 : (⟨S128, .f32⟩ : BufTy).Contents (Elt F) → (⟨S128, .i32⟩ : BufTy).Contents (Elt F)),
   nullary main_c_1 (constantI S_ 32 0#32),
   unary main_c_1 main_v36 (broadcastInDim S128 ![] bcast_S_S128 : (⟨S_, .i32⟩ : BufTy).Contents (Elt F) → (⟨S128, .i32⟩ : BufTy).Contents (Elt F)),
   binary main_v35 main_v36 main_v37 (cmpi .slt : (⟨S128, .i32⟩ : BufTy).Contents (Elt F) → (⟨S128, .i32⟩ : BufTy).Contents (Elt F) → (⟨S128, .i1⟩ : BufTy).Contents (Elt F)),
   nullary main_c_2 (constantI S_ 32 2048#32),
   unary main_c_2 main_v38 (broadcastInDim S128 ![] bcast_S_S128 : (⟨S_, .i32⟩ : BufTy).Contents (Elt F) → (⟨S128, .i32⟩ : BufTy).Contents (Elt F)),
   binary main_v35 main_v38 main_v39 (addi : (⟨S128, .i32⟩ : BufTy).Contents (Elt F) → (⟨S128, .i32⟩ : BufTy).Contents (Elt F) → (⟨S128, .i32⟩ : BufTy).Contents (Elt F)),
   ternary main_v37 main_v39 main_v35 main_v40 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
   unary main_v40 main_v41 (broadcastInDim S128x1 ![0] bcast_S128_S128x1_0 : (⟨S128, .i32⟩ : BufTy).Contents (Elt F) → (⟨S128x1, .i32⟩ : BufTy).Contents (Elt F)),
   binary main_v6 main_v41 main_v42 ((fun x i => Host.gather gather_S32x2048x64_S128x1_S32x128x64_02_1_n_n_1_1_32164 x i) : (⟨S32x2048x64, .f32⟩ : BufTy).Contents (Elt F) → (⟨S128x1, .i32⟩ : BufTy).Contents (Elt F) → (⟨S32x128x64, .f32⟩ : BufTy).Contents (Elt F))]

/-- The first distances, -/
def apartOps₁ : List (HloOp τ sig (Elt F)) :=
  [binary main_v6 main_v6 main_v43 (mulf : (⟨S32x2048x64, .f32⟩ : BufTy).Contents (Elt F) → (⟨S32x2048x64, .f32⟩ : BufTy).Contents (Elt F) → (⟨S32x2048x64, .f32⟩ : BufTy).Contents (Elt F)),
   nullary main_cst (constant S_ .f32 0x00000000#32),
   binary main_v43 main_cst main_v44 ((fun x v => Host.reduceAdd x v reducesTo_S32x2048x64_S32x2048_d2 h_S_) : (⟨S32x2048x64, .f32⟩ : BufTy).Contents (Elt F) → (⟨S_, .f32⟩ : BufTy).Contents (Elt F) → (⟨S32x2048, .f32⟩ : BufTy).Contents (Elt F)),
   nullary main_c_3 (constantI S_ 32 0#32),
   unary main_c_3 main_v45 (broadcastInDim S32x2048 ![] bcast_S_S32x2048 : (⟨S_, .i32⟩ : BufTy).Contents (Elt F) → (⟨S32x2048, .i32⟩ : BufTy).Contents (Elt F)),
   unary main_v44 main_v46 (broadcastInDim S32x2048x1 ![0, 1] bcast_S32x2048_S32x2048x1_0_1 : (⟨S32x2048, .f32⟩ : BufTy).Contents (Elt F) → (⟨S32x2048x1, .f32⟩ : BufTy).Contents (Elt F)),
   binary main_v6 main_v42 main_v47 ((fun l r => Host.dotGeneral dot_S32x2048x64_S32x128x64_S32x2048x128_2_2_1_1_0_0 none l r) : (⟨S32x2048x64, .f32⟩ : BufTy).Contents (Elt F) → (⟨S32x128x64, .f32⟩ : BufTy).Contents (Elt F) → (⟨S32x2048x128, .f32⟩ : BufTy).Contents (Elt F)),
   nullary main_cst_4 (constant S_ .f32 0x40000000#32),
   unary main_cst_4 main_v48 (broadcastInDim S32x2048x128 ![] bcast_S_S32x2048x128 : (⟨S_, .f32⟩ : BufTy).Contents (Elt F) → (⟨S32x2048x128, .f32⟩ : BufTy).Contents (Elt F)),
   binary main_v48 main_v47 main_v49 (mulf : (⟨S32x2048x128, .f32⟩ : BufTy).Contents (Elt F) → (⟨S32x2048x128, .f32⟩ : BufTy).Contents (Elt F) → (⟨S32x2048x128, .f32⟩ : BufTy).Contents (Elt F)),
   unary main_v46 main_v50 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v50 main_v49 main_v51 (subf : (⟨S32x2048x128, .f32⟩ : BufTy).Contents (Elt F) → (⟨S32x2048x128, .f32⟩ : BufTy).Contents (Elt F) → (⟨S32x2048x128, .f32⟩ : BufTy).Contents (Elt F)),
   binary main_v42 main_v42 main_v52 (mulf : (⟨S32x128x64, .f32⟩ : BufTy).Contents (Elt F) → (⟨S32x128x64, .f32⟩ : BufTy).Contents (Elt F) → (⟨S32x128x64, .f32⟩ : BufTy).Contents (Elt F)),
   nullary main_cst_5 (constant S_ .f32 0x00000000#32),
   binary main_v52 main_cst_5 main_v53 ((fun x v => Host.reduceAdd x v reducesTo_S32x128x64_S32x128_d2 h_S_) : (⟨S32x128x64, .f32⟩ : BufTy).Contents (Elt F) → (⟨S_, .f32⟩ : BufTy).Contents (Elt F) → (⟨S32x128, .f32⟩ : BufTy).Contents (Elt F)),
   unary main_v53 main_v54 (broadcastInDim S32x1x128 ![0, 2] bcast_S32x128_S32x1x128_0_2 : (⟨S32x128, .f32⟩ : BufTy).Contents (Elt F) → (⟨S32x1x128, .f32⟩ : BufTy).Contents (Elt F)),
   unary main_v54 main_v55 (broadcastInDim S32x2048x128 ![0, 1, 2] bcast_S32x1x128_S32x2048x128_0_1_2 : (⟨S32x1x128, .f32⟩ : BufTy).Contents (Elt F) → (⟨S32x2048x128, .f32⟩ : BufTy).Contents (Elt F)),
   binary main_v51 main_v55 main_v56 (addf : (⟨S32x2048x128, .f32⟩ : BufTy).Contents (Elt F) → (⟨S32x2048x128, .f32⟩ : BufTy).Contents (Elt F) → (⟨S32x2048x128, .f32⟩ : BufTy).Contents (Elt F))]

/-- the nearest centres, -/
def nearOps₁ : List (HloOp τ sig (Elt F)) :=
  [TRef.nullary (.of main_call1_v0 : TRef sig ⟨S32x2048x128, .i32⟩) (iotaInDim S32x2048x128 32 2),
   TRef.nullary (.of main_call1_cst : TRef sig ⟨S_, .f32⟩) (constant S_ .f32 0x7F800000#32),
   TRef.nullary (.of main_call1_c : TRef sig ⟨S_, .i32⟩) (constantI S_ 32 0#32),
   TRef.quaternary (.of main_v56 : TRef sig ⟨S32x2048x128, .f32⟩) (.of main_call1_v0 : TRef sig ⟨S32x2048x128, .i32⟩) (.of main_call1_cst : TRef sig ⟨S_, .f32⟩) (.of main_call1_c : TRef sig ⟨S_, .i32⟩) (.of main_call1_v1_0 : TRef sig ⟨S32x2048, .f32⟩) (fun x y u v j => (Host.argReduce reducer_argmin_f32_i32 x y u v reducesTo_S32x2048x128_S32x2048_d2 h_S_ j).1),
   TRef.quaternary (.of main_v56 : TRef sig ⟨S32x2048x128, .f32⟩) (.of main_call1_v0 : TRef sig ⟨S32x2048x128, .i32⟩) (.of main_call1_cst : TRef sig ⟨S_, .f32⟩) (.of main_call1_c : TRef sig ⟨S_, .i32⟩) (.of main_v57 : TRef sig ⟨S32x2048, .i32⟩) (fun x y u v j => (Host.argReduce reducer_argmin_f32_i32 x y u v reducesTo_S32x2048x128_S32x2048_d2 h_S_ j).2)]

/-- and the first step. -/
def meanOps₁ : List (HloOp τ sig (Elt F)) :=
  [TRef.unary (.of main_v57 : TRef sig ⟨S32x2048, .i32⟩) (.of main_call2_v0 : TRef sig ⟨S32x2048x1, .i32⟩) (broadcastInDim S32x2048x1 ![0, 1] bcast_S32x2048_S32x2048x1_0_1),
   TRef.nullary (.of main_call2_v1 : TRef sig ⟨S1x1x128, .i32⟩) (iotaInDim S1x1x128 32 2),
   TRef.unary (.of main_call2_v0 : TRef sig ⟨S32x2048x1, .i32⟩) (.of main_call2_v2 : TRef sig ⟨S32x2048x128, .i32⟩) (broadcastInDim S32x2048x128 ![0, 1, 2] bcast_S32x2048x1_S32x2048x128_0_1_2),
   TRef.unary (.of main_call2_v1 : TRef sig ⟨S1x1x128, .i32⟩) (.of main_call2_v3 : TRef sig ⟨S32x2048x128, .i32⟩) (broadcastInDim S32x2048x128 ![0, 1, 2] bcast_S1x1x128_S32x2048x128_0_1_2),
   TRef.binary (.of main_call2_v2 : TRef sig ⟨S32x2048x128, .i32⟩) (.of main_call2_v3 : TRef sig ⟨S32x2048x128, .i32⟩) (.of main_call2_v4 : TRef sig ⟨S32x2048x128, .i1⟩) (cmpi .eq),
   TRef.unary (.of main_call2_v4 : TRef sig ⟨S32x2048x128, .i1⟩) (.of main_v58 : TRef sig ⟨S32x2048x128, .f32⟩) (uitofp .f32),
   unary main_v33 main_v59 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v58 main_v59 main_v60 (mulf : (⟨S32x2048x128, .f32⟩ : BufTy).Contents (Elt F) → (⟨S32x2048x128, .f32⟩ : BufTy).Contents (Elt F) → (⟨S32x2048x128, .f32⟩ : BufTy).Contents (Elt F)),
   nullary main_cst_6 (constant S_ .f32 0x00000000#32),
   binary main_v60 main_cst_6 main_v61 ((fun x v => Host.reduceAdd x v reducesTo_S32x2048x128_S32x128_d1 h_S_) : (⟨S32x2048x128, .f32⟩ : BufTy).Contents (Elt F) → (⟨S_, .f32⟩ : BufTy).Contents (Elt F) → (⟨S32x128, .f32⟩ : BufTy).Contents (Elt F)),
   binary main_v60 main_v6 main_v62 ((fun l r => Host.dotGeneral dot_S32x2048x128_S32x2048x64_S32x128x64_1_1_2_2_0_0 none l r) : (⟨S32x2048x128, .f32⟩ : BufTy).Contents (Elt F) → (⟨S32x2048x64, .f32⟩ : BufTy).Contents (Elt F) → (⟨S32x128x64, .f32⟩ : BufTy).Contents (Elt F)),
   nullary main_cst_7 (constant S_ .f32 0x3F800000#32),
   unary main_cst_7 main_v63 (broadcastInDim S32x128 ![] bcast_S_S32x128 : (⟨S_, .f32⟩ : BufTy).Contents (Elt F) → (⟨S32x128, .f32⟩ : BufTy).Contents (Elt F)),
   binary main_v61 main_v63 main_v64 (maximumf : (⟨S32x128, .f32⟩ : BufTy).Contents (Elt F) → (⟨S32x128, .f32⟩ : BufTy).Contents (Elt F) → (⟨S32x128, .f32⟩ : BufTy).Contents (Elt F)),
   unary main_v64 main_v65 (broadcastInDim S32x128x1 ![0, 1] bcast_S32x128_S32x128x1_0_1 : (⟨S32x128, .f32⟩ : BufTy).Contents (Elt F) → (⟨S32x128x1, .f32⟩ : BufTy).Contents (Elt F)),
   unary main_v65 main_v66 (broadcastInDim S32x128x64 ![0, 1, 2] bcast_S32x128x1_S32x128x64_0_1_2 : (⟨S32x128x1, .f32⟩ : BufTy).Contents (Elt F) → (⟨S32x128x64, .f32⟩ : BufTy).Contents (Elt F)),
   binary main_v62 main_v66 main_v67 (Host.divf : (⟨S32x128x64, .f32⟩ : BufTy).Contents (Elt F) → (⟨S32x128x64, .f32⟩ : BufTy).Contents (Elt F) → (⟨S32x128x64, .f32⟩ : BufTy).Contents (Elt F)),
   nullary main_cst_8 (constant S_ .f32 0x00000000#32),
   unary main_cst_8 main_v68 (broadcastInDim S32x128 ![] bcast_S_S32x128 : (⟨S_, .f32⟩ : BufTy).Contents (Elt F) → (⟨S32x128, .f32⟩ : BufTy).Contents (Elt F)),
   binary main_v61 main_v68 main_v69 (cmpf .ogt : (⟨S32x128, .f32⟩ : BufTy).Contents (Elt F) → (⟨S32x128, .f32⟩ : BufTy).Contents (Elt F) → (⟨S32x128, .i1⟩ : BufTy).Contents (Elt F)),
   unary main_v69 main_v70 (broadcastInDim S32x128x1 ![0, 1] bcast_S32x128_S32x128x1_0_1 : (⟨S32x128, .i1⟩ : BufTy).Contents (Elt F) → (⟨S32x128x1, .i1⟩ : BufTy).Contents (Elt F)),
   TRef.unary (.of main_v70 : TRef sig ⟨S32x128x1, .i1⟩) (.of main_call3_v0 : TRef sig ⟨S32x128x64, .i1⟩) (broadcastInDim S32x128x64 ![0, 1, 2] bcast_S32x128x1_S32x128x64_0_1_2),
   TRef.ternary (.of main_call3_v0 : TRef sig ⟨S32x128x64, .i1⟩) (.of main_v67 : TRef sig ⟨S32x128x64, .f32⟩) (.of main_v42 : TRef sig ⟨S32x128x64, .f32⟩) (.of main_v71 : TRef sig ⟨S32x128x64, .f32⟩) select]

/-- The second distances, -/
def apartOps₂ : List (HloOp τ sig (Elt F)) :=
  [unary main_v44 main_v72 (broadcastInDim S32x2048x1 ![0, 1] bcast_S32x2048_S32x2048x1_0_1 : (⟨S32x2048, .f32⟩ : BufTy).Contents (Elt F) → (⟨S32x2048x1, .f32⟩ : BufTy).Contents (Elt F)),
   binary main_v6 main_v71 main_v73 ((fun l r => Host.dotGeneral dot_S32x2048x64_S32x128x64_S32x2048x128_2_2_1_1_0_0 none l r) : (⟨S32x2048x64, .f32⟩ : BufTy).Contents (Elt F) → (⟨S32x128x64, .f32⟩ : BufTy).Contents (Elt F) → (⟨S32x2048x128, .f32⟩ : BufTy).Contents (Elt F)),
   nullary main_cst_9 (constant S_ .f32 0x40000000#32),
   unary main_cst_9 main_v74 (broadcastInDim S32x2048x128 ![] bcast_S_S32x2048x128 : (⟨S_, .f32⟩ : BufTy).Contents (Elt F) → (⟨S32x2048x128, .f32⟩ : BufTy).Contents (Elt F)),
   binary main_v74 main_v73 main_v75 (mulf : (⟨S32x2048x128, .f32⟩ : BufTy).Contents (Elt F) → (⟨S32x2048x128, .f32⟩ : BufTy).Contents (Elt F) → (⟨S32x2048x128, .f32⟩ : BufTy).Contents (Elt F)),
   unary main_v72 main_v76 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v76 main_v75 main_v77 (subf : (⟨S32x2048x128, .f32⟩ : BufTy).Contents (Elt F) → (⟨S32x2048x128, .f32⟩ : BufTy).Contents (Elt F) → (⟨S32x2048x128, .f32⟩ : BufTy).Contents (Elt F)),
   binary main_v71 main_v71 main_v78 (mulf : (⟨S32x128x64, .f32⟩ : BufTy).Contents (Elt F) → (⟨S32x128x64, .f32⟩ : BufTy).Contents (Elt F) → (⟨S32x128x64, .f32⟩ : BufTy).Contents (Elt F)),
   nullary main_cst_10 (constant S_ .f32 0x00000000#32),
   binary main_v78 main_cst_10 main_v79 ((fun x v => Host.reduceAdd x v reducesTo_S32x128x64_S32x128_d2 h_S_) : (⟨S32x128x64, .f32⟩ : BufTy).Contents (Elt F) → (⟨S_, .f32⟩ : BufTy).Contents (Elt F) → (⟨S32x128, .f32⟩ : BufTy).Contents (Elt F)),
   unary main_v79 main_v80 (broadcastInDim S32x1x128 ![0, 2] bcast_S32x128_S32x1x128_0_2 : (⟨S32x128, .f32⟩ : BufTy).Contents (Elt F) → (⟨S32x1x128, .f32⟩ : BufTy).Contents (Elt F)),
   unary main_v80 main_v81 (broadcastInDim S32x2048x128 ![0, 1, 2] bcast_S32x1x128_S32x2048x128_0_1_2 : (⟨S32x1x128, .f32⟩ : BufTy).Contents (Elt F) → (⟨S32x2048x128, .f32⟩ : BufTy).Contents (Elt F)),
   binary main_v77 main_v81 main_v82 (addf : (⟨S32x2048x128, .f32⟩ : BufTy).Contents (Elt F) → (⟨S32x2048x128, .f32⟩ : BufTy).Contents (Elt F) → (⟨S32x2048x128, .f32⟩ : BufTy).Contents (Elt F))]

/-- the nearest centres, -/
def nearOps₂ : List (HloOp τ sig (Elt F)) :=
  [TRef.nullary (.of main_call4_v0 : TRef sig ⟨S32x2048x128, .i32⟩) (iotaInDim S32x2048x128 32 2),
   TRef.nullary (.of main_call4_cst : TRef sig ⟨S_, .f32⟩) (constant S_ .f32 0x7F800000#32),
   TRef.nullary (.of main_call4_c : TRef sig ⟨S_, .i32⟩) (constantI S_ 32 0#32),
   TRef.quaternary (.of main_v82 : TRef sig ⟨S32x2048x128, .f32⟩) (.of main_call4_v0 : TRef sig ⟨S32x2048x128, .i32⟩) (.of main_call4_cst : TRef sig ⟨S_, .f32⟩) (.of main_call4_c : TRef sig ⟨S_, .i32⟩) (.of main_call4_v1_0 : TRef sig ⟨S32x2048, .f32⟩) (fun x y u v j => (Host.argReduce reducer_argmin_f32_i32 x y u v reducesTo_S32x2048x128_S32x2048_d2 h_S_ j).1),
   TRef.quaternary (.of main_v82 : TRef sig ⟨S32x2048x128, .f32⟩) (.of main_call4_v0 : TRef sig ⟨S32x2048x128, .i32⟩) (.of main_call4_cst : TRef sig ⟨S_, .f32⟩) (.of main_call4_c : TRef sig ⟨S_, .i32⟩) (.of main_v83 : TRef sig ⟨S32x2048, .i32⟩) (fun x y u v j => (Host.argReduce reducer_argmin_f32_i32 x y u v reducesTo_S32x2048x128_S32x2048_d2 h_S_ j).2)]

/-- and the second step. -/
def meanOps₂ : List (HloOp τ sig (Elt F)) :=
  [TRef.unary (.of main_v83 : TRef sig ⟨S32x2048, .i32⟩) (.of main_call5_v0 : TRef sig ⟨S32x2048x1, .i32⟩) (broadcastInDim S32x2048x1 ![0, 1] bcast_S32x2048_S32x2048x1_0_1),
   TRef.nullary (.of main_call5_v1 : TRef sig ⟨S1x1x128, .i32⟩) (iotaInDim S1x1x128 32 2),
   TRef.unary (.of main_call5_v0 : TRef sig ⟨S32x2048x1, .i32⟩) (.of main_call5_v2 : TRef sig ⟨S32x2048x128, .i32⟩) (broadcastInDim S32x2048x128 ![0, 1, 2] bcast_S32x2048x1_S32x2048x128_0_1_2),
   TRef.unary (.of main_call5_v1 : TRef sig ⟨S1x1x128, .i32⟩) (.of main_call5_v3 : TRef sig ⟨S32x2048x128, .i32⟩) (broadcastInDim S32x2048x128 ![0, 1, 2] bcast_S1x1x128_S32x2048x128_0_1_2),
   TRef.binary (.of main_call5_v2 : TRef sig ⟨S32x2048x128, .i32⟩) (.of main_call5_v3 : TRef sig ⟨S32x2048x128, .i32⟩) (.of main_call5_v4 : TRef sig ⟨S32x2048x128, .i1⟩) (cmpi .eq),
   TRef.unary (.of main_call5_v4 : TRef sig ⟨S32x2048x128, .i1⟩) (.of main_v84 : TRef sig ⟨S32x2048x128, .f32⟩) (uitofp .f32),
   unary main_v33 main_v85 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
   binary main_v84 main_v85 main_v86 (mulf : (⟨S32x2048x128, .f32⟩ : BufTy).Contents (Elt F) → (⟨S32x2048x128, .f32⟩ : BufTy).Contents (Elt F) → (⟨S32x2048x128, .f32⟩ : BufTy).Contents (Elt F)),
   nullary main_cst_11 (constant S_ .f32 0x00000000#32),
   binary main_v86 main_cst_11 main_v87 ((fun x v => Host.reduceAdd x v reducesTo_S32x2048x128_S32x128_d1 h_S_) : (⟨S32x2048x128, .f32⟩ : BufTy).Contents (Elt F) → (⟨S_, .f32⟩ : BufTy).Contents (Elt F) → (⟨S32x128, .f32⟩ : BufTy).Contents (Elt F)),
   binary main_v86 main_v6 main_v88 ((fun l r => Host.dotGeneral dot_S32x2048x128_S32x2048x64_S32x128x64_1_1_2_2_0_0 none l r) : (⟨S32x2048x128, .f32⟩ : BufTy).Contents (Elt F) → (⟨S32x2048x64, .f32⟩ : BufTy).Contents (Elt F) → (⟨S32x128x64, .f32⟩ : BufTy).Contents (Elt F)),
   nullary main_cst_12 (constant S_ .f32 0x3F800000#32),
   unary main_cst_12 main_v89 (broadcastInDim S32x128 ![] bcast_S_S32x128 : (⟨S_, .f32⟩ : BufTy).Contents (Elt F) → (⟨S32x128, .f32⟩ : BufTy).Contents (Elt F)),
   binary main_v87 main_v89 main_v90 (maximumf : (⟨S32x128, .f32⟩ : BufTy).Contents (Elt F) → (⟨S32x128, .f32⟩ : BufTy).Contents (Elt F) → (⟨S32x128, .f32⟩ : BufTy).Contents (Elt F)),
   unary main_v90 main_v91 (broadcastInDim S32x128x1 ![0, 1] bcast_S32x128_S32x128x1_0_1 : (⟨S32x128, .f32⟩ : BufTy).Contents (Elt F) → (⟨S32x128x1, .f32⟩ : BufTy).Contents (Elt F)),
   unary main_v91 main_v92 (broadcastInDim S32x128x64 ![0, 1, 2] bcast_S32x128x1_S32x128x64_0_1_2 : (⟨S32x128x1, .f32⟩ : BufTy).Contents (Elt F) → (⟨S32x128x64, .f32⟩ : BufTy).Contents (Elt F)),
   binary main_v88 main_v92 main_v93 (Host.divf : (⟨S32x128x64, .f32⟩ : BufTy).Contents (Elt F) → (⟨S32x128x64, .f32⟩ : BufTy).Contents (Elt F) → (⟨S32x128x64, .f32⟩ : BufTy).Contents (Elt F)),
   nullary main_cst_13 (constant S_ .f32 0x00000000#32),
   unary main_cst_13 main_v94 (broadcastInDim S32x128 ![] bcast_S_S32x128 : (⟨S_, .f32⟩ : BufTy).Contents (Elt F) → (⟨S32x128, .f32⟩ : BufTy).Contents (Elt F)),
   binary main_v87 main_v94 main_v95 (cmpf .ogt : (⟨S32x128, .f32⟩ : BufTy).Contents (Elt F) → (⟨S32x128, .f32⟩ : BufTy).Contents (Elt F) → (⟨S32x128, .i1⟩ : BufTy).Contents (Elt F)),
   unary main_v95 main_v96 (broadcastInDim S32x128x1 ![0, 1] bcast_S32x128_S32x128x1_0_1 : (⟨S32x128, .i1⟩ : BufTy).Contents (Elt F) → (⟨S32x128x1, .i1⟩ : BufTy).Contents (Elt F)),
   TRef.unary (.of main_v96 : TRef sig ⟨S32x128x1, .i1⟩) (.of main_call6_v0 : TRef sig ⟨S32x128x64, .i1⟩) (broadcastInDim S32x128x64 ![0, 1, 2] bcast_S32x128x1_S32x128x64_0_1_2),
   TRef.ternary (.of main_call6_v0 : TRef sig ⟨S32x128x64, .i1⟩) (.of main_v93 : TRef sig ⟨S32x128x64, .f32⟩) (.of main_v71 : TRef sig ⟨S32x128x64, .f32⟩) (.of main_v97 : TRef sig ⟨S32x128x64, .f32⟩) select]

/-- The softmax over the keys. -/
def shareOps : List (HloOp τ sig (Elt F)) :=
  [binary main_v97 main_v13 main_v98 ((fun l r => Host.dotGeneral dot_S32x128x64_S32x2048x64_S32x128x2048_2_2_1_1_0_0 none l r) : (⟨S32x128x64, .f32⟩ : BufTy).Contents (Elt F) → (⟨S32x2048x64, .f32⟩ : BufTy).Contents (Elt F) → (⟨S32x128x2048, .f32⟩ : BufTy).Contents (Elt F)),
   nullary main_cst_14 (constant S_ .f32 0x3E000000#32),
   unary main_cst_14 main_v99 (broadcastInDim S32x128x2048 ![] bcast_S_S32x128x2048 : (⟨S_, .f32⟩ : BufTy).Contents (Elt F) → (⟨S32x128x2048, .f32⟩ : BufTy).Contents (Elt F)),
   binary main_v98 main_v99 main_v100 (mulf : (⟨S32x128x2048, .f32⟩ : BufTy).Contents (Elt F) → (⟨S32x128x2048, .f32⟩ : BufTy).Contents (Elt F) → (⟨S32x128x2048, .f32⟩ : BufTy).Contents (Elt F)),
   unary main_v31 main_v101 (broadcastInDim S32x1x2048 ![0, 2] bcast_S32x2048_S32x1x2048_0_2 : (⟨S32x2048, .i1⟩ : BufTy).Contents (Elt F) → (⟨S32x1x2048, .i1⟩ : BufTy).Contents (Elt F)),
   nullary main_cst_15 (constant S_ .f32 0xCE6E6B28#32),
   TRef.unary (.of main_cst_15 : TRef sig ⟨S_, .f32⟩) (.of main_call7_v0 : TRef sig ⟨S_, .f32⟩) id,
   TRef.unary (.of main_v101 : TRef sig ⟨S32x1x2048, .i1⟩) (.of main_call7_v1 : TRef sig ⟨S32x128x2048, .i1⟩) (broadcastInDim S32x128x2048 ![0, 1, 2] bcast_S32x1x2048_S32x128x2048_0_1_2),
   TRef.unary (.of main_call7_v0 : TRef sig ⟨S_, .f32⟩) (.of main_call7_v2 : TRef sig ⟨S32x128x2048, .f32⟩) (broadcastInDim S32x128x2048 ![] bcast_S_S32x128x2048),
   TRef.ternary (.of main_call7_v1 : TRef sig ⟨S32x128x2048, .i1⟩) (.of main_v100 : TRef sig ⟨S32x128x2048, .f32⟩) (.of main_call7_v2 : TRef sig ⟨S32x128x2048, .f32⟩) (.of main_v102 : TRef sig ⟨S32x128x2048, .f32⟩) select,
   nullary main_cst_16 (constant S_ .f32 0xFF800000#32),
   binary main_v102 main_cst_16 main_v103 ((fun x v => Host.reduce FloatOps.maximumf x v reducesTo_S32x128x2048_S32x128_d2 h_S_) : (⟨S32x128x2048, .f32⟩ : BufTy).Contents (Elt F) → (⟨S_, .f32⟩ : BufTy).Contents (Elt F) → (⟨S32x128, .f32⟩ : BufTy).Contents (Elt F)),
   nullary main_cst_17 (constant S_ .f32 0xFF800000#32),
   unary main_cst_17 main_v104 (broadcastInDim S32x128 ![] bcast_S_S32x128 : (⟨S_, .f32⟩ : BufTy).Contents (Elt F) → (⟨S32x128, .f32⟩ : BufTy).Contents (Elt F)),
   binary main_v104 main_v103 main_v105 (maximumf : (⟨S32x128, .f32⟩ : BufTy).Contents (Elt F) → (⟨S32x128, .f32⟩ : BufTy).Contents (Elt F) → (⟨S32x128, .f32⟩ : BufTy).Contents (Elt F)),
   unary main_v105 main_v106 (broadcastInDim S32x128x1 ![0, 1] bcast_S32x128_S32x128x1_0_1 : (⟨S32x128, .f32⟩ : BufTy).Contents (Elt F) → (⟨S32x128x1, .f32⟩ : BufTy).Contents (Elt F)),
   unary main_v106 main_v107 (broadcastInDim S32x128x2048 ![0, 1, 2] bcast_S32x128x1_S32x128x2048_0_1_2 : (⟨S32x128x1, .f32⟩ : BufTy).Contents (Elt F) → (⟨S32x128x2048, .f32⟩ : BufTy).Contents (Elt F)),
   binary main_v102 main_v107 main_v108 (subf : (⟨S32x128x2048, .f32⟩ : BufTy).Contents (Elt F) → (⟨S32x128x2048, .f32⟩ : BufTy).Contents (Elt F) → (⟨S32x128x2048, .f32⟩ : BufTy).Contents (Elt F)),
   unary main_v108 main_v109 (Host.exp : (⟨S32x128x2048, .f32⟩ : BufTy).Contents (Elt F) → (⟨S32x128x2048, .f32⟩ : BufTy).Contents (Elt F)),
   nullary main_cst_18 (constant S_ .f32 0x00000000#32),
   binary main_v109 main_cst_18 main_v110 ((fun x v => Host.reduceAdd x v reducesTo_S32x128x2048_S32x128_d2 h_S_) : (⟨S32x128x2048, .f32⟩ : BufTy).Contents (Elt F) → (⟨S_, .f32⟩ : BufTy).Contents (Elt F) → (⟨S32x128, .f32⟩ : BufTy).Contents (Elt F)),
   unary main_v110 main_v111 (broadcastInDim S32x128x1 ![0, 1] bcast_S32x128_S32x128x1_0_1 : (⟨S32x128, .f32⟩ : BufTy).Contents (Elt F) → (⟨S32x128x1, .f32⟩ : BufTy).Contents (Elt F)),
   unary main_v111 main_v112 (broadcastInDim S32x128x2048 ![0, 1, 2] bcast_S32x128x1_S32x128x2048_0_1_2 : (⟨S32x128x1, .f32⟩ : BufTy).Contents (Elt F) → (⟨S32x128x2048, .f32⟩ : BufTy).Contents (Elt F)),
   binary main_v109 main_v112 main_v113 (Host.divf : (⟨S32x128x2048, .f32⟩ : BufTy).Contents (Elt F) → (⟨S32x128x2048, .f32⟩ : BufTy).Contents (Elt F) → (⟨S32x128x2048, .f32⟩ : BufTy).Contents (Elt F))]

/-- The two results. -/
def lastOps : List (HloOp τ sig (Elt F)) :=
  [binary main_v113 main_v20 main_v114 ((fun l r => Host.dotGeneral dot_S32x128x2048_S32x2048x64_S32x128x64_2_1_1_2_0_0 none l r) : (⟨S32x128x2048, .f32⟩ : BufTy).Contents (Elt F) → (⟨S32x2048x64, .f32⟩ : BufTy).Contents (Elt F) → (⟨S32x128x64, .f32⟩ : BufTy).Contents (Elt F)),
   nullary main_c_19 (constantI S_ 32 0#32),
   TRef.unary (.of main_c_19 : TRef sig ⟨S_, .i32⟩) (.of main_call8_v0 : TRef sig ⟨S_, .f32⟩) (sitofp .f32),
   TRef.binary (.of main_v114 : TRef sig ⟨S32x128x64, .f32⟩) (.of main_call8_v0 : TRef sig ⟨S_, .f32⟩) (.of main_v115 : TRef sig ⟨S32x128x128, .f32⟩) (fun x v => pad S32x128x128 ![0, 0, 0] ![0, 0, 64] ![0, 0, 0] x v pads_S32x128x64_S32x128x128_000_000_0640 h_S_),
   reshape main_v115 main_v116 (rfl : (.f32 : EltTy) = .f32) shapeCasts_S32x128x128_S2x16x128x128,
   nullary main_v117 (iotaInDim S32 32 0),
   unary main_v117 main_v118 (broadcastInDim S32x1 ![0] bcast_S32_S32x1_0 : (⟨S32, .i32⟩ : BufTy).Contents (Elt F) → (⟨S32x1, .i32⟩ : BufTy).Contents (Elt F)),
   nullary main_c_20 (constantI S_ 32 128#32),
   unary main_c_20 main_v119 (broadcastInDim S32x1 ![] bcast_S_S32x1 : (⟨S_, .i32⟩ : BufTy).Contents (Elt F) → (⟨S32x1, .i32⟩ : BufTy).Contents (Elt F)),
   binary main_v119 main_v118 main_v120 (muli : (⟨S32x1, .i32⟩ : BufTy).Contents (Elt F) → (⟨S32x1, .i32⟩ : BufTy).Contents (Elt F) → (⟨S32x1, .i32⟩ : BufTy).Contents (Elt F)),
   unary main_v120 main_v121 (broadcastInDim S32x2048 ![0, 1] bcast_S32x1_S32x2048_0_1 : (⟨S32x1, .i32⟩ : BufTy).Contents (Elt F) → (⟨S32x2048, .i32⟩ : BufTy).Contents (Elt F)),
   binary main_v83 main_v121 main_v122 (addi : (⟨S32x2048, .i32⟩ : BufTy).Contents (Elt F) → (⟨S32x2048, .i32⟩ : BufTy).Contents (Elt F) → (⟨S32x2048, .i32⟩ : BufTy).Contents (Elt F)),
   reshape main_v122 main_v123 (rfl : (.i32 : EltTy) = .i32) shapeCasts_S32x2048_S2x16x1x2048]

/-- The whole line. -/
def line : List (HloOp τ sig (Elt F)) :=
  rowsOps ++ maskOps ++ seatsOps ++ apartOps₁ ++ nearOps₁ ++ meanOps₁ ++ apartOps₂ ++ nearOps₂ ++ meanOps₂ ++ shareOps ++ lastOps

set_option maxRecDepth 16384 in
/-- @main is that line. -/
theorem main_eq (d : Dev nD) : main (F := F) d = seq line := rfl

theorem rowsOps_sub : (rowsOps (F := F)).Forall fun op => op.bufs ⊆ tcRefs τ sig := by
  unfold rowsOps
  exact ⟨binary_bufs_sub .., unary_bufs_sub .., unary_bufs_sub .., binary_bufs_sub .., reshape_bufs_sub .., unary_bufs_sub .., reshape_bufs_sub .., binary_bufs_sub .., unary_bufs_sub .., unary_bufs_sub .., binary_bufs_sub .., reshape_bufs_sub .., unary_bufs_sub .., reshape_bufs_sub .., binary_bufs_sub .., unary_bufs_sub .., unary_bufs_sub .., binary_bufs_sub .., reshape_bufs_sub .., unary_bufs_sub .., reshape_bufs_sub ..⟩
theorem maskOps_sub : (maskOps (F := F)).Forall fun op => op.bufs ⊆ tcRefs τ sig := by
  unfold maskOps
  exact ⟨nullary_bufs_sub .., unary_bufs_sub .., reshape_bufs_sub .., unary_bufs_sub .., unary_bufs_sub .., unary_bufs_sub .., unary_bufs_sub .., binary_bufs_sub .., unary_bufs_sub .., reshape_bufs_sub .., binary_bufs_sub .., unary_bufs_sub .., unary_bufs_sub ..⟩
theorem seatsOps_sub : (seatsOps (F := F)).Forall fun op => op.bufs ⊆ tcRefs τ sig := by
  unfold seatsOps
  exact ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem apartOps₁_sub : (apartOps₁ (F := F)).Forall fun op => op.bufs ⊆ tcRefs τ sig := by
  unfold apartOps₁
  exact ⟨binary_bufs_sub .., nullary_bufs_sub .., binary_bufs_sub .., nullary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem nearOps₁_sub : (nearOps₁ (F := F)).Forall fun op => op.bufs ⊆ tcRefs τ sig := by
  unfold nearOps₁
  exact ⟨nullary_bufs_sub .., nullary_bufs_sub .., nullary_bufs_sub .., quaternary_bufs_sub .., quaternary_bufs_sub ..⟩
theorem meanOps₁_sub : (meanOps₁ (F := F)).Forall fun op => op.bufs ⊆ tcRefs τ sig := by
  unfold meanOps₁
  exact ⟨unary_bufs_sub .., nullary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩
theorem apartOps₂_sub : (apartOps₂ (F := F)).Forall fun op => op.bufs ⊆ tcRefs τ sig := by
  unfold apartOps₂
  exact ⟨unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem nearOps₂_sub : (nearOps₂ (F := F)).Forall fun op => op.bufs ⊆ tcRefs τ sig := by
  unfold nearOps₂
  exact ⟨nullary_bufs_sub .., nullary_bufs_sub .., nullary_bufs_sub .., quaternary_bufs_sub .., quaternary_bufs_sub ..⟩
theorem meanOps₂_sub : (meanOps₂ (F := F)).Forall fun op => op.bufs ⊆ tcRefs τ sig := by
  unfold meanOps₂
  exact ⟨unary_bufs_sub .., nullary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩
theorem shareOps_sub : (shareOps (F := F)).Forall fun op => op.bufs ⊆ tcRefs τ sig := by
  unfold shareOps
  exact ⟨binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem lastOps_sub : (lastOps (F := F)).Forall fun op => op.bufs ⊆ tcRefs τ sig := by
  unfold lastOps
  exact ⟨binary_bufs_sub .., nullary_bufs_sub .., unary_bufs_sub .., binary_bufs_sub .., reshape_bufs_sub .., nullary_bufs_sub .., unary_bufs_sub .., nullary_bufs_sub .., unary_bufs_sub .., binary_bufs_sub .., unary_bufs_sub .., binary_bufs_sub .., reshape_bufs_sub ..⟩

theorem line_sub : (line (F := F)).Forall fun op => op.bufs ⊆ tcRefs τ sig := by
  unfold line
  simp only [List.forall_append]
  exact ⟨⟨⟨⟨⟨⟨⟨⟨⟨⟨rowsOps_sub, maskOps_sub⟩, seatsOps_sub⟩, apartOps₁_sub⟩, nearOps₁_sub⟩, meanOps₁_sub⟩, apartOps₂_sub⟩, nearOps₂_sub⟩, meanOps₂_sub⟩, shareOps_sub⟩, lastOps_sub⟩

set_option maxRecDepth 16384 in
set_option maxHeartbeats 4000000 in
theorem line_fresh : (line (F := F)).Forall fun op => op.fresh = ∅ :=
  have h : (line (F := F)).map (·.fresh) = line.map fun _ => ∅ := rfl
  List.forall_iff_forall_mem.2 (List.map_inj_left.1 h)

/-! ## What each stretch writes -/

def rowsOpsW : List (Ref sig .tc) := [main_v0, main_v1, main_v2, main_v3, main_v4, main_v5, main_v6, main_v7, main_v8, main_v9, main_v10, main_v11, main_v12, main_v13, main_v14, main_v15, main_v16, main_v17, main_v18, main_v19, main_v20]
def maskOpsW : List (Ref sig .tc) := [main_v21, main_v22, main_v23, main_v24, main_v25, main_v26, main_v27, main_v28, main_v29, main_v30, main_v31, main_v32, main_v33]
def seatsOpsW : List (Ref sig .tc) := [main_c, main_c_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v34, main_v35, main_c_1, main_v36, main_v37, main_c_2, main_v38, main_v39, main_v40, main_v41, main_v42]
def apartOps₁W : List (Ref sig .tc) := [main_v43, main_cst, main_v44, main_c_3, main_v45, main_v46, main_v47, main_cst_4, main_v48, main_v49, main_v50, main_v51, main_v52, main_cst_5, main_v53, main_v54, main_v55, main_v56]
def nearOps₁W : List (Ref sig .tc) := [main_call1_v0, main_call1_cst, main_call1_c, main_call1_v1_0, main_v57]
def meanOps₁W : List (Ref sig .tc) := [main_call2_v0, main_call2_v1, main_call2_v2, main_call2_v3, main_call2_v4, main_v58, main_v59, main_v60, main_cst_6, main_v61, main_v62, main_cst_7, main_v63, main_v64, main_v65, main_v66, main_v67, main_cst_8, main_v68, main_v69, main_v70, main_call3_v0, main_v71]
def apartOps₂W : List (Ref sig .tc) := [main_v72, main_v73, main_cst_9, main_v74, main_v75, main_v76, main_v77, main_v78, main_cst_10, main_v79, main_v80, main_v81, main_v82]
def nearOps₂W : List (Ref sig .tc) := [main_call4_v0, main_call4_cst, main_call4_c, main_call4_v1_0, main_v83]
def meanOps₂W : List (Ref sig .tc) := [main_call5_v0, main_call5_v1, main_call5_v2, main_call5_v3, main_call5_v4, main_v84, main_v85, main_v86, main_cst_11, main_v87, main_v88, main_cst_12, main_v89, main_v90, main_v91, main_v92, main_v93, main_cst_13, main_v94, main_v95, main_v96, main_call6_v0, main_v97]
def shareOpsW : List (Ref sig .tc) := [main_v98, main_cst_14, main_v99, main_v100, main_v101, main_cst_15, main_call7_v0, main_call7_v1, main_call7_v2, main_v102, main_cst_16, main_v103, main_cst_17, main_v104, main_v105, main_v106, main_v107, main_v108, main_v109, main_cst_18, main_v110, main_v111, main_v112, main_v113]
def lastOpsW : List (Ref sig .tc) := [main_v114, main_c_19, main_call8_v0, main_v115, main_v116, main_v117, main_v118, main_c_20, main_v119, main_v120, main_v121, main_v122, main_v123]

theorem rowsOps_keeps (V : Valuation τ sig (Elt F)) (r : Ref sig .tc) (h : r ∉ rowsOpsW) : after rowsOps V (Proc.devRef .tc r) = V (Proc.devRef .tc r) :=
  after_of_writes_sub (W := rowsOpsW) _ _ (forall_writes_sub_of_map rfl) h
theorem maskOps_keeps (V : Valuation τ sig (Elt F)) (r : Ref sig .tc) (h : r ∉ maskOpsW) : after maskOps V (Proc.devRef .tc r) = V (Proc.devRef .tc r) :=
  after_of_writes_sub (W := maskOpsW) _ _ (forall_writes_sub_of_map rfl) h
theorem seatsOps_keeps (V : Valuation τ sig (Elt F)) (r : Ref sig .tc) (h : r ∉ seatsOpsW) : after seatsOps V (Proc.devRef .tc r) = V (Proc.devRef .tc r) :=
  after_of_writes_sub (W := seatsOpsW) _ _ (forall_writes_sub_of_map rfl) h
theorem apartOps₁_keeps (V : Valuation τ sig (Elt F)) (r : Ref sig .tc) (h : r ∉ apartOps₁W) : after apartOps₁ V (Proc.devRef .tc r) = V (Proc.devRef .tc r) :=
  after_of_writes_sub (W := apartOps₁W) _ _ (forall_writes_sub_of_map rfl) h
theorem nearOps₁_keeps (V : Valuation τ sig (Elt F)) (r : Ref sig .tc) (h : r ∉ nearOps₁W) : after nearOps₁ V (Proc.devRef .tc r) = V (Proc.devRef .tc r) :=
  after_of_writes_sub (W := nearOps₁W) _ _ (forall_writes_sub_of_map rfl) h
theorem meanOps₁_keeps (V : Valuation τ sig (Elt F)) (r : Ref sig .tc) (h : r ∉ meanOps₁W) : after meanOps₁ V (Proc.devRef .tc r) = V (Proc.devRef .tc r) :=
  after_of_writes_sub (W := meanOps₁W) _ _ (forall_writes_sub_of_map rfl) h
theorem apartOps₂_keeps (V : Valuation τ sig (Elt F)) (r : Ref sig .tc) (h : r ∉ apartOps₂W) : after apartOps₂ V (Proc.devRef .tc r) = V (Proc.devRef .tc r) :=
  after_of_writes_sub (W := apartOps₂W) _ _ (forall_writes_sub_of_map rfl) h
theorem nearOps₂_keeps (V : Valuation τ sig (Elt F)) (r : Ref sig .tc) (h : r ∉ nearOps₂W) : after nearOps₂ V (Proc.devRef .tc r) = V (Proc.devRef .tc r) :=
  after_of_writes_sub (W := nearOps₂W) _ _ (forall_writes_sub_of_map rfl) h
theorem meanOps₂_keeps (V : Valuation τ sig (Elt F)) (r : Ref sig .tc) (h : r ∉ meanOps₂W) : after meanOps₂ V (Proc.devRef .tc r) = V (Proc.devRef .tc r) :=
  after_of_writes_sub (W := meanOps₂W) _ _ (forall_writes_sub_of_map rfl) h
theorem shareOps_keeps (V : Valuation τ sig (Elt F)) (r : Ref sig .tc) (h : r ∉ shareOpsW) : after shareOps V (Proc.devRef .tc r) = V (Proc.devRef .tc r) :=
  after_of_writes_sub (W := shareOpsW) _ _ (forall_writes_sub_of_map rfl) h
theorem lastOps_keeps (V : Valuation τ sig (Elt F)) (r : Ref sig .tc) (h : r ∉ lastOpsW) : after lastOps V (Proc.devRef .tc r) = V (Proc.devRef .tc r) :=
  after_of_writes_sub (W := lastOpsW) _ _ (forall_writes_sub_of_map rfl) h

end Cert.Proof.Plain

end
-- ==== Proof.Stretches.lean ====
/-
  What each stretch of the attention's reference leaves, as a function of the buffers it is given.
-/
module

public import proofs.«01_k».proof.Proof.Plain

@[expose] public section

noncomputable section

namespace Cert.Proof.Plain

open Cert.AttnReferenceIdeal Cert.AttnReferenceIdeal.Gen
open Idealize.ShloMosaic Idealize.ShloMosaic.StableHlo Idealize.ShloMosaic.TcCoe

variable {F : FTy → Type} [FloatOps F]

/-- The rows of every head. -/
def rows (x : FVec F S2x2048x1024 .f32) (w : FVec F S1024x1024 .f32) (y : FVec F S1024 .f32) : FVec F S32x2048x64 .f32 :=
  shapeCast S32x2048x64 (transpose S2x16x2048x64 [0, 2, 1, 3] (shapeCast S2x2048x16x64
    (addf (Host.dotGeneral (φ₁ := .f32) (φ₂ := .f32) dot_S2x2048x1024_S1024x1024_S2x2048x1024_2_0_01_1_n_n none x w)
      (broadcastInDim S2x2048x1024 ![0, 1, 2] bcast_S1x1x1024_S2x2048x1024_0_1_2 (broadcastInDim S1x1x1024 ![2] bcast_S1024_S1x1x1024_2 y)))
    shapeCasts_S2x2048x1024_S2x2048x16x64) transposes_S2x2048x16x64_S2x16x2048x64_0_2_1_3) shapeCasts_S2x16x2048x64_S32x2048x64

/-- The mask of every head, -/
def bits (a : IVec S2x2048 1) (n : IVec S2 32) : IVec S32x2048 1 :=
  andi (cmpi .slt (broadcastInDim S32x2048 ![0, 1] bcast_S1x2048_S32x2048_0_1 (broadcastInDim S1x2048 ![1] bcast_S2048_S1x2048_1 (iotaInDim S2048 32 0)))
      (broadcastInDim S32x2048 ![0, 1] bcast_S32x1_S32x2048_0_1 (broadcastInDim S32x1 ![0] bcast_S32_S32x1_0
        (shapeCast S32 (broadcastInDim S2x16 ![0] bcast_S2_S2x16_0 n) shapeCasts_S2x16_S32))))
    (shapeCast S32x2048 (broadcastInDim S2x16x2048 ![0, 2] bcast_S2x2048_S2x16x2048_0_2 a) shapeCasts_S2x16x2048_S32x2048)

/-- as a column of numbers. -/
def column (g : IVec S32x2048 1) : FVec F S32x2048x1 .f32 := broadcastInDim S32x2048x1 ![0, 1] bcast_S32x2048_S32x2048x1_0_1 (uitofp .f32 g)

/-- The indices of the starting rows: 128 numbers evenly spaced from 0 to 2047, cut to integers. -/
def seats : IVec S128x1 32 :=
  let first : FVec F S_ .f32 := sitofp .f32 (constantI S_ 32 0#32)
  let last : FVec F S_ .f32 := sitofp .f32 (constantI S_ 32 2047#32)
  let part : FVec F S127 .f32 := Host.divf (sitofp .f32 (iotaInDim S127 32 0)) (broadcastInDim S127 ![] bcast_S_S127 (constant S_ .f32 0x42FE0000#32))
  let rest : FVec F S127 .f32 := subf (broadcastInDim S127 ![] bcast_S_S127 (constant S_ .f32 0x3F800000#32)) part
  let line : FVec F S128 .f32 := concatenate S128 0 [⟨S127, addf (mulf (broadcastInDim S127 ![0] bcast_S1_S127_0 (shapeCast S1 first shapeCasts_S_S1)) rest)
    (mulf (broadcastInDim S127 ![0] bcast_S1_S127_0 (shapeCast S1 last shapeCasts_S_S1)) part)⟩, ⟨S1, broadcastInDim S1 ![] bcast_S_S1 last⟩] concatenates_S127_S1_S128_d0
  let whole : IVec S128 32 := fptosi 32 line
  broadcastInDim S128x1 ![0] bcast_S128_S128x1_0 (select (cmpi .slt whole (broadcastInDim S128 ![] bcast_S_S128 (constantI S_ 32 0#32)))
    (addi whole (broadcastInDim S128 ![] bcast_S_S128 (constantI S_ 32 2048#32))) whole)

/-- The starting rows. -/
def starts (q : FVec F S32x2048x64 .f32) : FVec F S32x128x64 .f32 :=
  Host.gather gather_S32x2048x64_S128x1_S32x128x64_02_1_n_n_1_1_32164 q (seats (F := F))

def squares (q : FVec F S32x2048x64 .f32) : FVec F S32x2048 .f32 := Host.reduceAdd (mulf q q) (constant S_ .f32 0x00000000#32) reducesTo_S32x2048x64_S32x2048_d2 h_S_

/-- The squared distances of the rows and the centres. -/
def apart (s : FVec F S32x2048 .f32) (q : FVec F S32x2048x64 .f32) (c : FVec F S32x128x64 .f32) : FVec F S32x2048x128 .f32 :=
  addf (subf (broadcastInDim S32x2048x128 ![0, 1, 2] bcast_S32x2048x1_S32x2048x128_0_1_2 (broadcastInDim S32x2048x1 ![0, 1] bcast_S32x2048_S32x2048x1_0_1 s))
      (mulf (broadcastInDim S32x2048x128 ![] bcast_S_S32x2048x128 (constant S_ .f32 0x40000000#32))
        (Host.dotGeneral (φ₁ := .f32) (φ₂ := .f32) dot_S32x2048x64_S32x128x64_S32x2048x128_2_2_1_1_0_0 none q c)))
    (broadcastInDim S32x2048x128 ![0, 1, 2] bcast_S32x1x128_S32x2048x128_0_1_2 (broadcastInDim S32x1x128 ![0, 2] bcast_S32x128_S32x1x128_0_2
      (Host.reduceAdd (mulf c c) (constant S_ .f32 0x00000000#32) reducesTo_S32x128x64_S32x128_d2 h_S_)))

/-- The nearest centre of each row. -/
def near (d : FVec F S32x2048x128 .f32) : IVec S32x2048 32 := fun j =>
  (Host.argReduce reducer_argmin_f32_i32 d (iotaInDim S32x2048x128 32 2) (constant S_ .f32 0x7F800000#32) (constantI S_ 32 0#32) reducesTo_S32x2048x128_S32x2048_d2 h_S_ j).2

/-- Each row's centre, where the mask is set. -/
def belong (w : FVec F S32x2048x1 .f32) (g : IVec S32x2048 32) : FVec F S32x2048x128 .f32 :=
  mulf (uitofp .f32 (cmpi .eq (broadcastInDim S32x2048x128 ![0, 1, 2] bcast_S32x2048x1_S32x2048x128_0_1_2 (broadcastInDim S32x2048x1 ![0, 1] bcast_S32x2048_S32x2048x1_0_1 g))
      (broadcastInDim S32x2048x128 ![0, 1, 2] bcast_S1x1x128_S32x2048x128_0_1_2 (iotaInDim S1x1x128 32 2))))
    (broadcastInDim S32x2048x128 ![0, 1, 2] bcast_S32x2048x1_S32x2048x128_0_1_2 w)

def counts (o : FVec F S32x2048x128 .f32) : FVec F S32x128 .f32 := Host.reduceAdd o (constant S_ .f32 0x00000000#32) reducesTo_S32x2048x128_S32x128_d1 h_S_

/-- The centres' step, from who belongs to whom. -/
def means (q : FVec F S32x2048x64 .f32) (c : FVec F S32x128x64 .f32) (o : FVec F S32x2048x128 .f32) : FVec F S32x128x64 .f32 :=
  select (broadcastInDim S32x128x64 ![0, 1, 2] bcast_S32x128x1_S32x128x64_0_1_2 (broadcastInDim S32x128x1 ![0, 1] bcast_S32x128_S32x128x1_0_1
      (cmpf .ogt (counts o) (broadcastInDim S32x128 ![] bcast_S_S32x128 (constant S_ .f32 0x00000000#32)))))
    (Host.divf (Host.dotGeneral (φ₁ := .f32) (φ₂ := .f32) dot_S32x2048x128_S32x2048x64_S32x128x64_1_1_2_2_0_0 none o q)
      (broadcastInDim S32x128x64 ![0, 1, 2] bcast_S32x128x1_S32x128x64_0_1_2 (broadcastInDim S32x128x1 ![0, 1] bcast_S32x128_S32x128x1_0_1
        (maximumf (counts o) (broadcastInDim S32x128 ![] bcast_S_S32x128 (constant S_ .f32 0x3F800000#32))))))
    c

/-- The logits of the centres against the keys, -/
def logits (k : FVec F S32x2048x64 .f32) (c : FVec F S32x128x64 .f32) (g : IVec S32x2048 1) : FVec F S32x128x2048 .f32 :=
  select (broadcastInDim S32x128x2048 ![0, 1, 2] bcast_S32x1x2048_S32x128x2048_0_1_2 (broadcastInDim S32x1x2048 ![0, 2] bcast_S32x2048_S32x1x2048_0_2 g))
    (mulf (Host.dotGeneral (φ₁ := .f32) (φ₂ := .f32) dot_S32x128x64_S32x2048x64_S32x128x2048_2_2_1_1_0_0 none c k)
      (broadcastInDim S32x128x2048 ![] bcast_S_S32x128x2048 (constant S_ .f32 0x3E000000#32)))
    (broadcastInDim S32x128x2048 ![] bcast_S_S32x128x2048 (constant S_ .f32 0xCE6E6B28#32))

/-- their exponentials below the largest, -/
def powers (z : FVec F S32x128x2048 .f32) : FVec F S32x128x2048 .f32 :=
  Host.exp (subf z (broadcastInDim S32x128x2048 ![0, 1, 2] bcast_S32x128x1_S32x128x2048_0_1_2 (broadcastInDim S32x128x1 ![0, 1] bcast_S32x128_S32x128x1_0_1
    (maximumf (broadcastInDim S32x128 ![] bcast_S_S32x128 (constant S_ .f32 0xFF800000#32))
      (Host.reduce FloatOps.maximumf z (constant S_ .f32 0xFF800000#32) reducesTo_S32x128x2048_S32x128_d2 h_S_)))))

/-- and their shares of the sum. -/
def shares (p : FVec F S32x128x2048 .f32) : FVec F S32x128x2048 .f32 :=
  Host.divf p (broadcastInDim S32x128x2048 ![0, 1, 2] bcast_S32x128x1_S32x128x2048_0_1_2 (broadcastInDim S32x128x1 ![0, 1] bcast_S32x128_S32x128x1_0_1
    (Host.reduceAdd p (constant S_ .f32 0x00000000#32) reducesTo_S32x128x2048_S32x128_d2 h_S_)))

/-- The first result. -/
def mixtures (v : FVec F S32x2048x64 .f32) (s : FVec F S32x128x2048 .f32) : FVec F S2x16x128x128 .f32 :=
  shapeCast S2x16x128x128 (pad S32x128x128 ![0, 0, 0] ![0, 0, 64] ![0, 0, 0]
    (Host.dotGeneral (φ₁ := .f32) (φ₂ := .f32) dot_S32x128x2048_S32x2048x64_S32x128x64_2_1_1_2_0_0 none s v) (sitofp .f32 (constantI S_ 32 0#32))
    pads_S32x128x64_S32x128x128_000_000_0640 h_S_) shapeCasts_S32x128x128_S2x16x128x128

/-- The second result. -/
def numbers (g : IVec S32x2048 32) : IVec S2x16x1x2048 32 :=
  shapeCast S2x16x1x2048 (addi g (broadcastInDim S32x2048 ![0, 1] bcast_S32x1_S32x2048_0_1
    (muli (broadcastInDim S32x1 ![] bcast_S_S32x1 (constantI S_ 32 128#32)) (broadcastInDim S32x1 ![0] bcast_S32_S32x1_0 (iotaInDim S32 32 0)))))
    shapeCasts_S32x2048_S2x16x1x2048

variable (V : Valuation τ sig (Elt F))

theorem rowsOps_q : after rowsOps V (Proc.devRef .tc main_v6) = rows (V (Proc.devRef .tc main_arg0)) (V (Proc.devRef .tc main_arg3)) (V (Proc.devRef .tc main_arg4)) := by
  simp only [rowsOps]
  after_results_simp <;> rfl
theorem rowsOps_k : after rowsOps V (Proc.devRef .tc main_v13) = rows (V (Proc.devRef .tc main_arg0)) (V (Proc.devRef .tc main_arg5)) (V (Proc.devRef .tc main_arg6)) := by
  simp only [rowsOps]
  after_results_simp <;> rfl
theorem rowsOps_v : after rowsOps V (Proc.devRef .tc main_v20) = rows (V (Proc.devRef .tc main_arg0)) (V (Proc.devRef .tc main_arg7)) (V (Proc.devRef .tc main_arg8)) := by
  simp only [rowsOps]
  after_results_simp <;> rfl
theorem maskOps_bits : after maskOps V (Proc.devRef .tc main_v31) = bits (V (Proc.devRef .tc main_arg1)) (V (Proc.devRef .tc main_arg2)) := by
  simp only [maskOps]
  after_results_simp <;> rfl
theorem maskOps_column : after maskOps V (Proc.devRef .tc main_v33) = column (F := F) (bits (V (Proc.devRef .tc main_arg1)) (V (Proc.devRef .tc main_arg2))) := by
  simp only [maskOps]
  after_results_simp <;> rfl
theorem seatsOps_starts : after seatsOps V (Proc.devRef .tc main_v42) = starts (V (Proc.devRef .tc main_v6)) := by
  simp only [seatsOps, TRef.binary, TRef.nullary, TRef.ternary, TRef.unary, TRef.reshape, TRef.toBuf, TRef.ofBuf, cast_eq]
  after_results_simp <;> rfl
theorem apartOps₁_squares : after apartOps₁ V (Proc.devRef .tc main_v44) = squares (V (Proc.devRef .tc main_v6)) := by
  simp only [apartOps₁]
  after_results_simp <;> rfl
theorem apartOps₁_apart : after apartOps₁ V (Proc.devRef .tc main_v56) = apart (squares (V (Proc.devRef .tc main_v6))) (V (Proc.devRef .tc main_v6)) (V (Proc.devRef .tc main_v42)) := by
  simp only [apartOps₁]
  after_results_simp <;> rfl
theorem nearOps₁_near : after nearOps₁ V (Proc.devRef .tc main_v57) = near (V (Proc.devRef .tc main_v56)) := by
  simp only [nearOps₁, TRef.binary, TRef.nullary, TRef.ternary, TRef.unary, TRef.quaternary, TRef.reshape, TRef.toBuf, TRef.ofBuf, cast_eq]
  after_results_simp <;> rfl
theorem meanOps₁_means : after meanOps₁ V (Proc.devRef .tc main_v71)
    = means (V (Proc.devRef .tc main_v6)) (V (Proc.devRef .tc main_v42)) (belong (V (Proc.devRef .tc main_v33)) (V (Proc.devRef .tc main_v57))) := by
  simp only [meanOps₁, TRef.binary, TRef.nullary, TRef.ternary, TRef.unary, TRef.quaternary, TRef.reshape, TRef.toBuf, TRef.ofBuf, cast_eq]
  after_results_simp <;> rfl
theorem apartOps₂_apart : after apartOps₂ V (Proc.devRef .tc main_v82) = apart (V (Proc.devRef .tc main_v44)) (V (Proc.devRef .tc main_v6)) (V (Proc.devRef .tc main_v71)) := by
  simp only [apartOps₂]
  after_results_simp <;> rfl
theorem nearOps₂_near : after nearOps₂ V (Proc.devRef .tc main_v83) = near (V (Proc.devRef .tc main_v82)) := by
  simp only [nearOps₂, TRef.binary, TRef.nullary, TRef.ternary, TRef.unary, TRef.quaternary, TRef.reshape, TRef.toBuf, TRef.ofBuf, cast_eq]
  after_results_simp <;> rfl
theorem meanOps₂_means : after meanOps₂ V (Proc.devRef .tc main_v97)
    = means (V (Proc.devRef .tc main_v6)) (V (Proc.devRef .tc main_v71)) (belong (V (Proc.devRef .tc main_v33)) (V (Proc.devRef .tc main_v83))) := by
  simp only [meanOps₂, TRef.binary, TRef.nullary, TRef.ternary, TRef.unary, TRef.quaternary, TRef.reshape, TRef.toBuf, TRef.ofBuf, cast_eq]
  after_results_simp <;> rfl
theorem shareOps_shares : after shareOps V (Proc.devRef .tc main_v113)
    = shares (powers (logits (V (Proc.devRef .tc main_v13)) (V (Proc.devRef .tc main_v97)) (V (Proc.devRef .tc main_v31)))) := by
  simp only [shareOps, TRef.binary, TRef.nullary, TRef.ternary, TRef.unary, TRef.quaternary, TRef.reshape, TRef.toBuf, TRef.ofBuf, cast_eq]
  after_results_simp <;> rfl
theorem lastOps_mixtures : after lastOps V (Proc.devRef .tc main_v116) = mixtures (V (Proc.devRef .tc main_v20)) (V (Proc.devRef .tc main_v113)) := by
  simp only [lastOps, TRef.binary, TRef.nullary, TRef.ternary, TRef.unary, TRef.quaternary, TRef.reshape, TRef.toBuf, TRef.ofBuf, cast_eq]
  after_results_simp <;> rfl
theorem lastOps_numbers : after lastOps V (Proc.devRef .tc main_v123) = numbers (V (Proc.devRef .tc main_v83)) := by
  simp only [lastOps, TRef.binary, TRef.nullary, TRef.ternary, TRef.unary, TRef.quaternary, TRef.reshape, TRef.toBuf, TRef.ofBuf, cast_eq]
  after_results_simp <;> rfl

end Cert.Proof.Plain

end
-- ==== Proof.Nearest.lean ====
/-
  The reference's arg-min read at an index: the fold over the 128 centres keeps the smaller distance and, where two are equal,
  the smaller number, so it ends at the first index of least distance.
-/
module

public import proofs.«01_k».proof.Proof.Stretches
public import proofs.«01_k».proof.Proof.Cluster

@[expose] public section

noncomputable section

namespace Cert.Proof.Plain

open Cert.AttnReferenceIdeal Cert.AttnReferenceIdeal.Gen
open Idealize.ShloMosaic
open Cert.Proof.Attend (nearest eq_nearest toInt_word)

/-- A distance and a centre's number as the pair the fold carries. -/
def pack (p : EReal ×ₗ Fin 128) : EReal × BitVec 32 := ((ofLex p).1, BitVec.ofNat 32 (ofLex p).2.val)

theorem slt_word (a b : Fin 128) : IntOp.cmpi .slt (BitVec.ofNat 32 a.val) (BitVec.ofNat 32 b.val) = if a < b then 1#1 else 0#1 := by
  show BitVec.ofBool (BitVec.slt _ _) = _
  rw [BitVec.slt_eq_decide, toInt_word (n := a.val) (by omega), toInt_word (n := b.val) (by omega)]
  by_cases h : a < b
  · rw [if_pos h, decide_eq_true (by exact_mod_cast h)]; rfl
  · rw [if_neg h, decide_eq_false (by exact_mod_cast h)]; rfl

/-- The body keeps the smaller of two pairs. -/
theorem keeps_smaller (p q : EReal ×ₗ Fin 128) : reducer_argmin_f32_i32 (F := Ideal) (pack p) (pack q) = pack (min p q) := by
  obtain ⟨⟨x, a⟩, rfl⟩ := toLex.surjective p
  obtain ⟨⟨y, b⟩, rfl⟩ := toLex.surjective q
  have hle : toLex (x, a) ≤ toLex (y, b) ↔ x < y ∨ x = y ∧ a ≤ b := Prod.Lex.toLex_le_toLex
  unfold reducer_argmin_f32_i32 pack
  simp only [ofLex_toLex, slt_word]
  rcases lt_trichotomy x y with h | h | h
  · rw [min_eq_left (hle.2 (.inl h))]
    simp [Ideal.cmpf_def, Ideal.cmp, h, h.ne, Scalar.select, IntOp.ori, IntOp.andi]
  · subst h
    by_cases hab : a < b
    · rw [min_eq_left (hle.2 (.inr ⟨rfl, hab.le⟩))]
      simp [Ideal.cmpf_def, Ideal.cmp, Scalar.select, IntOp.ori, IntOp.andi, hab]
    · rw [min_eq_right (Prod.Lex.toLex_le_toLex.2 (.inr ⟨rfl, not_lt.1 hab⟩) : toLex (x, b) ≤ toLex (x, a))]
      simp [Ideal.cmpf_def, Ideal.cmp, Scalar.select, IntOp.ori, IntOp.andi, hab]
  · rw [min_eq_right (Prod.Lex.toLex_le_toLex.2 (.inl h))]
    simp [Ideal.cmpf_def, Ideal.cmp, h.not_gt, h.ne', Scalar.select, IntOp.ori, IntOp.andi]

/-- The fold over a list of pairs ends at one no larger than the first and any of the list, and is one of them. -/
theorem fold_smaller (L : List (EReal ×ₗ Fin 128)) (p : EReal ×ₗ Fin 128) :
    ∃ r, (L.map pack).foldl (reducer_argmin_f32_i32 (F := Ideal)) (pack p) = pack r ∧ r ≤ p ∧ (∀ q ∈ L, r ≤ q) ∧ (r = p ∨ r ∈ L) := by
  induction L generalizing p with
  | nil => exact ⟨p, rfl, le_rfl, fun _ h => (nomatch h), .inl rfl⟩
  | cons q L ih =>
    obtain ⟨r, e, h, h', h''⟩ := ih (min p q)
    refine ⟨r, ?_, h.trans (min_le_left _ _), ?_, ?_⟩
    · rw [List.map_cons, List.foldl_cons, keeps_smaller, e]
    · intro x hx
      rcases List.mem_cons.1 hx with rfl | hx
      · exact h.trans (min_le_right _ _)
      · exact h' x hx
    · rcases h'' with h'' | h''
      · rcases min_choice p q with g | g
        · exact .inl (h''.trans g)
        · exact .inr (List.mem_cons.2 (.inl (h''.trans g)))
      · exact .inr (List.mem_cons.2 (.inr h''))

/-- The fold from the top element over every centre's pair ends at the nearest. -/
theorem fold_nearest (f : Fin 128 → EReal) (L : List (EReal ×ₗ Fin 128)) (h : ∀ q ∈ L, ∃ k, q = toLex (f k, k)) (h' : ∀ k, toLex (f k, k) ∈ L) :
    ((L.map pack).foldl (reducer_argmin_f32_i32 (F := Ideal)) (⊤, 0#32)).2 = BitVec.ofNat 32 (nearest f).val := by
  obtain ⟨r, e, hp, hL, hm⟩ := fold_smaller L (toLex (⊤, 0))
  rw [show ((⊤ : EReal), 0#32) = pack (toLex (⊤, 0)) from rfl, e]
  have hr : ∃ k, r = toLex (f k, k) := by
    rcases hm with hm | hm
    · refine ⟨0, ?_⟩
      have := hL _ (h' 0)
      rw [hm] at this ⊢
      rcases Prod.Lex.toLex_le_toLex.1 this with g | g
      · exact absurd g not_top_lt
      · have g' : ⊤ = f 0 := g.1
        rw [← g']
    · exact h r hm
  obtain ⟨k, rfl⟩ := hr
  refine congrArg (fun k : Fin 128 => BitVec.ofNat 32 k.val) (eq_nearest (fun i => ?_) fun i hi => ?_)
  · rcases Prod.Lex.toLex_le_toLex.1 (hL _ (h' i)) with g | g
    · exact g.le
    · exact g.1.le
  · rcases Prod.Lex.toLex_le_toLex.1 (hL _ (h' i)) with g | g
    · exact absurd hi g.not_ge
    · exact g.2

/-- The arg-min along the last axis of three, from the top element and number 0, at an index. -/
theorem least_at {A B : Nat} (d : FVec Ideal ⟨3, ![A, B, 128]⟩ .f32) (y : IVec ⟨3, ![A, B, 128]⟩ 32) (u v : S_.Idx → _)
    (hy : ∀ a b k, y (ix3 a b k) = BitVec.ofNat 32 k.val) (hu : ∀ i, u i = (⊤ : EReal)) (hv : ∀ i, v i = 0#32)
    (h : (⟨3, ![A, B, 128]⟩ : Shape).ReducesTo [2] ⟨2, ![A, B]⟩) (h₀ : 0 < S_.numel) (a : Fin A) (b : Fin B) :
    (Host.argReduce (F := Ideal) (φ := .f32) reducer_argmin_f32_i32 d y u v h h₀ (ix2 a b)).2 = BitVec.ofNat 32 (nearest fun k => d (ix3 a b k)).val := by
  rw [Ideal.argReduce_eq_reduce2, Host.reduce2_eq_foldl_fiber, hu, hv]
  have hfib : ∀ i : (⟨3, ![A, B, 128]⟩ : Shape).Idx, h.drop i = ix2 a b ↔ ∃ k : Fin 128, ix3 a b k = i := fun i => h.fiber_r3_a2 (ix2 a b) i
  have hL : Host.argReduceFiber d y h (ix2 a b)
      = (((List.finRange (⟨3, ![A, B, 128]⟩ : Shape).numel).filter fun n => h.drop ((⟨3, ![A, B, 128]⟩ : Shape).rowMajor.symm n) = ix2 a b).map
          fun n => (toLex (d (ix3 a b ((⟨3, ![A, B, 128]⟩ : Shape).rowMajor.symm n 2)), (⟨3, ![A, B, 128]⟩ : Shape).rowMajor.symm n 2) : EReal ×ₗ Fin 128)).map pack := by
    rw [List.map_map]
    refine List.map_congr_left fun n hn => ?_
    obtain ⟨k, hk⟩ := (hfib _).1 (of_decide_eq_true (List.mem_filter.1 hn).2)
    show _ = (d (ix3 a b ((⟨3, ![A, B, 128]⟩ : Shape).rowMajor.symm n 2)), BitVec.ofNat 32 ((⟨3, ![A, B, 128]⟩ : Shape).rowMajor.symm n 2).val)
    rw [← hk, hy]
    rfl
  rw [hL]
  refine fold_nearest (fun k => d (ix3 a b k)) _ (fun q hq => ?_) fun k => ?_
  · obtain ⟨n, -, rfl⟩ := List.mem_map.1 hq
    exact ⟨_, rfl⟩
  · refine List.mem_map.2 ⟨(⟨3, ![A, B, 128]⟩ : Shape).rowMajor (ix3 a b k), List.mem_filter.2 ⟨List.mem_finRange _, decide_eq_true ((hfib _).2 ⟨k, ?_⟩)⟩, ?_⟩
    · rw [Equiv.symm_apply_apply]
    · rw [Equiv.symm_apply_apply]; rfl

theorem numbered (a : Fin 32) (b : Fin 2048) (k : Fin 128) : iotaInDim S32x2048x128 32 2 (ix3 a b k) = BitVec.ofNat 32 k.val := rfl
theorem topped (i : S_.Idx) : constant (F := Ideal) S_ .f32 0x7F800000#32 i = (⊤ : EReal) := Cert.Proof.Attend.ofBits_top
theorem zeroed (i : S_.Idx) : constantI S_ 32 0#32 i = 0#32 := rfl

theorem near_of (d : FVec Ideal S32x2048x128 .f32) (y : IVec S32x2048x128 32) (u : FVec Ideal S_ .f32) (v : IVec S_ 32)
    (hy : ∀ (a : Fin 32) (b : Fin 2048) (k : Fin 128), y (ix3 a b k) = BitVec.ofNat 32 k.val) (hu : ∀ i, u i = (⊤ : EReal)) (hv : ∀ i, v i = 0#32) (n : Fin 32) (l : Fin 2048) :
    (Host.argReduce (F := Ideal) (φ := .f32) reducer_argmin_f32_i32 d y u v reducesTo_S32x2048x128_S32x2048_d2 h_S_ (ix2 n l)).2 = BitVec.ofNat 32 (nearest fun k => d (ix3 n l k)).val :=
  least_at (A := 32) (B := 2048) d y u v hy hu hv reducesTo_S32x2048x128_S32x2048_d2 h_S_ n l

theorem near_eq (d : FVec Ideal S32x2048x128 .f32) : near d = fun j => (Host.argReduce reducer_argmin_f32_i32 d (iotaInDim S32x2048x128 32 2) (constant S_ .f32 0x7F800000#32) (constantI S_ 32 0#32) reducesTo_S32x2048x128_S32x2048_d2 h_S_ j).2 := rfl

/-- The nearest centre of each row is the first of least distance. -/
theorem near_at (d : FVec Ideal S32x2048x128 .f32) (n : Fin 32) (l : Fin 2048) :
    near d (ix2 n l) = BitVec.ofNat 32 (nearest fun k => d (ix3 n l k)).val :=
  (congrFun (near_eq d) (ix2 n l)).trans (near_of d _ _ _ numbered topped zeroed n l)

end Cert.Proof.Plain

end
-- ==== Proof.Readings.lean ====
/-
  Each stretch of the attention's reference read at an index over the extended reals.
-/
module

public import proofs.«01_k».proof.Proof.Nearest
public import proofs.«01_k».proof.Proof.Heads
public import Idealize.ShloMosaic.Lib.Pointwise

@[expose] public section

noncomputable section

namespace Cert.Proof.Plain

open Cert.AttnReferenceIdeal Cert.AttnReferenceIdeal.Gen
open Idealize.ShloMosaic
open Cert.Proof.Attend (nearest bit live live_pos seat group hot count total move logit peak weight share mixed ofBits_bottom)

/-- A head of a batch among all the heads. -/
abbrev flat (b : Fin 2) (h : Fin 16) : Fin 32 := ⟨b.val * 16 + h.val, by omega⟩

theorem rows_at (x : FVec Ideal S2x2048x1024 .f32) (w : FVec Ideal S1024x1024 .f32) (y : FVec Ideal S1024 .f32) (b : Fin 2) (h : Fin 16) (l : Fin 2048) (e : Fin 64) :
    rows x w y (ix3 (flat b h) l e) = Attend.line x b h w y l e := by
  unfold rows Attend.line
  pointwise
  have hb : (⟨(b.val * 16 + h.val) / 16, by omega⟩ : Fin 2) = b := Fin.ext (show (b.val * 16 + h.val) / 16 = b.val by omega)
  have he : (⟨(b.val * 16 + h.val) % 16 * 64 + e.val, by omega⟩ : Fin 1024) = ⟨h.val * 64 + e.val, by omega⟩ :=
    Fin.ext (show (b.val * 16 + h.val) % 16 * 64 + e.val = h.val * 64 + e.val by omega)
  rw [hb, he]

theorem bits_at (a : IVec S2x2048 1) (n : IVec S2 32) (b : Fin 2) (h : Fin 16) (l : Fin 2048) : bits a n (ix2 (flat b h) l) = bit a n b l := by
  unfold bits bit
  pointwise
  have hb : (⟨(b.val * 16 + h.val) / 16, by omega⟩ : Fin 2) = b := Fin.ext (show (b.val * 16 + h.val) / 16 = b.val by omega)
  rw [hb]
  exact BitVec.and_comm _ _

theorem column_at (g : IVec S32x2048 1) (n : Fin 32) (l : Fin 2048) : column (F := Ideal) g (ix3 n l 0) = FloatOps.uitofp (F := Ideal) .f32 (g (ix2 n l)) := by
  unfold column
  pointwise

theorem starts_at (q : FVec Ideal S32x2048x64 .f32) (n : Fin 32) (j : Fin 128) (e : Fin 64) :
    starts q (ix3 n j e) = q (ix3 n (seat (seats (F := Ideal)) j) e) :=
  Cert.Proof.Attend.middle_apply _ q (seats (F := Ideal)) n j e

section

variable (q k v : FVec Ideal S32x2048x64 .f32) (c : FVec Ideal S32x128x64 .f32) (n : Fin 32)

theorem apart_at (l : Fin 2048) (j : Fin 128) :
    apart (squares q) q c (ix3 n l j) = Attend.dist (fun l e => q (ix3 n l e)) (fun j e => c (ix3 n j e)) l j := by
  unfold apart squares Attend.dist
  pointwise
  rfl

theorem eq_word (i j : Fin 128) : IntOp.cmpi .eq (BitVec.ofNat 32 i.val) (BitVec.ofNat 32 j.val) = if i = j then 1#1 else 0#1 := by
  show BitVec.ofBool (BitVec.ofNat 32 i.val == BitVec.ofNat 32 j.val) = _
  by_cases h : i = j
  · rw [if_pos h, h, beq_self_eq_true]; rfl
  · rw [if_neg h, beq_eq_false_iff_ne.2 fun e => h (Fin.ext ?_)]
    · rfl
    · have := congrArg BitVec.toNat e
      rw [BitVec.toNat_ofNat, BitVec.toNat_ofNat, Nat.mod_eq_of_lt (by omega), Nat.mod_eq_of_lt (by omega)] at this
      exact this

theorem belong_at (w : FVec Ideal S32x2048x1 .f32) (g : IVec S32x2048 32) (l : Fin 2048) (i j : Fin 128) (hg : g (ix2 n l) = BitVec.ofNat 32 i.val) :
    belong w g (ix3 n l j) = if j = i then w (ix3 n l 0) else 0 := by
  unfold belong
  pointwise
  rw [hg, eq_word]
  by_cases e : j = i
  · rw [if_pos e, if_pos e.symm]; simp [FloatOps.uitofp]
  · rw [if_neg e, if_neg (Ne.symm e)]; simp [FloatOps.uitofp]

theorem counts_at (o : FVec Ideal S32x2048x128 .f32) (j : Fin 128) : counts o (ix2 n j) = ∑ l, o (ix3 n l j) := by
  unfold counts
  pointwise

theorem means_at (o : FVec Ideal S32x2048x128 .f32) (j : Fin 128) (e : Fin 64) :
    means q c o (ix3 n j e) = if 0 < counts o (ix2 n j) then Ideal.div (∑ l, o (ix3 n l j) * q (ix3 n l e)) (max (counts o (ix2 n j)) 1) else c (ix3 n j e) := by
  unfold means
  generalize counts o = z
  pointwise

theorem logits_at (g : IVec S32x2048 1) (j : Fin 128) (l : Fin 2048) :
    logits k c g (ix3 n j l) = logit (fun l e => k (ix3 n l e)) (fun j e => c (ix3 n j e)) (fun l => FloatOps.uitofp (F := Ideal) .f32 (g (ix2 n l))) l j := by
  unfold logits logit
  pointwise
  rw [Finset.sum_congr rfl fun e _ => mul_comm (c (ix3 n j e)) (k (ix3 n l e))]
  generalize g (ix2 n l) = x
  rcases BitVec.eq_zero_or_eq_one x with h | h <;> subst h <;> simp [FloatOps.uitofp, Scalar.select, Attend.scale, Attend.low]

/-- The largest along the last axis of three, from the bottom element, at an index. -/
theorem largest_at {A B C : Nat} (z : FVec Ideal ⟨3, ![A, B, C]⟩ .f32) (u : FVec Ideal S_ .f32) (hu : ∀ i, u i = (⊥ : EReal))
    (h : (⟨3, ![A, B, C]⟩ : Shape).ReducesTo [2] ⟨2, ![A, B]⟩) (h₀ : 0 < S_.numel) (a : Fin A) (b : Fin B) :
    Host.reduce (FloatOps.maximumf (F := Ideal) (φ := .f32)) z u h h₀ (ix2 a b) = Finset.univ.fold max (⊥ : EReal) fun k => z (ix3 a b k) := by
  pointwise
  rw [hu]

/-- The largest logit of each centre, -/
def tops (z : FVec Ideal S32x128x2048 .f32) : FVec Ideal S32x128 .f32 := Host.reduce FloatOps.maximumf z (constant S_ .f32 0xFF800000#32) reducesTo_S32x128x2048_S32x128_d2 h_S_

/-- and the exponentials below it. -/
def under (z : FVec Ideal S32x128x2048 .f32) (r : FVec Ideal S32x128 .f32) : FVec Ideal S32x128x2048 .f32 :=
  Host.exp (subf z (broadcastInDim S32x128x2048 ![0, 1, 2] bcast_S32x128x1_S32x128x2048_0_1_2 (broadcastInDim S32x128x1 ![0, 1] bcast_S32x128_S32x128x1_0_1
    (maximumf (broadcastInDim S32x128 ![] bcast_S_S32x128 (constant S_ .f32 0xFF800000#32)) r))))

theorem powers_eq (z : FVec Ideal S32x128x2048 .f32) : powers z = under z (tops z) := rfl

theorem under_at (z : FVec Ideal S32x128x2048 .f32) (r : FVec Ideal S32x128 .f32) (j : Fin 128) (l : Fin 2048) :
    under z r (ix3 n j l) = Ideal.exp (z (ix3 n j l) - r (ix2 n j)) := by
  unfold under
  pointwise
  rw [ofBits_bottom, max_eq_right bot_le]

theorem tops_at (z : FVec Ideal S32x128x2048 .f32) (j : Fin 128) : tops z (ix2 n j) = Finset.univ.fold max (⊥ : EReal) fun l => z (ix3 n j l) :=
  largest_at z (constant S_ .f32 0xFF800000#32) (fun _ => ofBits_bottom) reducesTo_S32x128x2048_S32x128_d2 h_S_ n j

theorem powers_at (z : FVec Ideal S32x128x2048 .f32) (j : Fin 128) (l : Fin 2048) :
    powers z (ix3 n j l) = Ideal.exp (z (ix3 n j l) - Finset.univ.fold max (⊥ : EReal) fun l => z (ix3 n j l)) := by
  rw [powers_eq, under_at, tops_at]

theorem shares_at (z : FVec Ideal S32x128x2048 .f32) (j : Fin 128) (l : Fin 2048) :
    shares z (ix3 n j l) = Ideal.div (z (ix3 n j l)) (∑ l, z (ix3 n j l)) := by
  unfold shares
  pointwise

end

theorem mixtures_at (v : FVec Ideal S32x2048x64 .f32) (s : FVec Ideal S32x128x2048 .f32) (b : Fin 2) (h : Fin 16) (j e : Fin 128) :
    mixtures v s (ix4 b h j e) = if g : e.val < 64 then ∑ l, s (ix3 (flat b h) j l) * v (ix3 (flat b h) l ⟨e.val, g⟩) else 0 := by
  unfold mixtures
  pointwise
  by_cases g : e.val < 64
  · rw [dif_pos ⟨by omega, g⟩, dif_pos g]
  · rw [dif_neg fun p => g p.2, dif_neg g]
    simp [FloatOps.sitofp]

theorem numbers_at (g : IVec S32x2048 32) (b : Fin 2) (h : Fin 16) (l : Fin 2048) :
    numbers g (ix4 b h 0 l) = g (ix2 (flat b h) l) + BitVec.ofNat 32 ((b.val * 16 + h.val) * 128) := by
  unfold numbers
  pointwise
  refine congrArg (g (ix2 (flat b h) l) + ·) ?_
  show 128#32 * BitVec.ofNat 32 (b.val * 16 + h.val) = _
  rw [BitVec.ofNat_mul, BitVec.mul_comm]

end Cert.Proof.Plain

end
-- ==== Proof.Chain.lean ====
/-
  The attention's reference, from its arguments to its two results, and what the results hold over the extended reals.
-/
module

public import proofs.«01_k».proof.Proof.Readings

@[expose] public section

noncomputable section

namespace Cert.Proof.Plain

open Cert.AttnReferenceIdeal Cert.AttnReferenceIdeal.Gen
open Idealize.ShloMosaic Idealize.ShloMosaic.StableHlo Idealize.ShloMosaic.TcCoe
open Idealize.SL.Sem

/-! ### The results as functions of the arguments -/

section

variable {F : FTy → Type} [FloatOps F]

/-- One step of the centres. -/
def stepped (q : FVec F S32x2048x64 .f32) (c : FVec F S32x128x64 .f32) (w : FVec F S32x2048x1 .f32) : FVec F S32x128x64 .f32 :=
  means q c (belong w (near (apart (squares q) q c)))

/-- The shares of the keys. -/
def parts (k : FVec F S32x2048x64 .f32) (c : FVec F S32x128x64 .f32) (g : IVec S32x2048 1) : FVec F S32x128x2048 .f32 :=
  shares (powers (logits k c g))

variable (V : Valuation τ sig (Elt F))

/-- A buffer as given. -/
abbrev given (r : Ref sig .tc) := V (Proc.devRef .tc r)

def qs := rows (given V main_arg0) (given V main_arg3) (given V main_arg4)
def ks := rows (given V main_arg0) (given V main_arg5) (given V main_arg6)
def vs := rows (given V main_arg0) (given V main_arg7) (given V main_arg8)
def gs := bits (given V main_arg1) (given V main_arg2)
def c₁ := stepped (qs V) (starts (qs V)) (column (gs V))
def n₂ := near (apart (squares (qs V)) (qs V) (c₁ V))
def c₂ := stepped (qs V) (c₁ V) (column (gs V))

/-! ### The contents after each stretch -/

def W₁ : Valuation τ sig (Elt F) := after rowsOps V
def W₂ : Valuation τ sig (Elt F) := after maskOps (W₁ V)
def W₃ : Valuation τ sig (Elt F) := after seatsOps (W₂ V)
def W₄ : Valuation τ sig (Elt F) := after apartOps₁ (W₃ V)
def W₅ : Valuation τ sig (Elt F) := after nearOps₁ (W₄ V)
def W₆ : Valuation τ sig (Elt F) := after meanOps₁ (W₅ V)
def W₇ : Valuation τ sig (Elt F) := after apartOps₂ (W₆ V)
def W₈ : Valuation τ sig (Elt F) := after nearOps₂ (W₇ V)
def W₉ : Valuation τ sig (Elt F) := after meanOps₂ (W₈ V)
def W₁₀ : Valuation τ sig (Elt F) := after shareOps (W₉ V)
def W₁₁ : Valuation τ sig (Elt F) := after lastOps (W₁₀ V)

theorem after_append (a b : List (HloOp τ sig (Elt F))) (V : Valuation τ sig (Elt F)) : after (a ++ b) V = after b (after a V) := by
  induction a generalizing V with
  | nil => rfl
  | cons x a ih => exact ih _

theorem after_line : after line V = W₁₁ V := by
  unfold line
  simp only [after_append]
  rfl

/-- An array that the two steps of the clustering do not write, after them. -/
theorem past₈ (r : Ref sig .tc) (h : r ∉ seatsOpsW ∧ r ∉ apartOps₁W ∧ r ∉ nearOps₁W ∧ r ∉ meanOps₁W ∧ r ∉ apartOps₂W ∧ r ∉ nearOps₂W) :
    (W₈ V) (Proc.devRef .tc r) = (W₂ V) (Proc.devRef .tc r) :=
  (nearOps₂_keeps (W₇ V) r h.2.2.2.2.2).trans ((apartOps₂_keeps (W₆ V) r h.2.2.2.2.1).trans ((meanOps₁_keeps (W₅ V) r h.2.2.2.1).trans
    ((nearOps₁_keeps (W₄ V) r h.2.2.1).trans ((apartOps₁_keeps (W₃ V) r h.2.1).trans (seatsOps_keeps (W₂ V) r h.1)))))

theorem q₁ : (W₁ V) (Proc.devRef .tc main_v6) = qs V := rowsOps_q V
theorem k₁ : (W₁ V) (Proc.devRef .tc main_v13) = ks V := rowsOps_k V
theorem v₁ : (W₁ V) (Proc.devRef .tc main_v20) = vs V := rowsOps_v V
theorem q₂ : (W₂ V) (Proc.devRef .tc main_v6) = qs V := (maskOps_keeps (W₁ V) main_v6 (by decide)).trans (q₁ V)
theorem q₃ : (W₃ V) (Proc.devRef .tc main_v6) = qs V := (seatsOps_keeps (W₂ V) main_v6 (by decide)).trans (q₂ V)
theorem q₅ : (W₅ V) (Proc.devRef .tc main_v6) = qs V := (nearOps₁_keeps (W₄ V) main_v6 (by decide)).trans ((apartOps₁_keeps (W₃ V) main_v6 (by decide)).trans (q₃ V))
theorem q₆ : (W₆ V) (Proc.devRef .tc main_v6) = qs V := (meanOps₁_keeps (W₅ V) main_v6 (by decide)).trans (q₅ V)
theorem q₈ : (W₈ V) (Proc.devRef .tc main_v6) = qs V := (past₈ V main_v6 (by decide)).trans (q₂ V)
theorem k₉ : (W₉ V) (Proc.devRef .tc main_v13) = ks V := (meanOps₂_keeps (W₈ V) main_v13 (by decide)).trans ((past₈ V main_v13 (by decide)).trans ((maskOps_keeps (W₁ V) main_v13 (by decide)).trans (k₁ V)))
theorem v₁₀ : (W₁₀ V) (Proc.devRef .tc main_v20) = vs V := (shareOps_keeps (W₉ V) main_v20 (by decide)).trans ((meanOps₂_keeps (W₈ V) main_v20 (by decide)).trans ((past₈ V main_v20 (by decide)).trans ((maskOps_keeps (W₁ V) main_v20 (by decide)).trans (v₁ V))))
theorem g₂ : (W₂ V) (Proc.devRef .tc main_v31) = gs V := by
  refine (maskOps_bits (W₁ V)).trans ?_
  rw [show (W₁ V) (Proc.devRef .tc main_arg1) = _ from (rowsOps_keeps V main_arg1 (by decide)), show (W₁ V) (Proc.devRef .tc main_arg2) = _ from (rowsOps_keeps V main_arg2 (by decide))]
  rfl
theorem w₂ : (W₂ V) (Proc.devRef .tc main_v33) = column (gs V) := by
  refine (maskOps_column (W₁ V)).trans ?_
  rw [show (W₁ V) (Proc.devRef .tc main_arg1) = _ from (rowsOps_keeps V main_arg1 (by decide)), show (W₁ V) (Proc.devRef .tc main_arg2) = _ from (rowsOps_keeps V main_arg2 (by decide))]
  rfl
theorem g₉ : (W₉ V) (Proc.devRef .tc main_v31) = gs V := (meanOps₂_keeps (W₈ V) main_v31 (by decide)).trans ((past₈ V main_v31 (by decide)).trans (g₂ V))
theorem w₅ : (W₅ V) (Proc.devRef .tc main_v33) = column (gs V) := ((nearOps₁_keeps (W₄ V) main_v33 (by decide)).trans ((apartOps₁_keeps (W₃ V) main_v33 (by decide)).trans (seatsOps_keeps (W₂ V) main_v33 (by decide)))).trans (w₂ V)
theorem w₈ : (W₈ V) (Proc.devRef .tc main_v33) = column (gs V) := (past₈ V main_v33 (by decide)).trans (w₂ V)
theorem s₃ : (W₃ V) (Proc.devRef .tc main_v42) = starts (qs V) := by
  refine (seatsOps_starts (W₂ V)).trans ?_
  rw [q₂ V]
  try rfl
theorem s₅ : (W₅ V) (Proc.devRef .tc main_v42) = starts (qs V) := ((nearOps₁_keeps (W₄ V) main_v42 (by decide)).trans (apartOps₁_keeps (W₃ V) main_v42 (by decide))).trans (s₃ V)
theorem sq₄ : (W₄ V) (Proc.devRef .tc main_v44) = squares (qs V) := by
  refine (apartOps₁_squares (W₃ V)).trans ?_
  rw [q₃ V]
  try rfl
theorem sq₆ : (W₆ V) (Proc.devRef .tc main_v44) = squares (qs V) := ((meanOps₁_keeps (W₅ V) main_v44 (by decide)).trans (nearOps₁_keeps (W₄ V) main_v44 (by decide))).trans (sq₄ V)
theorem d₄ : (W₄ V) (Proc.devRef .tc main_v56) = apart (squares (qs V)) (qs V) (starts (qs V)) := by
  refine (apartOps₁_apart (W₃ V)).trans ?_
  rw [q₃ V, s₃ V]
  try rfl
theorem n₅ : (W₅ V) (Proc.devRef .tc main_v57) = near (apart (squares (qs V)) (qs V) (starts (qs V))) := by
  refine (nearOps₁_near (W₄ V)).trans ?_
  rw [d₄ V]
  try rfl
theorem c₆ : (W₆ V) (Proc.devRef .tc main_v71) = c₁ V := by
  refine (meanOps₁_means (W₅ V)).trans ?_
  rw [q₅ V, s₅ V, w₅ V, n₅ V]
  try rfl
theorem c₈ : (W₈ V) (Proc.devRef .tc main_v71) = c₁ V := ((nearOps₂_keeps (W₇ V) main_v71 (by decide)).trans (apartOps₂_keeps (W₆ V) main_v71 (by decide))).trans (c₆ V)
theorem d₇ : (W₇ V) (Proc.devRef .tc main_v82) = apart (squares (qs V)) (qs V) (c₁ V) := by
  refine (apartOps₂_apart (W₆ V)).trans ?_
  rw [sq₆ V, q₆ V, c₆ V]
  try rfl
theorem n₈ : (W₈ V) (Proc.devRef .tc main_v83) = n₂ V := by
  refine (nearOps₂_near (W₇ V)).trans ?_
  rw [d₇ V]
  try rfl
theorem n₁₀ : (W₁₀ V) (Proc.devRef .tc main_v83) = n₂ V := ((shareOps_keeps (W₉ V) main_v83 (by decide)).trans (meanOps₂_keeps (W₈ V) main_v83 (by decide))).trans (n₈ V)
theorem c₉ : (W₉ V) (Proc.devRef .tc main_v97) = c₂ V := by
  refine (meanOps₂_means (W₈ V)).trans ?_
  rw [q₈ V, c₈ V, w₈ V, n₈ V]
  try rfl
theorem p₁₀ : (W₁₀ V) (Proc.devRef .tc main_v113) = parts (ks V) (c₂ V) (gs V) := by
  refine (shareOps_shares (W₉ V)).trans ?_
  rw [k₉ V, c₉ V, g₉ V]
  try rfl

/-- The first result, -/
theorem ends_mixtures : after line V (Proc.devRef .tc main_v116) = mixtures (vs V) (parts (ks V) (c₂ V) (gs V)) := by
  rw [after_line]
  refine (lastOps_mixtures (W₁₀ V)).trans ?_
  rw [v₁₀ V, p₁₀ V]

/-- the second, -/
theorem ends_numbers : after line V (Proc.devRef .tc main_v123) = numbers (n₂ V) := by
  rw [after_line]
  refine (lastOps_numbers (W₁₀ V)).trans ?_
  rw [n₁₀ V]

/-- and the arguments as they were. -/
theorem ends_kept (r : Ref sig .tc) (h₁ : r ∉ rowsOpsW) (h₂ : r ∉ maskOpsW) (h₃ : r ∉ seatsOpsW) (h₄ : r ∉ apartOps₁W) (h₅ : r ∉ nearOps₁W) (h₆ : r ∉ meanOps₁W) (h₇ : r ∉ apartOps₂W) (h₈ : r ∉ nearOps₂W) (h₉ : r ∉ meanOps₂W) (h₁₀ : r ∉ shareOpsW) (h₁₁ : r ∉ lastOpsW) :
    after line V (Proc.devRef .tc r) = V (Proc.devRef .tc r) := by
  rw [after_line]
  exact ((lastOps_keeps (W₁₀ V) r h₁₁).trans ((shareOps_keeps (W₉ V) r h₁₀).trans ((meanOps₂_keeps (W₈ V) r h₉).trans ((nearOps₂_keeps (W₇ V) r h₈).trans ((apartOps₂_keeps (W₆ V) r h₇).trans ((meanOps₁_keeps (W₅ V) r h₆).trans ((nearOps₁_keeps (W₄ V) r h₅).trans ((apartOps₁_keeps (W₃ V) r h₄).trans ((seatsOps_keeps (W₂ V) r h₃).trans ((maskOps_keeps (W₁ V) r h₂).trans (rowsOps_keeps V r h₁)))))))))))

end

end Cert.Proof.Plain

end
-- ==== Proof.WholeChain.lean ====
/-
  What each stretch of the whole program's reference leaves, as a function of the buffers it is given, and the line from its
  arguments to its result. Up to the shares of the keys the stretches are those of the attention's reference.
-/
module

public import proofs.«01_k».proof.Proof.WholePlain
public import proofs.«01_k».proof.Proof.Chain

@[expose] public section

noncomputable section

namespace Cert.Proof.WholePlain

open Cert.WholeReferenceIdeal Cert.WholeReferenceIdeal.Gen
open Idealize.ShloMosaic Idealize.ShloMosaic.StableHlo Idealize.ShloMosaic.TcCoe
open Cert.Proof.Plain (rows bits column seats starts squares apart belong counts means logits powers shares stepped parts after_append)

variable {F : FTy → Type} [FloatOps F]

/-- The nearest centre of each row. -/
def near (d : FVec F S32x2048x128 .f32) : IVec S32x2048 32 := fun j =>
  (Host.argReduce reducer_argmin_f32_i32 d (iotaInDim S32x2048x128 32 2) (constant S_ .f32 0x7F800000#32) (constantI S_ 32 0#32) reducesTo_S32x2048x128_S32x2048_d2 h_S_ j).2

theorem reducer_eq : @reducer_argmin_f32_i32 F _ = @Cert.AttnReferenceIdeal.reducer_argmin_f32_i32 F _ := rfl

theorem near_eq : @near F _ = @Plain.near F _ := by
  delta near Plain.near
  rw [reducer_eq]

/-- The mixtures of every head. -/
def mixes (v : FVec F S32x2048x64 .f32) (s : FVec F S32x128x2048 .f32) : FVec F S32x128x64 .f32 :=
  Host.dotGeneral (φ₁ := .f32) (φ₂ := .f32) dot_S32x128x2048_S32x2048x64_S32x128x64_2_1_1_2_0_0 none s v

/-- The centres' numbers along the rows' places, -/
def spread (g : IVec S32x2048 32) : IVec S32x2048x64 32 :=
  broadcastInDim S32x2048x64 ![0, 1, 2] bcast_S32x2048x1_S32x2048x64_0_1_2 (broadcastInDim S32x2048x1 ![0, 1] bcast_S32x2048_S32x2048x1_0_1 g)

/-- wrapped, 128 added to a negative one, -/
def wrapped (x : IVec S32x2048x64 32) : IVec S32x2048x64 32 :=
  select (cmpi .slt x (broadcastInDim S32x2048x64 ![] bcast_S_S32x2048x64 (constantI S_ 32 0#32)))
    (addi x (broadcastInDim S32x2048x64 ![] bcast_S_S32x2048x64 (constantI S_ 32 128#32))) x

/-- and as a column. -/
def posts (x : IVec S32x2048x64 32) : IVec S32x2048x64x1 32 := shapeCast S32x2048x64x1 x shapeCasts_S32x2048x64_S32x2048x64x1

/-- The mixtures taken at a column of numbers, with a fill where a number names no centre. -/
def taken (t : FVec F S32x128x64 .f32) (p : IVec S32x2048x64x1 32) : FVec F S32x2048x64 .f32 :=
  select (Host.reduce IntOp.andi (andi (cmpi .sge p (broadcastInDim S32x2048x64x1 ![] bcast_S_S32x2048x64x1 (constantI S_ 32 0#32)))
      (cmpi .sle p (broadcastInDim S32x2048x64x1 ![0, 1, 2, 3] bcast_S1x1x1x1_S32x2048x64x1_0_1_2_3 (broadcastInDim S1x1x1x1 ![3] bcast_S1_S1x1x1x1_3 (constantI S1 32 127#32)))))
      (constantI S_ 1 1#1) reducesTo_S32x2048x64x1_S32x2048x64_d3 h_S_)
    (Host.gather gather_S32x128x64_S32x2048x64x1_S32x2048x64_n_1_02_02_1_3_111 t p)
    (broadcastInDim S32x2048x64 ![] bcast_S_S32x2048x64 (constant S_ .f32 0x7FC00000#32))

/-- The result, from the rows taken. -/
def final (t : FVec F S32x2048x64 .f32) (w : FVec F S32x2048x1 .f32) (o : FVec F S1024x1024 .f32) (y : FVec F S1024 .f32) : FVec F S2x2048x1024 .f32 :=
  addf (Host.dotGeneral (φ₁ := .f32) (φ₂ := .f32) dot_S2x2048x1024_S1024x1024_S2x2048x1024_2_0_01_1_n_n none
      (shapeCast S2x2048x1024 (transpose S2x2048x16x64 [0, 2, 1, 3]
        (shapeCast S2x16x2048x64 (mulf t (broadcastInDim S32x2048x64 ![0, 1, 2] bcast_S32x2048x1_S32x2048x64_0_1_2 w)) shapeCasts_S32x2048x64_S2x16x2048x64)
        transposes_S2x16x2048x64_S2x2048x16x64_0_2_1_3) shapeCasts_S2x2048x16x64_S2x2048x1024) o)
    (broadcastInDim S2x2048x1024 ![0, 1, 2] bcast_S1x1x1024_S2x2048x1024_0_1_2 (broadcastInDim S1x1x1024 ![2] bcast_S1024_S1x1x1024_2 y))

variable (V : Valuation τ sig (Elt F))

theorem rowsOps_q : after rowsOps V (Proc.devRef .tc main_v6) = rows (V (Proc.devRef .tc main_arg0)) (V (Proc.devRef .tc main_arg3)) (V (Proc.devRef .tc main_arg4)) := by
  simp only [rowsOps]
  after_results_simp <;> rfl
theorem rowsOps_k : after rowsOps V (Proc.devRef .tc main_v13) = rows (V (Proc.devRef .tc main_arg0)) (V (Proc.devRef .tc main_arg5)) (V (Proc.devRef .tc main_arg6)) := by
  simp only [rowsOps]
  after_results_simp <;> rfl
theorem rowsOps_v : after rowsOps V (Proc.devRef .tc main_v20) = rows (V (Proc.devRef .tc main_arg0)) (V (Proc.devRef .tc main_arg7)) (V (Proc.devRef .tc main_arg8)) := by
  simp only [rowsOps]
  after_results_simp <;> rfl
theorem maskOps_bits : after maskOps V (Proc.devRef .tc main_v31) = bits (V (Proc.devRef .tc main_arg1)) (V (Proc.devRef .tc main_arg2)) := by
  simp only [maskOps]
  after_results_simp <;> rfl
theorem maskOps_column : after maskOps V (Proc.devRef .tc main_v33) = column (F := F) (bits (V (Proc.devRef .tc main_arg1)) (V (Proc.devRef .tc main_arg2))) := by
  simp only [maskOps]
  after_results_simp <;> rfl
theorem seatsOps_starts : after seatsOps V (Proc.devRef .tc main_v42) = starts (V (Proc.devRef .tc main_v6)) := by
  simp only [seatsOps, TRef.binary, TRef.nullary, TRef.ternary, TRef.unary, TRef.reshape, TRef.toBuf, TRef.ofBuf, cast_eq]
  after_results_simp <;> rfl
theorem apartOps₁_squares : after apartOps₁ V (Proc.devRef .tc main_v44) = squares (V (Proc.devRef .tc main_v6)) := by
  simp only [apartOps₁]
  after_results_simp <;> rfl
theorem apartOps₁_apart : after apartOps₁ V (Proc.devRef .tc main_v56) = apart (squares (V (Proc.devRef .tc main_v6))) (V (Proc.devRef .tc main_v6)) (V (Proc.devRef .tc main_v42)) := by
  simp only [apartOps₁]
  after_results_simp <;> rfl
theorem nearOps₁_near : after nearOps₁ V (Proc.devRef .tc main_v57) = near (V (Proc.devRef .tc main_v56)) := by
  simp only [nearOps₁, TRef.binary, TRef.nullary, TRef.ternary, TRef.unary, TRef.quaternary, TRef.reshape, TRef.toBuf, TRef.ofBuf, cast_eq]
  after_results_simp <;> rfl
theorem meanOps₁_means : after meanOps₁ V (Proc.devRef .tc main_v71)
    = means (V (Proc.devRef .tc main_v6)) (V (Proc.devRef .tc main_v42)) (belong (V (Proc.devRef .tc main_v33)) (V (Proc.devRef .tc main_v57))) := by
  simp only [meanOps₁, TRef.binary, TRef.nullary, TRef.ternary, TRef.unary, TRef.quaternary, TRef.reshape, TRef.toBuf, TRef.ofBuf, cast_eq]
  after_results_simp <;> rfl
theorem apartOps₂_apart : after apartOps₂ V (Proc.devRef .tc main_v82) = apart (V (Proc.devRef .tc main_v44)) (V (Proc.devRef .tc main_v6)) (V (Proc.devRef .tc main_v71)) := by
  simp only [apartOps₂]
  after_results_simp <;> rfl
theorem nearOps₂_near : after nearOps₂ V (Proc.devRef .tc main_v83) = near (V (Proc.devRef .tc main_v82)) := by
  simp only [nearOps₂, TRef.binary, TRef.nullary, TRef.ternary, TRef.unary, TRef.quaternary, TRef.reshape, TRef.toBuf, TRef.ofBuf, cast_eq]
  after_results_simp <;> rfl
theorem meanOps₂_means : after meanOps₂ V (Proc.devRef .tc main_v97)
    = means (V (Proc.devRef .tc main_v6)) (V (Proc.devRef .tc main_v71)) (belong (V (Proc.devRef .tc main_v33)) (V (Proc.devRef .tc main_v83))) := by
  simp only [meanOps₂, TRef.binary, TRef.nullary, TRef.ternary, TRef.unary, TRef.quaternary, TRef.reshape, TRef.toBuf, TRef.ofBuf, cast_eq]
  after_results_simp <;> rfl
theorem shareOps_shares : after shareOps V (Proc.devRef .tc main_v113)
    = shares (powers (logits (V (Proc.devRef .tc main_v13)) (V (Proc.devRef .tc main_v97)) (V (Proc.devRef .tc main_v31)))) := by
  simp only [shareOps, TRef.binary, TRef.nullary, TRef.ternary, TRef.unary, TRef.quaternary, TRef.reshape, TRef.toBuf, TRef.ofBuf, cast_eq]
  after_results_simp <;> rfl
theorem mixOps_mixes : after mixOps V (Proc.devRef .tc main_v114) = mixes (V (Proc.devRef .tc main_v20)) (V (Proc.devRef .tc main_v113)) := by
  simp only [mixOps]
  after_results_simp <;> rfl
theorem pickOps_taken : after pickOps V (Proc.devRef .tc main_v117) = taken (V (Proc.devRef .tc main_v114)) (posts (wrapped (spread (V (Proc.devRef .tc main_v83))))) := by
  simp only [pickOps, TRef.binary, TRef.nullary, TRef.ternary, TRef.unary, TRef.quaternary, TRef.reshape, TRef.toBuf, TRef.ofBuf, cast_eq]
  after_results_simp <;> rfl
theorem outOps_final : after outOps V (Proc.devRef .tc main_v126)
    = final (V (Proc.devRef .tc main_v117)) (V (Proc.devRef .tc main_v33)) (V (Proc.devRef .tc main_arg9)) (V (Proc.devRef .tc main_arg10)) := by
  simp only [outOps]
  after_results_simp <;> rfl

/-- A buffer as given. -/
abbrev given (r : Ref sig .tc) := V (Proc.devRef .tc r)

def qs := rows (given V main_arg0) (given V main_arg3) (given V main_arg4)
def ks := rows (given V main_arg0) (given V main_arg5) (given V main_arg6)
def vs := rows (given V main_arg0) (given V main_arg7) (given V main_arg8)
def gs := bits (given V main_arg1) (given V main_arg2)
def c₁ := stepped (qs V) (starts (qs V)) (column (gs V))
def n₂ := Plain.near (apart (squares (qs V)) (qs V) (c₁ V))
def c₂ := stepped (qs V) (c₁ V) (column (gs V))

/-! ### The contents after each stretch -/

def W₁ : Valuation τ sig (Elt F) := after rowsOps V
def W₂ : Valuation τ sig (Elt F) := after maskOps (W₁ V)
def W₃ : Valuation τ sig (Elt F) := after seatsOps (W₂ V)
def W₄ : Valuation τ sig (Elt F) := after apartOps₁ (W₃ V)
def W₅ : Valuation τ sig (Elt F) := after nearOps₁ (W₄ V)
def W₆ : Valuation τ sig (Elt F) := after meanOps₁ (W₅ V)
def W₇ : Valuation τ sig (Elt F) := after apartOps₂ (W₆ V)
def W₈ : Valuation τ sig (Elt F) := after nearOps₂ (W₇ V)
def W₉ : Valuation τ sig (Elt F) := after meanOps₂ (W₈ V)
def W₁₀ : Valuation τ sig (Elt F) := after shareOps (W₉ V)
def W₁₁ : Valuation τ sig (Elt F) := after mixOps (W₁₀ V)
def W₁₂ : Valuation τ sig (Elt F) := after pickOps (W₁₁ V)
def W₁₃ : Valuation τ sig (Elt F) := after outOps (W₁₂ V)

theorem after_line : after line V = W₁₃ V := by
  unfold line
  simp only [after_append]
  rfl

/-- An array that the two steps of the clustering do not write, after them. -/
theorem past₈ (r : Ref sig .tc) (h : r ∉ seatsOpsW ∧ r ∉ apartOps₁W ∧ r ∉ nearOps₁W ∧ r ∉ meanOps₁W ∧ r ∉ apartOps₂W ∧ r ∉ nearOps₂W) :
    (W₈ V) (Proc.devRef .tc r) = (W₂ V) (Proc.devRef .tc r) :=
  (nearOps₂_keeps (W₇ V) r h.2.2.2.2.2).trans ((apartOps₂_keeps (W₆ V) r h.2.2.2.2.1).trans ((meanOps₁_keeps (W₅ V) r h.2.2.2.1).trans
    ((nearOps₁_keeps (W₄ V) r h.2.2.1).trans ((apartOps₁_keeps (W₃ V) r h.2.1).trans (seatsOps_keeps (W₂ V) r h.1)))))

theorem q₁ : (W₁ V) (Proc.devRef .tc main_v6) = qs V := rowsOps_q V
theorem k₁ : (W₁ V) (Proc.devRef .tc main_v13) = ks V := rowsOps_k V
theorem v₁ : (W₁ V) (Proc.devRef .tc main_v20) = vs V := rowsOps_v V
theorem q₂ : (W₂ V) (Proc.devRef .tc main_v6) = qs V := (maskOps_keeps (W₁ V) main_v6 (by decide)).trans (q₁ V)
theorem q₃ : (W₃ V) (Proc.devRef .tc main_v6) = qs V := (seatsOps_keeps (W₂ V) main_v6 (by decide)).trans (q₂ V)
theorem q₅ : (W₅ V) (Proc.devRef .tc main_v6) = qs V := (nearOps₁_keeps (W₄ V) main_v6 (by decide)).trans ((apartOps₁_keeps (W₃ V) main_v6 (by decide)).trans (q₃ V))
theorem q₆ : (W₆ V) (Proc.devRef .tc main_v6) = qs V := (meanOps₁_keeps (W₅ V) main_v6 (by decide)).trans (q₅ V)
theorem q₈ : (W₈ V) (Proc.devRef .tc main_v6) = qs V := (past₈ V main_v6 (by decide)).trans (q₂ V)
theorem k₉ : (W₉ V) (Proc.devRef .tc main_v13) = ks V := (meanOps₂_keeps (W₈ V) main_v13 (by decide)).trans ((past₈ V main_v13 (by decide)).trans ((maskOps_keeps (W₁ V) main_v13 (by decide)).trans (k₁ V)))
theorem v₁₀ : (W₁₀ V) (Proc.devRef .tc main_v20) = vs V := (shareOps_keeps (W₉ V) main_v20 (by decide)).trans ((meanOps₂_keeps (W₈ V) main_v20 (by decide)).trans ((past₈ V main_v20 (by decide)).trans ((maskOps_keeps (W₁ V) main_v20 (by decide)).trans (v₁ V))))
theorem g₂ : (W₂ V) (Proc.devRef .tc main_v31) = gs V := by
  refine (maskOps_bits (W₁ V)).trans ?_
  rw [show (W₁ V) (Proc.devRef .tc main_arg1) = _ from (rowsOps_keeps V main_arg1 (by decide)), show (W₁ V) (Proc.devRef .tc main_arg2) = _ from (rowsOps_keeps V main_arg2 (by decide))]
  rfl
theorem w₂ : (W₂ V) (Proc.devRef .tc main_v33) = column (gs V) := by
  refine (maskOps_column (W₁ V)).trans ?_
  rw [show (W₁ V) (Proc.devRef .tc main_arg1) = _ from (rowsOps_keeps V main_arg1 (by decide)), show (W₁ V) (Proc.devRef .tc main_arg2) = _ from (rowsOps_keeps V main_arg2 (by decide))]
  rfl
theorem g₉ : (W₉ V) (Proc.devRef .tc main_v31) = gs V := (meanOps₂_keeps (W₈ V) main_v31 (by decide)).trans ((past₈ V main_v31 (by decide)).trans (g₂ V))
theorem w₅ : (W₅ V) (Proc.devRef .tc main_v33) = column (gs V) := ((nearOps₁_keeps (W₄ V) main_v33 (by decide)).trans ((apartOps₁_keeps (W₃ V) main_v33 (by decide)).trans (seatsOps_keeps (W₂ V) main_v33 (by decide)))).trans (w₂ V)
theorem w₈ : (W₈ V) (Proc.devRef .tc main_v33) = column (gs V) := (past₈ V main_v33 (by decide)).trans (w₂ V)
theorem s₃ : (W₃ V) (Proc.devRef .tc main_v42) = starts (qs V) := by
  refine (seatsOps_starts (W₂ V)).trans ?_
  rw [q₂ V]
  try rfl
theorem s₅ : (W₅ V) (Proc.devRef .tc main_v42) = starts (qs V) := ((nearOps₁_keeps (W₄ V) main_v42 (by decide)).trans (apartOps₁_keeps (W₃ V) main_v42 (by decide))).trans (s₃ V)
theorem sq₄ : (W₄ V) (Proc.devRef .tc main_v44) = squares (qs V) := by
  refine (apartOps₁_squares (W₃ V)).trans ?_
  rw [q₃ V]
  try rfl
theorem sq₆ : (W₆ V) (Proc.devRef .tc main_v44) = squares (qs V) := ((meanOps₁_keeps (W₅ V) main_v44 (by decide)).trans (nearOps₁_keeps (W₄ V) main_v44 (by decide))).trans (sq₄ V)
theorem d₄ : (W₄ V) (Proc.devRef .tc main_v56) = apart (squares (qs V)) (qs V) (starts (qs V)) := by
  refine (apartOps₁_apart (W₃ V)).trans ?_
  rw [q₃ V, s₃ V]
  try rfl
theorem n₅ : (W₅ V) (Proc.devRef .tc main_v57) = Plain.near (apart (squares (qs V)) (qs V) (starts (qs V))) := by
  refine (nearOps₁_near (W₄ V)).trans ?_
  rw [d₄ V, near_eq]
  try rfl
theorem c₆ : (W₆ V) (Proc.devRef .tc main_v71) = c₁ V := by
  refine (meanOps₁_means (W₅ V)).trans ?_
  rw [q₅ V, s₅ V, w₅ V, n₅ V]
  try rfl
theorem c₈ : (W₈ V) (Proc.devRef .tc main_v71) = c₁ V := ((nearOps₂_keeps (W₇ V) main_v71 (by decide)).trans (apartOps₂_keeps (W₆ V) main_v71 (by decide))).trans (c₆ V)
theorem d₇ : (W₇ V) (Proc.devRef .tc main_v82) = apart (squares (qs V)) (qs V) (c₁ V) := by
  refine (apartOps₂_apart (W₆ V)).trans ?_
  rw [sq₆ V, q₆ V, c₆ V]
  try rfl
theorem n₈ : (W₈ V) (Proc.devRef .tc main_v83) = n₂ V := by
  refine (nearOps₂_near (W₇ V)).trans ?_
  rw [d₇ V, near_eq]
  try rfl
theorem n₁₀ : (W₁₀ V) (Proc.devRef .tc main_v83) = n₂ V := ((shareOps_keeps (W₉ V) main_v83 (by decide)).trans (meanOps₂_keeps (W₈ V) main_v83 (by decide))).trans (n₈ V)
theorem c₉ : (W₉ V) (Proc.devRef .tc main_v97) = c₂ V := by
  refine (meanOps₂_means (W₈ V)).trans ?_
  rw [q₈ V, c₈ V, w₈ V, n₈ V]
  try rfl
theorem p₁₀ : (W₁₀ V) (Proc.devRef .tc main_v113) = parts (ks V) (c₂ V) (gs V) := by
  refine (shareOps_shares (W₉ V)).trans ?_
  rw [k₉ V, c₉ V, g₉ V]
  try rfl

theorem m₁₁ : (W₁₁ V) (Proc.devRef .tc main_v114) = mixes (vs V) (parts (ks V) (c₂ V) (gs V)) := by
  refine (mixOps_mixes (W₁₀ V)).trans ?_
  rw [v₁₀ V, p₁₀ V]
theorem n₁₁ : (W₁₁ V) (Proc.devRef .tc main_v83) = n₂ V := (mixOps_keeps (W₁₀ V) main_v83 (by decide)).trans (n₁₀ V)
theorem t₁₂ : (W₁₂ V) (Proc.devRef .tc main_v117) = taken (mixes (vs V) (parts (ks V) (c₂ V) (gs V))) (posts (wrapped (spread (n₂ V)))) := by
  refine (pickOps_taken (W₁₁ V)).trans ?_
  rw [m₁₁ V, n₁₁ V]
theorem w₁₂ : (W₁₂ V) (Proc.devRef .tc main_v33) = column (gs V) := (pickOps_keeps (W₁₁ V) main_v33 (by decide)).trans ((mixOps_keeps (W₁₀ V) main_v33 (by decide)).trans ((shareOps_keeps (W₉ V) main_v33 (by decide)).trans ((meanOps₂_keeps (W₈ V) main_v33 (by decide)).trans (w₈ V))))
theorem o₁₂ : (W₁₂ V) (Proc.devRef .tc main_arg9) = given V main_arg9 := (pickOps_keeps (W₁₁ V) main_arg9 (by decide)).trans ((mixOps_keeps (W₁₀ V) main_arg9 (by decide)).trans ((shareOps_keeps (W₉ V) main_arg9 (by decide)).trans ((meanOps₂_keeps (W₈ V) main_arg9 (by decide)).trans ((past₈ V main_arg9 (by decide)).trans ((maskOps_keeps (W₁ V) main_arg9 (by decide)).trans (rowsOps_keeps V main_arg9 (by decide)))))))
theorem y₁₂ : (W₁₂ V) (Proc.devRef .tc main_arg10) = given V main_arg10 := (pickOps_keeps (W₁₁ V) main_arg10 (by decide)).trans ((mixOps_keeps (W₁₀ V) main_arg10 (by decide)).trans ((shareOps_keeps (W₉ V) main_arg10 (by decide)).trans ((meanOps₂_keeps (W₈ V) main_arg10 (by decide)).trans ((past₈ V main_arg10 (by decide)).trans ((maskOps_keeps (W₁ V) main_arg10 (by decide)).trans (rowsOps_keeps V main_arg10 (by decide)))))))

/-- The result, -/
theorem ends_result : after line V (Proc.devRef .tc main_v126)
    = final (taken (mixes (vs V) (parts (ks V) (c₂ V) (gs V))) (posts (wrapped (spread (n₂ V))))) (column (gs V)) (given V main_arg9) (given V main_arg10) := by
  rw [after_line]
  refine (outOps_final (W₁₂ V)).trans ?_
  rw [t₁₂ V, w₁₂ V, o₁₂ V, y₁₂ V]

/-- and the arguments as they were. -/
theorem ends_kept (r : Ref sig .tc) (h₁ : r ∉ rowsOpsW) (h₂ : r ∉ maskOpsW) (h₃ : r ∉ seatsOpsW) (h₄ : r ∉ apartOps₁W) (h₅ : r ∉ nearOps₁W) (h₆ : r ∉ meanOps₁W) (h₇ : r ∉ apartOps₂W) (h₈ : r ∉ nearOps₂W) (h₉ : r ∉ meanOps₂W) (h₁₀ : r ∉ shareOpsW) (h₁₁ : r ∉ mixOpsW) (h₁₂ : r ∉ pickOpsW) (h₁₃ : r ∉ outOpsW) :
    after line V (Proc.devRef .tc r) = V (Proc.devRef .tc r) := by
  rw [after_line]
  exact ((outOps_keeps (W₁₂ V) r h₁₃).trans ((pickOps_keeps (W₁₁ V) r h₁₂).trans ((mixOps_keeps (W₁₀ V) r h₁₁).trans ((shareOps_keeps (W₉ V) r h₁₀).trans ((meanOps₂_keeps (W₈ V) r h₉).trans ((nearOps₂_keeps (W₇ V) r h₈).trans ((apartOps₂_keeps (W₆ V) r h₇).trans ((meanOps₁_keeps (W₅ V) r h₆).trans ((nearOps₁_keeps (W₄ V) r h₅).trans ((apartOps₁_keeps (W₃ V) r h₄).trans ((seatsOps_keeps (W₂ V) r h₃).trans ((maskOps_keeps (W₁ V) r h₂).trans (rowsOps_keeps V r h₁)))))))))))))

end Cert.Proof.WholePlain

end
-- ==== Proof.Attention.lean ====
/-
  The attention's reference computes what its definition says, head by head, over the extended reals.
-/
module

public import proofs.«01_k».proof.Proof.Chain

@[expose] public section

noncomputable section

namespace Cert.Proof.Plain

open Cert.AttnReferenceIdeal Cert.AttnReferenceIdeal.Gen
open Idealize.ShloMosaic Idealize.ShloMosaic.StableHlo Idealize.ShloMosaic.TcCoe
open Cert.Proof.Attend (nearest bit live seat group hot total move logit peak weight share mixed step₁ step₂ start mixture number)

section

variable (q k v : FVec Ideal S32x2048x64 .f32) (c : FVec Ideal S32x128x64 .f32) (w : FVec Ideal S32x2048x1 .f32) (g : IVec S32x2048 1) (n : Fin 32)

/-- A head's rows, -/
abbrev rowsOf (q : FVec Ideal S32x2048x64 .f32) : Fin 2048 → Fin 64 → EReal := fun l e => q (ix3 n l e)
/-- its centres, -/
abbrev centresOf (c : FVec Ideal S32x128x64 .f32) : Fin 128 → Fin 64 → EReal := fun j e => c (ix3 n j e)
/-- its mask. -/
abbrev maskOf (w : FVec Ideal S32x2048x1 .f32) : Fin 2048 → EReal := fun l => w (ix3 n l 0)

theorem group_at (l : Fin 2048) : near (apart (squares q) q c) (ix2 n l) = BitVec.ofNat 32 (group (rowsOf n q) (centresOf n c) l).val := by
  rw [near_at]
  refine congrArg (fun f => BitVec.ofNat 32 (nearest f).val) (funext fun j => ?_)
  exact apart_at q c n l j

theorem hot_at (l : Fin 2048) (j : Fin 128) :
    belong w (near (apart (squares q) q c)) (ix3 n l j) = hot (rowsOf n q) (centresOf n c) (maskOf n w) l j :=
  belong_at n w _ l _ j (group_at q c n l)

theorem stepped_at (j : Fin 128) (e : Fin 64) : stepped q c w (ix3 n j e) = move (rowsOf n q) (centresOf n c) (maskOf n w) j e := by
  unfold stepped move Attend.count total
  have h := fun l => hot_at q c w n l j
  generalize belong w (near (apart (squares q) q c)) = o at h ⊢
  rw [means_at, counts_at]
  simp only [h]

theorem stepped_eq : centresOf n (stepped q c w) = move (rowsOf n q) (centresOf n c) (maskOf n w) :=
  funext fun j => funext fun e => stepped_at q c w n j e

theorem parts_at (j : Fin 128) (l : Fin 2048) :
    parts k c g (ix3 n j l) = share (rowsOf n k) (centresOf n c) (fun l => FloatOps.uitofp (F := Ideal) .f32 (g (ix2 n l))) l j := by
  unfold parts share weight peak
  have h := fun l => logits_at k c n g j l
  generalize logits k c g = z at h ⊢
  rw [shares_at]
  simp only [powers_at, h]

end

section

variable (V : Valuation τ sig (Elt Ideal)) (b : Fin 2) (h : Fin 16)

theorem qs_at : rowsOf (flat b h) (qs V) = Attend.line (given V main_arg0) b h (given V main_arg3) (given V main_arg4) :=
  funext fun l => funext fun e => rows_at _ _ _ b h l e
theorem ks_at : rowsOf (flat b h) (ks V) = Attend.line (given V main_arg0) b h (given V main_arg5) (given V main_arg6) :=
  funext fun l => funext fun e => rows_at _ _ _ b h l e
theorem vs_at : rowsOf (flat b h) (vs V) = Attend.line (given V main_arg0) b h (given V main_arg7) (given V main_arg8) :=
  funext fun l => funext fun e => rows_at _ _ _ b h l e
theorem gs_at : (fun l => FloatOps.uitofp (F := Ideal) .f32 (gs V (ix2 (flat b h) l))) = live (given V main_arg1) (given V main_arg2) b :=
  funext fun l => congrArg (FloatOps.uitofp (F := Ideal) .f32) (bits_at _ _ b h l)
theorem ws_at : maskOf (flat b h) (column (gs V)) = live (given V main_arg1) (given V main_arg2) b :=
  (funext fun l => column_at (gs V) (flat b h) l).trans (gs_at V b h)

theorem starts_eq : centresOf (flat b h) (starts (qs V)) = start (given V main_arg0) (given V main_arg3) (given V main_arg4) (seats (F := Ideal)) b h :=
  funext fun j => funext fun e => (starts_at (qs V) (flat b h) j e).trans (congrFun (congrFun (qs_at V b h) _) e)

theorem c₁_at : centresOf (flat b h) (c₁ V)
    = step₁ (given V main_arg0) (given V main_arg1) (given V main_arg2) (given V main_arg3) (given V main_arg4) (seats (F := Ideal)) b h := by
  unfold c₁ step₁
  rw [stepped_eq, qs_at, ws_at, starts_eq]

theorem c₂_at : centresOf (flat b h) (c₂ V)
    = step₂ (given V main_arg0) (given V main_arg1) (given V main_arg2) (given V main_arg3) (given V main_arg4) (seats (F := Ideal)) b h := by
  unfold c₂ step₂
  rw [stepped_eq, qs_at, ws_at, c₁_at]

/-- The first result at an index. -/
theorem mixture_at (j e : Fin 128) : mixtures (vs V) (parts (ks V) (c₂ V) (gs V)) (ix4 b h j e)
    = mixture (given V main_arg0) (given V main_arg1) (given V main_arg2) (given V main_arg3) (given V main_arg4) (given V main_arg5) (given V main_arg6)
        (given V main_arg7) (given V main_arg8) (seats (F := Ideal)) b h j e := by
  rw [mixtures_at]
  unfold mixture mixed
  split
  · next h' =>
    refine Finset.sum_congr rfl fun l _ => congrArg₂ (· * ·) ?_ ?_
    · rw [parts_at, ks_at, c₂_at, gs_at]
    · exact congrFun (congrFun (vs_at V b h) l) _
  · rfl

/-- The second result at an index. -/
theorem number_at (l : Fin 2048) : numbers (n₂ V) (ix4 b h 0 l)
    = number (given V main_arg0) (given V main_arg1) (given V main_arg2) (given V main_arg3) (given V main_arg4) (seats (F := Ideal)) b h l := by
  rw [numbers_at]
  unfold n₂ number
  rw [group_at, qs_at, c₁_at]

end

end Cert.Proof.Plain

end
-- ==== Proof.Taken.lean ====
/-
  The reference, entry by entry over the extended reals. `jnp.take` prints as a wrap of negative numbers, a gather of rows at the
  wrapped numbers, and a fill where a wrapped number names no row. Where every number names a row the wrap and the fill change
  nothing, and what is left is the row each number names; the mask, the regrouping, the product and the bias are read as they stand.
-/
module

public import proofs.«01_k».proof.Proof.Gen.ReferenceIdeal
public import proofs.«01_k».proof.Proof.Gen.Pre_ids_in_rows
public import Idealize.ShloMosaic.PureOps.Ideal.Laws
public import Idealize.ShloMosaic.Lib.Pipeline.Value
public import Idealize.ShloMosaic.Lib.ReduceAll
public import Idealize.ShloMosaic.Lib.ValueIdx
public import Idealize.ShloMosaic.Lib.MatmulPlain

@[expose] public section

noncomputable section

namespace Cert.Proof.Taken

open Idealize.ShloMosaic
open Idealize.ShloMosaic.ValueIdx
open Cert.ReferenceIdeal Cert.ReferenceIdeal.Gen

/-! ## A word that names a row -/

/-- A word below 4096 read as a signed integer is its natural number. -/
theorem toInt_of_lt {w : BitVec 32} (h : w.toNat < 4096) : w.toInt = (w.toNat : Int) := by
  rw [BitVec.toInt_eq_toNat_cond, if_pos (by omega)]

/-- Below 4096 a word is not negative. -/
theorem not_neg {w : BitVec 32} (h : w.toNat < 4096) : IntOp.cmpi .slt w 0#32 = 0#1 := by
  have e : decide (w.toInt < (0#32 : BitVec 32).toInt) = false := by
    rw [toInt_of_lt h, toInt_of_lt (by decide)]; exact decide_eq_false (Int.not_lt.2 (Int.natCast_nonneg _))
  show BitVec.ofBool (BitVec.slt w 0#32) = 0#1
  rw [BitVec.slt_eq_decide, e]; rfl

/-- Below 4096 a word is at least zero. -/
theorem ge_zero {w : BitVec 32} (h : w.toNat < 4096) : IntOp.cmpi .sge w 0#32 = 1#1 := by
  have e : decide ((0#32 : BitVec 32).toInt ≤ w.toInt) = true := by
    rw [toInt_of_lt h, toInt_of_lt (by decide)]; exact decide_eq_true (Int.natCast_nonneg _)
  show BitVec.ofBool (BitVec.sle 0#32 w) = 1#1
  rw [BitVec.sle_eq_decide, e]; rfl

/-- Below 4096 a word is at most 4095. -/
theorem le_last {w : BitVec 32} (h : w.toNat < 4096) : IntOp.cmpi .sle w 4095#32 = 1#1 := by
  have e : decide (w.toInt ≤ (4095#32 : BitVec 32).toInt) = true := by
    rw [toInt_of_lt h, toInt_of_lt (by decide)]
    exact decide_eq_true (Int.ofNat_le.2 (show w.toNat ≤ 4095 by omega))
  show BitVec.ofBool (BitVec.sle w 4095#32) = 1#1
  rw [BitVec.sle_eq_decide, e]; rfl

/-- The precondition's two comparisons say that a word is below 4096. -/
theorem lt_of_cmp {w : BitVec 32} (h : IntOp.andi (IntOp.cmpi .sge w 0#32) (IntOp.cmpi .slt w 4096#32) = 1#1) : w.toNat < 4096 := by
  obtain ⟨h1, h2⟩ := IntOp.andi_eq_one.1 h
  have bit : ∀ b : Bool, BitVec.ofBool b = 1#1 → b = true := by decide
  have g1 := bit _ (show BitVec.ofBool (BitVec.sle 0#32 w) = 1#1 from h1)
  have g2 := bit _ (show BitVec.ofBool (BitVec.slt w 4096#32) = 1#1 from h2)
  rw [BitVec.sle_eq_decide, decide_eq_true_iff] at g1
  rw [BitVec.slt_eq_decide, decide_eq_true_iff] at g2
  rw [show (0#32 : BitVec 32).toInt = 0 by decide] at g1
  rw [show (4096#32 : BitVec 32).toInt = 4096 by decide] at g2
  rw [BitVec.toInt_eq_toNat_cond] at g1 g2
  have := w.isLt
  split_ifs at g1 g2 <;> omega

/-- The precondition at any float values: every number names a row. -/
theorem rows_of_pre {F : FTy → Type} [FloatOps F] (a₀ : FVec F S2x16x128x128 .f32) (a₁ : IVec S2x16x1x2048 32) (a₂ : IVec S2x2048 1) (a₃ : IVec S2 32) (a₄ : FVec F S1024x1024 .f32) (a₅ : FVec F S1024 .f32)
    (h : (haveI := Cert.Pre_ids_in_rows.Gen.facts; Cert.Pre_ids_in_rows.fn (F := F) a₀ a₁ a₂ a₃ a₄ a₅) = fun _ => 1#1) (i : S2x16x1x2048.Idx) : (a₁ i).toNat < 4096 :=
  lt_of_cmp (congrFun h i)

/-! ## The gather of rows -/

abbrev gd : GatherDims S4096x64 S2x16x2048x1 S2x16x2048x64 := gather_S4096x64_S2x16x2048x1_S2x16x2048x64_3_0_n_n_0_3_164

/-- Place `(b, h, l)` of the column of start numbers. -/
abbrev startAt (y : S2x16x2048x64.Idx) : S2x16x2048x1.Idx :=
  ix4 (⟨(y 0).val, (y 0).isLt⟩ : Fin 2) (⟨(y 1).val, (y 1).isLt⟩ : Fin 16) (⟨(y 2).val, (y 2).isLt⟩ : Fin 2048) (0 : Fin 1)

/-- The gather reads the row its start number names, signed and clamped into the table. -/
theorem gather_row {α : Type} (x : S4096x64.Idx → α) (C : IVec S2x16x2048x1 32) (y : S2x16x2048x64.Idx) :
    Host.gather gd x C y
      = x (ix2 (⟨min (C (startAt y)).toInt.toNat 4095, by omega⟩ : Fin 4096) (⟨(y 3).val, (y 3).isLt⟩ : Fin 64)) := by
  unfold Host.gather
  congr 1
  funext a
  refine Fin.ext ?_
  show GatherDims.start _ y C a + GatherDims.batchCoord _ y a + GatherDims.offCoord _ y a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ gd.startIndexMap from List.mem_singleton.mpr rfl)]
    have e : GatherDims.siIdx gd y
        ⟨List.idxOf (0 : Fin 2) [(0 : Fin 2)], List.idxOf_lt_length_iff.2 (List.mem_singleton.mpr rfl)⟩ = startAt y := by
      funext b
      refine Fin.ext ?_
      match b with
      | 0 => rfl
      | 1 => rfl
      | 2 => rfl
      | 3 => rfl
    exact congrArg (fun i => min (C i).toInt.toNat 4095) e
  | 1 =>
    unfold GatherDims.start
    rw [dif_neg (show (1 : Fin 2) ∉ gd.startIndexMap by decide), Nat.zero_add]
    rfl

/-! ## The rows taken -/

/-- The numbers by batch, head and place. -/
abbrev ids (X : IVec S2x16x1x2048 32) : IVec S2x16x2048 32 := shapeCast _ X shapeCasts_S2x16x1x2048_S2x16x2048

theorem ids_at (X : IVec S2x16x1x2048 32) (i : S2x16x2048.Idx) :
    ids X i = X (ix4 (⟨(i 0).val, (i 0).isLt⟩ : Fin 2) (⟨(i 1).val, (i 1).isLt⟩ : Fin 16) (0 : Fin 1) (⟨(i 2).val, (i 2).isLt⟩ : Fin 2048)) :=
  shapeCast_apply X _ i _ (by rw [Shape.rowMajor_val_three, Shape.rowMajor_val_four]; simp [ix4])

/-- The numbers wrapped: 4096 added to a negative one. -/
abbrev wrapped (X : IVec S2x16x1x2048 32) : IVec S2x16x2048 32 :=
  select (cmpi .slt (ids X) (broadcastInDim S2x16x2048 ![] bcast_S_S2x16x2048 (constantI S_ 32 0#32)))
    (addi (ids X) (broadcastInDim S2x16x2048 ![] bcast_S_S2x16x2048 (constantI S_ 32 4096#32))) (ids X)

/-- Numbers that name rows are not wrapped. -/
theorem wrapped_eq (X : IVec S2x16x1x2048 32) (hX : ∀ i, (X i).toNat < 4096) : wrapped X = ids X := by
  funext i
  have h : (ids X i).toNat < 4096 := by rw [ids_at]; exact hX _
  show Idealize.ShloMosaic.Scalar.select (IntOp.cmpi .slt (ids X i) 0#32) _ (ids X i) = ids X i
  rw [not_neg h]; rfl

/-- The numbers as a column. -/
abbrev col (W : IVec S2x16x2048 32) : IVec S2x16x2048x1 32 := broadcastInDim S2x16x2048x1 ![0, 1, 2] bcast_S2x16x2048_S2x16x2048x1_0_1_2 W

theorem col_at (X : IVec S2x16x1x2048 32) (i : S2x16x2048x1.Idx) :
    col (ids X) i = X (ix4 (⟨(i 0).val, (i 0).isLt⟩ : Fin 2) (⟨(i 1).val, (i 1).isLt⟩ : Fin 16) (0 : Fin 1) (⟨(i 2).val, (i 2).isLt⟩ : Fin 2048)) :=
  (broadcastInDim_apply _ _ (ids X) i (ix3 (⟨(i 0).val, (i 0).isLt⟩ : Fin 2) (⟨(i 1).val, (i 1).isLt⟩ : Fin 16) (⟨(i 2).val, (i 2).isLt⟩ : Fin 2048)) fun a => by
    match a with
    | 0 => rfl
    | 1 => rfl
    | 2 => rfl).trans (ids_at X _)

/-- The rows as the reference takes them: gathered, with a fill where a wrapped number names no row. -/
abbrev taken (T : S4096x64.Idx → EReal) (W : IVec S2x16x2048 32) : S2x16x2048x64.Idx → EReal :=
  select (broadcastInDim S2x16x2048x64 ![0, 1, 2] bcast_S2x16x2048_S2x16x2048x64_0_1_2
      (Host.reduce IntOp.andi (andi (cmpi .sge (col W) (broadcastInDim S2x16x2048x1 ![] bcast_S_S2x16x2048x1 (constantI S_ 32 0#32)))
        (cmpi .sle (col W) (broadcastInDim S2x16x2048x1 ![0, 1, 2, 3] bcast_S1x1x1x1_S2x16x2048x1_0_1_2_3 (broadcastInDim S1x1x1x1 ![3] bcast_S1_S1x1x1x1_3 (constantI S1 32 4095#32)))))
        (constantI S_ 1 1#1) reducesTo_S2x16x2048x1_S2x16x2048_d3 h_S_))
    (Host.gather gd T (col W))
    (broadcastInDim S2x16x2048x64 ![] bcast_S_S2x16x2048x64 (constant (F := Ideal) S_ .f32 0x7FC00000#32))

/-- Where every number names a row, the rows taken are those they name. -/
theorem taken_at (T : S4096x64.Idx → EReal) (X : IVec S2x16x1x2048 32) (hX : ∀ i, (X i).toNat < 4096) (b : Fin 2) (h : Fin 16) (l : Fin 2048) (e : Fin 64) :
    taken T (wrapped X) (ix4 b h l e) = T (ix2 (⟨(X (ix4 b h (0 : Fin 1) l)).toNat, hX _⟩ : Fin 4096) e) := by
  rw [wrapped_eq X hX]
  have hm : ∀ i, Host.reduce IntOp.andi (andi (cmpi .sge (col (ids X)) (broadcastInDim S2x16x2048x1 ![] bcast_S_S2x16x2048x1 (constantI S_ 32 0#32)))
        (cmpi .sle (col (ids X)) (broadcastInDim S2x16x2048x1 ![0, 1, 2, 3] bcast_S1x1x1x1_S2x16x2048x1_0_1_2_3 (broadcastInDim S1x1x1x1 ![3] bcast_S1_S1x1x1x1_3 (constantI S1 32 4095#32)))))
        (constantI S_ 1 1#1) reducesTo_S2x16x2048x1_S2x16x2048_d3 h_S_ i = 1#1 := fun i =>
    Host.reduce_andi_one _ _ _ _ i rfl fun k => by
      have h : (col (ids X) k).toNat < 4096 := by rw [col_at]; exact hX _
      show IntOp.andi (IntOp.cmpi .sge (col (ids X) k) 0#32) (IntOp.cmpi .sle (col (ids X) k) 4095#32) = 1#1
      rw [ge_zero h, le_last h]; rfl
  show Idealize.ShloMosaic.Scalar.select (Host.reduce IntOp.andi _ _ _ _ _) _ _ = _
  rw [hm]
  show Host.gather gd T (col (ids X)) (ix4 b h l e) = _
  rw [gather_row]
  have hr := hX (ix4 b h (0 : Fin 1) l)
  refine congrArg (fun r : Fin 4096 => T (ix2 r e)) (Fin.ext ?_)
  have hc : col (ids X) (startAt (ix4 b h l e)) = X (ix4 b h (0 : Fin 1) l) := col_at X _
  show min (col (ids X) (startAt (ix4 b h l e))).toInt.toNat 4095 = (X _).toNat
  rw [hc, toInt_of_lt hr, Int.toNat_natCast]
  exact min_eq_left (by omega)

/-! ## The mask -/

/-- The places below each batch's length. -/
abbrev below (N : IVec S2 32) : IVec S2x2048 1 :=
  cmpi .slt (broadcastInDim S2x2048 ![0, 1] bcast_S1x2048_S2x2048_0_1 (broadcastInDim S1x2048 ![1] bcast_S2048_S1x2048_1 (iotaInDim S2048 32 0)))
    (broadcastInDim S2x2048 ![0, 1] bcast_S2x1_S2x2048_0_1 (broadcastInDim S2x1 ![0] bcast_S2_S2x1_0 N))

/-- The mask as a number: one where the mask given is set and the place is below the length, else zero. -/
def maskAt (A : IVec S2x2048 1) (N : IVec S2 32) (i : S2x2048.Idx) : EReal := (((IntOp.andi (A i) (below N i)).toNat : ℝ) : EReal)

theorem maskAt_bit (A : IVec S2x2048 1) (N : IVec S2 32) (i : S2x2048.Idx) : maskAt A N i = 0 ∨ maskAt A N i = 1 := by
  unfold maskAt
  rcases (by decide : ∀ w : BitVec 1, w = 0#1 ∨ w = 1#1) (IntOp.andi (A i) (below N i)) with h | h
  · left; rw [h]; simp
  · right; rw [h]; simp

abbrev masks (A : IVec S2x2048 1) (N : IVec S2 32) : S2x16x2048x64.Idx → EReal :=
  broadcastInDim S2x16x2048x64 ![0, 1, 2, 3] bcast_S2x1x2048x1_S2x16x2048x64_0_1_2_3
    (broadcastInDim S2x1x2048x1 ![0, 2] bcast_S2x2048_S2x1x2048x1_0_2 (uitofp (F := Ideal) .f32 (andi (below N) A)))

theorem masks_at (A : IVec S2x2048 1) (N : IVec S2 32) (b : Fin 2) (h : Fin 16) (l : Fin 2048) (e : Fin 64) :
    masks A N (ix4 b h l e) = maskAt A N (ix2 b l) := by
  refine (broadcastInDim_apply _ _ _ _ (ix4 b (0 : Fin 1) l (0 : Fin 1)) fun a => by
    match a with
    | 0 => rfl
    | 1 => rfl
    | 2 => rfl
    | 3 => rfl).trans ((broadcastInDim_apply _ _ _ _ (ix2 b l) fun a => by
    match a with
    | 0 => rfl
    | 1 => rfl).trans ?_)
  show (((IntOp.andi (below N (ix2 b l)) (A (ix2 b l))).toNat : ℝ) : EReal) = _
  unfold maskAt
  rw [show IntOp.andi (below N (ix2 b l)) (A (ix2 b l)) = IntOp.andi (A (ix2 b l)) (below N (ix2 b l)) from BitVec.and_comm _ _]

/-! ## The result -/

/-- The reference's result as it composes it, from its arguments. -/
abbrev result (a₀ : S2x16x128x128.Idx → EReal) (a₁ : IVec S2x16x1x2048 32) (a₂ : IVec S2x2048 1) (a₃ : IVec S2 32) (a₄ : S1024x1024.Idx → EReal) (a₅ : S1024.Idx → EReal) :
    S2x2048x1024.Idx → EReal :=
  addf (F := Ideal) (φ := .f32) (Host.dotGeneral (F := Ideal) (φ₁ := .f32) (φ₂ := .f32) dot_S2x2048x1024_S1024x1024_S2x2048x1024_2_0_01_1_n_n none
      (shapeCast S2x2048x1024 (transpose S2x2048x16x64 [0, 2, 1, 3]
        (mulf (F := Ideal) (φ := .f32) (taken (extractStridedSlice S4096x64 ![0, 0] (shapeCast S4096x128 a₀ shapeCasts_S2x16x128x128_S4096x128) slices_S4096x128_S4096x64_0_0) (wrapped a₁)) (masks a₂ a₃))
        transposes_S2x16x2048x64_S2x2048x16x64_0_2_1_3) shapeCasts_S2x2048x16x64_S2x2048x1024) a₄)
    (broadcastInDim S2x2048x1024 ![0, 1, 2] bcast_S1x1x1024_S2x2048x1024_0_1_2 (broadcastInDim S1x1x1024 ![2] bcast_S1024_S1x1x1024_2 a₅))

/-- The host product read at an entry. -/
theorem product_at (x : FVec Ideal S2x2048x1024 .f32) (w : FVec Ideal S1024x1024 .f32) (b : Fin 2) (l : Fin 2048) (o : Fin 1024) :
    Host.dotGeneral dot_S2x2048x1024_S1024x1024_S2x2048x1024_2_0_01_1_n_n none x w (ix3 b l o) = ∑ k : Fin 1024, x (ix3 b l k) * w (ix2 k o) := by
  simp only [Host.dotGeneral]
  rw [Ideal.dotGeneral_apply, ← Equiv.sum_comp (contrEquiv1 dot_S2x2048x1024_S1024x1024_S2x2048x1024_2_0_01_1_n_n 1024 rfl rfl).symm]
  refine Finset.sum_congr rfl fun k _ => ?_
  have hk := contrEquiv1_symm_val dot_S2x2048x1024_S1024x1024_S2x2048x1024_2_0_01_1_n_n 1024 rfl rfl k
  refine congrArg₂ (· * ·) (congrArg x (funext fun a => Fin.ext ?_)) (congrArg w (funext fun a => Fin.ext ?_))
  · match a with
    | 0 => rfl
    | 1 => rfl
    | 2 => exact hk
  · match a with
    | 0 => exact hk
    | 1 => rfl

/-- Entry `(b, l, o)` of the reference: the rows' sum against the weights, each factor masked, plus the bias. -/
theorem result_at (a₀ : S2x16x128x128.Idx → EReal) (a₁ : IVec S2x16x1x2048 32) (a₂ : IVec S2x2048 1) (a₃ : IVec S2 32) (a₄ : S1024x1024.Idx → EReal) (a₅ : S1024.Idx → EReal)
    (hX : ∀ i, (a₁ i).toNat < 4096) (b : Fin 2) (l : Fin 2048) (o : Fin 1024) :
    result a₀ a₁ a₂ a₃ a₄ a₅ (ix3 b l o)
      = (∑ k : Fin 1024, shapeCast S4096x128 a₀ shapeCasts_S2x16x128x128_S4096x128
            (ix2 (⟨(a₁ (ix4 b (⟨k.val / 64, by omega⟩ : Fin 16) (0 : Fin 1) l)).toNat, hX _⟩ : Fin 4096) (⟨k.val % 64, by omega⟩ : Fin 128))
          * maskAt a₂ a₃ (ix2 b l) * a₄ (ix2 k o)) + a₅ (ix1 o) := by
  rw [result, addf_apply]
  refine congrArg₂ (· + ·) ((product_at _ _ b l o).trans (Finset.sum_congr rfl fun k _ => congrArg₂ (· * ·) ?_ rfl)) ?_
  · have hh : k.val / 64 < 16 := by omega
    have he : k.val % 64 < 64 := by omega
    refine (shapeCast_apply _ _ _ (ix4 b l (⟨k.val / 64, hh⟩ : Fin 16) (⟨k.val % 64, he⟩ : Fin 64)) ?_).trans
      ((transpose_apply _ _ _ _ (ix4 b (⟨k.val / 64, hh⟩ : Fin 16) l (⟨k.val % 64, he⟩ : Fin 64)) fun c => by
        match c with
        | 0 => rfl
        | 1 => rfl
        | 2 => rfl
        | 3 => rfl).trans ?_)
    · rw [Shape.rowMajor_val_four, Shape.rowMajor_val_three]
      show ((b.val * 2048 + l.val) * 16 + k.val / 64) * 64 + k.val % 64 = (b.val * 2048 + l.val) * 1024 + k.val
      omega
    · rw [mulf_apply]
      refine congrArg₂ (· * ·) ((taken_at _ a₁ hX b _ l _).trans (extractStridedSlice_apply _ _ _ _ _ fun c => ?_)) (masks_at a₂ a₃ b _ l _)
      match c with
      | 0 => exact (Nat.zero_add _).symm
      | 1 => exact (Nat.zero_add _).symm
  · exact (broadcastInDim_apply _ _ _ _ (ix3 (0 : Fin 1) (0 : Fin 1) o) fun a => by
      match a with
      | 0 => rfl
      | 1 => rfl
      | 2 => rfl).trans (broadcastInDim_apply _ _ _ _ (ix1 o) fun a => by
      match a with
      | 0 => rfl)

end Cert.Proof.Taken

end
-- ==== Proof.WholeReads.lean ====
/-
  The whole program's reference computes, at each entry of its result, the sum over the heads of the mixtures of the centres its
  queries belong to, masked, against the output's weights, plus the bias, over the extended reals.
-/
module

public import proofs.«01_k».proof.Proof.WholeChain
public import proofs.«01_k».proof.Proof.Attention
public import proofs.«01_k».proof.Proof.Taken

@[expose] public section

noncomputable section

namespace Cert.Proof.WholePlain

open Cert.WholeReferenceIdeal Cert.WholeReferenceIdeal.Gen
open Idealize.ShloMosaic Idealize.ShloMosaic.StableHlo Idealize.ShloMosaic.TcCoe
open Idealize.SL.Sem
open Cert.Proof.Plain (rows bits column seats starts squares apart stepped parts flat rowsOf centresOf maskOf rows_at bits_at column_at starts_at stepped_eq group_at parts_at)
open Cert.Proof.Attend (bit live group share mixed step₁ step₂ start mixture)

/-! ### The centres' rows taken -/

/-- A word below 128 is not negative, -/
theorem small_not_neg {w : BitVec 32} (h : w.toNat < 128) : IntOp.cmpi .slt w 0#32 = 0#1 := Taken.not_neg (by omega)
/-- is at least zero, -/
theorem small_ge {w : BitVec 32} (h : w.toNat < 128) : IntOp.cmpi .sge w 0#32 = 1#1 := Taken.ge_zero (by omega)
/-- and is at most 127. -/
theorem small_le {w : BitVec 32} (h : w.toNat < 128) : IntOp.cmpi .sle w 127#32 = 1#1 := by
  have e : decide (w.toInt ≤ (127#32 : BitVec 32).toInt) = true := by
    rw [Taken.toInt_of_lt (show w.toNat < 4096 by omega), Taken.toInt_of_lt (by decide)]
    exact decide_eq_true (Int.ofNat_le.2 (show w.toNat ≤ 127 by omega))
  show BitVec.ofBool (BitVec.sle w 127#32) = 1#1
  rw [BitVec.sle_eq_decide, e]; rfl

abbrev gd : GatherDims S32x128x64 S32x2048x64x1 S32x2048x64 := gather_S32x128x64_S32x2048x64x1_S32x2048x64_n_1_02_02_1_3_111

/-- The gather reads, in its own head and place, the row its start number names, signed and clamped into the 128. -/
theorem gather_centre {α : Type} (x : S32x128x64.Idx → α) (C : IVec S32x2048x64x1 32) (n : Fin 32) (l : Fin 2048) (e : Fin 64) :
    Host.gather gd x C (ix3 n l e) = x (ix3 n (⟨min (C (ix4 n l e (0 : Fin 1))).toInt.toNat 127, by omega⟩ : Fin 128) e) := by
  unfold Host.gather
  refine congrArg x (funext fun a => Fin.ext ?_)
  show GatherDims.start _ (ix3 n l e) C a + GatherDims.batchCoord _ (ix3 n l e) a + GatherDims.offCoord _ (ix3 n l e) a = _
  match a with
  | 0 =>
    rw [GatherDims.offCoord_eq_zero _ _ _ (fun h => ((GatherDims.mem_sKept _ _).mp h).2 (show (0 : Fin 3) ∈ [(0 : Fin 3), 2] by decide)), Nat.add_zero]
    unfold GatherDims.start
    rw [dif_neg (show (0 : Fin 3) ∉ gd.startIndexMap from (by decide : (0 : Fin 3) ∉ [(1 : Fin 3)])), Nat.zero_add]
    rfl
  | 1 =>
    rw [GatherDims.offCoord_eq_zero _ _ _ (fun h => ((GatherDims.mem_sKept _ _).mp h).1 (List.mem_singleton.mpr rfl)), Nat.add_zero,
      GatherDims.batchCoord_eq_zero _ _ _ (show (1 : Fin 3) ∉ [(0 : Fin 3), 2] by decide), Nat.add_zero]
    unfold GatherDims.start
    rw [dif_pos (show (1 : Fin 3) ∈ gd.startIndexMap from List.mem_singleton.mpr rfl)]
    have hs : GatherDims.siIdx gd (ix3 n l e)
        ⟨List.idxOf (1 : Fin 3) [(1 : Fin 3)], List.idxOf_lt_length_iff.2 (List.mem_singleton.mpr rfl)⟩ = ix4 n l e (0 : Fin 1) := by
      funext b
      refine Fin.ext ?_
      match b with
      | 0 => rfl
      | 1 => rfl
      | 2 => rfl
      | 3 => rfl
    exact congrArg (fun i => min (C i).toInt.toNat 127) hs
  | 2 =>
    rw [GatherDims.offCoord_eq_zero _ _ _ (fun h => ((GatherDims.mem_sKept _ _).mp h).2 (show (2 : Fin 3) ∈ [(0 : Fin 3), 2] by decide)), Nat.add_zero]
    unfold GatherDims.start
    rw [dif_neg (show (2 : Fin 3) ∉ gd.startIndexMap from (by decide : (2 : Fin 3) ∉ [(1 : Fin 3)])), Nat.zero_add]
    rfl

section

variable (g : IVec S32x2048 32) (hg : ∀ i, (g i).toNat < 128)

theorem spread_at (n : Fin 32) (l : Fin 2048) (e : Fin 64) : spread g (ix3 n l e) = g (ix2 n l) := by
  unfold spread
  pointwise

include hg

theorem spread_small (i : S32x2048x64.Idx) : (spread g i).toNat < 128 := by
  obtain ⟨n, l, e, rfl⟩ : ∃ (n : Fin 32) (l : Fin 2048) (e : Fin 64), i = ix3 n l e := ⟨_, _, _, eq_ix3 i⟩
  rw [spread_at]
  exact hg _

/-- Numbers that name centres are not wrapped. -/
theorem wrapped_eq : wrapped (spread g) = spread g := by
  funext i
  show Idealize.ShloMosaic.Scalar.select (IntOp.cmpi .slt (spread g i) 0#32) _ (spread g i) = spread g i
  rw [small_not_neg (spread_small g hg i)]; rfl

omit hg in
theorem posts_at (x : IVec S32x2048x64 32) (n : Fin 32) (l : Fin 2048) (e : Fin 64) (u : Fin 1) : posts x (ix4 n l e u) = x (ix3 n l e) := by
  unfold posts
  refine shapeCast_apply _ _ _ (ix3 n l e) ?_
  have hu := Nat.lt_one_iff.1 u.isLt
  rw [Shape.rowMajor_val_three, Shape.rowMajor_val_four]
  show (n.val * 2048 + l.val) * 64 + e.val = ((n.val * 2048 + l.val) * 64 + e.val) * 1 + u.val
  omega

theorem posts_small (i : S32x2048x64x1.Idx) : (posts (spread g) i).toNat < 128 := by
  obtain ⟨n, l, e, u, rfl⟩ : ∃ (n : Fin 32) (l : Fin 2048) (e : Fin 64) (u : Fin 1), i = ix4 n l e u := ⟨_, _, _, _, eq_ix4 i⟩
  rw [posts_at]
  exact spread_small g hg _

/-- Where every number names a centre, the rows taken are those they name. -/
theorem taken_at (t : FVec Ideal S32x128x64 .f32) (n : Fin 32) (l : Fin 2048) (e : Fin 64) :
    taken t (posts (wrapped (spread g))) (ix3 n l e) = t (ix3 n (⟨(g (ix2 n l)).toNat, hg _⟩ : Fin 128) e) := by
  rw [wrapped_eq g hg]
  have hs := posts_small g hg
  have hp : posts (spread g) (ix4 n l e (0 : Fin 1)) = g (ix2 n l) := (posts_at _ n l e 0).trans (spread_at g n l e)
  generalize posts (spread g) = p at hs hp
  unfold taken
  show Idealize.ShloMosaic.Scalar.select (Host.reduce IntOp.andi _ _ _ _ _) _ _ = _
  rw [Host.reduce_andi_one _ _ _ _ (ix3 n l e) rfl fun k => by
    show IntOp.andi (IntOp.cmpi .sge (p k) 0#32) (IntOp.cmpi .sle (p k) 127#32) = 1#1
    rw [small_ge (hs k), small_le (hs k)]; rfl]
  show Host.gather gd t p (ix3 n l e) = _
  rw [gather_centre]
  refine congrArg (fun r : Fin 128 => t (ix3 n r e)) (Fin.ext ?_)
  have hr := hg (ix2 n l)
  show min (p (ix4 n l e (0 : Fin 1))).toInt.toNat 127 = (g (ix2 n l)).toNat
  rw [hp, Taken.toInt_of_lt (show (g (ix2 n l)).toNat < 4096 by omega), Int.toNat_natCast]
  exact min_eq_left (by omega)

end

theorem mixes_at (v : FVec Ideal S32x2048x64 .f32) (s : FVec Ideal S32x128x2048 .f32) (n : Fin 32) (j : Fin 128) (e : Fin 64) :
    mixes v s (ix3 n j e) = ∑ l, s (ix3 n j l) * v (ix3 n l e) := by
  unfold mixes
  pointwise

/-- The result from the rows taken, at an entry. -/
theorem final_at (t : FVec Ideal S32x2048x64 .f32) (w : FVec Ideal S32x2048x1 .f32) (o : FVec Ideal S1024x1024 .f32) (y : FVec Ideal S1024 .f32)
    (b : Fin 2) (l : Fin 2048) (p : Fin 1024) :
    final t w o y (ix3 b l p)
      = (∑ k : Fin 1024, t (ix3 (flat b (⟨k.val / 64, by omega⟩ : Fin 16)) l (⟨k.val % 64, by omega⟩ : Fin 64))
          * w (ix3 (flat b (⟨k.val / 64, by omega⟩ : Fin 16)) l (0 : Fin 1)) * o (ix2 k p)) + y (ix1 p) := by
  unfold final
  rw [addf_apply]
  refine congrArg₂ (· + ·) ((Taken.product_at _ _ b l p).trans (Finset.sum_congr rfl fun k _ => congrArg₂ (· * ·) ?_ rfl)) ?_
  · have hh : k.val / 64 < 16 := by omega
    have he : k.val % 64 < 64 := by omega
    refine (shapeCast_apply _ _ _ (ix4 b l (⟨k.val / 64, hh⟩ : Fin 16) (⟨k.val % 64, he⟩ : Fin 64)) ?_).trans
      ((transpose_apply _ _ _ _ (ix4 b (⟨k.val / 64, hh⟩ : Fin 16) l (⟨k.val % 64, he⟩ : Fin 64)) fun c => by
        match c with
        | 0 => rfl
        | 1 => rfl
        | 2 => rfl
        | 3 => rfl).trans ((shapeCast_apply _ _ _ (ix3 (flat b (⟨k.val / 64, hh⟩ : Fin 16)) l (⟨k.val % 64, he⟩ : Fin 64)) ?_).trans ?_))
    · rw [Shape.rowMajor_val_four, Shape.rowMajor_val_three]
      show ((b.val * 2048 + l.val) * 16 + k.val / 64) * 64 + k.val % 64 = (b.val * 2048 + l.val) * 1024 + k.val
      omega
    · rw [Shape.rowMajor_val_four, Shape.rowMajor_val_three]
      rfl
    · rw [mulf_apply]
      refine congrArg₂ (· * ·) rfl (broadcastInDim_apply _ _ _ _ _ fun a => ?_)
      match a with
      | 0 => rfl
      | 1 => rfl
      | 2 => rfl
  · exact (broadcastInDim_apply _ _ _ _ (ix3 (0 : Fin 1) (0 : Fin 1) p) fun a => by
      match a with
      | 0 => rfl
      | 1 => rfl
      | 2 => rfl).trans (broadcastInDim_apply _ _ _ _ (ix1 p) fun a => by
      match a with
      | 0 => rfl)

/-! ### Head by head -/

section

variable (V : Valuation τ sig (Elt Ideal)) (b : Fin 2) (h : Fin 16)

theorem qs_at : rowsOf (flat b h) (qs V) = Attend.line (given V main_arg0) b h (given V main_arg3) (given V main_arg4) :=
  funext fun l => funext fun e => rows_at _ _ _ b h l e
theorem ks_at : rowsOf (flat b h) (ks V) = Attend.line (given V main_arg0) b h (given V main_arg5) (given V main_arg6) :=
  funext fun l => funext fun e => rows_at _ _ _ b h l e
theorem vs_at : rowsOf (flat b h) (vs V) = Attend.line (given V main_arg0) b h (given V main_arg7) (given V main_arg8) :=
  funext fun l => funext fun e => rows_at _ _ _ b h l e
theorem gs_at : (fun l => FloatOps.uitofp (F := Ideal) .f32 (gs V (ix2 (flat b h) l))) = live (given V main_arg1) (given V main_arg2) b :=
  funext fun l => congrArg (FloatOps.uitofp (F := Ideal) .f32) (bits_at _ _ b h l)
theorem ws_at : maskOf (flat b h) (column (gs V)) = live (given V main_arg1) (given V main_arg2) b :=
  (funext fun l => column_at (gs V) (flat b h) l).trans (gs_at V b h)

theorem starts_eq : centresOf (flat b h) (starts (qs V)) = start (given V main_arg0) (given V main_arg3) (given V main_arg4) (seats (F := Ideal)) b h :=
  funext fun j => funext fun e => (starts_at (qs V) (flat b h) j e).trans (congrFun (congrFun (qs_at V b h) _) e)

theorem c₁_at : centresOf (flat b h) (c₁ V)
    = step₁ (given V main_arg0) (given V main_arg1) (given V main_arg2) (given V main_arg3) (given V main_arg4) (seats (F := Ideal)) b h := by
  unfold c₁ step₁
  rw [stepped_eq, qs_at, ws_at, starts_eq]

theorem c₂_at : centresOf (flat b h) (c₂ V)
    = step₂ (given V main_arg0) (given V main_arg1) (given V main_arg2) (given V main_arg3) (given V main_arg4) (seats (F := Ideal)) b h := by
  unfold c₂ step₂
  rw [stepped_eq, qs_at, ws_at, c₁_at]

/-- The centre a query belongs to, -/
theorem n₂_at (l : Fin 2048) : n₂ V (ix2 (flat b h) l) = BitVec.ofNat 32 (group (Attend.line (given V main_arg0) b h (given V main_arg3) (given V main_arg4))
    (step₁ (given V main_arg0) (given V main_arg1) (given V main_arg2) (given V main_arg3) (given V main_arg4) (seats (F := Ideal)) b h) l).val := by
  unfold n₂
  rw [group_at, qs_at, c₁_at]

omit b h in
theorem n₂_small (i : S32x2048.Idx) : (n₂ V i).toNat < 128 := by
  obtain ⟨n, l, rfl⟩ : ∃ (n : Fin 32) (l : Fin 2048), i = ix2 n l := ⟨_, _, eq_ix2 i⟩
  unfold n₂
  rw [group_at, BitVec.toNat_ofNat]
  exact lt_of_le_of_lt (Nat.mod_le _ _) (Fin.isLt _)

/-- and its mixture. -/
theorem mixes_eq (j : Fin 128) (e : Fin 64) (e' : Fin 128) (he : e'.val = e.val) : mixes (vs V) (parts (ks V) (c₂ V) (gs V)) (ix3 (flat b h) j e)
    = mixture (given V main_arg0) (given V main_arg1) (given V main_arg2) (given V main_arg3) (given V main_arg4) (given V main_arg5) (given V main_arg6)
        (given V main_arg7) (given V main_arg8) (seats (F := Ideal)) b h j e' := by
  rw [mixes_at]
  unfold mixture mixed
  rw [dif_pos (show e'.val < 64 by omega)]
  refine Finset.sum_congr rfl fun l _ => congrArg₂ (· * ·) ?_ ?_
  · rw [parts_at, ks_at, c₂_at, gs_at]
  · exact (congrFun (congrFun (vs_at V b h) l) e).trans (congrArg _ (Fin.ext he.symm))

end

/-! ### The result -/

section

variable (X : S2x2048x1024.Idx → EReal) (A : S2x2048.Idx → BitVec 1) (N : S2.Idx → BitVec 32) (Wq : S1024x1024.Idx → EReal) (bq : S1024.Idx → EReal)
  (Wk : S1024x1024.Idx → EReal) (bk : S1024.Idx → EReal) (Wv : S1024x1024.Idx → EReal) (bv : S1024.Idx → EReal) (Wo : S1024x1024.Idx → EReal) (bo : S1024.Idx → EReal)
  (s : S128x1.Idx → BitVec 32)

/-- The centre that place `l` of batch `b` belongs to in head `h`. -/
def centre (b : Fin 2) (h : Fin 16) (l : Fin 2048) : Fin 128 := group (Attend.line X b h Wq bq) (step₁ X A N Wq bq s b h) l

/-- Entry `(b, l, p)` of the result. -/
def result (b : Fin 2) (l : Fin 2048) (p : Fin 1024) : EReal :=
  (∑ k : Fin 1024, mixture X A N Wq bq Wk bk Wv bv s b (⟨k.val / 64, by omega⟩ : Fin 16) (centre X A N Wq bq s b (⟨k.val / 64, by omega⟩ : Fin 16) l) (⟨k.val % 64, by omega⟩ : Fin 128)
    * live A N b l * Wo (ix2 k p)) + bo (ix1 p)

end

theorem n₂_nat (V : Valuation τ sig (Elt Ideal)) (b : Fin 2) (h : Fin 16) (l : Fin 2048) :
    (n₂ V (ix2 (flat b h) l)).toNat = (centre (given V main_arg0) (given V main_arg1) (given V main_arg2) (given V main_arg3) (given V main_arg4) (seats (F := Ideal)) b h l).val := by
  rw [n₂_at, BitVec.toNat_ofNat]
  unfold centre
  generalize group _ _ l = g
  exact Nat.mod_eq_of_lt (by omega)

/-- The mixture of a query's centre. -/
theorem row_at (V : Valuation τ sig (Elt Ideal)) (b : Fin 2) (h : Fin 16) (l : Fin 2048) (e : Fin 64) (e' : Fin 128) (he : e'.val = e.val) :
    taken (mixes (vs V) (parts (ks V) (c₂ V) (gs V))) (posts (wrapped (spread (n₂ V)))) (ix3 (flat b h) l e)
      = mixture (given V main_arg0) (given V main_arg1) (given V main_arg2) (given V main_arg3) (given V main_arg4) (given V main_arg5) (given V main_arg6)
        (given V main_arg7) (given V main_arg8) (seats (F := Ideal)) b h
        (centre (given V main_arg0) (given V main_arg1) (given V main_arg2) (given V main_arg3) (given V main_arg4) (seats (F := Ideal)) b h l) e' := by
  rw [taken_at (n₂ V) (n₂_small V), mixes_eq V b h _ e e' he]
  have hj : (⟨(n₂ V (ix2 (flat b h) l)).toNat, n₂_small V _⟩ : Fin 128)
      = centre (given V main_arg0) (given V main_arg1) (given V main_arg2) (given V main_arg3) (given V main_arg4) (seats (F := Ideal)) b h l := by
    apply Fin.ext
    dsimp only
    exact n₂_nat V b h l
  rw [hj]

theorem result_at (V : Valuation τ sig (Elt Ideal)) (b : Fin 2) (l : Fin 2048) (p : Fin 1024) :
    after line V (Proc.devRef .tc main_v126) (ix3 b l p)
      = result (given V main_arg0) (given V main_arg1) (given V main_arg2) (given V main_arg3) (given V main_arg4) (given V main_arg5) (given V main_arg6)
          (given V main_arg7) (given V main_arg8) (given V main_arg9) (given V main_arg10) (seats (F := Ideal)) b l p := by
  rw [ends_result]
  refine (final_at _ _ _ _ b l p).trans ?_
  unfold result
  refine congrArg₂ (· + ·) (Finset.sum_congr rfl fun k _ => congrArg₂ (· * ·) (congrArg₂ (· * ·) ?_ ?_) rfl) rfl
  · exact row_at V b (⟨k.val / 64, by omega⟩ : Fin 16) l (⟨k.val % 64, by omega⟩ : Fin 64) (⟨k.val % 64, by omega⟩ : Fin 128) rfl
  · exact congrFun (ws_at V b _) l

/-- The reference's run: every buffer at what the line of operations leaves. -/
theorem run_plain (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after line (launchContents m d) (Proc.devRef .tc b) :=
  run_seq (by decide) (by decide) defs main (fun _ => line) main_eq (fun _ => line_sub) m ρ
    (fun _ => List.forall_iff_forall_mem.1 line_fresh)

end Cert.Proof.WholePlain

end
-- ==== Proof.Algebra.lean ====
/-
  The one sum both programs compute. The projection sums over sixteen groups of 128 places of which the last 64 meet zero
  weights, and masks the sum; the reference sums over sixteen groups of 64 places and masks each factor. With a mask that
  is zero or one the two are equal over the extended reals, whatever the factors.
-/
module

public import Mathlib.Data.EReal.Operations
public import Mathlib.Algebra.BigOperators.Fin

@[expose] public section

namespace Cert.Proof.Algebra

/-- Place `k` of a group of 64 in the padded groups of 128. -/
def widen (k : Fin 1024) : Fin 2048 := ⟨k.val / 64 * 128 + k.val % 64, by omega⟩

/-- Summing over the padded groups, with zero weights at the padding, is summing over the groups. -/
theorem padded_sum (g : Fin 2048 → EReal) (w : Fin 1024 → EReal) (v : Fin 2048 → EReal)
    (hw : ∀ k, v (widen k) = w k) (hv : ∀ k : Fin 2048, 64 ≤ k.val % 128 → v k = 0) :
    ∑ k, g k * v k = ∑ k, g (widen k) * w k := by
  symm
  refine Finset.sum_of_injOn widen (fun a _ b _ h => ?_) (fun _ _ => Finset.mem_coe.2 (Finset.mem_univ _)) (fun k _ hk => ?_) (fun k _ => by rw [hw])
  · have h := congrArg Fin.val h
    simp only [widen] at h
    exact Fin.ext (by omega)
  · rw [hv k, mul_zero]
    by_contra hlt
    refine hk ⟨⟨k.val / 128 * 64 + k.val % 128, by omega⟩, Finset.mem_coe.2 (Finset.mem_univ _), Fin.ext ?_⟩
    simp only [widen]; omega

/-- Masking the padded sum by zero or one is masking each factor of the plain one. -/
theorem masked_sum (g : Fin 2048 → EReal) (w : Fin 1024 → EReal) (v : Fin 2048 → EReal) (M : EReal) (hM : M = 0 ∨ M = 1)
    (hw : ∀ k, v (widen k) = w k) (hv : ∀ k : Fin 2048, 64 ≤ k.val % 128 → v k = 0) :
    (∑ k, g k * v k) * M = ∑ k, g (widen k) * M * w k := by
  rw [padded_sum g w v hw hv]
  rcases hM with rfl | rfl
  · simp only [mul_zero, zero_mul, Finset.sum_const_zero]
  · simp only [mul_one]

end Cert.Proof.Algebra
-- ==== Proof.WholeAgree.lean ====
/-
  The whole program and its reference end with the same result over the extended reals, from the same arguments: the numbers the
  attention hands the gather name rows of its mixtures, and the padded, masked sum of the projection is the reference's.
-/
module

public import proofs.«01_k».proof.Proof.WholeRun
public import proofs.«01_k».proof.Proof.WholeValue
public import proofs.«01_k».proof.Proof.WholeEntry
public import proofs.«01_k».proof.Proof.WholeReads
public import proofs.«01_k».proof.Proof.Algebra
public import Idealize.ShloMosaic.Lib.KernelVsHost

@[expose] public section

noncomputable section

namespace Cert.Proof.WholeAgree

open Cert.WholeIdeal Cert.WholeIdeal.Gen
open Idealize.ShloMosaic Idealize.ShloMosaic.StableHlo Idealize.ShloMosaic.TcCoe
open Cert.Proof.WholeHost
open Cert.Proof.WholePlain (centre)
open Cert.Proof.Attend (bit live group step₁ mixture number)

/-- Both take the starting rows at the same places. -/
theorem seats_eq : Plain.seats (F := Ideal) = Attend.seats (F := Ideal) := rfl

theorem live_bit (A : S2x2048.Idx → BitVec 1) (N : S2.Idx → BitVec 32) (b : Fin 2) (l : Fin 2048) : live A N b l = 0 ∨ live A N b l = 1 := by
  unfold live
  generalize bit A N b l = x
  rcases BitVec.eq_zero_or_eq_one x with h | h <;> subst h <;> simp [FloatOps.uitofp]

/-- A query's number: 128 times its head among all the heads, and its centre. -/
theorem number_nat (X : S2x2048x1024.Idx → EReal) (A : S2x2048.Idx → BitVec 1) (N : S2.Idx → BitVec 32) (Wq : S1024x1024.Idx → EReal) (bq : S1024.Idx → EReal)
    (s : S128x1.Idx → BitVec 32) (b : Fin 2) (h : Fin 16) (l : Fin 2048) :
    (number X A N Wq bq s b h l).toNat = (b.val * 16 + h.val) * 128 + (centre X A N Wq bq s b h l).val := by
  unfold number centre
  generalize group _ _ l = g
  rw [BitVec.toNat_add, BitVec.toNat_ofNat, BitVec.toNat_ofNat]
  omega

variable (m : (ℓ : Loc nD τ sig) → Buf (Elt Ideal) ℓ) (d : Dev nD)

abbrev a₀ : S2x2048x1024.Idx → EReal := m (d, Proc.devRef .tc main_arg0)
abbrev a₁ : IVec S2x2048 1 := m (d, Proc.devRef .tc main_arg1)
abbrev a₂ : IVec S2 32 := m (d, Proc.devRef .tc main_arg2)
abbrev a₃ : S1024x1024.Idx → EReal := m (d, Proc.devRef .tc main_arg3)
abbrev a₄ : S1024.Idx → EReal := m (d, Proc.devRef .tc main_arg4)
abbrev a₅ : S1024x1024.Idx → EReal := m (d, Proc.devRef .tc main_arg5)
abbrev a₆ : S1024.Idx → EReal := m (d, Proc.devRef .tc main_arg6)
abbrev a₇ : S1024x1024.Idx → EReal := m (d, Proc.devRef .tc main_arg7)
abbrev a₈ : S1024.Idx → EReal := m (d, Proc.devRef .tc main_arg8)
abbrev a₉ : S1024x1024.Idx → EReal := m (d, Proc.devRef .tc main_arg9)
abbrev a₁₀ : S1024.Idx → EReal := m (d, Proc.devRef .tc main_arg10)

/-- The centre of each query. -/
abbrev own (b : Fin 2) (h : Fin 16) (l : Fin 2048) : Fin 128 := centre (a₀ m d) (a₁ m d) (a₂ m d) (a₃ m d) (a₄ m d) (Attend.seats (F := Ideal)) b h l
/-- The mixtures. -/
abbrev mix (b : Fin 2) (h : Fin 16) (j e : Fin 128) : EReal :=
  mixture (a₀ m d) (a₁ m d) (a₂ m d) (a₃ m d) (a₄ m d) (a₅ m d) (a₆ m d) (a₇ m d) (a₈ m d) (Attend.seats (F := Ideal)) b h j e

/-! ## The numbers -/

/-- Number `(b * 2048 + l) * 16 + h` of the list is the one of batch `b`, head `h` and place `l`. -/
theorem Xs_at (b : Fin 2) (h : Fin 16) (l : Fin 2048) (p : Fin 65536) (hp : p.val = (b.val * 2048 + l.val) * 16 + h.val) :
    Xs m d (ix2 (0 : Fin 1) p) = WholeValue.numbers m d (ix4 b h (0 : Fin 1) l) := by
  rw [Xs_eq, WholeValue.final_numbers]
  refine (shapeCast_apply _ _ _ (ix3 b l h) ?_).trans ((transpose_apply _ _ _ _ (ix3 b h l) fun c => by
    match c with
    | 0 => rfl
    | 1 => rfl
    | 2 => rfl).trans (shapeCast_apply _ _ _ (ix4 b h (0 : Fin 1) l) ?_))
  · rw [Shape.rowMajor_val_three, Shape.rowMajor_val_two]
    show (b.val * 2048 + l.val) * 16 + h.val = 0 * 65536 + p.val
    omega
  · rw [Shape.rowMajor_val_three, Shape.rowMajor_val_four]; simp [ix3, ix4]

theorem Xs_nat (b : Fin 2) (h : Fin 16) (l : Fin 2048) (p : Fin 65536) (hp : p.val = (b.val * 2048 + l.val) * 16 + h.val) :
    (Xs m d (ix2 (0 : Fin 1) p)).toNat = (b.val * 16 + h.val) * 128 + (own m d b h l).val := by
  rw [Xs_at m d b h l p hp]
  exact number_nat _ _ _ _ _ _ b h l

/-- Every number of the list names a row. -/
theorem inRows : WholeGather.InRows m := fun d i => by
  obtain ⟨p, rfl⟩ : ∃ p : Fin 65536, i = ix2 (0 : Fin 1) p := ⟨i 1, funext fun a => by
    match a with
    | 0 => exact Fin.ext (Nat.lt_one_iff.1 (i 0).isLt)
    | 1 => rfl⟩
  rw [Xs_nat m d (⟨p.val / 16 / 2048, by omega⟩ : Fin 2) (⟨p.val % 16, by omega⟩ : Fin 16) (⟨p.val / 16 % 2048, by omega⟩ : Fin 2048) p
    (by show p.val = (p.val / 16 / 2048 * 2048 + p.val / 16 % 2048) * 16 + p.val % 16; omega)]
  generalize own m d _ _ _ = g
  show (p.val / 16 / 2048 * 16 + p.val % 16) * 128 + g.val < 4096
  omega

/-! ## What the projection is handed -/

/-- Row `(b * 16 + h) * 128 + j` of the table is the mixture of centre `j` of batch `b` and head `h`. -/
theorem Tb_at (b : Fin 2) (h : Fin 16) (j e : Fin 128) (r : Fin 4096) (hr : r.val = (b.val * 16 + h.val) * 128 + j.val) :
    Tb m d (ix2 r e) = mix m d b h j e := by
  rw [Tb_eq, WholeValue.final_mixtures]
  refine (shapeCast_apply _ _ _ (ix4 b h j e) ?_).trans rfl
  rw [Shape.rowMajor_val_two, Shape.rowMajor_val_four]
  show ((b.val * 16 + h.val) * 128 + j.val) * 128 + e.val = r.val * 128 + e.val
  omega

/-- Place `k` of the rows gathered for `(b, l)`: place `k % 128` of the mixture of its centre in head `k / 128`. -/
theorem rows_at (b : Fin 2) (l : Fin 2048) (k : Fin 2048) :
    V₅ m d (Proc.devRef .tc main_v38) (ix3 b l k)
      = mix m d b (⟨k.val / 128, by omega⟩ : Fin 16) (own m d b (⟨k.val / 128, by omega⟩ : Fin 16) l) (⟨k.val % 128, by omega⟩ : Fin 128) := by
  have hp : (b.val * 2048 + l.val) * 16 + k.val / 128 < 65536 := by omega
  have hk : k.val % 128 < 128 := by omega
  rw [V₅_rows]
  refine (shapeCast_apply _ _ _ (ix2 (⟨(b.val * 2048 + l.val) * 16 + k.val / 128, hp⟩ : Fin 65536) (⟨k.val % 128, hk⟩ : Fin 128)) ?_).trans ?_
  · rw [Shape.rowMajor_val_three, Shape.rowMajor_val_two]
    show ((b.val * 2048 + l.val) * 16 + k.val / 128) * 128 + k.val % 128 = (b.val * 2048 + l.val) * 2048 + k.val
    omega
  · have e := Xs_nat m d b (⟨k.val / 128, by omega⟩ : Fin 16) l (⟨(b.val * 2048 + l.val) * 16 + k.val / 128, hp⟩ : Fin 65536) rfl
    show Tb m d (ix2 (WholeGather.rowOf (Xs m d (ix2 (0 : Fin 1) (⟨(b.val * 2048 + l.val) * 16 + k.val / 128, hp⟩ : Fin 65536)))) (⟨k.val % 128, hk⟩ : Fin 128)) = _
    refine Tb_at m d b _ _ _ _ ?_
    show (Xs m d (ix2 (0 : Fin 1) (⟨(b.val * 2048 + l.val) * 16 + k.val / 128, hp⟩ : Fin 65536))).toNat % 4096 = _
    rw [e]
    generalize own m d _ _ _ = g
    show ((b.val * 16 + k.val / 128) * 128 + g.val) % 4096 = (b.val * 16 + k.val / 128) * 128 + g.val
    omega

/-- The mask as a column. -/
theorem mask_at (b : Fin 2) (l : Fin 2048) : V₅ m d (Proc.devRef .tc main_v8) (ix3 b l (0 : Fin 1)) = live (a₁ m d) (a₂ m d) b l := by
  rw [V₅_mask, V₁_mask]
  unfold live bit
  pointwise

/-- The weights at the places of the groups of 64 are the weights given, -/
theorem weight_at (k : Fin 1024) (o : Fin 1024) : V₅ m d (Proc.devRef .tc main_v31) (ix2 (Algebra.widen k) o) = a₉ m d (ix2 k o) := by
  have hh : k.val / 64 < 16 := by omega
  have he : k.val % 64 < 128 := by omega
  have he' : k.val % 64 < 64 := by omega
  rw [V₅_weights, V₁_padded]
  refine (shapeCast_apply _ _ _ (ix3 (⟨k.val / 64, hh⟩ : Fin 16) (⟨k.val % 64, he⟩ : Fin 128) o) ?_).trans
    ((pad_apply_of_inside _ _ _ _ _ _ _ _ (ix3 (⟨k.val / 64, hh⟩ : Fin 16) (⟨k.val % 64, he'⟩ : Fin 64) o) fun c => ?_).trans
      (shapeCast_apply _ _ _ (ix2 k o) ?_))
  · rw [Shape.rowMajor_val_three, Shape.rowMajor_val_two]
    show (k.val / 64 * 128 + k.val % 64) * 1024 + o.val = (k.val / 64 * 128 + k.val % 64) * 1024 + o.val
    rfl
  · match c with
    | 0 => show k.val / 64 = 0 + k.val / 64 * (0 + 1); omega
    | 1 => show k.val % 64 = 0 + k.val % 64 * (0 + 1); omega
    | 2 => show o.val = 0 + o.val * (0 + 1); omega
  · rw [Shape.rowMajor_val_three, Shape.rowMajor_val_two]
    show k.val * 1024 + o.val = (k.val / 64 * 64 + k.val % 64) * 1024 + o.val
    omega

/-- and zero at the padding. -/
theorem padding_at (k : Fin 2048) (hk : 64 ≤ k.val % 128) (o : Fin 1024) : V₅ m d (Proc.devRef .tc main_v31) (ix2 k o) = (0 : EReal) := by
  have hh : k.val / 128 < 16 := by omega
  have he : k.val % 128 < 128 := by omega
  rw [V₅_weights, V₁_padded]
  refine (shapeCast_apply _ _ _ (ix3 (⟨k.val / 128, hh⟩ : Fin 16) (⟨k.val % 128, he⟩ : Fin 128) o) ?_).trans
    ((pad_apply_of_not_inside _ _ _ _ _ _ _ _ (1 : Fin 3) fun hin => ?_).trans ?_)
  · rw [Shape.rowMajor_val_three, Shape.rowMajor_val_two]
    show (k.val / 128 * 128 + k.val % 128) * 1024 + o.val = k.val * 1024 + o.val
    omega
  · have h : (k.val % 128 - 0) / (0 + 1) < 64 := hin.2.2
    omega
  · show ((((0#32 : BitVec 32).toInt : ℤ) : ℝ) : EReal) = 0
    simp

/-- The bias as a row. -/
theorem bias_at (o : Fin 1024) : V₅ m d (Proc.devRef .tc main_v39) (ix2 (0 : Fin 1) o) = a₁₀ m d (ix1 o) := by
  rw [V₅_bias]
  refine shapeCast_apply _ _ _ (ix1 o) ?_
  rw [Shape.rowMajor_val_one, Shape.rowMajor_val_two]; simp [ix1, ix2]

/-! ## The results -/

/-- Entry `(b, l, o)` of what the program ends with. -/
theorem ends_at (b : Fin 2) (l : Fin 2048) (o : Fin 1024) :
    V₆ m d (Proc.devRef .tc main_v40) (ix3 b l o)
      = WholePlain.result (a₀ m d) (a₁ m d) (a₂ m d) (a₃ m d) (a₄ m d) (a₅ m d) (a₆ m d) (a₇ m d) (a₈ m d) (a₉ m d) (a₁₀ m d) (Attend.seats (F := Ideal)) b l o := by
  unfold V₆
  rw [WholeCalls.VP_out4, WholeProj.final_whole]
  show WholeProj.entry (fun j => V₅ m d (Proc.devRef .tc main_v38) (ix3 b l j)) (fun j => V₅ m d (Proc.devRef .tc main_v31) (ix2 j o))
    (V₅ m d (Proc.devRef .tc main_v8) (ix3 b l (0 : Fin 1))) (V₅ m d (Proc.devRef .tc main_v39) (ix2 (0 : Fin 1) o)) = _
  unfold WholeProj.entry WholePlain.result
  refine congrArg₂ (· + ·) ?_ (bias_at m d o)
  rw [mask_at]
  refine (Algebra.masked_sum _ (fun k => a₉ m d (ix2 k o)) _ _ (live_bit _ _ _ _) (fun k => weight_at m d k o) fun k hk => padding_at m d k hk o).trans ?_
  refine Finset.sum_congr rfl fun k _ => congrArg₂ (· * ·) (congrArg₂ (· * ·) ((rows_at m d b l (Algebra.widen k)).trans ?_) rfl) rfl
  have h1 : (⟨(Algebra.widen k).val / 128, by omega⟩ : Fin 16) = ⟨k.val / 64, by omega⟩ :=
    Fin.ext (show (k.val / 64 * 128 + k.val % 64) / 128 = k.val / 64 by omega)
  have h2 : (⟨(Algebra.widen k).val % 128, by omega⟩ : Fin 128) = ⟨k.val % 64, by omega⟩ :=
    Fin.ext (show (k.val / 64 * 128 + k.val % 64) % 128 = k.val % 64 by omega)
  rw [h1, h2]

variable (m' : (ℓ : Loc Cert.WholeReferenceIdeal.nD Cert.WholeReferenceIdeal.τ Cert.WholeReferenceIdeal.sig) → Buf (Elt Ideal) ℓ)

/-- The two memories hold the same arguments. -/
def Given : Prop :=
  m' (d, Proc.devRef .tc Cert.WholeReferenceIdeal.main_arg0) = m (d, Proc.devRef .tc main_arg0)
    ∧ m' (d, Proc.devRef .tc Cert.WholeReferenceIdeal.main_arg1) = m (d, Proc.devRef .tc main_arg1)
    ∧ m' (d, Proc.devRef .tc Cert.WholeReferenceIdeal.main_arg2) = m (d, Proc.devRef .tc main_arg2)
    ∧ m' (d, Proc.devRef .tc Cert.WholeReferenceIdeal.main_arg3) = m (d, Proc.devRef .tc main_arg3)
    ∧ m' (d, Proc.devRef .tc Cert.WholeReferenceIdeal.main_arg4) = m (d, Proc.devRef .tc main_arg4)
    ∧ m' (d, Proc.devRef .tc Cert.WholeReferenceIdeal.main_arg5) = m (d, Proc.devRef .tc main_arg5)
    ∧ m' (d, Proc.devRef .tc Cert.WholeReferenceIdeal.main_arg6) = m (d, Proc.devRef .tc main_arg6)
    ∧ m' (d, Proc.devRef .tc Cert.WholeReferenceIdeal.main_arg7) = m (d, Proc.devRef .tc main_arg7)
    ∧ m' (d, Proc.devRef .tc Cert.WholeReferenceIdeal.main_arg8) = m (d, Proc.devRef .tc main_arg8)
    ∧ m' (d, Proc.devRef .tc Cert.WholeReferenceIdeal.main_arg9) = m (d, Proc.devRef .tc main_arg9)
    ∧ m' (d, Proc.devRef .tc Cert.WholeReferenceIdeal.main_arg10) = m (d, Proc.devRef .tc main_arg10)

theorem agree (h : Given m d m') :
    after WholePlain.line (launchContents m' d) (Proc.devRef .tc Cert.WholeReferenceIdeal.main_v126) = V₆ m d (Proc.devRef .tc main_v40) := by
  obtain ⟨h0, h1, h2, h3, h4, h5, h6, h7, h8, h9, h10⟩ := h
  funext y
  obtain ⟨b, l, o, rfl⟩ : ∃ (b : Fin 2) (l : Fin 2048) (o : Fin 1024), y = ix3 b l o := ⟨_, _, _, eq_ix3 y⟩
  refine (WholePlain.result_at (launchContents m' d) b l o).trans (Eq.trans ?_ (ends_at m d b l o).symm)
  rw [seats_eq]
  unfold a₀ a₁ a₂ a₃ a₄ a₅ a₆ a₇ a₈ a₉ a₁₀
  rw [← h0, ← h1, ← h2, ← h3, ← h4, ← h5, ← h6, ← h7, ← h8, ← h9, ← h10]

end Cert.Proof.WholeAgree

end
-- ==== Proof.AttnAgree.lean ====
/-
  The attention call and its reference end with the same two results over the extended reals, from the same arguments.
-/
module

public import proofs.«01_k».proof.Proof.Attention
public import proofs.«01_k».proof.Proof.AttnValue

@[expose] public section

noncomputable section

namespace Cert.Proof.AttnAgree

open Idealize.ShloMosaic Idealize.ShloMosaic.StableHlo
open Idealize.SL.Sem

/-- Both take the starting rows at the same places. -/
theorem seats_eq : Plain.seats (F := Ideal) = Attend.seats (F := Ideal) := rfl

section

open Cert.AttnReferenceIdeal

/-- The reference's run: every buffer at what the line of operations leaves. -/
theorem run_plain (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after Plain.line (launchContents m d) (Proc.devRef .tc b) :=
  run_seq (by decide) (by decide) defs main (fun _ => Plain.line) Plain.main_eq (fun _ => Plain.line_sub) m ρ
    (fun _ => List.forall_iff_forall_mem.1 Plain.line_fresh)

end

variable (m : (ℓ : Loc Cert.AttnIdeal.nD Cert.AttnIdeal.τ Cert.AttnIdeal.sig) → Buf (Elt Ideal) ℓ)
  (m' : (ℓ : Loc Cert.AttnReferenceIdeal.nD Cert.AttnReferenceIdeal.τ Cert.AttnReferenceIdeal.sig) → Buf (Elt Ideal) ℓ)
  (c : Dev Cert.AttnIdeal.nD)

/-- The two memories hold the same arguments. -/
def Given : Prop :=
  m' (c, Proc.devRef .tc Cert.AttnReferenceIdeal.main_arg0) = m (c, Proc.devRef .tc Cert.AttnIdeal.main_arg0)
    ∧ m' (c, Proc.devRef .tc Cert.AttnReferenceIdeal.main_arg1) = m (c, Proc.devRef .tc Cert.AttnIdeal.main_arg1)
    ∧ m' (c, Proc.devRef .tc Cert.AttnReferenceIdeal.main_arg2) = m (c, Proc.devRef .tc Cert.AttnIdeal.main_arg2)
    ∧ m' (c, Proc.devRef .tc Cert.AttnReferenceIdeal.main_arg3) = m (c, Proc.devRef .tc Cert.AttnIdeal.main_arg3)
    ∧ m' (c, Proc.devRef .tc Cert.AttnReferenceIdeal.main_arg4) = m (c, Proc.devRef .tc Cert.AttnIdeal.main_arg4)
    ∧ m' (c, Proc.devRef .tc Cert.AttnReferenceIdeal.main_arg5) = m (c, Proc.devRef .tc Cert.AttnIdeal.main_arg5)
    ∧ m' (c, Proc.devRef .tc Cert.AttnReferenceIdeal.main_arg6) = m (c, Proc.devRef .tc Cert.AttnIdeal.main_arg6)
    ∧ m' (c, Proc.devRef .tc Cert.AttnReferenceIdeal.main_arg7) = m (c, Proc.devRef .tc Cert.AttnIdeal.main_arg7)
    ∧ m' (c, Proc.devRef .tc Cert.AttnReferenceIdeal.main_arg8) = m (c, Proc.devRef .tc Cert.AttnIdeal.main_arg8)

theorem mixtures_agree (h : Given m m' c) :
    after Plain.line (launchContents m' c) (Proc.devRef .tc Cert.AttnReferenceIdeal.main_v116) = Attend.mixtures m c := by
  obtain ⟨h0, h1, h2, h3, h4, h5, h6, h7, h8⟩ := h
  rw [Plain.ends_mixtures]
  funext y
  obtain ⟨a, b, j, e, rfl⟩ : ∃ (a : Fin 2) (b : Fin 16) (j e : Fin 128), y = ix4 a b j e := ⟨_, _, _, _, eq_ix4 y⟩
  rw [Plain.mixture_at, seats_eq]
  unfold Attend.mixtures
  rw [← h0, ← h1, ← h2, ← h3, ← h4, ← h5, ← h6, ← h7, ← h8]
  rfl

theorem numbers_agree (h : Given m m' c) :
    after Plain.line (launchContents m' c) (Proc.devRef .tc Cert.AttnReferenceIdeal.main_v123) = Attend.numbers m c := by
  obtain ⟨h0, h1, h2, h3, h4, h5, h6, h7, h8⟩ := h
  rw [Plain.ends_numbers]
  funext y
  obtain ⟨a, b, l, rfl⟩ : ∃ (a : Fin 2) (b : Fin 16) (l : Fin 2048), y = ix4 a b 0 l := by
    refine ⟨y 0, y 1, y 3, (eq_ix4 y).trans ?_⟩
    have : y 2 = (0 : Fin 1) := Subsingleton.elim (α := Fin 1) _ _
    rw [this]
  rw [Plain.number_at, seats_eq]
  unfold Attend.numbers
  rw [← h0, ← h1, ← h2, ← h3, ← h4]
  rfl

end Cert.Proof.AttnAgree

end
-- ==== Proof.Value.lean ====
/-
  The projection's result over the extended reals, entry by entry: the rows' sum against the weights, times the mask, plus
  the bias, all read from the buffers the call is entered with.
-/
module

public import proofs.«01_k».proof.Proof.Proj
public import Idealize.ShloMosaic.Lib.MatmulPlain
public import Idealize.ShloMosaic.Lib.ValueIdx
public import Idealize.ShloMosaic.Lib.ValueLayout
public import Idealize.ShloMosaic.Lib.Pipeline.ValueKit.Geometry

@[expose] public section

set_option maxRecDepth 16384

noncomputable section

namespace Cert.Proof.Proj

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA

/-- One row's sum against a column of the weights, masked, with the bias. -/
def entry (g : Fin 2048 → EReal) (w : Fin 2048 → EReal) (k b : EReal) : EReal := (∑ i, g i * w i) * k + b

theorem zeros₃ : (![0, 0, 0] : Fin 3 → Nat) = fun _ => 0 := by decide
theorem zeros₂ : (![0, 0] : Fin 2 → Nat) = fun _ => 0 := by decide

theorem payload_at (g : Vec Ideal S1x1024x2048 .f32) (w : Vec Ideal S2048x1024 .f32) (k : Vec Ideal S1x1024x1 .f32) (b : Vec Ideal S1x1024 .f32) (r c : Fin 1024) :
    k1_pay1 g w k b (ix3 (0 : Fin 1) r c) = entry (fun i => g (ix3 (0 : Fin 1) r i)) (fun i => w (ix2 i c)) (k (ix3 (0 : Fin 1) r (0 : Fin 1))) (b (ix2 (0 : Fin 1) c)) := by
  unfold k1_pay1 entry
  rw [shapeCast_ab_1ab_apply, addf_apply, mulf_apply]
  refine congrArg₂ (· + ·) (congrArg₂ (· * ·) ?_ ?_) ?_
  · refine (Ideal.matmul_plain_apply (M := 1024) (K := 2048) (N := 1024) none _ _ _ r c).trans ?_
    rw [show (constant S1024x1024 .f32 0x00000000#32 : FVec Ideal S1024x1024 .f32) (ix2 r c) = 0 from Ideal.ofBits_zero_f32, zero_add]
    refine Finset.sum_congr rfl fun i _ => congrArg₂ (· * ·) (shapeCast_1ab_ab_apply ..) (shapeCast_apply _ _ _ (ix2 i c) rfl)
  · refine (broadcastTo_apply _ _ _ (ix2 r (0 : Fin 1)) fun a => by
      match a with
      | 0 => rfl
      | 1 => rfl).trans (shapeCast_apply _ _ _ (ix3 (0 : Fin 1) r (0 : Fin 1)) ?_)
    rw [Shape.rowMajor_val_three, Shape.rowMajor_val_two]; simp [ix2, ix3]
  · exact (broadcastTo_apply _ _ _ (ix2 (0 : Fin 1) c) fun a => by
      match a with
      | 0 => rfl
      | 1 => rfl).trans (shapeCast_apply _ _ _ (ix2 (0 : Fin 1) c) rfl)

/-- What the body leaves in the output's buffer, at an index. -/
theorem projected_at (g : Vec Ideal S1x1024x2048 .f32) (k : Vec Ideal S1x1024x1 .f32) (w : Vec Ideal S2048x1024 .f32) (b : Vec Ideal S1x1024 .f32) (r c : Fin 1024) :
    projected g k w b (ix3 (0 : Fin 1) r c) = entry (fun i => g (ix3 (0 : Fin 1) r i)) (fun i => w (ix2 i c)) (k (ix3 (0 : Fin 1) r (0 : Fin 1))) (b (ix2 (0 : Fin 1) c)) := by
  unfold projected rG rW rM rB rY
  rw [View.canon_unit_zero zeros₃, View.ld_unit_zero zeros₃, View.ld_unit_zero zeros₂, View.ld_unit_zero zeros₃, View.ld_unit_zero zeros₂]
  exact payload_at g w k b r c

variable {U : Type} [URA U] (V : Dev nD → Valuation τ sig (Elt Ideal)) (B : Dev nD → Set (SemLoc sig × HIx 1))

/-- The output's array after the call. -/
def whole (c : Dev nD) : S2x2048x1024.Idx → EReal := fun i =>
  entry (fun j => V c (Proc.devRef .tc main_v17) (ix3 (⟨(i 0).val, (i 0).isLt⟩ : Fin 2) (⟨(i 1).val, (i 1).isLt⟩ : Fin 2048) j))
    (fun j => V c (Proc.devRef .tc main_v11) (ix2 j (⟨(i 2).val, (i 2).isLt⟩ : Fin 1024)))
    (V c (Proc.devRef .tc main_v8) (ix3 (⟨(i 0).val, (i 0).isLt⟩ : Fin 2) (⟨(i 1).val, (i 1).isLt⟩ : Fin 2048) (0 : Fin 1)))
    (V c (Proc.devRef .tc main_v18) (ix2 (0 : Fin 1) (⟨(i 2).val, (i 2).isLt⟩ : Fin 1024)))

theorem index₀ : ∀ t : Fin cfg1.N, win1_0.index t = ![(grid1.coords t 0).val, (grid1.coords t 1).val, 0] :=
  (by decide +kernel : ∀ t : Fin grid1.N, win1_0.index t = ![(grid1.coords t 0).val, (grid1.coords t 1).val, 0])
theorem index₁ : ∀ t : Fin cfg1.N, win1_1.index t = ![(grid1.coords t 0).val, (grid1.coords t 1).val, 0] :=
  (by decide +kernel : ∀ t : Fin grid1.N, win1_1.index t = ![(grid1.coords t 0).val, (grid1.coords t 1).val, 0])
theorem index₂ : ∀ t : Fin cfg1.N, win1_2.index t = ![0, 0] :=
  (by decide +kernel : ∀ t : Fin grid1.N, win1_2.index t = ![0, 0])
theorem index₃ : ∀ t : Fin cfg1.N, win1_3.index t = ![0, 0] :=
  (by decide +kernel : ∀ t : Fin grid1.N, win1_3.index t = ![0, 0])
theorem index₄ : ∀ t : Fin cfg1.N, win1_4.index t = ![(grid1.coords t 0).val, (grid1.coords t 1).val, 0] :=
  (by decide +kernel : ∀ t : Fin grid1.N, win1_4.index t = ![(grid1.coords t 0).val, (grid1.coords t 1).val, 0])

theorem read₀ (c : Dev nD) (t : Fin cfg1.N) (r : Fin 1024) (k : Fin 2048) (b : Fin 2) (l : Fin 2048)
    (hb : b.val = (grid1.coords t 0).val) (hl : l.val = (grid1.coords t 1).val * 1024 + r.val) :
    blkAt V c 0 t (ix3 (0 : Fin 1) r k) = V c (Proc.devRef .tc main_v17) (ix3 b l k) := by
  show V c (Proc.devRef .tc main_v17) ((win1_0.blk t).view.emb (ix3 (0 : Fin 1) r k)) = _
  refine congrArg _ ?_
  blk_ext [index₀]
  · exact hb.symm
  · exact hl.symm

theorem read₁ (c : Dev nD) (t : Fin cfg1.N) (r : Fin 1024) (b : Fin 2) (l : Fin 2048)
    (hb : b.val = (grid1.coords t 0).val) (hl : l.val = (grid1.coords t 1).val * 1024 + r.val) :
    blkAt V c 1 t (ix3 (0 : Fin 1) r (0 : Fin 1)) = V c (Proc.devRef .tc main_v8) (ix3 b l (0 : Fin 1)) := by
  show V c (Proc.devRef .tc main_v8) ((win1_1.blk t).view.emb (ix3 (0 : Fin 1) r (0 : Fin 1))) = _
  refine congrArg _ ?_
  blk_ext [index₁]
  · exact hb.symm
  · exact hl.symm

theorem read₂ (c : Dev nD) (t : Fin cfg1.N) (k : Fin 2048) (o : Fin 1024) :
    blkAt V c 2 t (ix2 k o) = V c (Proc.devRef .tc main_v11) (ix2 k o) := by
  show V c (Proc.devRef .tc main_v11) ((win1_2.blk t).view.emb (ix2 k o)) = _
  refine congrArg _ ?_
  blk_ext [index₂]

theorem read₃ (c : Dev nD) (t : Fin cfg1.N) (o : Fin 1024) :
    blkAt V c 3 t (ix2 (0 : Fin 1) o) = V c (Proc.devRef .tc main_v18) (ix2 (0 : Fin 1) o) := by
  show V c (Proc.devRef .tc main_v18) ((win1_3.blk t).view.emb (ix2 (0 : Fin 1) o)) = _
  refine congrArg _ ?_
  blk_ext [index₃]

theorem final_whole (c : Dev nD) : (dats (U := U) V B 0 c).arrAt 4 cfg1.N = whole V c := by
  refine (dats (U := U) V B 0 c).arrAt_eq_of_covers 4 _ (by decide +kernel) fun t _ y => ?_
  rw [after_y]
  blk_simp
  rw [eq_ix3 y]
  generalize hr : y 1 = r
  generalize ho : y 2 = o
  have e0 : y 0 = (0 : Fin 1) := Fin.ext (Nat.lt_one_iff.1 (y 0).isLt)
  rw [e0]
  refine (projected_at _ _ _ _ r o).trans ?_
  have h0 : (((win1_4.blk t).view.emb (ix3 (0 : Fin 1) r o) 0 : Fin _) : Nat) = (grid1.coords t 0).val := by blk_simp [index₄]
  have h1 : (((win1_4.blk t).view.emb (ix3 (0 : Fin 1) r o) 1 : Fin _) : Nat) = (grid1.coords t 1).val * 1024 + r.val := by blk_simp [index₄]; rfl
  have h2 : (((win1_4.blk t).view.emb (ix3 (0 : Fin 1) r o) 2 : Fin _) : Nat) = o.val := by blk_simp [index₄]; rfl
  unfold whole
  refine congr (congr (congrArg₂ entry (funext fun k => read₀ V c t r k _ _ h0 h1) (funext fun k => ?_)) (read₁ V c t r _ _ h0 h1)) ?_
  · exact (read₂ V c t k o).trans (congrArg (fun e => V c (Proc.devRef .tc main_v11) (ix2 k e)) (Fin.ext h2.symm))
  · exact (read₃ V c t o).trans (congrArg (fun e => V c (Proc.devRef .tc main_v18) (ix2 (0 : Fin 1) e)) (Fin.ext h2.symm))

end Cert.Proof.Proj

end
-- ==== Proof.Agree.lean ====
/-
  Kernel and reference agree entry by entry over the extended reals: what the kernel's host code hands the projection is read
  back to the arguments, and the padded, masked sum is the reference's.
-/
module

public import proofs.«01_k».proof.Proof.Run
public import proofs.«01_k».proof.Proof.Value
public import proofs.«01_k».proof.Proof.Taken
public import proofs.«01_k».proof.Proof.Algebra
public import Idealize.ShloMosaic.Lib.KernelVsHost

@[expose] public section

noncomputable section

namespace Cert.Proof.Agree

open Cert.KernelIdeal Cert.KernelIdeal.Gen
open Idealize.ShloMosaic Idealize.ShloMosaic.TcCoe
open Idealize.ShloMosaic.ValueIdx
open Cert.Proof.Host (V₁ V₃ Tb Xs)
open Cert.Proof.Gather (G InRows V₄ Bd)

/-! ## The numbers, over any float values -/

section Numbers

variable {F : FTy → Type} [FloatOps F] (m : (ℓ : Loc nD τ sig) → Buf (Elt F) ℓ) (d : Dev nD)

/-- Number `(b * 2048 + l) * 16 + h` of the list is the one of batch `b`, head `h` and place `l`. -/
theorem Xs_at (b : Fin 2) (h : Fin 16) (l : Fin 2048) (p : Fin 65536) (hp : p.val = (b.val * 2048 + l.val) * 16 + h.val) :
    Xs m d (ix2 (0 : Fin 1) p) = m (d, Proc.devRef .tc main_arg1) (ix4 b h (0 : Fin 1) l) := by
  rw [Host.Xs_eq]
  refine (shapeCast_apply _ _ _ (ix3 b l h) ?_).trans ((transpose_apply _ _ _ _ (ix3 b h l) fun c => by
    match c with
    | 0 => rfl
    | 1 => rfl
    | 2 => rfl).trans (shapeCast_apply _ _ _ (ix4 b h (0 : Fin 1) l) ?_))
  · rw [Shape.rowMajor_val_three, Shape.rowMajor_val_two]
    show (b.val * 2048 + l.val) * 16 + h.val = 0 * 65536 + p.val
    omega
  · rw [Shape.rowMajor_val_three, Shape.rowMajor_val_four]; simp [ix3, ix4]

/-- If every number given names a row, so does every number of the list. -/
theorem inRows (hX : ∀ i : S2x16x1x2048.Idx, ((m (d, Proc.devRef .tc main_arg1) : S2x16x1x2048.Idx → BitVec 32) i).toNat < 4096) :
    ∀ i, (Xs m d i).toNat < 4096 := fun i => by
  obtain ⟨p, rfl⟩ : ∃ p : Fin 65536, i = ix2 (0 : Fin 1) p := ⟨i 1, funext fun a => by
    match a with
    | 0 => exact Fin.ext (Nat.lt_one_iff.1 (i 0).isLt)
    | 1 => rfl⟩
  rw [Xs_at m d (⟨p.val / 16 / 2048, by omega⟩ : Fin 2) (⟨p.val % 16, by omega⟩ : Fin 16) (⟨p.val / 16 % 2048, by omega⟩ : Fin 2048) p
    (by show p.val = (p.val / 16 / 2048 * 2048 + p.val / 16 % 2048) * 16 + p.val % 16; omega)]
  exact hX _

end Numbers

/-! ## What the projection is handed -/

variable (m : (ℓ : Loc nD τ sig) → Buf (Elt Ideal) ℓ) (d : Dev nD)

abbrev a₀ : S2x16x128x128.Idx → EReal := m (d, Proc.devRef .tc main_arg0)
abbrev a₁ : IVec S2x16x1x2048 32 := m (d, Proc.devRef .tc main_arg1)
abbrev a₂ : IVec S2x2048 1 := m (d, Proc.devRef .tc main_arg2)
abbrev a₃ : IVec S2 32 := m (d, Proc.devRef .tc main_arg3)
abbrev a₄ : S1024x1024.Idx → EReal := m (d, Proc.devRef .tc main_arg4)
abbrev a₅ : S1024.Idx → EReal := m (d, Proc.devRef .tc main_arg5)

/-- Place `k` of the rows gathered for `(b, l)`: place `k % 128` of the row named for head `k / 128`. -/
theorem rows_at (hX : ∀ i, (a₁ m d i).toNat < 4096) (b : Fin 2) (l : Fin 2048) (k : Fin 2048) :
    V₃ m d (Proc.devRef .tc main_v17) (ix3 b l k)
      = shapeCast S4096x128 (a₀ m d) shapeCasts_S2x16x128x128_S4096x128
          (ix2 (⟨(a₁ m d (ix4 b (⟨k.val / 128, by omega⟩ : Fin 16) (0 : Fin 1) l)).toNat, hX _⟩ : Fin 4096) (⟨k.val % 128, by omega⟩ : Fin 128)) := by
  have hp : (b.val * 2048 + l.val) * 16 + k.val / 128 < 65536 := by omega
  have hk : k.val % 128 < 128 := by omega
  rw [Host.V₃_rows]
  refine (shapeCast_apply _ _ _ (ix2 (⟨(b.val * 2048 + l.val) * 16 + k.val / 128, hp⟩ : Fin 65536) (⟨k.val % 128, hk⟩ : Fin 128)) ?_).trans ?_
  · rw [Shape.rowMajor_val_three, Shape.rowMajor_val_two]
    show ((b.val * 2048 + l.val) * 16 + k.val / 128) * 128 + k.val % 128 = (b.val * 2048 + l.val) * 2048 + k.val
    omega
  · have e := Xs_at m d b (⟨k.val / 128, by omega⟩ : Fin 16) l (⟨(b.val * 2048 + l.val) * 16 + k.val / 128, hp⟩ : Fin 65536) rfl
    show Tb m d (ix2 (Gather.rowOf (Xs m d (ix2 (0 : Fin 1) (⟨(b.val * 2048 + l.val) * 16 + k.val / 128, hp⟩ : Fin 65536)))) (⟨k.val % 128, hk⟩ : Fin 128)) = _
    rw [Host.Tb_eq]
    refine congrArg (fun r : Fin 4096 => shapeCast S4096x128 (a₀ m d) shapeCasts_S2x16x128x128_S4096x128 (ix2 r (⟨k.val % 128, hk⟩ : Fin 128))) (Fin.ext ?_)
    show (Xs m d (ix2 (0 : Fin 1) (⟨(b.val * 2048 + l.val) * 16 + k.val / 128, hp⟩ : Fin 65536))).toNat % 4096 = _
    rw [e]
    exact Nat.mod_eq_of_lt (hX _)

/-- The mask as a column. -/
theorem mask_at (b : Fin 2) (l : Fin 2048) :
    V₃ m d (Proc.devRef .tc main_v8) (ix3 b l (0 : Fin 1)) = Taken.maskAt (a₂ m d) (a₃ m d) (ix2 b l) := by
  rw [Host.V₃_mask, Host.V₁_mask]
  refine (shapeCast_apply _ _ _ (ix2 b l) ?_).trans rfl
  rw [Shape.rowMajor_val_three, Shape.rowMajor_val_two]; simp [ix2, ix3]

/-- The weights at the places of the groups of 64 are the weights given, -/
theorem weight_at (k : Fin 1024) (o : Fin 1024) :
    V₃ m d (Proc.devRef .tc main_v11) (ix2 (Algebra.widen k) o) = a₄ m d (ix2 k o) := by
  have hh : k.val / 64 < 16 := by omega
  have he : k.val % 64 < 128 := by omega
  have he' : k.val % 64 < 64 := by omega
  rw [Host.V₃_weights, Host.V₁_weights]
  refine (shapeCast_apply _ _ _ (ix3 (⟨k.val / 64, hh⟩ : Fin 16) (⟨k.val % 64, he⟩ : Fin 128) o) ?_).trans
    ((pad_apply_of_inside _ _ _ _ _ _ _ _ (ix3 (⟨k.val / 64, hh⟩ : Fin 16) (⟨k.val % 64, he'⟩ : Fin 64) o) fun c => ?_).trans
      (shapeCast_apply _ _ _ (ix2 k o) ?_))
  · rw [Shape.rowMajor_val_three, Shape.rowMajor_val_two]
    show (k.val / 64 * 128 + k.val % 64) * 1024 + o.val = (k.val / 64 * 128 + k.val % 64) * 1024 + o.val
    rfl
  · match c with
    | 0 => show k.val / 64 = 0 + k.val / 64 * (0 + 1); omega
    | 1 => show k.val % 64 = 0 + k.val % 64 * (0 + 1); omega
    | 2 => show o.val = 0 + o.val * (0 + 1); omega
  · rw [Shape.rowMajor_val_three, Shape.rowMajor_val_two]
    show k.val * 1024 + o.val = (k.val / 64 * 64 + k.val % 64) * 1024 + o.val
    omega

/-- and zero at the padding. -/
theorem padding_at (k : Fin 2048) (hk : 64 ≤ k.val % 128) (o : Fin 1024) :
    V₃ m d (Proc.devRef .tc main_v11) (ix2 k o) = (0 : EReal) := by
  have hh : k.val / 128 < 16 := by omega
  have he : k.val % 128 < 128 := by omega
  rw [Host.V₃_weights, Host.V₁_weights]
  refine (shapeCast_apply _ _ _ (ix3 (⟨k.val / 128, hh⟩ : Fin 16) (⟨k.val % 128, he⟩ : Fin 128) o) ?_).trans
    ((pad_apply_of_not_inside _ _ _ _ _ _ _ _ (1 : Fin 3) fun hin => ?_).trans ?_)
  · rw [Shape.rowMajor_val_three, Shape.rowMajor_val_two]
    show (k.val / 128 * 128 + k.val % 128) * 1024 + o.val = k.val * 1024 + o.val
    omega
  · have h : (k.val % 128 - 0) / (0 + 1) < 64 := hin.2.2
    omega
  · show ((((0#32 : BitVec 32).toInt : ℤ) : ℝ) : EReal) = 0
    simp

/-- The bias as a row. -/
theorem bias_at (o : Fin 1024) : V₃ m d (Proc.devRef .tc main_v18) (ix2 (0 : Fin 1) o) = a₅ m d (ix1 o) := by
  rw [Host.V₃_bias]
  refine shapeCast_apply _ _ _ (ix1 o) ?_
  rw [Shape.rowMajor_val_one, Shape.rowMajor_val_two]; simp [ix1, ix2]

/-! ## The results -/

/-- Where every number names a row, the kernel ends with the reference's result. -/
theorem agree (hX : ∀ i, (a₁ m d i).toNat < 4096) :
    V₄ m d (Proc.devRef .tc main_v19) = Taken.result (a₀ m d) (a₁ m d) (a₂ m d) (a₃ m d) (a₄ m d) (a₅ m d) := by
  refine (Proj.V'_y (V₃ m) Bd d).trans ((Proj.final_whole (V₃ m) Bd d).trans (funext fun i => ?_))
  obtain ⟨b, l, o, rfl⟩ : ∃ (b : Fin 2) (l : Fin 2048) (o : Fin 1024), i = ix3 b l o := ⟨i 0, i 1, i 2, eq_ix3 i⟩
  refine Eq.trans ?_ (Taken.result_at _ _ _ _ _ _ hX b l o).symm
  show Proj.entry (fun j => V₃ m d (Proc.devRef .tc main_v17) (ix3 b l j)) (fun j => V₃ m d (Proc.devRef .tc main_v11) (ix2 j o))
    (V₃ m d (Proc.devRef .tc main_v8) (ix3 b l (0 : Fin 1))) (V₃ m d (Proc.devRef .tc main_v18) (ix2 (0 : Fin 1) o)) = _
  unfold Proj.entry
  refine congrArg₂ (· + ·) ?_ (bias_at m d o)
  rw [mask_at]
  refine (Algebra.masked_sum _ (fun k => a₄ m d (ix2 k o)) _ _ (Taken.maskAt_bit _ _ _) (fun k => weight_at m d k o) fun k hk => padding_at m d k hk o).trans ?_
  refine Finset.sum_congr rfl fun k _ => congrArg₂ (· * ·) (congrArg₂ (· * ·) ((rows_at m d hX b l (Algebra.widen k)).trans ?_) rfl) rfl
  have h1 : (Algebra.widen k).val / 128 = k.val / 64 := by show (k.val / 64 * 128 + k.val % 64) / 128 = _; omega
  have h2 : (Algebra.widen k).val % 128 = k.val % 64 := by show (k.val / 64 * 128 + k.val % 64) % 128 = _; omega
  refine congrArg₂ (fun (r : Fin 4096) (e : Fin 128) => shapeCast S4096x128 (a₀ m d) shapeCasts_S2x16x128x128_S4096x128 (ix2 r e)) (Fin.ext ?_) (Fin.ext h2)
  exact congrArg (fun h : Fin 16 => (a₁ m d (ix4 b h (0 : Fin 1) l)).toNat) (Fin.ext h1)

end Cert.Proof.Agree

end
-- ==== Proof.Same.lean ====
/-
  Each kernel as printed and its idealization have the same text, so the same body at every label.
-/
module

public import proofs.«01_k».proof.Kernel
public import proofs.«01_k».proof.KernelIdeal
public import proofs.«01_k».proof.Proof.Gen.Kernel
public import proofs.«01_k».proof.Proof.Gen.KernelIdeal
public import proofs.«01_k».proof.Proof.Gen.Attn
public import proofs.«01_k».proof.Proof.Gen.AttnIdeal

@[expose] public section

noncomputable section

namespace Cert.Proof.Same

open Idealize.ShloMosaic

variable {F : FTy → Type} [FloatOps F]

attribute [local instance] Cert.Kernel.Gen.facts Cert.KernelIdeal.Gen.facts

/-- The kernels' bodies, label by label. -/
theorem bodies_eq : Cert.Kernel.defs₀ (F := F) = Cert.KernelIdeal.defs₀ := by
  funext p l a
  match p, l, a with
  | .tc, 0, _ => rfl
  | .tc, 1, (_, _) => rfl
  | .scVector c s, 0, _ => rfl
  | .scVector c s, 1, _ => rfl
  | .scScalar c, 0, _ => rfl
  | .scScalar c, 1, _ => rfl

/-- The body tables. -/
theorem defs_eq : Cert.Kernel.defs (F := F) = Cert.KernelIdeal.defs :=
  congrArg (fun x => Cert.KernelIdeal.sc.defs (Pipeline.defs Cert.KernelIdeal.pcfgs x)) bodies_eq

section

attribute [local instance] Cert.Attn.Gen.facts Cert.AttnIdeal.Gen.facts

/-- The attention's body. -/
theorem attn_bodies_eq : Cert.Attn.defs₀ (F := F) = Cert.AttnIdeal.defs₀ := by
  funext p l a
  match p, l, a with
  | .tc, 0, (_, _) => rfl
  | .scVector c s, 0, _ => rfl
  | .scScalar c, 0, _ => rfl

/-- The attention's body table. -/
theorem attn_defs_eq : Cert.Attn.defs (F := F) = Cert.AttnIdeal.defs :=
  congrArg (fun x => Pipeline.defs Cert.AttnIdeal.pcfgs x) attn_bodies_eq

/-- The attention's host program. -/
theorem attn_main_eq : Cert.Attn.main (F := F) = Cert.AttnIdeal.main := by
  unfold Cert.Attn.main Cert.AttnIdeal.main
  rfl

end

end Cert.Proof.Same

end
-- ==== Proof.lean ====
/- The proof of the claims (proofs.«01_k».proof.Defs): the run of the gather and the projection gives both frames of that
   kernel, and with its reference's run its value claim; the attention's run gives the same of the attention call; the run of the two calls and the gather one after the other gives the
   frame and the value claim of the whole kernel. -/
module

public import proofs.«01_k».proof.Defs
public import proofs.«01_k».proof.Proof.Run
public import proofs.«01_k».proof.Proof.WholeAgree
public import proofs.«01_k».proof.Proof.Gen.WholeIdeal
public import proofs.«01_k».proof.Proof.Gen.WholeReferenceIdeal
public import proofs.«01_k».proof.Proof.Gen.AttnIdeal.Value
public import proofs.«01_k».proof.Proof.Gen.Attn
public import proofs.«01_k».proof.Proof.Gen.AttnReferenceIdeal
public import proofs.«01_k».proof.Proof.AttnAgree
public import proofs.«01_k».proof.Proof.Agree
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_rows
public import Idealize.ShloMosaic.Adequacy
public import Idealize.ShloMosaic.Init

@[expose] public section

noncomputable section

namespace Cert.Proof

open Idealize.ShloMosaic Idealize.SL.Sem
open Cert.Proof.Gather (run_main QC V₄ V₄_arg InRows)

/-! ## The frames -/

section Frames

variable {F : FTy → Type} [FloatOps F]

open Cert.KernelIdeal in
/-- The kernel's arguments, and its result, at the end of a run. -/
theorem ends {m : (ℓ : Loc nD τ sig) → Buf (Elt F) ℓ} {r : PUnit × MemSt nD τ sig (Elt F)} (h : QC m r) (c : Dev nD) :
    r.2.mem (c.tc.loc main_v19) = V₄ m c (Proc.devRef .tc main_v19)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5) := by
  have arg : ∀ x : Ref sig .tc, Proc.devRef .tc x ∈ Pipeline.ucRefs τ sig → x ∉ Host.preW → x ∉ Host.midW → x ≠ main_v16 → x ≠ main_v19 →
      r.2.mem (c, Proc.devRef .tc x) = m (c, Proc.devRef .tc x) :=
    fun x hx h₁ h₂ h₃ h₄ => (h.1 c _ hx).trans (V₄_arg m c x h₁ h₂ h₃ h₄)
  exact ⟨h.1 c (Proc.devRef .tc main_v19) (by decide), arg main_arg0 (by decide) (by decide) (by decide) (by decide) (by decide),
    arg main_arg1 (by decide) (by decide) (by decide) (by decide) (by decide), arg main_arg2 (by decide) (by decide) (by decide) (by decide) (by decide),
    arg main_arg3 (by decide) (by decide) (by decide) (by decide) (by decide), arg main_arg4 (by decide) (by decide) (by decide) (by decide) (by decide),
    arg main_arg5 (by decide) (by decide) (by decide) (by decide) (by decide)⟩

open Cert.KernelIdeal in
/-- The run at any float values: the arguments as they were, every semaphore at zero. -/
theorem framed [∀ e, Nonempty (Elt F e)] (m : (ℓ : Loc nD τ sig) → Buf (Elt F) ℓ) (ρ : Dev nD → PrngReg) (h : InRows m) :
    θ_run (defs (F := F)) (threads (F := F)) ⟨m, fun _ => 0, ρ⟩ fun r => (∀ c : Dev nD,
      r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5)) ∧ r.2.sem = fun _ => 0 :=
  (θ_run (defs (F := F)) _ _).mono (fun _ h => ⟨fun c => (ends h c).2, h.2⟩) (run_main m ρ h)

end Frames

/-- The kernel at bit patterns runs, leaves its arguments and ends with every semaphore at zero. -/
theorem frame_kernel : Cert.quiescent_Kernel := fun m ρ hp => by
  rw [Same.defs_eq (F := Bits)]
  exact framed (F := Bits) m ρ fun c => Agree.inRows m c (Taken.rows_of_pre _ _ _ _ _ _ (hp c))

/-- The kernel at extended reals does too. -/
theorem frame_kernelIdeal : Cert.quiescent_KernelIdeal := fun m ρ hp =>
  framed (F := Ideal) m ρ fun c => Agree.inRows m c (Taken.rows_of_pre _ _ _ _ _ _ (hp c))

/-- The reference at extended reals does too. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- At extended reals kernel and reference end with the same result. -/
theorem algebraic : Cert.algebraic_KernelIdeal_ReferenceIdeal := fun m ρ m' ρ' hp ha =>
  ⟨fun c => V₄ (F := Ideal) m c (Proc.devRef .tc Cert.KernelIdeal.main_v19),
    (θ_run Cert.KernelIdeal.defs _ _).mono (fun _ h c => ends h c)
      (run_main (F := Ideal) m ρ fun c => Agree.inRows m c (Taken.rows_of_pre _ _ _ _ _ _ (hp c))),
    (θ_run Cert.ReferenceIdeal.defs _ _).mono (fun _ h c => ⟨(h c).1.trans (by
        obtain ⟨h0, h1, h2, h3, h4, h5⟩ := ha c
        rw [h0, h1, h2, h3, h4, h5]
        exact (Agree.agree m c (Taken.rows_of_pre _ _ _ _ _ _ (hp c))).symm), (h c).2⟩)
      (Cert.ReferenceIdeal.Value.run (F := Ideal) m' ρ')⟩

/-! ## The attention call -/

/-- The attention at bit patterns runs, leaves its arguments and ends with every semaphore at zero. -/
theorem frame_attn : Cert.quiescent_Attn := fun m ρ _ => by
  rw [Same.attn_defs_eq (F := Bits), Same.attn_main_eq (F := Bits)]
  exact Cert.AttnIdeal.Gen.frame (F := Bits) m ρ

/-- The attention at extended reals does too. -/
theorem frame_attnIdeal : Cert.quiescent_AttnIdeal := fun m ρ _ => Cert.AttnIdeal.Gen.frame (F := Ideal) m ρ

section

open Cert.AttnReferenceIdeal

/-- The reference's arguments at the end of its run. -/
theorem plain_kept {m : (ℓ : Loc nD τ sig) → Buf (Elt Ideal) ℓ} {r : PUnit × MemSt nD τ sig (Elt Ideal)}
    (h : ∀ (d : Dev nD) (b : Ref sig .tc),
      r.2.mem ((d.tc : Thread nD τ).loc b) = StableHlo.after Plain.line (StableHlo.launchContents m d) (Proc.devRef .tc b)) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have arg : ∀ x : Ref sig .tc, x ∉ Plain.rowsOpsW ∧ x ∉ Plain.maskOpsW ∧ x ∉ Plain.seatsOpsW ∧ x ∉ Plain.apartOps₁W ∧ x ∉ Plain.nearOps₁W ∧ x ∉ Plain.meanOps₁W ∧ x ∉ Plain.apartOps₂W ∧ x ∉ Plain.nearOps₂W ∧ x ∉ Plain.meanOps₂W ∧ x ∉ Plain.shareOpsW ∧ x ∉ Plain.lastOpsW →
      r.2.mem ((c.tc : Thread nD τ).loc x) = m ((c.tc : Thread nD τ).loc x) :=
    fun x ⟨h₁, h₂, h₃, h₄, h₅, h₆, h₇, h₈, h₉, h₁₀, h₁₁⟩ => (h c x).trans (Plain.ends_kept _ x h₁ h₂ h₃ h₄ h₅ h₆ h₇ h₈ h₉ h₁₀ h₁₁)
  exact ⟨arg main_arg0 (by decide), arg main_arg1 (by decide), arg main_arg2 (by decide), arg main_arg3 (by decide), arg main_arg4 (by decide), arg main_arg5 (by decide), arg main_arg6 (by decide), arg main_arg7 (by decide), arg main_arg8 (by decide)⟩

end

/-- The attention's reference at extended reals does too. -/
theorem frame_attnReferenceIdeal : Cert.quiescent_AttnReferenceIdeal := fun m ρ _ =>
  (θ_run Cert.AttnReferenceIdeal.defs _ _).mono (fun r h => ⟨fun c => plain_kept h c, sem_eq_zero_of_no_sems (by decide) r.2⟩)
    (AttnAgree.run_plain m ρ)

/-- At extended reals the attention and its reference end with the same two results. -/
theorem algebraic_attn : Cert.algebraic_AttnIdeal_AttnReferenceIdeal := fun m ρ m' ρ' _ ha =>
  ⟨fun c => Attend.mixtures m c, fun c => Attend.numbers m c,
    (θ_run Cert.AttnIdeal.defs _ _).mono (fun _ h c => ⟨(h c).1.trans (Attend.final_mixtures m c), (h c).2.1.trans (Attend.final_numbers m c), (h c).2.2⟩)
      (Cert.AttnIdeal.Value.run_blocks (F := Ideal) m ρ),
    (θ_run Cert.AttnReferenceIdeal.defs _ _).mono (fun _ h c => ⟨(h c Cert.AttnReferenceIdeal.main_v116).trans (AttnAgree.mixtures_agree m m' c (ha c)),
        (h c Cert.AttnReferenceIdeal.main_v123).trans (AttnAgree.numbers_agree m m' c (ha c)), plain_kept h c⟩)
      (AttnAgree.run_plain m' ρ')⟩

/-! ## The whole kernel -/

section

open Cert.WholeIdeal
open Cert.Proof.WholeHost (V₆ V₆_unwritten preW tabW midW)

/-- The whole kernel's result, and its arguments, at the end of a run. -/
theorem whole_ends {m : (ℓ : Loc nD τ sig) → Buf (Elt Ideal) ℓ} {r : PUnit × MemSt nD τ sig (Elt Ideal)} (h : WholeGather.QC m r) (c : Dev nD) :
    r.2.mem ((c.tc : Thread nD τ).loc main_v40) = V₆ m c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have arg : ∀ x : Ref sig .tc, Proc.devRef .tc x ∈ Pipeline.ucRefs τ sig ∧ x ∉ preW ∧ x ≠ main_v32_0 ∧ x ≠ main_v32_1 ∧ x ∉ tabW ∧ x ≠ main_v37 ∧ x ∉ midW ∧ x ≠ main_v40 →
      r.2.mem ((c.tc : Thread nD τ).loc x) = m ((c.tc : Thread nD τ).loc x) :=
    fun x ⟨hx, h₁, h₂, h₃, h₄, h₅, h₆, h₇⟩ => (h.1 c _ hx).trans (V₆_unwritten m c x h₁ h₂ h₃ h₄ h₅ h₆ h₇)
  exact ⟨h.1 c (Proc.devRef .tc main_v40) (by decide), arg main_arg0 (by decide), arg main_arg1 (by decide), arg main_arg2 (by decide), arg main_arg3 (by decide), arg main_arg4 (by decide), arg main_arg5 (by decide), arg main_arg6 (by decide), arg main_arg7 (by decide), arg main_arg8 (by decide), arg main_arg9 (by decide), arg main_arg10 (by decide)⟩

end

section

open Cert.WholeReferenceIdeal

/-- The arguments of its reference at the end of a run. -/
theorem whole_plain_kept {m : (ℓ : Loc nD τ sig) → Buf (Elt Ideal) ℓ} {r : PUnit × MemSt nD τ sig (Elt Ideal)}
    (h : ∀ (d : Dev nD) (b : Ref sig .tc),
      r.2.mem ((d.tc : Thread nD τ).loc b) = StableHlo.after WholePlain.line (StableHlo.launchContents m d) (Proc.devRef .tc b)) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have arg : ∀ x : Ref sig .tc, x ∉ WholePlain.rowsOpsW ∧ x ∉ WholePlain.maskOpsW ∧ x ∉ WholePlain.seatsOpsW ∧ x ∉ WholePlain.apartOps₁W ∧ x ∉ WholePlain.nearOps₁W ∧ x ∉ WholePlain.meanOps₁W ∧ x ∉ WholePlain.apartOps₂W ∧ x ∉ WholePlain.nearOps₂W ∧ x ∉ WholePlain.meanOps₂W ∧ x ∉ WholePlain.shareOpsW ∧ x ∉ WholePlain.mixOpsW ∧ x ∉ WholePlain.pickOpsW ∧ x ∉ WholePlain.outOpsW →
      r.2.mem ((c.tc : Thread nD τ).loc x) = m ((c.tc : Thread nD τ).loc x) :=
    fun x ⟨h₁, h₂, h₃, h₄, h₅, h₆, h₇, h₈, h₉, h₁₀, h₁₁, h₁₂, h₁₃⟩ => (h c x).trans (WholePlain.ends_kept _ x h₁ h₂ h₃ h₄ h₅ h₆ h₇ h₈ h₉ h₁₀ h₁₁ h₁₂ h₁₃)
  exact ⟨arg main_arg0 (by decide), arg main_arg1 (by decide), arg main_arg2 (by decide), arg main_arg3 (by decide), arg main_arg4 (by decide), arg main_arg5 (by decide), arg main_arg6 (by decide), arg main_arg7 (by decide), arg main_arg8 (by decide), arg main_arg9 (by decide), arg main_arg10 (by decide)⟩

end

/-- The whole kernel at extended reals runs, leaves its arguments and ends with every semaphore at zero: the numbers it gathers
by are its own, and each names a row. -/
theorem frame_wholeIdeal : Cert.quiescent_WholeIdeal := fun m ρ _ =>
  (θ_run Cert.WholeIdeal.defs _ _).mono (fun _ h => ⟨fun c => (whole_ends h c).2, h.2⟩)
    (WholeGather.run_main (F := Ideal) m ρ (WholeAgree.inRows m))

/-- Its reference at extended reals does too. -/
theorem frame_wholeReferenceIdeal : Cert.quiescent_WholeReferenceIdeal := fun m ρ _ =>
  (θ_run Cert.WholeReferenceIdeal.defs _ _).mono (fun r h => ⟨fun c => whole_plain_kept h c, sem_eq_zero_of_no_sems (by decide) r.2⟩)
    (WholePlain.run_plain m ρ)

/-- At extended reals the whole kernel and its reference end with the same result. -/
theorem algebraic_whole : Cert.algebraic_WholeIdeal_WholeReferenceIdeal := fun m ρ m' ρ' _ ha =>
  ⟨fun c => WholeHost.V₆ (F := Ideal) m c (Proc.devRef .tc Cert.WholeIdeal.main_v40),
    (θ_run Cert.WholeIdeal.defs _ _).mono (fun _ h c => whole_ends h c) (WholeGather.run_main (F := Ideal) m ρ (WholeAgree.inRows m)),
    (θ_run Cert.WholeReferenceIdeal.defs _ _).mono (fun _ h c =>
        ⟨(h c Cert.WholeReferenceIdeal.main_v126).trans (WholeAgree.agree m c m' (ha c)), whole_plain_kept h c⟩)
      (WholePlain.run_plain m' ρ')⟩

theorem claim : Cert.Claim :=
  ⟨Cert.Kernel.Gen.facts, Cert.KernelIdeal.Gen.facts, Cert.ReferenceIdeal.Gen.facts, Cert.Attn.Gen.facts, Cert.AttnIdeal.Gen.facts,
    Cert.AttnReferenceIdeal.Gen.facts, Cert.WholeIdeal.Gen.facts, Cert.WholeReferenceIdeal.Gen.facts, Cert.Pre_ids_in_rows.Gen.facts,
    frame_kernel, frame_kernelIdeal, frame_referenceIdeal, frame_attn, frame_attnIdeal, frame_attnReferenceIdeal, frame_wholeIdeal, frame_wholeReferenceIdeal,
    trivial, algebraic, trivial, algebraic_attn, algebraic_whole⟩

end Cert.Proof

end
